-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S64 : Shape := ⟨1, ![64]⟩
abbrev S32 : Shape := ⟨1, ![32]⟩
abbrev S_ : Shape := ⟨0, ![]⟩
abbrev S1 : Shape := ⟨1, ![1]⟩
abbrev S4 : Shape := ⟨1, ![4]⟩
abbrev S16 : Shape := ⟨1, ![16]⟩
abbrev S16x1 : Shape := ⟨2, ![16, 1]⟩
abbrev S15 : Shape := ⟨1, ![15]⟩
abbrev S15x1 : Shape := ⟨2, ![15, 1]⟩
abbrev S14 : Shape := ⟨1, ![14]⟩
abbrev S14x1 : Shape := ⟨2, ![14, 1]⟩
abbrev S8192x256 : Shape := ⟨2, ![8192, 256]⟩
abbrev S16x256x256 : Shape := ⟨3, ![16, 256, 256]⟩
abbrev S15x256x256 : Shape := ⟨3, ![15, 256, 256]⟩
abbrev S2 : Shape := ⟨1, ![2]⟩
abbrev S128x256 : Shape := ⟨2, ![128, 256]⟩
abbrev S1x256x256 : Shape := ⟨3, ![1, 256, 256]⟩

abbrev nBuf : Space → Nat
  | .hbm => 301
  | .vmem => 14
  | .smem => 1
  | _ => 0

abbrev hbmTy0_0 (i : Nat) : BufTy := match i % 128 with
  | 0 => ⟨S256x256, .f32⟩
  | 1 => ⟨S256x512, .f32⟩
  | 2 => ⟨S256x512, .f32⟩
  | 3 => ⟨S256x512, .f32⟩
  | 4 => ⟨S512x256, .f32⟩
  | 5 => ⟨S512x256, .f32⟩
  | 6 => ⟨S512x256, .f32⟩
  | 7 => ⟨S64, .i32⟩
  | 8 => ⟨S32, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S1, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i1⟩
  | 37 => ⟨S_, .i32⟩
  | 38 => ⟨S_, .i1⟩
  | 39 => ⟨S_, .i1⟩
  | 40 => ⟨S_, .i1⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S1, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i1⟩
  | 65 => ⟨S_, .i32⟩
  | 66 => ⟨S_, .i1⟩
  | 67 => ⟨S_, .i1⟩
  | 68 => ⟨S_, .i1⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S1, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i1⟩
  | 93 => ⟨S_, .i32⟩
  | 94 => ⟨S_, .i1⟩
  | 95 => ⟨S_, .i1⟩
  | 96 => ⟨S_, .i1⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S1, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i1⟩
  | 121 => ⟨S_, .i32⟩
  | 122 => ⟨S_, .i1⟩
  | 123 => ⟨S_, .i1⟩
  | 124 => ⟨S_, .i1⟩
  | 125 => ⟨S_, .i32⟩
  | 126 => ⟨S_, .i32⟩
  | 127 => ⟨S_, .i32⟩
  | _ => ⟨S256x256, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S4, .i32⟩
  | 11 => ⟨S_, .i32⟩
  | 12 => ⟨S_, .i32⟩
  | 13 => ⟨S16, .i32⟩
  | 14 => ⟨S16, .i32⟩
  | 15 => ⟨S16, .i32⟩
  | 16 => ⟨S_, .i32⟩
  | 17 => ⟨S16, .i32⟩
  | 18 => ⟨S16, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S16, .i32⟩
  | 26 => ⟨S16, .i32⟩
  | 27 => ⟨S_, .i32⟩
  | 28 => ⟨S16, .i32⟩
  | 29 => ⟨S16, .i1⟩
  | 30 => ⟨S_, .i32⟩
  | 31 => ⟨S16, .i32⟩
  | 32 => ⟨S16, .i1⟩
  | 33 => ⟨S_, .i32⟩
  | 34 => ⟨S_, .i1⟩
  | 35 => ⟨S16, .i1⟩
  | 36 => ⟨S16, .i1⟩
  | 37 => ⟨S16, .i1⟩
  | 38 => ⟨S16, .i32⟩
  | 39 => ⟨S16, .i32⟩
  | 40 => ⟨S16, .i32⟩
  | 41 => ⟨S_, .i32⟩
  | 42 => ⟨S16, .i32⟩
  | 43 => ⟨S16, .i1⟩
  | 44 => ⟨S_, .i32⟩
  | 45 => ⟨S16, .i32⟩
  | 46 => ⟨S16, .i32⟩
  | 47 => ⟨S16, .i32⟩
  | 48 => ⟨S16x1, .i32⟩
  | 49 => ⟨S16, .i32⟩
  | 50 => ⟨S_, .i32⟩
  | 51 => ⟨S_, .i32⟩
  | 52 => ⟨S15, .i32⟩
  | 53 => ⟨S15, .i32⟩
  | 54 => ⟨S15, .i32⟩
  | 55 => ⟨S_, .i32⟩
  | 56 => ⟨S15, .i32⟩
  | 57 => ⟨S15, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S15, .i32⟩
  | 65 => ⟨S15, .i32⟩
  | 66 => ⟨S_, .i32⟩
  | 67 => ⟨S15, .i32⟩
  | 68 => ⟨S15, .i1⟩
  | 69 => ⟨S_, .i32⟩
  | 70 => ⟨S15, .i32⟩
  | 71 => ⟨S15, .i1⟩
  | 72 => ⟨S_, .i32⟩
  | 73 => ⟨S_, .i1⟩
  | 74 => ⟨S15, .i1⟩
  | 75 => ⟨S15, .i1⟩
  | 76 => ⟨S15, .i1⟩
  | 77 => ⟨S15, .i32⟩
  | 78 => ⟨S15, .i32⟩
  | 79 => ⟨S15, .i32⟩
  | 80 => ⟨S_, .i32⟩
  | 81 => ⟨S15, .i32⟩
  | 82 => ⟨S15, .i1⟩
  | 83 => ⟨S_, .i32⟩
  | 84 => ⟨S15, .i32⟩
  | 85 => ⟨S15, .i32⟩
  | 86 => ⟨S15, .i32⟩
  | 87 => ⟨S15x1, .i32⟩
  | 88 => ⟨S15, .i32⟩
  | 89 => ⟨S_, .i32⟩
  | 90 => ⟨S_, .i32⟩
  | 91 => ⟨S_, .i32⟩
  | 92 => ⟨S_, .i32⟩
  | 93 => ⟨S15, .i32⟩
  | 94 => ⟨S15, .i32⟩
  | 95 => ⟨S15, .i32⟩
  | 96 => ⟨S_, .i32⟩
  | 97 => ⟨S15, .i32⟩
  | 98 => ⟨S15, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S15, .i32⟩
  | 106 => ⟨S15, .i32⟩
  | 107 => ⟨S_, .i32⟩
  | 108 => ⟨S15, .i32⟩
  | 109 => ⟨S15, .i1⟩
  | 110 => ⟨S_, .i32⟩
  | 111 => ⟨S15, .i32⟩
  | 112 => ⟨S15, .i1⟩
  | 113 => ⟨S_, .i32⟩
  | 114 => ⟨S_, .i1⟩
  | 115 => ⟨S15, .i1⟩
  | 116 => ⟨S15, .i1⟩
  | 117 => ⟨S15, .i1⟩
  | 118 => ⟨S15, .i32⟩
  | 119 => ⟨S15, .i32⟩
  | 120 => ⟨S15, .i32⟩
  | 121 => ⟨S_, .i32⟩
  | 122 => ⟨S15, .i32⟩
  | 123 => ⟨S15, .i1⟩
  | 124 => ⟨S_, .i32⟩
  | 125 => ⟨S15, .i32⟩
  | 126 => ⟨S15, .i32⟩
  | 127 => ⟨S15, .i32⟩
  | _ => ⟨S256x256, .f32⟩

abbrev hbmTy0_2 (i : Nat) : BufTy := match i % 128 with
  | 0 => ⟨S15x1, .i32⟩
  | 1 => ⟨S15, .i32⟩
  | 2 => ⟨S_, .i32⟩
  | 3 => ⟨S_, .i32⟩
  | 4 => ⟨S_, .i32⟩
  | 5 => ⟨S_, .i32⟩
  | 6 => ⟨S14, .i32⟩
  | 7 => ⟨S14, .i32⟩
  | 8 => ⟨S14, .i32⟩
  | 9 => ⟨S_, .i32⟩
  | 10 => ⟨S14, .i32⟩
  | 11 => ⟨S14, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S14, .i32⟩
  | 19 => ⟨S14, .i32⟩
  | 20 => ⟨S_, .i32⟩
  | 21 => ⟨S14, .i32⟩
  | 22 => ⟨S14, .i1⟩
  | 23 => ⟨S_, .i32⟩
  | 24 => ⟨S14, .i32⟩
  | 25 => ⟨S14, .i1⟩
  | 26 => ⟨S_, .i32⟩
  | 27 => ⟨S_, .i1⟩
  | 28 => ⟨S14, .i1⟩
  | 29 => ⟨S14, .i1⟩
  | 30 => ⟨S14, .i1⟩
  | 31 => ⟨S14, .i32⟩
  | 32 => ⟨S14, .i32⟩
  | 33 => ⟨S14, .i32⟩
  | 34 => ⟨S_, .i32⟩
  | 35 => ⟨S14, .i32⟩
  | 36 => ⟨S14, .i1⟩
  | 37 => ⟨S_, .i32⟩
  | 38 => ⟨S14, .i32⟩
  | 39 => ⟨S14, .i32⟩
  | 40 => ⟨S14, .i32⟩
  | 41 => ⟨S14x1, .i32⟩
  | 42 => ⟨S14, .i32⟩
  | 43 => ⟨S64, .i32⟩
  | 44 => ⟨S256x256, .f32⟩
  | _ => ⟨S256x256, .f32⟩

abbrev hbmTy (i : Nat) : BufTy := match i / 128 with
  | 0 => hbmTy0_0 i
  | 1 => hbmTy0_1 i
  | 2 => hbmTy0_2 i
  | _ => ⟨S256x256, .f32⟩

abbrev bufTy : (tb : Table) → Fin (tcTables nBuf tb) → BufTy
  | .hbm, ⟨i, _⟩ => hbmTy i
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S8192x256, .bf16⟩
  | .local _ .vmem, ⟨9, _⟩ => ⟨S8192x256, .f32⟩
  | .local _ .vmem, ⟨10, _⟩ => ⟨S16x256x256, .bf16⟩
  | .local _ .vmem, ⟨11, _⟩ => ⟨S15x256x256, .bf16⟩
  | .local _ .vmem, ⟨12, _⟩ => ⟨S256x256, .bf16⟩
  | .local _ .vmem, ⟨13, _⟩ => ⟨S256x256, .bf16⟩
  | .local _ .smem, ⟨0, _⟩ => ⟨S64, .i32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 1 → Bool
  | ⟨0, _⟩ => false
  | _ => false

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  (ofTc nBuf bufTy 1 112 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_c_4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_5 : Ref sig .tc := ⟨.hbm, 22, rfl⟩
abbrev main_v10 : Ref sig .tc := ⟨.hbm, 23, rfl⟩
abbrev main_c_6 : Ref sig .tc := ⟨.hbm, 24, rfl⟩
abbrev main_v11 : Ref sig .tc := ⟨.hbm, 25, rfl⟩
abbrev main_c_7 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_c_1 : Ref sig .tc := ⟨.hbm, 33, rfl⟩
abbrev main_call0_v4 : Ref sig .tc := ⟨.hbm, 34, rfl⟩
abbrev main_call0_c_2 : Ref sig .tc := ⟨.hbm, 35, rfl⟩
abbrev main_call0_v5 : Ref sig .tc := ⟨.hbm, 36, rfl⟩
abbrev main_call0_c_3 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_v12 : Ref sig .tc := ⟨.hbm, 42, rfl⟩
abbrev main_c_8 : Ref sig .tc := ⟨.hbm, 43, rfl⟩
abbrev main_v13 : Ref sig .tc := ⟨.hbm, 44, rfl⟩
abbrev main_c_9 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_10 : Ref sig .tc := ⟨.hbm, 50, rfl⟩
abbrev main_v18 : Ref sig .tc := ⟨.hbm, 51, rfl⟩
abbrev main_c_11 : Ref sig .tc := ⟨.hbm, 52, rfl⟩
abbrev main_v19 : Ref sig .tc := ⟨.hbm, 53, rfl⟩
abbrev main_c_12 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_c_1 : Ref sig .tc := ⟨.hbm, 61, rfl⟩
abbrev main_call1_v4 : Ref sig .tc := ⟨.hbm, 62, rfl⟩
abbrev main_call1_c_2 : Ref sig .tc := ⟨.hbm, 63, rfl⟩
abbrev main_call1_v5 : Ref sig .tc := ⟨.hbm, 64, rfl⟩
abbrev main_call1_c_3 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_v20 : Ref sig .tc := ⟨.hbm, 70, rfl⟩
abbrev main_c_13 : Ref sig .tc := ⟨.hbm, 71, rfl⟩
abbrev main_v21 : Ref sig .tc := ⟨.hbm, 72, rfl⟩
abbrev main_c_14 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_c_15 : Ref sig .tc := ⟨.hbm, 78, rfl⟩
abbrev main_v26 : Ref sig .tc := ⟨.hbm, 79, rfl⟩
abbrev main_c_16 : Ref sig .tc := ⟨.hbm, 80, rfl⟩
abbrev main_v27 : Ref sig .tc := ⟨.hbm, 81, rfl⟩
abbrev main_c_17 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_c_1 : Ref sig .tc := ⟨.hbm, 89, rfl⟩
abbrev main_call2_v4 : Ref sig .tc := ⟨.hbm, 90, rfl⟩
abbrev main_call2_c_2 : Ref sig .tc := ⟨.hbm, 91, rfl⟩
abbrev main_call2_v5 : Ref sig .tc := ⟨.hbm, 92, rfl⟩
abbrev main_call2_c_3 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_v28 : Ref sig .tc := ⟨.hbm, 98, rfl⟩
abbrev main_c_18 : Ref sig .tc := ⟨.hbm, 99, rfl⟩
abbrev main_v29 : Ref sig .tc := ⟨.hbm, 100, rfl⟩
abbrev main_c_19 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_c_20 : Ref sig .tc := ⟨.hbm, 106, rfl⟩
abbrev main_v34 : Ref sig .tc := ⟨.hbm, 107, rfl⟩
abbrev main_c_21 : Ref sig .tc := ⟨.hbm, 108, rfl⟩
abbrev main_v35 : Ref sig .tc := ⟨.hbm, 109, rfl⟩
abbrev main_c_22 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_c_1 : Ref sig .tc := ⟨.hbm, 117, rfl⟩
abbrev main_call3_v4 : Ref sig .tc := ⟨.hbm, 118, rfl⟩
abbrev main_call3_c_2 : Ref sig .tc := ⟨.hbm, 119, rfl⟩
abbrev main_call3_v5 : Ref sig .tc := ⟨.hbm, 120, rfl⟩
abbrev main_call3_c_3 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_v36 : Ref sig .tc := ⟨.hbm, 126, rfl⟩
abbrev main_c_23 : Ref sig .tc := ⟨.hbm, 127, rfl⟩
abbrev main_v37 : Ref sig .tc := ⟨.hbm, 128, rfl⟩
abbrev main_c_24 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_c_25 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_c_26 : Ref sig .tc := ⟨.hbm, 144, rfl⟩
abbrev main_v51 : Ref sig .tc := ⟨.hbm, 145, rfl⟩
abbrev main_v52 : Ref sig .tc := ⟨.hbm, 146, rfl⟩
abbrev main_c_27 : Ref sig .tc := ⟨.hbm, 147, rfl⟩
abbrev main_call4_v0 : Ref sig .tc := ⟨.hbm, 148, rfl⟩
abbrev main_call4_c : Ref sig .tc := ⟨.hbm, 149, rfl⟩
abbrev main_call4_v1 : Ref sig .tc := ⟨.hbm, 150, rfl⟩
abbrev main_call4_c_0 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_c_1 : Ref sig .tc := ⟨.hbm, 155, rfl⟩
abbrev main_call4_v5 : Ref sig .tc := ⟨.hbm, 156, rfl⟩
abbrev main_call4_v6 : Ref sig .tc := ⟨.hbm, 157, rfl⟩
abbrev main_call4_c_2 : Ref sig .tc := ⟨.hbm, 158, rfl⟩
abbrev main_call4_v7 : Ref sig .tc := ⟨.hbm, 159, rfl⟩
abbrev main_call4_v8 : Ref sig .tc := ⟨.hbm, 160, rfl⟩
abbrev main_call4_c_3 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_v12 : Ref sig .tc := ⟨.hbm, 165, rfl⟩
abbrev main_call4_v13 : Ref sig .tc := ⟨.hbm, 166, rfl⟩
abbrev main_call4_v14 : Ref sig .tc := ⟨.hbm, 167, rfl⟩
abbrev main_v53 : Ref sig .tc := ⟨.hbm, 168, rfl⟩
abbrev main_c_28 : Ref sig .tc := ⟨.hbm, 169, rfl⟩
abbrev main_v54 : Ref sig .tc := ⟨.hbm, 170, rfl⟩
abbrev main_v55 : Ref sig .tc := ⟨.hbm, 171, rfl⟩
abbrev main_c_29 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_c_30 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_c_31 : Ref sig .tc := ⟨.hbm, 183, rfl⟩
abbrev main_v65 : Ref sig .tc := ⟨.hbm, 184, rfl⟩
abbrev main_v66 : Ref sig .tc := ⟨.hbm, 185, rfl⟩
abbrev main_c_32 : Ref sig .tc := ⟨.hbm, 186, rfl⟩
abbrev main_call5_v0 : Ref sig .tc := ⟨.hbm, 187, rfl⟩
abbrev main_call5_c : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_c_1 : Ref sig .tc := ⟨.hbm, 194, rfl⟩
abbrev main_call5_v5 : Ref sig .tc := ⟨.hbm, 195, rfl⟩
abbrev main_call5_v6 : Ref sig .tc := ⟨.hbm, 196, rfl⟩
abbrev main_call5_c_2 : Ref sig .tc := ⟨.hbm, 197, rfl⟩
abbrev main_call5_v7 : Ref sig .tc := ⟨.hbm, 198, rfl⟩
abbrev main_call5_v8 : Ref sig .tc := ⟨.hbm, 199, rfl⟩
abbrev main_call5_c_3 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_v67 : Ref sig .tc := ⟨.hbm, 207, rfl⟩
abbrev main_c_33 : Ref sig .tc := ⟨.hbm, 208, rfl⟩
abbrev main_v68 : Ref sig .tc := ⟨.hbm, 209, rfl⟩
abbrev main_v69 : Ref sig .tc := ⟨.hbm, 210, rfl⟩
abbrev main_c_34 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_c_35 : Ref sig .tc := ⟨.hbm, 217, rfl⟩
abbrev main_v75 : Ref sig .tc := ⟨.hbm, 218, rfl⟩
abbrev main_c_36 : Ref sig .tc := ⟨.hbm, 219, rfl⟩
abbrev main_v76 : Ref sig .tc := ⟨.hbm, 220, rfl⟩
abbrev main_v77 : Ref sig .tc := ⟨.hbm, 221, rfl⟩
abbrev main_v78 : Ref sig .tc := ⟨.hbm, 222, rfl⟩
abbrev main_v79 : Ref sig .tc := ⟨.hbm, 223, rfl⟩
abbrev main_c_37 : Ref sig .tc := ⟨.hbm, 224, rfl⟩
abbrev main_v80 : Ref sig .tc := ⟨.hbm, 225, rfl⟩
abbrev main_v81 : Ref sig .tc := ⟨.hbm, 226, rfl⟩
abbrev main_c_38 : Ref sig .tc := ⟨.hbm, 227, rfl⟩
abbrev main_call6_v0 : Ref sig .tc := ⟨.hbm, 228, rfl⟩
abbrev main_call6_c : Ref sig .tc := ⟨.hbm, 229, rfl⟩
abbrev main_call6_v1 : Ref sig .tc := ⟨.hbm, 230, rfl⟩
abbrev main_call6_c_0 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_c_1 : Ref sig .tc := ⟨.hbm, 235, rfl⟩
abbrev main_call6_v5 : Ref sig .tc := ⟨.hbm, 236, rfl⟩
abbrev main_call6_v6 : Ref sig .tc := ⟨.hbm, 237, rfl⟩
abbrev main_call6_c_2 : Ref sig .tc := ⟨.hbm, 238, rfl⟩
abbrev main_call6_v7 : Ref sig .tc := ⟨.hbm, 239, rfl⟩
abbrev main_call6_v8 : Ref sig .tc := ⟨.hbm, 240, rfl⟩
abbrev main_call6_c_3 : Ref sig .tc := ⟨.hbm, 241, rfl⟩
abbrev main_call6_v9 : Ref sig .tc := ⟨.hbm, 242, rfl⟩
abbrev main_call6_v10 : Ref sig .tc := ⟨.hbm, 243, rfl⟩
abbrev main_call6_v11 : Ref sig .tc := ⟨.hbm, 244, rfl⟩
abbrev main_call6_v12 : Ref sig .tc := ⟨.hbm, 245, rfl⟩
abbrev main_call6_v13 : Ref sig .tc := ⟨.hbm, 246, rfl⟩
abbrev main_call6_v14 : Ref sig .tc := ⟨.hbm, 247, rfl⟩
abbrev main_v82 : Ref sig .tc := ⟨.hbm, 248, rfl⟩
abbrev main_c_39 : Ref sig .tc := ⟨.hbm, 249, rfl⟩
abbrev main_v83 : Ref sig .tc := ⟨.hbm, 250, rfl⟩
abbrev main_v84 : Ref sig .tc := ⟨.hbm, 251, rfl⟩
abbrev main_c_40 : Ref sig .tc := ⟨.hbm, 252, rfl⟩
abbrev main_v85 : Ref sig .tc := ⟨.hbm, 253, rfl⟩
abbrev main_v86 : Ref sig .tc := ⟨.hbm, 254, rfl⟩
abbrev main_v87 : Ref sig .tc := ⟨.hbm, 255, rfl⟩
abbrev main_v88 : Ref sig .tc := ⟨.hbm, 256, rfl⟩
abbrev main_v89 : Ref sig .tc := ⟨.hbm, 257, rfl⟩
abbrev main_c_41 : Ref sig .tc := ⟨.hbm, 258, rfl⟩
abbrev main_v90 : Ref sig .tc := ⟨.hbm, 259, rfl⟩
abbrev main_c_42 : Ref sig .tc := ⟨.hbm, 260, rfl⟩
abbrev main_v91 : Ref sig .tc := ⟨.hbm, 261, rfl⟩
abbrev main_v92 : Ref sig .tc := ⟨.hbm, 262, rfl⟩
abbrev main_v93 : Ref sig .tc := ⟨.hbm, 263, rfl⟩
abbrev main_v94 : Ref sig .tc := ⟨.hbm, 264, rfl⟩
abbrev main_c_43 : Ref sig .tc := ⟨.hbm, 265, rfl⟩
abbrev main_v95 : Ref sig .tc := ⟨.hbm, 266, rfl⟩
abbrev main_v96 : Ref sig .tc := ⟨.hbm, 267, rfl⟩
abbrev main_c_44 : Ref sig .tc := ⟨.hbm, 268, rfl⟩
abbrev main_call7_v0 : Ref sig .tc := ⟨.hbm, 269, rfl⟩
abbrev main_call7_c : Ref sig .tc := ⟨.hbm, 270, rfl⟩
abbrev main_call7_v1 : Ref sig .tc := ⟨.hbm, 271, rfl⟩
abbrev main_call7_c_0 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_call7_c_1 : Ref sig .tc := ⟨.hbm, 276, rfl⟩
abbrev main_call7_v5 : Ref sig .tc := ⟨.hbm, 277, rfl⟩
abbrev main_call7_v6 : Ref sig .tc := ⟨.hbm, 278, rfl⟩
abbrev main_call7_c_2 : Ref sig .tc := ⟨.hbm, 279, rfl⟩
abbrev main_call7_v7 : Ref sig .tc := ⟨.hbm, 280, rfl⟩
abbrev main_call7_v8 : Ref sig .tc := ⟨.hbm, 281, rfl⟩
abbrev main_call7_c_3 : Ref sig .tc := ⟨.hbm, 282, rfl⟩
abbrev main_call7_v9 : Ref sig .tc := ⟨.hbm, 283, rfl⟩
abbrev main_call7_v10 : Ref sig .tc := ⟨.hbm, 284, rfl⟩
abbrev main_call7_v11 : Ref sig .tc := ⟨.hbm, 285, rfl⟩
abbrev main_call7_v12 : Ref sig .tc := ⟨.hbm, 286, rfl⟩
abbrev main_call7_v13 : Ref sig .tc := ⟨.hbm, 287, rfl⟩
abbrev main_call7_v14 : Ref sig .tc := ⟨.hbm, 288, rfl⟩
abbrev main_v97 : Ref sig .tc := ⟨.hbm, 289, rfl⟩
abbrev main_c_45 : Ref sig .tc := ⟨.hbm, 290, rfl⟩
abbrev main_v98 : Ref sig .tc := ⟨.hbm, 291, rfl⟩
abbrev main_v99 : Ref sig .tc := ⟨.hbm, 292, rfl⟩
abbrev main_c_46 : Ref sig .tc := ⟨.hbm, 293, rfl⟩
abbrev main_v100 : Ref sig .tc := ⟨.hbm, 294, rfl⟩
abbrev main_v101 : Ref sig .tc := ⟨.hbm, 295, rfl⟩
abbrev main_v102 : Ref sig .tc := ⟨.hbm, 296, rfl⟩
abbrev main_v103 : Ref sig .tc := ⟨.hbm, 297, rfl⟩
abbrev main_v104 : Ref sig .tc := ⟨.hbm, 298, rfl⟩
abbrev main_v105 : Ref sig .tc := ⟨.hbm, 299, rfl⟩
abbrev main_v106 : Ref sig .tc := ⟨.hbm, 300, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v13 : BitVec 32 := Scalar.muli v2 c256_i32
  let v14 : Index := Scalar.indexCast v13
  let c0_7 : Index := 0#32
  ![v14.toNat, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) (c0_i32_11 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_10 : BitVec 32 := 256#32
  let v20 : BitVec 32 := Scalar.muli v2 c256_i32_10
  let v21 : BitVec 32 := Scalar.addi v20 c0_i32_11
  let c0_i32_15 : BitVec 32 := 0#32
  ![v21.toNat, 0]
def k0_dev3 (v4 : BitVec 32) : Nat :=
  let c0_i32_14 : BitVec 32 := 0#32
  let c1_i32_13 : BitVec 32 := 1#32
  let v22 : BitVec 32 := Scalar.muli v4 c1_i32_13
  let v23 : BitVec 32 := Scalar.addi c0_i32_14 v22
  v23.toNat
def k0_dev4 (v4 : BitVec 32) : Nat :=
  let c0_i32_22 : BitVec 32 := 0#32
  let c1_i32_21 : BitVec 32 := 1#32
  let v34 : BitVec 32 := Scalar.muli v4 c1_i32_21
  let v35 : BitVec 32 := Scalar.addi c0_i32_22 v34
  v35.toNat
def k0_dev5 (v3 : BitVec 32) : Nat :=
  let c0_i32_31 : BitVec 32 := 0#32
  let c1_i32_30 : BitVec 32 := 1#32
  let v46 : BitVec 32 := Scalar.muli v3 c1_i32_30
  let v47 : BitVec 32 := Scalar.addi c0_i32_31 v46
  v47.toNat
def k0_dev6 (v3 : BitVec 32) : Nat :=
  let c0_i32_40 : BitVec 32 := 0#32
  let c1_i32_39 : BitVec 32 := 1#32
  let v58 : BitVec 32 := Scalar.muli v3 c1_i32_39
  let v59 : BitVec 32 := Scalar.addi c0_i32_40 v58
  v59.toNat
def k0_off4 (v83 : BitVec 32) : Fin 1 → Nat :=
  ![v83.toNat]

def k0_off5 (v83 : BitVec 32) (c0_i32_54 : BitVec 32) : Fin 2 → Nat :=
  let c256_i32_53 : BitVec 32 := 256#32
  let v85 : BitVec 32 := Scalar.muli v83 c256_i32_53
  let v86 : BitVec 32 := Scalar.addi v85 c0_i32_54
  let c0_i32_57 : BitVec 32 := 0#32
  ![v86.toNat, 0]
def k0_off6 (d0 : Dev nD) (c0_i32_9 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_8 : BitVec 32 := 256#32
  let v18 : BitVec 32 := Scalar.muli v2 c256_i32_8
  let v19 : BitVec 32 := Scalar.addi v18 c0_i32_9
  let c0_i32_61 : BitVec 32 := 0#32
  ![v19.toNat, 0]
def k0_dev7 (v4 : BitVec 32) : Nat :=
  let c0_i32_69 : BitVec 32 := 0#32
  let c1_i32_68 : BitVec 32 := 1#32
  let v101 : BitVec 32 := Scalar.muli v4 c1_i32_68
  let v102 : BitVec 32 := Scalar.addi c0_i32_69 v101
  v102.toNat
def k0_dev8 (v4 : BitVec 32) : Nat :=
  let c0_i32_88 : BitVec 32 := 0#32
  let c1_i32_87 : BitVec 32 := 1#32
  let v125 : BitVec 32 := Scalar.muli v4 c1_i32_87
  let v126 : BitVec 32 := Scalar.addi c0_i32_88 v125
  v126.toNat
def k0_off7 (v84 : BitVec 32) : Fin 1 → Nat :=
  ![v84.toNat]

def k0_off8 (v84 : BitVec 32) (c0_i32_92 : BitVec 32) : Fin 2 → Nat :=
  let c256_i32_91 : BitVec 32 := 256#32
  let v133 : BitVec 32 := Scalar.muli v84 c256_i32_91
  let v134 : BitVec 32 := Scalar.addi v133 c0_i32_92
  let c0_i32_95 : BitVec 32 := 0#32
  ![v134.toNat, 0]
def k0_off9 (d0 : Dev nD) (c0_i32_26 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_25 : BitVec 32 := 256#32
  let v42 : BitVec 32 := Scalar.muli v2 c256_i32_25
  let v43 : BitVec 32 := Scalar.addi v42 c0_i32_26
  let c0_i32_99 : BitVec 32 := 0#32
  ![v43.toNat, 0]
def k0_dev9 (v3 : BitVec 32) : Nat :=
  let c0_i32_107 : BitVec 32 := 0#32
  let c1_i32_106 : BitVec 32 := 1#32
  let v149 : BitVec 32 := Scalar.muli v3 c1_i32_106
  let v150 : BitVec 32 := Scalar.addi c0_i32_107 v149
  v150.toNat
def k0_dev10 (v3 : BitVec 32) : Nat :=
  let c0_i32_126 : BitVec 32 := 0#32
  let c1_i32_125 : BitVec 32 := 1#32
  let v173 : BitVec 32 := Scalar.muli v3 c1_i32_125
  let v174 : BitVec 32 := Scalar.addi c0_i32_126 v173
  v174.toNat
def k0_off10 (v83 : BitVec 32) : Fin 2 → Nat :=
  let c256_i32_129 : BitVec 32 := 256#32
  let v181 : BitVec 32 := Scalar.muli v83 c256_i32_129
  let v182 : Index := Scalar.indexCast v181
  let c0_130 : Index := 0#32
  ![v182.toNat, 0]
def k0_off11 (v84 : BitVec 32) : Fin 2 → Nat :=
  let c256_i32_140 : BitVec 32 := 256#32
  let v198 : BitVec 32 := Scalar.muli v84 c256_i32_140
  let v199 : Index := Scalar.indexCast v198
  let c0_141 : Index := 0#32
  ![v199.toNat, 0]
def k0_off12 (v215 : BitVec 32) : Fin 1 → Nat :=
  ![v215.toNat]

def k0_off13 (v215 : BitVec 32) (c0_i32_152 : BitVec 32) : Fin 2 → Nat :=
  let c256_i32_151 : BitVec 32 := 256#32
  let v217 : BitVec 32 := Scalar.muli v215 c256_i32_151
  let v218 : BitVec 32 := Scalar.addi v217 c0_i32_152
  let c0_i32_155 : BitVec 32 := 0#32
  ![v218.toNat, 0]
def k0_off14 (v83 : BitVec 32) (c0_i32_64 : BitVec 32) : Fin 2 → Nat :=
  let c256_i32_63 : BitVec 32 := 256#32
  let v97 : BitVec 32 := Scalar.muli v83 c256_i32_63
  let v98 : BitVec 32 := Scalar.addi v97 c0_i32_64
  let c0_i32_159 : BitVec 32 := 0#32
  ![v98.toNat, 0]

def k0_chk3 (v83 : BitVec 32) : Prop :=
  (∀ a, (k0_off4 v83) a + S1.size a ≤ S32.size a) ∧
  (∀ (r : Fin 2), ∀ a, (k0_off5 v83 (BitVec.ofNat 32 (128 * r.val))) a + S128x256.size a ≤ S8192x256.size a) ∧
  (∀ (r : Fin 2), ∀ (hinb : ∀ a, (k0_off5 v83 (BitVec.ofNat 32 (128 * r.val))) a + S128x256.size a ≤ S8192x256.size a), (Rect.unit (s := S8192x256) (k0_off5 v83 (BitVec.ofNat 32 (128 * r.val))) S128x256.size hinb).WholeWords (EltTy.packing .bf16)) ∧
  (∀ a, (k0_off10 v83) a + S256x256.size a ≤ S8192x256.size a) ∧
  (∀ (r : Fin 2), ∀ a, (k0_off14 v83 (BitVec.ofNat 32 (128 * r.val))) a + S128x256.size a ≤ S8192x256.size a) ∧
  (∀ (r : Fin 2), ∀ (hinb : ∀ a, (k0_off14 v83 (BitVec.ofNat 32 (128 * r.val))) a + S128x256.size a ≤ S8192x256.size a), (Rect.unit (s := S8192x256) (k0_off14 v83 (BitVec.ofNat 32 (128 * r.val))) S128x256.size hinb).WholeWords (EltTy.packing .bf16))
theorem k0_off4_inb : ∀ (v83 : BitVec 32) (k0_hw3 : k0_chk3 v83), ∀ a, (k0_off4 v83) a + S1.size a ≤ S32.size a := fun v83 k0_hw3 => k0_hw3.1
theorem k0_off5_inb : ∀ (v83 : BitVec 32) (k0_hw3 : k0_chk3 v83), ∀ (r : Fin 2), ∀ a, (k0_off5 v83 (BitVec.ofNat 32 (128 * r.val))) a + S128x256.size a ≤ S8192x256.size a := fun v83 k0_hw3 r => k0_hw3.2.1 r
theorem k0_off5_wordsbf16 : ∀ (v83 : BitVec 32) (k0_hw3 : k0_chk3 v83), ∀ (r : Fin 2), (Rect.unit (s := S8192x256) (k0_off5 v83 (BitVec.ofNat 32 (128 * r.val))) S128x256.size (k0_off5_inb v83 k0_hw3 r)).WholeWords (EltTy.packing .bf16) := fun v83 k0_hw3 r => k0_hw3.2.2.1 r (k0_off5_inb v83 k0_hw3 r)
theorem k0_off10_inb : ∀ (v83 : BitVec 32) (k0_hw3 : k0_chk3 v83), ∀ a, (k0_off10 v83) a + S256x256.size a ≤ S8192x256.size a := fun v83 k0_hw3 => k0_hw3.2.2.2.1
theorem k0_off14_inb : ∀ (v83 : BitVec 32) (k0_hw3 : k0_chk3 v83), ∀ (r : Fin 2), ∀ a, (k0_off14 v83 (BitVec.ofNat 32 (128 * r.val))) a + S128x256.size a ≤ S8192x256.size a := fun v83 k0_hw3 r => k0_hw3.2.2.2.2.1 r
theorem k0_off14_wordsbf16 : ∀ (v83 : BitVec 32) (k0_hw3 : k0_chk3 v83), ∀ (r : Fin 2), (Rect.unit (s := S8192x256) (k0_off14 v83 (BitVec.ofNat 32 (128 * r.val))) S128x256.size (k0_off14_inb v83 k0_hw3 r)).WholeWords (EltTy.packing .bf16) := fun v83 k0_hw3 r => k0_hw3.2.2.2.2.2 r (k0_off14_inb v83 k0_hw3 r)

def k0_dev11 (v4 : BitVec 32) : Nat :=
  let c0_i32_167 : BitVec 32 := 0#32
  let c1_i32_166 : BitVec 32 := 1#32
  let v233 : BitVec 32 := Scalar.muli v4 c1_i32_166
  let v234 : BitVec 32 := Scalar.addi c0_i32_167 v233
  v234.toNat
def k0_dev12 (v4 : BitVec 32) : Nat :=
  let c0_i32_186 : BitVec 32 := 0#32
  let c1_i32_185 : BitVec 32 := 1#32
  let v257 : BitVec 32 := Scalar.muli v4 c1_i32_185
  let v258 : BitVec 32 := Scalar.addi c0_i32_186 v257
  v258.toNat
def k0_off15 (v216 : BitVec 32) : Fin 1 → Nat :=
  ![v216.toNat]

def k0_off16 (v216 : BitVec 32) (c0_i32_190 : BitVec 32) : Fin 2 → Nat :=
  let c256_i32_189 : BitVec 32 := 256#32
  let v265 : BitVec 32 := Scalar.muli v216 c256_i32_189
  let v266 : BitVec 32 := Scalar.addi v265 c0_i32_190
  let c0_i32_193 : BitVec 32 := 0#32
  ![v266.toNat, 0]
def k0_off17 (v84 : BitVec 32) (c0_i32_102 : BitVec 32) : Fin 2 → Nat :=
  let c256_i32_101 : BitVec 32 := 256#32
  let v145 : BitVec 32 := Scalar.muli v84 c256_i32_101
  let v146 : BitVec 32 := Scalar.addi v145 c0_i32_102
  let c0_i32_197 : BitVec 32 := 0#32
  ![v146.toNat, 0]

def k0_chk4 (v84 : BitVec 32) : Prop :=
  (∀ a, (k0_off7 v84) a + S1.size a ≤ S32.size a) ∧
  (∀ (r : Fin 2), ∀ a, (k0_off8 v84 (BitVec.ofNat 32 (128 * r.val))) a + S128x256.size a ≤ S8192x256.size a) ∧
  (∀ (r : Fin 2), ∀ (hinb : ∀ a, (k0_off8 v84 (BitVec.ofNat 32 (128 * r.val))) a + S128x256.size a ≤ S8192x256.size a), (Rect.unit (s := S8192x256) (k0_off8 v84 (BitVec.ofNat 32 (128 * r.val))) S128x256.size hinb).WholeWords (EltTy.packing .bf16)) ∧
  (∀ a, (k0_off11 v84) a + S256x256.size a ≤ S8192x256.size a) ∧
  (∀ (r : Fin 2), ∀ a, (k0_off17 v84 (BitVec.ofNat 32 (128 * r.val))) a + S128x256.size a ≤ S8192x256.size a) ∧
  (∀ (r : Fin 2), ∀ (hinb : ∀ a, (k0_off17 v84 (BitVec.ofNat 32 (128 * r.val))) a + S128x256.size a ≤ S8192x256.size a), (Rect.unit (s := S8192x256) (k0_off17 v84 (BitVec.ofNat 32 (128 * r.val))) S128x256.size hinb).WholeWords (EltTy.packing .bf16))
theorem k0_off7_inb : ∀ (v84 : BitVec 32) (k0_hw4 : k0_chk4 v84), ∀ a, (k0_off7 v84) a + S1.size a ≤ S32.size a := fun v84 k0_hw4 => k0_hw4.1
theorem k0_off8_inb : ∀ (v84 : BitVec 32) (k0_hw4 : k0_chk4 v84), ∀ (r : Fin 2), ∀ a, (k0_off8 v84 (BitVec.ofNat 32 (128 * r.val))) a + S128x256.size a ≤ S8192x256.size a := fun v84 k0_hw4 r => k0_hw4.2.1 r
theorem k0_off8_wordsbf16 : ∀ (v84 : BitVec 32) (k0_hw4 : k0_chk4 v84), ∀ (r : Fin 2), (Rect.unit (s := S8192x256) (k0_off8 v84 (BitVec.ofNat 32 (128 * r.val))) S128x256.size (k0_off8_inb v84 k0_hw4 r)).WholeWords (EltTy.packing .bf16) := fun v84 k0_hw4 r => k0_hw4.2.2.1 r (k0_off8_inb v84 k0_hw4 r)
theorem k0_off11_inb : ∀ (v84 : BitVec 32) (k0_hw4 : k0_chk4 v84), ∀ a, (k0_off11 v84) a + S256x256.size a ≤ S8192x256.size a := fun v84 k0_hw4 => k0_hw4.2.2.2.1
theorem k0_off17_inb : ∀ (v84 : BitVec 32) (k0_hw4 : k0_chk4 v84), ∀ (r : Fin 2), ∀ a, (k0_off17 v84 (BitVec.ofNat 32 (128 * r.val))) a + S128x256.size a ≤ S8192x256.size a := fun v84 k0_hw4 r => k0_hw4.2.2.2.2.1 r
theorem k0_off17_wordsbf16 : ∀ (v84 : BitVec 32) (k0_hw4 : k0_chk4 v84), ∀ (r : Fin 2), (Rect.unit (s := S8192x256) (k0_off17 v84 (BitVec.ofNat 32 (128 * r.val))) S128x256.size (k0_off17_inb v84 k0_hw4 r)).WholeWords (EltTy.packing .bf16) := fun v84 k0_hw4 r => k0_hw4.2.2.2.2.2 r (k0_off17_inb v84 k0_hw4 r)

def k0_dev13 (v3 : BitVec 32) : Nat :=
  let c0_i32_205 : BitVec 32 := 0#32
  let c1_i32_204 : BitVec 32 := 1#32
  let v281 : BitVec 32 := Scalar.muli v3 c1_i32_204
  let v282 : BitVec 32 := Scalar.addi c0_i32_205 v281
  v282.toNat
def k0_dev14 (v3 : BitVec 32) : Nat :=
  let c0_i32_224 : BitVec 32 := 0#32
  let c1_i32_223 : BitVec 32 := 1#32
  let v305 : BitVec 32 := Scalar.muli v3 c1_i32_223
  let v306 : BitVec 32 := Scalar.addi c0_i32_224 v305
  v306.toNat
def k0_off18 (v215 : BitVec 32) : Fin 2 → Nat :=
  let c256_i32_227 : BitVec 32 := 256#32
  let v313 : BitVec 32 := Scalar.muli v215 c256_i32_227
  let v314 : Index := Scalar.indexCast v313
  let c0_228 : Index := 0#32
  ![v314.toNat, 0]
def k0_off19 (v216 : BitVec 32) : Fin 2 → Nat :=
  let c256_i32_238 : BitVec 32 := 256#32
  let v330 : BitVec 32 := Scalar.muli v216 c256_i32_238
  let v331 : Index := Scalar.indexCast v330
  let c0_239 : Index := 0#32
  ![v331.toNat, 0]
def k0_off20 (v347 : BitVec 32) : Fin 1 → Nat :=
  ![v347.toNat]

def k0_off21 (v347 : BitVec 32) (c0_i32_250 : BitVec 32) : Fin 2 → Nat :=
  let c256_i32_249 : BitVec 32 := 256#32
  let v349 : BitVec 32 := Scalar.muli v347 c256_i32_249
  let v350 : BitVec 32 := Scalar.addi v349 c0_i32_250
  let c0_i32_253 : BitVec 32 := 0#32
  ![v350.toNat, 0]
def k0_off22 (v215 : BitVec 32) (c0_i32_162 : BitVec 32) : Fin 2 → Nat :=
  let c256_i32_161 : BitVec 32 := 256#32
  let v229 : BitVec 32 := Scalar.muli v215 c256_i32_161
  let v230 : BitVec 32 := Scalar.addi v229 c0_i32_162
  let c0_i32_257 : BitVec 32 := 0#32
  ![v230.toNat, 0]

def k0_chk5 (v215 : BitVec 32) : Prop :=
  (∀ a, (k0_off12 v215) a + S1.size a ≤ S32.size a) ∧
  (∀ (r : Fin 2), ∀ a, (k0_off13 v215 (BitVec.ofNat 32 (128 * r.val))) a + S128x256.size a ≤ S8192x256.size a) ∧
  (∀ (r : Fin 2), ∀ (hinb : ∀ a, (k0_off13 v215 (BitVec.ofNat 32 (128 * r.val))) a + S128x256.size a ≤ S8192x256.size a), (Rect.unit (s := S8192x256) (k0_off13 v215 (BitVec.ofNat 32 (128 * r.val))) S128x256.size hinb).WholeWords (EltTy.packing .bf16)) ∧
  (∀ a, (k0_off18 v215) a + S256x256.size a ≤ S8192x256.size a) ∧
  (∀ (r : Fin 2), ∀ a, (k0_off22 v215 (BitVec.ofNat 32 (128 * r.val))) a + S128x256.size a ≤ S8192x256.size a) ∧
  (∀ (r : Fin 2), ∀ (hinb : ∀ a, (k0_off22 v215 (BitVec.ofNat 32 (128 * r.val))) a + S128x256.size a ≤ S8192x256.size a), (Rect.unit (s := S8192x256) (k0_off22 v215 (BitVec.ofNat 32 (128 * r.val))) S128x256.size hinb).WholeWords (EltTy.packing .bf16))
theorem k0_off12_inb : ∀ (v215 : BitVec 32) (k0_hw5 : k0_chk5 v215), ∀ a, (k0_off12 v215) a + S1.size a ≤ S32.size a := fun v215 k0_hw5 => k0_hw5.1
theorem k0_off13_inb : ∀ (v215 : BitVec 32) (k0_hw5 : k0_chk5 v215), ∀ (r : Fin 2), ∀ a, (k0_off13 v215 (BitVec.ofNat 32 (128 * r.val))) a + S128x256.size a ≤ S8192x256.size a := fun v215 k0_hw5 r => k0_hw5.2.1 r
theorem k0_off13_wordsbf16 : ∀ (v215 : BitVec 32) (k0_hw5 : k0_chk5 v215), ∀ (r : Fin 2), (Rect.unit (s := S8192x256) (k0_off13 v215 (BitVec.ofNat 32 (128 * r.val))) S128x256.size (k0_off13_inb v215 k0_hw5 r)).WholeWords (EltTy.packing .bf16) := fun v215 k0_hw5 r => k0_hw5.2.2.1 r (k0_off13_inb v215 k0_hw5 r)
theorem k0_off18_inb : ∀ (v215 : BitVec 32) (k0_hw5 : k0_chk5 v215), ∀ a, (k0_off18 v215) a + S256x256.size a ≤ S8192x256.size a := fun v215 k0_hw5 => k0_hw5.2.2.2.1
theorem k0_off22_inb : ∀ (v215 : BitVec 32) (k0_hw5 : k0_chk5 v215), ∀ (r : Fin 2), ∀ a, (k0_off22 v215 (BitVec.ofNat 32 (128 * r.val))) a + S128x256.size a ≤ S8192x256.size a := fun v215 k0_hw5 r => k0_hw5.2.2.2.2.1 r
theorem k0_off22_wordsbf16 : ∀ (v215 : BitVec 32) (k0_hw5 : k0_chk5 v215), ∀ (r : Fin 2), (Rect.unit (s := S8192x256) (k0_off22 v215 (BitVec.ofNat 32 (128 * r.val))) S128x256.size (k0_off22_inb v215 k0_hw5 r)).WholeWords (EltTy.packing .bf16) := fun v215 k0_hw5 r => k0_hw5.2.2.2.2.2 r (k0_off22_inb v215 k0_hw5 r)

def k0_dev15 (v4 : BitVec 32) : Nat :=
  let c0_i32_265 : BitVec 32 := 0#32
  let c1_i32_264 : BitVec 32 := 1#32
  let v365 : BitVec 32 := Scalar.muli v4 c1_i32_264
  let v366 : BitVec 32 := Scalar.addi c0_i32_265 v365
  v366.toNat
def k0_dev16 (v4 : BitVec 32) : Nat :=
  let c0_i32_284 : BitVec 32 := 0#32
  let c1_i32_283 : BitVec 32 := 1#32
  let v389 : BitVec 32 := Scalar.muli v4 c1_i32_283
  let v390 : BitVec 32 := Scalar.addi c0_i32_284 v389
  v390.toNat
def k0_off23 (v348 : BitVec 32) : Fin 1 → Nat :=
  ![v348.toNat]

def k0_off24 (v348 : BitVec 32) (c0_i32_288 : BitVec 32) : Fin 2 → Nat :=
  let c256_i32_287 : BitVec 32 := 256#32
  let v397 : BitVec 32 := Scalar.muli v348 c256_i32_287
  let v398 : BitVec 32 := Scalar.addi v397 c0_i32_288
  let c0_i32_291 : BitVec 32 := 0#32
  ![v398.toNat, 0]
def k0_off25 (v216 : BitVec 32) (c0_i32_200 : BitVec 32) : Fin 2 → Nat :=
  let c256_i32_199 : BitVec 32 := 256#32
  let v277 : BitVec 32 := Scalar.muli v216 c256_i32_199
  let v278 : BitVec 32 := Scalar.addi v277 c0_i32_200
  let c0_i32_295 : BitVec 32 := 0#32
  ![v278.toNat, 0]

def k0_chk6 (v216 : BitVec 32) : Prop :=
  (∀ a, (k0_off15 v216) a + S1.size a ≤ S32.size a) ∧
  (∀ (r : Fin 2), ∀ a, (k0_off16 v216 (BitVec.ofNat 32 (128 * r.val))) a + S128x256.size a ≤ S8192x256.size a) ∧
  (∀ (r : Fin 2), ∀ (hinb : ∀ a, (k0_off16 v216 (BitVec.ofNat 32 (128 * r.val))) a + S128x256.size a ≤ S8192x256.size a), (Rect.unit (s := S8192x256) (k0_off16 v216 (BitVec.ofNat 32 (128 * r.val))) S128x256.size hinb).WholeWords (EltTy.packing .bf16)) ∧
  (∀ a, (k0_off19 v216) a + S256x256.size a ≤ S8192x256.size a) ∧
  (∀ (r : Fin 2), ∀ a, (k0_off25 v216 (BitVec.ofNat 32 (128 * r.val))) a + S128x256.size a ≤ S8192x256.size a) ∧
  (∀ (r : Fin 2), ∀ (hinb : ∀ a, (k0_off25 v216 (BitVec.ofNat 32 (128 * r.val))) a + S128x256.size a ≤ S8192x256.size a), (Rect.unit (s := S8192x256) (k0_off25 v216 (BitVec.ofNat 32 (128 * r.val))) S128x256.size hinb).WholeWords (EltTy.packing .bf16))
theorem k0_off15_inb : ∀ (v216 : BitVec 32) (k0_hw6 : k0_chk6 v216), ∀ a, (k0_off15 v216) a + S1.size a ≤ S32.size a := fun v216 k0_hw6 => k0_hw6.1
theorem k0_off16_inb : ∀ (v216 : BitVec 32) (k0_hw6 : k0_chk6 v216), ∀ (r : Fin 2), ∀ a, (k0_off16 v216 (BitVec.ofNat 32 (128 * r.val))) a + S128x256.size a ≤ S8192x256.size a := fun v216 k0_hw6 r => k0_hw6.2.1 r
theorem k0_off16_wordsbf16 : ∀ (v216 : BitVec 32) (k0_hw6 : k0_chk6 v216), ∀ (r : Fin 2), (Rect.unit (s := S8192x256) (k0_off16 v216 (BitVec.ofNat 32 (128 * r.val))) S128x256.size (k0_off16_inb v216 k0_hw6 r)).WholeWords (EltTy.packing .bf16) := fun v216 k0_hw6 r => k0_hw6.2.2.1 r (k0_off16_inb v216 k0_hw6 r)
theorem k0_off19_inb : ∀ (v216 : BitVec 32) (k0_hw6 : k0_chk6 v216), ∀ a, (k0_off19 v216) a + S256x256.size a ≤ S8192x256.size a := fun v216 k0_hw6 => k0_hw6.2.2.2.1
theorem k0_off25_inb : ∀ (v216 : BitVec 32) (k0_hw6 : k0_chk6 v216), ∀ (r : Fin 2), ∀ a, (k0_off25 v216 (BitVec.ofNat 32 (128 * r.val))) a + S128x256.size a ≤ S8192x256.size a := fun v216 k0_hw6 r => k0_hw6.2.2.2.2.1 r
theorem k0_off25_wordsbf16 : ∀ (v216 : BitVec 32) (k0_hw6 : k0_chk6 v216), ∀ (r : Fin 2), (Rect.unit (s := S8192x256) (k0_off25 v216 (BitVec.ofNat 32 (128 * r.val))) S128x256.size (k0_off25_inb v216 k0_hw6 r)).WholeWords (EltTy.packing .bf16) := fun v216 k0_hw6 r => k0_hw6.2.2.2.2.2 r (k0_off25_inb v216 k0_hw6 r)

def k0_dev17 (v3 : BitVec 32) : Nat :=
  let c0_i32_303 : BitVec 32 := 0#32
  let c1_i32_302 : BitVec 32 := 1#32
  let v413 : BitVec 32 := Scalar.muli v3 c1_i32_302
  let v414 : BitVec 32 := Scalar.addi c0_i32_303 v413
  v414.toNat
def k0_dev18 (v3 : BitVec 32) : Nat :=
  let c0_i32_322 : BitVec 32 := 0#32
  let c1_i32_321 : BitVec 32 := 1#32
  let v437 : BitVec 32 := Scalar.muli v3 c1_i32_321
  let v438 : BitVec 32 := Scalar.addi c0_i32_322 v437
  v438.toNat
def k0_off26 (v347 : BitVec 32) : Fin 2 → Nat :=
  let c256_i32_325 : BitVec 32 := 256#32
  let v445 : BitVec 32 := Scalar.muli v347 c256_i32_325
  let v446 : Index := Scalar.indexCast v445
  let c0_326 : Index := 0#32
  ![v446.toNat, 0]
def k0_off27 (v348 : BitVec 32) : Fin 2 → Nat :=
  let c256_i32_336 : BitVec 32 := 256#32
  let v462 : BitVec 32 := Scalar.muli v348 c256_i32_336
  let v463 : Index := Scalar.indexCast v462
  let c0_337 : Index := 0#32
  ![v463.toNat, 0]
def k0_off28 (v479 : BitVec 32) : Fin 1 → Nat :=
  ![v479.toNat]

def k0_off29 (v479 : BitVec 32) (c0_i32_348 : BitVec 32) : Fin 2 → Nat :=
  let c256_i32_347 : BitVec 32 := 256#32
  let v481 : BitVec 32 := Scalar.muli v479 c256_i32_347
  let v482 : BitVec 32 := Scalar.addi v481 c0_i32_348
  let c0_i32_351 : BitVec 32 := 0#32
  ![v482.toNat, 0]
def k0_off30 (v347 : BitVec 32) (c0_i32_260 : BitVec 32) : Fin 2 → Nat :=
  let c256_i32_259 : BitVec 32 := 256#32
  let v361 : BitVec 32 := Scalar.muli v347 c256_i32_259
  let v362 : BitVec 32 := Scalar.addi v361 c0_i32_260
  let c0_i32_355 : BitVec 32 := 0#32
  ![v362.toNat, 0]

def k0_chk7 (v347 : BitVec 32) : Prop :=
  (∀ a, (k0_off20 v347) a + S1.size a ≤ S32.size a) ∧
  (∀ (r : Fin 2), ∀ a, (k0_off21 v347 (BitVec.ofNat 32 (128 * r.val))) a + S128x256.size a ≤ S8192x256.size a) ∧
  (∀ (r : Fin 2), ∀ (hinb : ∀ a, (k0_off21 v347 (BitVec.ofNat 32 (128 * r.val))) a + S128x256.size a ≤ S8192x256.size a), (Rect.unit (s := S8192x256) (k0_off21 v347 (BitVec.ofNat 32 (128 * r.val))) S128x256.size hinb).WholeWords (EltTy.packing .bf16)) ∧
  (∀ a, (k0_off26 v347) a + S256x256.size a ≤ S8192x256.size a) ∧
  (∀ (r : Fin 2), ∀ a, (k0_off30 v347 (BitVec.ofNat 32 (128 * r.val))) a + S128x256.size a ≤ S8192x256.size a) ∧
  (∀ (r : Fin 2), ∀ (hinb : ∀ a, (k0_off30 v347 (BitVec.ofNat 32 (128 * r.val))) a + S128x256.size a ≤ S8192x256.size a), (Rect.unit (s := S8192x256) (k0_off30 v347 (BitVec.ofNat 32 (128 * r.val))) S128x256.size hinb).WholeWords (EltTy.packing .bf16))
theorem k0_off20_inb : ∀ (v347 : BitVec 32) (k0_hw7 : k0_chk7 v347), ∀ a, (k0_off20 v347) a + S1.size a ≤ S32.size a := fun v347 k0_hw7 => k0_hw7.1
theorem k0_off21_inb : ∀ (v347 : BitVec 32) (k0_hw7 : k0_chk7 v347), ∀ (r : Fin 2), ∀ a, (k0_off21 v347 (BitVec.ofNat 32 (128 * r.val))) a + S128x256.size a ≤ S8192x256.size a := fun v347 k0_hw7 r => k0_hw7.2.1 r
theorem k0_off21_wordsbf16 : ∀ (v347 : BitVec 32) (k0_hw7 : k0_chk7 v347), ∀ (r : Fin 2), (Rect.unit (s := S8192x256) (k0_off21 v347 (BitVec.ofNat 32 (128 * r.val))) S128x256.size (k0_off21_inb v347 k0_hw7 r)).WholeWords (EltTy.packing .bf16) := fun v347 k0_hw7 r => k0_hw7.2.2.1 r (k0_off21_inb v347 k0_hw7 r)
theorem k0_off26_inb : ∀ (v347 : BitVec 32) (k0_hw7 : k0_chk7 v347), ∀ a, (k0_off26 v347) a + S256x256.size a ≤ S8192x256.size a := fun v347 k0_hw7 => k0_hw7.2.2.2.1
theorem k0_off30_inb : ∀ (v347 : BitVec 32) (k0_hw7 : k0_chk7 v347), ∀ (r : Fin 2), ∀ a, (k0_off30 v347 (BitVec.ofNat 32 (128 * r.val))) a + S128x256.size a ≤ S8192x256.size a := fun v347 k0_hw7 r => k0_hw7.2.2.2.2.1 r
theorem k0_off30_wordsbf16 : ∀ (v347 : BitVec 32) (k0_hw7 : k0_chk7 v347), ∀ (r : Fin 2), (Rect.unit (s := S8192x256) (k0_off30 v347 (BitVec.ofNat 32 (128 * r.val))) S128x256.size (k0_off30_inb v347 k0_hw7 r)).WholeWords (EltTy.packing .bf16) := fun v347 k0_hw7 r => k0_hw7.2.2.2.2.2 r (k0_off30_inb v347 k0_hw7 r)

def k0_dev19 (v4 : BitVec 32) : Nat :=
  let c0_i32_363 : BitVec 32 := 0#32
  let c1_i32_362 : BitVec 32 := 1#32
  let v497 : BitVec 32 := Scalar.muli v4 c1_i32_362
  let v498 : BitVec 32 := Scalar.addi c0_i32_363 v497
  v498.toNat
def k0_dev20 (v4 : BitVec 32) : Nat :=
  let c0_i32_382 : BitVec 32 := 0#32
  let c1_i32_381 : BitVec 32 := 1#32
  let v521 : BitVec 32 := Scalar.muli v4 c1_i32_381
  let v522 : BitVec 32 := Scalar.addi c0_i32_382 v521
  v522.toNat
def k0_off31 (v480 : BitVec 32) : Fin 1 → Nat :=
  ![v480.toNat]

def k0_off32 (v480 : BitVec 32) (c0_i32_386 : BitVec 32) : Fin 2 → Nat :=
  let c256_i32_385 : BitVec 32 := 256#32
  let v529 : BitVec 32 := Scalar.muli v480 c256_i32_385
  let v530 : BitVec 32 := Scalar.addi v529 c0_i32_386
  let c0_i32_389 : BitVec 32 := 0#32
  ![v530.toNat, 0]
def k0_off33 (v348 : BitVec 32) (c0_i32_298 : BitVec 32) : Fin 2 → Nat :=
  let c256_i32_297 : BitVec 32 := 256#32
  let v409 : BitVec 32 := Scalar.muli v348 c256_i32_297
  let v410 : BitVec 32 := Scalar.addi v409 c0_i32_298
  let c0_i32_393 : BitVec 32 := 0#32
  ![v410.toNat, 0]

def k0_chk8 (v348 : BitVec 32) : Prop :=
  (∀ a, (k0_off23 v348) a + S1.size a ≤ S32.size a) ∧
  (∀ (r : Fin 2), ∀ a, (k0_off24 v348 (BitVec.ofNat 32 (128 * r.val))) a + S128x256.size a ≤ S8192x256.size a) ∧
  (∀ (r : Fin 2), ∀ (hinb : ∀ a, (k0_off24 v348 (BitVec.ofNat 32 (128 * r.val))) a + S128x256.size a ≤ S8192x256.size a), (Rect.unit (s := S8192x256) (k0_off24 v348 (BitVec.ofNat 32 (128 * r.val))) S128x256.size hinb).WholeWords (EltTy.packing .bf16)) ∧
  (∀ a, (k0_off27 v348) a + S256x256.size a ≤ S8192x256.size a) ∧
  (∀ (r : Fin 2), ∀ a, (k0_off33 v348 (BitVec.ofNat 32 (128 * r.val))) a + S128x256.size a ≤ S8192x256.size a) ∧
  (∀ (r : Fin 2), ∀ (hinb : ∀ a, (k0_off33 v348 (BitVec.ofNat 32 (128 * r.val))) a + S128x256.size a ≤ S8192x256.size a), (Rect.unit (s := S8192x256) (k0_off33 v348 (BitVec.ofNat 32 (128 * r.val))) S128x256.size hinb).WholeWords (EltTy.packing .bf16))
theorem k0_off23_inb : ∀ (v348 : BitVec 32) (k0_hw8 : k0_chk8 v348), ∀ a, (k0_off23 v348) a + S1.size a ≤ S32.size a := fun v348 k0_hw8 => k0_hw8.1
theorem k0_off24_inb : ∀ (v348 : BitVec 32) (k0_hw8 : k0_chk8 v348), ∀ (r : Fin 2), ∀ a, (k0_off24 v348 (BitVec.ofNat 32 (128 * r.val))) a + S128x256.size a ≤ S8192x256.size a := fun v348 k0_hw8 r => k0_hw8.2.1 r
theorem k0_off24_wordsbf16 : ∀ (v348 : BitVec 32) (k0_hw8 : k0_chk8 v348), ∀ (r : Fin 2), (Rect.unit (s := S8192x256) (k0_off24 v348 (BitVec.ofNat 32 (128 * r.val))) S128x256.size (k0_off24_inb v348 k0_hw8 r)).WholeWords (EltTy.packing .bf16) := fun v348 k0_hw8 r => k0_hw8.2.2.1 r (k0_off24_inb v348 k0_hw8 r)
theorem k0_off27_inb : ∀ (v348 : BitVec 32) (k0_hw8 : k0_chk8 v348), ∀ a, (k0_off27 v348) a + S256x256.size a ≤ S8192x256.size a := fun v348 k0_hw8 => k0_hw8.2.2.2.1
theorem k0_off33_inb : ∀ (v348 : BitVec 32) (k0_hw8 : k0_chk8 v348), ∀ (r : Fin 2), ∀ a, (k0_off33 v348 (BitVec.ofNat 32 (128 * r.val))) a + S128x256.size a ≤ S8192x256.size a := fun v348 k0_hw8 r => k0_hw8.2.2.2.2.1 r
theorem k0_off33_wordsbf16 : ∀ (v348 : BitVec 32) (k0_hw8 : k0_chk8 v348), ∀ (r : Fin 2), (Rect.unit (s := S8192x256) (k0_off33 v348 (BitVec.ofNat 32 (128 * r.val))) S128x256.size (k0_off33_inb v348 k0_hw8 r)).WholeWords (EltTy.packing .bf16) := fun v348 k0_hw8 r => k0_hw8.2.2.2.2.2 r (k0_off33_inb v348 k0_hw8 r)

def k0_dev21 (v3 : BitVec 32) : Nat :=
  let c0_i32_401 : BitVec 32 := 0#32
  let c1_i32_400 : BitVec 32 := 1#32
  let v545 : BitVec 32 := Scalar.muli v3 c1_i32_400
  let v546 : BitVec 32 := Scalar.addi c0_i32_401 v545
  v546.toNat
def k0_dev22 (v3 : BitVec 32) : Nat :=
  let c0_i32_420 : BitVec 32 := 0#32
  let c1_i32_419 : BitVec 32 := 1#32
  let v569 : BitVec 32 := Scalar.muli v3 c1_i32_419
  let v570 : BitVec 32 := Scalar.addi c0_i32_420 v569
  v570.toNat
def k0_off34 (v479 : BitVec 32) : Fin 2 → Nat :=
  let c256_i32_423 : BitVec 32 := 256#32
  let v577 : BitVec 32 := Scalar.muli v479 c256_i32_423
  let v578 : Index := Scalar.indexCast v577
  let c0_424 : Index := 0#32
  ![v578.toNat, 0]
def k0_off35 (v480 : BitVec 32) : Fin 2 → Nat :=
  let c256_i32_434 : BitVec 32 := 256#32
  let v594 : BitVec 32 := Scalar.muli v480 c256_i32_434
  let v595 : Index := Scalar.indexCast v594
  let c0_435 : Index := 0#32
  ![v595.toNat, 0]
def k0_off36 (v611 : BitVec 32) : Fin 1 → Nat :=
  ![v611.toNat]

def k0_off37 (v611 : BitVec 32) (c0_i32_446 : BitVec 32) : Fin 2 → Nat :=
  let c256_i32_445 : BitVec 32 := 256#32
  let v613 : BitVec 32 := Scalar.muli v611 c256_i32_445
  let v614 : BitVec 32 := Scalar.addi v613 c0_i32_446
  let c0_i32_449 : BitVec 32 := 0#32
  ![v614.toNat, 0]
def k0_off38 (v479 : BitVec 32) (c0_i32_358 : BitVec 32) : Fin 2 → Nat :=
  let c256_i32_357 : BitVec 32 := 256#32
  let v493 : BitVec 32 := Scalar.muli v479 c256_i32_357
  let v494 : BitVec 32 := Scalar.addi v493 c0_i32_358
  let c0_i32_453 : BitVec 32 := 0#32
  ![v494.toNat, 0]

def k0_chk9 (v479 : BitVec 32) : Prop :=
  (∀ a, (k0_off28 v479) a + S1.size a ≤ S32.size a) ∧
  (∀ (r : Fin 2), ∀ a, (k0_off29 v479 (BitVec.ofNat 32 (128 * r.val))) a + S128x256.size a ≤ S8192x256.size a) ∧
  (∀ (r : Fin 2), ∀ (hinb : ∀ a, (k0_off29 v479 (BitVec.ofNat 32 (128 * r.val))) a + S128x256.size a ≤ S8192x256.size a), (Rect.unit (s := S8192x256) (k0_off29 v479 (BitVec.ofNat 32 (128 * r.val))) S128x256.size hinb).WholeWords (EltTy.packing .bf16)) ∧
  (∀ a, (k0_off34 v479) a + S256x256.size a ≤ S8192x256.size a) ∧
  (∀ (r : Fin 2), ∀ a, (k0_off38 v479 (BitVec.ofNat 32 (128 * r.val))) a + S128x256.size a ≤ S8192x256.size a) ∧
  (∀ (r : Fin 2), ∀ (hinb : ∀ a, (k0_off38 v479 (BitVec.ofNat 32 (128 * r.val))) a + S128x256.size a ≤ S8192x256.size a), (Rect.unit (s := S8192x256) (k0_off38 v479 (BitVec.ofNat 32 (128 * r.val))) S128x256.size hinb).WholeWords (EltTy.packing .bf16))
theorem k0_off28_inb : ∀ (v479 : BitVec 32) (k0_hw9 : k0_chk9 v479), ∀ a, (k0_off28 v479) a + S1.size a ≤ S32.size a := fun v479 k0_hw9 => k0_hw9.1
theorem k0_off29_inb : ∀ (v479 : BitVec 32) (k0_hw9 : k0_chk9 v479), ∀ (r : Fin 2), ∀ a, (k0_off29 v479 (BitVec.ofNat 32 (128 * r.val))) a + S128x256.size a ≤ S8192x256.size a := fun v479 k0_hw9 r => k0_hw9.2.1 r
theorem k0_off29_wordsbf16 : ∀ (v479 : BitVec 32) (k0_hw9 : k0_chk9 v479), ∀ (r : Fin 2), (Rect.unit (s := S8192x256) (k0_off29 v479 (BitVec.ofNat 32 (128 * r.val))) S128x256.size (k0_off29_inb v479 k0_hw9 r)).WholeWords (EltTy.packing .bf16) := fun v479 k0_hw9 r => k0_hw9.2.2.1 r (k0_off29_inb v479 k0_hw9 r)
theorem k0_off34_inb : ∀ (v479 : BitVec 32) (k0_hw9 : k0_chk9 v479), ∀ a, (k0_off34 v479) a + S256x256.size a ≤ S8192x256.size a := fun v479 k0_hw9 => k0_hw9.2.2.2.1
theorem k0_off38_inb : ∀ (v479 : BitVec 32) (k0_hw9 : k0_chk9 v479), ∀ (r : Fin 2), ∀ a, (k0_off38 v479 (BitVec.ofNat 32 (128 * r.val))) a + S128x256.size a ≤ S8192x256.size a := fun v479 k0_hw9 r => k0_hw9.2.2.2.2.1 r
theorem k0_off38_wordsbf16 : ∀ (v479 : BitVec 32) (k0_hw9 : k0_chk9 v479), ∀ (r : Fin 2), (Rect.unit (s := S8192x256) (k0_off38 v479 (BitVec.ofNat 32 (128 * r.val))) S128x256.size (k0_off38_inb v479 k0_hw9 r)).WholeWords (EltTy.packing .bf16) := fun v479 k0_hw9 r => k0_hw9.2.2.2.2.2 r (k0_off38_inb v479 k0_hw9 r)

def k0_dev23 (v4 : BitVec 32) : Nat :=
  let c0_i32_461 : BitVec 32 := 0#32
  let c1_i32_460 : BitVec 32 := 1#32
  let v629 : BitVec 32 := Scalar.muli v4 c1_i32_460
  let v630 : BitVec 32 := Scalar.addi c0_i32_461 v629
  v630.toNat
def k0_dev24 (v4 : BitVec 32) : Nat :=
  let c0_i32_480 : BitVec 32 := 0#32
  let c1_i32_479 : BitVec 32 := 1#32
  let v653 : BitVec 32 := Scalar.muli v4 c1_i32_479
  let v654 : BitVec 32 := Scalar.addi c0_i32_480 v653
  v654.toNat
def k0_off39 (v612 : BitVec 32) : Fin 1 → Nat :=
  ![v612.toNat]

def k0_off40 (v612 : BitVec 32) (c0_i32_484 : BitVec 32) : Fin 2 → Nat :=
  let c256_i32_483 : BitVec 32 := 256#32
  let v661 : BitVec 32 := Scalar.muli v612 c256_i32_483
  let v662 : BitVec 32 := Scalar.addi v661 c0_i32_484
  let c0_i32_487 : BitVec 32 := 0#32
  ![v662.toNat, 0]
def k0_off41 (v480 : BitVec 32) (c0_i32_396 : BitVec 32) : Fin 2 → Nat :=
  let c256_i32_395 : BitVec 32 := 256#32
  let v541 : BitVec 32 := Scalar.muli v480 c256_i32_395
  let v542 : BitVec 32 := Scalar.addi v541 c0_i32_396
  let c0_i32_491 : BitVec 32 := 0#32
  ![v542.toNat, 0]

def k0_chk10 (v480 : BitVec 32) : Prop :=
  (∀ a, (k0_off31 v480) a + S1.size a ≤ S32.size a) ∧
  (∀ (r : Fin 2), ∀ a, (k0_off32 v480 (BitVec.ofNat 32 (128 * r.val))) a + S128x256.size a ≤ S8192x256.size a) ∧
  (∀ (r : Fin 2), ∀ (hinb : ∀ a, (k0_off32 v480 (BitVec.ofNat 32 (128 * r.val))) a + S128x256.size a ≤ S8192x256.size a), (Rect.unit (s := S8192x256) (k0_off32 v480 (BitVec.ofNat 32 (128 * r.val))) S128x256.size hinb).WholeWords (EltTy.packing .bf16)) ∧
  (∀ a, (k0_off35 v480) a + S256x256.size a ≤ S8192x256.size a) ∧
  (∀ (r : Fin 2), ∀ a, (k0_off41 v480 (BitVec.ofNat 32 (128 * r.val))) a + S128x256.size a ≤ S8192x256.size a) ∧
  (∀ (r : Fin 2), ∀ (hinb : ∀ a, (k0_off41 v480 (BitVec.ofNat 32 (128 * r.val))) a + S128x256.size a ≤ S8192x256.size a), (Rect.unit (s := S8192x256) (k0_off41 v480 (BitVec.ofNat 32 (128 * r.val))) S128x256.size hinb).WholeWords (EltTy.packing .bf16))
theorem k0_off31_inb : ∀ (v480 : BitVec 32) (k0_hw10 : k0_chk10 v480), ∀ a, (k0_off31 v480) a + S1.size a ≤ S32.size a := fun v480 k0_hw10 => k0_hw10.1
theorem k0_off32_inb : ∀ (v480 : BitVec 32) (k0_hw10 : k0_chk10 v480), ∀ (r : Fin 2), ∀ a, (k0_off32 v480 (BitVec.ofNat 32 (128 * r.val))) a + S128x256.size a ≤ S8192x256.size a := fun v480 k0_hw10 r => k0_hw10.2.1 r
theorem k0_off32_wordsbf16 : ∀ (v480 : BitVec 32) (k0_hw10 : k0_chk10 v480), ∀ (r : Fin 2), (Rect.unit (s := S8192x256) (k0_off32 v480 (BitVec.ofNat 32 (128 * r.val))) S128x256.size (k0_off32_inb v480 k0_hw10 r)).WholeWords (EltTy.packing .bf16) := fun v480 k0_hw10 r => k0_hw10.2.2.1 r (k0_off32_inb v480 k0_hw10 r)
theorem k0_off35_inb : ∀ (v480 : BitVec 32) (k0_hw10 : k0_chk10 v480), ∀ a, (k0_off35 v480) a + S256x256.size a ≤ S8192x256.size a := fun v480 k0_hw10 => k0_hw10.2.2.2.1
theorem k0_off41_inb : ∀ (v480 : BitVec 32) (k0_hw10 : k0_chk10 v480), ∀ (r : Fin 2), ∀ a, (k0_off41 v480 (BitVec.ofNat 32 (128 * r.val))) a + S128x256.size a ≤ S8192x256.size a := fun v480 k0_hw10 r => k0_hw10.2.2.2.2.1 r
theorem k0_off41_wordsbf16 : ∀ (v480 : BitVec 32) (k0_hw10 : k0_chk10 v480), ∀ (r : Fin 2), (Rect.unit (s := S8192x256) (k0_off41 v480 (BitVec.ofNat 32 (128 * r.val))) S128x256.size (k0_off41_inb v480 k0_hw10 r)).WholeWords (EltTy.packing .bf16) := fun v480 k0_hw10 r => k0_hw10.2.2.2.2.2 r (k0_off41_inb v480 k0_hw10 r)

def k0_dev25 (v3 : BitVec 32) : Nat :=
  let c0_i32_499 : BitVec 32 := 0#32
  let c1_i32_498 : BitVec 32 := 1#32
  let v677 : BitVec 32 := Scalar.muli v3 c1_i32_498
  let v678 : BitVec 32 := Scalar.addi c0_i32_499 v677
  v678.toNat
def k0_dev26 (v3 : BitVec 32) : Nat :=
  let c0_i32_518 : BitVec 32 := 0#32
  let c1_i32_517 : BitVec 32 := 1#32
  let v701 : BitVec 32 := Scalar.muli v3 c1_i32_517
  let v702 : BitVec 32 := Scalar.addi c0_i32_518 v701
  v702.toNat
def k0_off42 (v611 : BitVec 32) : Fin 2 → Nat :=
  let c256_i32_521 : BitVec 32 := 256#32
  let v709 : BitVec 32 := Scalar.muli v611 c256_i32_521
  let v710 : Index := Scalar.indexCast v709
  let c0_522 : Index := 0#32
  ![v710.toNat, 0]
def k0_off43 (v612 : BitVec 32) : Fin 2 → Nat :=
  let c256_i32_532 : BitVec 32 := 256#32
  let v726 : BitVec 32 := Scalar.muli v612 c256_i32_532
  let v727 : Index := Scalar.indexCast v726
  let c0_533 : Index := 0#32
  ![v727.toNat, 0]
def k0_off44 (v743 : BitVec 32) : Fin 1 → Nat :=
  ![v743.toNat]

def k0_off45 (v743 : BitVec 32) (c0_i32_544 : BitVec 32) : Fin 2 → Nat :=
  let c256_i32_543 : BitVec 32 := 256#32
  let v745 : BitVec 32 := Scalar.muli v743 c256_i32_543
  let v746 : BitVec 32 := Scalar.addi v745 c0_i32_544
  let c0_i32_547 : BitVec 32 := 0#32
  ![v746.toNat, 0]
def k0_off46 (v611 : BitVec 32) (c0_i32_456 : BitVec 32) : Fin 2 → Nat :=
  let c256_i32_455 : BitVec 32 := 256#32
  let v625 : BitVec 32 := Scalar.muli v611 c256_i32_455
  let v626 : BitVec 32 := Scalar.addi v625 c0_i32_456
  let c0_i32_551 : BitVec 32 := 0#32
  ![v626.toNat, 0]

def k0_chk11 (v611 : BitVec 32) : Prop :=
  (∀ a, (k0_off36 v611) a + S1.size a ≤ S32.size a) ∧
  (∀ (r : Fin 2), ∀ a, (k0_off37 v611 (BitVec.ofNat 32 (128 * r.val))) a + S128x256.size a ≤ S8192x256.size a) ∧
  (∀ (r : Fin 2), ∀ (hinb : ∀ a, (k0_off37 v611 (BitVec.ofNat 32 (128 * r.val))) a + S128x256.size a ≤ S8192x256.size a), (Rect.unit (s := S8192x256) (k0_off37 v611 (BitVec.ofNat 32 (128 * r.val))) S128x256.size hinb).WholeWords (EltTy.packing .bf16)) ∧
  (∀ a, (k0_off42 v611) a + S256x256.size a ≤ S8192x256.size a) ∧
  (∀ (r : Fin 2), ∀ a, (k0_off46 v611 (BitVec.ofNat 32 (128 * r.val))) a + S128x256.size a ≤ S8192x256.size a) ∧
  (∀ (r : Fin 2), ∀ (hinb : ∀ a, (k0_off46 v611 (BitVec.ofNat 32 (128 * r.val))) a + S128x256.size a ≤ S8192x256.size a), (Rect.unit (s := S8192x256) (k0_off46 v611 (BitVec.ofNat 32 (128 * r.val))) S128x256.size hinb).WholeWords (EltTy.packing .bf16))
theorem k0_off36_inb : ∀ (v611 : BitVec 32) (k0_hw11 : k0_chk11 v611), ∀ a, (k0_off36 v611) a + S1.size a ≤ S32.size a := fun v611 k0_hw11 => k0_hw11.1
theorem k0_off37_inb : ∀ (v611 : BitVec 32) (k0_hw11 : k0_chk11 v611), ∀ (r : Fin 2), ∀ a, (k0_off37 v611 (BitVec.ofNat 32 (128 * r.val))) a + S128x256.size a ≤ S8192x256.size a := fun v611 k0_hw11 r => k0_hw11.2.1 r
theorem k0_off37_wordsbf16 : ∀ (v611 : BitVec 32) (k0_hw11 : k0_chk11 v611), ∀ (r : Fin 2), (Rect.unit (s := S8192x256) (k0_off37 v611 (BitVec.ofNat 32 (128 * r.val))) S128x256.size (k0_off37_inb v611 k0_hw11 r)).WholeWords (EltTy.packing .bf16) := fun v611 k0_hw11 r => k0_hw11.2.2.1 r (k0_off37_inb v611 k0_hw11 r)
theorem k0_off42_inb : ∀ (v611 : BitVec 32) (k0_hw11 : k0_chk11 v611), ∀ a, (k0_off42 v611) a + S256x256.size a ≤ S8192x256.size a := fun v611 k0_hw11 => k0_hw11.2.2.2.1
theorem k0_off46_inb : ∀ (v611 : BitVec 32) (k0_hw11 : k0_chk11 v611), ∀ (r : Fin 2), ∀ a, (k0_off46 v611 (BitVec.ofNat 32 (128 * r.val))) a + S128x256.size a ≤ S8192x256.size a := fun v611 k0_hw11 r => k0_hw11.2.2.2.2.1 r
theorem k0_off46_wordsbf16 : ∀ (v611 : BitVec 32) (k0_hw11 : k0_chk11 v611), ∀ (r : Fin 2), (Rect.unit (s := S8192x256) (k0_off46 v611 (BitVec.ofNat 32 (128 * r.val))) S128x256.size (k0_off46_inb v611 k0_hw11 r)).WholeWords (EltTy.packing .bf16) := fun v611 k0_hw11 r => k0_hw11.2.2.2.2.2 r (k0_off46_inb v611 k0_hw11 r)

def k0_dev27 (v4 : BitVec 32) : Nat :=
  let c0_i32_559 : BitVec 32 := 0#32
  let c1_i32_558 : BitVec 32 := 1#32
  let v761 : BitVec 32 := Scalar.muli v4 c1_i32_558
  let v762 : BitVec 32 := Scalar.addi c0_i32_559 v761
  v762.toNat
def k0_dev28 (v4 : BitVec 32) : Nat :=
  let c0_i32_578 : BitVec 32 := 0#32
  let c1_i32_577 : BitVec 32 := 1#32
  let v785 : BitVec 32 := Scalar.muli v4 c1_i32_577
  let v786 : BitVec 32 := Scalar.addi c0_i32_578 v785
  v786.toNat
def k0_off47 (v744 : BitVec 32) : Fin 1 → Nat :=
  ![v744.toNat]

def k0_off48 (v744 : BitVec 32) (c0_i32_582 : BitVec 32) : Fin 2 → Nat :=
  let c256_i32_581 : BitVec 32 := 256#32
  let v793 : BitVec 32 := Scalar.muli v744 c256_i32_581
  let v794 : BitVec 32 := Scalar.addi v793 c0_i32_582
  let c0_i32_585 : BitVec 32 := 0#32
  ![v794.toNat, 0]
def k0_off49 (v612 : BitVec 32) (c0_i32_494 : BitVec 32) : Fin 2 → Nat :=
  let c256_i32_493 : BitVec 32 := 256#32
  let v673 : BitVec 32 := Scalar.muli v612 c256_i32_493
  let v674 : BitVec 32 := Scalar.addi v673 c0_i32_494
  let c0_i32_589 : BitVec 32 := 0#32
  ![v674.toNat, 0]

def k0_chk12 (v612 : BitVec 32) : Prop :=
  (∀ a, (k0_off39 v612) a + S1.size a ≤ S32.size a) ∧
  (∀ (r : Fin 2), ∀ a, (k0_off40 v612 (BitVec.ofNat 32 (128 * r.val))) a + S128x256.size a ≤ S8192x256.size a) ∧
  (∀ (r : Fin 2), ∀ (hinb : ∀ a, (k0_off40 v612 (BitVec.ofNat 32 (128 * r.val))) a + S128x256.size a ≤ S8192x256.size a), (Rect.unit (s := S8192x256) (k0_off40 v612 (BitVec.ofNat 32 (128 * r.val))) S128x256.size hinb).WholeWords (EltTy.packing .bf16)) ∧
  (∀ a, (k0_off43 v612) a + S256x256.size a ≤ S8192x256.size a) ∧
  (∀ (r : Fin 2), ∀ a, (k0_off49 v612 (BitVec.ofNat 32 (128 * r.val))) a + S128x256.size a ≤ S8192x256.size a) ∧
  (∀ (r : Fin 2), ∀ (hinb : ∀ a, (k0_off49 v612 (BitVec.ofNat 32 (128 * r.val))) a + S128x256.size a ≤ S8192x256.size a), (Rect.unit (s := S8192x256) (k0_off49 v612 (BitVec.ofNat 32 (128 * r.val))) S128x256.size hinb).WholeWords (EltTy.packing .bf16))
theorem k0_off39_inb : ∀ (v612 : BitVec 32) (k0_hw12 : k0_chk12 v612), ∀ a, (k0_off39 v612) a + S1.size a ≤ S32.size a := fun v612 k0_hw12 => k0_hw12.1
theorem k0_off40_inb : ∀ (v612 : BitVec 32) (k0_hw12 : k0_chk12 v612), ∀ (r : Fin 2), ∀ a, (k0_off40 v612 (BitVec.ofNat 32 (128 * r.val))) a + S128x256.size a ≤ S8192x256.size a := fun v612 k0_hw12 r => k0_hw12.2.1 r
theorem k0_off40_wordsbf16 : ∀ (v612 : BitVec 32) (k0_hw12 : k0_chk12 v612), ∀ (r : Fin 2), (Rect.unit (s := S8192x256) (k0_off40 v612 (BitVec.ofNat 32 (128 * r.val))) S128x256.size (k0_off40_inb v612 k0_hw12 r)).WholeWords (EltTy.packing .bf16) := fun v612 k0_hw12 r => k0_hw12.2.2.1 r (k0_off40_inb v612 k0_hw12 r)
theorem k0_off43_inb : ∀ (v612 : BitVec 32) (k0_hw12 : k0_chk12 v612), ∀ a, (k0_off43 v612) a + S256x256.size a ≤ S8192x256.size a := fun v612 k0_hw12 => k0_hw12.2.2.2.1
theorem k0_off49_inb : ∀ (v612 : BitVec 32) (k0_hw12 : k0_chk12 v612), ∀ (r : Fin 2), ∀ a, (k0_off49 v612 (BitVec.ofNat 32 (128 * r.val))) a + S128x256.size a ≤ S8192x256.size a := fun v612 k0_hw12 r => k0_hw12.2.2.2.2.1 r
theorem k0_off49_wordsbf16 : ∀ (v612 : BitVec 32) (k0_hw12 : k0_chk12 v612), ∀ (r : Fin 2), (Rect.unit (s := S8192x256) (k0_off49 v612 (BitVec.ofNat 32 (128 * r.val))) S128x256.size (k0_off49_inb v612 k0_hw12 r)).WholeWords (EltTy.packing .bf16) := fun v612 k0_hw12 r => k0_hw12.2.2.2.2.2 r (k0_off49_inb v612 k0_hw12 r)

def k0_dev29 (v3 : BitVec 32) : Nat :=
  let c0_i32_597 : BitVec 32 := 0#32
  let c1_i32_596 : BitVec 32 := 1#32
  let v809 : BitVec 32 := Scalar.muli v3 c1_i32_596
  let v810 : BitVec 32 := Scalar.addi c0_i32_597 v809
  v810.toNat
def k0_dev30 (v3 : BitVec 32) : Nat :=
  let c0_i32_616 : BitVec 32 := 0#32
  let c1_i32_615 : BitVec 32 := 1#32
  let v833 : BitVec 32 := Scalar.muli v3 c1_i32_615
  let v834 : BitVec 32 := Scalar.addi c0_i32_616 v833
  v834.toNat
def k0_off50 (v743 : BitVec 32) : Fin 2 → Nat :=
  let c256_i32_619 : BitVec 32 := 256#32
  let v841 : BitVec 32 := Scalar.muli v743 c256_i32_619
  let v842 : Index := Scalar.indexCast v841
  let c0_620 : Index := 0#32
  ![v842.toNat, 0]
def k0_off51 (v744 : BitVec 32) : Fin 2 → Nat :=
  let c256_i32_630 : BitVec 32 := 256#32
  let v858 : BitVec 32 := Scalar.muli v744 c256_i32_630
  let v859 : Index := Scalar.indexCast v858
  let c0_631 : Index := 0#32
  ![v859.toNat, 0]
def k0_off52 (v875 : BitVec 32) : Fin 1 → Nat :=
  ![v875.toNat]

def k0_off53 (v875 : BitVec 32) (c0_i32_642 : BitVec 32) : Fin 2 → Nat :=
  let c256_i32_641 : BitVec 32 := 256#32
  let v877 : BitVec 32 := Scalar.muli v875 c256_i32_641
  let v878 : BitVec 32 := Scalar.addi v877 c0_i32_642
  let c0_i32_645 : BitVec 32 := 0#32
  ![v878.toNat, 0]
def k0_off54 (v743 : BitVec 32) (c0_i32_554 : BitVec 32) : Fin 2 → Nat :=
  let c256_i32_553 : BitVec 32 := 256#32
  let v757 : BitVec 32 := Scalar.muli v743 c256_i32_553
  let v758 : BitVec 32 := Scalar.addi v757 c0_i32_554
  let c0_i32_649 : BitVec 32 := 0#32
  ![v758.toNat, 0]

def k0_chk13 (v743 : BitVec 32) : Prop :=
  (∀ a, (k0_off44 v743) a + S1.size a ≤ S32.size a) ∧
  (∀ (r : Fin 2), ∀ a, (k0_off45 v743 (BitVec.ofNat 32 (128 * r.val))) a + S128x256.size a ≤ S8192x256.size a) ∧
  (∀ (r : Fin 2), ∀ (hinb : ∀ a, (k0_off45 v743 (BitVec.ofNat 32 (128 * r.val))) a + S128x256.size a ≤ S8192x256.size a), (Rect.unit (s := S8192x256) (k0_off45 v743 (BitVec.ofNat 32 (128 * r.val))) S128x256.size hinb).WholeWords (EltTy.packing .bf16)) ∧
  (∀ a, (k0_off50 v743) a + S256x256.size a ≤ S8192x256.size a) ∧
  (∀ (r : Fin 2), ∀ a, (k0_off54 v743 (BitVec.ofNat 32 (128 * r.val))) a + S128x256.size a ≤ S8192x256.size a) ∧
  (∀ (r : Fin 2), ∀ (hinb : ∀ a, (k0_off54 v743 (BitVec.ofNat 32 (128 * r.val))) a + S128x256.size a ≤ S8192x256.size a), (Rect.unit (s := S8192x256) (k0_off54 v743 (BitVec.ofNat 32 (128 * r.val))) S128x256.size hinb).WholeWords (EltTy.packing .bf16))
theorem k0_off44_inb : ∀ (v743 : BitVec 32) (k0_hw13 : k0_chk13 v743), ∀ a, (k0_off44 v743) a + S1.size a ≤ S32.size a := fun v743 k0_hw13 => k0_hw13.1
theorem k0_off45_inb : ∀ (v743 : BitVec 32) (k0_hw13 : k0_chk13 v743), ∀ (r : Fin 2), ∀ a, (k0_off45 v743 (BitVec.ofNat 32 (128 * r.val))) a + S128x256.size a ≤ S8192x256.size a := fun v743 k0_hw13 r => k0_hw13.2.1 r
theorem k0_off45_wordsbf16 : ∀ (v743 : BitVec 32) (k0_hw13 : k0_chk13 v743), ∀ (r : Fin 2), (Rect.unit (s := S8192x256) (k0_off45 v743 (BitVec.ofNat 32 (128 * r.val))) S128x256.size (k0_off45_inb v743 k0_hw13 r)).WholeWords (EltTy.packing .bf16) := fun v743 k0_hw13 r => k0_hw13.2.2.1 r (k0_off45_inb v743 k0_hw13 r)
theorem k0_off50_inb : ∀ (v743 : BitVec 32) (k0_hw13 : k0_chk13 v743), ∀ a, (k0_off50 v743) a + S256x256.size a ≤ S8192x256.size a := fun v743 k0_hw13 => k0_hw13.2.2.2.1
theorem k0_off54_inb : ∀ (v743 : BitVec 32) (k0_hw13 : k0_chk13 v743), ∀ (r : Fin 2), ∀ a, (k0_off54 v743 (BitVec.ofNat 32 (128 * r.val))) a + S128x256.size a ≤ S8192x256.size a := fun v743 k0_hw13 r => k0_hw13.2.2.2.2.1 r
theorem k0_off54_wordsbf16 : ∀ (v743 : BitVec 32) (k0_hw13 : k0_chk13 v743), ∀ (r : Fin 2), (Rect.unit (s := S8192x256) (k0_off54 v743 (BitVec.ofNat 32 (128 * r.val))) S128x256.size (k0_off54_inb v743 k0_hw13 r)).WholeWords (EltTy.packing .bf16) := fun v743 k0_hw13 r => k0_hw13.2.2.2.2.2 r (k0_off54_inb v743 k0_hw13 r)

def k0_dev31 (v4 : BitVec 32) : Nat :=
  let c0_i32_657 : BitVec 32 := 0#32
  let c1_i32_656 : BitVec 32 := 1#32
  let v893 : BitVec 32 := Scalar.muli v4 c1_i32_656
  let v894 : BitVec 32 := Scalar.addi c0_i32_657 v893
  v894.toNat
def k0_dev32 (v4 : BitVec 32) : Nat :=
  let c0_i32_676 : BitVec 32 := 0#32
  let c1_i32_675 : BitVec 32 := 1#32
  let v917 : BitVec 32 := Scalar.muli v4 c1_i32_675
  let v918 : BitVec 32 := Scalar.addi c0_i32_676 v917
  v918.toNat
def k0_off55 (v876 : BitVec 32) : Fin 1 → Nat :=
  ![v876.toNat]

def k0_off56 (v876 : BitVec 32) (c0_i32_680 : BitVec 32) : Fin 2 → Nat :=
  let c256_i32_679 : BitVec 32 := 256#32
  let v925 : BitVec 32 := Scalar.muli v876 c256_i32_679
  let v926 : BitVec 32 := Scalar.addi v925 c0_i32_680
  let c0_i32_683 : BitVec 32 := 0#32
  ![v926.toNat, 0]
def k0_off57 (v744 : BitVec 32) (c0_i32_592 : BitVec 32) : Fin 2 → Nat :=
  let c256_i32_591 : BitVec 32 := 256#32
  let v805 : BitVec 32 := Scalar.muli v744 c256_i32_591
  let v806 : BitVec 32 := Scalar.addi v805 c0_i32_592
  let c0_i32_687 : BitVec 32 := 0#32
  ![v806.toNat, 0]

def k0_chk14 (v744 : BitVec 32) : Prop :=
  (∀ a, (k0_off47 v744) a + S1.size a ≤ S32.size a) ∧
  (∀ (r : Fin 2), ∀ a, (k0_off48 v744 (BitVec.ofNat 32 (128 * r.val))) a + S128x256.size a ≤ S8192x256.size a) ∧
  (∀ (r : Fin 2), ∀ (hinb : ∀ a, (k0_off48 v744 (BitVec.ofNat 32 (128 * r.val))) a + S128x256.size a ≤ S8192x256.size a), (Rect.unit (s := S8192x256) (k0_off48 v744 (BitVec.ofNat 32 (128 * r.val))) S128x256.size hinb).WholeWords (EltTy.packing .bf16)) ∧
  (∀ a, (k0_off51 v744) a + S256x256.size a ≤ S8192x256.size a) ∧
  (∀ (r : Fin 2), ∀ a, (k0_off57 v744 (BitVec.ofNat 32 (128 * r.val))) a + S128x256.size a ≤ S8192x256.size a) ∧
  (∀ (r : Fin 2), ∀ (hinb : ∀ a, (k0_off57 v744 (BitVec.ofNat 32 (128 * r.val))) a + S128x256.size a ≤ S8192x256.size a), (Rect.unit (s := S8192x256) (k0_off57 v744 (BitVec.ofNat 32 (128 * r.val))) S128x256.size hinb).WholeWords (EltTy.packing .bf16))
theorem k0_off47_inb : ∀ (v744 : BitVec 32) (k0_hw14 : k0_chk14 v744), ∀ a, (k0_off47 v744) a + S1.size a ≤ S32.size a := fun v744 k0_hw14 => k0_hw14.1
theorem k0_off48_inb : ∀ (v744 : BitVec 32) (k0_hw14 : k0_chk14 v744), ∀ (r : Fin 2), ∀ a, (k0_off48 v744 (BitVec.ofNat 32 (128 * r.val))) a + S128x256.size a ≤ S8192x256.size a := fun v744 k0_hw14 r => k0_hw14.2.1 r
theorem k0_off48_wordsbf16 : ∀ (v744 : BitVec 32) (k0_hw14 : k0_chk14 v744), ∀ (r : Fin 2), (Rect.unit (s := S8192x256) (k0_off48 v744 (BitVec.ofNat 32 (128 * r.val))) S128x256.size (k0_off48_inb v744 k0_hw14 r)).WholeWords (EltTy.packing .bf16) := fun v744 k0_hw14 r => k0_hw14.2.2.1 r (k0_off48_inb v744 k0_hw14 r)
theorem k0_off51_inb : ∀ (v744 : BitVec 32) (k0_hw14 : k0_chk14 v744), ∀ a, (k0_off51 v744) a + S256x256.size a ≤ S8192x256.size a := fun v744 k0_hw14 => k0_hw14.2.2.2.1
theorem k0_off57_inb : ∀ (v744 : BitVec 32) (k0_hw14 : k0_chk14 v744), ∀ (r : Fin 2), ∀ a, (k0_off57 v744 (BitVec.ofNat 32 (128 * r.val))) a + S128x256.size a ≤ S8192x256.size a := fun v744 k0_hw14 r => k0_hw14.2.2.2.2.1 r
theorem k0_off57_wordsbf16 : ∀ (v744 : BitVec 32) (k0_hw14 : k0_chk14 v744), ∀ (r : Fin 2), (Rect.unit (s := S8192x256) (k0_off57 v744 (BitVec.ofNat 32 (128 * r.val))) S128x256.size (k0_off57_inb v744 k0_hw14 r)).WholeWords (EltTy.packing .bf16) := fun v744 k0_hw14 r => k0_hw14.2.2.2.2.2 r (k0_off57_inb v744 k0_hw14 r)

def k0_dev33 (v3 : BitVec 32) : Nat :=
  let c0_i32_695 : BitVec 32 := 0#32
  let c1_i32_694 : BitVec 32 := 1#32
  let v941 : BitVec 32 := Scalar.muli v3 c1_i32_694
  let v942 : BitVec 32 := Scalar.addi c0_i32_695 v941
  v942.toNat
def k0_dev34 (v3 : BitVec 32) : Nat :=
  let c0_i32_714 : BitVec 32 := 0#32
  let c1_i32_713 : BitVec 32 := 1#32
  let v965 : BitVec 32 := Scalar.muli v3 c1_i32_713
  let v966 : BitVec 32 := Scalar.addi c0_i32_714 v965
  v966.toNat
def k0_off58 (v875 : BitVec 32) : Fin 2 → Nat :=
  let c256_i32_717 : BitVec 32 := 256#32
  let v973 : BitVec 32 := Scalar.muli v875 c256_i32_717
  let v974 : Index := Scalar.indexCast v973
  let c0_718 : Index := 0#32
  ![v974.toNat, 0]
def k0_off59 (v876 : BitVec 32) : Fin 2 → Nat :=
  let c256_i32_728 : BitVec 32 := 256#32
  let v990 : BitVec 32 := Scalar.muli v876 c256_i32_728
  let v991 : Index := Scalar.indexCast v990
  let c0_729 : Index := 0#32
  ![v991.toNat, 0]
def k0_off60 (v1007 : BitVec 32) : Fin 1 → Nat :=
  ![v1007.toNat]

def k0_off61 (v1007 : BitVec 32) (c0_i32_740 : BitVec 32) : Fin 2 → Nat :=
  let c256_i32_739 : BitVec 32 := 256#32
  let v1009 : BitVec 32 := Scalar.muli v1007 c256_i32_739
  let v1010 : BitVec 32 := Scalar.addi v1009 c0_i32_740
  let c0_i32_743 : BitVec 32 := 0#32
  ![v1010.toNat, 0]
def k0_off62 (v875 : BitVec 32) (c0_i32_652 : BitVec 32) : Fin 2 → Nat :=
  let c256_i32_651 : BitVec 32 := 256#32
  let v889 : BitVec 32 := Scalar.muli v875 c256_i32_651
  let v890 : BitVec 32 := Scalar.addi v889 c0_i32_652
  let c0_i32_747 : BitVec 32 := 0#32
  ![v890.toNat, 0]

def k0_chk15 (v875 : BitVec 32) : Prop :=
  (∀ a, (k0_off52 v875) a + S1.size a ≤ S32.size a) ∧
  (∀ (r : Fin 2), ∀ a, (k0_off53 v875 (BitVec.ofNat 32 (128 * r.val))) a + S128x256.size a ≤ S8192x256.size a) ∧
  (∀ (r : Fin 2), ∀ (hinb : ∀ a, (k0_off53 v875 (BitVec.ofNat 32 (128 * r.val))) a + S128x256.size a ≤ S8192x256.size a), (Rect.unit (s := S8192x256) (k0_off53 v875 (BitVec.ofNat 32 (128 * r.val))) S128x256.size hinb).WholeWords (EltTy.packing .bf16)) ∧
  (∀ a, (k0_off58 v875) a + S256x256.size a ≤ S8192x256.size a) ∧
  (∀ (r : Fin 2), ∀ a, (k0_off62 v875 (BitVec.ofNat 32 (128 * r.val))) a + S128x256.size a ≤ S8192x256.size a) ∧
  (∀ (r : Fin 2), ∀ (hinb : ∀ a, (k0_off62 v875 (BitVec.ofNat 32 (128 * r.val))) a + S128x256.size a ≤ S8192x256.size a), (Rect.unit (s := S8192x256) (k0_off62 v875 (BitVec.ofNat 32 (128 * r.val))) S128x256.size hinb).WholeWords (EltTy.packing .bf16))
theorem k0_off52_inb : ∀ (v875 : BitVec 32) (k0_hw15 : k0_chk15 v875), ∀ a, (k0_off52 v875) a + S1.size a ≤ S32.size a := fun v875 k0_hw15 => k0_hw15.1
theorem k0_off53_inb : ∀ (v875 : BitVec 32) (k0_hw15 : k0_chk15 v875), ∀ (r : Fin 2), ∀ a, (k0_off53 v875 (BitVec.ofNat 32 (128 * r.val))) a + S128x256.size a ≤ S8192x256.size a := fun v875 k0_hw15 r => k0_hw15.2.1 r
theorem k0_off53_wordsbf16 : ∀ (v875 : BitVec 32) (k0_hw15 : k0_chk15 v875), ∀ (r : Fin 2), (Rect.unit (s := S8192x256) (k0_off53 v875 (BitVec.ofNat 32 (128 * r.val))) S128x256.size (k0_off53_inb v875 k0_hw15 r)).WholeWords (EltTy.packing .bf16) := fun v875 k0_hw15 r => k0_hw15.2.2.1 r (k0_off53_inb v875 k0_hw15 r)
theorem k0_off58_inb : ∀ (v875 : BitVec 32) (k0_hw15 : k0_chk15 v875), ∀ a, (k0_off58 v875) a + S256x256.size a ≤ S8192x256.size a := fun v875 k0_hw15 => k0_hw15.2.2.2.1
theorem k0_off62_inb : ∀ (v875 : BitVec 32) (k0_hw15 : k0_chk15 v875), ∀ (r : Fin 2), ∀ a, (k0_off62 v875 (BitVec.ofNat 32 (128 * r.val))) a + S128x256.size a ≤ S8192x256.size a := fun v875 k0_hw15 r => k0_hw15.2.2.2.2.1 r
theorem k0_off62_wordsbf16 : ∀ (v875 : BitVec 32) (k0_hw15 : k0_chk15 v875), ∀ (r : Fin 2), (Rect.unit (s := S8192x256) (k0_off62 v875 (BitVec.ofNat 32 (128 * r.val))) S128x256.size (k0_off62_inb v875 k0_hw15 r)).WholeWords (EltTy.packing .bf16) := fun v875 k0_hw15 r => k0_hw15.2.2.2.2.2 r (k0_off62_inb v875 k0_hw15 r)

def k0_dev35 (v4 : BitVec 32) : Nat :=
  let c0_i32_755 : BitVec 32 := 0#32
  let c1_i32_754 : BitVec 32 := 1#32
  let v1025 : BitVec 32 := Scalar.muli v4 c1_i32_754
  let v1026 : BitVec 32 := Scalar.addi c0_i32_755 v1025
  v1026.toNat
def k0_dev36 (v4 : BitVec 32) : Nat :=
  let c0_i32_774 : BitVec 32 := 0#32
  let c1_i32_773 : BitVec 32 := 1#32
  let v1049 : BitVec 32 := Scalar.muli v4 c1_i32_773
  let v1050 : BitVec 32 := Scalar.addi c0_i32_774 v1049
  v1050.toNat
def k0_off63 (v1008 : BitVec 32) : Fin 1 → Nat :=
  ![v1008.toNat]

def k0_off64 (v1008 : BitVec 32) (c0_i32_778 : BitVec 32) : Fin 2 → Nat :=
  let c256_i32_777 : BitVec 32 := 256#32
  let v1057 : BitVec 32 := Scalar.muli v1008 c256_i32_777
  let v1058 : BitVec 32 := Scalar.addi v1057 c0_i32_778
  let c0_i32_781 : BitVec 32 := 0#32
  ![v1058.toNat, 0]
def k0_off65 (v876 : BitVec 32) (c0_i32_690 : BitVec 32) : Fin 2 → Nat :=
  let c256_i32_689 : BitVec 32 := 256#32
  let v937 : BitVec 32 := Scalar.muli v876 c256_i32_689
  let v938 : BitVec 32 := Scalar.addi v937 c0_i32_690
  let c0_i32_785 : BitVec 32 := 0#32
  ![v938.toNat, 0]

def k0_chk16 (v876 : BitVec 32) : Prop :=
  (∀ a, (k0_off55 v876) a + S1.size a ≤ S32.size a) ∧
  (∀ (r : Fin 2), ∀ a, (k0_off56 v876 (BitVec.ofNat 32 (128 * r.val))) a + S128x256.size a ≤ S8192x256.size a) ∧
  (∀ (r : Fin 2), ∀ (hinb : ∀ a, (k0_off56 v876 (BitVec.ofNat 32 (128 * r.val))) a + S128x256.size a ≤ S8192x256.size a), (Rect.unit (s := S8192x256) (k0_off56 v876 (BitVec.ofNat 32 (128 * r.val))) S128x256.size hinb).WholeWords (EltTy.packing .bf16)) ∧
  (∀ a, (k0_off59 v876) a + S256x256.size a ≤ S8192x256.size a) ∧
  (∀ (r : Fin 2), ∀ a, (k0_off65 v876 (BitVec.ofNat 32 (128 * r.val))) a + S128x256.size a ≤ S8192x256.size a) ∧
  (∀ (r : Fin 2), ∀ (hinb : ∀ a, (k0_off65 v876 (BitVec.ofNat 32 (128 * r.val))) a + S128x256.size a ≤ S8192x256.size a), (Rect.unit (s := S8192x256) (k0_off65 v876 (BitVec.ofNat 32 (128 * r.val))) S128x256.size hinb).WholeWords (EltTy.packing .bf16))
theorem k0_off55_inb : ∀ (v876 : BitVec 32) (k0_hw16 : k0_chk16 v876), ∀ a, (k0_off55 v876) a + S1.size a ≤ S32.size a := fun v876 k0_hw16 => k0_hw16.1
theorem k0_off56_inb : ∀ (v876 : BitVec 32) (k0_hw16 : k0_chk16 v876), ∀ (r : Fin 2), ∀ a, (k0_off56 v876 (BitVec.ofNat 32 (128 * r.val))) a + S128x256.size a ≤ S8192x256.size a := fun v876 k0_hw16 r => k0_hw16.2.1 r
theorem k0_off56_wordsbf16 : ∀ (v876 : BitVec 32) (k0_hw16 : k0_chk16 v876), ∀ (r : Fin 2), (Rect.unit (s := S8192x256) (k0_off56 v876 (BitVec.ofNat 32 (128 * r.val))) S128x256.size (k0_off56_inb v876 k0_hw16 r)).WholeWords (EltTy.packing .bf16) := fun v876 k0_hw16 r => k0_hw16.2.2.1 r (k0_off56_inb v876 k0_hw16 r)
theorem k0_off59_inb : ∀ (v876 : BitVec 32) (k0_hw16 : k0_chk16 v876), ∀ a, (k0_off59 v876) a + S256x256.size a ≤ S8192x256.size a := fun v876 k0_hw16 => k0_hw16.2.2.2.1
theorem k0_off65_inb : ∀ (v876 : BitVec 32) (k0_hw16 : k0_chk16 v876), ∀ (r : Fin 2), ∀ a, (k0_off65 v876 (BitVec.ofNat 32 (128 * r.val))) a + S128x256.size a ≤ S8192x256.size a := fun v876 k0_hw16 r => k0_hw16.2.2.2.2.1 r
theorem k0_off65_wordsbf16 : ∀ (v876 : BitVec 32) (k0_hw16 : k0_chk16 v876), ∀ (r : Fin 2), (Rect.unit (s := S8192x256) (k0_off65 v876 (BitVec.ofNat 32 (128 * r.val))) S128x256.size (k0_off65_inb v876 k0_hw16 r)).WholeWords (EltTy.packing .bf16) := fun v876 k0_hw16 r => k0_hw16.2.2.2.2.2 r (k0_off65_inb v876 k0_hw16 r)

def k0_dev37 (v3 : BitVec 32) : Nat :=
  let c0_i32_793 : BitVec 32 := 0#32
  let c1_i32_792 : BitVec 32 := 1#32
  let v1073 : BitVec 32 := Scalar.muli v3 c1_i32_792
  let v1074 : BitVec 32 := Scalar.addi c0_i32_793 v1073
  v1074.toNat
def k0_dev38 (v3 : BitVec 32) : Nat :=
  let c0_i32_812 : BitVec 32 := 0#32
  let c1_i32_811 : BitVec 32 := 1#32
  let v1097 : BitVec 32 := Scalar.muli v3 c1_i32_811
  let v1098 : BitVec 32 := Scalar.addi c0_i32_812 v1097
  v1098.toNat
def k0_off66 (v1007 : BitVec 32) : Fin 2 → Nat :=
  let c256_i32_815 : BitVec 32 := 256#32
  let v1105 : BitVec 32 := Scalar.muli v1007 c256_i32_815
  let v1106 : Index := Scalar.indexCast v1105
  let c0_816 : Index := 0#32
  ![v1106.toNat, 0]
def k0_off67 (v1008 : BitVec 32) : Fin 2 → Nat :=
  let c256_i32_826 : BitVec 32 := 256#32
  let v1122 : BitVec 32 := Scalar.muli v1008 c256_i32_826
  let v1123 : Index := Scalar.indexCast v1122
  let c0_827 : Index := 0#32
  ![v1123.toNat, 0]
def k0_off68 (v1139 : BitVec 32) : Fin 1 → Nat :=
  ![v1139.toNat]

def k0_off69 (v1139 : BitVec 32) (c0_i32_838 : BitVec 32) : Fin 2 → Nat :=
  let c256_i32_837 : BitVec 32 := 256#32
  let v1141 : BitVec 32 := Scalar.muli v1139 c256_i32_837
  let v1142 : BitVec 32 := Scalar.addi v1141 c0_i32_838
  let c0_i32_841 : BitVec 32 := 0#32
  ![v1142.toNat, 0]
def k0_off70 (v1007 : BitVec 32) (c0_i32_750 : BitVec 32) : Fin 2 → Nat :=
  let c256_i32_749 : BitVec 32 := 256#32
  let v1021 : BitVec 32 := Scalar.muli v1007 c256_i32_749
  let v1022 : BitVec 32 := Scalar.addi v1021 c0_i32_750
  let c0_i32_845 : BitVec 32 := 0#32
  ![v1022.toNat, 0]

def k0_chk17 (v1007 : BitVec 32) : Prop :=
  (∀ a, (k0_off60 v1007) a + S1.size a ≤ S32.size a) ∧
  (∀ (r : Fin 2), ∀ a, (k0_off61 v1007 (BitVec.ofNat 32 (128 * r.val))) a + S128x256.size a ≤ S8192x256.size a) ∧
  (∀ (r : Fin 2), ∀ (hinb : ∀ a, (k0_off61 v1007 (BitVec.ofNat 32 (128 * r.val))) a + S128x256.size a ≤ S8192x256.size a), (Rect.unit (s := S8192x256) (k0_off61 v1007 (BitVec.ofNat 32 (128 * r.val))) S128x256.size hinb).WholeWords (EltTy.packing .bf16)) ∧
  (∀ a, (k0_off66 v1007) a + S256x256.size a ≤ S8192x256.size a) ∧
  (∀ (r : Fin 2), ∀ a, (k0_off70 v1007 (BitVec.ofNat 32 (128 * r.val))) a + S128x256.size a ≤ S8192x256.size a) ∧
  (∀ (r : Fin 2), ∀ (hinb : ∀ a, (k0_off70 v1007 (BitVec.ofNat 32 (128 * r.val))) a + S128x256.size a ≤ S8192x256.size a), (Rect.unit (s := S8192x256) (k0_off70 v1007 (BitVec.ofNat 32 (128 * r.val))) S128x256.size hinb).WholeWords (EltTy.packing .bf16))
theorem k0_off60_inb : ∀ (v1007 : BitVec 32) (k0_hw17 : k0_chk17 v1007), ∀ a, (k0_off60 v1007) a + S1.size a ≤ S32.size a := fun v1007 k0_hw17 => k0_hw17.1
theorem k0_off61_inb : ∀ (v1007 : BitVec 32) (k0_hw17 : k0_chk17 v1007), ∀ (r : Fin 2), ∀ a, (k0_off61 v1007 (BitVec.ofNat 32 (128 * r.val))) a + S128x256.size a ≤ S8192x256.size a := fun v1007 k0_hw17 r => k0_hw17.2.1 r
theorem k0_off61_wordsbf16 : ∀ (v1007 : BitVec 32) (k0_hw17 : k0_chk17 v1007), ∀ (r : Fin 2), (Rect.unit (s := S8192x256) (k0_off61 v1007 (BitVec.ofNat 32 (128 * r.val))) S128x256.size (k0_off61_inb v1007 k0_hw17 r)).WholeWords (EltTy.packing .bf16) := fun v1007 k0_hw17 r => k0_hw17.2.2.1 r (k0_off61_inb v1007 k0_hw17 r)
theorem k0_off66_inb : ∀ (v1007 : BitVec 32) (k0_hw17 : k0_chk17 v1007), ∀ a, (k0_off66 v1007) a + S256x256.size a ≤ S8192x256.size a := fun v1007 k0_hw17 => k0_hw17.2.2.2.1
theorem k0_off70_inb : ∀ (v1007 : BitVec 32) (k0_hw17 : k0_chk17 v1007), ∀ (r : Fin 2), ∀ a, (k0_off70 v1007 (BitVec.ofNat 32 (128 * r.val))) a + S128x256.size a ≤ S8192x256.size a := fun v1007 k0_hw17 r => k0_hw17.2.2.2.2.1 r
theorem k0_off70_wordsbf16 : ∀ (v1007 : BitVec 32) (k0_hw17 : k0_chk17 v1007), ∀ (r : Fin 2), (Rect.unit (s := S8192x256) (k0_off70 v1007 (BitVec.ofNat 32 (128 * r.val))) S128x256.size (k0_off70_inb v1007 k0_hw17 r)).WholeWords (EltTy.packing .bf16) := fun v1007 k0_hw17 r => k0_hw17.2.2.2.2.2 r (k0_off70_inb v1007 k0_hw17 r)

def k0_dev39 (v4 : BitVec 32) : Nat :=
  let c0_i32_853 : BitVec 32 := 0#32
  let c1_i32_852 : BitVec 32 := 1#32
  let v1157 : BitVec 32 := Scalar.muli v4 c1_i32_852
  let v1158 : BitVec 32 := Scalar.addi c0_i32_853 v1157
  v1158.toNat
def k0_dev40 (v4 : BitVec 32) : Nat :=
  let c0_i32_872 : BitVec 32 := 0#32
  let c1_i32_871 : BitVec 32 := 1#32
  let v1181 : BitVec 32 := Scalar.muli v4 c1_i32_871
  let v1182 : BitVec 32 := Scalar.addi c0_i32_872 v1181
  v1182.toNat
def k0_off71 (v1140 : BitVec 32) : Fin 1 → Nat :=
  ![v1140.toNat]

def k0_off72 (v1140 : BitVec 32) (c0_i32_876 : BitVec 32) : Fin 2 → Nat :=
  let c256_i32_875 : BitVec 32 := 256#32
  let v1189 : BitVec 32 := Scalar.muli v1140 c256_i32_875
  let v1190 : BitVec 32 := Scalar.addi v1189 c0_i32_876
  let c0_i32_879 : BitVec 32 := 0#32
  ![v1190.toNat, 0]
def k0_off73 (v1008 : BitVec 32) (c0_i32_788 : BitVec 32) : Fin 2 → Nat :=
  let c256_i32_787 : BitVec 32 := 256#32
  let v1069 : BitVec 32 := Scalar.muli v1008 c256_i32_787
  let v1070 : BitVec 32 := Scalar.addi v1069 c0_i32_788
  let c0_i32_883 : BitVec 32 := 0#32
  ![v1070.toNat, 0]

def k0_chk18 (v1008 : BitVec 32) : Prop :=
  (∀ a, (k0_off63 v1008) a + S1.size a ≤ S32.size a) ∧
  (∀ (r : Fin 2), ∀ a, (k0_off64 v1008 (BitVec.ofNat 32 (128 * r.val))) a + S128x256.size a ≤ S8192x256.size a) ∧
  (∀ (r : Fin 2), ∀ (hinb : ∀ a, (k0_off64 v1008 (BitVec.ofNat 32 (128 * r.val))) a + S128x256.size a ≤ S8192x256.size a), (Rect.unit (s := S8192x256) (k0_off64 v1008 (BitVec.ofNat 32 (128 * r.val))) S128x256.size hinb).WholeWords (EltTy.packing .bf16)) ∧
  (∀ a, (k0_off67 v1008) a + S256x256.size a ≤ S8192x256.size a) ∧
  (∀ (r : Fin 2), ∀ a, (k0_off73 v1008 (BitVec.ofNat 32 (128 * r.val))) a + S128x256.size a ≤ S8192x256.size a) ∧
  (∀ (r : Fin 2), ∀ (hinb : ∀ a, (k0_off73 v1008 (BitVec.ofNat 32 (128 * r.val))) a + S128x256.size a ≤ S8192x256.size a), (Rect.unit (s := S8192x256) (k0_off73 v1008 (BitVec.ofNat 32 (128 * r.val))) S128x256.size hinb).WholeWords (EltTy.packing .bf16))
theorem k0_off63_inb : ∀ (v1008 : BitVec 32) (k0_hw18 : k0_chk18 v1008), ∀ a, (k0_off63 v1008) a + S1.size a ≤ S32.size a := fun v1008 k0_hw18 => k0_hw18.1
theorem k0_off64_inb : ∀ (v1008 : BitVec 32) (k0_hw18 : k0_chk18 v1008), ∀ (r : Fin 2), ∀ a, (k0_off64 v1008 (BitVec.ofNat 32 (128 * r.val))) a + S128x256.size a ≤ S8192x256.size a := fun v1008 k0_hw18 r => k0_hw18.2.1 r
theorem k0_off64_wordsbf16 : ∀ (v1008 : BitVec 32) (k0_hw18 : k0_chk18 v1008), ∀ (r : Fin 2), (Rect.unit (s := S8192x256) (k0_off64 v1008 (BitVec.ofNat 32 (128 * r.val))) S128x256.size (k0_off64_inb v1008 k0_hw18 r)).WholeWords (EltTy.packing .bf16) := fun v1008 k0_hw18 r => k0_hw18.2.2.1 r (k0_off64_inb v1008 k0_hw18 r)
theorem k0_off67_inb : ∀ (v1008 : BitVec 32) (k0_hw18 : k0_chk18 v1008), ∀ a, (k0_off67 v1008) a + S256x256.size a ≤ S8192x256.size a := fun v1008 k0_hw18 => k0_hw18.2.2.2.1
theorem k0_off73_inb : ∀ (v1008 : BitVec 32) (k0_hw18 : k0_chk18 v1008), ∀ (r : Fin 2), ∀ a, (k0_off73 v1008 (BitVec.ofNat 32 (128 * r.val))) a + S128x256.size a ≤ S8192x256.size a := fun v1008 k0_hw18 r => k0_hw18.2.2.2.2.1 r
theorem k0_off73_wordsbf16 : ∀ (v1008 : BitVec 32) (k0_hw18 : k0_chk18 v1008), ∀ (r : Fin 2), (Rect.unit (s := S8192x256) (k0_off73 v1008 (BitVec.ofNat 32 (128 * r.val))) S128x256.size (k0_off73_inb v1008 k0_hw18 r)).WholeWords (EltTy.packing .bf16) := fun v1008 k0_hw18 r => k0_hw18.2.2.2.2.2 r (k0_off73_inb v1008 k0_hw18 r)

def k0_dev41 (v3 : BitVec 32) : Nat :=
  let c0_i32_891 : BitVec 32 := 0#32
  let c1_i32_890 : BitVec 32 := 1#32
  let v1205 : BitVec 32 := Scalar.muli v3 c1_i32_890
  let v1206 : BitVec 32 := Scalar.addi c0_i32_891 v1205
  v1206.toNat
def k0_dev42 (v3 : BitVec 32) : Nat :=
  let c0_i32_910 : BitVec 32 := 0#32
  let c1_i32_909 : BitVec 32 := 1#32
  let v1229 : BitVec 32 := Scalar.muli v3 c1_i32_909
  let v1230 : BitVec 32 := Scalar.addi c0_i32_910 v1229
  v1230.toNat
def k0_off74 (v1139 : BitVec 32) : Fin 2 → Nat :=
  let c256_i32_913 : BitVec 32 := 256#32
  let v1237 : BitVec 32 := Scalar.muli v1139 c256_i32_913
  let v1238 : Index := Scalar.indexCast v1237
  let c0_914 : Index := 0#32
  ![v1238.toNat, 0]
def k0_off75 (v1140 : BitVec 32) : Fin 2 → Nat :=
  let c256_i32_924 : BitVec 32 := 256#32
  let v1254 : BitVec 32 := Scalar.muli v1140 c256_i32_924
  let v1255 : Index := Scalar.indexCast v1254
  let c0_925 : Index := 0#32
  ![v1255.toNat, 0]
def k0_off76 (v1271 : BitVec 32) : Fin 1 → Nat :=
  ![v1271.toNat]

def k0_off77 (v1271 : BitVec 32) (c0_i32_936 : BitVec 32) : Fin 2 → Nat :=
  let c256_i32_935 : BitVec 32 := 256#32
  let v1273 : BitVec 32 := Scalar.muli v1271 c256_i32_935
  let v1274 : BitVec 32 := Scalar.addi v1273 c0_i32_936
  let c0_i32_939 : BitVec 32 := 0#32
  ![v1274.toNat, 0]
def k0_off78 (v1139 : BitVec 32) (c0_i32_848 : BitVec 32) : Fin 2 → Nat :=
  let c256_i32_847 : BitVec 32 := 256#32
  let v1153 : BitVec 32 := Scalar.muli v1139 c256_i32_847
  let v1154 : BitVec 32 := Scalar.addi v1153 c0_i32_848
  let c0_i32_943 : BitVec 32 := 0#32
  ![v1154.toNat, 0]

def k0_chk19 (v1139 : BitVec 32) : Prop :=
  (∀ a, (k0_off68 v1139) a + S1.size a ≤ S32.size a) ∧
  (∀ (r : Fin 2), ∀ a, (k0_off69 v1139 (BitVec.ofNat 32 (128 * r.val))) a + S128x256.size a ≤ S8192x256.size a) ∧
  (∀ (r : Fin 2), ∀ (hinb : ∀ a, (k0_off69 v1139 (BitVec.ofNat 32 (128 * r.val))) a + S128x256.size a ≤ S8192x256.size a), (Rect.unit (s := S8192x256) (k0_off69 v1139 (BitVec.ofNat 32 (128 * r.val))) S128x256.size hinb).WholeWords (EltTy.packing .bf16)) ∧
  (∀ a, (k0_off74 v1139) a + S256x256.size a ≤ S8192x256.size a) ∧
  (∀ (r : Fin 2), ∀ a, (k0_off78 v1139 (BitVec.ofNat 32 (128 * r.val))) a + S128x256.size a ≤ S8192x256.size a) ∧
  (∀ (r : Fin 2), ∀ (hinb : ∀ a, (k0_off78 v1139 (BitVec.ofNat 32 (128 * r.val))) a + S128x256.size a ≤ S8192x256.size a), (Rect.unit (s := S8192x256) (k0_off78 v1139 (BitVec.ofNat 32 (128 * r.val))) S128x256.size hinb).WholeWords (EltTy.packing .bf16))
theorem k0_off68_inb : ∀ (v1139 : BitVec 32) (k0_hw19 : k0_chk19 v1139), ∀ a, (k0_off68 v1139) a + S1.size a ≤ S32.size a := fun v1139 k0_hw19 => k0_hw19.1
theorem k0_off69_inb : ∀ (v1139 : BitVec 32) (k0_hw19 : k0_chk19 v1139), ∀ (r : Fin 2), ∀ a, (k0_off69 v1139 (BitVec.ofNat 32 (128 * r.val))) a + S128x256.size a ≤ S8192x256.size a := fun v1139 k0_hw19 r => k0_hw19.2.1 r
theorem k0_off69_wordsbf16 : ∀ (v1139 : BitVec 32) (k0_hw19 : k0_chk19 v1139), ∀ (r : Fin 2), (Rect.unit (s := S8192x256) (k0_off69 v1139 (BitVec.ofNat 32 (128 * r.val))) S128x256.size (k0_off69_inb v1139 k0_hw19 r)).WholeWords (EltTy.packing .bf16) := fun v1139 k0_hw19 r => k0_hw19.2.2.1 r (k0_off69_inb v1139 k0_hw19 r)
theorem k0_off74_inb : ∀ (v1139 : BitVec 32) (k0_hw19 : k0_chk19 v1139), ∀ a, (k0_off74 v1139) a + S256x256.size a ≤ S8192x256.size a := fun v1139 k0_hw19 => k0_hw19.2.2.2.1
theorem k0_off78_inb : ∀ (v1139 : BitVec 32) (k0_hw19 : k0_chk19 v1139), ∀ (r : Fin 2), ∀ a, (k0_off78 v1139 (BitVec.ofNat 32 (128 * r.val))) a + S128x256.size a ≤ S8192x256.size a := fun v1139 k0_hw19 r => k0_hw19.2.2.2.2.1 r
theorem k0_off78_wordsbf16 : ∀ (v1139 : BitVec 32) (k0_hw19 : k0_chk19 v1139), ∀ (r : Fin 2), (Rect.unit (s := S8192x256) (k0_off78 v1139 (BitVec.ofNat 32 (128 * r.val))) S128x256.size (k0_off78_inb v1139 k0_hw19 r)).WholeWords (EltTy.packing .bf16) := fun v1139 k0_hw19 r => k0_hw19.2.2.2.2.2 r (k0_off78_inb v1139 k0_hw19 r)

def k0_dev43 (v4 : BitVec 32) : Nat :=
  let c0_i32_951 : BitVec 32 := 0#32
  let c1_i32_950 : BitVec 32 := 1#32
  let v1289 : BitVec 32 := Scalar.muli v4 c1_i32_950
  let v1290 : BitVec 32 := Scalar.addi c0_i32_951 v1289
  v1290.toNat
def k0_dev44 (v4 : BitVec 32) : Nat :=
  let c0_i32_970 : BitVec 32 := 0#32
  let c1_i32_969 : BitVec 32 := 1#32
  let v1313 : BitVec 32 := Scalar.muli v4 c1_i32_969
  let v1314 : BitVec 32 := Scalar.addi c0_i32_970 v1313
  v1314.toNat
def k0_off79 (v1272 : BitVec 32) : Fin 1 → Nat :=
  ![v1272.toNat]

def k0_off80 (v1272 : BitVec 32) (c0_i32_974 : BitVec 32) : Fin 2 → Nat :=
  let c256_i32_973 : BitVec 32 := 256#32
  let v1321 : BitVec 32 := Scalar.muli v1272 c256_i32_973
  let v1322 : BitVec 32 := Scalar.addi v1321 c0_i32_974
  let c0_i32_977 : BitVec 32 := 0#32
  ![v1322.toNat, 0]
def k0_off81 (v1140 : BitVec 32) (c0_i32_886 : BitVec 32) : Fin 2 → Nat :=
  let c256_i32_885 : BitVec 32 := 256#32
  let v1201 : BitVec 32 := Scalar.muli v1140 c256_i32_885
  let v1202 : BitVec 32 := Scalar.addi v1201 c0_i32_886
  let c0_i32_981 : BitVec 32 := 0#32
  ![v1202.toNat, 0]

def k0_chk20 (v1140 : BitVec 32) : Prop :=
  (∀ a, (k0_off71 v1140) a + S1.size a ≤ S32.size a) ∧
  (∀ (r : Fin 2), ∀ a, (k0_off72 v1140 (BitVec.ofNat 32 (128 * r.val))) a + S128x256.size a ≤ S8192x256.size a) ∧
  (∀ (r : Fin 2), ∀ (hinb : ∀ a, (k0_off72 v1140 (BitVec.ofNat 32 (128 * r.val))) a + S128x256.size a ≤ S8192x256.size a), (Rect.unit (s := S8192x256) (k0_off72 v1140 (BitVec.ofNat 32 (128 * r.val))) S128x256.size hinb).WholeWords (EltTy.packing .bf16)) ∧
  (∀ a, (k0_off75 v1140) a + S256x256.size a ≤ S8192x256.size a) ∧
  (∀ (r : Fin 2), ∀ a, (k0_off81 v1140 (BitVec.ofNat 32 (128 * r.val))) a + S128x256.size a ≤ S8192x256.size a) ∧
  (∀ (r : Fin 2), ∀ (hinb : ∀ a, (k0_off81 v1140 (BitVec.ofNat 32 (128 * r.val))) a + S128x256.size a ≤ S8192x256.size a), (Rect.unit (s := S8192x256) (k0_off81 v1140 (BitVec.ofNat 32 (128 * r.val))) S128x256.size hinb).WholeWords (EltTy.packing .bf16))
theorem k0_off71_inb : ∀ (v1140 : BitVec 32) (k0_hw20 : k0_chk20 v1140), ∀ a, (k0_off71 v1140) a + S1.size a ≤ S32.size a := fun v1140 k0_hw20 => k0_hw20.1
theorem k0_off72_inb : ∀ (v1140 : BitVec 32) (k0_hw20 : k0_chk20 v1140), ∀ (r : Fin 2), ∀ a, (k0_off72 v1140 (BitVec.ofNat 32 (128 * r.val))) a + S128x256.size a ≤ S8192x256.size a := fun v1140 k0_hw20 r => k0_hw20.2.1 r
theorem k0_off72_wordsbf16 : ∀ (v1140 : BitVec 32) (k0_hw20 : k0_chk20 v1140), ∀ (r : Fin 2), (Rect.unit (s := S8192x256) (k0_off72 v1140 (BitVec.ofNat 32 (128 * r.val))) S128x256.size (k0_off72_inb v1140 k0_hw20 r)).WholeWords (EltTy.packing .bf16) := fun v1140 k0_hw20 r => k0_hw20.2.2.1 r (k0_off72_inb v1140 k0_hw20 r)
theorem k0_off75_inb : ∀ (v1140 : BitVec 32) (k0_hw20 : k0_chk20 v1140), ∀ a, (k0_off75 v1140) a + S256x256.size a ≤ S8192x256.size a := fun v1140 k0_hw20 => k0_hw20.2.2.2.1
theorem k0_off81_inb : ∀ (v1140 : BitVec 32) (k0_hw20 : k0_chk20 v1140), ∀ (r : Fin 2), ∀ a, (k0_off81 v1140 (BitVec.ofNat 32 (128 * r.val))) a + S128x256.size a ≤ S8192x256.size a := fun v1140 k0_hw20 r => k0_hw20.2.2.2.2.1 r
theorem k0_off81_wordsbf16 : ∀ (v1140 : BitVec 32) (k0_hw20 : k0_chk20 v1140), ∀ (r : Fin 2), (Rect.unit (s := S8192x256) (k0_off81 v1140 (BitVec.ofNat 32 (128 * r.val))) S128x256.size (k0_off81_inb v1140 k0_hw20 r)).WholeWords (EltTy.packing .bf16) := fun v1140 k0_hw20 r => k0_hw20.2.2.2.2.2 r (k0_off81_inb v1140 k0_hw20 r)

def k0_dev45 (v3 : BitVec 32) : Nat :=
  let c0_i32_989 : BitVec 32 := 0#32
  let c1_i32_988 : BitVec 32 := 1#32
  let v1337 : BitVec 32 := Scalar.muli v3 c1_i32_988
  let v1338 : BitVec 32 := Scalar.addi c0_i32_989 v1337
  v1338.toNat
def k0_dev46 (v3 : BitVec 32) : Nat :=
  let c0_i32_1008 : BitVec 32 := 0#32
  let c1_i32_1007 : BitVec 32 := 1#32
  let v1361 : BitVec 32 := Scalar.muli v3 c1_i32_1007
  let v1362 : BitVec 32 := Scalar.addi c0_i32_1008 v1361
  v1362.toNat
def k0_off82 (v1271 : BitVec 32) : Fin 2 → Nat :=
  let c256_i32_1011 : BitVec 32 := 256#32
  let v1369 : BitVec 32 := Scalar.muli v1271 c256_i32_1011
  let v1370 : Index := Scalar.indexCast v1369
  let c0_1012 : Index := 0#32
  ![v1370.toNat, 0]
def k0_off83 (v1272 : BitVec 32) : Fin 2 → Nat :=
  let c256_i32_1022 : BitVec 32 := 256#32
  let v1386 : BitVec 32 := Scalar.muli v1272 c256_i32_1022
  let v1387 : Index := Scalar.indexCast v1386
  let c0_1023 : Index := 0#32
  ![v1387.toNat, 0]
def k0_off84 (v1403 : BitVec 32) : Fin 1 → Nat :=
  ![v1403.toNat]

def k0_off85 (v1403 : BitVec 32) (c0_i32_1034 : BitVec 32) : Fin 2 → Nat :=
  let c256_i32_1033 : BitVec 32 := 256#32
  let v1405 : BitVec 32 := Scalar.muli v1403 c256_i32_1033
  let v1406 : BitVec 32 := Scalar.addi v1405 c0_i32_1034
  let c0_i32_1037 : BitVec 32 := 0#32
  ![v1406.toNat, 0]
def k0_off86 (v1271 : BitVec 32) (c0_i32_946 : BitVec 32) : Fin 2 → Nat :=
  let c256_i32_945 : BitVec 32 := 256#32
  let v1285 : BitVec 32 := Scalar.muli v1271 c256_i32_945
  let v1286 : BitVec 32 := Scalar.addi v1285 c0_i32_946
  let c0_i32_1041 : BitVec 32 := 0#32
  ![v1286.toNat, 0]

def k0_chk21 (v1271 : BitVec 32) : Prop :=
  (∀ a, (k0_off76 v1271) a + S1.size a ≤ S32.size a) ∧
  (∀ (r : Fin 2), ∀ a, (k0_off77 v1271 (BitVec.ofNat 32 (128 * r.val))) a + S128x256.size a ≤ S8192x256.size a) ∧
  (∀ (r : Fin 2), ∀ (hinb : ∀ a, (k0_off77 v1271 (BitVec.ofNat 32 (128 * r.val))) a + S128x256.size a ≤ S8192x256.size a), (Rect.unit (s := S8192x256) (k0_off77 v1271 (BitVec.ofNat 32 (128 * r.val))) S128x256.size hinb).WholeWords (EltTy.packing .bf16)) ∧
  (∀ a, (k0_off82 v1271) a + S256x256.size a ≤ S8192x256.size a) ∧
  (∀ (r : Fin 2), ∀ a, (k0_off86 v1271 (BitVec.ofNat 32 (128 * r.val))) a + S128x256.size a ≤ S8192x256.size a) ∧
  (∀ (r : Fin 2), ∀ (hinb : ∀ a, (k0_off86 v1271 (BitVec.ofNat 32 (128 * r.val))) a + S128x256.size a ≤ S8192x256.size a), (Rect.unit (s := S8192x256) (k0_off86 v1271 (BitVec.ofNat 32 (128 * r.val))) S128x256.size hinb).WholeWords (EltTy.packing .bf16))
theorem k0_off76_inb : ∀ (v1271 : BitVec 32) (k0_hw21 : k0_chk21 v1271), ∀ a, (k0_off76 v1271) a + S1.size a ≤ S32.size a := fun v1271 k0_hw21 => k0_hw21.1
theorem k0_off77_inb : ∀ (v1271 : BitVec 32) (k0_hw21 : k0_chk21 v1271), ∀ (r : Fin 2), ∀ a, (k0_off77 v1271 (BitVec.ofNat 32 (128 * r.val))) a + S128x256.size a ≤ S8192x256.size a := fun v1271 k0_hw21 r => k0_hw21.2.1 r
theorem k0_off77_wordsbf16 : ∀ (v1271 : BitVec 32) (k0_hw21 : k0_chk21 v1271), ∀ (r : Fin 2), (Rect.unit (s := S8192x256) (k0_off77 v1271 (BitVec.ofNat 32 (128 * r.val))) S128x256.size (k0_off77_inb v1271 k0_hw21 r)).WholeWords (EltTy.packing .bf16) := fun v1271 k0_hw21 r => k0_hw21.2.2.1 r (k0_off77_inb v1271 k0_hw21 r)
theorem k0_off82_inb : ∀ (v1271 : BitVec 32) (k0_hw21 : k0_chk21 v1271), ∀ a, (k0_off82 v1271) a + S256x256.size a ≤ S8192x256.size a := fun v1271 k0_hw21 => k0_hw21.2.2.2.1
theorem k0_off86_inb : ∀ (v1271 : BitVec 32) (k0_hw21 : k0_chk21 v1271), ∀ (r : Fin 2), ∀ a, (k0_off86 v1271 (BitVec.ofNat 32 (128 * r.val))) a + S128x256.size a ≤ S8192x256.size a := fun v1271 k0_hw21 r => k0_hw21.2.2.2.2.1 r
theorem k0_off86_wordsbf16 : ∀ (v1271 : BitVec 32) (k0_hw21 : k0_chk21 v1271), ∀ (r : Fin 2), (Rect.unit (s := S8192x256) (k0_off86 v1271 (BitVec.ofNat 32 (128 * r.val))) S128x256.size (k0_off86_inb v1271 k0_hw21 r)).WholeWords (EltTy.packing .bf16) := fun v1271 k0_hw21 r => k0_hw21.2.2.2.2.2 r (k0_off86_inb v1271 k0_hw21 r)

def k0_dev47 (v4 : BitVec 32) : Nat :=
  let c0_i32_1049 : BitVec 32 := 0#32
  let c1_i32_1048 : BitVec 32 := 1#32
  let v1421 : BitVec 32 := Scalar.muli v4 c1_i32_1048
  let v1422 : BitVec 32 := Scalar.addi c0_i32_1049 v1421
  v1422.toNat
def k0_dev48 (v4 : BitVec 32) : Nat :=
  let c0_i32_1068 : BitVec 32 := 0#32
  let c1_i32_1067 : BitVec 32 := 1#32
  let v1445 : BitVec 32 := Scalar.muli v4 c1_i32_1067
  let v1446 : BitVec 32 := Scalar.addi c0_i32_1068 v1445
  v1446.toNat
def k0_off87 (v1404 : BitVec 32) : Fin 1 → Nat :=
  ![v1404.toNat]

def k0_off88 (v1404 : BitVec 32) (c0_i32_1072 : BitVec 32) : Fin 2 → Nat :=
  let c256_i32_1071 : BitVec 32 := 256#32
  let v1453 : BitVec 32 := Scalar.muli v1404 c256_i32_1071
  let v1454 : BitVec 32 := Scalar.addi v1453 c0_i32_1072
  let c0_i32_1075 : BitVec 32 := 0#32
  ![v1454.toNat, 0]
def k0_off89 (v1272 : BitVec 32) (c0_i32_984 : BitVec 32) : Fin 2 → Nat :=
  let c256_i32_983 : BitVec 32 := 256#32
  let v1333 : BitVec 32 := Scalar.muli v1272 c256_i32_983
  let v1334 : BitVec 32 := Scalar.addi v1333 c0_i32_984
  let c0_i32_1079 : BitVec 32 := 0#32
  ![v1334.toNat, 0]

def k0_chk22 (v1272 : BitVec 32) : Prop :=
  (∀ a, (k0_off79 v1272) a + S1.size a ≤ S32.size a) ∧
  (∀ (r : Fin 2), ∀ a, (k0_off80 v1272 (BitVec.ofNat 32 (128 * r.val))) a + S128x256.size a ≤ S8192x256.size a) ∧
  (∀ (r : Fin 2), ∀ (hinb : ∀ a, (k0_off80 v1272 (BitVec.ofNat 32 (128 * r.val))) a + S128x256.size a ≤ S8192x256.size a), (Rect.unit (s := S8192x256) (k0_off80 v1272 (BitVec.ofNat 32 (128 * r.val))) S128x256.size hinb).WholeWords (EltTy.packing .bf16)) ∧
  (∀ a, (k0_off83 v1272) a + S256x256.size a ≤ S8192x256.size a) ∧
  (∀ (r : Fin 2), ∀ a, (k0_off89 v1272 (BitVec.ofNat 32 (128 * r.val))) a + S128x256.size a ≤ S8192x256.size a) ∧
  (∀ (r : Fin 2), ∀ (hinb : ∀ a, (k0_off89 v1272 (BitVec.ofNat 32 (128 * r.val))) a + S128x256.size a ≤ S8192x256.size a), (Rect.unit (s := S8192x256) (k0_off89 v1272 (BitVec.ofNat 32 (128 * r.val))) S128x256.size hinb).WholeWords (EltTy.packing .bf16))
theorem k0_off79_inb : ∀ (v1272 : BitVec 32) (k0_hw22 : k0_chk22 v1272), ∀ a, (k0_off79 v1272) a + S1.size a ≤ S32.size a := fun v1272 k0_hw22 => k0_hw22.1
theorem k0_off80_inb : ∀ (v1272 : BitVec 32) (k0_hw22 : k0_chk22 v1272), ∀ (r : Fin 2), ∀ a, (k0_off80 v1272 (BitVec.ofNat 32 (128 * r.val))) a + S128x256.size a ≤ S8192x256.size a := fun v1272 k0_hw22 r => k0_hw22.2.1 r
theorem k0_off80_wordsbf16 : ∀ (v1272 : BitVec 32) (k0_hw22 : k0_chk22 v1272), ∀ (r : Fin 2), (Rect.unit (s := S8192x256) (k0_off80 v1272 (BitVec.ofNat 32 (128 * r.val))) S128x256.size (k0_off80_inb v1272 k0_hw22 r)).WholeWords (EltTy.packing .bf16) := fun v1272 k0_hw22 r => k0_hw22.2.2.1 r (k0_off80_inb v1272 k0_hw22 r)
theorem k0_off83_inb : ∀ (v1272 : BitVec 32) (k0_hw22 : k0_chk22 v1272), ∀ a, (k0_off83 v1272) a + S256x256.size a ≤ S8192x256.size a := fun v1272 k0_hw22 => k0_hw22.2.2.2.1
theorem k0_off89_inb : ∀ (v1272 : BitVec 32) (k0_hw22 : k0_chk22 v1272), ∀ (r : Fin 2), ∀ a, (k0_off89 v1272 (BitVec.ofNat 32 (128 * r.val))) a + S128x256.size a ≤ S8192x256.size a := fun v1272 k0_hw22 r => k0_hw22.2.2.2.2.1 r
theorem k0_off89_wordsbf16 : ∀ (v1272 : BitVec 32) (k0_hw22 : k0_chk22 v1272), ∀ (r : Fin 2), (Rect.unit (s := S8192x256) (k0_off89 v1272 (BitVec.ofNat 32 (128 * r.val))) S128x256.size (k0_off89_inb v1272 k0_hw22 r)).WholeWords (EltTy.packing .bf16) := fun v1272 k0_hw22 r => k0_hw22.2.2.2.2.2 r (k0_off89_inb v1272 k0_hw22 r)

def k0_dev49 (v3 : BitVec 32) : Nat :=
  let c0_i32_1087 : BitVec 32 := 0#32
  let c1_i32_1086 : BitVec 32 := 1#32
  let v1469 : BitVec 32 := Scalar.muli v3 c1_i32_1086
  let v1470 : BitVec 32 := Scalar.addi c0_i32_1087 v1469
  v1470.toNat
def k0_dev50 (v3 : BitVec 32) : Nat :=
  let c0_i32_1106 : BitVec 32 := 0#32
  let c1_i32_1105 : BitVec 32 := 1#32
  let v1493 : BitVec 32 := Scalar.muli v3 c1_i32_1105
  let v1494 : BitVec 32 := Scalar.addi c0_i32_1106 v1493
  v1494.toNat
def k0_off90 (v1403 : BitVec 32) : Fin 2 → Nat :=
  let c256_i32_1109 : BitVec 32 := 256#32
  let v1501 : BitVec 32 := Scalar.muli v1403 c256_i32_1109
  let v1502 : Index := Scalar.indexCast v1501
  let c0_1110 : Index := 0#32
  ![v1502.toNat, 0]
def k0_off91 (v1404 : BitVec 32) : Fin 2 → Nat :=
  let c256_i32_1120 : BitVec 32 := 256#32
  let v1518 : BitVec 32 := Scalar.muli v1404 c256_i32_1120
  let v1519 : Index := Scalar.indexCast v1518
  let c0_1121 : Index := 0#32
  ![v1519.toNat, 0]
def k0_off92 (v1535 : BitVec 32) : Fin 1 → Nat :=
  ![v1535.toNat]

def k0_off93 (v1535 : BitVec 32) (c0_i32_1132 : BitVec 32) : Fin 2 → Nat :=
  let c256_i32_1131 : BitVec 32 := 256#32
  let v1537 : BitVec 32 := Scalar.muli v1535 c256_i32_1131
  let v1538 : BitVec 32 := Scalar.addi v1537 c0_i32_1132
  let c0_i32_1135 : BitVec 32 := 0#32
  ![v1538.toNat, 0]
def k0_off94 (v1403 : BitVec 32) (c0_i32_1044 : BitVec 32) : Fin 2 → Nat :=
  let c256_i32_1043 : BitVec 32 := 256#32
  let v1417 : BitVec 32 := Scalar.muli v1403 c256_i32_1043
  let v1418 : BitVec 32 := Scalar.addi v1417 c0_i32_1044
  let c0_i32_1139 : BitVec 32 := 0#32
  ![v1418.toNat, 0]

def k0_chk23 (v1403 : BitVec 32) : Prop :=
  (∀ a, (k0_off84 v1403) a + S1.size a ≤ S32.size a) ∧
  (∀ (r : Fin 2), ∀ a, (k0_off85 v1403 (BitVec.ofNat 32 (128 * r.val))) a + S128x256.size a ≤ S8192x256.size a) ∧
  (∀ (r : Fin 2), ∀ (hinb : ∀ a, (k0_off85 v1403 (BitVec.ofNat 32 (128 * r.val))) a + S128x256.size a ≤ S8192x256.size a), (Rect.unit (s := S8192x256) (k0_off85 v1403 (BitVec.ofNat 32 (128 * r.val))) S128x256.size hinb).WholeWords (EltTy.packing .bf16)) ∧
  (∀ a, (k0_off90 v1403) a + S256x256.size a ≤ S8192x256.size a) ∧
  (∀ (r : Fin 2), ∀ a, (k0_off94 v1403 (BitVec.ofNat 32 (128 * r.val))) a + S128x256.size a ≤ S8192x256.size a) ∧
  (∀ (r : Fin 2), ∀ (hinb : ∀ a, (k0_off94 v1403 (BitVec.ofNat 32 (128 * r.val))) a + S128x256.size a ≤ S8192x256.size a), (Rect.unit (s := S8192x256) (k0_off94 v1403 (BitVec.ofNat 32 (128 * r.val))) S128x256.size hinb).WholeWords (EltTy.packing .bf16))
theorem k0_off84_inb : ∀ (v1403 : BitVec 32) (k0_hw23 : k0_chk23 v1403), ∀ a, (k0_off84 v1403) a + S1.size a ≤ S32.size a := fun v1403 k0_hw23 => k0_hw23.1
theorem k0_off85_inb : ∀ (v1403 : BitVec 32) (k0_hw23 : k0_chk23 v1403), ∀ (r : Fin 2), ∀ a, (k0_off85 v1403 (BitVec.ofNat 32 (128 * r.val))) a + S128x256.size a ≤ S8192x256.size a := fun v1403 k0_hw23 r => k0_hw23.2.1 r
theorem k0_off85_wordsbf16 : ∀ (v1403 : BitVec 32) (k0_hw23 : k0_chk23 v1403), ∀ (r : Fin 2), (Rect.unit (s := S8192x256) (k0_off85 v1403 (BitVec.ofNat 32 (128 * r.val))) S128x256.size (k0_off85_inb v1403 k0_hw23 r)).WholeWords (EltTy.packing .bf16) := fun v1403 k0_hw23 r => k0_hw23.2.2.1 r (k0_off85_inb v1403 k0_hw23 r)
theorem k0_off90_inb : ∀ (v1403 : BitVec 32) (k0_hw23 : k0_chk23 v1403), ∀ a, (k0_off90 v1403) a + S256x256.size a ≤ S8192x256.size a := fun v1403 k0_hw23 => k0_hw23.2.2.2.1
theorem k0_off94_inb : ∀ (v1403 : BitVec 32) (k0_hw23 : k0_chk23 v1403), ∀ (r : Fin 2), ∀ a, (k0_off94 v1403 (BitVec.ofNat 32 (128 * r.val))) a + S128x256.size a ≤ S8192x256.size a := fun v1403 k0_hw23 r => k0_hw23.2.2.2.2.1 r
theorem k0_off94_wordsbf16 : ∀ (v1403 : BitVec 32) (k0_hw23 : k0_chk23 v1403), ∀ (r : Fin 2), (Rect.unit (s := S8192x256) (k0_off94 v1403 (BitVec.ofNat 32 (128 * r.val))) S128x256.size (k0_off94_inb v1403 k0_hw23 r)).WholeWords (EltTy.packing .bf16) := fun v1403 k0_hw23 r => k0_hw23.2.2.2.2.2 r (k0_off94_inb v1403 k0_hw23 r)

def k0_dev51 (v4 : BitVec 32) : Nat :=
  let c0_i32_1147 : BitVec 32 := 0#32
  let c1_i32_1146 : BitVec 32 := 1#32
  let v1553 : BitVec 32 := Scalar.muli v4 c1_i32_1146
  let v1554 : BitVec 32 := Scalar.addi c0_i32_1147 v1553
  v1554.toNat
def k0_dev52 (v4 : BitVec 32) : Nat :=
  let c0_i32_1166 : BitVec 32 := 0#32
  let c1_i32_1165 : BitVec 32 := 1#32
  let v1577 : BitVec 32 := Scalar.muli v4 c1_i32_1165
  let v1578 : BitVec 32 := Scalar.addi c0_i32_1166 v1577
  v1578.toNat
def k0_off95 (v1536 : BitVec 32) : Fin 1 → Nat :=
  ![v1536.toNat]

def k0_off96 (v1536 : BitVec 32) (c0_i32_1170 : BitVec 32) : Fin 2 → Nat :=
  let c256_i32_1169 : BitVec 32 := 256#32
  let v1585 : BitVec 32 := Scalar.muli v1536 c256_i32_1169
  let v1586 : BitVec 32 := Scalar.addi v1585 c0_i32_1170
  let c0_i32_1173 : BitVec 32 := 0#32
  ![v1586.toNat, 0]
def k0_off97 (v1404 : BitVec 32) (c0_i32_1082 : BitVec 32) : Fin 2 → Nat :=
  let c256_i32_1081 : BitVec 32 := 256#32
  let v1465 : BitVec 32 := Scalar.muli v1404 c256_i32_1081
  let v1466 : BitVec 32 := Scalar.addi v1465 c0_i32_1082
  let c0_i32_1177 : BitVec 32 := 0#32
  ![v1466.toNat, 0]

def k0_chk24 (v1404 : BitVec 32) : Prop :=
  (∀ a, (k0_off87 v1404) a + S1.size a ≤ S32.size a) ∧
  (∀ (r : Fin 2), ∀ a, (k0_off88 v1404 (BitVec.ofNat 32 (128 * r.val))) a + S128x256.size a ≤ S8192x256.size a) ∧
  (∀ (r : Fin 2), ∀ (hinb : ∀ a, (k0_off88 v1404 (BitVec.ofNat 32 (128 * r.val))) a + S128x256.size a ≤ S8192x256.size a), (Rect.unit (s := S8192x256) (k0_off88 v1404 (BitVec.ofNat 32 (128 * r.val))) S128x256.size hinb).WholeWords (EltTy.packing .bf16)) ∧
  (∀ a, (k0_off91 v1404) a + S256x256.size a ≤ S8192x256.size a) ∧
  (∀ (r : Fin 2), ∀ a, (k0_off97 v1404 (BitVec.ofNat 32 (128 * r.val))) a + S128x256.size a ≤ S8192x256.size a) ∧
  (∀ (r : Fin 2), ∀ (hinb : ∀ a, (k0_off97 v1404 (BitVec.ofNat 32 (128 * r.val))) a + S128x256.size a ≤ S8192x256.size a), (Rect.unit (s := S8192x256) (k0_off97 v1404 (BitVec.ofNat 32 (128 * r.val))) S128x256.size hinb).WholeWords (EltTy.packing .bf16))
theorem k0_off87_inb : ∀ (v1404 : BitVec 32) (k0_hw24 : k0_chk24 v1404), ∀ a, (k0_off87 v1404) a + S1.size a ≤ S32.size a := fun v1404 k0_hw24 => k0_hw24.1
theorem k0_off88_inb : ∀ (v1404 : BitVec 32) (k0_hw24 : k0_chk24 v1404), ∀ (r : Fin 2), ∀ a, (k0_off88 v1404 (BitVec.ofNat 32 (128 * r.val))) a + S128x256.size a ≤ S8192x256.size a := fun v1404 k0_hw24 r => k0_hw24.2.1 r
theorem k0_off88_wordsbf16 : ∀ (v1404 : BitVec 32) (k0_hw24 : k0_chk24 v1404), ∀ (r : Fin 2), (Rect.unit (s := S8192x256) (k0_off88 v1404 (BitVec.ofNat 32 (128 * r.val))) S128x256.size (k0_off88_inb v1404 k0_hw24 r)).WholeWords (EltTy.packing .bf16) := fun v1404 k0_hw24 r => k0_hw24.2.2.1 r (k0_off88_inb v1404 k0_hw24 r)
theorem k0_off91_inb : ∀ (v1404 : BitVec 32) (k0_hw24 : k0_chk24 v1404), ∀ a, (k0_off91 v1404) a + S256x256.size a ≤ S8192x256.size a := fun v1404 k0_hw24 => k0_hw24.2.2.2.1
theorem k0_off97_inb : ∀ (v1404 : BitVec 32) (k0_hw24 : k0_chk24 v1404), ∀ (r : Fin 2), ∀ a, (k0_off97 v1404 (BitVec.ofNat 32 (128 * r.val))) a + S128x256.size a ≤ S8192x256.size a := fun v1404 k0_hw24 r => k0_hw24.2.2.2.2.1 r
theorem k0_off97_wordsbf16 : ∀ (v1404 : BitVec 32) (k0_hw24 : k0_chk24 v1404), ∀ (r : Fin 2), (Rect.unit (s := S8192x256) (k0_off97 v1404 (BitVec.ofNat 32 (128 * r.val))) S128x256.size (k0_off97_inb v1404 k0_hw24 r)).WholeWords (EltTy.packing .bf16) := fun v1404 k0_hw24 r => k0_hw24.2.2.2.2.2 r (k0_off97_inb v1404 k0_hw24 r)

def k0_dev53 (v3 : BitVec 32) : Nat :=
  let c0_i32_1185 : BitVec 32 := 0#32
  let c1_i32_1184 : BitVec 32 := 1#32
  let v1601 : BitVec 32 := Scalar.muli v3 c1_i32_1184
  let v1602 : BitVec 32 := Scalar.addi c0_i32_1185 v1601
  v1602.toNat
def k0_dev54 (v3 : BitVec 32) : Nat :=
  let c0_i32_1204 : BitVec 32 := 0#32
  let c1_i32_1203 : BitVec 32 := 1#32
  let v1625 : BitVec 32 := Scalar.muli v3 c1_i32_1203
  let v1626 : BitVec 32 := Scalar.addi c0_i32_1204 v1625
  v1626.toNat
def k0_off98 (v1535 : BitVec 32) : Fin 2 → Nat :=
  let c256_i32_1207 : BitVec 32 := 256#32
  let v1633 : BitVec 32 := Scalar.muli v1535 c256_i32_1207
  let v1634 : Index := Scalar.indexCast v1633
  let c0_1208 : Index := 0#32
  ![v1634.toNat, 0]
def k0_off99 (v1536 : BitVec 32) : Fin 2 → Nat :=
  let c256_i32_1218 : BitVec 32 := 256#32
  let v1650 : BitVec 32 := Scalar.muli v1536 c256_i32_1218
  let v1651 : Index := Scalar.indexCast v1650
  let c0_1219 : Index := 0#32
  ![v1651.toNat, 0]
def k0_off100 (v1667 : BitVec 32) : Fin 1 → Nat :=
  ![v1667.toNat]

def k0_off101 (v1667 : BitVec 32) (c0_i32_1230 : BitVec 32) : Fin 2 → Nat :=
  let c256_i32_1229 : BitVec 32 := 256#32
  let v1669 : BitVec 32 := Scalar.muli v1667 c256_i32_1229
  let v1670 : BitVec 32 := Scalar.addi v1669 c0_i32_1230
  let c0_i32_1233 : BitVec 32 := 0#32
  ![v1670.toNat, 0]
def k0_off102 (v1535 : BitVec 32) (c0_i32_1142 : BitVec 32) : Fin 2 → Nat :=
  let c256_i32_1141 : BitVec 32 := 256#32
  let v1549 : BitVec 32 := Scalar.muli v1535 c256_i32_1141
  let v1550 : BitVec 32 := Scalar.addi v1549 c0_i32_1142
  let c0_i32_1237 : BitVec 32 := 0#32
  ![v1550.toNat, 0]

def k0_chk25 (v1535 : BitVec 32) : Prop :=
  (∀ a, (k0_off92 v1535) a + S1.size a ≤ S32.size a) ∧
  (∀ (r : Fin 2), ∀ a, (k0_off93 v1535 (BitVec.ofNat 32 (128 * r.val))) a + S128x256.size a ≤ S8192x256.size a) ∧
  (∀ (r : Fin 2), ∀ (hinb : ∀ a, (k0_off93 v1535 (BitVec.ofNat 32 (128 * r.val))) a + S128x256.size a ≤ S8192x256.size a), (Rect.unit (s := S8192x256) (k0_off93 v1535 (BitVec.ofNat 32 (128 * r.val))) S128x256.size hinb).WholeWords (EltTy.packing .bf16)) ∧
  (∀ a, (k0_off98 v1535) a + S256x256.size a ≤ S8192x256.size a) ∧
  (∀ (r : Fin 2), ∀ a, (k0_off102 v1535 (BitVec.ofNat 32 (128 * r.val))) a + S128x256.size a ≤ S8192x256.size a) ∧
  (∀ (r : Fin 2), ∀ (hinb : ∀ a, (k0_off102 v1535 (BitVec.ofNat 32 (128 * r.val))) a + S128x256.size a ≤ S8192x256.size a), (Rect.unit (s := S8192x256) (k0_off102 v1535 (BitVec.ofNat 32 (128 * r.val))) S128x256.size hinb).WholeWords (EltTy.packing .bf16))
theorem k0_off92_inb : ∀ (v1535 : BitVec 32) (k0_hw25 : k0_chk25 v1535), ∀ a, (k0_off92 v1535) a + S1.size a ≤ S32.size a := fun v1535 k0_hw25 => k0_hw25.1
theorem k0_off93_inb : ∀ (v1535 : BitVec 32) (k0_hw25 : k0_chk25 v1535), ∀ (r : Fin 2), ∀ a, (k0_off93 v1535 (BitVec.ofNat 32 (128 * r.val))) a + S128x256.size a ≤ S8192x256.size a := fun v1535 k0_hw25 r => k0_hw25.2.1 r
theorem k0_off93_wordsbf16 : ∀ (v1535 : BitVec 32) (k0_hw25 : k0_chk25 v1535), ∀ (r : Fin 2), (Rect.unit (s := S8192x256) (k0_off93 v1535 (BitVec.ofNat 32 (128 * r.val))) S128x256.size (k0_off93_inb v1535 k0_hw25 r)).WholeWords (EltTy.packing .bf16) := fun v1535 k0_hw25 r => k0_hw25.2.2.1 r (k0_off93_inb v1535 k0_hw25 r)
theorem k0_off98_inb : ∀ (v1535 : BitVec 32) (k0_hw25 : k0_chk25 v1535), ∀ a, (k0_off98 v1535) a + S256x256.size a ≤ S8192x256.size a := fun v1535 k0_hw25 => k0_hw25.2.2.2.1
theorem k0_off102_inb : ∀ (v1535 : BitVec 32) (k0_hw25 : k0_chk25 v1535), ∀ (r : Fin 2), ∀ a, (k0_off102 v1535 (BitVec.ofNat 32 (128 * r.val))) a + S128x256.size a ≤ S8192x256.size a := fun v1535 k0_hw25 r => k0_hw25.2.2.2.2.1 r
theorem k0_off102_wordsbf16 : ∀ (v1535 : BitVec 32) (k0_hw25 : k0_chk25 v1535), ∀ (r : Fin 2), (Rect.unit (s := S8192x256) (k0_off102 v1535 (BitVec.ofNat 32 (128 * r.val))) S128x256.size (k0_off102_inb v1535 k0_hw25 r)).WholeWords (EltTy.packing .bf16) := fun v1535 k0_hw25 r => k0_hw25.2.2.2.2.2 r (k0_off102_inb v1535 k0_hw25 r)

def k0_dev55 (v4 : BitVec 32) : Nat :=
  let c0_i32_1245 : BitVec 32 := 0#32
  let c1_i32_1244 : BitVec 32 := 1#32
  let v1685 : BitVec 32 := Scalar.muli v4 c1_i32_1244
  let v1686 : BitVec 32 := Scalar.addi c0_i32_1245 v1685
  v1686.toNat
def k0_dev56 (v4 : BitVec 32) : Nat :=
  let c0_i32_1264 : BitVec 32 := 0#32
  let c1_i32_1263 : BitVec 32 := 1#32
  let v1709 : BitVec 32 := Scalar.muli v4 c1_i32_1263
  let v1710 : BitVec 32 := Scalar.addi c0_i32_1264 v1709
  v1710.toNat
def k0_off103 (v1668 : BitVec 32) : Fin 1 → Nat :=
  ![v1668.toNat]

def k0_off104 (v1668 : BitVec 32) (c0_i32_1268 : BitVec 32) : Fin 2 → Nat :=
  let c256_i32_1267 : BitVec 32 := 256#32
  let v1717 : BitVec 32 := Scalar.muli v1668 c256_i32_1267
  let v1718 : BitVec 32 := Scalar.addi v1717 c0_i32_1268
  let c0_i32_1271 : BitVec 32 := 0#32
  ![v1718.toNat, 0]
def k0_off105 (v1536 : BitVec 32) (c0_i32_1180 : BitVec 32) : Fin 2 → Nat :=
  let c256_i32_1179 : BitVec 32 := 256#32
  let v1597 : BitVec 32 := Scalar.muli v1536 c256_i32_1179
  let v1598 : BitVec 32 := Scalar.addi v1597 c0_i32_1180
  let c0_i32_1275 : BitVec 32 := 0#32
  ![v1598.toNat, 0]

def k0_chk26 (v1536 : BitVec 32) : Prop :=
  (∀ a, (k0_off95 v1536) a + S1.size a ≤ S32.size a) ∧
  (∀ (r : Fin 2), ∀ a, (k0_off96 v1536 (BitVec.ofNat 32 (128 * r.val))) a + S128x256.size a ≤ S8192x256.size a) ∧
  (∀ (r : Fin 2), ∀ (hinb : ∀ a, (k0_off96 v1536 (BitVec.ofNat 32 (128 * r.val))) a + S128x256.size a ≤ S8192x256.size a), (Rect.unit (s := S8192x256) (k0_off96 v1536 (BitVec.ofNat 32 (128 * r.val))) S128x256.size hinb).WholeWords (EltTy.packing .bf16)) ∧
  (∀ a, (k0_off99 v1536) a + S256x256.size a ≤ S8192x256.size a) ∧
  (∀ (r : Fin 2), ∀ a, (k0_off105 v1536 (BitVec.ofNat 32 (128 * r.val))) a + S128x256.size a ≤ S8192x256.size a) ∧
  (∀ (r : Fin 2), ∀ (hinb : ∀ a, (k0_off105 v1536 (BitVec.ofNat 32 (128 * r.val))) a + S128x256.size a ≤ S8192x256.size a), (Rect.unit (s := S8192x256) (k0_off105 v1536 (BitVec.ofNat 32 (128 * r.val))) S128x256.size hinb).WholeWords (EltTy.packing .bf16))
theorem k0_off95_inb : ∀ (v1536 : BitVec 32) (k0_hw26 : k0_chk26 v1536), ∀ a, (k0_off95 v1536) a + S1.size a ≤ S32.size a := fun v1536 k0_hw26 => k0_hw26.1
theorem k0_off96_inb : ∀ (v1536 : BitVec 32) (k0_hw26 : k0_chk26 v1536), ∀ (r : Fin 2), ∀ a, (k0_off96 v1536 (BitVec.ofNat 32 (128 * r.val))) a + S128x256.size a ≤ S8192x256.size a := fun v1536 k0_hw26 r => k0_hw26.2.1 r
theorem k0_off96_wordsbf16 : ∀ (v1536 : BitVec 32) (k0_hw26 : k0_chk26 v1536), ∀ (r : Fin 2), (Rect.unit (s := S8192x256) (k0_off96 v1536 (BitVec.ofNat 32 (128 * r.val))) S128x256.size (k0_off96_inb v1536 k0_hw26 r)).WholeWords (EltTy.packing .bf16) := fun v1536 k0_hw26 r => k0_hw26.2.2.1 r (k0_off96_inb v1536 k0_hw26 r)
theorem k0_off99_inb : ∀ (v1536 : BitVec 32) (k0_hw26 : k0_chk26 v1536), ∀ a, (k0_off99 v1536) a + S256x256.size a ≤ S8192x256.size a := fun v1536 k0_hw26 => k0_hw26.2.2.2.1
theorem k0_off105_inb : ∀ (v1536 : BitVec 32) (k0_hw26 : k0_chk26 v1536), ∀ (r : Fin 2), ∀ a, (k0_off105 v1536 (BitVec.ofNat 32 (128 * r.val))) a + S128x256.size a ≤ S8192x256.size a := fun v1536 k0_hw26 r => k0_hw26.2.2.2.2.1 r
theorem k0_off105_wordsbf16 : ∀ (v1536 : BitVec 32) (k0_hw26 : k0_chk26 v1536), ∀ (r : Fin 2), (Rect.unit (s := S8192x256) (k0_off105 v1536 (BitVec.ofNat 32 (128 * r.val))) S128x256.size (k0_off105_inb v1536 k0_hw26 r)).WholeWords (EltTy.packing .bf16) := fun v1536 k0_hw26 r => k0_hw26.2.2.2.2.2 r (k0_off105_inb v1536 k0_hw26 r)

def k0_dev57 (v3 : BitVec 32) : Nat :=
  let c0_i32_1283 : BitVec 32 := 0#32
  let c1_i32_1282 : BitVec 32 := 1#32
  let v1733 : BitVec 32 := Scalar.muli v3 c1_i32_1282
  let v1734 : BitVec 32 := Scalar.addi c0_i32_1283 v1733
  v1734.toNat
def k0_dev58 (v3 : BitVec 32) : Nat :=
  let c0_i32_1302 : BitVec 32 := 0#32
  let c1_i32_1301 : BitVec 32 := 1#32
  let v1757 : BitVec 32 := Scalar.muli v3 c1_i32_1301
  let v1758 : BitVec 32 := Scalar.addi c0_i32_1302 v1757
  v1758.toNat
def k0_off106 (v1667 : BitVec 32) : Fin 2 → Nat :=
  let c256_i32_1305 : BitVec 32 := 256#32
  let v1765 : BitVec 32 := Scalar.muli v1667 c256_i32_1305
  let v1766 : Index := Scalar.indexCast v1765
  let c0_1306 : Index := 0#32
  ![v1766.toNat, 0]
def k0_off107 (v1668 : BitVec 32) : Fin 2 → Nat :=
  let c256_i32_1316 : BitVec 32 := 256#32
  let v1782 : BitVec 32 := Scalar.muli v1668 c256_i32_1316
  let v1783 : Index := Scalar.indexCast v1782
  let c0_1317 : Index := 0#32
  ![v1783.toNat, 0]
def k0_off108 (v1799 : BitVec 32) : Fin 1 → Nat :=
  ![v1799.toNat]

def k0_off109 (v1799 : BitVec 32) (c0_i32_1328 : BitVec 32) : Fin 2 → Nat :=
  let c256_i32_1327 : BitVec 32 := 256#32
  let v1801 : BitVec 32 := Scalar.muli v1799 c256_i32_1327
  let v1802 : BitVec 32 := Scalar.addi v1801 c0_i32_1328
  let c0_i32_1331 : BitVec 32 := 0#32
  ![v1802.toNat, 0]
def k0_off110 (v1667 : BitVec 32) (c0_i32_1240 : BitVec 32) : Fin 2 → Nat :=
  let c256_i32_1239 : BitVec 32 := 256#32
  let v1681 : BitVec 32 := Scalar.muli v1667 c256_i32_1239
  let v1682 : BitVec 32 := Scalar.addi v1681 c0_i32_1240
  let c0_i32_1335 : BitVec 32 := 0#32
  ![v1682.toNat, 0]

def k0_chk27 (v1667 : BitVec 32) : Prop :=
  (∀ a, (k0_off100 v1667) a + S1.size a ≤ S32.size a) ∧
  (∀ (r : Fin 2), ∀ a, (k0_off101 v1667 (BitVec.ofNat 32 (128 * r.val))) a + S128x256.size a ≤ S8192x256.size a) ∧
  (∀ (r : Fin 2), ∀ (hinb : ∀ a, (k0_off101 v1667 (BitVec.ofNat 32 (128 * r.val))) a + S128x256.size a ≤ S8192x256.size a), (Rect.unit (s := S8192x256) (k0_off101 v1667 (BitVec.ofNat 32 (128 * r.val))) S128x256.size hinb).WholeWords (EltTy.packing .bf16)) ∧
  (∀ a, (k0_off106 v1667) a + S256x256.size a ≤ S8192x256.size a) ∧
  (∀ (r : Fin 2), ∀ a, (k0_off110 v1667 (BitVec.ofNat 32 (128 * r.val))) a + S128x256.size a ≤ S8192x256.size a) ∧
  (∀ (r : Fin 2), ∀ (hinb : ∀ a, (k0_off110 v1667 (BitVec.ofNat 32 (128 * r.val))) a + S128x256.size a ≤ S8192x256.size a), (Rect.unit (s := S8192x256) (k0_off110 v1667 (BitVec.ofNat 32 (128 * r.val))) S128x256.size hinb).WholeWords (EltTy.packing .bf16))
theorem k0_off100_inb : ∀ (v1667 : BitVec 32) (k0_hw27 : k0_chk27 v1667), ∀ a, (k0_off100 v1667) a + S1.size a ≤ S32.size a := fun v1667 k0_hw27 => k0_hw27.1
theorem k0_off101_inb : ∀ (v1667 : BitVec 32) (k0_hw27 : k0_chk27 v1667), ∀ (r : Fin 2), ∀ a, (k0_off101 v1667 (BitVec.ofNat 32 (128 * r.val))) a + S128x256.size a ≤ S8192x256.size a := fun v1667 k0_hw27 r => k0_hw27.2.1 r
theorem k0_off101_wordsbf16 : ∀ (v1667 : BitVec 32) (k0_hw27 : k0_chk27 v1667), ∀ (r : Fin 2), (Rect.unit (s := S8192x256) (k0_off101 v1667 (BitVec.ofNat 32 (128 * r.val))) S128x256.size (k0_off101_inb v1667 k0_hw27 r)).WholeWords (EltTy.packing .bf16) := fun v1667 k0_hw27 r => k0_hw27.2.2.1 r (k0_off101_inb v1667 k0_hw27 r)
theorem k0_off106_inb : ∀ (v1667 : BitVec 32) (k0_hw27 : k0_chk27 v1667), ∀ a, (k0_off106 v1667) a + S256x256.size a ≤ S8192x256.size a := fun v1667 k0_hw27 => k0_hw27.2.2.2.1
theorem k0_off110_inb : ∀ (v1667 : BitVec 32) (k0_hw27 : k0_chk27 v1667), ∀ (r : Fin 2), ∀ a, (k0_off110 v1667 (BitVec.ofNat 32 (128 * r.val))) a + S128x256.size a ≤ S8192x256.size a := fun v1667 k0_hw27 r => k0_hw27.2.2.2.2.1 r
theorem k0_off110_wordsbf16 : ∀ (v1667 : BitVec 32) (k0_hw27 : k0_chk27 v1667), ∀ (r : Fin 2), (Rect.unit (s := S8192x256) (k0_off110 v1667 (BitVec.ofNat 32 (128 * r.val))) S128x256.size (k0_off110_inb v1667 k0_hw27 r)).WholeWords (EltTy.packing .bf16) := fun v1667 k0_hw27 r => k0_hw27.2.2.2.2.2 r (k0_off110_inb v1667 k0_hw27 r)

def k0_dev59 (v4 : BitVec 32) : Nat :=
  let c0_i32_1343 : BitVec 32 := 0#32
  let c1_i32_1342 : BitVec 32 := 1#32
  let v1817 : BitVec 32 := Scalar.muli v4 c1_i32_1342
  let v1818 : BitVec 32 := Scalar.addi c0_i32_1343 v1817
  v1818.toNat
def k0_dev60 (v4 : BitVec 32) : Nat :=
  let c0_i32_1362 : BitVec 32 := 0#32
  let c1_i32_1361 : BitVec 32 := 1#32
  let v1841 : BitVec 32 := Scalar.muli v4 c1_i32_1361
  let v1842 : BitVec 32 := Scalar.addi c0_i32_1362 v1841
  v1842.toNat
def k0_off111 (v1800 : BitVec 32) : Fin 1 → Nat :=
  ![v1800.toNat]

def k0_off112 (v1800 : BitVec 32) (c0_i32_1366 : BitVec 32) : Fin 2 → Nat :=
  let c256_i32_1365 : BitVec 32 := 256#32
  let v1849 : BitVec 32 := Scalar.muli v1800 c256_i32_1365
  let v1850 : BitVec 32 := Scalar.addi v1849 c0_i32_1366
  let c0_i32_1369 : BitVec 32 := 0#32
  ![v1850.toNat, 0]
def k0_off113 (v1668 : BitVec 32) (c0_i32_1278 : BitVec 32) : Fin 2 → Nat :=
  let c256_i32_1277 : BitVec 32 := 256#32
  let v1729 : BitVec 32 := Scalar.muli v1668 c256_i32_1277
  let v1730 : BitVec 32 := Scalar.addi v1729 c0_i32_1278
  let c0_i32_1373 : BitVec 32 := 0#32
  ![v1730.toNat, 0]

def k0_chk28 (v1668 : BitVec 32) : Prop :=
  (∀ a, (k0_off103 v1668) a + S1.size a ≤ S32.size a) ∧
  (∀ (r : Fin 2), ∀ a, (k0_off104 v1668 (BitVec.ofNat 32 (128 * r.val))) a + S128x256.size a ≤ S8192x256.size a) ∧
  (∀ (r : Fin 2), ∀ (hinb : ∀ a, (k0_off104 v1668 (BitVec.ofNat 32 (128 * r.val))) a + S128x256.size a ≤ S8192x256.size a), (Rect.unit (s := S8192x256) (k0_off104 v1668 (BitVec.ofNat 32 (128 * r.val))) S128x256.size hinb).WholeWords (EltTy.packing .bf16)) ∧
  (∀ a, (k0_off107 v1668) a + S256x256.size a ≤ S8192x256.size a) ∧
  (∀ (r : Fin 2), ∀ a, (k0_off113 v1668 (BitVec.ofNat 32 (128 * r.val))) a + S128x256.size a ≤ S8192x256.size a) ∧
  (∀ (r : Fin 2), ∀ (hinb : ∀ a, (k0_off113 v1668 (BitVec.ofNat 32 (128 * r.val))) a + S128x256.size a ≤ S8192x256.size a), (Rect.unit (s := S8192x256) (k0_off113 v1668 (BitVec.ofNat 32 (128 * r.val))) S128x256.size hinb).WholeWords (EltTy.packing .bf16))
theorem k0_off103_inb : ∀ (v1668 : BitVec 32) (k0_hw28 : k0_chk28 v1668), ∀ a, (k0_off103 v1668) a + S1.size a ≤ S32.size a := fun v1668 k0_hw28 => k0_hw28.1
theorem k0_off104_inb : ∀ (v1668 : BitVec 32) (k0_hw28 : k0_chk28 v1668), ∀ (r : Fin 2), ∀ a, (k0_off104 v1668 (BitVec.ofNat 32 (128 * r.val))) a + S128x256.size a ≤ S8192x256.size a := fun v1668 k0_hw28 r => k0_hw28.2.1 r
theorem k0_off104_wordsbf16 : ∀ (v1668 : BitVec 32) (k0_hw28 : k0_chk28 v1668), ∀ (r : Fin 2), (Rect.unit (s := S8192x256) (k0_off104 v1668 (BitVec.ofNat 32 (128 * r.val))) S128x256.size (k0_off104_inb v1668 k0_hw28 r)).WholeWords (EltTy.packing .bf16) := fun v1668 k0_hw28 r => k0_hw28.2.2.1 r (k0_off104_inb v1668 k0_hw28 r)
theorem k0_off107_inb : ∀ (v1668 : BitVec 32) (k0_hw28 : k0_chk28 v1668), ∀ a, (k0_off107 v1668) a + S256x256.size a ≤ S8192x256.size a := fun v1668 k0_hw28 => k0_hw28.2.2.2.1
theorem k0_off113_inb : ∀ (v1668 : BitVec 32) (k0_hw28 : k0_chk28 v1668), ∀ (r : Fin 2), ∀ a, (k0_off113 v1668 (BitVec.ofNat 32 (128 * r.val))) a + S128x256.size a ≤ S8192x256.size a := fun v1668 k0_hw28 r => k0_hw28.2.2.2.2.1 r
theorem k0_off113_wordsbf16 : ∀ (v1668 : BitVec 32) (k0_hw28 : k0_chk28 v1668), ∀ (r : Fin 2), (Rect.unit (s := S8192x256) (k0_off113 v1668 (BitVec.ofNat 32 (128 * r.val))) S128x256.size (k0_off113_inb v1668 k0_hw28 r)).WholeWords (EltTy.packing .bf16) := fun v1668 k0_hw28 r => k0_hw28.2.2.2.2.2 r (k0_off113_inb v1668 k0_hw28 r)

def k0_dev61 (v3 : BitVec 32) : Nat :=
  let c0_i32_1381 : BitVec 32 := 0#32
  let c1_i32_1380 : BitVec 32 := 1#32
  let v1865 : BitVec 32 := Scalar.muli v3 c1_i32_1380
  let v1866 : BitVec 32 := Scalar.addi c0_i32_1381 v1865
  v1866.toNat
def k0_dev62 (v3 : BitVec 32) : Nat :=
  let c0_i32_1400 : BitVec 32 := 0#32
  let c1_i32_1399 : BitVec 32 := 1#32
  let v1889 : BitVec 32 := Scalar.muli v3 c1_i32_1399
  let v1890 : BitVec 32 := Scalar.addi c0_i32_1400 v1889
  v1890.toNat
def k0_off114 (v1799 : BitVec 32) : Fin 2 → Nat :=
  let c256_i32_1403 : BitVec 32 := 256#32
  let v1897 : BitVec 32 := Scalar.muli v1799 c256_i32_1403
  let v1898 : Index := Scalar.indexCast v1897
  let c0_1404 : Index := 0#32
  ![v1898.toNat, 0]
def k0_off115 (v1800 : BitVec 32) : Fin 2 → Nat :=
  let c256_i32_1414 : BitVec 32 := 256#32
  let v1914 : BitVec 32 := Scalar.muli v1800 c256_i32_1414
  let v1915 : Index := Scalar.indexCast v1914
  let c0_1415 : Index := 0#32
  ![v1915.toNat, 0]
def k0_off116 (v1931 : BitVec 32) : Fin 1 → Nat :=
  ![v1931.toNat]

def k0_off117 (v1931 : BitVec 32) (c0_i32_1426 : BitVec 32) : Fin 2 → Nat :=
  let c256_i32_1425 : BitVec 32 := 256#32
  let v1933 : BitVec 32 := Scalar.muli v1931 c256_i32_1425
  let v1934 : BitVec 32 := Scalar.addi v1933 c0_i32_1426
  let c0_i32_1429 : BitVec 32 := 0#32
  ![v1934.toNat, 0]
def k0_off118 (v1799 : BitVec 32) (c0_i32_1338 : BitVec 32) : Fin 2 → Nat :=
  let c256_i32_1337 : BitVec 32 := 256#32
  let v1813 : BitVec 32 := Scalar.muli v1799 c256_i32_1337
  let v1814 : BitVec 32 := Scalar.addi v1813 c0_i32_1338
  let c0_i32_1433 : BitVec 32 := 0#32
  ![v1814.toNat, 0]

def k0_chk29 (v1799 : BitVec 32) : Prop :=
  (∀ a, (k0_off108 v1799) a + S1.size a ≤ S32.size a) ∧
  (∀ (r : Fin 2), ∀ a, (k0_off109 v1799 (BitVec.ofNat 32 (128 * r.val))) a + S128x256.size a ≤ S8192x256.size a) ∧
  (∀ (r : Fin 2), ∀ (hinb : ∀ a, (k0_off109 v1799 (BitVec.ofNat 32 (128 * r.val))) a + S128x256.size a ≤ S8192x256.size a), (Rect.unit (s := S8192x256) (k0_off109 v1799 (BitVec.ofNat 32 (128 * r.val))) S128x256.size hinb).WholeWords (EltTy.packing .bf16)) ∧
  (∀ a, (k0_off114 v1799) a + S256x256.size a ≤ S8192x256.size a) ∧
  (∀ (r : Fin 2), ∀ a, (k0_off118 v1799 (BitVec.ofNat 32 (128 * r.val))) a + S128x256.size a ≤ S8192x256.size a) ∧
  (∀ (r : Fin 2), ∀ (hinb : ∀ a, (k0_off118 v1799 (BitVec.ofNat 32 (128 * r.val))) a + S128x256.size a ≤ S8192x256.size a), (Rect.unit (s := S8192x256) (k0_off118 v1799 (BitVec.ofNat 32 (128 * r.val))) S128x256.size hinb).WholeWords (EltTy.packing .bf16))
theorem k0_off108_inb : ∀ (v1799 : BitVec 32) (k0_hw29 : k0_chk29 v1799), ∀ a, (k0_off108 v1799) a + S1.size a ≤ S32.size a := fun v1799 k0_hw29 => k0_hw29.1
theorem k0_off109_inb : ∀ (v1799 : BitVec 32) (k0_hw29 : k0_chk29 v1799), ∀ (r : Fin 2), ∀ a, (k0_off109 v1799 (BitVec.ofNat 32 (128 * r.val))) a + S128x256.size a ≤ S8192x256.size a := fun v1799 k0_hw29 r => k0_hw29.2.1 r
theorem k0_off109_wordsbf16 : ∀ (v1799 : BitVec 32) (k0_hw29 : k0_chk29 v1799), ∀ (r : Fin 2), (Rect.unit (s := S8192x256) (k0_off109 v1799 (BitVec.ofNat 32 (128 * r.val))) S128x256.size (k0_off109_inb v1799 k0_hw29 r)).WholeWords (EltTy.packing .bf16) := fun v1799 k0_hw29 r => k0_hw29.2.2.1 r (k0_off109_inb v1799 k0_hw29 r)
theorem k0_off114_inb : ∀ (v1799 : BitVec 32) (k0_hw29 : k0_chk29 v1799), ∀ a, (k0_off114 v1799) a + S256x256.size a ≤ S8192x256.size a := fun v1799 k0_hw29 => k0_hw29.2.2.2.1
theorem k0_off118_inb : ∀ (v1799 : BitVec 32) (k0_hw29 : k0_chk29 v1799), ∀ (r : Fin 2), ∀ a, (k0_off118 v1799 (BitVec.ofNat 32 (128 * r.val))) a + S128x256.size a ≤ S8192x256.size a := fun v1799 k0_hw29 r => k0_hw29.2.2.2.2.1 r
theorem k0_off118_wordsbf16 : ∀ (v1799 : BitVec 32) (k0_hw29 : k0_chk29 v1799), ∀ (r : Fin 2), (Rect.unit (s := S8192x256) (k0_off118 v1799 (BitVec.ofNat 32 (128 * r.val))) S128x256.size (k0_off118_inb v1799 k0_hw29 r)).WholeWords (EltTy.packing .bf16) := fun v1799 k0_hw29 r => k0_hw29.2.2.2.2.2 r (k0_off118_inb v1799 k0_hw29 r)

def k0_dev63 (v4 : BitVec 32) : Nat :=
  let c0_i32_1441 : BitVec 32 := 0#32
  let c1_i32_1440 : BitVec 32 := 1#32
  let v1949 : BitVec 32 := Scalar.muli v4 c1_i32_1440
  let v1950 : BitVec 32 := Scalar.addi c0_i32_1441 v1949
  v1950.toNat
def k0_dev64 (v4 : BitVec 32) : Nat :=
  let c0_i32_1460 : BitVec 32 := 0#32
  let c1_i32_1459 : BitVec 32 := 1#32
  let v1973 : BitVec 32 := Scalar.muli v4 c1_i32_1459
  let v1974 : BitVec 32 := Scalar.addi c0_i32_1460 v1973
  v1974.toNat
def k0_off119 (v1932 : BitVec 32) : Fin 1 → Nat :=
  ![v1932.toNat]

def k0_off120 (v1932 : BitVec 32) (c0_i32_1464 : BitVec 32) : Fin 2 → Nat :=
  let c256_i32_1463 : BitVec 32 := 256#32
  let v1981 : BitVec 32 := Scalar.muli v1932 c256_i32_1463
  let v1982 : BitVec 32 := Scalar.addi v1981 c0_i32_1464
  let c0_i32_1467 : BitVec 32 := 0#32
  ![v1982.toNat, 0]
def k0_off121 (v1931 : BitVec 32) : Fin 2 → Nat :=
  let c256_i32_1475 : BitVec 32 := 256#32
  let v1997 : BitVec 32 := Scalar.muli v1931 c256_i32_1475
  let v1998 : Index := Scalar.indexCast v1997
  let c0_1476 : Index := 0#32
  ![v1998.toNat, 0]
def k0_off122 (v1932 : BitVec 32) : Fin 2 → Nat :=
  let c256_i32_1486 : BitVec 32 := 256#32
  let v2014 : BitVec 32 := Scalar.muli v1932 c256_i32_1486
  let v2015 : Index := Scalar.indexCast v2014
  let c0_1487 : Index := 0#32
  ![v2015.toNat, 0]

def k0_chk32 (v1932 : BitVec 32) : Prop :=
  (∀ a, (k0_off119 v1932) a + S1.size a ≤ S32.size a) ∧
  (∀ (r : Fin 2), ∀ a, (k0_off120 v1932 (BitVec.ofNat 32 (128 * r.val))) a + S128x256.size a ≤ S8192x256.size a) ∧
  (∀ (r : Fin 2), ∀ (hinb : ∀ a, (k0_off120 v1932 (BitVec.ofNat 32 (128 * r.val))) a + S128x256.size a ≤ S8192x256.size a), (Rect.unit (s := S8192x256) (k0_off120 v1932 (BitVec.ofNat 32 (128 * r.val))) S128x256.size hinb).WholeWords (EltTy.packing .bf16)) ∧
  (∀ a, (k0_off122 v1932) a + S256x256.size a ≤ S8192x256.size a)
theorem k0_off119_inb : ∀ (v1932 : BitVec 32) (k0_hw32 : k0_chk32 v1932), ∀ a, (k0_off119 v1932) a + S1.size a ≤ S32.size a := fun v1932 k0_hw32 => k0_hw32.1
theorem k0_off120_inb : ∀ (v1932 : BitVec 32) (k0_hw32 : k0_chk32 v1932), ∀ (r : Fin 2), ∀ a, (k0_off120 v1932 (BitVec.ofNat 32 (128 * r.val))) a + S128x256.size a ≤ S8192x256.size a := fun v1932 k0_hw32 r => k0_hw32.2.1 r
theorem k0_off120_wordsbf16 : ∀ (v1932 : BitVec 32) (k0_hw32 : k0_chk32 v1932), ∀ (r : Fin 2), (Rect.unit (s := S8192x256) (k0_off120 v1932 (BitVec.ofNat 32 (128 * r.val))) S128x256.size (k0_off120_inb v1932 k0_hw32 r)).WholeWords (EltTy.packing .bf16) := fun v1932 k0_hw32 r => k0_hw32.2.2.1 r (k0_off120_inb v1932 k0_hw32 r)
theorem k0_off122_inb : ∀ (v1932 : BitVec 32) (k0_hw32 : k0_chk32 v1932), ∀ a, (k0_off122 v1932) a + S256x256.size a ≤ S8192x256.size a := fun v1932 k0_hw32 => k0_hw32.2.2.2

def k0_off123 (v2031 : BitVec 32) : Fin 1 → Nat :=
  ![v2031.toNat]

def k0_off124 (v2031 : BitVec 32) (c0_i32_1498 : BitVec 32) : Fin 2 → Nat :=
  let c256_i32_1497 : BitVec 32 := 256#32
  let v2032 : BitVec 32 := Scalar.muli v2031 c256_i32_1497
  let v2033 : BitVec 32 := Scalar.addi v2032 c0_i32_1498
  let c0_i32_1501 : BitVec 32 := 0#32
  ![v2033.toNat, 0]
def k0_off125 (v2031 : BitVec 32) : Fin 2 → Nat :=
  let c256_i32_1509 : BitVec 32 := 256#32
  let v2048 : BitVec 32 := Scalar.muli v2031 c256_i32_1509
  let v2049 : Index := Scalar.indexCast v2048
  let c0_1510 : Index := 0#32
  ![v2049.toNat, 0]

def k0_chk33 (v2031 : BitVec 32) : Prop :=
  (∀ a, (k0_off123 v2031) a + S1.size a ≤ S32.size a) ∧
  (∀ (r : Fin 2), ∀ a, (k0_off124 v2031 (BitVec.ofNat 32 (128 * r.val))) a + S128x256.size a ≤ S8192x256.size a) ∧
  (∀ (r : Fin 2), ∀ (hinb : ∀ a, (k0_off124 v2031 (BitVec.ofNat 32 (128 * r.val))) a + S128x256.size a ≤ S8192x256.size a), (Rect.unit (s := S8192x256) (k0_off124 v2031 (BitVec.ofNat 32 (128 * r.val))) S128x256.size hinb).WholeWords (EltTy.packing .bf16)) ∧
  (∀ a, (k0_off125 v2031) a + S256x256.size a ≤ S8192x256.size a)
theorem k0_off123_inb : ∀ (v2031 : BitVec 32) (k0_hw33 : k0_chk33 v2031), ∀ a, (k0_off123 v2031) a + S1.size a ≤ S32.size a := fun v2031 k0_hw33 => k0_hw33.1
theorem k0_off124_inb : ∀ (v2031 : BitVec 32) (k0_hw33 : k0_chk33 v2031), ∀ (r : Fin 2), ∀ a, (k0_off124 v2031 (BitVec.ofNat 32 (128 * r.val))) a + S128x256.size a ≤ S8192x256.size a := fun v2031 k0_hw33 r => k0_hw33.2.1 r
theorem k0_off124_wordsbf16 : ∀ (v2031 : BitVec 32) (k0_hw33 : k0_chk33 v2031), ∀ (r : Fin 2), (Rect.unit (s := S8192x256) (k0_off124 v2031 (BitVec.ofNat 32 (128 * r.val))) S128x256.size (k0_off124_inb v2031 k0_hw33 r)).WholeWords (EltTy.packing .bf16) := fun v2031 k0_hw33 r => k0_hw33.2.2.1 r (k0_off124_inb v2031 k0_hw33 r)
theorem k0_off125_inb : ∀ (v2031 : BitVec 32) (k0_hw33 : k0_chk33 v2031), ∀ a, (k0_off125 v2031) a + S256x256.size a ≤ S8192x256.size a := fun v2031 k0_hw33 => k0_hw33.2.2.2

def k0_off126 (v1931 : BitVec 32) (c0_i32_1436 : BitVec 32) : Fin 2 → Nat :=
  let c256_i32_1435 : BitVec 32 := 256#32
  let v1945 : BitVec 32 := Scalar.muli v1931 c256_i32_1435
  let v1946 : BitVec 32 := Scalar.addi v1945 c0_i32_1436
  let c0_i32_1522 : BitVec 32 := 0#32
  ![v1946.toNat, 0]

def k0_chk31 (v1931 : BitVec 32) : Prop :=
  (∀ a, (k0_off116 v1931) a + S1.size a ≤ S32.size a) ∧
  (∀ (r : Fin 2), ∀ a, (k0_off117 v1931 (BitVec.ofNat 32 (128 * r.val))) a + S128x256.size a ≤ S8192x256.size a) ∧
  (∀ (r : Fin 2), ∀ (hinb : ∀ a, (k0_off117 v1931 (BitVec.ofNat 32 (128 * r.val))) a + S128x256.size a ≤ S8192x256.size a), (Rect.unit (s := S8192x256) (k0_off117 v1931 (BitVec.ofNat 32 (128 * r.val))) S128x256.size hinb).WholeWords (EltTy.packing .bf16)) ∧
  (∀ a, (k0_off121 v1931) a + S256x256.size a ≤ S8192x256.size a) ∧
  (∀ (r : Fin 2), ∀ a, (k0_off126 v1931 (BitVec.ofNat 32 (128 * r.val))) a + S128x256.size a ≤ S8192x256.size a) ∧
  (∀ (r : Fin 2), ∀ (hinb : ∀ a, (k0_off126 v1931 (BitVec.ofNat 32 (128 * r.val))) a + S128x256.size a ≤ S8192x256.size a), (Rect.unit (s := S8192x256) (k0_off126 v1931 (BitVec.ofNat 32 (128 * r.val))) S128x256.size hinb).WholeWords (EltTy.packing .bf16))
theorem k0_off116_inb : ∀ (v1931 : BitVec 32) (k0_hw31 : k0_chk31 v1931), ∀ a, (k0_off116 v1931) a + S1.size a ≤ S32.size a := fun v1931 k0_hw31 => k0_hw31.1
theorem k0_off117_inb : ∀ (v1931 : BitVec 32) (k0_hw31 : k0_chk31 v1931), ∀ (r : Fin 2), ∀ a, (k0_off117 v1931 (BitVec.ofNat 32 (128 * r.val))) a + S128x256.size a ≤ S8192x256.size a := fun v1931 k0_hw31 r => k0_hw31.2.1 r
theorem k0_off117_wordsbf16 : ∀ (v1931 : BitVec 32) (k0_hw31 : k0_chk31 v1931), ∀ (r : Fin 2), (Rect.unit (s := S8192x256) (k0_off117 v1931 (BitVec.ofNat 32 (128 * r.val))) S128x256.size (k0_off117_inb v1931 k0_hw31 r)).WholeWords (EltTy.packing .bf16) := fun v1931 k0_hw31 r => k0_hw31.2.2.1 r (k0_off117_inb v1931 k0_hw31 r)
theorem k0_off121_inb : ∀ (v1931 : BitVec 32) (k0_hw31 : k0_chk31 v1931), ∀ a, (k0_off121 v1931) a + S256x256.size a ≤ S8192x256.size a := fun v1931 k0_hw31 => k0_hw31.2.2.2.1
theorem k0_off126_inb : ∀ (v1931 : BitVec 32) (k0_hw31 : k0_chk31 v1931), ∀ (r : Fin 2), ∀ a, (k0_off126 v1931 (BitVec.ofNat 32 (128 * r.val))) a + S128x256.size a ≤ S8192x256.size a := fun v1931 k0_hw31 r => k0_hw31.2.2.2.2.1 r
theorem k0_off126_wordsbf16 : ∀ (v1931 : BitVec 32) (k0_hw31 : k0_chk31 v1931), ∀ (r : Fin 2), (Rect.unit (s := S8192x256) (k0_off126 v1931 (BitVec.ofNat 32 (128 * r.val))) S128x256.size (k0_off126_inb v1931 k0_hw31 r)).WholeWords (EltTy.packing .bf16) := fun v1931 k0_hw31 r => k0_hw31.2.2.2.2.2 r (k0_off126_inb v1931 k0_hw31 r)

def k0_off127 (v1800 : BitVec 32) (c0_i32_1376 : BitVec 32) : Fin 2 → Nat :=
  let c256_i32_1375 : BitVec 32 := 256#32
  let v1861 : BitVec 32 := Scalar.muli v1800 c256_i32_1375
  let v1862 : BitVec 32 := Scalar.addi v1861 c0_i32_1376
  let c0_i32_1530 : BitVec 32 := 0#32
  ![v1862.toNat, 0]

def k0_chk30 (v1800 : BitVec 32) : Prop :=
  (∀ a, (k0_off111 v1800) a + S1.size a ≤ S32.size a) ∧
  (∀ (r : Fin 2), ∀ a, (k0_off112 v1800 (BitVec.ofNat 32 (128 * r.val))) a + S128x256.size a ≤ S8192x256.size a) ∧
  (∀ (r : Fin 2), ∀ (hinb : ∀ a, (k0_off112 v1800 (BitVec.ofNat 32 (128 * r.val))) a + S128x256.size a ≤ S8192x256.size a), (Rect.unit (s := S8192x256) (k0_off112 v1800 (BitVec.ofNat 32 (128 * r.val))) S128x256.size hinb).WholeWords (EltTy.packing .bf16)) ∧
  (∀ a, (k0_off115 v1800) a + S256x256.size a ≤ S8192x256.size a) ∧
  (∀ (r : Fin 2), ∀ a, (k0_off127 v1800 (BitVec.ofNat 32 (128 * r.val))) a + S128x256.size a ≤ S8192x256.size a) ∧
  (∀ (r : Fin 2), ∀ (hinb : ∀ a, (k0_off127 v1800 (BitVec.ofNat 32 (128 * r.val))) a + S128x256.size a ≤ S8192x256.size a), (Rect.unit (s := S8192x256) (k0_off127 v1800 (BitVec.ofNat 32 (128 * r.val))) S128x256.size hinb).WholeWords (EltTy.packing .bf16))
theorem k0_off111_inb : ∀ (v1800 : BitVec 32) (k0_hw30 : k0_chk30 v1800), ∀ a, (k0_off111 v1800) a + S1.size a ≤ S32.size a := fun v1800 k0_hw30 => k0_hw30.1
theorem k0_off112_inb : ∀ (v1800 : BitVec 32) (k0_hw30 : k0_chk30 v1800), ∀ (r : Fin 2), ∀ a, (k0_off112 v1800 (BitVec.ofNat 32 (128 * r.val))) a + S128x256.size a ≤ S8192x256.size a := fun v1800 k0_hw30 r => k0_hw30.2.1 r
theorem k0_off112_wordsbf16 : ∀ (v1800 : BitVec 32) (k0_hw30 : k0_chk30 v1800), ∀ (r : Fin 2), (Rect.unit (s := S8192x256) (k0_off112 v1800 (BitVec.ofNat 32 (128 * r.val))) S128x256.size (k0_off112_inb v1800 k0_hw30 r)).WholeWords (EltTy.packing .bf16) := fun v1800 k0_hw30 r => k0_hw30.2.2.1 r (k0_off112_inb v1800 k0_hw30 r)
theorem k0_off115_inb : ∀ (v1800 : BitVec 32) (k0_hw30 : k0_chk30 v1800), ∀ a, (k0_off115 v1800) a + S256x256.size a ≤ S8192x256.size a := fun v1800 k0_hw30 => k0_hw30.2.2.2.1
theorem k0_off127_inb : ∀ (v1800 : BitVec 32) (k0_hw30 : k0_chk30 v1800), ∀ (r : Fin 2), ∀ a, (k0_off127 v1800 (BitVec.ofNat 32 (128 * r.val))) a + S128x256.size a ≤ S8192x256.size a := fun v1800 k0_hw30 r => k0_hw30.2.2.2.2.1 r
theorem k0_off127_wordsbf16 : ∀ (v1800 : BitVec 32) (k0_hw30 : k0_chk30 v1800), ∀ (r : Fin 2), (Rect.unit (s := S8192x256) (k0_off127 v1800 (BitVec.ofNat 32 (128 * r.val))) S128x256.size (k0_off127_inb v1800 k0_hw30 r)).WholeWords (EltTy.packing .bf16) := fun v1800 k0_hw30 r => k0_hw30.2.2.2.2.2 r (k0_off127_inb v1800 k0_hw30 r)

def k0_off128 (v2081 : BitVec 32) : Fin 2 → Nat :=
  let c256_i32_1536 : BitVec 32 := 256#32
  let v2082 : BitVec 32 := Scalar.muli v2081 c256_i32_1536
  let v2083 : Index := Scalar.indexCast v2082
  let c0_1537 : Index := 0#32
  ![v2083.toNat, 0]

def k0_chk34 (v2081 : BitVec 32) : Prop :=
  (∀ a, (k0_off128 v2081) a + S256x256.size a ≤ S8192x256.size a)
theorem k0_off128_inb : ∀ (v2081 : BitVec 32) (k0_hw34 : k0_chk34 v2081), ∀ a, (k0_off128 v2081) a + S256x256.size a ≤ S8192x256.size a := fun v2081 k0_hw34 => k0_hw34

def k0_off129 (v2089 : BitVec 32) : Fin 2 → Nat :=
  let c256_i32_1540 : BitVec 32 := 256#32
  let v2090 : BitVec 32 := Scalar.muli v2089 c256_i32_1540
  let v2091 : Index := Scalar.indexCast v2090
  let c0_1541 : Index := 0#32
  ![v2091.toNat, 0]

def k0_chk35 (v2089 : BitVec 32) : Prop :=
  (∀ a, (k0_off129 v2089) a + S256x256.size a ≤ S8192x256.size a)
theorem k0_off129_inb : ∀ (v2089 : BitVec 32) (k0_hw35 : k0_chk35 v2089), ∀ a, (k0_off129 v2089) a + S256x256.size a ≤ S8192x256.size a := fun v2089 k0_hw35 => k0_hw35

def k0_dev65 (v4 : BitVec 32) : Nat :=
  let c0_i32_1548 : BitVec 32 := 0#32
  let c1_i32_1547 : BitVec 32 := 1#32
  let v2097 : BitVec 32 := Scalar.muli v4 c1_i32_1547
  let v2098 : BitVec 32 := Scalar.addi c0_i32_1548 v2097
  v2098.toNat
def k0_dev66 (v3 : BitVec 32) : Nat :=
  let c0_i32_1555 : BitVec 32 := 0#32
  let c1_i32_1554 : BitVec 32 := 1#32
  let v2105 : BitVec 32 := Scalar.muli v3 c1_i32_1554
  let v2106 : BitVec 32 := Scalar.addi c0_i32_1555 v2105
  v2106.toNat
def k0_off130 (v2121 : BitVec 32) : Fin 2 → Nat :=
  let c256_i32_1571 : BitVec 32 := 256#32
  let v2125 : BitVec 32 := Scalar.muli v2121 c256_i32_1571
  let v2126 : Index := Scalar.indexCast v2125
  let c0_1572 : Index := 0#32
  ![v2126.toNat, 0]

def k0_chk36 (v2121 : BitVec 32) : Prop :=
  (∀ a, (k0_off130 v2121) a + S256x256.size a ≤ S8192x256.size a)
theorem k0_off130_inb : ∀ (v2121 : BitVec 32) (k0_hw36 : k0_chk36 v2121), ∀ a, (k0_off130 v2121) a + S256x256.size a ≤ S8192x256.size a := fun v2121 k0_hw36 => k0_hw36

def k0_dev67 (v4 : BitVec 32) : Nat :=
  let c0_i32_1581 : BitVec 32 := 0#32
  let c1_i32_1580 : BitVec 32 := 1#32
  let v2133 : BitVec 32 := Scalar.muli v4 c1_i32_1580
  let v2134 : BitVec 32 := Scalar.addi c0_i32_1581 v2133
  v2134.toNat
def k0_off131 (v2151 : BitVec 32) : Fin 2 → Nat :=
  let c256_i32_1599 : BitVec 32 := 256#32
  let v2155 : BitVec 32 := Scalar.muli v2151 c256_i32_1599
  let v2156 : Index := Scalar.indexCast v2155
  let c0_1600 : Index := 0#32
  ![v2156.toNat, 0]

def k0_chk37 (v2151 : BitVec 32) : Prop :=
  (∀ a, (k0_off131 v2151) a + S256x256.size a ≤ S8192x256.size a)
theorem k0_off131_inb : ∀ (v2151 : BitVec 32) (k0_hw37 : k0_chk37 v2151), ∀ a, (k0_off131 v2151) a + S256x256.size a ≤ S8192x256.size a := fun v2151 k0_hw37 => k0_hw37

def k0_dev68 (v3 : BitVec 32) : Nat :=
  let c0_i32_1609 : BitVec 32 := 0#32
  let c1_i32_1608 : BitVec 32 := 1#32
  let v2163 : BitVec 32 := Scalar.muli v3 c1_i32_1608
  let v2164 : BitVec 32 := Scalar.addi c0_i32_1609 v2163
  v2164.toNat
def k0_off132 (v2181 : BitVec 32) : Fin 2 → Nat :=
  let c256_i32_1627 : BitVec 32 := 256#32
  let v2185 : BitVec 32 := Scalar.muli v2181 c256_i32_1627
  let v2186 : Index := Scalar.indexCast v2185
  let c0_1628 : Index := 0#32
  ![v2186.toNat, 0]

def k0_chk38 (v2181 : BitVec 32) : Prop :=
  (∀ a, (k0_off132 v2181) a + S256x256.size a ≤ S8192x256.size a)
theorem k0_off132_inb : ∀ (v2181 : BitVec 32) (k0_hw38 : k0_chk38 v2181), ∀ a, (k0_off132 v2181) a + S256x256.size a ≤ S8192x256.size a := fun v2181 k0_hw38 => k0_hw38

def k0_dev69 (v4 : BitVec 32) : Nat :=
  let c0_i32_1643 : BitVec 32 := 0#32
  let c1_i32_1642 : BitVec 32 := 1#32
  let v2197 : BitVec 32 := Scalar.muli v4 c1_i32_1642
  let v2198 : BitVec 32 := Scalar.addi c0_i32_1643 v2197
  v2198.toNat
def k0_off133 (v2215 : BitVec 32) : Fin 2 → Nat :=
  let c256_i32_1661 : BitVec 32 := 256#32
  let v2219 : BitVec 32 := Scalar.muli v2215 c256_i32_1661
  let v2220 : Index := Scalar.indexCast v2219
  let c0_1662 : Index := 0#32
  ![v2220.toNat, 0]

def k0_chk39 (v2215 : BitVec 32) : Prop :=
  (∀ a, (k0_off133 v2215) a + S256x256.size a ≤ S8192x256.size a)
theorem k0_off133_inb : ∀ (v2215 : BitVec 32) (k0_hw39 : k0_chk39 v2215), ∀ a, (k0_off133 v2215) a + S256x256.size a ≤ S8192x256.size a := fun v2215 k0_hw39 => k0_hw39

def k0_dev70 (v3 : BitVec 32) : Nat :=
  let c0_i32_1677 : BitVec 32 := 0#32
  let c1_i32_1676 : BitVec 32 := 1#32
  let v2231 : BitVec 32 := Scalar.muli v3 c1_i32_1676
  let v2232 : BitVec 32 := Scalar.addi c0_i32_1677 v2231
  v2232.toNat
def k0_off134 (v2249 : BitVec 32) : Fin 2 → Nat :=
  let c256_i32_1695 : BitVec 32 := 256#32
  let v2253 : BitVec 32 := Scalar.muli v2249 c256_i32_1695
  let v2254 : Index := Scalar.indexCast v2253
  let c0_1696 : Index := 0#32
  ![v2254.toNat, 0]

def k0_chk40 (v2249 : BitVec 32) : Prop :=
  (∀ a, (k0_off134 v2249) a + S256x256.size a ≤ S8192x256.size a)
theorem k0_off134_inb : ∀ (v2249 : BitVec 32) (k0_hw40 : k0_chk40 v2249), ∀ a, (k0_off134 v2249) a + S256x256.size a ≤ S8192x256.size a := fun v2249 k0_hw40 => k0_hw40

def k0_dev71 (v4 : BitVec 32) : Nat :=
  let c0_i32_1713 : BitVec 32 := 0#32
  let c1_i32_1712 : BitVec 32 := 1#32
  let v2267 : BitVec 32 := Scalar.muli v4 c1_i32_1712
  let v2268 : BitVec 32 := Scalar.addi c0_i32_1713 v2267
  v2268.toNat
def k0_off135 (v2285 : BitVec 32) : Fin 2 → Nat :=
  let c256_i32_1731 : BitVec 32 := 256#32
  let v2289 : BitVec 32 := Scalar.muli v2285 c256_i32_1731
  let v2290 : Index := Scalar.indexCast v2289
  let c0_1732 : Index := 0#32
  ![v2290.toNat, 0]

def k0_chk41 (v2285 : BitVec 32) : Prop :=
  (∀ a, (k0_off135 v2285) a + S256x256.size a ≤ S8192x256.size a)
theorem k0_off135_inb : ∀ (v2285 : BitVec 32) (k0_hw41 : k0_chk41 v2285), ∀ a, (k0_off135 v2285) a + S256x256.size a ≤ S8192x256.size a := fun v2285 k0_hw41 => k0_hw41

def k0_dev72 (v3 : BitVec 32) : Nat :=
  let c0_i32_1750 : BitVec 32 := 0#32
  let c1_i32_1749 : BitVec 32 := 1#32
  let v2303 : BitVec 32 := Scalar.muli v3 c1_i32_1749
  let v2304 : BitVec 32 := Scalar.addi c0_i32_1750 v2303
  v2304.toNat
def k0_off136 (v2321 : BitVec 32) : Fin 2 → Nat :=
  let c256_i32_1768 : BitVec 32 := 256#32
  let v2325 : BitVec 32 := Scalar.muli v2321 c256_i32_1768
  let v2326 : Index := Scalar.indexCast v2325
  let c0_1769 : Index := 0#32
  ![v2326.toNat, 0]

def k0_chk42 (v2321 : BitVec 32) : Prop :=
  (∀ a, (k0_off136 v2321) a + S256x256.size a ≤ S8192x256.size a)
theorem k0_off136_inb : ∀ (v2321 : BitVec 32) (k0_hw42 : k0_chk42 v2321), ∀ a, (k0_off136 v2321) a + S256x256.size a ≤ S8192x256.size a := fun v2321 k0_hw42 => k0_hw42

def k0_dev73 (v4 : BitVec 32) : Nat :=
  let c0_i32_1786 : BitVec 32 := 0#32
  let c1_i32_1785 : BitVec 32 := 1#32
  let v2339 : BitVec 32 := Scalar.muli v4 c1_i32_1785
  let v2340 : BitVec 32 := Scalar.addi c0_i32_1786 v2339
  v2340.toNat
def k0_off137 (v2357 : BitVec 32) : Fin 2 → Nat :=
  let c256_i32_1804 : BitVec 32 := 256#32
  let v2361 : BitVec 32 := Scalar.muli v2357 c256_i32_1804
  let v2362 : Index := Scalar.indexCast v2361
  let c0_1805 : Index := 0#32
  ![v2362.toNat, 0]

def k0_chk43 (v2357 : BitVec 32) : Prop :=
  (∀ a, (k0_off137 v2357) a + S256x256.size a ≤ S8192x256.size a)
theorem k0_off137_inb : ∀ (v2357 : BitVec 32) (k0_hw43 : k0_chk43 v2357), ∀ a, (k0_off137 v2357) a + S256x256.size a ≤ S8192x256.size a := fun v2357 k0_hw43 => k0_hw43

def k0_dev74 (v3 : BitVec 32) : Nat :=
  let c0_i32_1823 : BitVec 32 := 0#32
  let c1_i32_1822 : BitVec 32 := 1#32
  let v2375 : BitVec 32 := Scalar.muli v3 c1_i32_1822
  let v2376 : BitVec 32 := Scalar.addi c0_i32_1823 v2375
  v2376.toNat
def k0_off138 (v2393 : BitVec 32) : Fin 2 → Nat :=
  let c256_i32_1841 : BitVec 32 := 256#32
  let v2397 : BitVec 32 := Scalar.muli v2393 c256_i32_1841
  let v2398 : Index := Scalar.indexCast v2397
  let c0_1842 : Index := 0#32
  ![v2398.toNat, 0]

def k0_chk44 (v2393 : BitVec 32) : Prop :=
  (∀ a, (k0_off138 v2393) a + S256x256.size a ≤ S8192x256.size a)
theorem k0_off138_inb : ∀ (v2393 : BitVec 32) (k0_hw44 : k0_chk44 v2393), ∀ a, (k0_off138 v2393) a + S256x256.size a ≤ S8192x256.size a := fun v2393 k0_hw44 => k0_hw44

def k0_dev75 (v4 : BitVec 32) : Nat :=
  let c0_i32_1859 : BitVec 32 := 0#32
  let c1_i32_1858 : BitVec 32 := 1#32
  let v2411 : BitVec 32 := Scalar.muli v4 c1_i32_1858
  let v2412 : BitVec 32 := Scalar.addi c0_i32_1859 v2411
  v2412.toNat
def k0_off139 (v2429 : BitVec 32) : Fin 2 → Nat :=
  let c256_i32_1877 : BitVec 32 := 256#32
  let v2433 : BitVec 32 := Scalar.muli v2429 c256_i32_1877
  let v2434 : Index := Scalar.indexCast v2433
  let c0_1878 : Index := 0#32
  ![v2434.toNat, 0]

def k0_chk45 (v2429 : BitVec 32) : Prop :=
  (∀ a, (k0_off139 v2429) a + S256x256.size a ≤ S8192x256.size a)
theorem k0_off139_inb : ∀ (v2429 : BitVec 32) (k0_hw45 : k0_chk45 v2429), ∀ a, (k0_off139 v2429) a + S256x256.size a ≤ S8192x256.size a := fun v2429 k0_hw45 => k0_hw45

def k0_dev76 (v3 : BitVec 32) : Nat :=
  let c0_i32_1896 : BitVec 32 := 0#32
  let c1_i32_1895 : BitVec 32 := 1#32
  let v2447 : BitVec 32 := Scalar.muli v3 c1_i32_1895
  let v2448 : BitVec 32 := Scalar.addi c0_i32_1896 v2447
  v2448.toNat
def k0_off140 (v2465 : BitVec 32) : Fin 2 → Nat :=
  let c256_i32_1914 : BitVec 32 := 256#32
  let v2469 : BitVec 32 := Scalar.muli v2465 c256_i32_1914
  let v2470 : Index := Scalar.indexCast v2469
  let c0_1915 : Index := 0#32
  ![v2470.toNat, 0]

def k0_chk46 (v2465 : BitVec 32) : Prop :=
  (∀ a, (k0_off140 v2465) a + S256x256.size a ≤ S8192x256.size a)
theorem k0_off140_inb : ∀ (v2465 : BitVec 32) (k0_hw46 : k0_chk46 v2465), ∀ a, (k0_off140 v2465) a + S256x256.size a ≤ S8192x256.size a := fun v2465 k0_hw46 => k0_hw46

def k0_dev77 (v4 : BitVec 32) : Nat :=
  let c0_i32_1932 : BitVec 32 := 0#32
  let c1_i32_1931 : BitVec 32 := 1#32
  let v2483 : BitVec 32 := Scalar.muli v4 c1_i32_1931
  let v2484 : BitVec 32 := Scalar.addi c0_i32_1932 v2483
  v2484.toNat
def k0_off141 (v2501 : BitVec 32) : Fin 2 → Nat :=
  let c256_i32_1950 : BitVec 32 := 256#32
  let v2505 : BitVec 32 := Scalar.muli v2501 c256_i32_1950
  let v2506 : Index := Scalar.indexCast v2505
  let c0_1951 : Index := 0#32
  ![v2506.toNat, 0]

def k0_chk47 (v2501 : BitVec 32) : Prop :=
  (∀ a, (k0_off141 v2501) a + S256x256.size a ≤ S8192x256.size a)
theorem k0_off141_inb : ∀ (v2501 : BitVec 32) (k0_hw47 : k0_chk47 v2501), ∀ a, (k0_off141 v2501) a + S256x256.size a ≤ S8192x256.size a := fun v2501 k0_hw47 => k0_hw47

def k0_dev78 (v3 : BitVec 32) : Nat :=
  let c0_i32_1969 : BitVec 32 := 0#32
  let c1_i32_1968 : BitVec 32 := 1#32
  let v2519 : BitVec 32 := Scalar.muli v3 c1_i32_1968
  let v2520 : BitVec 32 := Scalar.addi c0_i32_1969 v2519
  v2520.toNat
def k0_off142 (v2537 : BitVec 32) : Fin 2 → Nat :=
  let c256_i32_1987 : BitVec 32 := 256#32
  let v2541 : BitVec 32 := Scalar.muli v2537 c256_i32_1987
  let v2542 : Index := Scalar.indexCast v2541
  let c0_1988 : Index := 0#32
  ![v2542.toNat, 0]

def k0_chk48 (v2537 : BitVec 32) : Prop :=
  (∀ a, (k0_off142 v2537) a + S256x256.size a ≤ S8192x256.size a)
theorem k0_off142_inb : ∀ (v2537 : BitVec 32) (k0_hw48 : k0_chk48 v2537), ∀ a, (k0_off142 v2537) a + S256x256.size a ≤ S8192x256.size a := fun v2537 k0_hw48 => k0_hw48

def k0_dev79 (v4 : BitVec 32) : Nat :=
  let c0_i32_2005 : BitVec 32 := 0#32
  let c1_i32_2004 : BitVec 32 := 1#32
  let v2555 : BitVec 32 := Scalar.muli v4 c1_i32_2004
  let v2556 : BitVec 32 := Scalar.addi c0_i32_2005 v2555
  v2556.toNat
def k0_off143 (v2573 : BitVec 32) : Fin 2 → Nat :=
  let c256_i32_2023 : BitVec 32 := 256#32
  let v2577 : BitVec 32 := Scalar.muli v2573 c256_i32_2023
  let v2578 : Index := Scalar.indexCast v2577
  let c0_2024 : Index := 0#32
  ![v2578.toNat, 0]

def k0_chk49 (v2573 : BitVec 32) : Prop :=
  (∀ a, (k0_off143 v2573) a + S256x256.size a ≤ S8192x256.size a)
theorem k0_off143_inb : ∀ (v2573 : BitVec 32) (k0_hw49 : k0_chk49 v2573), ∀ a, (k0_off143 v2573) a + S256x256.size a ≤ S8192x256.size a := fun v2573 k0_hw49 => k0_hw49

def k0_dev80 (v3 : BitVec 32) : Nat :=
  let c0_i32_2042 : BitVec 32 := 0#32
  let c1_i32_2041 : BitVec 32 := 1#32
  let v2591 : BitVec 32 := Scalar.muli v3 c1_i32_2041
  let v2592 : BitVec 32 := Scalar.addi c0_i32_2042 v2591
  v2592.toNat
def k0_off144 (v2609 : BitVec 32) : Fin 2 → Nat :=
  let c256_i32_2060 : BitVec 32 := 256#32
  let v2613 : BitVec 32 := Scalar.muli v2609 c256_i32_2060
  let v2614 : Index := Scalar.indexCast v2613
  let c0_2061 : Index := 0#32
  ![v2614.toNat, 0]

def k0_chk50 (v2609 : BitVec 32) : Prop :=
  (∀ a, (k0_off144 v2609) a + S256x256.size a ≤ S8192x256.size a)
theorem k0_off144_inb : ∀ (v2609 : BitVec 32) (k0_hw50 : k0_chk50 v2609), ∀ a, (k0_off144 v2609) a + S256x256.size a ≤ S8192x256.size a := fun v2609 k0_hw50 => k0_hw50

def k0_dev81 (v4 : BitVec 32) : Nat :=
  let c0_i32_2078 : BitVec 32 := 0#32
  let c1_i32_2077 : BitVec 32 := 1#32
  let v2627 : BitVec 32 := Scalar.muli v4 c1_i32_2077
  let v2628 : BitVec 32 := Scalar.addi c0_i32_2078 v2627
  v2628.toNat
def k0_off145 (v2645 : BitVec 32) : Fin 2 → Nat :=
  let c256_i32_2096 : BitVec 32 := 256#32
  let v2649 : BitVec 32 := Scalar.muli v2645 c256_i32_2096
  let v2650 : Index := Scalar.indexCast v2649
  let c0_2097 : Index := 0#32
  ![v2650.toNat, 0]

def k0_chk51 (v2645 : BitVec 32) : Prop :=
  (∀ a, (k0_off145 v2645) a + S256x256.size a ≤ S8192x256.size a)
theorem k0_off145_inb : ∀ (v2645 : BitVec 32) (k0_hw51 : k0_chk51 v2645), ∀ a, (k0_off145 v2645) a + S256x256.size a ≤ S8192x256.size a := fun v2645 k0_hw51 => k0_hw51

def k0_dev82 (v3 : BitVec 32) : Nat :=
  let c0_i32_2115 : BitVec 32 := 0#32
  let c1_i32_2114 : BitVec 32 := 1#32
  let v2663 : BitVec 32 := Scalar.muli v3 c1_i32_2114
  let v2664 : BitVec 32 := Scalar.addi c0_i32_2115 v2663
  v2664.toNat
def k0_off146 (v2681 : BitVec 32) : Fin 2 → Nat :=
  let c256_i32_2133 : BitVec 32 := 256#32
  let v2685 : BitVec 32 := Scalar.muli v2681 c256_i32_2133
  let v2686 : Index := Scalar.indexCast v2685
  let c0_2134 : Index := 0#32
  ![v2686.toNat, 0]

def k0_chk52 (v2681 : BitVec 32) : Prop :=
  (∀ a, (k0_off146 v2681) a + S256x256.size a ≤ S8192x256.size a)
theorem k0_off146_inb : ∀ (v2681 : BitVec 32) (k0_hw52 : k0_chk52 v2681), ∀ a, (k0_off146 v2681) a + S256x256.size a ≤ S8192x256.size a := fun v2681 k0_hw52 => k0_hw52

def k0_dev83 (v4 : BitVec 32) : Nat :=
  let c0_i32_2151 : BitVec 32 := 0#32
  let c1_i32_2150 : BitVec 32 := 1#32
  let v2699 : BitVec 32 := Scalar.muli v4 c1_i32_2150
  let v2700 : BitVec 32 := Scalar.addi c0_i32_2151 v2699
  v2700.toNat
def k0_off147 (v2717 : BitVec 32) : Fin 2 → Nat :=
  let c256_i32_2169 : BitVec 32 := 256#32
  let v2721 : BitVec 32 := Scalar.muli v2717 c256_i32_2169
  let v2722 : Index := Scalar.indexCast v2721
  let c0_2170 : Index := 0#32
  ![v2722.toNat, 0]

def k0_chk53 (v2717 : BitVec 32) : Prop :=
  (∀ a, (k0_off147 v2717) a + S256x256.size a ≤ S8192x256.size a)
theorem k0_off147_inb : ∀ (v2717 : BitVec 32) (k0_hw53 : k0_chk53 v2717), ∀ a, (k0_off147 v2717) a + S256x256.size a ≤ S8192x256.size a := fun v2717 k0_hw53 => k0_hw53

def k0_dev84 (v3 : BitVec 32) : Nat :=
  let c0_i32_2188 : BitVec 32 := 0#32
  let c1_i32_2187 : BitVec 32 := 1#32
  let v2735 : BitVec 32 := Scalar.muli v3 c1_i32_2187
  let v2736 : BitVec 32 := Scalar.addi c0_i32_2188 v2735
  v2736.toNat
def k0_off148 (v2753 : BitVec 32) : Fin 2 → Nat :=
  let c256_i32_2206 : BitVec 32 := 256#32
  let v2757 : BitVec 32 := Scalar.muli v2753 c256_i32_2206
  let v2758 : Index := Scalar.indexCast v2757
  let c0_2207 : Index := 0#32
  ![v2758.toNat, 0]

def k0_chk54 (v2753 : BitVec 32) : Prop :=
  (∀ a, (k0_off148 v2753) a + S256x256.size a ≤ S8192x256.size a)
theorem k0_off148_inb : ∀ (v2753 : BitVec 32) (k0_hw54 : k0_chk54 v2753), ∀ a, (k0_off148 v2753) a + S256x256.size a ≤ S8192x256.size a := fun v2753 k0_hw54 => k0_hw54

def k0_dev85 (v4 : BitVec 32) : Nat :=
  let c0_i32_2224 : BitVec 32 := 0#32
  let c1_i32_2223 : BitVec 32 := 1#32
  let v2771 : BitVec 32 := Scalar.muli v4 c1_i32_2223
  let v2772 : BitVec 32 := Scalar.addi c0_i32_2224 v2771
  v2772.toNat
def k0_off149 (v2789 : BitVec 32) : Fin 2 → Nat :=
  let c256_i32_2242 : BitVec 32 := 256#32
  let v2793 : BitVec 32 := Scalar.muli v2789 c256_i32_2242
  let v2794 : Index := Scalar.indexCast v2793
  let c0_2243 : Index := 0#32
  ![v2794.toNat, 0]

def k0_chk55 (v2789 : BitVec 32) : Prop :=
  (∀ a, (k0_off149 v2789) a + S256x256.size a ≤ S8192x256.size a)
theorem k0_off149_inb : ∀ (v2789 : BitVec 32) (k0_hw55 : k0_chk55 v2789), ∀ a, (k0_off149 v2789) a + S256x256.size a ≤ S8192x256.size a := fun v2789 k0_hw55 => k0_hw55

def k0_dev86 (v3 : BitVec 32) : Nat :=
  let c0_i32_2261 : BitVec 32 := 0#32
  let c1_i32_2260 : BitVec 32 := 1#32
  let v2807 : BitVec 32 := Scalar.muli v3 c1_i32_2260
  let v2808 : BitVec 32 := Scalar.addi c0_i32_2261 v2807
  v2808.toNat
def k0_off150 (v2825 : BitVec 32) : Fin 2 → Nat :=
  let c256_i32_2279 : BitVec 32 := 256#32
  let v2829 : BitVec 32 := Scalar.muli v2825 c256_i32_2279
  let v2830 : Index := Scalar.indexCast v2829
  let c0_2280 : Index := 0#32
  ![v2830.toNat, 0]

def k0_chk56 (v2825 : BitVec 32) : Prop :=
  (∀ a, (k0_off150 v2825) a + S256x256.size a ≤ S8192x256.size a)
theorem k0_off150_inb : ∀ (v2825 : BitVec 32) (k0_hw56 : k0_chk56 v2825), ∀ a, (k0_off150 v2825) a + S256x256.size a ≤ S8192x256.size a := fun v2825 k0_hw56 => k0_hw56

def k0_dev87 (v4 : BitVec 32) : Nat :=
  let c0_i32_2297 : BitVec 32 := 0#32
  let c1_i32_2296 : BitVec 32 := 1#32
  let v2843 : BitVec 32 := Scalar.muli v4 c1_i32_2296
  let v2844 : BitVec 32 := Scalar.addi c0_i32_2297 v2843
  v2844.toNat
def k0_off151 (v2861 : BitVec 32) : Fin 2 → Nat :=
  let c256_i32_2315 : BitVec 32 := 256#32
  let v2865 : BitVec 32 := Scalar.muli v2861 c256_i32_2315
  let v2866 : Index := Scalar.indexCast v2865
  let c0_2316 : Index := 0#32
  ![v2866.toNat, 0]

def k0_chk57 (v2861 : BitVec 32) : Prop :=
  (∀ a, (k0_off151 v2861) a + S256x256.size a ≤ S8192x256.size a)
theorem k0_off151_inb : ∀ (v2861 : BitVec 32) (k0_hw57 : k0_chk57 v2861), ∀ a, (k0_off151 v2861) a + S256x256.size a ≤ S8192x256.size a := fun v2861 k0_hw57 => k0_hw57

def k0_dev88 (v3 : BitVec 32) : Nat :=
  let c0_i32_2334 : BitVec 32 := 0#32
  let c1_i32_2333 : BitVec 32 := 1#32
  let v2879 : BitVec 32 := Scalar.muli v3 c1_i32_2333
  let v2880 : BitVec 32 := Scalar.addi c0_i32_2334 v2879
  v2880.toNat
def k0_off152 (v2897 : BitVec 32) : Fin 2 → Nat :=
  let c256_i32_2352 : BitVec 32 := 256#32
  let v2901 : BitVec 32 := Scalar.muli v2897 c256_i32_2352
  let v2902 : Index := Scalar.indexCast v2901
  let c0_2353 : Index := 0#32
  ![v2902.toNat, 0]

def k0_chk58 (v2897 : BitVec 32) : Prop :=
  (∀ a, (k0_off152 v2897) a + S256x256.size a ≤ S8192x256.size a)
theorem k0_off152_inb : ∀ (v2897 : BitVec 32) (k0_hw58 : k0_chk58 v2897), ∀ a, (k0_off152 v2897) a + S256x256.size a ≤ S8192x256.size a := fun v2897 k0_hw58 => k0_hw58

def k0_dev89 (v4 : BitVec 32) : Nat :=
  let c0_i32_2370 : BitVec 32 := 0#32
  let c1_i32_2369 : BitVec 32 := 1#32
  let v2915 : BitVec 32 := Scalar.muli v4 c1_i32_2369
  let v2916 : BitVec 32 := Scalar.addi c0_i32_2370 v2915
  v2916.toNat
def k0_off153 (v2933 : BitVec 32) : Fin 2 → Nat :=
  let c256_i32_2388 : BitVec 32 := 256#32
  let v2937 : BitVec 32 := Scalar.muli v2933 c256_i32_2388
  let v2938 : Index := Scalar.indexCast v2937
  let c0_2389 : Index := 0#32
  ![v2938.toNat, 0]

def k0_chk59 (v2933 : BitVec 32) : Prop :=
  (∀ a, (k0_off153 v2933) a + S256x256.size a ≤ S8192x256.size a)
theorem k0_off153_inb : ∀ (v2933 : BitVec 32) (k0_hw59 : k0_chk59 v2933), ∀ a, (k0_off153 v2933) a + S256x256.size a ≤ S8192x256.size a := fun v2933 k0_hw59 => k0_hw59

def k0_dev90 (v3 : BitVec 32) : Nat :=
  let c0_i32_2407 : BitVec 32 := 0#32
  let c1_i32_2406 : BitVec 32 := 1#32
  let v2951 : BitVec 32 := Scalar.muli v3 c1_i32_2406
  let v2952 : BitVec 32 := Scalar.addi c0_i32_2407 v2951
  v2952.toNat
def k0_off154 (v2969 : BitVec 32) : Fin 2 → Nat :=
  let c256_i32_2425 : BitVec 32 := 256#32
  let v2973 : BitVec 32 := Scalar.muli v2969 c256_i32_2425
  let v2974 : Index := Scalar.indexCast v2973
  let c0_2426 : Index := 0#32
  ![v2974.toNat, 0]

def k0_chk60 (v2969 : BitVec 32) : Prop :=
  (∀ a, (k0_off154 v2969) a + S256x256.size a ≤ S8192x256.size a)
theorem k0_off154_inb : ∀ (v2969 : BitVec 32) (k0_hw60 : k0_chk60 v2969), ∀ a, (k0_off154 v2969) a + S256x256.size a ≤ S8192x256.size a := fun v2969 k0_hw60 => k0_hw60

def k0_dev91 (v4 : BitVec 32) : Nat :=
  let c0_i32_2443 : BitVec 32 := 0#32
  let c1_i32_2442 : BitVec 32 := 1#32
  let v2987 : BitVec 32 := Scalar.muli v4 c1_i32_2442
  let v2988 : BitVec 32 := Scalar.addi c0_i32_2443 v2987
  v2988.toNat
def k0_off155 (v3005 : BitVec 32) : Fin 2 → Nat :=
  let c256_i32_2461 : BitVec 32 := 256#32
  let v3009 : BitVec 32 := Scalar.muli v3005 c256_i32_2461
  let v3010 : Index := Scalar.indexCast v3009
  let c0_2462 : Index := 0#32
  ![v3010.toNat, 0]

def k0_chk61 (v3005 : BitVec 32) : Prop :=
  (∀ a, (k0_off155 v3005) a + S256x256.size a ≤ S8192x256.size a)
theorem k0_off155_inb : ∀ (v3005 : BitVec 32) (k0_hw61 : k0_chk61 v3005), ∀ a, (k0_off155 v3005) a + S256x256.size a ≤ S8192x256.size a := fun v3005 k0_hw61 => k0_hw61

def k0_dev92 (v3 : BitVec 32) : Nat :=
  let c0_i32_2480 : BitVec 32 := 0#32
  let c1_i32_2479 : BitVec 32 := 1#32
  let v3023 : BitVec 32 := Scalar.muli v3 c1_i32_2479
  let v3024 : BitVec 32 := Scalar.addi c0_i32_2480 v3023
  v3024.toNat
def k0_off156 (v3041 : BitVec 32) : Fin 2 → Nat :=
  let c256_i32_2498 : BitVec 32 := 256#32
  let v3045 : BitVec 32 := Scalar.muli v3041 c256_i32_2498
  let v3046 : Index := Scalar.indexCast v3045
  let c0_2499 : Index := 0#32
  ![v3046.toNat, 0]

def k0_chk62 (v3041 : BitVec 32) : Prop :=
  (∀ a, (k0_off156 v3041) a + S256x256.size a ≤ S8192x256.size a)
theorem k0_off156_inb : ∀ (v3041 : BitVec 32) (k0_hw62 : k0_chk62 v3041), ∀ a, (k0_off156 v3041) a + S256x256.size a ≤ S8192x256.size a := fun v3041 k0_hw62 => k0_hw62

def k0_dev93 (v4 : BitVec 32) : Nat :=
  let c0_i32_2516 : BitVec 32 := 0#32
  let c1_i32_2515 : BitVec 32 := 1#32
  let v3059 : BitVec 32 := Scalar.muli v4 c1_i32_2515
  let v3060 : BitVec 32 := Scalar.addi c0_i32_2516 v3059
  v3060.toNat
def k0_off157 (v3077 : BitVec 32) : Fin 2 → Nat :=
  let c256_i32_2534 : BitVec 32 := 256#32
  let v3081 : BitVec 32 := Scalar.muli v3077 c256_i32_2534
  let v3082 : Index := Scalar.indexCast v3081
  let c0_2535 : Index := 0#32
  ![v3082.toNat, 0]

def k0_chk63 (v3077 : BitVec 32) : Prop :=
  (∀ a, (k0_off157 v3077) a + S256x256.size a ≤ S8192x256.size a)
theorem k0_off157_inb : ∀ (v3077 : BitVec 32) (k0_hw63 : k0_chk63 v3077), ∀ a, (k0_off157 v3077) a + S256x256.size a ≤ S8192x256.size a := fun v3077 k0_hw63 => k0_hw63

def k0_dev94 (v3 : BitVec 32) : Nat :=
  let c0_i32_2553 : BitVec 32 := 0#32
  let c1_i32_2552 : BitVec 32 := 1#32
  let v3095 : BitVec 32 := Scalar.muli v3 c1_i32_2552
  let v3096 : BitVec 32 := Scalar.addi c0_i32_2553 v3095
  v3096.toNat
def k0_off158 (v3113 : BitVec 32) : Fin 2 → Nat :=
  let c256_i32_2571 : BitVec 32 := 256#32
  let v3117 : BitVec 32 := Scalar.muli v3113 c256_i32_2571
  let v3118 : Index := Scalar.indexCast v3117
  let c0_2572 : Index := 0#32
  ![v3118.toNat, 0]

def k0_chk64 (v3113 : BitVec 32) : Prop :=
  (∀ a, (k0_off158 v3113) a + S256x256.size a ≤ S8192x256.size a)
theorem k0_off158_inb : ∀ (v3113 : BitVec 32) (k0_hw64 : k0_chk64 v3113), ∀ a, (k0_off158 v3113) a + S256x256.size a ≤ S8192x256.size a := fun v3113 k0_hw64 => k0_hw64

def k0_dev95 (v4 : BitVec 32) : Nat :=
  let c0_i32_2589 : BitVec 32 := 0#32
  let c1_i32_2588 : BitVec 32 := 1#32
  let v3131 : BitVec 32 := Scalar.muli v4 c1_i32_2588
  let v3132 : BitVec 32 := Scalar.addi c0_i32_2589 v3131
  v3132.toNat
def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_2656 : BitVec 32 := 256#32
  let v3188 : BitVec 32 := Scalar.muli v2 c256_i32_2656
  let v3189 : Index := Scalar.indexCast v3188
  let c0_2657 : Index := 0#32
  ![v3189.toNat, 0]
def k0_off160 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off161 (d0 : Dev nD) (c0_i32_2663 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_2662 : BitVec 32 := 256#32
  let v3200 : BitVec 32 := Scalar.muli v2 c256_i32_2662
  let v3201 : BitVec 32 := Scalar.addi v3200 c0_i32_2663
  let c0_i32_2667 : BitVec 32 := 0#32
  ![v3201.toNat, 0]
def k0_dev96 (v4 : BitVec 32) : Nat :=
  let c0_i32_2666 : BitVec 32 := 0#32
  let c1_i32_2665 : BitVec 32 := 1#32
  let v3202 : BitVec 32 := Scalar.muli v4 c1_i32_2665
  let v3203 : BitVec 32 := Scalar.addi c0_i32_2666 v3202
  v3203.toNat
def k0_dev97 (v4 : BitVec 32) : Nat :=
  let c0_i32_2675 : BitVec 32 := 0#32
  let c1_i32_2674 : BitVec 32 := 1#32
  let v3214 : BitVec 32 := Scalar.muli v4 c1_i32_2674
  let v3215 : BitVec 32 := Scalar.addi c0_i32_2675 v3214
  v3215.toNat
def k0_dev98 (v3 : BitVec 32) : Nat :=
  let c0_i32_2684 : BitVec 32 := 0#32
  let c1_i32_2683 : BitVec 32 := 1#32
  let v3226 : BitVec 32 := Scalar.muli v3 c1_i32_2683
  let v3227 : BitVec 32 := Scalar.addi c0_i32_2684 v3226
  v3227.toNat
def k0_dev99 (v3 : BitVec 32) : Nat :=
  let c0_i32_2693 : BitVec 32 := 0#32
  let c1_i32_2692 : BitVec 32 := 1#32
  let v3238 : BitVec 32 := Scalar.muli v3 c1_i32_2692
  let v3239 : BitVec 32 := Scalar.addi c0_i32_2693 v3238
  v3239.toNat
def k0_off162 (v3263 : BitVec 32) : Fin 1 → Nat :=
  ![v3263.toNat]

def k0_off163 (v3263 : BitVec 32) (c0_i32_2710 : BitVec 32) : Fin 2 → Nat :=
  let c256_i32_2709 : BitVec 32 := 256#32
  let v3265 : BitVec 32 := Scalar.muli v3263 c256_i32_2709
  let v3266 : BitVec 32 := Scalar.addi v3265 c0_i32_2710
  let c0_i32_2713 : BitVec 32 := 0#32
  ![v3266.toNat, 0]
def k0_off164 (d0 : Dev nD) (c0_i32_2661 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_2660 : BitVec 32 := 256#32
  let v3198 : BitVec 32 := Scalar.muli v2 c256_i32_2660
  let v3199 : BitVec 32 := Scalar.addi v3198 c0_i32_2661
  let c0_i32_2717 : BitVec 32 := 0#32
  ![v3199.toNat, 0]
def k0_dev100 (v4 : BitVec 32) : Nat :=
  let c0_i32_2725 : BitVec 32 := 0#32
  let c1_i32_2724 : BitVec 32 := 1#32
  let v3281 : BitVec 32 := Scalar.muli v4 c1_i32_2724
  let v3282 : BitVec 32 := Scalar.addi c0_i32_2725 v3281
  v3282.toNat
def k0_dev101 (v4 : BitVec 32) : Nat :=
  let c0_i32_2744 : BitVec 32 := 0#32
  let c1_i32_2743 : BitVec 32 := 1#32
  let v3305 : BitVec 32 := Scalar.muli v4 c1_i32_2743
  let v3306 : BitVec 32 := Scalar.addi c0_i32_2744 v3305
  v3306.toNat
def k0_off165 (v3264 : BitVec 32) : Fin 1 → Nat :=
  ![v3264.toNat]

def k0_off166 (v3264 : BitVec 32) (c0_i32_2748 : BitVec 32) : Fin 2 → Nat :=
  let c256_i32_2747 : BitVec 32 := 256#32
  let v3313 : BitVec 32 := Scalar.muli v3264 c256_i32_2747
  let v3314 : BitVec 32 := Scalar.addi v3313 c0_i32_2748
  let c0_i32_2751 : BitVec 32 := 0#32
  ![v3314.toNat, 0]
def k0_off167 (d0 : Dev nD) (c0_i32_2679 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_2678 : BitVec 32 := 256#32
  let v3222 : BitVec 32 := Scalar.muli v2 c256_i32_2678
  let v3223 : BitVec 32 := Scalar.addi v3222 c0_i32_2679
  let c0_i32_2755 : BitVec 32 := 0#32
  ![v3223.toNat, 0]
def k0_dev102 (v3 : BitVec 32) : Nat :=
  let c0_i32_2763 : BitVec 32 := 0#32
  let c1_i32_2762 : BitVec 32 := 1#32
  let v3329 : BitVec 32 := Scalar.muli v3 c1_i32_2762
  let v3330 : BitVec 32 := Scalar.addi c0_i32_2763 v3329
  v3330.toNat
def k0_dev103 (v3 : BitVec 32) : Nat :=
  let c0_i32_2782 : BitVec 32 := 0#32
  let c1_i32_2781 : BitVec 32 := 1#32
  let v3353 : BitVec 32 := Scalar.muli v3 c1_i32_2781
  let v3354 : BitVec 32 := Scalar.addi c0_i32_2782 v3353
  v3354.toNat
def k0_off168 (v3263 : BitVec 32) : Fin 2 → Nat :=
  let c256_i32_2785 : BitVec 32 := 256#32
  let v3361 : BitVec 32 := Scalar.muli v3263 c256_i32_2785
  let v3362 : Index := Scalar.indexCast v3361
  let c0_2786 : Index := 0#32
  ![v3362.toNat, 0]
def k0_off169 (v3264 : BitVec 32) : Fin 2 → Nat :=
  let c256_i32_2796 : BitVec 32 := 256#32
  let v3378 : BitVec 32 := Scalar.muli v3264 c256_i32_2796
  let v3379 : Index := Scalar.indexCast v3378
  let c0_2797 : Index := 0#32
  ![v3379.toNat, 0]
def k0_off170 (v3395 : BitVec 32) : Fin 1 → Nat :=
  ![v3395.toNat]

def k0_off171 (v3395 : BitVec 32) (c0_i32_2810 : BitVec 32) : Fin 2 → Nat :=
  let c256_i32_2809 : BitVec 32 := 256#32
  let v3397 : BitVec 32 := Scalar.muli v3395 c256_i32_2809
  let v3398 : BitVec 32 := Scalar.addi v3397 c0_i32_2810
  let c0_i32_2813 : BitVec 32 := 0#32
  ![v3398.toNat, 0]
def k0_off172 (v3263 : BitVec 32) (c0_i32_2720 : BitVec 32) : Fin 2 → Nat :=
  let c256_i32_2719 : BitVec 32 := 256#32
  let v3277 : BitVec 32 := Scalar.muli v3263 c256_i32_2719
  let v3278 : BitVec 32 := Scalar.addi v3277 c0_i32_2720
  let c0_i32_2817 : BitVec 32 := 0#32
  ![v3278.toNat, 0]

def k0_chk65 (v3263 : BitVec 32) : Prop :=
  (∀ a, (k0_off162 v3263) a + S1.size a ≤ S32.size a) ∧
  (∀ (r : Fin 2), ∀ a, (k0_off163 v3263 (BitVec.ofNat 32 (128 * r.val))) a + S128x256.size a ≤ S8192x256.size a) ∧
  (∀ (r : Fin 2), ∀ (hinb : ∀ a, (k0_off163 v3263 (BitVec.ofNat 32 (128 * r.val))) a + S128x256.size a ≤ S8192x256.size a), (Rect.unit (s := S8192x256) (k0_off163 v3263 (BitVec.ofNat 32 (128 * r.val))) S128x256.size hinb).WholeWords (EltTy.packing .bf16)) ∧
  (∀ a, (k0_off168 v3263) a + S256x256.size a ≤ S8192x256.size a) ∧
  (∀ (r : Fin 2), ∀ a, (k0_off172 v3263 (BitVec.ofNat 32 (128 * r.val))) a + S128x256.size a ≤ S8192x256.size a) ∧
  (∀ (r : Fin 2), ∀ (hinb : ∀ a, (k0_off172 v3263 (BitVec.ofNat 32 (128 * r.val))) a + S128x256.size a ≤ S8192x256.size a), (Rect.unit (s := S8192x256) (k0_off172 v3263 (BitVec.ofNat 32 (128 * r.val))) S128x256.size hinb).WholeWords (EltTy.packing .bf16))
theorem k0_off162_inb : ∀ (v3263 : BitVec 32) (k0_hw65 : k0_chk65 v3263), ∀ a, (k0_off162 v3263) a + S1.size a ≤ S32.size a := fun v3263 k0_hw65 => k0_hw65.1
theorem k0_off163_inb : ∀ (v3263 : BitVec 32) (k0_hw65 : k0_chk65 v3263), ∀ (r : Fin 2), ∀ a, (k0_off163 v3263 (BitVec.ofNat 32 (128 * r.val))) a + S128x256.size a ≤ S8192x256.size a := fun v3263 k0_hw65 r => k0_hw65.2.1 r
theorem k0_off163_wordsbf16 : ∀ (v3263 : BitVec 32) (k0_hw65 : k0_chk65 v3263), ∀ (r : Fin 2), (Rect.unit (s := S8192x256) (k0_off163 v3263 (BitVec.ofNat 32 (128 * r.val))) S128x256.size (k0_off163_inb v3263 k0_hw65 r)).WholeWords (EltTy.packing .bf16) := fun v3263 k0_hw65 r => k0_hw65.2.2.1 r (k0_off163_inb v3263 k0_hw65 r)
theorem k0_off168_inb : ∀ (v3263 : BitVec 32) (k0_hw65 : k0_chk65 v3263), ∀ a, (k0_off168 v3263) a + S256x256.size a ≤ S8192x256.size a := fun v3263 k0_hw65 => k0_hw65.2.2.2.1
theorem k0_off172_inb : ∀ (v3263 : BitVec 32) (k0_hw65 : k0_chk65 v3263), ∀ (r : Fin 2), ∀ a, (k0_off172 v3263 (BitVec.ofNat 32 (128 * r.val))) a + S128x256.size a ≤ S8192x256.size a := fun v3263 k0_hw65 r => k0_hw65.2.2.2.2.1 r
theorem k0_off172_wordsbf16 : ∀ (v3263 : BitVec 32) (k0_hw65 : k0_chk65 v3263), ∀ (r : Fin 2), (Rect.unit (s := S8192x256) (k0_off172 v3263 (BitVec.ofNat 32 (128 * r.val))) S128x256.size (k0_off172_inb v3263 k0_hw65 r)).WholeWords (EltTy.packing .bf16) := fun v3263 k0_hw65 r => k0_hw65.2.2.2.2.2 r (k0_off172_inb v3263 k0_hw65 r)

def k0_dev104 (v4 : BitVec 32) : Nat :=
  let c0_i32_2825 : BitVec 32 := 0#32
  let c1_i32_2824 : BitVec 32 := 1#32
  let v3413 : BitVec 32 := Scalar.muli v4 c1_i32_2824
  let v3414 : BitVec 32 := Scalar.addi c0_i32_2825 v3413
  v3414.toNat
def k0_dev105 (v4 : BitVec 32) : Nat :=
  let c0_i32_2844 : BitVec 32 := 0#32
  let c1_i32_2843 : BitVec 32 := 1#32
  let v3437 : BitVec 32 := Scalar.muli v4 c1_i32_2843
  let v3438 : BitVec 32 := Scalar.addi c0_i32_2844 v3437
  v3438.toNat
def k0_off173 (v3396 : BitVec 32) : Fin 1 → Nat :=
  ![v3396.toNat]

def k0_off174 (v3396 : BitVec 32) (c0_i32_2848 : BitVec 32) : Fin 2 → Nat :=
  let c256_i32_2847 : BitVec 32 := 256#32
  let v3445 : BitVec 32 := Scalar.muli v3396 c256_i32_2847
  let v3446 : BitVec 32 := Scalar.addi v3445 c0_i32_2848
  let c0_i32_2851 : BitVec 32 := 0#32
  ![v3446.toNat, 0]
def k0_off175 (v3264 : BitVec 32) (c0_i32_2758 : BitVec 32) : Fin 2 → Nat :=
  let c256_i32_2757 : BitVec 32 := 256#32
  let v3325 : BitVec 32 := Scalar.muli v3264 c256_i32_2757
  let v3326 : BitVec 32 := Scalar.addi v3325 c0_i32_2758
  let c0_i32_2855 : BitVec 32 := 0#32
  ![v3326.toNat, 0]

def k0_chk66 (v3264 : BitVec 32) : Prop :=
  (∀ a, (k0_off165 v3264) a + S1.size a ≤ S32.size a) ∧
  (∀ (r : Fin 2), ∀ a, (k0_off166 v3264 (BitVec.ofNat 32 (128 * r.val))) a + S128x256.size a ≤ S8192x256.size a) ∧
  (∀ (r : Fin 2), ∀ (hinb : ∀ a, (k0_off166 v3264 (BitVec.ofNat 32 (128 * r.val))) a + S128x256.size a ≤ S8192x256.size a), (Rect.unit (s := S8192x256) (k0_off166 v3264 (BitVec.ofNat 32 (128 * r.val))) S128x256.size hinb).WholeWords (EltTy.packing .bf16)) ∧
  (∀ a, (k0_off169 v3264) a + S256x256.size a ≤ S8192x256.size a) ∧
  (∀ (r : Fin 2), ∀ a, (k0_off175 v3264 (BitVec.ofNat 32 (128 * r.val))) a + S128x256.size a ≤ S8192x256.size a) ∧
  (∀ (r : Fin 2), ∀ (hinb : ∀ a, (k0_off175 v3264 (BitVec.ofNat 32 (128 * r.val))) a + S128x256.size a ≤ S8192x256.size a), (Rect.unit (s := S8192x256) (k0_off175 v3264 (BitVec.ofNat 32 (128 * r.val))) S128x256.size hinb).WholeWords (EltTy.packing .bf16))
theorem k0_off165_inb : ∀ (v3264 : BitVec 32) (k0_hw66 : k0_chk66 v3264), ∀ a, (k0_off165 v3264) a + S1.size a ≤ S32.size a := fun v3264 k0_hw66 => k0_hw66.1
theorem k0_off166_inb : ∀ (v3264 : BitVec 32) (k0_hw66 : k0_chk66 v3264), ∀ (r : Fin 2), ∀ a, (k0_off166 v3264 (BitVec.ofNat 32 (128 * r.val))) a + S128x256.size a ≤ S8192x256.size a := fun v3264 k0_hw66 r => k0_hw66.2.1 r
theorem k0_off166_wordsbf16 : ∀ (v3264 : BitVec 32) (k0_hw66 : k0_chk66 v3264), ∀ (r : Fin 2), (Rect.unit (s := S8192x256) (k0_off166 v3264 (BitVec.ofNat 32 (128 * r.val))) S128x256.size (k0_off166_inb v3264 k0_hw66 r)).WholeWords (EltTy.packing .bf16) := fun v3264 k0_hw66 r => k0_hw66.2.2.1 r (k0_off166_inb v3264 k0_hw66 r)
theorem k0_off169_inb : ∀ (v3264 : BitVec 32) (k0_hw66 : k0_chk66 v3264), ∀ a, (k0_off169 v3264) a + S256x256.size a ≤ S8192x256.size a := fun v3264 k0_hw66 => k0_hw66.2.2.2.1
theorem k0_off175_inb : ∀ (v3264 : BitVec 32) (k0_hw66 : k0_chk66 v3264), ∀ (r : Fin 2), ∀ a, (k0_off175 v3264 (BitVec.ofNat 32 (128 * r.val))) a + S128x256.size a ≤ S8192x256.size a := fun v3264 k0_hw66 r => k0_hw66.2.2.2.2.1 r
theorem k0_off175_wordsbf16 : ∀ (v3264 : BitVec 32) (k0_hw66 : k0_chk66 v3264), ∀ (r : Fin 2), (Rect.unit (s := S8192x256) (k0_off175 v3264 (BitVec.ofNat 32 (128 * r.val))) S128x256.size (k0_off175_inb v3264 k0_hw66 r)).WholeWords (EltTy.packing .bf16) := fun v3264 k0_hw66 r => k0_hw66.2.2.2.2.2 r (k0_off175_inb v3264 k0_hw66 r)

def k0_dev106 (v3 : BitVec 32) : Nat :=
  let c0_i32_2863 : BitVec 32 := 0#32
  let c1_i32_2862 : BitVec 32 := 1#32
  let v3461 : BitVec 32 := Scalar.muli v3 c1_i32_2862
  let v3462 : BitVec 32 := Scalar.addi c0_i32_2863 v3461
  v3462.toNat
def k0_dev107 (v3 : BitVec 32) : Nat :=
  let c0_i32_2882 : BitVec 32 := 0#32
  let c1_i32_2881 : BitVec 32 := 1#32
  let v3485 : BitVec 32 := Scalar.muli v3 c1_i32_2881
  let v3486 : BitVec 32 := Scalar.addi c0_i32_2882 v3485
  v3486.toNat
def k0_off176 (v3395 : BitVec 32) : Fin 2 → Nat :=
  let c256_i32_2885 : BitVec 32 := 256#32
  let v3493 : BitVec 32 := Scalar.muli v3395 c256_i32_2885
  let v3494 : Index := Scalar.indexCast v3493
  let c0_2886 : Index := 0#32
  ![v3494.toNat, 0]
def k0_off177 (v3396 : BitVec 32) : Fin 2 → Nat :=
  let c256_i32_2896 : BitVec 32 := 256#32
  let v3510 : BitVec 32 := Scalar.muli v3396 c256_i32_2896
  let v3511 : Index := Scalar.indexCast v3510
  let c0_2897 : Index := 0#32
  ![v3511.toNat, 0]
def k0_off178 (v3527 : BitVec 32) : Fin 1 → Nat :=
  ![v3527.toNat]

def k0_off179 (v3527 : BitVec 32) (c0_i32_2910 : BitVec 32) : Fin 2 → Nat :=
  let c256_i32_2909 : BitVec 32 := 256#32
  let v3529 : BitVec 32 := Scalar.muli v3527 c256_i32_2909
  let v3530 : BitVec 32 := Scalar.addi v3529 c0_i32_2910
  let c0_i32_2913 : BitVec 32 := 0#32
  ![v3530.toNat, 0]
def k0_off180 (v3395 : BitVec 32) (c0_i32_2820 : BitVec 32) : Fin 2 → Nat :=
  let c256_i32_2819 : BitVec 32 := 256#32
  let v3409 : BitVec 32 := Scalar.muli v3395 c256_i32_2819
  let v3410 : BitVec 32 := Scalar.addi v3409 c0_i32_2820
  let c0_i32_2917 : BitVec 32 := 0#32
  ![v3410.toNat, 0]

def k0_chk67 (v3395 : BitVec 32) : Prop :=
  (∀ a, (k0_off170 v3395) a + S1.size a ≤ S32.size a) ∧
  (∀ (r : Fin 2), ∀ a, (k0_off171 v3395 (BitVec.ofNat 32 (128 * r.val))) a + S128x256.size a ≤ S8192x256.size a) ∧
  (∀ (r : Fin 2), ∀ (hinb : ∀ a, (k0_off171 v3395 (BitVec.ofNat 32 (128 * r.val))) a + S128x256.size a ≤ S8192x256.size a), (Rect.unit (s := S8192x256) (k0_off171 v3395 (BitVec.ofNat 32 (128 * r.val))) S128x256.size hinb).WholeWords (EltTy.packing .bf16)) ∧
  (∀ a, (k0_off176 v3395) a + S256x256.size a ≤ S8192x256.size a) ∧
  (∀ (r : Fin 2), ∀ a, (k0_off180 v3395 (BitVec.ofNat 32 (128 * r.val))) a + S128x256.size a ≤ S8192x256.size a) ∧
  (∀ (r : Fin 2), ∀ (hinb : ∀ a, (k0_off180 v3395 (BitVec.ofNat 32 (128 * r.val))) a + S128x256.size a ≤ S8192x256.size a), (Rect.unit (s := S8192x256) (k0_off180 v3395 (BitVec.ofNat 32 (128 * r.val))) S128x256.size hinb).WholeWords (EltTy.packing .bf16))
theorem k0_off170_inb : ∀ (v3395 : BitVec 32) (k0_hw67 : k0_chk67 v3395), ∀ a, (k0_off170 v3395) a + S1.size a ≤ S32.size a := fun v3395 k0_hw67 => k0_hw67.1
theorem k0_off171_inb : ∀ (v3395 : BitVec 32) (k0_hw67 : k0_chk67 v3395), ∀ (r : Fin 2), ∀ a, (k0_off171 v3395 (BitVec.ofNat 32 (128 * r.val))) a + S128x256.size a ≤ S8192x256.size a := fun v3395 k0_hw67 r => k0_hw67.2.1 r
theorem k0_off171_wordsbf16 : ∀ (v3395 : BitVec 32) (k0_hw67 : k0_chk67 v3395), ∀ (r : Fin 2), (Rect.unit (s := S8192x256) (k0_off171 v3395 (BitVec.ofNat 32 (128 * r.val))) S128x256.size (k0_off171_inb v3395 k0_hw67 r)).WholeWords (EltTy.packing .bf16) := fun v3395 k0_hw67 r => k0_hw67.2.2.1 r (k0_off171_inb v3395 k0_hw67 r)
theorem k0_off176_inb : ∀ (v3395 : BitVec 32) (k0_hw67 : k0_chk67 v3395), ∀ a, (k0_off176 v3395) a + S256x256.size a ≤ S8192x256.size a := fun v3395 k0_hw67 => k0_hw67.2.2.2.1
theorem k0_off180_inb : ∀ (v3395 : BitVec 32) (k0_hw67 : k0_chk67 v3395), ∀ (r : Fin 2), ∀ a, (k0_off180 v3395 (BitVec.ofNat 32 (128 * r.val))) a + S128x256.size a ≤ S8192x256.size a := fun v3395 k0_hw67 r => k0_hw67.2.2.2.2.1 r
theorem k0_off180_wordsbf16 : ∀ (v3395 : BitVec 32) (k0_hw67 : k0_chk67 v3395), ∀ (r : Fin 2), (Rect.unit (s := S8192x256) (k0_off180 v3395 (BitVec.ofNat 32 (128 * r.val))) S128x256.size (k0_off180_inb v3395 k0_hw67 r)).WholeWords (EltTy.packing .bf16) := fun v3395 k0_hw67 r => k0_hw67.2.2.2.2.2 r (k0_off180_inb v3395 k0_hw67 r)

def k0_dev108 (v4 : BitVec 32) : Nat :=
  let c0_i32_2925 : BitVec 32 := 0#32
  let c1_i32_2924 : BitVec 32 := 1#32
  let v3545 : BitVec 32 := Scalar.muli v4 c1_i32_2924
  let v3546 : BitVec 32 := Scalar.addi c0_i32_2925 v3545
  v3546.toNat
def k0_dev109 (v4 : BitVec 32) : Nat :=
  let c0_i32_2944 : BitVec 32 := 0#32
  let c1_i32_2943 : BitVec 32 := 1#32
  let v3569 : BitVec 32 := Scalar.muli v4 c1_i32_2943
  let v3570 : BitVec 32 := Scalar.addi c0_i32_2944 v3569
  v3570.toNat
def k0_off181 (v3528 : BitVec 32) : Fin 1 → Nat :=
  ![v3528.toNat]

def k0_off182 (v3528 : BitVec 32) (c0_i32_2948 : BitVec 32) : Fin 2 → Nat :=
  let c256_i32_2947 : BitVec 32 := 256#32
  let v3577 : BitVec 32 := Scalar.muli v3528 c256_i32_2947
  let v3578 : BitVec 32 := Scalar.addi v3577 c0_i32_2948
  let c0_i32_2951 : BitVec 32 := 0#32
  ![v3578.toNat, 0]
def k0_off183 (v3396 : BitVec 32) (c0_i32_2858 : BitVec 32) : Fin 2 → Nat :=
  let c256_i32_2857 : BitVec 32 := 256#32
  let v3457 : BitVec 32 := Scalar.muli v3396 c256_i32_2857
  let v3458 : BitVec 32 := Scalar.addi v3457 c0_i32_2858
  let c0_i32_2955 : BitVec 32 := 0#32
  ![v3458.toNat, 0]

def k0_chk68 (v3396 : BitVec 32) : Prop :=
  (∀ a, (k0_off173 v3396) a + S1.size a ≤ S32.size a) ∧
  (∀ (r : Fin 2), ∀ a, (k0_off174 v3396 (BitVec.ofNat 32 (128 * r.val))) a + S128x256.size a ≤ S8192x256.size a) ∧
  (∀ (r : Fin 2), ∀ (hinb : ∀ a, (k0_off174 v3396 (BitVec.ofNat 32 (128 * r.val))) a + S128x256.size a ≤ S8192x256.size a), (Rect.unit (s := S8192x256) (k0_off174 v3396 (BitVec.ofNat 32 (128 * r.val))) S128x256.size hinb).WholeWords (EltTy.packing .bf16)) ∧
  (∀ a, (k0_off177 v3396) a + S256x256.size a ≤ S8192x256.size a) ∧
  (∀ (r : Fin 2), ∀ a, (k0_off183 v3396 (BitVec.ofNat 32 (128 * r.val))) a + S128x256.size a ≤ S8192x256.size a) ∧
  (∀ (r : Fin 2), ∀ (hinb : ∀ a, (k0_off183 v3396 (BitVec.ofNat 32 (128 * r.val))) a + S128x256.size a ≤ S8192x256.size a), (Rect.unit (s := S8192x256) (k0_off183 v3396 (BitVec.ofNat 32 (128 * r.val))) S128x256.size hinb).WholeWords (EltTy.packing .bf16))
theorem k0_off173_inb : ∀ (v3396 : BitVec 32) (k0_hw68 : k0_chk68 v3396), ∀ a, (k0_off173 v3396) a + S1.size a ≤ S32.size a := fun v3396 k0_hw68 => k0_hw68.1
theorem k0_off174_inb : ∀ (v3396 : BitVec 32) (k0_hw68 : k0_chk68 v3396), ∀ (r : Fin 2), ∀ a, (k0_off174 v3396 (BitVec.ofNat 32 (128 * r.val))) a + S128x256.size a ≤ S8192x256.size a := fun v3396 k0_hw68 r => k0_hw68.2.1 r
theorem k0_off174_wordsbf16 : ∀ (v3396 : BitVec 32) (k0_hw68 : k0_chk68 v3396), ∀ (r : Fin 2), (Rect.unit (s := S8192x256) (k0_off174 v3396 (BitVec.ofNat 32 (128 * r.val))) S128x256.size (k0_off174_inb v3396 k0_hw68 r)).WholeWords (EltTy.packing .bf16) := fun v3396 k0_hw68 r => k0_hw68.2.2.1 r (k0_off174_inb v3396 k0_hw68 r)
theorem k0_off177_inb : ∀ (v3396 : BitVec 32) (k0_hw68 : k0_chk68 v3396), ∀ a, (k0_off177 v3396) a + S256x256.size a ≤ S8192x256.size a := fun v3396 k0_hw68 => k0_hw68.2.2.2.1
theorem k0_off183_inb : ∀ (v3396 : BitVec 32) (k0_hw68 : k0_chk68 v3396), ∀ (r : Fin 2), ∀ a, (k0_off183 v3396 (BitVec.ofNat 32 (128 * r.val))) a + S128x256.size a ≤ S8192x256.size a := fun v3396 k0_hw68 r => k0_hw68.2.2.2.2.1 r
theorem k0_off183_wordsbf16 : ∀ (v3396 : BitVec 32) (k0_hw68 : k0_chk68 v3396), ∀ (r : Fin 2), (Rect.unit (s := S8192x256) (k0_off183 v3396 (BitVec.ofNat 32 (128 * r.val))) S128x256.size (k0_off183_inb v3396 k0_hw68 r)).WholeWords (EltTy.packing .bf16) := fun v3396 k0_hw68 r => k0_hw68.2.2.2.2.2 r (k0_off183_inb v3396 k0_hw68 r)

def k0_dev110 (v3 : BitVec 32) : Nat :=
  let c0_i32_2963 : BitVec 32 := 0#32
  let c1_i32_2962 : BitVec 32 := 1#32
  let v3593 : BitVec 32 := Scalar.muli v3 c1_i32_2962
  let v3594 : BitVec 32 := Scalar.addi c0_i32_2963 v3593
  v3594.toNat
def k0_dev111 (v3 : BitVec 32) : Nat :=
  let c0_i32_2982 : BitVec 32 := 0#32
  let c1_i32_2981 : BitVec 32 := 1#32
  let v3617 : BitVec 32 := Scalar.muli v3 c1_i32_2981
  let v3618 : BitVec 32 := Scalar.addi c0_i32_2982 v3617
  v3618.toNat
def k0_off184 (v3527 : BitVec 32) : Fin 2 → Nat :=
  let c256_i32_2985 : BitVec 32 := 256#32
  let v3625 : BitVec 32 := Scalar.muli v3527 c256_i32_2985
  let v3626 : Index := Scalar.indexCast v3625
  let c0_2986 : Index := 0#32
  ![v3626.toNat, 0]
def k0_off185 (v3528 : BitVec 32) : Fin 2 → Nat :=
  let c256_i32_2996 : BitVec 32 := 256#32
  let v3642 : BitVec 32 := Scalar.muli v3528 c256_i32_2996
  let v3643 : Index := Scalar.indexCast v3642
  let c0_2997 : Index := 0#32
  ![v3643.toNat, 0]
def k0_off186 (v3659 : BitVec 32) : Fin 1 → Nat :=
  ![v3659.toNat]

def k0_off187 (v3659 : BitVec 32) (c0_i32_3010 : BitVec 32) : Fin 2 → Nat :=
  let c256_i32_3009 : BitVec 32 := 256#32
  let v3661 : BitVec 32 := Scalar.muli v3659 c256_i32_3009
  let v3662 : BitVec 32 := Scalar.addi v3661 c0_i32_3010
  let c0_i32_3013 : BitVec 32 := 0#32
  ![v3662.toNat, 0]
def k0_off188 (v3527 : BitVec 32) (c0_i32_2920 : BitVec 32) : Fin 2 → Nat :=
  let c256_i32_2919 : BitVec 32 := 256#32
  let v3541 : BitVec 32 := Scalar.muli v3527 c256_i32_2919
  let v3542 : BitVec 32 := Scalar.addi v3541 c0_i32_2920
  let c0_i32_3017 : BitVec 32 := 0#32
  ![v3542.toNat, 0]

def k0_chk69 (v3527 : BitVec 32) : Prop :=
  (∀ a, (k0_off178 v3527) a + S1.size a ≤ S32.size a) ∧
  (∀ (r : Fin 2), ∀ a, (k0_off179 v3527 (BitVec.ofNat 32 (128 * r.val))) a + S128x256.size a ≤ S8192x256.size a) ∧
  (∀ (r : Fin 2), ∀ (hinb : ∀ a, (k0_off179 v3527 (BitVec.ofNat 32 (128 * r.val))) a + S128x256.size a ≤ S8192x256.size a), (Rect.unit (s := S8192x256) (k0_off179 v3527 (BitVec.ofNat 32 (128 * r.val))) S128x256.size hinb).WholeWords (EltTy.packing .bf16)) ∧
  (∀ a, (k0_off184 v3527) a + S256x256.size a ≤ S8192x256.size a) ∧
  (∀ (r : Fin 2), ∀ a, (k0_off188 v3527 (BitVec.ofNat 32 (128 * r.val))) a + S128x256.size a ≤ S8192x256.size a) ∧
  (∀ (r : Fin 2), ∀ (hinb : ∀ a, (k0_off188 v3527 (BitVec.ofNat 32 (128 * r.val))) a + S128x256.size a ≤ S8192x256.size a), (Rect.unit (s := S8192x256) (k0_off188 v3527 (BitVec.ofNat 32 (128 * r.val))) S128x256.size hinb).WholeWords (EltTy.packing .bf16))
theorem k0_off178_inb : ∀ (v3527 : BitVec 32) (k0_hw69 : k0_chk69 v3527), ∀ a, (k0_off178 v3527) a + S1.size a ≤ S32.size a := fun v3527 k0_hw69 => k0_hw69.1
theorem k0_off179_inb : ∀ (v3527 : BitVec 32) (k0_hw69 : k0_chk69 v3527), ∀ (r : Fin 2), ∀ a, (k0_off179 v3527 (BitVec.ofNat 32 (128 * r.val))) a + S128x256.size a ≤ S8192x256.size a := fun v3527 k0_hw69 r => k0_hw69.2.1 r
theorem k0_off179_wordsbf16 : ∀ (v3527 : BitVec 32) (k0_hw69 : k0_chk69 v3527), ∀ (r : Fin 2), (Rect.unit (s := S8192x256) (k0_off179 v3527 (BitVec.ofNat 32 (128 * r.val))) S128x256.size (k0_off179_inb v3527 k0_hw69 r)).WholeWords (EltTy.packing .bf16) := fun v3527 k0_hw69 r => k0_hw69.2.2.1 r (k0_off179_inb v3527 k0_hw69 r)
theorem k0_off184_inb : ∀ (v3527 : BitVec 32) (k0_hw69 : k0_chk69 v3527), ∀ a, (k0_off184 v3527) a + S256x256.size a ≤ S8192x256.size a := fun v3527 k0_hw69 => k0_hw69.2.2.2.1
theorem k0_off188_inb : ∀ (v3527 : BitVec 32) (k0_hw69 : k0_chk69 v3527), ∀ (r : Fin 2), ∀ a, (k0_off188 v3527 (BitVec.ofNat 32 (128 * r.val))) a + S128x256.size a ≤ S8192x256.size a := fun v3527 k0_hw69 r => k0_hw69.2.2.2.2.1 r
theorem k0_off188_wordsbf16 : ∀ (v3527 : BitVec 32) (k0_hw69 : k0_chk69 v3527), ∀ (r : Fin 2), (Rect.unit (s := S8192x256) (k0_off188 v3527 (BitVec.ofNat 32 (128 * r.val))) S128x256.size (k0_off188_inb v3527 k0_hw69 r)).WholeWords (EltTy.packing .bf16) := fun v3527 k0_hw69 r => k0_hw69.2.2.2.2.2 r (k0_off188_inb v3527 k0_hw69 r)

def k0_dev112 (v4 : BitVec 32) : Nat :=
  let c0_i32_3025 : BitVec 32 := 0#32
  let c1_i32_3024 : BitVec 32 := 1#32
  let v3677 : BitVec 32 := Scalar.muli v4 c1_i32_3024
  let v3678 : BitVec 32 := Scalar.addi c0_i32_3025 v3677
  v3678.toNat
def k0_dev113 (v4 : BitVec 32) : Nat :=
  let c0_i32_3044 : BitVec 32 := 0#32
  let c1_i32_3043 : BitVec 32 := 1#32
  let v3701 : BitVec 32 := Scalar.muli v4 c1_i32_3043
  let v3702 : BitVec 32 := Scalar.addi c0_i32_3044 v3701
  v3702.toNat
def k0_off189 (v3660 : BitVec 32) : Fin 1 → Nat :=
  ![v3660.toNat]

def k0_off190 (v3660 : BitVec 32) (c0_i32_3048 : BitVec 32) : Fin 2 → Nat :=
  let c256_i32_3047 : BitVec 32 := 256#32
  let v3709 : BitVec 32 := Scalar.muli v3660 c256_i32_3047
  let v3710 : BitVec 32 := Scalar.addi v3709 c0_i32_3048
  let c0_i32_3051 : BitVec 32 := 0#32
  ![v3710.toNat, 0]
def k0_off191 (v3528 : BitVec 32) (c0_i32_2958 : BitVec 32) : Fin 2 → Nat :=
  let c256_i32_2957 : BitVec 32 := 256#32
  let v3589 : BitVec 32 := Scalar.muli v3528 c256_i32_2957
  let v3590 : BitVec 32 := Scalar.addi v3589 c0_i32_2958
  let c0_i32_3055 : BitVec 32 := 0#32
  ![v3590.toNat, 0]

def k0_chk70 (v3528 : BitVec 32) : Prop :=
  (∀ a, (k0_off181 v3528) a + S1.size a ≤ S32.size a) ∧
  (∀ (r : Fin 2), ∀ a, (k0_off182 v3528 (BitVec.ofNat 32 (128 * r.val))) a + S128x256.size a ≤ S8192x256.size a) ∧
  (∀ (r : Fin 2), ∀ (hinb : ∀ a, (k0_off182 v3528 (BitVec.ofNat 32 (128 * r.val))) a + S128x256.size a ≤ S8192x256.size a), (Rect.unit (s := S8192x256) (k0_off182 v3528 (BitVec.ofNat 32 (128 * r.val))) S128x256.size hinb).WholeWords (EltTy.packing .bf16)) ∧
  (∀ a, (k0_off185 v3528) a + S256x256.size a ≤ S8192x256.size a) ∧
  (∀ (r : Fin 2), ∀ a, (k0_off191 v3528 (BitVec.ofNat 32 (128 * r.val))) a + S128x256.size a ≤ S8192x256.size a) ∧
  (∀ (r : Fin 2), ∀ (hinb : ∀ a, (k0_off191 v3528 (BitVec.ofNat 32 (128 * r.val))) a + S128x256.size a ≤ S8192x256.size a), (Rect.unit (s := S8192x256) (k0_off191 v3528 (BitVec.ofNat 32 (128 * r.val))) S128x256.size hinb).WholeWords (EltTy.packing .bf16))
theorem k0_off181_inb : ∀ (v3528 : BitVec 32) (k0_hw70 : k0_chk70 v3528), ∀ a, (k0_off181 v3528) a + S1.size a ≤ S32.size a := fun v3528 k0_hw70 => k0_hw70.1
theorem k0_off182_inb : ∀ (v3528 : BitVec 32) (k0_hw70 : k0_chk70 v3528), ∀ (r : Fin 2), ∀ a, (k0_off182 v3528 (BitVec.ofNat 32 (128 * r.val))) a + S128x256.size a ≤ S8192x256.size a := fun v3528 k0_hw70 r => k0_hw70.2.1 r
theorem k0_off182_wordsbf16 : ∀ (v3528 : BitVec 32) (k0_hw70 : k0_chk70 v3528), ∀ (r : Fin 2), (Rect.unit (s := S8192x256) (k0_off182 v3528 (BitVec.ofNat 32 (128 * r.val))) S128x256.size (k0_off182_inb v3528 k0_hw70 r)).WholeWords (EltTy.packing .bf16) := fun v3528 k0_hw70 r => k0_hw70.2.2.1 r (k0_off182_inb v3528 k0_hw70 r)
theorem k0_off185_inb : ∀ (v3528 : BitVec 32) (k0_hw70 : k0_chk70 v3528), ∀ a, (k0_off185 v3528) a + S256x256.size a ≤ S8192x256.size a := fun v3528 k0_hw70 => k0_hw70.2.2.2.1
theorem k0_off191_inb : ∀ (v3528 : BitVec 32) (k0_hw70 : k0_chk70 v3528), ∀ (r : Fin 2), ∀ a, (k0_off191 v3528 (BitVec.ofNat 32 (128 * r.val))) a + S128x256.size a ≤ S8192x256.size a := fun v3528 k0_hw70 r => k0_hw70.2.2.2.2.1 r
theorem k0_off191_wordsbf16 : ∀ (v3528 : BitVec 32) (k0_hw70 : k0_chk70 v3528), ∀ (r : Fin 2), (Rect.unit (s := S8192x256) (k0_off191 v3528 (BitVec.ofNat 32 (128 * r.val))) S128x256.size (k0_off191_inb v3528 k0_hw70 r)).WholeWords (EltTy.packing .bf16) := fun v3528 k0_hw70 r => k0_hw70.2.2.2.2.2 r (k0_off191_inb v3528 k0_hw70 r)

def k0_dev114 (v3 : BitVec 32) : Nat :=
  let c0_i32_3063 : BitVec 32 := 0#32
  let c1_i32_3062 : BitVec 32 := 1#32
  let v3725 : BitVec 32 := Scalar.muli v3 c1_i32_3062
  let v3726 : BitVec 32 := Scalar.addi c0_i32_3063 v3725
  v3726.toNat
def k0_dev115 (v3 : BitVec 32) : Nat :=
  let c0_i32_3082 : BitVec 32 := 0#32
  let c1_i32_3081 : BitVec 32 := 1#32
  let v3749 : BitVec 32 := Scalar.muli v3 c1_i32_3081
  let v3750 : BitVec 32 := Scalar.addi c0_i32_3082 v3749
  v3750.toNat
def k0_off192 (v3659 : BitVec 32) : Fin 2 → Nat :=
  let c256_i32_3085 : BitVec 32 := 256#32
  let v3757 : BitVec 32 := Scalar.muli v3659 c256_i32_3085
  let v3758 : Index := Scalar.indexCast v3757
  let c0_3086 : Index := 0#32
  ![v3758.toNat, 0]
def k0_off193 (v3660 : BitVec 32) : Fin 2 → Nat :=
  let c256_i32_3096 : BitVec 32 := 256#32
  let v3774 : BitVec 32 := Scalar.muli v3660 c256_i32_3096
  let v3775 : Index := Scalar.indexCast v3774
  let c0_3097 : Index := 0#32
  ![v3775.toNat, 0]
def k0_off194 (v3791 : BitVec 32) : Fin 1 → Nat :=
  ![v3791.toNat]

def k0_off195 (v3791 : BitVec 32) (c0_i32_3110 : BitVec 32) : Fin 2 → Nat :=
  let c256_i32_3109 : BitVec 32 := 256#32
  let v3793 : BitVec 32 := Scalar.muli v3791 c256_i32_3109
  let v3794 : BitVec 32 := Scalar.addi v3793 c0_i32_3110
  let c0_i32_3113 : BitVec 32 := 0#32
  ![v3794.toNat, 0]
def k0_off196 (v3659 : BitVec 32) (c0_i32_3020 : BitVec 32) : Fin 2 → Nat :=
  let c256_i32_3019 : BitVec 32 := 256#32
  let v3673 : BitVec 32 := Scalar.muli v3659 c256_i32_3019
  let v3674 : BitVec 32 := Scalar.addi v3673 c0_i32_3020
  let c0_i32_3117 : BitVec 32 := 0#32
  ![v3674.toNat, 0]

def k0_chk71 (v3659 : BitVec 32) : Prop :=
  (∀ a, (k0_off186 v3659) a + S1.size a ≤ S32.size a) ∧
  (∀ (r : Fin 2), ∀ a, (k0_off187 v3659 (BitVec.ofNat 32 (128 * r.val))) a + S128x256.size a ≤ S8192x256.size a) ∧
  (∀ (r : Fin 2), ∀ (hinb : ∀ a, (k0_off187 v3659 (BitVec.ofNat 32 (128 * r.val))) a + S128x256.size a ≤ S8192x256.size a), (Rect.unit (s := S8192x256) (k0_off187 v3659 (BitVec.ofNat 32 (128 * r.val))) S128x256.size hinb).WholeWords (EltTy.packing .bf16)) ∧
  (∀ a, (k0_off192 v3659) a + S256x256.size a ≤ S8192x256.size a) ∧
  (∀ (r : Fin 2), ∀ a, (k0_off196 v3659 (BitVec.ofNat 32 (128 * r.val))) a + S128x256.size a ≤ S8192x256.size a) ∧
  (∀ (r : Fin 2), ∀ (hinb : ∀ a, (k0_off196 v3659 (BitVec.ofNat 32 (128 * r.val))) a + S128x256.size a ≤ S8192x256.size a), (Rect.unit (s := S8192x256) (k0_off196 v3659 (BitVec.ofNat 32 (128 * r.val))) S128x256.size hinb).WholeWords (EltTy.packing .bf16))
theorem k0_off186_inb : ∀ (v3659 : BitVec 32) (k0_hw71 : k0_chk71 v3659), ∀ a, (k0_off186 v3659) a + S1.size a ≤ S32.size a := fun v3659 k0_hw71 => k0_hw71.1
theorem k0_off187_inb : ∀ (v3659 : BitVec 32) (k0_hw71 : k0_chk71 v3659), ∀ (r : Fin 2), ∀ a, (k0_off187 v3659 (BitVec.ofNat 32 (128 * r.val))) a + S128x256.size a ≤ S8192x256.size a := fun v3659 k0_hw71 r => k0_hw71.2.1 r
theorem k0_off187_wordsbf16 : ∀ (v3659 : BitVec 32) (k0_hw71 : k0_chk71 v3659), ∀ (r : Fin 2), (Rect.unit (s := S8192x256) (k0_off187 v3659 (BitVec.ofNat 32 (128 * r.val))) S128x256.size (k0_off187_inb v3659 k0_hw71 r)).WholeWords (EltTy.packing .bf16) := fun v3659 k0_hw71 r => k0_hw71.2.2.1 r (k0_off187_inb v3659 k0_hw71 r)
theorem k0_off192_inb : ∀ (v3659 : BitVec 32) (k0_hw71 : k0_chk71 v3659), ∀ a, (k0_off192 v3659) a + S256x256.size a ≤ S8192x256.size a := fun v3659 k0_hw71 => k0_hw71.2.2.2.1
theorem k0_off196_inb : ∀ (v3659 : BitVec 32) (k0_hw71 : k0_chk71 v3659), ∀ (r : Fin 2), ∀ a, (k0_off196 v3659 (BitVec.ofNat 32 (128 * r.val))) a + S128x256.size a ≤ S8192x256.size a := fun v3659 k0_hw71 r => k0_hw71.2.2.2.2.1 r
theorem k0_off196_wordsbf16 : ∀ (v3659 : BitVec 32) (k0_hw71 : k0_chk71 v3659), ∀ (r : Fin 2), (Rect.unit (s := S8192x256) (k0_off196 v3659 (BitVec.ofNat 32 (128 * r.val))) S128x256.size (k0_off196_inb v3659 k0_hw71 r)).WholeWords (EltTy.packing .bf16) := fun v3659 k0_hw71 r => k0_hw71.2.2.2.2.2 r (k0_off196_inb v3659 k0_hw71 r)

def k0_dev116 (v4 : BitVec 32) : Nat :=
  let c0_i32_3125 : BitVec 32 := 0#32
  let c1_i32_3124 : BitVec 32 := 1#32
  let v3809 : BitVec 32 := Scalar.muli v4 c1_i32_3124
  let v3810 : BitVec 32 := Scalar.addi c0_i32_3125 v3809
  v3810.toNat
def k0_dev117 (v4 : BitVec 32) : Nat :=
  let c0_i32_3144 : BitVec 32 := 0#32
  let c1_i32_3143 : BitVec 32 := 1#32
  let v3833 : BitVec 32 := Scalar.muli v4 c1_i32_3143
  let v3834 : BitVec 32 := Scalar.addi c0_i32_3144 v3833
  v3834.toNat
def k0_off197 (v3792 : BitVec 32) : Fin 1 → Nat :=
  ![v3792.toNat]

def k0_off198 (v3792 : BitVec 32) (c0_i32_3148 : BitVec 32) : Fin 2 → Nat :=
  let c256_i32_3147 : BitVec 32 := 256#32
  let v3841 : BitVec 32 := Scalar.muli v3792 c256_i32_3147
  let v3842 : BitVec 32 := Scalar.addi v3841 c0_i32_3148
  let c0_i32_3151 : BitVec 32 := 0#32
  ![v3842.toNat, 0]
def k0_off199 (v3660 : BitVec 32) (c0_i32_3058 : BitVec 32) : Fin 2 → Nat :=
  let c256_i32_3057 : BitVec 32 := 256#32
  let v3721 : BitVec 32 := Scalar.muli v3660 c256_i32_3057
  let v3722 : BitVec 32 := Scalar.addi v3721 c0_i32_3058
  let c0_i32_3155 : BitVec 32 := 0#32
  ![v3722.toNat, 0]

def k0_chk72 (v3660 : BitVec 32) : Prop :=
  (∀ a, (k0_off189 v3660) a + S1.size a ≤ S32.size a) ∧
  (∀ (r : Fin 2), ∀ a, (k0_off190 v3660 (BitVec.ofNat 32 (128 * r.val))) a + S128x256.size a ≤ S8192x256.size a) ∧
  (∀ (r : Fin 2), ∀ (hinb : ∀ a, (k0_off190 v3660 (BitVec.ofNat 32 (128 * r.val))) a + S128x256.size a ≤ S8192x256.size a), (Rect.unit (s := S8192x256) (k0_off190 v3660 (BitVec.ofNat 32 (128 * r.val))) S128x256.size hinb).WholeWords (EltTy.packing .bf16)) ∧
  (∀ a, (k0_off193 v3660) a + S256x256.size a ≤ S8192x256.size a) ∧
  (∀ (r : Fin 2), ∀ a, (k0_off199 v3660 (BitVec.ofNat 32 (128 * r.val))) a + S128x256.size a ≤ S8192x256.size a) ∧
  (∀ (r : Fin 2), ∀ (hinb : ∀ a, (k0_off199 v3660 (BitVec.ofNat 32 (128 * r.val))) a + S128x256.size a ≤ S8192x256.size a), (Rect.unit (s := S8192x256) (k0_off199 v3660 (BitVec.ofNat 32 (128 * r.val))) S128x256.size hinb).WholeWords (EltTy.packing .bf16))
theorem k0_off189_inb : ∀ (v3660 : BitVec 32) (k0_hw72 : k0_chk72 v3660), ∀ a, (k0_off189 v3660) a + S1.size a ≤ S32.size a := fun v3660 k0_hw72 => k0_hw72.1
theorem k0_off190_inb : ∀ (v3660 : BitVec 32) (k0_hw72 : k0_chk72 v3660), ∀ (r : Fin 2), ∀ a, (k0_off190 v3660 (BitVec.ofNat 32 (128 * r.val))) a + S128x256.size a ≤ S8192x256.size a := fun v3660 k0_hw72 r => k0_hw72.2.1 r
theorem k0_off190_wordsbf16 : ∀ (v3660 : BitVec 32) (k0_hw72 : k0_chk72 v3660), ∀ (r : Fin 2), (Rect.unit (s := S8192x256) (k0_off190 v3660 (BitVec.ofNat 32 (128 * r.val))) S128x256.size (k0_off190_inb v3660 k0_hw72 r)).WholeWords (EltTy.packing .bf16) := fun v3660 k0_hw72 r => k0_hw72.2.2.1 r (k0_off190_inb v3660 k0_hw72 r)
theorem k0_off193_inb : ∀ (v3660 : BitVec 32) (k0_hw72 : k0_chk72 v3660), ∀ a, (k0_off193 v3660) a + S256x256.size a ≤ S8192x256.size a := fun v3660 k0_hw72 => k0_hw72.2.2.2.1
theorem k0_off199_inb : ∀ (v3660 : BitVec 32) (k0_hw72 : k0_chk72 v3660), ∀ (r : Fin 2), ∀ a, (k0_off199 v3660 (BitVec.ofNat 32 (128 * r.val))) a + S128x256.size a ≤ S8192x256.size a := fun v3660 k0_hw72 r => k0_hw72.2.2.2.2.1 r
theorem k0_off199_wordsbf16 : ∀ (v3660 : BitVec 32) (k0_hw72 : k0_chk72 v3660), ∀ (r : Fin 2), (Rect.unit (s := S8192x256) (k0_off199 v3660 (BitVec.ofNat 32 (128 * r.val))) S128x256.size (k0_off199_inb v3660 k0_hw72 r)).WholeWords (EltTy.packing .bf16) := fun v3660 k0_hw72 r => k0_hw72.2.2.2.2.2 r (k0_off199_inb v3660 k0_hw72 r)

def k0_dev118 (v3 : BitVec 32) : Nat :=
  let c0_i32_3163 : BitVec 32 := 0#32
  let c1_i32_3162 : BitVec 32 := 1#32
  let v3857 : BitVec 32 := Scalar.muli v3 c1_i32_3162
  let v3858 : BitVec 32 := Scalar.addi c0_i32_3163 v3857
  v3858.toNat
def k0_dev119 (v3 : BitVec 32) : Nat :=
  let c0_i32_3182 : BitVec 32 := 0#32
  let c1_i32_3181 : BitVec 32 := 1#32
  let v3881 : BitVec 32 := Scalar.muli v3 c1_i32_3181
  let v3882 : BitVec 32 := Scalar.addi c0_i32_3182 v3881
  v3882.toNat
def k0_off200 (v3791 : BitVec 32) : Fin 2 → Nat :=
  let c256_i32_3185 : BitVec 32 := 256#32
  let v3889 : BitVec 32 := Scalar.muli v3791 c256_i32_3185
  let v3890 : Index := Scalar.indexCast v3889
  let c0_3186 : Index := 0#32
  ![v3890.toNat, 0]
def k0_off201 (v3792 : BitVec 32) : Fin 2 → Nat :=
  let c256_i32_3196 : BitVec 32 := 256#32
  let v3906 : BitVec 32 := Scalar.muli v3792 c256_i32_3196
  let v3907 : Index := Scalar.indexCast v3906
  let c0_3197 : Index := 0#32
  ![v3907.toNat, 0]
def k0_off202 (v3923 : BitVec 32) : Fin 1 → Nat :=
  ![v3923.toNat]

def k0_off203 (v3923 : BitVec 32) (c0_i32_3210 : BitVec 32) : Fin 2 → Nat :=
  let c256_i32_3209 : BitVec 32 := 256#32
  let v3925 : BitVec 32 := Scalar.muli v3923 c256_i32_3209
  let v3926 : BitVec 32 := Scalar.addi v3925 c0_i32_3210
  let c0_i32_3213 : BitVec 32 := 0#32
  ![v3926.toNat, 0]
def k0_off204 (v3791 : BitVec 32) (c0_i32_3120 : BitVec 32) : Fin 2 → Nat :=
  let c256_i32_3119 : BitVec 32 := 256#32
  let v3805 : BitVec 32 := Scalar.muli v3791 c256_i32_3119
  let v3806 : BitVec 32 := Scalar.addi v3805 c0_i32_3120
  let c0_i32_3217 : BitVec 32 := 0#32
  ![v3806.toNat, 0]

def k0_chk73 (v3791 : BitVec 32) : Prop :=
  (∀ a, (k0_off194 v3791) a + S1.size a ≤ S32.size a) ∧
  (∀ (r : Fin 2), ∀ a, (k0_off195 v3791 (BitVec.ofNat 32 (128 * r.val))) a + S128x256.size a ≤ S8192x256.size a) ∧
  (∀ (r : Fin 2), ∀ (hinb : ∀ a, (k0_off195 v3791 (BitVec.ofNat 32 (128 * r.val))) a + S128x256.size a ≤ S8192x256.size a), (Rect.unit (s := S8192x256) (k0_off195 v3791 (BitVec.ofNat 32 (128 * r.val))) S128x256.size hinb).WholeWords (EltTy.packing .bf16)) ∧
  (∀ a, (k0_off200 v3791) a + S256x256.size a ≤ S8192x256.size a) ∧
  (∀ (r : Fin 2), ∀ a, (k0_off204 v3791 (BitVec.ofNat 32 (128 * r.val))) a + S128x256.size a ≤ S8192x256.size a) ∧
  (∀ (r : Fin 2), ∀ (hinb : ∀ a, (k0_off204 v3791 (BitVec.ofNat 32 (128 * r.val))) a + S128x256.size a ≤ S8192x256.size a), (Rect.unit (s := S8192x256) (k0_off204 v3791 (BitVec.ofNat 32 (128 * r.val))) S128x256.size hinb).WholeWords (EltTy.packing .bf16))
theorem k0_off194_inb : ∀ (v3791 : BitVec 32) (k0_hw73 : k0_chk73 v3791), ∀ a, (k0_off194 v3791) a + S1.size a ≤ S32.size a := fun v3791 k0_hw73 => k0_hw73.1
theorem k0_off195_inb : ∀ (v3791 : BitVec 32) (k0_hw73 : k0_chk73 v3791), ∀ (r : Fin 2), ∀ a, (k0_off195 v3791 (BitVec.ofNat 32 (128 * r.val))) a + S128x256.size a ≤ S8192x256.size a := fun v3791 k0_hw73 r => k0_hw73.2.1 r
theorem k0_off195_wordsbf16 : ∀ (v3791 : BitVec 32) (k0_hw73 : k0_chk73 v3791), ∀ (r : Fin 2), (Rect.unit (s := S8192x256) (k0_off195 v3791 (BitVec.ofNat 32 (128 * r.val))) S128x256.size (k0_off195_inb v3791 k0_hw73 r)).WholeWords (EltTy.packing .bf16) := fun v3791 k0_hw73 r => k0_hw73.2.2.1 r (k0_off195_inb v3791 k0_hw73 r)
theorem k0_off200_inb : ∀ (v3791 : BitVec 32) (k0_hw73 : k0_chk73 v3791), ∀ a, (k0_off200 v3791) a + S256x256.size a ≤ S8192x256.size a := fun v3791 k0_hw73 => k0_hw73.2.2.2.1
theorem k0_off204_inb : ∀ (v3791 : BitVec 32) (k0_hw73 : k0_chk73 v3791), ∀ (r : Fin 2), ∀ a, (k0_off204 v3791 (BitVec.ofNat 32 (128 * r.val))) a + S128x256.size a ≤ S8192x256.size a := fun v3791 k0_hw73 r => k0_hw73.2.2.2.2.1 r
theorem k0_off204_wordsbf16 : ∀ (v3791 : BitVec 32) (k0_hw73 : k0_chk73 v3791), ∀ (r : Fin 2), (Rect.unit (s := S8192x256) (k0_off204 v3791 (BitVec.ofNat 32 (128 * r.val))) S128x256.size (k0_off204_inb v3791 k0_hw73 r)).WholeWords (EltTy.packing .bf16) := fun v3791 k0_hw73 r => k0_hw73.2.2.2.2.2 r (k0_off204_inb v3791 k0_hw73 r)

def k0_dev120 (v4 : BitVec 32) : Nat :=
  let c0_i32_3225 : BitVec 32 := 0#32
  let c1_i32_3224 : BitVec 32 := 1#32
  let v3941 : BitVec 32 := Scalar.muli v4 c1_i32_3224
  let v3942 : BitVec 32 := Scalar.addi c0_i32_3225 v3941
  v3942.toNat
def k0_dev121 (v4 : BitVec 32) : Nat :=
  let c0_i32_3244 : BitVec 32 := 0#32
  let c1_i32_3243 : BitVec 32 := 1#32
  let v3965 : BitVec 32 := Scalar.muli v4 c1_i32_3243
  let v3966 : BitVec 32 := Scalar.addi c0_i32_3244 v3965
  v3966.toNat
def k0_off205 (v3924 : BitVec 32) : Fin 1 → Nat :=
  ![v3924.toNat]

def k0_off206 (v3924 : BitVec 32) (c0_i32_3248 : BitVec 32) : Fin 2 → Nat :=
  let c256_i32_3247 : BitVec 32 := 256#32
  let v3973 : BitVec 32 := Scalar.muli v3924 c256_i32_3247
  let v3974 : BitVec 32 := Scalar.addi v3973 c0_i32_3248
  let c0_i32_3251 : BitVec 32 := 0#32
  ![v3974.toNat, 0]
def k0_off207 (v3792 : BitVec 32) (c0_i32_3158 : BitVec 32) : Fin 2 → Nat :=
  let c256_i32_3157 : BitVec 32 := 256#32
  let v3853 : BitVec 32 := Scalar.muli v3792 c256_i32_3157
  let v3854 : BitVec 32 := Scalar.addi v3853 c0_i32_3158
  let c0_i32_3255 : BitVec 32 := 0#32
  ![v3854.toNat, 0]

def k0_chk74 (v3792 : BitVec 32) : Prop :=
  (∀ a, (k0_off197 v3792) a + S1.size a ≤ S32.size a) ∧
  (∀ (r : Fin 2), ∀ a, (k0_off198 v3792 (BitVec.ofNat 32 (128 * r.val))) a + S128x256.size a ≤ S8192x256.size a) ∧
  (∀ (r : Fin 2), ∀ (hinb : ∀ a, (k0_off198 v3792 (BitVec.ofNat 32 (128 * r.val))) a + S128x256.size a ≤ S8192x256.size a), (Rect.unit (s := S8192x256) (k0_off198 v3792 (BitVec.ofNat 32 (128 * r.val))) S128x256.size hinb).WholeWords (EltTy.packing .bf16)) ∧
  (∀ a, (k0_off201 v3792) a + S256x256.size a ≤ S8192x256.size a) ∧
  (∀ (r : Fin 2), ∀ a, (k0_off207 v3792 (BitVec.ofNat 32 (128 * r.val))) a + S128x256.size a ≤ S8192x256.size a) ∧
  (∀ (r : Fin 2), ∀ (hinb : ∀ a, (k0_off207 v3792 (BitVec.ofNat 32 (128 * r.val))) a + S128x256.size a ≤ S8192x256.size a), (Rect.unit (s := S8192x256) (k0_off207 v3792 (BitVec.ofNat 32 (128 * r.val))) S128x256.size hinb).WholeWords (EltTy.packing .bf16))
theorem k0_off197_inb : ∀ (v3792 : BitVec 32) (k0_hw74 : k0_chk74 v3792), ∀ a, (k0_off197 v3792) a + S1.size a ≤ S32.size a := fun v3792 k0_hw74 => k0_hw74.1
theorem k0_off198_inb : ∀ (v3792 : BitVec 32) (k0_hw74 : k0_chk74 v3792), ∀ (r : Fin 2), ∀ a, (k0_off198 v3792 (BitVec.ofNat 32 (128 * r.val))) a + S128x256.size a ≤ S8192x256.size a := fun v3792 k0_hw74 r => k0_hw74.2.1 r
theorem k0_off198_wordsbf16 : ∀ (v3792 : BitVec 32) (k0_hw74 : k0_chk74 v3792), ∀ (r : Fin 2), (Rect.unit (s := S8192x256) (k0_off198 v3792 (BitVec.ofNat 32 (128 * r.val))) S128x256.size (k0_off198_inb v3792 k0_hw74 r)).WholeWords (EltTy.packing .bf16) := fun v3792 k0_hw74 r => k0_hw74.2.2.1 r (k0_off198_inb v3792 k0_hw74 r)
theorem k0_off201_inb : ∀ (v3792 : BitVec 32) (k0_hw74 : k0_chk74 v3792), ∀ a, (k0_off201 v3792) a + S256x256.size a ≤ S8192x256.size a := fun v3792 k0_hw74 => k0_hw74.2.2.2.1
theorem k0_off207_inb : ∀ (v3792 : BitVec 32) (k0_hw74 : k0_chk74 v3792), ∀ (r : Fin 2), ∀ a, (k0_off207 v3792 (BitVec.ofNat 32 (128 * r.val))) a + S128x256.size a ≤ S8192x256.size a := fun v3792 k0_hw74 r => k0_hw74.2.2.2.2.1 r
theorem k0_off207_wordsbf16 : ∀ (v3792 : BitVec 32) (k0_hw74 : k0_chk74 v3792), ∀ (r : Fin 2), (Rect.unit (s := S8192x256) (k0_off207 v3792 (BitVec.ofNat 32 (128 * r.val))) S128x256.size (k0_off207_inb v3792 k0_hw74 r)).WholeWords (EltTy.packing .bf16) := fun v3792 k0_hw74 r => k0_hw74.2.2.2.2.2 r (k0_off207_inb v3792 k0_hw74 r)

def k0_dev122 (v3 : BitVec 32) : Nat :=
  let c0_i32_3263 : BitVec 32 := 0#32
  let c1_i32_3262 : BitVec 32 := 1#32
  let v3989 : BitVec 32 := Scalar.muli v3 c1_i32_3262
  let v3990 : BitVec 32 := Scalar.addi c0_i32_3263 v3989
  v3990.toNat
def k0_dev123 (v3 : BitVec 32) : Nat :=
  let c0_i32_3282 : BitVec 32 := 0#32
  let c1_i32_3281 : BitVec 32 := 1#32
  let v4013 : BitVec 32 := Scalar.muli v3 c1_i32_3281
  let v4014 : BitVec 32 := Scalar.addi c0_i32_3282 v4013
  v4014.toNat
def k0_off208 (v3923 : BitVec 32) : Fin 2 → Nat :=
  let c256_i32_3285 : BitVec 32 := 256#32
  let v4021 : BitVec 32 := Scalar.muli v3923 c256_i32_3285
  let v4022 : Index := Scalar.indexCast v4021
  let c0_3286 : Index := 0#32
  ![v4022.toNat, 0]
def k0_off209 (v3924 : BitVec 32) : Fin 2 → Nat :=
  let c256_i32_3296 : BitVec 32 := 256#32
  let v4038 : BitVec 32 := Scalar.muli v3924 c256_i32_3296
  let v4039 : Index := Scalar.indexCast v4038
  let c0_3297 : Index := 0#32
  ![v4039.toNat, 0]
def k0_off210 (v4055 : BitVec 32) : Fin 1 → Nat :=
  ![v4055.toNat]

def k0_off211 (v4055 : BitVec 32) (c0_i32_3310 : BitVec 32) : Fin 2 → Nat :=
  let c256_i32_3309 : BitVec 32 := 256#32
  let v4057 : BitVec 32 := Scalar.muli v4055 c256_i32_3309
  let v4058 : BitVec 32 := Scalar.addi v4057 c0_i32_3310
  let c0_i32_3313 : BitVec 32 := 0#32
  ![v4058.toNat, 0]
def k0_off212 (v3923 : BitVec 32) (c0_i32_3220 : BitVec 32) : Fin 2 → Nat :=
  let c256_i32_3219 : BitVec 32 := 256#32
  let v3937 : BitVec 32 := Scalar.muli v3923 c256_i32_3219
  let v3938 : BitVec 32 := Scalar.addi v3937 c0_i32_3220
  let c0_i32_3317 : BitVec 32 := 0#32
  ![v3938.toNat, 0]

def k0_chk75 (v3923 : BitVec 32) : Prop :=
  (∀ a, (k0_off202 v3923) a + S1.size a ≤ S32.size a) ∧
  (∀ (r : Fin 2), ∀ a, (k0_off203 v3923 (BitVec.ofNat 32 (128 * r.val))) a + S128x256.size a ≤ S8192x256.size a) ∧
  (∀ (r : Fin 2), ∀ (hinb : ∀ a, (k0_off203 v3923 (BitVec.ofNat 32 (128 * r.val))) a + S128x256.size a ≤ S8192x256.size a), (Rect.unit (s := S8192x256) (k0_off203 v3923 (BitVec.ofNat 32 (128 * r.val))) S128x256.size hinb).WholeWords (EltTy.packing .bf16)) ∧
  (∀ a, (k0_off208 v3923) a + S256x256.size a ≤ S8192x256.size a) ∧
  (∀ (r : Fin 2), ∀ a, (k0_off212 v3923 (BitVec.ofNat 32 (128 * r.val))) a + S128x256.size a ≤ S8192x256.size a) ∧
  (∀ (r : Fin 2), ∀ (hinb : ∀ a, (k0_off212 v3923 (BitVec.ofNat 32 (128 * r.val))) a + S128x256.size a ≤ S8192x256.size a), (Rect.unit (s := S8192x256) (k0_off212 v3923 (BitVec.ofNat 32 (128 * r.val))) S128x256.size hinb).WholeWords (EltTy.packing .bf16))
theorem k0_off202_inb : ∀ (v3923 : BitVec 32) (k0_hw75 : k0_chk75 v3923), ∀ a, (k0_off202 v3923) a + S1.size a ≤ S32.size a := fun v3923 k0_hw75 => k0_hw75.1
theorem k0_off203_inb : ∀ (v3923 : BitVec 32) (k0_hw75 : k0_chk75 v3923), ∀ (r : Fin 2), ∀ a, (k0_off203 v3923 (BitVec.ofNat 32 (128 * r.val))) a + S128x256.size a ≤ S8192x256.size a := fun v3923 k0_hw75 r => k0_hw75.2.1 r
theorem k0_off203_wordsbf16 : ∀ (v3923 : BitVec 32) (k0_hw75 : k0_chk75 v3923), ∀ (r : Fin 2), (Rect.unit (s := S8192x256) (k0_off203 v3923 (BitVec.ofNat 32 (128 * r.val))) S128x256.size (k0_off203_inb v3923 k0_hw75 r)).WholeWords (EltTy.packing .bf16) := fun v3923 k0_hw75 r => k0_hw75.2.2.1 r (k0_off203_inb v3923 k0_hw75 r)
theorem k0_off208_inb : ∀ (v3923 : BitVec 32) (k0_hw75 : k0_chk75 v3923), ∀ a, (k0_off208 v3923) a + S256x256.size a ≤ S8192x256.size a := fun v3923 k0_hw75 => k0_hw75.2.2.2.1
theorem k0_off212_inb : ∀ (v3923 : BitVec 32) (k0_hw75 : k0_chk75 v3923), ∀ (r : Fin 2), ∀ a, (k0_off212 v3923 (BitVec.ofNat 32 (128 * r.val))) a + S128x256.size a ≤ S8192x256.size a := fun v3923 k0_hw75 r => k0_hw75.2.2.2.2.1 r
theorem k0_off212_wordsbf16 : ∀ (v3923 : BitVec 32) (k0_hw75 : k0_chk75 v3923), ∀ (r : Fin 2), (Rect.unit (s := S8192x256) (k0_off212 v3923 (BitVec.ofNat 32 (128 * r.val))) S128x256.size (k0_off212_inb v3923 k0_hw75 r)).WholeWords (EltTy.packing .bf16) := fun v3923 k0_hw75 r => k0_hw75.2.2.2.2.2 r (k0_off212_inb v3923 k0_hw75 r)

def k0_dev124 (v4 : BitVec 32) : Nat :=
  let c0_i32_3325 : BitVec 32 := 0#32
  let c1_i32_3324 : BitVec 32 := 1#32
  let v4073 : BitVec 32 := Scalar.muli v4 c1_i32_3324
  let v4074 : BitVec 32 := Scalar.addi c0_i32_3325 v4073
  v4074.toNat
def k0_dev125 (v4 : BitVec 32) : Nat :=
  let c0_i32_3344 : BitVec 32 := 0#32
  let c1_i32_3343 : BitVec 32 := 1#32
  let v4097 : BitVec 32 := Scalar.muli v4 c1_i32_3343
  let v4098 : BitVec 32 := Scalar.addi c0_i32_3344 v4097
  v4098.toNat
def k0_off213 (v4056 : BitVec 32) : Fin 1 → Nat :=
  ![v4056.toNat]

def k0_off214 (v4056 : BitVec 32) (c0_i32_3348 : BitVec 32) : Fin 2 → Nat :=
  let c256_i32_3347 : BitVec 32 := 256#32
  let v4105 : BitVec 32 := Scalar.muli v4056 c256_i32_3347
  let v4106 : BitVec 32 := Scalar.addi v4105 c0_i32_3348
  let c0_i32_3351 : BitVec 32 := 0#32
  ![v4106.toNat, 0]
def k0_off215 (v3924 : BitVec 32) (c0_i32_3258 : BitVec 32) : Fin 2 → Nat :=
  let c256_i32_3257 : BitVec 32 := 256#32
  let v3985 : BitVec 32 := Scalar.muli v3924 c256_i32_3257
  let v3986 : BitVec 32 := Scalar.addi v3985 c0_i32_3258
  let c0_i32_3355 : BitVec 32 := 0#32
  ![v3986.toNat, 0]

def k0_chk76 (v3924 : BitVec 32) : Prop :=
  (∀ a, (k0_off205 v3924) a + S1.size a ≤ S32.size a) ∧
  (∀ (r : Fin 2), ∀ a, (k0_off206 v3924 (BitVec.ofNat 32 (128 * r.val))) a + S128x256.size a ≤ S8192x256.size a) ∧
  (∀ (r : Fin 2), ∀ (hinb : ∀ a, (k0_off206 v3924 (BitVec.ofNat 32 (128 * r.val))) a + S128x256.size a ≤ S8192x256.size a), (Rect.unit (s := S8192x256) (k0_off206 v3924 (BitVec.ofNat 32 (128 * r.val))) S128x256.size hinb).WholeWords (EltTy.packing .bf16)) ∧
  (∀ a, (k0_off209 v3924) a + S256x256.size a ≤ S8192x256.size a) ∧
  (∀ (r : Fin 2), ∀ a, (k0_off215 v3924 (BitVec.ofNat 32 (128 * r.val))) a + S128x256.size a ≤ S8192x256.size a) ∧
  (∀ (r : Fin 2), ∀ (hinb : ∀ a, (k0_off215 v3924 (BitVec.ofNat 32 (128 * r.val))) a + S128x256.size a ≤ S8192x256.size a), (Rect.unit (s := S8192x256) (k0_off215 v3924 (BitVec.ofNat 32 (128 * r.val))) S128x256.size hinb).WholeWords (EltTy.packing .bf16))
theorem k0_off205_inb : ∀ (v3924 : BitVec 32) (k0_hw76 : k0_chk76 v3924), ∀ a, (k0_off205 v3924) a + S1.size a ≤ S32.size a := fun v3924 k0_hw76 => k0_hw76.1
theorem k0_off206_inb : ∀ (v3924 : BitVec 32) (k0_hw76 : k0_chk76 v3924), ∀ (r : Fin 2), ∀ a, (k0_off206 v3924 (BitVec.ofNat 32 (128 * r.val))) a + S128x256.size a ≤ S8192x256.size a := fun v3924 k0_hw76 r => k0_hw76.2.1 r
theorem k0_off206_wordsbf16 : ∀ (v3924 : BitVec 32) (k0_hw76 : k0_chk76 v3924), ∀ (r : Fin 2), (Rect.unit (s := S8192x256) (k0_off206 v3924 (BitVec.ofNat 32 (128 * r.val))) S128x256.size (k0_off206_inb v3924 k0_hw76 r)).WholeWords (EltTy.packing .bf16) := fun v3924 k0_hw76 r => k0_hw76.2.2.1 r (k0_off206_inb v3924 k0_hw76 r)
theorem k0_off209_inb : ∀ (v3924 : BitVec 32) (k0_hw76 : k0_chk76 v3924), ∀ a, (k0_off209 v3924) a + S256x256.size a ≤ S8192x256.size a := fun v3924 k0_hw76 => k0_hw76.2.2.2.1
theorem k0_off215_inb : ∀ (v3924 : BitVec 32) (k0_hw76 : k0_chk76 v3924), ∀ (r : Fin 2), ∀ a, (k0_off215 v3924 (BitVec.ofNat 32 (128 * r.val))) a + S128x256.size a ≤ S8192x256.size a := fun v3924 k0_hw76 r => k0_hw76.2.2.2.2.1 r
theorem k0_off215_wordsbf16 : ∀ (v3924 : BitVec 32) (k0_hw76 : k0_chk76 v3924), ∀ (r : Fin 2), (Rect.unit (s := S8192x256) (k0_off215 v3924 (BitVec.ofNat 32 (128 * r.val))) S128x256.size (k0_off215_inb v3924 k0_hw76 r)).WholeWords (EltTy.packing .bf16) := fun v3924 k0_hw76 r => k0_hw76.2.2.2.2.2 r (k0_off215_inb v3924 k0_hw76 r)

def k0_dev126 (v3 : BitVec 32) : Nat :=
  let c0_i32_3363 : BitVec 32 := 0#32
  let c1_i32_3362 : BitVec 32 := 1#32
  let v4121 : BitVec 32 := Scalar.muli v3 c1_i32_3362
  let v4122 : BitVec 32 := Scalar.addi c0_i32_3363 v4121
  v4122.toNat
def k0_dev127 (v3 : BitVec 32) : Nat :=
  let c0_i32_3382 : BitVec 32 := 0#32
  let c1_i32_3381 : BitVec 32 := 1#32
  let v4145 : BitVec 32 := Scalar.muli v3 c1_i32_3381
  let v4146 : BitVec 32 := Scalar.addi c0_i32_3382 v4145
  v4146.toNat
def k0_off216 (v4055 : BitVec 32) : Fin 2 → Nat :=
  let c256_i32_3385 : BitVec 32 := 256#32
  let v4153 : BitVec 32 := Scalar.muli v4055 c256_i32_3385
  let v4154 : Index := Scalar.indexCast v4153
  let c0_3386 : Index := 0#32
  ![v4154.toNat, 0]
def k0_off217 (v4056 : BitVec 32) : Fin 2 → Nat :=
  let c256_i32_3396 : BitVec 32 := 256#32
  let v4170 : BitVec 32 := Scalar.muli v4056 c256_i32_3396
  let v4171 : Index := Scalar.indexCast v4170
  let c0_3397 : Index := 0#32
  ![v4171.toNat, 0]
def k0_off218 (v4187 : BitVec 32) : Fin 1 → Nat :=
  ![v4187.toNat]

def k0_off219 (v4187 : BitVec 32) (c0_i32_3410 : BitVec 32) : Fin 2 → Nat :=
  let c256_i32_3409 : BitVec 32 := 256#32
  let v4189 : BitVec 32 := Scalar.muli v4187 c256_i32_3409
  let v4190 : BitVec 32 := Scalar.addi v4189 c0_i32_3410
  let c0_i32_3413 : BitVec 32 := 0#32
  ![v4190.toNat, 0]
def k0_off220 (v4055 : BitVec 32) (c0_i32_3320 : BitVec 32) : Fin 2 → Nat :=
  let c256_i32_3319 : BitVec 32 := 256#32
  let v4069 : BitVec 32 := Scalar.muli v4055 c256_i32_3319
  let v4070 : BitVec 32 := Scalar.addi v4069 c0_i32_3320
  let c0_i32_3417 : BitVec 32 := 0#32
  ![v4070.toNat, 0]

def k0_chk77 (v4055 : BitVec 32) : Prop :=
  (∀ a, (k0_off210 v4055) a + S1.size a ≤ S32.size a) ∧
  (∀ (r : Fin 2), ∀ a, (k0_off211 v4055 (BitVec.ofNat 32 (128 * r.val))) a + S128x256.size a ≤ S8192x256.size a) ∧
  (∀ (r : Fin 2), ∀ (hinb : ∀ a, (k0_off211 v4055 (BitVec.ofNat 32 (128 * r.val))) a + S128x256.size a ≤ S8192x256.size a), (Rect.unit (s := S8192x256) (k0_off211 v4055 (BitVec.ofNat 32 (128 * r.val))) S128x256.size hinb).WholeWords (EltTy.packing .bf16)) ∧
  (∀ a, (k0_off216 v4055) a + S256x256.size a ≤ S8192x256.size a) ∧
  (∀ (r : Fin 2), ∀ a, (k0_off220 v4055 (BitVec.ofNat 32 (128 * r.val))) a + S128x256.size a ≤ S8192x256.size a) ∧
  (∀ (r : Fin 2), ∀ (hinb : ∀ a, (k0_off220 v4055 (BitVec.ofNat 32 (128 * r.val))) a + S128x256.size a ≤ S8192x256.size a), (Rect.unit (s := S8192x256) (k0_off220 v4055 (BitVec.ofNat 32 (128 * r.val))) S128x256.size hinb).WholeWords (EltTy.packing .bf16))
theorem k0_off210_inb : ∀ (v4055 : BitVec 32) (k0_hw77 : k0_chk77 v4055), ∀ a, (k0_off210 v4055) a + S1.size a ≤ S32.size a := fun v4055 k0_hw77 => k0_hw77.1
theorem k0_off211_inb : ∀ (v4055 : BitVec 32) (k0_hw77 : k0_chk77 v4055), ∀ (r : Fin 2), ∀ a, (k0_off211 v4055 (BitVec.ofNat 32 (128 * r.val))) a + S128x256.size a ≤ S8192x256.size a := fun v4055 k0_hw77 r => k0_hw77.2.1 r
theorem k0_off211_wordsbf16 : ∀ (v4055 : BitVec 32) (k0_hw77 : k0_chk77 v4055), ∀ (r : Fin 2), (Rect.unit (s := S8192x256) (k0_off211 v4055 (BitVec.ofNat 32 (128 * r.val))) S128x256.size (k0_off211_inb v4055 k0_hw77 r)).WholeWords (EltTy.packing .bf16) := fun v4055 k0_hw77 r => k0_hw77.2.2.1 r (k0_off211_inb v4055 k0_hw77 r)
theorem k0_off216_inb : ∀ (v4055 : BitVec 32) (k0_hw77 : k0_chk77 v4055), ∀ a, (k0_off216 v4055) a + S256x256.size a ≤ S8192x256.size a := fun v4055 k0_hw77 => k0_hw77.2.2.2.1
theorem k0_off220_inb : ∀ (v4055 : BitVec 32) (k0_hw77 : k0_chk77 v4055), ∀ (r : Fin 2), ∀ a, (k0_off220 v4055 (BitVec.ofNat 32 (128 * r.val))) a + S128x256.size a ≤ S8192x256.size a := fun v4055 k0_hw77 r => k0_hw77.2.2.2.2.1 r
theorem k0_off220_wordsbf16 : ∀ (v4055 : BitVec 32) (k0_hw77 : k0_chk77 v4055), ∀ (r : Fin 2), (Rect.unit (s := S8192x256) (k0_off220 v4055 (BitVec.ofNat 32 (128 * r.val))) S128x256.size (k0_off220_inb v4055 k0_hw77 r)).WholeWords (EltTy.packing .bf16) := fun v4055 k0_hw77 r => k0_hw77.2.2.2.2.2 r (k0_off220_inb v4055 k0_hw77 r)

def k0_dev128 (v4 : BitVec 32) : Nat :=
  let c0_i32_3425 : BitVec 32 := 0#32
  let c1_i32_3424 : BitVec 32 := 1#32
  let v4205 : BitVec 32 := Scalar.muli v4 c1_i32_3424
  let v4206 : BitVec 32 := Scalar.addi c0_i32_3425 v4205
  v4206.toNat
def k0_dev129 (v4 : BitVec 32) : Nat :=
  let c0_i32_3444 : BitVec 32 := 0#32
  let c1_i32_3443 : BitVec 32 := 1#32
  let v4229 : BitVec 32 := Scalar.muli v4 c1_i32_3443
  let v4230 : BitVec 32 := Scalar.addi c0_i32_3444 v4229
  v4230.toNat
def k0_off221 (v4188 : BitVec 32) : Fin 1 → Nat :=
  ![v4188.toNat]

def k0_off222 (v4188 : BitVec 32) (c0_i32_3448 : BitVec 32) : Fin 2 → Nat :=
  let c256_i32_3447 : BitVec 32 := 256#32
  let v4237 : BitVec 32 := Scalar.muli v4188 c256_i32_3447
  let v4238 : BitVec 32 := Scalar.addi v4237 c0_i32_3448
  let c0_i32_3451 : BitVec 32 := 0#32
  ![v4238.toNat, 0]
def k0_off223 (v4056 : BitVec 32) (c0_i32_3358 : BitVec 32) : Fin 2 → Nat :=
  let c256_i32_3357 : BitVec 32 := 256#32
  let v4117 : BitVec 32 := Scalar.muli v4056 c256_i32_3357
  let v4118 : BitVec 32 := Scalar.addi v4117 c0_i32_3358
  let c0_i32_3455 : BitVec 32 := 0#32
  ![v4118.toNat, 0]

def k0_chk78 (v4056 : BitVec 32) : Prop :=
  (∀ a, (k0_off213 v4056) a + S1.size a ≤ S32.size a) ∧
  (∀ (r : Fin 2), ∀ a, (k0_off214 v4056 (BitVec.ofNat 32 (128 * r.val))) a + S128x256.size a ≤ S8192x256.size a) ∧
  (∀ (r : Fin 2), ∀ (hinb : ∀ a, (k0_off214 v4056 (BitVec.ofNat 32 (128 * r.val))) a + S128x256.size a ≤ S8192x256.size a), (Rect.unit (s := S8192x256) (k0_off214 v4056 (BitVec.ofNat 32 (128 * r.val))) S128x256.size hinb).WholeWords (EltTy.packing .bf16)) ∧
  (∀ a, (k0_off217 v4056) a + S256x256.size a ≤ S8192x256.size a) ∧
  (∀ (r : Fin 2), ∀ a, (k0_off223 v4056 (BitVec.ofNat 32 (128 * r.val))) a + S128x256.size a ≤ S8192x256.size a) ∧
  (∀ (r : Fin 2), ∀ (hinb : ∀ a, (k0_off223 v4056 (BitVec.ofNat 32 (128 * r.val))) a + S128x256.size a ≤ S8192x256.size a), (Rect.unit (s := S8192x256) (k0_off223 v4056 (BitVec.ofNat 32 (128 * r.val))) S128x256.size hinb).WholeWords (EltTy.packing .bf16))
theorem k0_off213_inb : ∀ (v4056 : BitVec 32) (k0_hw78 : k0_chk78 v4056), ∀ a, (k0_off213 v4056) a + S1.size a ≤ S32.size a := fun v4056 k0_hw78 => k0_hw78.1
theorem k0_off214_inb : ∀ (v4056 : BitVec 32) (k0_hw78 : k0_chk78 v4056), ∀ (r : Fin 2), ∀ a, (k0_off214 v4056 (BitVec.ofNat 32 (128 * r.val))) a + S128x256.size a ≤ S8192x256.size a := fun v4056 k0_hw78 r => k0_hw78.2.1 r
theorem k0_off214_wordsbf16 : ∀ (v4056 : BitVec 32) (k0_hw78 : k0_chk78 v4056), ∀ (r : Fin 2), (Rect.unit (s := S8192x256) (k0_off214 v4056 (BitVec.ofNat 32 (128 * r.val))) S128x256.size (k0_off214_inb v4056 k0_hw78 r)).WholeWords (EltTy.packing .bf16) := fun v4056 k0_hw78 r => k0_hw78.2.2.1 r (k0_off214_inb v4056 k0_hw78 r)
theorem k0_off217_inb : ∀ (v4056 : BitVec 32) (k0_hw78 : k0_chk78 v4056), ∀ a, (k0_off217 v4056) a + S256x256.size a ≤ S8192x256.size a := fun v4056 k0_hw78 => k0_hw78.2.2.2.1
theorem k0_off223_inb : ∀ (v4056 : BitVec 32) (k0_hw78 : k0_chk78 v4056), ∀ (r : Fin 2), ∀ a, (k0_off223 v4056 (BitVec.ofNat 32 (128 * r.val))) a + S128x256.size a ≤ S8192x256.size a := fun v4056 k0_hw78 r => k0_hw78.2.2.2.2.1 r
theorem k0_off223_wordsbf16 : ∀ (v4056 : BitVec 32) (k0_hw78 : k0_chk78 v4056), ∀ (r : Fin 2), (Rect.unit (s := S8192x256) (k0_off223 v4056 (BitVec.ofNat 32 (128 * r.val))) S128x256.size (k0_off223_inb v4056 k0_hw78 r)).WholeWords (EltTy.packing .bf16) := fun v4056 k0_hw78 r => k0_hw78.2.2.2.2.2 r (k0_off223_inb v4056 k0_hw78 r)

def k0_dev130 (v3 : BitVec 32) : Nat :=
  let c0_i32_3463 : BitVec 32 := 0#32
  let c1_i32_3462 : BitVec 32 := 1#32
  let v4253 : BitVec 32 := Scalar.muli v3 c1_i32_3462
  let v4254 : BitVec 32 := Scalar.addi c0_i32_3463 v4253
  v4254.toNat
def k0_dev131 (v3 : BitVec 32) : Nat :=
  let c0_i32_3482 : BitVec 32 := 0#32
  let c1_i32_3481 : BitVec 32 := 1#32
  let v4277 : BitVec 32 := Scalar.muli v3 c1_i32_3481
  let v4278 : BitVec 32 := Scalar.addi c0_i32_3482 v4277
  v4278.toNat
def k0_off224 (v4187 : BitVec 32) : Fin 2 → Nat :=
  let c256_i32_3485 : BitVec 32 := 256#32
  let v4285 : BitVec 32 := Scalar.muli v4187 c256_i32_3485
  let v4286 : Index := Scalar.indexCast v4285
  let c0_3486 : Index := 0#32
  ![v4286.toNat, 0]
def k0_off225 (v4188 : BitVec 32) : Fin 2 → Nat :=
  let c256_i32_3496 : BitVec 32 := 256#32
  let v4302 : BitVec 32 := Scalar.muli v4188 c256_i32_3496
  let v4303 : Index := Scalar.indexCast v4302
  let c0_3497 : Index := 0#32
  ![v4303.toNat, 0]
def k0_off226 (v4319 : BitVec 32) : Fin 1 → Nat :=
  ![v4319.toNat]

def k0_off227 (v4319 : BitVec 32) (c0_i32_3510 : BitVec 32) : Fin 2 → Nat :=
  let c256_i32_3509 : BitVec 32 := 256#32
  let v4321 : BitVec 32 := Scalar.muli v4319 c256_i32_3509
  let v4322 : BitVec 32 := Scalar.addi v4321 c0_i32_3510
  let c0_i32_3513 : BitVec 32 := 0#32
  ![v4322.toNat, 0]
def k0_off228 (v4187 : BitVec 32) (c0_i32_3420 : BitVec 32) : Fin 2 → Nat :=
  let c256_i32_3419 : BitVec 32 := 256#32
  let v4201 : BitVec 32 := Scalar.muli v4187 c256_i32_3419
  let v4202 : BitVec 32 := Scalar.addi v4201 c0_i32_3420
  let c0_i32_3517 : BitVec 32 := 0#32
  ![v4202.toNat, 0]

def k0_chk79 (v4187 : BitVec 32) : Prop :=
  (∀ a, (k0_off218 v4187) a + S1.size a ≤ S32.size a) ∧
  (∀ (r : Fin 2), ∀ a, (k0_off219 v4187 (BitVec.ofNat 32 (128 * r.val))) a + S128x256.size a ≤ S8192x256.size a) ∧
  (∀ (r : Fin 2), ∀ (hinb : ∀ a, (k0_off219 v4187 (BitVec.ofNat 32 (128 * r.val))) a + S128x256.size a ≤ S8192x256.size a), (Rect.unit (s := S8192x256) (k0_off219 v4187 (BitVec.ofNat 32 (128 * r.val))) S128x256.size hinb).WholeWords (EltTy.packing .bf16)) ∧
  (∀ a, (k0_off224 v4187) a + S256x256.size a ≤ S8192x256.size a) ∧
  (∀ (r : Fin 2), ∀ a, (k0_off228 v4187 (BitVec.ofNat 32 (128 * r.val))) a + S128x256.size a ≤ S8192x256.size a) ∧
  (∀ (r : Fin 2), ∀ (hinb : ∀ a, (k0_off228 v4187 (BitVec.ofNat 32 (128 * r.val))) a + S128x256.size a ≤ S8192x256.size a), (Rect.unit (s := S8192x256) (k0_off228 v4187 (BitVec.ofNat 32 (128 * r.val))) S128x256.size hinb).WholeWords (EltTy.packing .bf16))
theorem k0_off218_inb : ∀ (v4187 : BitVec 32) (k0_hw79 : k0_chk79 v4187), ∀ a, (k0_off218 v4187) a + S1.size a ≤ S32.size a := fun v4187 k0_hw79 => k0_hw79.1
theorem k0_off219_inb : ∀ (v4187 : BitVec 32) (k0_hw79 : k0_chk79 v4187), ∀ (r : Fin 2), ∀ a, (k0_off219 v4187 (BitVec.ofNat 32 (128 * r.val))) a + S128x256.size a ≤ S8192x256.size a := fun v4187 k0_hw79 r => k0_hw79.2.1 r
theorem k0_off219_wordsbf16 : ∀ (v4187 : BitVec 32) (k0_hw79 : k0_chk79 v4187), ∀ (r : Fin 2), (Rect.unit (s := S8192x256) (k0_off219 v4187 (BitVec.ofNat 32 (128 * r.val))) S128x256.size (k0_off219_inb v4187 k0_hw79 r)).WholeWords (EltTy.packing .bf16) := fun v4187 k0_hw79 r => k0_hw79.2.2.1 r (k0_off219_inb v4187 k0_hw79 r)
theorem k0_off224_inb : ∀ (v4187 : BitVec 32) (k0_hw79 : k0_chk79 v4187), ∀ a, (k0_off224 v4187) a + S256x256.size a ≤ S8192x256.size a := fun v4187 k0_hw79 => k0_hw79.2.2.2.1
theorem k0_off228_inb : ∀ (v4187 : BitVec 32) (k0_hw79 : k0_chk79 v4187), ∀ (r : Fin 2), ∀ a, (k0_off228 v4187 (BitVec.ofNat 32 (128 * r.val))) a + S128x256.size a ≤ S8192x256.size a := fun v4187 k0_hw79 r => k0_hw79.2.2.2.2.1 r
theorem k0_off228_wordsbf16 : ∀ (v4187 : BitVec 32) (k0_hw79 : k0_chk79 v4187), ∀ (r : Fin 2), (Rect.unit (s := S8192x256) (k0_off228 v4187 (BitVec.ofNat 32 (128 * r.val))) S128x256.size (k0_off228_inb v4187 k0_hw79 r)).WholeWords (EltTy.packing .bf16) := fun v4187 k0_hw79 r => k0_hw79.2.2.2.2.2 r (k0_off228_inb v4187 k0_hw79 r)

def k0_dev132 (v4 : BitVec 32) : Nat :=
  let c0_i32_3525 : BitVec 32 := 0#32
  let c1_i32_3524 : BitVec 32 := 1#32
  let v4337 : BitVec 32 := Scalar.muli v4 c1_i32_3524
  let v4338 : BitVec 32 := Scalar.addi c0_i32_3525 v4337
  v4338.toNat
def k0_dev133 (v4 : BitVec 32) : Nat :=
  let c0_i32_3544 : BitVec 32 := 0#32
  let c1_i32_3543 : BitVec 32 := 1#32
  let v4361 : BitVec 32 := Scalar.muli v4 c1_i32_3543
  let v4362 : BitVec 32 := Scalar.addi c0_i32_3544 v4361
  v4362.toNat
def k0_off229 (v4320 : BitVec 32) : Fin 1 → Nat :=
  ![v4320.toNat]

def k0_off230 (v4320 : BitVec 32) (c0_i32_3548 : BitVec 32) : Fin 2 → Nat :=
  let c256_i32_3547 : BitVec 32 := 256#32
  let v4369 : BitVec 32 := Scalar.muli v4320 c256_i32_3547
  let v4370 : BitVec 32 := Scalar.addi v4369 c0_i32_3548
  let c0_i32_3551 : BitVec 32 := 0#32
  ![v4370.toNat, 0]
def k0_off231 (v4188 : BitVec 32) (c0_i32_3458 : BitVec 32) : Fin 2 → Nat :=
  let c256_i32_3457 : BitVec 32 := 256#32
  let v4249 : BitVec 32 := Scalar.muli v4188 c256_i32_3457
  let v4250 : BitVec 32 := Scalar.addi v4249 c0_i32_3458
  let c0_i32_3555 : BitVec 32 := 0#32
  ![v4250.toNat, 0]

def k0_chk80 (v4188 : BitVec 32) : Prop :=
  (∀ a, (k0_off221 v4188) a + S1.size a ≤ S32.size a) ∧
  (∀ (r : Fin 2), ∀ a, (k0_off222 v4188 (BitVec.ofNat 32 (128 * r.val))) a + S128x256.size a ≤ S8192x256.size a) ∧
  (∀ (r : Fin 2), ∀ (hinb : ∀ a, (k0_off222 v4188 (BitVec.ofNat 32 (128 * r.val))) a + S128x256.size a ≤ S8192x256.size a), (Rect.unit (s := S8192x256) (k0_off222 v4188 (BitVec.ofNat 32 (128 * r.val))) S128x256.size hinb).WholeWords (EltTy.packing .bf16)) ∧
  (∀ a, (k0_off225 v4188) a + S256x256.size a ≤ S8192x256.size a) ∧
  (∀ (r : Fin 2), ∀ a, (k0_off231 v4188 (BitVec.ofNat 32 (128 * r.val))) a + S128x256.size a ≤ S8192x256.size a) ∧
  (∀ (r : Fin 2), ∀ (hinb : ∀ a, (k0_off231 v4188 (BitVec.ofNat 32 (128 * r.val))) a + S128x256.size a ≤ S8192x256.size a), (Rect.unit (s := S8192x256) (k0_off231 v4188 (BitVec.ofNat 32 (128 * r.val))) S128x256.size hinb).WholeWords (EltTy.packing .bf16))
theorem k0_off221_inb : ∀ (v4188 : BitVec 32) (k0_hw80 : k0_chk80 v4188), ∀ a, (k0_off221 v4188) a + S1.size a ≤ S32.size a := fun v4188 k0_hw80 => k0_hw80.1
theorem k0_off222_inb : ∀ (v4188 : BitVec 32) (k0_hw80 : k0_chk80 v4188), ∀ (r : Fin 2), ∀ a, (k0_off222 v4188 (BitVec.ofNat 32 (128 * r.val))) a + S128x256.size a ≤ S8192x256.size a := fun v4188 k0_hw80 r => k0_hw80.2.1 r
theorem k0_off222_wordsbf16 : ∀ (v4188 : BitVec 32) (k0_hw80 : k0_chk80 v4188), ∀ (r : Fin 2), (Rect.unit (s := S8192x256) (k0_off222 v4188 (BitVec.ofNat 32 (128 * r.val))) S128x256.size (k0_off222_inb v4188 k0_hw80 r)).WholeWords (EltTy.packing .bf16) := fun v4188 k0_hw80 r => k0_hw80.2.2.1 r (k0_off222_inb v4188 k0_hw80 r)
theorem k0_off225_inb : ∀ (v4188 : BitVec 32) (k0_hw80 : k0_chk80 v4188), ∀ a, (k0_off225 v4188) a + S256x256.size a ≤ S8192x256.size a := fun v4188 k0_hw80 => k0_hw80.2.2.2.1
theorem k0_off231_inb : ∀ (v4188 : BitVec 32) (k0_hw80 : k0_chk80 v4188), ∀ (r : Fin 2), ∀ a, (k0_off231 v4188 (BitVec.ofNat 32 (128 * r.val))) a + S128x256.size a ≤ S8192x256.size a := fun v4188 k0_hw80 r => k0_hw80.2.2.2.2.1 r
theorem k0_off231_wordsbf16 : ∀ (v4188 : BitVec 32) (k0_hw80 : k0_chk80 v4188), ∀ (r : Fin 2), (Rect.unit (s := S8192x256) (k0_off231 v4188 (BitVec.ofNat 32 (128 * r.val))) S128x256.size (k0_off231_inb v4188 k0_hw80 r)).WholeWords (EltTy.packing .bf16) := fun v4188 k0_hw80 r => k0_hw80.2.2.2.2.2 r (k0_off231_inb v4188 k0_hw80 r)

def k0_dev134 (v3 : BitVec 32) : Nat :=
  let c0_i32_3563 : BitVec 32 := 0#32
  let c1_i32_3562 : BitVec 32 := 1#32
  let v4385 : BitVec 32 := Scalar.muli v3 c1_i32_3562
  let v4386 : BitVec 32 := Scalar.addi c0_i32_3563 v4385
  v4386.toNat
def k0_dev135 (v3 : BitVec 32) : Nat :=
  let c0_i32_3582 : BitVec 32 := 0#32
  let c1_i32_3581 : BitVec 32 := 1#32
  let v4409 : BitVec 32 := Scalar.muli v3 c1_i32_3581
  let v4410 : BitVec 32 := Scalar.addi c0_i32_3582 v4409
  v4410.toNat
def k0_off232 (v4319 : BitVec 32) : Fin 2 → Nat :=
  let c256_i32_3585 : BitVec 32 := 256#32
  let v4417 : BitVec 32 := Scalar.muli v4319 c256_i32_3585
  let v4418 : Index := Scalar.indexCast v4417
  let c0_3586 : Index := 0#32
  ![v4418.toNat, 0]
def k0_off233 (v4320 : BitVec 32) : Fin 2 → Nat :=
  let c256_i32_3596 : BitVec 32 := 256#32
  let v4434 : BitVec 32 := Scalar.muli v4320 c256_i32_3596
  let v4435 : Index := Scalar.indexCast v4434
  let c0_3597 : Index := 0#32
  ![v4435.toNat, 0]
def k0_off234 (v4451 : BitVec 32) : Fin 1 → Nat :=
  ![v4451.toNat]

def k0_off235 (v4451 : BitVec 32) (c0_i32_3610 : BitVec 32) : Fin 2 → Nat :=
  let c256_i32_3609 : BitVec 32 := 256#32
  let v4453 : BitVec 32 := Scalar.muli v4451 c256_i32_3609
  let v4454 : BitVec 32 := Scalar.addi v4453 c0_i32_3610
  let c0_i32_3613 : BitVec 32 := 0#32
  ![v4454.toNat, 0]
def k0_off236 (v4319 : BitVec 32) (c0_i32_3520 : BitVec 32) : Fin 2 → Nat :=
  let c256_i32_3519 : BitVec 32 := 256#32
  let v4333 : BitVec 32 := Scalar.muli v4319 c256_i32_3519
  let v4334 : BitVec 32 := Scalar.addi v4333 c0_i32_3520
  let c0_i32_3617 : BitVec 32 := 0#32
  ![v4334.toNat, 0]

def k0_chk81 (v4319 : BitVec 32) : Prop :=
  (∀ a, (k0_off226 v4319) a + S1.size a ≤ S32.size a) ∧
  (∀ (r : Fin 2), ∀ a, (k0_off227 v4319 (BitVec.ofNat 32 (128 * r.val))) a + S128x256.size a ≤ S8192x256.size a) ∧
  (∀ (r : Fin 2), ∀ (hinb : ∀ a, (k0_off227 v4319 (BitVec.ofNat 32 (128 * r.val))) a + S128x256.size a ≤ S8192x256.size a), (Rect.unit (s := S8192x256) (k0_off227 v4319 (BitVec.ofNat 32 (128 * r.val))) S128x256.size hinb).WholeWords (EltTy.packing .bf16)) ∧
  (∀ a, (k0_off232 v4319) a + S256x256.size a ≤ S8192x256.size a) ∧
  (∀ (r : Fin 2), ∀ a, (k0_off236 v4319 (BitVec.ofNat 32 (128 * r.val))) a + S128x256.size a ≤ S8192x256.size a) ∧
  (∀ (r : Fin 2), ∀ (hinb : ∀ a, (k0_off236 v4319 (BitVec.ofNat 32 (128 * r.val))) a + S128x256.size a ≤ S8192x256.size a), (Rect.unit (s := S8192x256) (k0_off236 v4319 (BitVec.ofNat 32 (128 * r.val))) S128x256.size hinb).WholeWords (EltTy.packing .bf16))
theorem k0_off226_inb : ∀ (v4319 : BitVec 32) (k0_hw81 : k0_chk81 v4319), ∀ a, (k0_off226 v4319) a + S1.size a ≤ S32.size a := fun v4319 k0_hw81 => k0_hw81.1
theorem k0_off227_inb : ∀ (v4319 : BitVec 32) (k0_hw81 : k0_chk81 v4319), ∀ (r : Fin 2), ∀ a, (k0_off227 v4319 (BitVec.ofNat 32 (128 * r.val))) a + S128x256.size a ≤ S8192x256.size a := fun v4319 k0_hw81 r => k0_hw81.2.1 r
theorem k0_off227_wordsbf16 : ∀ (v4319 : BitVec 32) (k0_hw81 : k0_chk81 v4319), ∀ (r : Fin 2), (Rect.unit (s := S8192x256) (k0_off227 v4319 (BitVec.ofNat 32 (128 * r.val))) S128x256.size (k0_off227_inb v4319 k0_hw81 r)).WholeWords (EltTy.packing .bf16) := fun v4319 k0_hw81 r => k0_hw81.2.2.1 r (k0_off227_inb v4319 k0_hw81 r)
theorem k0_off232_inb : ∀ (v4319 : BitVec 32) (k0_hw81 : k0_chk81 v4319), ∀ a, (k0_off232 v4319) a + S256x256.size a ≤ S8192x256.size a := fun v4319 k0_hw81 => k0_hw81.2.2.2.1
theorem k0_off236_inb : ∀ (v4319 : BitVec 32) (k0_hw81 : k0_chk81 v4319), ∀ (r : Fin 2), ∀ a, (k0_off236 v4319 (BitVec.ofNat 32 (128 * r.val))) a + S128x256.size a ≤ S8192x256.size a := fun v4319 k0_hw81 r => k0_hw81.2.2.2.2.1 r
theorem k0_off236_wordsbf16 : ∀ (v4319 : BitVec 32) (k0_hw81 : k0_chk81 v4319), ∀ (r : Fin 2), (Rect.unit (s := S8192x256) (k0_off236 v4319 (BitVec.ofNat 32 (128 * r.val))) S128x256.size (k0_off236_inb v4319 k0_hw81 r)).WholeWords (EltTy.packing .bf16) := fun v4319 k0_hw81 r => k0_hw81.2.2.2.2.2 r (k0_off236_inb v4319 k0_hw81 r)

def k0_dev136 (v4 : BitVec 32) : Nat :=
  let c0_i32_3625 : BitVec 32 := 0#32
  let c1_i32_3624 : BitVec 32 := 1#32
  let v4469 : BitVec 32 := Scalar.muli v4 c1_i32_3624
  let v4470 : BitVec 32 := Scalar.addi c0_i32_3625 v4469
  v4470.toNat
def k0_dev137 (v4 : BitVec 32) : Nat :=
  let c0_i32_3644 : BitVec 32 := 0#32
  let c1_i32_3643 : BitVec 32 := 1#32
  let v4493 : BitVec 32 := Scalar.muli v4 c1_i32_3643
  let v4494 : BitVec 32 := Scalar.addi c0_i32_3644 v4493
  v4494.toNat
def k0_off237 (v4452 : BitVec 32) : Fin 1 → Nat :=
  ![v4452.toNat]

def k0_off238 (v4452 : BitVec 32) (c0_i32_3648 : BitVec 32) : Fin 2 → Nat :=
  let c256_i32_3647 : BitVec 32 := 256#32
  let v4501 : BitVec 32 := Scalar.muli v4452 c256_i32_3647
  let v4502 : BitVec 32 := Scalar.addi v4501 c0_i32_3648
  let c0_i32_3651 : BitVec 32 := 0#32
  ![v4502.toNat, 0]
def k0_off239 (v4320 : BitVec 32) (c0_i32_3558 : BitVec 32) : Fin 2 → Nat :=
  let c256_i32_3557 : BitVec 32 := 256#32
  let v4381 : BitVec 32 := Scalar.muli v4320 c256_i32_3557
  let v4382 : BitVec 32 := Scalar.addi v4381 c0_i32_3558
  let c0_i32_3655 : BitVec 32 := 0#32
  ![v4382.toNat, 0]

def k0_chk82 (v4320 : BitVec 32) : Prop :=
  (∀ a, (k0_off229 v4320) a + S1.size a ≤ S32.size a) ∧
  (∀ (r : Fin 2), ∀ a, (k0_off230 v4320 (BitVec.ofNat 32 (128 * r.val))) a + S128x256.size a ≤ S8192x256.size a) ∧
  (∀ (r : Fin 2), ∀ (hinb : ∀ a, (k0_off230 v4320 (BitVec.ofNat 32 (128 * r.val))) a + S128x256.size a ≤ S8192x256.size a), (Rect.unit (s := S8192x256) (k0_off230 v4320 (BitVec.ofNat 32 (128 * r.val))) S128x256.size hinb).WholeWords (EltTy.packing .bf16)) ∧
  (∀ a, (k0_off233 v4320) a + S256x256.size a ≤ S8192x256.size a) ∧
  (∀ (r : Fin 2), ∀ a, (k0_off239 v4320 (BitVec.ofNat 32 (128 * r.val))) a + S128x256.size a ≤ S8192x256.size a) ∧
  (∀ (r : Fin 2), ∀ (hinb : ∀ a, (k0_off239 v4320 (BitVec.ofNat 32 (128 * r.val))) a + S128x256.size a ≤ S8192x256.size a), (Rect.unit (s := S8192x256) (k0_off239 v4320 (BitVec.ofNat 32 (128 * r.val))) S128x256.size hinb).WholeWords (EltTy.packing .bf16))
theorem k0_off229_inb : ∀ (v4320 : BitVec 32) (k0_hw82 : k0_chk82 v4320), ∀ a, (k0_off229 v4320) a + S1.size a ≤ S32.size a := fun v4320 k0_hw82 => k0_hw82.1
theorem k0_off230_inb : ∀ (v4320 : BitVec 32) (k0_hw82 : k0_chk82 v4320), ∀ (r : Fin 2), ∀ a, (k0_off230 v4320 (BitVec.ofNat 32 (128 * r.val))) a + S128x256.size a ≤ S8192x256.size a := fun v4320 k0_hw82 r => k0_hw82.2.1 r
theorem k0_off230_wordsbf16 : ∀ (v4320 : BitVec 32) (k0_hw82 : k0_chk82 v4320), ∀ (r : Fin 2), (Rect.unit (s := S8192x256) (k0_off230 v4320 (BitVec.ofNat 32 (128 * r.val))) S128x256.size (k0_off230_inb v4320 k0_hw82 r)).WholeWords (EltTy.packing .bf16) := fun v4320 k0_hw82 r => k0_hw82.2.2.1 r (k0_off230_inb v4320 k0_hw82 r)
theorem k0_off233_inb : ∀ (v4320 : BitVec 32) (k0_hw82 : k0_chk82 v4320), ∀ a, (k0_off233 v4320) a + S256x256.size a ≤ S8192x256.size a := fun v4320 k0_hw82 => k0_hw82.2.2.2.1
theorem k0_off239_inb : ∀ (v4320 : BitVec 32) (k0_hw82 : k0_chk82 v4320), ∀ (r : Fin 2), ∀ a, (k0_off239 v4320 (BitVec.ofNat 32 (128 * r.val))) a + S128x256.size a ≤ S8192x256.size a := fun v4320 k0_hw82 r => k0_hw82.2.2.2.2.1 r
theorem k0_off239_wordsbf16 : ∀ (v4320 : BitVec 32) (k0_hw82 : k0_chk82 v4320), ∀ (r : Fin 2), (Rect.unit (s := S8192x256) (k0_off239 v4320 (BitVec.ofNat 32 (128 * r.val))) S128x256.size (k0_off239_inb v4320 k0_hw82 r)).WholeWords (EltTy.packing .bf16) := fun v4320 k0_hw82 r => k0_hw82.2.2.2.2.2 r (k0_off239_inb v4320 k0_hw82 r)

def k0_dev138 (v3 : BitVec 32) : Nat :=
  let c0_i32_3663 : BitVec 32 := 0#32
  let c1_i32_3662 : BitVec 32 := 1#32
  let v4517 : BitVec 32 := Scalar.muli v3 c1_i32_3662
  let v4518 : BitVec 32 := Scalar.addi c0_i32_3663 v4517
  v4518.toNat
def k0_dev139 (v3 : BitVec 32) : Nat :=
  let c0_i32_3682 : BitVec 32 := 0#32
  let c1_i32_3681 : BitVec 32 := 1#32
  let v4541 : BitVec 32 := Scalar.muli v3 c1_i32_3681
  let v4542 : BitVec 32 := Scalar.addi c0_i32_3682 v4541
  v4542.toNat
def k0_off240 (v4451 : BitVec 32) : Fin 2 → Nat :=
  let c256_i32_3685 : BitVec 32 := 256#32
  let v4549 : BitVec 32 := Scalar.muli v4451 c256_i32_3685
  let v4550 : Index := Scalar.indexCast v4549
  let c0_3686 : Index := 0#32
  ![v4550.toNat, 0]
def k0_off241 (v4452 : BitVec 32) : Fin 2 → Nat :=
  let c256_i32_3696 : BitVec 32 := 256#32
  let v4566 : BitVec 32 := Scalar.muli v4452 c256_i32_3696
  let v4567 : Index := Scalar.indexCast v4566
  let c0_3697 : Index := 0#32
  ![v4567.toNat, 0]
def k0_off242 (v4583 : BitVec 32) : Fin 1 → Nat :=
  ![v4583.toNat]

def k0_off243 (v4583 : BitVec 32) (c0_i32_3710 : BitVec 32) : Fin 2 → Nat :=
  let c256_i32_3709 : BitVec 32 := 256#32
  let v4585 : BitVec 32 := Scalar.muli v4583 c256_i32_3709
  let v4586 : BitVec 32 := Scalar.addi v4585 c0_i32_3710
  let c0_i32_3713 : BitVec 32 := 0#32
  ![v4586.toNat, 0]
def k0_off244 (v4451 : BitVec 32) (c0_i32_3620 : BitVec 32) : Fin 2 → Nat :=
  let c256_i32_3619 : BitVec 32 := 256#32
  let v4465 : BitVec 32 := Scalar.muli v4451 c256_i32_3619
  let v4466 : BitVec 32 := Scalar.addi v4465 c0_i32_3620
  let c0_i32_3717 : BitVec 32 := 0#32
  ![v4466.toNat, 0]

def k0_chk83 (v4451 : BitVec 32) : Prop :=
  (∀ a, (k0_off234 v4451) a + S1.size a ≤ S32.size a) ∧
  (∀ (r : Fin 2), ∀ a, (k0_off235 v4451 (BitVec.ofNat 32 (128 * r.val))) a + S128x256.size a ≤ S8192x256.size a) ∧
  (∀ (r : Fin 2), ∀ (hinb : ∀ a, (k0_off235 v4451 (BitVec.ofNat 32 (128 * r.val))) a + S128x256.size a ≤ S8192x256.size a), (Rect.unit (s := S8192x256) (k0_off235 v4451 (BitVec.ofNat 32 (128 * r.val))) S128x256.size hinb).WholeWords (EltTy.packing .bf16)) ∧
  (∀ a, (k0_off240 v4451) a + S256x256.size a ≤ S8192x256.size a) ∧
  (∀ (r : Fin 2), ∀ a, (k0_off244 v4451 (BitVec.ofNat 32 (128 * r.val))) a + S128x256.size a ≤ S8192x256.size a) ∧
  (∀ (r : Fin 2), ∀ (hinb : ∀ a, (k0_off244 v4451 (BitVec.ofNat 32 (128 * r.val))) a + S128x256.size a ≤ S8192x256.size a), (Rect.unit (s := S8192x256) (k0_off244 v4451 (BitVec.ofNat 32 (128 * r.val))) S128x256.size hinb).WholeWords (EltTy.packing .bf16))
theorem k0_off234_inb : ∀ (v4451 : BitVec 32) (k0_hw83 : k0_chk83 v4451), ∀ a, (k0_off234 v4451) a + S1.size a ≤ S32.size a := fun v4451 k0_hw83 => k0_hw83.1
theorem k0_off235_inb : ∀ (v4451 : BitVec 32) (k0_hw83 : k0_chk83 v4451), ∀ (r : Fin 2), ∀ a, (k0_off235 v4451 (BitVec.ofNat 32 (128 * r.val))) a + S128x256.size a ≤ S8192x256.size a := fun v4451 k0_hw83 r => k0_hw83.2.1 r
theorem k0_off235_wordsbf16 : ∀ (v4451 : BitVec 32) (k0_hw83 : k0_chk83 v4451), ∀ (r : Fin 2), (Rect.unit (s := S8192x256) (k0_off235 v4451 (BitVec.ofNat 32 (128 * r.val))) S128x256.size (k0_off235_inb v4451 k0_hw83 r)).WholeWords (EltTy.packing .bf16) := fun v4451 k0_hw83 r => k0_hw83.2.2.1 r (k0_off235_inb v4451 k0_hw83 r)
theorem k0_off240_inb : ∀ (v4451 : BitVec 32) (k0_hw83 : k0_chk83 v4451), ∀ a, (k0_off240 v4451) a + S256x256.size a ≤ S8192x256.size a := fun v4451 k0_hw83 => k0_hw83.2.2.2.1
theorem k0_off244_inb : ∀ (v4451 : BitVec 32) (k0_hw83 : k0_chk83 v4451), ∀ (r : Fin 2), ∀ a, (k0_off244 v4451 (BitVec.ofNat 32 (128 * r.val))) a + S128x256.size a ≤ S8192x256.size a := fun v4451 k0_hw83 r => k0_hw83.2.2.2.2.1 r
theorem k0_off244_wordsbf16 : ∀ (v4451 : BitVec 32) (k0_hw83 : k0_chk83 v4451), ∀ (r : Fin 2), (Rect.unit (s := S8192x256) (k0_off244 v4451 (BitVec.ofNat 32 (128 * r.val))) S128x256.size (k0_off244_inb v4451 k0_hw83 r)).WholeWords (EltTy.packing .bf16) := fun v4451 k0_hw83 r => k0_hw83.2.2.2.2.2 r (k0_off244_inb v4451 k0_hw83 r)

def k0_dev140 (v4 : BitVec 32) : Nat :=
  let c0_i32_3725 : BitVec 32 := 0#32
  let c1_i32_3724 : BitVec 32 := 1#32
  let v4601 : BitVec 32 := Scalar.muli v4 c1_i32_3724
  let v4602 : BitVec 32 := Scalar.addi c0_i32_3725 v4601
  v4602.toNat
def k0_dev141 (v4 : BitVec 32) : Nat :=
  let c0_i32_3744 : BitVec 32 := 0#32
  let c1_i32_3743 : BitVec 32 := 1#32
  let v4625 : BitVec 32 := Scalar.muli v4 c1_i32_3743
  let v4626 : BitVec 32 := Scalar.addi c0_i32_3744 v4625
  v4626.toNat
def k0_off245 (v4584 : BitVec 32) : Fin 1 → Nat :=
  ![v4584.toNat]

def k0_off246 (v4584 : BitVec 32) (c0_i32_3748 : BitVec 32) : Fin 2 → Nat :=
  let c256_i32_3747 : BitVec 32 := 256#32
  let v4633 : BitVec 32 := Scalar.muli v4584 c256_i32_3747
  let v4634 : BitVec 32 := Scalar.addi v4633 c0_i32_3748
  let c0_i32_3751 : BitVec 32 := 0#32
  ![v4634.toNat, 0]
def k0_off247 (v4452 : BitVec 32) (c0_i32_3658 : BitVec 32) : Fin 2 → Nat :=
  let c256_i32_3657 : BitVec 32 := 256#32
  let v4513 : BitVec 32 := Scalar.muli v4452 c256_i32_3657
  let v4514 : BitVec 32 := Scalar.addi v4513 c0_i32_3658
  let c0_i32_3755 : BitVec 32 := 0#32
  ![v4514.toNat, 0]

def k0_chk84 (v4452 : BitVec 32) : Prop :=
  (∀ a, (k0_off237 v4452) a + S1.size a ≤ S32.size a) ∧
  (∀ (r : Fin 2), ∀ a, (k0_off238 v4452 (BitVec.ofNat 32 (128 * r.val))) a + S128x256.size a ≤ S8192x256.size a) ∧
  (∀ (r : Fin 2), ∀ (hinb : ∀ a, (k0_off238 v4452 (BitVec.ofNat 32 (128 * r.val))) a + S128x256.size a ≤ S8192x256.size a), (Rect.unit (s := S8192x256) (k0_off238 v4452 (BitVec.ofNat 32 (128 * r.val))) S128x256.size hinb).WholeWords (EltTy.packing .bf16)) ∧
  (∀ a, (k0_off241 v4452) a + S256x256.size a ≤ S8192x256.size a) ∧
  (∀ (r : Fin 2), ∀ a, (k0_off247 v4452 (BitVec.ofNat 32 (128 * r.val))) a + S128x256.size a ≤ S8192x256.size a) ∧
  (∀ (r : Fin 2), ∀ (hinb : ∀ a, (k0_off247 v4452 (BitVec.ofNat 32 (128 * r.val))) a + S128x256.size a ≤ S8192x256.size a), (Rect.unit (s := S8192x256) (k0_off247 v4452 (BitVec.ofNat 32 (128 * r.val))) S128x256.size hinb).WholeWords (EltTy.packing .bf16))
theorem k0_off237_inb : ∀ (v4452 : BitVec 32) (k0_hw84 : k0_chk84 v4452), ∀ a, (k0_off237 v4452) a + S1.size a ≤ S32.size a := fun v4452 k0_hw84 => k0_hw84.1
theorem k0_off238_inb : ∀ (v4452 : BitVec 32) (k0_hw84 : k0_chk84 v4452), ∀ (r : Fin 2), ∀ a, (k0_off238 v4452 (BitVec.ofNat 32 (128 * r.val))) a + S128x256.size a ≤ S8192x256.size a := fun v4452 k0_hw84 r => k0_hw84.2.1 r
theorem k0_off238_wordsbf16 : ∀ (v4452 : BitVec 32) (k0_hw84 : k0_chk84 v4452), ∀ (r : Fin 2), (Rect.unit (s := S8192x256) (k0_off238 v4452 (BitVec.ofNat 32 (128 * r.val))) S128x256.size (k0_off238_inb v4452 k0_hw84 r)).WholeWords (EltTy.packing .bf16) := fun v4452 k0_hw84 r => k0_hw84.2.2.1 r (k0_off238_inb v4452 k0_hw84 r)
theorem k0_off241_inb : ∀ (v4452 : BitVec 32) (k0_hw84 : k0_chk84 v4452), ∀ a, (k0_off241 v4452) a + S256x256.size a ≤ S8192x256.size a := fun v4452 k0_hw84 => k0_hw84.2.2.2.1
theorem k0_off247_inb : ∀ (v4452 : BitVec 32) (k0_hw84 : k0_chk84 v4452), ∀ (r : Fin 2), ∀ a, (k0_off247 v4452 (BitVec.ofNat 32 (128 * r.val))) a + S128x256.size a ≤ S8192x256.size a := fun v4452 k0_hw84 r => k0_hw84.2.2.2.2.1 r
theorem k0_off247_wordsbf16 : ∀ (v4452 : BitVec 32) (k0_hw84 : k0_chk84 v4452), ∀ (r : Fin 2), (Rect.unit (s := S8192x256) (k0_off247 v4452 (BitVec.ofNat 32 (128 * r.val))) S128x256.size (k0_off247_inb v4452 k0_hw84 r)).WholeWords (EltTy.packing .bf16) := fun v4452 k0_hw84 r => k0_hw84.2.2.2.2.2 r (k0_off247_inb v4452 k0_hw84 r)

def k0_dev142 (v3 : BitVec 32) : Nat :=
  let c0_i32_3763 : BitVec 32 := 0#32
  let c1_i32_3762 : BitVec 32 := 1#32
  let v4649 : BitVec 32 := Scalar.muli v3 c1_i32_3762
  let v4650 : BitVec 32 := Scalar.addi c0_i32_3763 v4649
  v4650.toNat
def k0_dev143 (v3 : BitVec 32) : Nat :=
  let c0_i32_3782 : BitVec 32 := 0#32
  let c1_i32_3781 : BitVec 32 := 1#32
  let v4673 : BitVec 32 := Scalar.muli v3 c1_i32_3781
  let v4674 : BitVec 32 := Scalar.addi c0_i32_3782 v4673
  v4674.toNat
def k0_off248 (v4583 : BitVec 32) : Fin 2 → Nat :=
  let c256_i32_3785 : BitVec 32 := 256#32
  let v4681 : BitVec 32 := Scalar.muli v4583 c256_i32_3785
  let v4682 : Index := Scalar.indexCast v4681
  let c0_3786 : Index := 0#32
  ![v4682.toNat, 0]
def k0_off249 (v4584 : BitVec 32) : Fin 2 → Nat :=
  let c256_i32_3796 : BitVec 32 := 256#32
  let v4698 : BitVec 32 := Scalar.muli v4584 c256_i32_3796
  let v4699 : Index := Scalar.indexCast v4698
  let c0_3797 : Index := 0#32
  ![v4699.toNat, 0]
def k0_off250 (v4715 : BitVec 32) : Fin 1 → Nat :=
  ![v4715.toNat]

def k0_off251 (v4715 : BitVec 32) (c0_i32_3810 : BitVec 32) : Fin 2 → Nat :=
  let c256_i32_3809 : BitVec 32 := 256#32
  let v4717 : BitVec 32 := Scalar.muli v4715 c256_i32_3809
  let v4718 : BitVec 32 := Scalar.addi v4717 c0_i32_3810
  let c0_i32_3813 : BitVec 32 := 0#32
  ![v4718.toNat, 0]
def k0_off252 (v4583 : BitVec 32) (c0_i32_3720 : BitVec 32) : Fin 2 → Nat :=
  let c256_i32_3719 : BitVec 32 := 256#32
  let v4597 : BitVec 32 := Scalar.muli v4583 c256_i32_3719
  let v4598 : BitVec 32 := Scalar.addi v4597 c0_i32_3720
  let c0_i32_3817 : BitVec 32 := 0#32
  ![v4598.toNat, 0]

def k0_chk85 (v4583 : BitVec 32) : Prop :=
  (∀ a, (k0_off242 v4583) a + S1.size a ≤ S32.size a) ∧
  (∀ (r : Fin 2), ∀ a, (k0_off243 v4583 (BitVec.ofNat 32 (128 * r.val))) a + S128x256.size a ≤ S8192x256.size a) ∧
  (∀ (r : Fin 2), ∀ (hinb : ∀ a, (k0_off243 v4583 (BitVec.ofNat 32 (128 * r.val))) a + S128x256.size a ≤ S8192x256.size a), (Rect.unit (s := S8192x256) (k0_off243 v4583 (BitVec.ofNat 32 (128 * r.val))) S128x256.size hinb).WholeWords (EltTy.packing .bf16)) ∧
  (∀ a, (k0_off248 v4583) a + S256x256.size a ≤ S8192x256.size a) ∧
  (∀ (r : Fin 2), ∀ a, (k0_off252 v4583 (BitVec.ofNat 32 (128 * r.val))) a + S128x256.size a ≤ S8192x256.size a) ∧
  (∀ (r : Fin 2), ∀ (hinb : ∀ a, (k0_off252 v4583 (BitVec.ofNat 32 (128 * r.val))) a + S128x256.size a ≤ S8192x256.size a), (Rect.unit (s := S8192x256) (k0_off252 v4583 (BitVec.ofNat 32 (128 * r.val))) S128x256.size hinb).WholeWords (EltTy.packing .bf16))
theorem k0_off242_inb : ∀ (v4583 : BitVec 32) (k0_hw85 : k0_chk85 v4583), ∀ a, (k0_off242 v4583) a + S1.size a ≤ S32.size a := fun v4583 k0_hw85 => k0_hw85.1
theorem k0_off243_inb : ∀ (v4583 : BitVec 32) (k0_hw85 : k0_chk85 v4583), ∀ (r : Fin 2), ∀ a, (k0_off243 v4583 (BitVec.ofNat 32 (128 * r.val))) a + S128x256.size a ≤ S8192x256.size a := fun v4583 k0_hw85 r => k0_hw85.2.1 r
theorem k0_off243_wordsbf16 : ∀ (v4583 : BitVec 32) (k0_hw85 : k0_chk85 v4583), ∀ (r : Fin 2), (Rect.unit (s := S8192x256) (k0_off243 v4583 (BitVec.ofNat 32 (128 * r.val))) S128x256.size (k0_off243_inb v4583 k0_hw85 r)).WholeWords (EltTy.packing .bf16) := fun v4583 k0_hw85 r => k0_hw85.2.2.1 r (k0_off243_inb v4583 k0_hw85 r)
theorem k0_off248_inb : ∀ (v4583 : BitVec 32) (k0_hw85 : k0_chk85 v4583), ∀ a, (k0_off248 v4583) a + S256x256.size a ≤ S8192x256.size a := fun v4583 k0_hw85 => k0_hw85.2.2.2.1
theorem k0_off252_inb : ∀ (v4583 : BitVec 32) (k0_hw85 : k0_chk85 v4583), ∀ (r : Fin 2), ∀ a, (k0_off252 v4583 (BitVec.ofNat 32 (128 * r.val))) a + S128x256.size a ≤ S8192x256.size a := fun v4583 k0_hw85 r => k0_hw85.2.2.2.2.1 r
theorem k0_off252_wordsbf16 : ∀ (v4583 : BitVec 32) (k0_hw85 : k0_chk85 v4583), ∀ (r : Fin 2), (Rect.unit (s := S8192x256) (k0_off252 v4583 (BitVec.ofNat 32 (128 * r.val))) S128x256.size (k0_off252_inb v4583 k0_hw85 r)).WholeWords (EltTy.packing .bf16) := fun v4583 k0_hw85 r => k0_hw85.2.2.2.2.2 r (k0_off252_inb v4583 k0_hw85 r)

def k0_dev144 (v4 : BitVec 32) : Nat :=
  let c0_i32_3825 : BitVec 32 := 0#32
  let c1_i32_3824 : BitVec 32 := 1#32
  let v4733 : BitVec 32 := Scalar.muli v4 c1_i32_3824
  let v4734 : BitVec 32 := Scalar.addi c0_i32_3825 v4733
  v4734.toNat
def k0_dev145 (v4 : BitVec 32) : Nat :=
  let c0_i32_3844 : BitVec 32 := 0#32
  let c1_i32_3843 : BitVec 32 := 1#32
  let v4757 : BitVec 32 := Scalar.muli v4 c1_i32_3843
  let v4758 : BitVec 32 := Scalar.addi c0_i32_3844 v4757
  v4758.toNat
def k0_off253 (v4716 : BitVec 32) : Fin 1 → Nat :=
  ![v4716.toNat]

def k0_off254 (v4716 : BitVec 32) (c0_i32_3848 : BitVec 32) : Fin 2 → Nat :=
  let c256_i32_3847 : BitVec 32 := 256#32
  let v4765 : BitVec 32 := Scalar.muli v4716 c256_i32_3847
  let v4766 : BitVec 32 := Scalar.addi v4765 c0_i32_3848
  let c0_i32_3851 : BitVec 32 := 0#32
  ![v4766.toNat, 0]
def k0_off255 (v4584 : BitVec 32) (c0_i32_3758 : BitVec 32) : Fin 2 → Nat :=
  let c256_i32_3757 : BitVec 32 := 256#32
  let v4645 : BitVec 32 := Scalar.muli v4584 c256_i32_3757
  let v4646 : BitVec 32 := Scalar.addi v4645 c0_i32_3758
  let c0_i32_3855 : BitVec 32 := 0#32
  ![v4646.toNat, 0]

def k0_chk86 (v4584 : BitVec 32) : Prop :=
  (∀ a, (k0_off245 v4584) a + S1.size a ≤ S32.size a) ∧
  (∀ (r : Fin 2), ∀ a, (k0_off246 v4584 (BitVec.ofNat 32 (128 * r.val))) a + S128x256.size a ≤ S8192x256.size a) ∧
  (∀ (r : Fin 2), ∀ (hinb : ∀ a, (k0_off246 v4584 (BitVec.ofNat 32 (128 * r.val))) a + S128x256.size a ≤ S8192x256.size a), (Rect.unit (s := S8192x256) (k0_off246 v4584 (BitVec.ofNat 32 (128 * r.val))) S128x256.size hinb).WholeWords (EltTy.packing .bf16)) ∧
  (∀ a, (k0_off249 v4584) a + S256x256.size a ≤ S8192x256.size a) ∧
  (∀ (r : Fin 2), ∀ a, (k0_off255 v4584 (BitVec.ofNat 32 (128 * r.val))) a + S128x256.size a ≤ S8192x256.size a) ∧
  (∀ (r : Fin 2), ∀ (hinb : ∀ a, (k0_off255 v4584 (BitVec.ofNat 32 (128 * r.val))) a + S128x256.size a ≤ S8192x256.size a), (Rect.unit (s := S8192x256) (k0_off255 v4584 (BitVec.ofNat 32 (128 * r.val))) S128x256.size hinb).WholeWords (EltTy.packing .bf16))
theorem k0_off245_inb : ∀ (v4584 : BitVec 32) (k0_hw86 : k0_chk86 v4584), ∀ a, (k0_off245 v4584) a + S1.size a ≤ S32.size a := fun v4584 k0_hw86 => k0_hw86.1
theorem k0_off246_inb : ∀ (v4584 : BitVec 32) (k0_hw86 : k0_chk86 v4584), ∀ (r : Fin 2), ∀ a, (k0_off246 v4584 (BitVec.ofNat 32 (128 * r.val))) a + S128x256.size a ≤ S8192x256.size a := fun v4584 k0_hw86 r => k0_hw86.2.1 r
theorem k0_off246_wordsbf16 : ∀ (v4584 : BitVec 32) (k0_hw86 : k0_chk86 v4584), ∀ (r : Fin 2), (Rect.unit (s := S8192x256) (k0_off246 v4584 (BitVec.ofNat 32 (128 * r.val))) S128x256.size (k0_off246_inb v4584 k0_hw86 r)).WholeWords (EltTy.packing .bf16) := fun v4584 k0_hw86 r => k0_hw86.2.2.1 r (k0_off246_inb v4584 k0_hw86 r)
theorem k0_off249_inb : ∀ (v4584 : BitVec 32) (k0_hw86 : k0_chk86 v4584), ∀ a, (k0_off249 v4584) a + S256x256.size a ≤ S8192x256.size a := fun v4584 k0_hw86 => k0_hw86.2.2.2.1
theorem k0_off255_inb : ∀ (v4584 : BitVec 32) (k0_hw86 : k0_chk86 v4584), ∀ (r : Fin 2), ∀ a, (k0_off255 v4584 (BitVec.ofNat 32 (128 * r.val))) a + S128x256.size a ≤ S8192x256.size a := fun v4584 k0_hw86 r => k0_hw86.2.2.2.2.1 r
theorem k0_off255_wordsbf16 : ∀ (v4584 : BitVec 32) (k0_hw86 : k0_chk86 v4584), ∀ (r : Fin 2), (Rect.unit (s := S8192x256) (k0_off255 v4584 (BitVec.ofNat 32 (128 * r.val))) S128x256.size (k0_off255_inb v4584 k0_hw86 r)).WholeWords (EltTy.packing .bf16) := fun v4584 k0_hw86 r => k0_hw86.2.2.2.2.2 r (k0_off255_inb v4584 k0_hw86 r)

def k0_dev146 (v3 : BitVec 32) : Nat :=
  let c0_i32_3863 : BitVec 32 := 0#32
  let c1_i32_3862 : BitVec 32 := 1#32
  let v4781 : BitVec 32 := Scalar.muli v3 c1_i32_3862
  let v4782 : BitVec 32 := Scalar.addi c0_i32_3863 v4781
  v4782.toNat
def k0_dev147 (v3 : BitVec 32) : Nat :=
  let c0_i32_3882 : BitVec 32 := 0#32
  let c1_i32_3881 : BitVec 32 := 1#32
  let v4805 : BitVec 32 := Scalar.muli v3 c1_i32_3881
  let v4806 : BitVec 32 := Scalar.addi c0_i32_3882 v4805
  v4806.toNat
def k0_off256 (v4715 : BitVec 32) : Fin 2 → Nat :=
  let c256_i32_3885 : BitVec 32 := 256#32
  let v4813 : BitVec 32 := Scalar.muli v4715 c256_i32_3885
  let v4814 : Index := Scalar.indexCast v4813
  let c0_3886 : Index := 0#32
  ![v4814.toNat, 0]
def k0_off257 (v4716 : BitVec 32) : Fin 2 → Nat :=
  let c256_i32_3896 : BitVec 32 := 256#32
  let v4830 : BitVec 32 := Scalar.muli v4716 c256_i32_3896
  let v4831 : Index := Scalar.indexCast v4830
  let c0_3897 : Index := 0#32
  ![v4831.toNat, 0]
def k0_off258 (v4847 : BitVec 32) : Fin 1 → Nat :=
  ![v4847.toNat]

def k0_off259 (v4847 : BitVec 32) (c0_i32_3910 : BitVec 32) : Fin 2 → Nat :=
  let c256_i32_3909 : BitVec 32 := 256#32
  let v4849 : BitVec 32 := Scalar.muli v4847 c256_i32_3909
  let v4850 : BitVec 32 := Scalar.addi v4849 c0_i32_3910
  let c0_i32_3913 : BitVec 32 := 0#32
  ![v4850.toNat, 0]
def k0_off260 (v4715 : BitVec 32) (c0_i32_3820 : BitVec 32) : Fin 2 → Nat :=
  let c256_i32_3819 : BitVec 32 := 256#32
  let v4729 : BitVec 32 := Scalar.muli v4715 c256_i32_3819
  let v4730 : BitVec 32 := Scalar.addi v4729 c0_i32_3820
  let c0_i32_3917 : BitVec 32 := 0#32
  ![v4730.toNat, 0]

def k0_chk87 (v4715 : BitVec 32) : Prop :=
  (∀ a, (k0_off250 v4715) a + S1.size a ≤ S32.size a) ∧
  (∀ (r : Fin 2), ∀ a, (k0_off251 v4715 (BitVec.ofNat 32 (128 * r.val))) a + S128x256.size a ≤ S8192x256.size a) ∧
  (∀ (r : Fin 2), ∀ (hinb : ∀ a, (k0_off251 v4715 (BitVec.ofNat 32 (128 * r.val))) a + S128x256.size a ≤ S8192x256.size a), (Rect.unit (s := S8192x256) (k0_off251 v4715 (BitVec.ofNat 32 (128 * r.val))) S128x256.size hinb).WholeWords (EltTy.packing .bf16)) ∧
  (∀ a, (k0_off256 v4715) a + S256x256.size a ≤ S8192x256.size a) ∧
  (∀ (r : Fin 2), ∀ a, (k0_off260 v4715 (BitVec.ofNat 32 (128 * r.val))) a + S128x256.size a ≤ S8192x256.size a) ∧
  (∀ (r : Fin 2), ∀ (hinb : ∀ a, (k0_off260 v4715 (BitVec.ofNat 32 (128 * r.val))) a + S128x256.size a ≤ S8192x256.size a), (Rect.unit (s := S8192x256) (k0_off260 v4715 (BitVec.ofNat 32 (128 * r.val))) S128x256.size hinb).WholeWords (EltTy.packing .bf16))
theorem k0_off250_inb : ∀ (v4715 : BitVec 32) (k0_hw87 : k0_chk87 v4715), ∀ a, (k0_off250 v4715) a + S1.size a ≤ S32.size a := fun v4715 k0_hw87 => k0_hw87.1
theorem k0_off251_inb : ∀ (v4715 : BitVec 32) (k0_hw87 : k0_chk87 v4715), ∀ (r : Fin 2), ∀ a, (k0_off251 v4715 (BitVec.ofNat 32 (128 * r.val))) a + S128x256.size a ≤ S8192x256.size a := fun v4715 k0_hw87 r => k0_hw87.2.1 r
theorem k0_off251_wordsbf16 : ∀ (v4715 : BitVec 32) (k0_hw87 : k0_chk87 v4715), ∀ (r : Fin 2), (Rect.unit (s := S8192x256) (k0_off251 v4715 (BitVec.ofNat 32 (128 * r.val))) S128x256.size (k0_off251_inb v4715 k0_hw87 r)).WholeWords (EltTy.packing .bf16) := fun v4715 k0_hw87 r => k0_hw87.2.2.1 r (k0_off251_inb v4715 k0_hw87 r)
theorem k0_off256_inb : ∀ (v4715 : BitVec 32) (k0_hw87 : k0_chk87 v4715), ∀ a, (k0_off256 v4715) a + S256x256.size a ≤ S8192x256.size a := fun v4715 k0_hw87 => k0_hw87.2.2.2.1
theorem k0_off260_inb : ∀ (v4715 : BitVec 32) (k0_hw87 : k0_chk87 v4715), ∀ (r : Fin 2), ∀ a, (k0_off260 v4715 (BitVec.ofNat 32 (128 * r.val))) a + S128x256.size a ≤ S8192x256.size a := fun v4715 k0_hw87 r => k0_hw87.2.2.2.2.1 r
theorem k0_off260_wordsbf16 : ∀ (v4715 : BitVec 32) (k0_hw87 : k0_chk87 v4715), ∀ (r : Fin 2), (Rect.unit (s := S8192x256) (k0_off260 v4715 (BitVec.ofNat 32 (128 * r.val))) S128x256.size (k0_off260_inb v4715 k0_hw87 r)).WholeWords (EltTy.packing .bf16) := fun v4715 k0_hw87 r => k0_hw87.2.2.2.2.2 r (k0_off260_inb v4715 k0_hw87 r)

def k0_dev148 (v4 : BitVec 32) : Nat :=
  let c0_i32_3925 : BitVec 32 := 0#32
  let c1_i32_3924 : BitVec 32 := 1#32
  let v4865 : BitVec 32 := Scalar.muli v4 c1_i32_3924
  let v4866 : BitVec 32 := Scalar.addi c0_i32_3925 v4865
  v4866.toNat
def k0_dev149 (v4 : BitVec 32) : Nat :=
  let c0_i32_3944 : BitVec 32 := 0#32
  let c1_i32_3943 : BitVec 32 := 1#32
  let v4889 : BitVec 32 := Scalar.muli v4 c1_i32_3943
  let v4890 : BitVec 32 := Scalar.addi c0_i32_3944 v4889
  v4890.toNat
def k0_off261 (v4848 : BitVec 32) : Fin 1 → Nat :=
  ![v4848.toNat]

def k0_off262 (v4848 : BitVec 32) (c0_i32_3948 : BitVec 32) : Fin 2 → Nat :=
  let c256_i32_3947 : BitVec 32 := 256#32
  let v4897 : BitVec 32 := Scalar.muli v4848 c256_i32_3947
  let v4898 : BitVec 32 := Scalar.addi v4897 c0_i32_3948
  let c0_i32_3951 : BitVec 32 := 0#32
  ![v4898.toNat, 0]
def k0_off263 (v4716 : BitVec 32) (c0_i32_3858 : BitVec 32) : Fin 2 → Nat :=
  let c256_i32_3857 : BitVec 32 := 256#32
  let v4777 : BitVec 32 := Scalar.muli v4716 c256_i32_3857
  let v4778 : BitVec 32 := Scalar.addi v4777 c0_i32_3858
  let c0_i32_3955 : BitVec 32 := 0#32
  ![v4778.toNat, 0]

def k0_chk88 (v4716 : BitVec 32) : Prop :=
  (∀ a, (k0_off253 v4716) a + S1.size a ≤ S32.size a) ∧
  (∀ (r : Fin 2), ∀ a, (k0_off254 v4716 (BitVec.ofNat 32 (128 * r.val))) a + S128x256.size a ≤ S8192x256.size a) ∧
  (∀ (r : Fin 2), ∀ (hinb : ∀ a, (k0_off254 v4716 (BitVec.ofNat 32 (128 * r.val))) a + S128x256.size a ≤ S8192x256.size a), (Rect.unit (s := S8192x256) (k0_off254 v4716 (BitVec.ofNat 32 (128 * r.val))) S128x256.size hinb).WholeWords (EltTy.packing .bf16)) ∧
  (∀ a, (k0_off257 v4716) a + S256x256.size a ≤ S8192x256.size a) ∧
  (∀ (r : Fin 2), ∀ a, (k0_off263 v4716 (BitVec.ofNat 32 (128 * r.val))) a + S128x256.size a ≤ S8192x256.size a) ∧
  (∀ (r : Fin 2), ∀ (hinb : ∀ a, (k0_off263 v4716 (BitVec.ofNat 32 (128 * r.val))) a + S128x256.size a ≤ S8192x256.size a), (Rect.unit (s := S8192x256) (k0_off263 v4716 (BitVec.ofNat 32 (128 * r.val))) S128x256.size hinb).WholeWords (EltTy.packing .bf16))
theorem k0_off253_inb : ∀ (v4716 : BitVec 32) (k0_hw88 : k0_chk88 v4716), ∀ a, (k0_off253 v4716) a + S1.size a ≤ S32.size a := fun v4716 k0_hw88 => k0_hw88.1
theorem k0_off254_inb : ∀ (v4716 : BitVec 32) (k0_hw88 : k0_chk88 v4716), ∀ (r : Fin 2), ∀ a, (k0_off254 v4716 (BitVec.ofNat 32 (128 * r.val))) a + S128x256.size a ≤ S8192x256.size a := fun v4716 k0_hw88 r => k0_hw88.2.1 r
theorem k0_off254_wordsbf16 : ∀ (v4716 : BitVec 32) (k0_hw88 : k0_chk88 v4716), ∀ (r : Fin 2), (Rect.unit (s := S8192x256) (k0_off254 v4716 (BitVec.ofNat 32 (128 * r.val))) S128x256.size (k0_off254_inb v4716 k0_hw88 r)).WholeWords (EltTy.packing .bf16) := fun v4716 k0_hw88 r => k0_hw88.2.2.1 r (k0_off254_inb v4716 k0_hw88 r)
theorem k0_off257_inb : ∀ (v4716 : BitVec 32) (k0_hw88 : k0_chk88 v4716), ∀ a, (k0_off257 v4716) a + S256x256.size a ≤ S8192x256.size a := fun v4716 k0_hw88 => k0_hw88.2.2.2.1
theorem k0_off263_inb : ∀ (v4716 : BitVec 32) (k0_hw88 : k0_chk88 v4716), ∀ (r : Fin 2), ∀ a, (k0_off263 v4716 (BitVec.ofNat 32 (128 * r.val))) a + S128x256.size a ≤ S8192x256.size a := fun v4716 k0_hw88 r => k0_hw88.2.2.2.2.1 r
theorem k0_off263_wordsbf16 : ∀ (v4716 : BitVec 32) (k0_hw88 : k0_chk88 v4716), ∀ (r : Fin 2), (Rect.unit (s := S8192x256) (k0_off263 v4716 (BitVec.ofNat 32 (128 * r.val))) S128x256.size (k0_off263_inb v4716 k0_hw88 r)).WholeWords (EltTy.packing .bf16) := fun v4716 k0_hw88 r => k0_hw88.2.2.2.2.2 r (k0_off263_inb v4716 k0_hw88 r)

def k0_dev150 (v3 : BitVec 32) : Nat :=
  let c0_i32_3963 : BitVec 32 := 0#32
  let c1_i32_3962 : BitVec 32 := 1#32
  let v4913 : BitVec 32 := Scalar.muli v3 c1_i32_3962
  let v4914 : BitVec 32 := Scalar.addi c0_i32_3963 v4913
  v4914.toNat
def k0_dev151 (v3 : BitVec 32) : Nat :=
  let c0_i32_3982 : BitVec 32 := 0#32
  let c1_i32_3981 : BitVec 32 := 1#32
  let v4937 : BitVec 32 := Scalar.muli v3 c1_i32_3981
  let v4938 : BitVec 32 := Scalar.addi c0_i32_3982 v4937
  v4938.toNat
def k0_off264 (v4847 : BitVec 32) : Fin 2 → Nat :=
  let c256_i32_3985 : BitVec 32 := 256#32
  let v4945 : BitVec 32 := Scalar.muli v4847 c256_i32_3985
  let v4946 : Index := Scalar.indexCast v4945
  let c0_3986 : Index := 0#32
  ![v4946.toNat, 0]
def k0_off265 (v4848 : BitVec 32) : Fin 2 → Nat :=
  let c256_i32_3996 : BitVec 32 := 256#32
  let v4962 : BitVec 32 := Scalar.muli v4848 c256_i32_3996
  let v4963 : Index := Scalar.indexCast v4962
  let c0_3997 : Index := 0#32
  ![v4963.toNat, 0]
def k0_off266 (v4979 : BitVec 32) : Fin 1 → Nat :=
  ![v4979.toNat]

def k0_off267 (v4979 : BitVec 32) (c0_i32_4010 : BitVec 32) : Fin 2 → Nat :=
  let c256_i32_4009 : BitVec 32 := 256#32
  let v4981 : BitVec 32 := Scalar.muli v4979 c256_i32_4009
  let v4982 : BitVec 32 := Scalar.addi v4981 c0_i32_4010
  let c0_i32_4013 : BitVec 32 := 0#32
  ![v4982.toNat, 0]
def k0_off268 (v4847 : BitVec 32) (c0_i32_3920 : BitVec 32) : Fin 2 → Nat :=
  let c256_i32_3919 : BitVec 32 := 256#32
  let v4861 : BitVec 32 := Scalar.muli v4847 c256_i32_3919
  let v4862 : BitVec 32 := Scalar.addi v4861 c0_i32_3920
  let c0_i32_4017 : BitVec 32 := 0#32
  ![v4862.toNat, 0]

def k0_chk89 (v4847 : BitVec 32) : Prop :=
  (∀ a, (k0_off258 v4847) a + S1.size a ≤ S32.size a) ∧
  (∀ (r : Fin 2), ∀ a, (k0_off259 v4847 (BitVec.ofNat 32 (128 * r.val))) a + S128x256.size a ≤ S8192x256.size a) ∧
  (∀ (r : Fin 2), ∀ (hinb : ∀ a, (k0_off259 v4847 (BitVec.ofNat 32 (128 * r.val))) a + S128x256.size a ≤ S8192x256.size a), (Rect.unit (s := S8192x256) (k0_off259 v4847 (BitVec.ofNat 32 (128 * r.val))) S128x256.size hinb).WholeWords (EltTy.packing .bf16)) ∧
  (∀ a, (k0_off264 v4847) a + S256x256.size a ≤ S8192x256.size a) ∧
  (∀ (r : Fin 2), ∀ a, (k0_off268 v4847 (BitVec.ofNat 32 (128 * r.val))) a + S128x256.size a ≤ S8192x256.size a) ∧
  (∀ (r : Fin 2), ∀ (hinb : ∀ a, (k0_off268 v4847 (BitVec.ofNat 32 (128 * r.val))) a + S128x256.size a ≤ S8192x256.size a), (Rect.unit (s := S8192x256) (k0_off268 v4847 (BitVec.ofNat 32 (128 * r.val))) S128x256.size hinb).WholeWords (EltTy.packing .bf16))
theorem k0_off258_inb : ∀ (v4847 : BitVec 32) (k0_hw89 : k0_chk89 v4847), ∀ a, (k0_off258 v4847) a + S1.size a ≤ S32.size a := fun v4847 k0_hw89 => k0_hw89.1
theorem k0_off259_inb : ∀ (v4847 : BitVec 32) (k0_hw89 : k0_chk89 v4847), ∀ (r : Fin 2), ∀ a, (k0_off259 v4847 (BitVec.ofNat 32 (128 * r.val))) a + S128x256.size a ≤ S8192x256.size a := fun v4847 k0_hw89 r => k0_hw89.2.1 r
theorem k0_off259_wordsbf16 : ∀ (v4847 : BitVec 32) (k0_hw89 : k0_chk89 v4847), ∀ (r : Fin 2), (Rect.unit (s := S8192x256) (k0_off259 v4847 (BitVec.ofNat 32 (128 * r.val))) S128x256.size (k0_off259_inb v4847 k0_hw89 r)).WholeWords (EltTy.packing .bf16) := fun v4847 k0_hw89 r => k0_hw89.2.2.1 r (k0_off259_inb v4847 k0_hw89 r)
theorem k0_off264_inb : ∀ (v4847 : BitVec 32) (k0_hw89 : k0_chk89 v4847), ∀ a, (k0_off264 v4847) a + S256x256.size a ≤ S8192x256.size a := fun v4847 k0_hw89 => k0_hw89.2.2.2.1
theorem k0_off268_inb : ∀ (v4847 : BitVec 32) (k0_hw89 : k0_chk89 v4847), ∀ (r : Fin 2), ∀ a, (k0_off268 v4847 (BitVec.ofNat 32 (128 * r.val))) a + S128x256.size a ≤ S8192x256.size a := fun v4847 k0_hw89 r => k0_hw89.2.2.2.2.1 r
theorem k0_off268_wordsbf16 : ∀ (v4847 : BitVec 32) (k0_hw89 : k0_chk89 v4847), ∀ (r : Fin 2), (Rect.unit (s := S8192x256) (k0_off268 v4847 (BitVec.ofNat 32 (128 * r.val))) S128x256.size (k0_off268_inb v4847 k0_hw89 r)).WholeWords (EltTy.packing .bf16) := fun v4847 k0_hw89 r => k0_hw89.2.2.2.2.2 r (k0_off268_inb v4847 k0_hw89 r)

def k0_dev152 (v4 : BitVec 32) : Nat :=
  let c0_i32_4025 : BitVec 32 := 0#32
  let c1_i32_4024 : BitVec 32 := 1#32
  let v4997 : BitVec 32 := Scalar.muli v4 c1_i32_4024
  let v4998 : BitVec 32 := Scalar.addi c0_i32_4025 v4997
  v4998.toNat
def k0_dev153 (v4 : BitVec 32) : Nat :=
  let c0_i32_4044 : BitVec 32 := 0#32
  let c1_i32_4043 : BitVec 32 := 1#32
  let v5021 : BitVec 32 := Scalar.muli v4 c1_i32_4043
  let v5022 : BitVec 32 := Scalar.addi c0_i32_4044 v5021
  v5022.toNat
def k0_off269 (v4980 : BitVec 32) : Fin 1 → Nat :=
  ![v4980.toNat]

def k0_off270 (v4980 : BitVec 32) (c0_i32_4048 : BitVec 32) : Fin 2 → Nat :=
  let c256_i32_4047 : BitVec 32 := 256#32
  let v5029 : BitVec 32 := Scalar.muli v4980 c256_i32_4047
  let v5030 : BitVec 32 := Scalar.addi v5029 c0_i32_4048
  let c0_i32_4051 : BitVec 32 := 0#32
  ![v5030.toNat, 0]
def k0_off271 (v4848 : BitVec 32) (c0_i32_3958 : BitVec 32) : Fin 2 → Nat :=
  let c256_i32_3957 : BitVec 32 := 256#32
  let v4909 : BitVec 32 := Scalar.muli v4848 c256_i32_3957
  let v4910 : BitVec 32 := Scalar.addi v4909 c0_i32_3958
  let c0_i32_4055 : BitVec 32 := 0#32
  ![v4910.toNat, 0]

def k0_chk90 (v4848 : BitVec 32) : Prop :=
  (∀ a, (k0_off261 v4848) a + S1.size a ≤ S32.size a) ∧
  (∀ (r : Fin 2), ∀ a, (k0_off262 v4848 (BitVec.ofNat 32 (128 * r.val))) a + S128x256.size a ≤ S8192x256.size a) ∧
  (∀ (r : Fin 2), ∀ (hinb : ∀ a, (k0_off262 v4848 (BitVec.ofNat 32 (128 * r.val))) a + S128x256.size a ≤ S8192x256.size a), (Rect.unit (s := S8192x256) (k0_off262 v4848 (BitVec.ofNat 32 (128 * r.val))) S128x256.size hinb).WholeWords (EltTy.packing .bf16)) ∧
  (∀ a, (k0_off265 v4848) a + S256x256.size a ≤ S8192x256.size a) ∧
  (∀ (r : Fin 2), ∀ a, (k0_off271 v4848 (BitVec.ofNat 32 (128 * r.val))) a + S128x256.size a ≤ S8192x256.size a) ∧
  (∀ (r : Fin 2), ∀ (hinb : ∀ a, (k0_off271 v4848 (BitVec.ofNat 32 (128 * r.val))) a + S128x256.size a ≤ S8192x256.size a), (Rect.unit (s := S8192x256) (k0_off271 v4848 (BitVec.ofNat 32 (128 * r.val))) S128x256.size hinb).WholeWords (EltTy.packing .bf16))
theorem k0_off261_inb : ∀ (v4848 : BitVec 32) (k0_hw90 : k0_chk90 v4848), ∀ a, (k0_off261 v4848) a + S1.size a ≤ S32.size a := fun v4848 k0_hw90 => k0_hw90.1
theorem k0_off262_inb : ∀ (v4848 : BitVec 32) (k0_hw90 : k0_chk90 v4848), ∀ (r : Fin 2), ∀ a, (k0_off262 v4848 (BitVec.ofNat 32 (128 * r.val))) a + S128x256.size a ≤ S8192x256.size a := fun v4848 k0_hw90 r => k0_hw90.2.1 r
theorem k0_off262_wordsbf16 : ∀ (v4848 : BitVec 32) (k0_hw90 : k0_chk90 v4848), ∀ (r : Fin 2), (Rect.unit (s := S8192x256) (k0_off262 v4848 (BitVec.ofNat 32 (128 * r.val))) S128x256.size (k0_off262_inb v4848 k0_hw90 r)).WholeWords (EltTy.packing .bf16) := fun v4848 k0_hw90 r => k0_hw90.2.2.1 r (k0_off262_inb v4848 k0_hw90 r)
theorem k0_off265_inb : ∀ (v4848 : BitVec 32) (k0_hw90 : k0_chk90 v4848), ∀ a, (k0_off265 v4848) a + S256x256.size a ≤ S8192x256.size a := fun v4848 k0_hw90 => k0_hw90.2.2.2.1
theorem k0_off271_inb : ∀ (v4848 : BitVec 32) (k0_hw90 : k0_chk90 v4848), ∀ (r : Fin 2), ∀ a, (k0_off271 v4848 (BitVec.ofNat 32 (128 * r.val))) a + S128x256.size a ≤ S8192x256.size a := fun v4848 k0_hw90 r => k0_hw90.2.2.2.2.1 r
theorem k0_off271_wordsbf16 : ∀ (v4848 : BitVec 32) (k0_hw90 : k0_chk90 v4848), ∀ (r : Fin 2), (Rect.unit (s := S8192x256) (k0_off271 v4848 (BitVec.ofNat 32 (128 * r.val))) S128x256.size (k0_off271_inb v4848 k0_hw90 r)).WholeWords (EltTy.packing .bf16) := fun v4848 k0_hw90 r => k0_hw90.2.2.2.2.2 r (k0_off271_inb v4848 k0_hw90 r)

def k0_dev154 (v3 : BitVec 32) : Nat :=
  let c0_i32_4063 : BitVec 32 := 0#32
  let c1_i32_4062 : BitVec 32 := 1#32
  let v5045 : BitVec 32 := Scalar.muli v3 c1_i32_4062
  let v5046 : BitVec 32 := Scalar.addi c0_i32_4063 v5045
  v5046.toNat
def k0_dev155 (v3 : BitVec 32) : Nat :=
  let c0_i32_4082 : BitVec 32 := 0#32
  let c1_i32_4081 : BitVec 32 := 1#32
  let v5069 : BitVec 32 := Scalar.muli v3 c1_i32_4081
  let v5070 : BitVec 32 := Scalar.addi c0_i32_4082 v5069
  v5070.toNat
def k0_off272 (v4979 : BitVec 32) : Fin 2 → Nat :=
  let c256_i32_4085 : BitVec 32 := 256#32
  let v5077 : BitVec 32 := Scalar.muli v4979 c256_i32_4085
  let v5078 : Index := Scalar.indexCast v5077
  let c0_4086 : Index := 0#32
  ![v5078.toNat, 0]
def k0_off273 (v4980 : BitVec 32) : Fin 2 → Nat :=
  let c256_i32_4096 : BitVec 32 := 256#32
  let v5094 : BitVec 32 := Scalar.muli v4980 c256_i32_4096
  let v5095 : Index := Scalar.indexCast v5094
  let c0_4097 : Index := 0#32
  ![v5095.toNat, 0]
def k0_off274 (v5111 : BitVec 32) : Fin 1 → Nat :=
  ![v5111.toNat]

def k0_off275 (v5111 : BitVec 32) (c0_i32_4110 : BitVec 32) : Fin 2 → Nat :=
  let c256_i32_4109 : BitVec 32 := 256#32
  let v5113 : BitVec 32 := Scalar.muli v5111 c256_i32_4109
  let v5114 : BitVec 32 := Scalar.addi v5113 c0_i32_4110
  let c0_i32_4113 : BitVec 32 := 0#32
  ![v5114.toNat, 0]
def k0_off276 (v4979 : BitVec 32) (c0_i32_4020 : BitVec 32) : Fin 2 → Nat :=
  let c256_i32_4019 : BitVec 32 := 256#32
  let v4993 : BitVec 32 := Scalar.muli v4979 c256_i32_4019
  let v4994 : BitVec 32 := Scalar.addi v4993 c0_i32_4020
  let c0_i32_4117 : BitVec 32 := 0#32
  ![v4994.toNat, 0]

def k0_chk91 (v4979 : BitVec 32) : Prop :=
  (∀ a, (k0_off266 v4979) a + S1.size a ≤ S32.size a) ∧
  (∀ (r : Fin 2), ∀ a, (k0_off267 v4979 (BitVec.ofNat 32 (128 * r.val))) a + S128x256.size a ≤ S8192x256.size a) ∧
  (∀ (r : Fin 2), ∀ (hinb : ∀ a, (k0_off267 v4979 (BitVec.ofNat 32 (128 * r.val))) a + S128x256.size a ≤ S8192x256.size a), (Rect.unit (s := S8192x256) (k0_off267 v4979 (BitVec.ofNat 32 (128 * r.val))) S128x256.size hinb).WholeWords (EltTy.packing .bf16)) ∧
  (∀ a, (k0_off272 v4979) a + S256x256.size a ≤ S8192x256.size a) ∧
  (∀ (r : Fin 2), ∀ a, (k0_off276 v4979 (BitVec.ofNat 32 (128 * r.val))) a + S128x256.size a ≤ S8192x256.size a) ∧
  (∀ (r : Fin 2), ∀ (hinb : ∀ a, (k0_off276 v4979 (BitVec.ofNat 32 (128 * r.val))) a + S128x256.size a ≤ S8192x256.size a), (Rect.unit (s := S8192x256) (k0_off276 v4979 (BitVec.ofNat 32 (128 * r.val))) S128x256.size hinb).WholeWords (EltTy.packing .bf16))
theorem k0_off266_inb : ∀ (v4979 : BitVec 32) (k0_hw91 : k0_chk91 v4979), ∀ a, (k0_off266 v4979) a + S1.size a ≤ S32.size a := fun v4979 k0_hw91 => k0_hw91.1
theorem k0_off267_inb : ∀ (v4979 : BitVec 32) (k0_hw91 : k0_chk91 v4979), ∀ (r : Fin 2), ∀ a, (k0_off267 v4979 (BitVec.ofNat 32 (128 * r.val))) a + S128x256.size a ≤ S8192x256.size a := fun v4979 k0_hw91 r => k0_hw91.2.1 r
theorem k0_off267_wordsbf16 : ∀ (v4979 : BitVec 32) (k0_hw91 : k0_chk91 v4979), ∀ (r : Fin 2), (Rect.unit (s := S8192x256) (k0_off267 v4979 (BitVec.ofNat 32 (128 * r.val))) S128x256.size (k0_off267_inb v4979 k0_hw91 r)).WholeWords (EltTy.packing .bf16) := fun v4979 k0_hw91 r => k0_hw91.2.2.1 r (k0_off267_inb v4979 k0_hw91 r)
theorem k0_off272_inb : ∀ (v4979 : BitVec 32) (k0_hw91 : k0_chk91 v4979), ∀ a, (k0_off272 v4979) a + S256x256.size a ≤ S8192x256.size a := fun v4979 k0_hw91 => k0_hw91.2.2.2.1
theorem k0_off276_inb : ∀ (v4979 : BitVec 32) (k0_hw91 : k0_chk91 v4979), ∀ (r : Fin 2), ∀ a, (k0_off276 v4979 (BitVec.ofNat 32 (128 * r.val))) a + S128x256.size a ≤ S8192x256.size a := fun v4979 k0_hw91 r => k0_hw91.2.2.2.2.1 r
theorem k0_off276_wordsbf16 : ∀ (v4979 : BitVec 32) (k0_hw91 : k0_chk91 v4979), ∀ (r : Fin 2), (Rect.unit (s := S8192x256) (k0_off276 v4979 (BitVec.ofNat 32 (128 * r.val))) S128x256.size (k0_off276_inb v4979 k0_hw91 r)).WholeWords (EltTy.packing .bf16) := fun v4979 k0_hw91 r => k0_hw91.2.2.2.2.2 r (k0_off276_inb v4979 k0_hw91 r)

def k0_dev156 (v4 : BitVec 32) : Nat :=
  let c0_i32_4125 : BitVec 32 := 0#32
  let c1_i32_4124 : BitVec 32 := 1#32
  let v5129 : BitVec 32 := Scalar.muli v4 c1_i32_4124
  let v5130 : BitVec 32 := Scalar.addi c0_i32_4125 v5129
  v5130.toNat
def k0_dev157 (v4 : BitVec 32) : Nat :=
  let c0_i32_4144 : BitVec 32 := 0#32
  let c1_i32_4143 : BitVec 32 := 1#32
  let v5153 : BitVec 32 := Scalar.muli v4 c1_i32_4143
  let v5154 : BitVec 32 := Scalar.addi c0_i32_4144 v5153
  v5154.toNat
def k0_off277 (v5112 : BitVec 32) : Fin 1 → Nat :=
  ![v5112.toNat]

def k0_off278 (v5112 : BitVec 32) (c0_i32_4148 : BitVec 32) : Fin 2 → Nat :=
  let c256_i32_4147 : BitVec 32 := 256#32
  let v5161 : BitVec 32 := Scalar.muli v5112 c256_i32_4147
  let v5162 : BitVec 32 := Scalar.addi v5161 c0_i32_4148
  let c0_i32_4151 : BitVec 32 := 0#32
  ![v5162.toNat, 0]
def k0_off279 (v5111 : BitVec 32) : Fin 2 → Nat :=
  let c256_i32_4159 : BitVec 32 := 256#32
  let v5177 : BitVec 32 := Scalar.muli v5111 c256_i32_4159
  let v5178 : Index := Scalar.indexCast v5177
  let c0_4160 : Index := 0#32
  ![v5178.toNat, 0]
def k0_off280 (v5112 : BitVec 32) : Fin 2 → Nat :=
  let c256_i32_4170 : BitVec 32 := 256#32
  let v5194 : BitVec 32 := Scalar.muli v5112 c256_i32_4170
  let v5195 : Index := Scalar.indexCast v5194
  let c0_4171 : Index := 0#32
  ![v5195.toNat, 0]

def k0_chk94 (v5112 : BitVec 32) : Prop :=
  (∀ a, (k0_off277 v5112) a + S1.size a ≤ S32.size a) ∧
  (∀ (r : Fin 2), ∀ a, (k0_off278 v5112 (BitVec.ofNat 32 (128 * r.val))) a + S128x256.size a ≤ S8192x256.size a) ∧
  (∀ (r : Fin 2), ∀ (hinb : ∀ a, (k0_off278 v5112 (BitVec.ofNat 32 (128 * r.val))) a + S128x256.size a ≤ S8192x256.size a), (Rect.unit (s := S8192x256) (k0_off278 v5112 (BitVec.ofNat 32 (128 * r.val))) S128x256.size hinb).WholeWords (EltTy.packing .bf16)) ∧
  (∀ a, (k0_off280 v5112) a + S256x256.size a ≤ S8192x256.size a)
theorem k0_off277_inb : ∀ (v5112 : BitVec 32) (k0_hw94 : k0_chk94 v5112), ∀ a, (k0_off277 v5112) a + S1.size a ≤ S32.size a := fun v5112 k0_hw94 => k0_hw94.1
theorem k0_off278_inb : ∀ (v5112 : BitVec 32) (k0_hw94 : k0_chk94 v5112), ∀ (r : Fin 2), ∀ a, (k0_off278 v5112 (BitVec.ofNat 32 (128 * r.val))) a + S128x256.size a ≤ S8192x256.size a := fun v5112 k0_hw94 r => k0_hw94.2.1 r
theorem k0_off278_wordsbf16 : ∀ (v5112 : BitVec 32) (k0_hw94 : k0_chk94 v5112), ∀ (r : Fin 2), (Rect.unit (s := S8192x256) (k0_off278 v5112 (BitVec.ofNat 32 (128 * r.val))) S128x256.size (k0_off278_inb v5112 k0_hw94 r)).WholeWords (EltTy.packing .bf16) := fun v5112 k0_hw94 r => k0_hw94.2.2.1 r (k0_off278_inb v5112 k0_hw94 r)
theorem k0_off280_inb : ∀ (v5112 : BitVec 32) (k0_hw94 : k0_chk94 v5112), ∀ a, (k0_off280 v5112) a + S256x256.size a ≤ S8192x256.size a := fun v5112 k0_hw94 => k0_hw94.2.2.2

def k0_off281 (v5211 : BitVec 32) : Fin 1 → Nat :=
  ![v5211.toNat]

def k0_off282 (v5211 : BitVec 32) (c0_i32_4183 : BitVec 32) : Fin 2 → Nat :=
  let c256_i32_4182 : BitVec 32 := 256#32
  let v5212 : BitVec 32 := Scalar.muli v5211 c256_i32_4182
  let v5213 : BitVec 32 := Scalar.addi v5212 c0_i32_4183
  let c0_i32_4186 : BitVec 32 := 0#32
  ![v5213.toNat, 0]
def k0_off283 (v5211 : BitVec 32) : Fin 2 → Nat :=
  let c256_i32_4194 : BitVec 32 := 256#32
  let v5228 : BitVec 32 := Scalar.muli v5211 c256_i32_4194
  let v5229 : Index := Scalar.indexCast v5228
  let c0_4195 : Index := 0#32
  ![v5229.toNat, 0]

def k0_chk95 (v5211 : BitVec 32) : Prop :=
  (∀ a, (k0_off281 v5211) a + S1.size a ≤ S32.size a) ∧
  (∀ (r : Fin 2), ∀ a, (k0_off282 v5211 (BitVec.ofNat 32 (128 * r.val))) a + S128x256.size a ≤ S8192x256.size a) ∧
  (∀ (r : Fin 2), ∀ (hinb : ∀ a, (k0_off282 v5211 (BitVec.ofNat 32 (128 * r.val))) a + S128x256.size a ≤ S8192x256.size a), (Rect.unit (s := S8192x256) (k0_off282 v5211 (BitVec.ofNat 32 (128 * r.val))) S128x256.size hinb).WholeWords (EltTy.packing .bf16)) ∧
  (∀ a, (k0_off283 v5211) a + S256x256.size a ≤ S8192x256.size a)
theorem k0_off281_inb : ∀ (v5211 : BitVec 32) (k0_hw95 : k0_chk95 v5211), ∀ a, (k0_off281 v5211) a + S1.size a ≤ S32.size a := fun v5211 k0_hw95 => k0_hw95.1
theorem k0_off282_inb : ∀ (v5211 : BitVec 32) (k0_hw95 : k0_chk95 v5211), ∀ (r : Fin 2), ∀ a, (k0_off282 v5211 (BitVec.ofNat 32 (128 * r.val))) a + S128x256.size a ≤ S8192x256.size a := fun v5211 k0_hw95 r => k0_hw95.2.1 r
theorem k0_off282_wordsbf16 : ∀ (v5211 : BitVec 32) (k0_hw95 : k0_chk95 v5211), ∀ (r : Fin 2), (Rect.unit (s := S8192x256) (k0_off282 v5211 (BitVec.ofNat 32 (128 * r.val))) S128x256.size (k0_off282_inb v5211 k0_hw95 r)).WholeWords (EltTy.packing .bf16) := fun v5211 k0_hw95 r => k0_hw95.2.2.1 r (k0_off282_inb v5211 k0_hw95 r)
theorem k0_off283_inb : ∀ (v5211 : BitVec 32) (k0_hw95 : k0_chk95 v5211), ∀ a, (k0_off283 v5211) a + S256x256.size a ≤ S8192x256.size a := fun v5211 k0_hw95 => k0_hw95.2.2.2

def k0_off284 (v5111 : BitVec 32) (c0_i32_4120 : BitVec 32) : Fin 2 → Nat :=
  let c256_i32_4119 : BitVec 32 := 256#32
  let v5125 : BitVec 32 := Scalar.muli v5111 c256_i32_4119
  let v5126 : BitVec 32 := Scalar.addi v5125 c0_i32_4120
  let c0_i32_4207 : BitVec 32 := 0#32
  ![v5126.toNat, 0]

def k0_chk93 (v5111 : BitVec 32) : Prop :=
  (∀ a, (k0_off274 v5111) a + S1.size a ≤ S32.size a) ∧
  (∀ (r : Fin 2), ∀ a, (k0_off275 v5111 (BitVec.ofNat 32 (128 * r.val))) a + S128x256.size a ≤ S8192x256.size a) ∧
  (∀ (r : Fin 2), ∀ (hinb : ∀ a, (k0_off275 v5111 (BitVec.ofNat 32 (128 * r.val))) a + S128x256.size a ≤ S8192x256.size a), (Rect.unit (s := S8192x256) (k0_off275 v5111 (BitVec.ofNat 32 (128 * r.val))) S128x256.size hinb).WholeWords (EltTy.packing .bf16)) ∧
  (∀ a, (k0_off279 v5111) a + S256x256.size a ≤ S8192x256.size a) ∧
  (∀ (r : Fin 2), ∀ a, (k0_off284 v5111 (BitVec.ofNat 32 (128 * r.val))) a + S128x256.size a ≤ S8192x256.size a) ∧
  (∀ (r : Fin 2), ∀ (hinb : ∀ a, (k0_off284 v5111 (BitVec.ofNat 32 (128 * r.val))) a + S128x256.size a ≤ S8192x256.size a), (Rect.unit (s := S8192x256) (k0_off284 v5111 (BitVec.ofNat 32 (128 * r.val))) S128x256.size hinb).WholeWords (EltTy.packing .bf16))
theorem k0_off274_inb : ∀ (v5111 : BitVec 32) (k0_hw93 : k0_chk93 v5111), ∀ a, (k0_off274 v5111) a + S1.size a ≤ S32.size a := fun v5111 k0_hw93 => k0_hw93.1
theorem k0_off275_inb : ∀ (v5111 : BitVec 32) (k0_hw93 : k0_chk93 v5111), ∀ (r : Fin 2), ∀ a, (k0_off275 v5111 (BitVec.ofNat 32 (128 * r.val))) a + S128x256.size a ≤ S8192x256.size a := fun v5111 k0_hw93 r => k0_hw93.2.1 r
theorem k0_off275_wordsbf16 : ∀ (v5111 : BitVec 32) (k0_hw93 : k0_chk93 v5111), ∀ (r : Fin 2), (Rect.unit (s := S8192x256) (k0_off275 v5111 (BitVec.ofNat 32 (128 * r.val))) S128x256.size (k0_off275_inb v5111 k0_hw93 r)).WholeWords (EltTy.packing .bf16) := fun v5111 k0_hw93 r => k0_hw93.2.2.1 r (k0_off275_inb v5111 k0_hw93 r)
theorem k0_off279_inb : ∀ (v5111 : BitVec 32) (k0_hw93 : k0_chk93 v5111), ∀ a, (k0_off279 v5111) a + S256x256.size a ≤ S8192x256.size a := fun v5111 k0_hw93 => k0_hw93.2.2.2.1
theorem k0_off284_inb : ∀ (v5111 : BitVec 32) (k0_hw93 : k0_chk93 v5111), ∀ (r : Fin 2), ∀ a, (k0_off284 v5111 (BitVec.ofNat 32 (128 * r.val))) a + S128x256.size a ≤ S8192x256.size a := fun v5111 k0_hw93 r => k0_hw93.2.2.2.2.1 r
theorem k0_off284_wordsbf16 : ∀ (v5111 : BitVec 32) (k0_hw93 : k0_chk93 v5111), ∀ (r : Fin 2), (Rect.unit (s := S8192x256) (k0_off284 v5111 (BitVec.ofNat 32 (128 * r.val))) S128x256.size (k0_off284_inb v5111 k0_hw93 r)).WholeWords (EltTy.packing .bf16) := fun v5111 k0_hw93 r => k0_hw93.2.2.2.2.2 r (k0_off284_inb v5111 k0_hw93 r)

def k0_off285 (v4980 : BitVec 32) (c0_i32_4058 : BitVec 32) : Fin 2 → Nat :=
  let c256_i32_4057 : BitVec 32 := 256#32
  let v5041 : BitVec 32 := Scalar.muli v4980 c256_i32_4057
  let v5042 : BitVec 32 := Scalar.addi v5041 c0_i32_4058
  let c0_i32_4215 : BitVec 32 := 0#32
  ![v5042.toNat, 0]

def k0_chk92 (v4980 : BitVec 32) : Prop :=
  (∀ a, (k0_off269 v4980) a + S1.size a ≤ S32.size a) ∧
  (∀ (r : Fin 2), ∀ a, (k0_off270 v4980 (BitVec.ofNat 32 (128 * r.val))) a + S128x256.size a ≤ S8192x256.size a) ∧
  (∀ (r : Fin 2), ∀ (hinb : ∀ a, (k0_off270 v4980 (BitVec.ofNat 32 (128 * r.val))) a + S128x256.size a ≤ S8192x256.size a), (Rect.unit (s := S8192x256) (k0_off270 v4980 (BitVec.ofNat 32 (128 * r.val))) S128x256.size hinb).WholeWords (EltTy.packing .bf16)) ∧
  (∀ a, (k0_off273 v4980) a + S256x256.size a ≤ S8192x256.size a) ∧
  (∀ (r : Fin 2), ∀ a, (k0_off285 v4980 (BitVec.ofNat 32 (128 * r.val))) a + S128x256.size a ≤ S8192x256.size a) ∧
  (∀ (r : Fin 2), ∀ (hinb : ∀ a, (k0_off285 v4980 (BitVec.ofNat 32 (128 * r.val))) a + S128x256.size a ≤ S8192x256.size a), (Rect.unit (s := S8192x256) (k0_off285 v4980 (BitVec.ofNat 32 (128 * r.val))) S128x256.size hinb).WholeWords (EltTy.packing .bf16))
theorem k0_off269_inb : ∀ (v4980 : BitVec 32) (k0_hw92 : k0_chk92 v4980), ∀ a, (k0_off269 v4980) a + S1.size a ≤ S32.size a := fun v4980 k0_hw92 => k0_hw92.1
theorem k0_off270_inb : ∀ (v4980 : BitVec 32) (k0_hw92 : k0_chk92 v4980), ∀ (r : Fin 2), ∀ a, (k0_off270 v4980 (BitVec.ofNat 32 (128 * r.val))) a + S128x256.size a ≤ S8192x256.size a := fun v4980 k0_hw92 r => k0_hw92.2.1 r
theorem k0_off270_wordsbf16 : ∀ (v4980 : BitVec 32) (k0_hw92 : k0_chk92 v4980), ∀ (r : Fin 2), (Rect.unit (s := S8192x256) (k0_off270 v4980 (BitVec.ofNat 32 (128 * r.val))) S128x256.size (k0_off270_inb v4980 k0_hw92 r)).WholeWords (EltTy.packing .bf16) := fun v4980 k0_hw92 r => k0_hw92.2.2.1 r (k0_off270_inb v4980 k0_hw92 r)
theorem k0_off273_inb : ∀ (v4980 : BitVec 32) (k0_hw92 : k0_chk92 v4980), ∀ a, (k0_off273 v4980) a + S256x256.size a ≤ S8192x256.size a := fun v4980 k0_hw92 => k0_hw92.2.2.2.1
theorem k0_off285_inb : ∀ (v4980 : BitVec 32) (k0_hw92 : k0_chk92 v4980), ∀ (r : Fin 2), ∀ a, (k0_off285 v4980 (BitVec.ofNat 32 (128 * r.val))) a + S128x256.size a ≤ S8192x256.size a := fun v4980 k0_hw92 r => k0_hw92.2.2.2.2.1 r
theorem k0_off285_wordsbf16 : ∀ (v4980 : BitVec 32) (k0_hw92 : k0_chk92 v4980), ∀ (r : Fin 2), (Rect.unit (s := S8192x256) (k0_off285 v4980 (BitVec.ofNat 32 (128 * r.val))) S128x256.size (k0_off285_inb v4980 k0_hw92 r)).WholeWords (EltTy.packing .bf16) := fun v4980 k0_hw92 r => k0_hw92.2.2.2.2.2 r (k0_off285_inb v4980 k0_hw92 r)

def k0_off286 (v5261 : BitVec 32) : Fin 2 → Nat :=
  let c256_i32_4222 : BitVec 32 := 256#32
  let v5262 : BitVec 32 := Scalar.muli v5261 c256_i32_4222
  let v5263 : Index := Scalar.indexCast v5262
  let c0_4223 : Index := 0#32
  ![v5263.toNat, 0]

def k0_chk96 (v5261 : BitVec 32) : Prop :=
  (∀ a, (k0_off286 v5261) a + S256x256.size a ≤ S8192x256.size a)
theorem k0_off286_inb : ∀ (v5261 : BitVec 32) (k0_hw96 : k0_chk96 v5261), ∀ a, (k0_off286 v5261) a + S256x256.size a ≤ S8192x256.size a := fun v5261 k0_hw96 => k0_hw96

def k0_off287 (v5269 : BitVec 32) : Fin 2 → Nat :=
  let c256_i32_4227 : BitVec 32 := 256#32
  let v5270 : BitVec 32 := Scalar.muli v5269 c256_i32_4227
  let v5271 : Index := Scalar.indexCast v5270
  let c0_4228 : Index := 0#32
  ![v5271.toNat, 0]

def k0_chk97 (v5269 : BitVec 32) : Prop :=
  (∀ a, (k0_off287 v5269) a + S256x256.size a ≤ S8192x256.size a)
theorem k0_off287_inb : ∀ (v5269 : BitVec 32) (k0_hw97 : k0_chk97 v5269), ∀ a, (k0_off287 v5269) a + S256x256.size a ≤ S8192x256.size a := fun v5269 k0_hw97 => k0_hw97

def k0_dev158 (v4 : BitVec 32) : Nat :=
  let c0_i32_4235 : BitVec 32 := 0#32
  let c1_i32_4234 : BitVec 32 := 1#32
  let v5277 : BitVec 32 := Scalar.muli v4 c1_i32_4234
  let v5278 : BitVec 32 := Scalar.addi c0_i32_4235 v5277
  v5278.toNat
def k0_dev159 (v3 : BitVec 32) : Nat :=
  let c0_i32_4242 : BitVec 32 := 0#32
  let c1_i32_4241 : BitVec 32 := 1#32
  let v5285 : BitVec 32 := Scalar.muli v3 c1_i32_4241
  let v5286 : BitVec 32 := Scalar.addi c0_i32_4242 v5285
  v5286.toNat
def k0_off288 (v5301 : BitVec 32) : Fin 2 → Nat :=
  let c256_i32_4259 : BitVec 32 := 256#32
  let v5305 : BitVec 32 := Scalar.muli v5301 c256_i32_4259
  let v5306 : Index := Scalar.indexCast v5305
  let c0_4260 : Index := 0#32
  ![v5306.toNat, 0]

def k0_chk98 (v5301 : BitVec 32) : Prop :=
  (∀ a, (k0_off288 v5301) a + S256x256.size a ≤ S8192x256.size a)
theorem k0_off288_inb : ∀ (v5301 : BitVec 32) (k0_hw98 : k0_chk98 v5301), ∀ a, (k0_off288 v5301) a + S256x256.size a ≤ S8192x256.size a := fun v5301 k0_hw98 => k0_hw98

def k0_dev160 (v4 : BitVec 32) : Nat :=
  let c0_i32_4269 : BitVec 32 := 0#32
  let c1_i32_4268 : BitVec 32 := 1#32
  let v5313 : BitVec 32 := Scalar.muli v4 c1_i32_4268
  let v5314 : BitVec 32 := Scalar.addi c0_i32_4269 v5313
  v5314.toNat
def k0_off289 (v5331 : BitVec 32) : Fin 2 → Nat :=
  let c256_i32_4288 : BitVec 32 := 256#32
  let v5335 : BitVec 32 := Scalar.muli v5331 c256_i32_4288
  let v5336 : Index := Scalar.indexCast v5335
  let c0_4289 : Index := 0#32
  ![v5336.toNat, 0]

def k0_chk99 (v5331 : BitVec 32) : Prop :=
  (∀ a, (k0_off289 v5331) a + S256x256.size a ≤ S8192x256.size a)
theorem k0_off289_inb : ∀ (v5331 : BitVec 32) (k0_hw99 : k0_chk99 v5331), ∀ a, (k0_off289 v5331) a + S256x256.size a ≤ S8192x256.size a := fun v5331 k0_hw99 => k0_hw99

def k0_dev161 (v3 : BitVec 32) : Nat :=
  let c0_i32_4298 : BitVec 32 := 0#32
  let c1_i32_4297 : BitVec 32 := 1#32
  let v5343 : BitVec 32 := Scalar.muli v3 c1_i32_4297
  let v5344 : BitVec 32 := Scalar.addi c0_i32_4298 v5343
  v5344.toNat
def k0_off290 (v5361 : BitVec 32) : Fin 2 → Nat :=
  let c256_i32_4317 : BitVec 32 := 256#32
  let v5365 : BitVec 32 := Scalar.muli v5361 c256_i32_4317
  let v5366 : Index := Scalar.indexCast v5365
  let c0_4318 : Index := 0#32
  ![v5366.toNat, 0]

def k0_chk100 (v5361 : BitVec 32) : Prop :=
  (∀ a, (k0_off290 v5361) a + S256x256.size a ≤ S8192x256.size a)
theorem k0_off290_inb : ∀ (v5361 : BitVec 32) (k0_hw100 : k0_chk100 v5361), ∀ a, (k0_off290 v5361) a + S256x256.size a ≤ S8192x256.size a := fun v5361 k0_hw100 => k0_hw100

def k0_dev162 (v4 : BitVec 32) : Nat :=
  let c0_i32_4333 : BitVec 32 := 0#32
  let c1_i32_4332 : BitVec 32 := 1#32
  let v5377 : BitVec 32 := Scalar.muli v4 c1_i32_4332
  let v5378 : BitVec 32 := Scalar.addi c0_i32_4333 v5377
  v5378.toNat
def k0_off291 (v5395 : BitVec 32) : Fin 2 → Nat :=
  let c256_i32_4352 : BitVec 32 := 256#32
  let v5399 : BitVec 32 := Scalar.muli v5395 c256_i32_4352
  let v5400 : Index := Scalar.indexCast v5399
  let c0_4353 : Index := 0#32
  ![v5400.toNat, 0]

def k0_chk101 (v5395 : BitVec 32) : Prop :=
  (∀ a, (k0_off291 v5395) a + S256x256.size a ≤ S8192x256.size a)
theorem k0_off291_inb : ∀ (v5395 : BitVec 32) (k0_hw101 : k0_chk101 v5395), ∀ a, (k0_off291 v5395) a + S256x256.size a ≤ S8192x256.size a := fun v5395 k0_hw101 => k0_hw101

def k0_dev163 (v3 : BitVec 32) : Nat :=
  let c0_i32_4368 : BitVec 32 := 0#32
  let c1_i32_4367 : BitVec 32 := 1#32
  let v5411 : BitVec 32 := Scalar.muli v3 c1_i32_4367
  let v5412 : BitVec 32 := Scalar.addi c0_i32_4368 v5411
  v5412.toNat
def k0_off292 (v5429 : BitVec 32) : Fin 2 → Nat :=
  let c256_i32_4387 : BitVec 32 := 256#32
  let v5433 : BitVec 32 := Scalar.muli v5429 c256_i32_4387
  let v5434 : Index := Scalar.indexCast v5433
  let c0_4388 : Index := 0#32
  ![v5434.toNat, 0]

def k0_chk102 (v5429 : BitVec 32) : Prop :=
  (∀ a, (k0_off292 v5429) a + S256x256.size a ≤ S8192x256.size a)
theorem k0_off292_inb : ∀ (v5429 : BitVec 32) (k0_hw102 : k0_chk102 v5429), ∀ a, (k0_off292 v5429) a + S256x256.size a ≤ S8192x256.size a := fun v5429 k0_hw102 => k0_hw102

def k0_dev164 (v4 : BitVec 32) : Nat :=
  let c0_i32_4406 : BitVec 32 := 0#32
  let c1_i32_4405 : BitVec 32 := 1#32
  let v5447 : BitVec 32 := Scalar.muli v4 c1_i32_4405
  let v5448 : BitVec 32 := Scalar.addi c0_i32_4406 v5447
  v5448.toNat
def k0_off293 (v5465 : BitVec 32) : Fin 2 → Nat :=
  let c256_i32_4425 : BitVec 32 := 256#32
  let v5469 : BitVec 32 := Scalar.muli v5465 c256_i32_4425
  let v5470 : Index := Scalar.indexCast v5469
  let c0_4426 : Index := 0#32
  ![v5470.toNat, 0]

def k0_chk103 (v5465 : BitVec 32) : Prop :=
  (∀ a, (k0_off293 v5465) a + S256x256.size a ≤ S8192x256.size a)
theorem k0_off293_inb : ∀ (v5465 : BitVec 32) (k0_hw103 : k0_chk103 v5465), ∀ a, (k0_off293 v5465) a + S256x256.size a ≤ S8192x256.size a := fun v5465 k0_hw103 => k0_hw103

def k0_dev165 (v3 : BitVec 32) : Nat :=
  let c0_i32_4444 : BitVec 32 := 0#32
  let c1_i32_4443 : BitVec 32 := 1#32
  let v5483 : BitVec 32 := Scalar.muli v3 c1_i32_4443
  let v5484 : BitVec 32 := Scalar.addi c0_i32_4444 v5483
  v5484.toNat
def k0_off294 (v5501 : BitVec 32) : Fin 2 → Nat :=
  let c256_i32_4463 : BitVec 32 := 256#32
  let v5505 : BitVec 32 := Scalar.muli v5501 c256_i32_4463
  let v5506 : Index := Scalar.indexCast v5505
  let c0_4464 : Index := 0#32
  ![v5506.toNat, 0]

def k0_chk104 (v5501 : BitVec 32) : Prop :=
  (∀ a, (k0_off294 v5501) a + S256x256.size a ≤ S8192x256.size a)
theorem k0_off294_inb : ∀ (v5501 : BitVec 32) (k0_hw104 : k0_chk104 v5501), ∀ a, (k0_off294 v5501) a + S256x256.size a ≤ S8192x256.size a := fun v5501 k0_hw104 => k0_hw104

def k0_dev166 (v4 : BitVec 32) : Nat :=
  let c0_i32_4482 : BitVec 32 := 0#32
  let c1_i32_4481 : BitVec 32 := 1#32
  let v5519 : BitVec 32 := Scalar.muli v4 c1_i32_4481
  let v5520 : BitVec 32 := Scalar.addi c0_i32_4482 v5519
  v5520.toNat
def k0_off295 (v5537 : BitVec 32) : Fin 2 → Nat :=
  let c256_i32_4501 : BitVec 32 := 256#32
  let v5541 : BitVec 32 := Scalar.muli v5537 c256_i32_4501
  let v5542 : Index := Scalar.indexCast v5541
  let c0_4502 : Index := 0#32
  ![v5542.toNat, 0]

def k0_chk105 (v5537 : BitVec 32) : Prop :=
  (∀ a, (k0_off295 v5537) a + S256x256.size a ≤ S8192x256.size a)
theorem k0_off295_inb : ∀ (v5537 : BitVec 32) (k0_hw105 : k0_chk105 v5537), ∀ a, (k0_off295 v5537) a + S256x256.size a ≤ S8192x256.size a := fun v5537 k0_hw105 => k0_hw105

def k0_dev167 (v3 : BitVec 32) : Nat :=
  let c0_i32_4520 : BitVec 32 := 0#32
  let c1_i32_4519 : BitVec 32 := 1#32
  let v5555 : BitVec 32 := Scalar.muli v3 c1_i32_4519
  let v5556 : BitVec 32 := Scalar.addi c0_i32_4520 v5555
  v5556.toNat
def k0_off296 (v5573 : BitVec 32) : Fin 2 → Nat :=
  let c256_i32_4539 : BitVec 32 := 256#32
  let v5577 : BitVec 32 := Scalar.muli v5573 c256_i32_4539
  let v5578 : Index := Scalar.indexCast v5577
  let c0_4540 : Index := 0#32
  ![v5578.toNat, 0]

def k0_chk106 (v5573 : BitVec 32) : Prop :=
  (∀ a, (k0_off296 v5573) a + S256x256.size a ≤ S8192x256.size a)
theorem k0_off296_inb : ∀ (v5573 : BitVec 32) (k0_hw106 : k0_chk106 v5573), ∀ a, (k0_off296 v5573) a + S256x256.size a ≤ S8192x256.size a := fun v5573 k0_hw106 => k0_hw106

def k0_dev168 (v4 : BitVec 32) : Nat :=
  let c0_i32_4558 : BitVec 32 := 0#32
  let c1_i32_4557 : BitVec 32 := 1#32
  let v5591 : BitVec 32 := Scalar.muli v4 c1_i32_4557
  let v5592 : BitVec 32 := Scalar.addi c0_i32_4558 v5591
  v5592.toNat
def k0_off297 (v5609 : BitVec 32) : Fin 2 → Nat :=
  let c256_i32_4577 : BitVec 32 := 256#32
  let v5613 : BitVec 32 := Scalar.muli v5609 c256_i32_4577
  let v5614 : Index := Scalar.indexCast v5613
  let c0_4578 : Index := 0#32
  ![v5614.toNat, 0]

def k0_chk107 (v5609 : BitVec 32) : Prop :=
  (∀ a, (k0_off297 v5609) a + S256x256.size a ≤ S8192x256.size a)
theorem k0_off297_inb : ∀ (v5609 : BitVec 32) (k0_hw107 : k0_chk107 v5609), ∀ a, (k0_off297 v5609) a + S256x256.size a ≤ S8192x256.size a := fun v5609 k0_hw107 => k0_hw107

def k0_dev169 (v3 : BitVec 32) : Nat :=
  let c0_i32_4596 : BitVec 32 := 0#32
  let c1_i32_4595 : BitVec 32 := 1#32
  let v5627 : BitVec 32 := Scalar.muli v3 c1_i32_4595
  let v5628 : BitVec 32 := Scalar.addi c0_i32_4596 v5627
  v5628.toNat
def k0_off298 (v5645 : BitVec 32) : Fin 2 → Nat :=
  let c256_i32_4615 : BitVec 32 := 256#32
  let v5649 : BitVec 32 := Scalar.muli v5645 c256_i32_4615
  let v5650 : Index := Scalar.indexCast v5649
  let c0_4616 : Index := 0#32
  ![v5650.toNat, 0]

def k0_chk108 (v5645 : BitVec 32) : Prop :=
  (∀ a, (k0_off298 v5645) a + S256x256.size a ≤ S8192x256.size a)
theorem k0_off298_inb : ∀ (v5645 : BitVec 32) (k0_hw108 : k0_chk108 v5645), ∀ a, (k0_off298 v5645) a + S256x256.size a ≤ S8192x256.size a := fun v5645 k0_hw108 => k0_hw108

def k0_dev170 (v4 : BitVec 32) : Nat :=
  let c0_i32_4634 : BitVec 32 := 0#32
  let c1_i32_4633 : BitVec 32 := 1#32
  let v5663 : BitVec 32 := Scalar.muli v4 c1_i32_4633
  let v5664 : BitVec 32 := Scalar.addi c0_i32_4634 v5663
  v5664.toNat
def k0_off299 (v5681 : BitVec 32) : Fin 2 → Nat :=
  let c256_i32_4653 : BitVec 32 := 256#32
  let v5685 : BitVec 32 := Scalar.muli v5681 c256_i32_4653
  let v5686 : Index := Scalar.indexCast v5685
  let c0_4654 : Index := 0#32
  ![v5686.toNat, 0]

def k0_chk109 (v5681 : BitVec 32) : Prop :=
  (∀ a, (k0_off299 v5681) a + S256x256.size a ≤ S8192x256.size a)
theorem k0_off299_inb : ∀ (v5681 : BitVec 32) (k0_hw109 : k0_chk109 v5681), ∀ a, (k0_off299 v5681) a + S256x256.size a ≤ S8192x256.size a := fun v5681 k0_hw109 => k0_hw109

def k0_dev171 (v3 : BitVec 32) : Nat :=
  let c0_i32_4672 : BitVec 32 := 0#32
  let c1_i32_4671 : BitVec 32 := 1#32
  let v5699 : BitVec 32 := Scalar.muli v3 c1_i32_4671
  let v5700 : BitVec 32 := Scalar.addi c0_i32_4672 v5699
  v5700.toNat
def k0_off300 (v5717 : BitVec 32) : Fin 2 → Nat :=
  let c256_i32_4691 : BitVec 32 := 256#32
  let v5721 : BitVec 32 := Scalar.muli v5717 c256_i32_4691
  let v5722 : Index := Scalar.indexCast v5721
  let c0_4692 : Index := 0#32
  ![v5722.toNat, 0]

def k0_chk110 (v5717 : BitVec 32) : Prop :=
  (∀ a, (k0_off300 v5717) a + S256x256.size a ≤ S8192x256.size a)
theorem k0_off300_inb : ∀ (v5717 : BitVec 32) (k0_hw110 : k0_chk110 v5717), ∀ a, (k0_off300 v5717) a + S256x256.size a ≤ S8192x256.size a := fun v5717 k0_hw110 => k0_hw110

def k0_dev172 (v4 : BitVec 32) : Nat :=
  let c0_i32_4710 : BitVec 32 := 0#32
  let c1_i32_4709 : BitVec 32 := 1#32
  let v5735 : BitVec 32 := Scalar.muli v4 c1_i32_4709
  let v5736 : BitVec 32 := Scalar.addi c0_i32_4710 v5735
  v5736.toNat
def k0_off301 (v5753 : BitVec 32) : Fin 2 → Nat :=
  let c256_i32_4729 : BitVec 32 := 256#32
  let v5757 : BitVec 32 := Scalar.muli v5753 c256_i32_4729
  let v5758 : Index := Scalar.indexCast v5757
  let c0_4730 : Index := 0#32
  ![v5758.toNat, 0]

def k0_chk111 (v5753 : BitVec 32) : Prop :=
  (∀ a, (k0_off301 v5753) a + S256x256.size a ≤ S8192x256.size a)
theorem k0_off301_inb : ∀ (v5753 : BitVec 32) (k0_hw111 : k0_chk111 v5753), ∀ a, (k0_off301 v5753) a + S256x256.size a ≤ S8192x256.size a := fun v5753 k0_hw111 => k0_hw111

def k0_dev173 (v3 : BitVec 32) : Nat :=
  let c0_i32_4748 : BitVec 32 := 0#32
  let c1_i32_4747 : BitVec 32 := 1#32
  let v5771 : BitVec 32 := Scalar.muli v3 c1_i32_4747
  let v5772 : BitVec 32 := Scalar.addi c0_i32_4748 v5771
  v5772.toNat
def k0_off302 (v5789 : BitVec 32) : Fin 2 → Nat :=
  let c256_i32_4767 : BitVec 32 := 256#32
  let v5793 : BitVec 32 := Scalar.muli v5789 c256_i32_4767
  let v5794 : Index := Scalar.indexCast v5793
  let c0_4768 : Index := 0#32
  ![v5794.toNat, 0]

def k0_chk112 (v5789 : BitVec 32) : Prop :=
  (∀ a, (k0_off302 v5789) a + S256x256.size a ≤ S8192x256.size a)
theorem k0_off302_inb : ∀ (v5789 : BitVec 32) (k0_hw112 : k0_chk112 v5789), ∀ a, (k0_off302 v5789) a + S256x256.size a ≤ S8192x256.size a := fun v5789 k0_hw112 => k0_hw112

def k0_dev174 (v4 : BitVec 32) : Nat :=
  let c0_i32_4786 : BitVec 32 := 0#32
  let c1_i32_4785 : BitVec 32 := 1#32
  let v5807 : BitVec 32 := Scalar.muli v4 c1_i32_4785
  let v5808 : BitVec 32 := Scalar.addi c0_i32_4786 v5807
  v5808.toNat
def k0_off303 (v5825 : BitVec 32) : Fin 2 → Nat :=
  let c256_i32_4805 : BitVec 32 := 256#32
  let v5829 : BitVec 32 := Scalar.muli v5825 c256_i32_4805
  let v5830 : Index := Scalar.indexCast v5829
  let c0_4806 : Index := 0#32
  ![v5830.toNat, 0]

def k0_chk113 (v5825 : BitVec 32) : Prop :=
  (∀ a, (k0_off303 v5825) a + S256x256.size a ≤ S8192x256.size a)
theorem k0_off303_inb : ∀ (v5825 : BitVec 32) (k0_hw113 : k0_chk113 v5825), ∀ a, (k0_off303 v5825) a + S256x256.size a ≤ S8192x256.size a := fun v5825 k0_hw113 => k0_hw113

def k0_dev175 (v3 : BitVec 32) : Nat :=
  let c0_i32_4824 : BitVec 32 := 0#32
  let c1_i32_4823 : BitVec 32 := 1#32
  let v5843 : BitVec 32 := Scalar.muli v3 c1_i32_4823
  let v5844 : BitVec 32 := Scalar.addi c0_i32_4824 v5843
  v5844.toNat
def k0_off304 (v5861 : BitVec 32) : Fin 2 → Nat :=
  let c256_i32_4843 : BitVec 32 := 256#32
  let v5865 : BitVec 32 := Scalar.muli v5861 c256_i32_4843
  let v5866 : Index := Scalar.indexCast v5865
  let c0_4844 : Index := 0#32
  ![v5866.toNat, 0]

def k0_chk114 (v5861 : BitVec 32) : Prop :=
  (∀ a, (k0_off304 v5861) a + S256x256.size a ≤ S8192x256.size a)
theorem k0_off304_inb : ∀ (v5861 : BitVec 32) (k0_hw114 : k0_chk114 v5861), ∀ a, (k0_off304 v5861) a + S256x256.size a ≤ S8192x256.size a := fun v5861 k0_hw114 => k0_hw114

def k0_dev176 (v4 : BitVec 32) : Nat :=
  let c0_i32_4862 : BitVec 32 := 0#32
  let c1_i32_4861 : BitVec 32 := 1#32
  let v5879 : BitVec 32 := Scalar.muli v4 c1_i32_4861
  let v5880 : BitVec 32 := Scalar.addi c0_i32_4862 v5879
  v5880.toNat
def k0_off305 (v5897 : BitVec 32) : Fin 2 → Nat :=
  let c256_i32_4881 : BitVec 32 := 256#32
  let v5901 : BitVec 32 := Scalar.muli v5897 c256_i32_4881
  let v5902 : Index := Scalar.indexCast v5901
  let c0_4882 : Index := 0#32
  ![v5902.toNat, 0]

def k0_chk115 (v5897 : BitVec 32) : Prop :=
  (∀ a, (k0_off305 v5897) a + S256x256.size a ≤ S8192x256.size a)
theorem k0_off305_inb : ∀ (v5897 : BitVec 32) (k0_hw115 : k0_chk115 v5897), ∀ a, (k0_off305 v5897) a + S256x256.size a ≤ S8192x256.size a := fun v5897 k0_hw115 => k0_hw115

def k0_dev177 (v3 : BitVec 32) : Nat :=
  let c0_i32_4900 : BitVec 32 := 0#32
  let c1_i32_4899 : BitVec 32 := 1#32
  let v5915 : BitVec 32 := Scalar.muli v3 c1_i32_4899
  let v5916 : BitVec 32 := Scalar.addi c0_i32_4900 v5915
  v5916.toNat
def k0_off306 (v5933 : BitVec 32) : Fin 2 → Nat :=
  let c256_i32_4919 : BitVec 32 := 256#32
  let v5937 : BitVec 32 := Scalar.muli v5933 c256_i32_4919
  let v5938 : Index := Scalar.indexCast v5937
  let c0_4920 : Index := 0#32
  ![v5938.toNat, 0]

def k0_chk116 (v5933 : BitVec 32) : Prop :=
  (∀ a, (k0_off306 v5933) a + S256x256.size a ≤ S8192x256.size a)
theorem k0_off306_inb : ∀ (v5933 : BitVec 32) (k0_hw116 : k0_chk116 v5933), ∀ a, (k0_off306 v5933) a + S256x256.size a ≤ S8192x256.size a := fun v5933 k0_hw116 => k0_hw116

def k0_dev178 (v4 : BitVec 32) : Nat :=
  let c0_i32_4938 : BitVec 32 := 0#32
  let c1_i32_4937 : BitVec 32 := 1#32
  let v5951 : BitVec 32 := Scalar.muli v4 c1_i32_4937
  let v5952 : BitVec 32 := Scalar.addi c0_i32_4938 v5951
  v5952.toNat
def k0_off307 (v5969 : BitVec 32) : Fin 2 → Nat :=
  let c256_i32_4957 : BitVec 32 := 256#32
  let v5973 : BitVec 32 := Scalar.muli v5969 c256_i32_4957
  let v5974 : Index := Scalar.indexCast v5973
  let c0_4958 : Index := 0#32
  ![v5974.toNat, 0]

def k0_chk117 (v5969 : BitVec 32) : Prop :=
  (∀ a, (k0_off307 v5969) a + S256x256.size a ≤ S8192x256.size a)
theorem k0_off307_inb : ∀ (v5969 : BitVec 32) (k0_hw117 : k0_chk117 v5969), ∀ a, (k0_off307 v5969) a + S256x256.size a ≤ S8192x256.size a := fun v5969 k0_hw117 => k0_hw117

def k0_dev179 (v3 : BitVec 32) : Nat :=
  let c0_i32_4976 : BitVec 32 := 0#32
  let c1_i32_4975 : BitVec 32 := 1#32
  let v5987 : BitVec 32 := Scalar.muli v3 c1_i32_4975
  let v5988 : BitVec 32 := Scalar.addi c0_i32_4976 v5987
  v5988.toNat
def k0_off308 (v6005 : BitVec 32) : Fin 2 → Nat :=
  let c256_i32_4995 : BitVec 32 := 256#32
  let v6009 : BitVec 32 := Scalar.muli v6005 c256_i32_4995
  let v6010 : Index := Scalar.indexCast v6009
  let c0_4996 : Index := 0#32
  ![v6010.toNat, 0]

def k0_chk118 (v6005 : BitVec 32) : Prop :=
  (∀ a, (k0_off308 v6005) a + S256x256.size a ≤ S8192x256.size a)
theorem k0_off308_inb : ∀ (v6005 : BitVec 32) (k0_hw118 : k0_chk118 v6005), ∀ a, (k0_off308 v6005) a + S256x256.size a ≤ S8192x256.size a := fun v6005 k0_hw118 => k0_hw118

def k0_dev180 (v4 : BitVec 32) : Nat :=
  let c0_i32_5014 : BitVec 32 := 0#32
  let c1_i32_5013 : BitVec 32 := 1#32
  let v6023 : BitVec 32 := Scalar.muli v4 c1_i32_5013
  let v6024 : BitVec 32 := Scalar.addi c0_i32_5014 v6023
  v6024.toNat
def k0_off309 (v6041 : BitVec 32) : Fin 2 → Nat :=
  let c256_i32_5033 : BitVec 32 := 256#32
  let v6045 : BitVec 32 := Scalar.muli v6041 c256_i32_5033
  let v6046 : Index := Scalar.indexCast v6045
  let c0_5034 : Index := 0#32
  ![v6046.toNat, 0]

def k0_chk119 (v6041 : BitVec 32) : Prop :=
  (∀ a, (k0_off309 v6041) a + S256x256.size a ≤ S8192x256.size a)
theorem k0_off309_inb : ∀ (v6041 : BitVec 32) (k0_hw119 : k0_chk119 v6041), ∀ a, (k0_off309 v6041) a + S256x256.size a ≤ S8192x256.size a := fun v6041 k0_hw119 => k0_hw119

def k0_dev181 (v3 : BitVec 32) : Nat :=
  let c0_i32_5052 : BitVec 32 := 0#32
  let c1_i32_5051 : BitVec 32 := 1#32
  let v6059 : BitVec 32 := Scalar.muli v3 c1_i32_5051
  let v6060 : BitVec 32 := Scalar.addi c0_i32_5052 v6059
  v6060.toNat
def k0_off310 (v6077 : BitVec 32) : Fin 2 → Nat :=
  let c256_i32_5071 : BitVec 32 := 256#32
  let v6081 : BitVec 32 := Scalar.muli v6077 c256_i32_5071
  let v6082 : Index := Scalar.indexCast v6081
  let c0_5072 : Index := 0#32
  ![v6082.toNat, 0]

def k0_chk120 (v6077 : BitVec 32) : Prop :=
  (∀ a, (k0_off310 v6077) a + S256x256.size a ≤ S8192x256.size a)
theorem k0_off310_inb : ∀ (v6077 : BitVec 32) (k0_hw120 : k0_chk120 v6077), ∀ a, (k0_off310 v6077) a + S256x256.size a ≤ S8192x256.size a := fun v6077 k0_hw120 => k0_hw120

def k0_dev182 (v4 : BitVec 32) : Nat :=
  let c0_i32_5090 : BitVec 32 := 0#32
  let c1_i32_5089 : BitVec 32 := 1#32
  let v6095 : BitVec 32 := Scalar.muli v4 c1_i32_5089
  let v6096 : BitVec 32 := Scalar.addi c0_i32_5090 v6095
  v6096.toNat
def k0_off311 (v6113 : BitVec 32) : Fin 2 → Nat :=
  let c256_i32_5109 : BitVec 32 := 256#32
  let v6117 : BitVec 32 := Scalar.muli v6113 c256_i32_5109
  let v6118 : Index := Scalar.indexCast v6117
  let c0_5110 : Index := 0#32
  ![v6118.toNat, 0]

def k0_chk121 (v6113 : BitVec 32) : Prop :=
  (∀ a, (k0_off311 v6113) a + S256x256.size a ≤ S8192x256.size a)
theorem k0_off311_inb : ∀ (v6113 : BitVec 32) (k0_hw121 : k0_chk121 v6113), ∀ a, (k0_off311 v6113) a + S256x256.size a ≤ S8192x256.size a := fun v6113 k0_hw121 => k0_hw121

def k0_dev183 (v3 : BitVec 32) : Nat :=
  let c0_i32_5128 : BitVec 32 := 0#32
  let c1_i32_5127 : BitVec 32 := 1#32
  let v6131 : BitVec 32 := Scalar.muli v3 c1_i32_5127
  let v6132 : BitVec 32 := Scalar.addi c0_i32_5128 v6131
  v6132.toNat
def k0_off312 (v6149 : BitVec 32) : Fin 2 → Nat :=
  let c256_i32_5147 : BitVec 32 := 256#32
  let v6153 : BitVec 32 := Scalar.muli v6149 c256_i32_5147
  let v6154 : Index := Scalar.indexCast v6153
  let c0_5148 : Index := 0#32
  ![v6154.toNat, 0]

def k0_chk122 (v6149 : BitVec 32) : Prop :=
  (∀ a, (k0_off312 v6149) a + S256x256.size a ≤ S8192x256.size a)
theorem k0_off312_inb : ∀ (v6149 : BitVec 32) (k0_hw122 : k0_chk122 v6149), ∀ a, (k0_off312 v6149) a + S256x256.size a ≤ S8192x256.size a := fun v6149 k0_hw122 => k0_hw122

def k0_dev184 (v4 : BitVec 32) : Nat :=
  let c0_i32_5166 : BitVec 32 := 0#32
  let c1_i32_5165 : BitVec 32 := 1#32
  let v6167 : BitVec 32 := Scalar.muli v4 c1_i32_5165
  let v6168 : BitVec 32 := Scalar.addi c0_i32_5166 v6167
  v6168.toNat
def k0_off313 (v6185 : BitVec 32) : Fin 2 → Nat :=
  let c256_i32_5185 : BitVec 32 := 256#32
  let v6189 : BitVec 32 := Scalar.muli v6185 c256_i32_5185
  let v6190 : Index := Scalar.indexCast v6189
  let c0_5186 : Index := 0#32
  ![v6190.toNat, 0]

def k0_chk123 (v6185 : BitVec 32) : Prop :=
  (∀ a, (k0_off313 v6185) a + S256x256.size a ≤ S8192x256.size a)
theorem k0_off313_inb : ∀ (v6185 : BitVec 32) (k0_hw123 : k0_chk123 v6185), ∀ a, (k0_off313 v6185) a + S256x256.size a ≤ S8192x256.size a := fun v6185 k0_hw123 => k0_hw123

def k0_dev185 (v3 : BitVec 32) : Nat :=
  let c0_i32_5204 : BitVec 32 := 0#32
  let c1_i32_5203 : BitVec 32 := 1#32
  let v6203 : BitVec 32 := Scalar.muli v3 c1_i32_5203
  let v6204 : BitVec 32 := Scalar.addi c0_i32_5204 v6203
  v6204.toNat
def k0_off314 (v6221 : BitVec 32) : Fin 2 → Nat :=
  let c256_i32_5223 : BitVec 32 := 256#32
  let v6225 : BitVec 32 := Scalar.muli v6221 c256_i32_5223
  let v6226 : Index := Scalar.indexCast v6225
  let c0_5224 : Index := 0#32
  ![v6226.toNat, 0]

def k0_chk124 (v6221 : BitVec 32) : Prop :=
  (∀ a, (k0_off314 v6221) a + S256x256.size a ≤ S8192x256.size a)
theorem k0_off314_inb : ∀ (v6221 : BitVec 32) (k0_hw124 : k0_chk124 v6221), ∀ a, (k0_off314 v6221) a + S256x256.size a ≤ S8192x256.size a := fun v6221 k0_hw124 => k0_hw124

def k0_dev186 (v4 : BitVec 32) : Nat :=
  let c0_i32_5242 : BitVec 32 := 0#32
  let c1_i32_5241 : BitVec 32 := 1#32
  let v6239 : BitVec 32 := Scalar.muli v4 c1_i32_5241
  let v6240 : BitVec 32 := Scalar.addi c0_i32_5242 v6239
  v6240.toNat
def k0_off315 (v6257 : BitVec 32) : Fin 2 → Nat :=
  let c256_i32_5261 : BitVec 32 := 256#32
  let v6261 : BitVec 32 := Scalar.muli v6257 c256_i32_5261
  let v6262 : Index := Scalar.indexCast v6261
  let c0_5262 : Index := 0#32
  ![v6262.toNat, 0]

def k0_chk125 (v6257 : BitVec 32) : Prop :=
  (∀ a, (k0_off315 v6257) a + S256x256.size a ≤ S8192x256.size a)
theorem k0_off315_inb : ∀ (v6257 : BitVec 32) (k0_hw125 : k0_chk125 v6257), ∀ a, (k0_off315 v6257) a + S256x256.size a ≤ S8192x256.size a := fun v6257 k0_hw125 => k0_hw125

def k0_dev187 (v3 : BitVec 32) : Nat :=
  let c0_i32_5280 : BitVec 32 := 0#32
  let c1_i32_5279 : BitVec 32 := 1#32
  let v6275 : BitVec 32 := Scalar.muli v3 c1_i32_5279
  let v6276 : BitVec 32 := Scalar.addi c0_i32_5280 v6275
  v6276.toNat
def k0_off316 (v6293 : BitVec 32) : Fin 2 → Nat :=
  let c256_i32_5299 : BitVec 32 := 256#32
  let v6297 : BitVec 32 := Scalar.muli v6293 c256_i32_5299
  let v6298 : Index := Scalar.indexCast v6297
  let c0_5300 : Index := 0#32
  ![v6298.toNat, 0]

def k0_chk126 (v6293 : BitVec 32) : Prop :=
  (∀ a, (k0_off316 v6293) a + S256x256.size a ≤ S8192x256.size a)
theorem k0_off316_inb : ∀ (v6293 : BitVec 32) (k0_hw126 : k0_chk126 v6293), ∀ a, (k0_off316 v6293) a + S256x256.size a ≤ S8192x256.size a := fun v6293 k0_hw126 => k0_hw126

def k0_dev188 (v4 : BitVec 32) : Nat :=
  let c0_i32_5318 : BitVec 32 := 0#32
  let c1_i32_5317 : BitVec 32 := 1#32
  let v6311 : BitVec 32 := Scalar.muli v4 c1_i32_5317
  let v6312 : BitVec 32 := Scalar.addi c0_i32_5318 v6311
  v6312.toNat
def k0_off317 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_5385 : BitVec 32 := 256#32
  let v6368 : BitVec 32 := Scalar.muli v2 c256_i32_5385
  let v6369 : Index := Scalar.indexCast v6368
  let c0_5386 : Index := 0#32
  ![v6369.toNat, 0]
def k0_off318 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off319 (d0 : Dev nD) (c0_i32_5392 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_5391 : BitVec 32 := 256#32
  let v6380 : BitVec 32 := Scalar.muli v2 c256_i32_5391
  let v6381 : BitVec 32 := Scalar.addi v6380 c0_i32_5392
  let c0_i32_5396 : BitVec 32 := 0#32
  ![v6381.toNat, 0]
def k0_dev189 (v4 : BitVec 32) : Nat :=
  let c0_i32_5395 : BitVec 32 := 0#32
  let c1_i32_5394 : BitVec 32 := 1#32
  let v6382 : BitVec 32 := Scalar.muli v4 c1_i32_5394
  let v6383 : BitVec 32 := Scalar.addi c0_i32_5395 v6382
  v6383.toNat
def k0_dev190 (v4 : BitVec 32) : Nat :=
  let c0_i32_5404 : BitVec 32 := 0#32
  let c1_i32_5403 : BitVec 32 := 1#32
  let v6394 : BitVec 32 := Scalar.muli v4 c1_i32_5403
  let v6395 : BitVec 32 := Scalar.addi c0_i32_5404 v6394
  v6395.toNat
def k0_dev191 (v3 : BitVec 32) : Nat :=
  let c0_i32_5413 : BitVec 32 := 0#32
  let c1_i32_5412 : BitVec 32 := 1#32
  let v6406 : BitVec 32 := Scalar.muli v3 c1_i32_5412
  let v6407 : BitVec 32 := Scalar.addi c0_i32_5413 v6406
  v6407.toNat
def k0_dev192 (v3 : BitVec 32) : Nat :=
  let c0_i32_5422 : BitVec 32 := 0#32
  let c1_i32_5421 : BitVec 32 := 1#32
  let v6418 : BitVec 32 := Scalar.muli v3 c1_i32_5421
  let v6419 : BitVec 32 := Scalar.addi c0_i32_5422 v6418
  v6419.toNat
def k0_off320 (v6443 : BitVec 32) : Fin 1 → Nat :=
  ![v6443.toNat]

def k0_off321 (v6443 : BitVec 32) (c0_i32_5439 : BitVec 32) : Fin 2 → Nat :=
  let c256_i32_5438 : BitVec 32 := 256#32
  let v6445 : BitVec 32 := Scalar.muli v6443 c256_i32_5438
  let v6446 : BitVec 32 := Scalar.addi v6445 c0_i32_5439
  let c0_i32_5442 : BitVec 32 := 0#32
  ![v6446.toNat, 0]
def k0_off322 (d0 : Dev nD) (c0_i32_5390 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_5389 : BitVec 32 := 256#32
  let v6378 : BitVec 32 := Scalar.muli v2 c256_i32_5389
  let v6379 : BitVec 32 := Scalar.addi v6378 c0_i32_5390
  let c0_i32_5446 : BitVec 32 := 0#32
  ![v6379.toNat, 0]
def k0_dev193 (v4 : BitVec 32) : Nat :=
  let c0_i32_5454 : BitVec 32 := 0#32
  let c1_i32_5453 : BitVec 32 := 1#32
  let v6461 : BitVec 32 := Scalar.muli v4 c1_i32_5453
  let v6462 : BitVec 32 := Scalar.addi c0_i32_5454 v6461
  v6462.toNat
def k0_dev194 (v4 : BitVec 32) : Nat :=
  let c0_i32_5473 : BitVec 32 := 0#32
  let c1_i32_5472 : BitVec 32 := 1#32
  let v6485 : BitVec 32 := Scalar.muli v4 c1_i32_5472
  let v6486 : BitVec 32 := Scalar.addi c0_i32_5473 v6485
  v6486.toNat
def k0_off323 (v6444 : BitVec 32) : Fin 1 → Nat :=
  ![v6444.toNat]

def k0_off324 (v6444 : BitVec 32) (c0_i32_5477 : BitVec 32) : Fin 2 → Nat :=
  let c256_i32_5476 : BitVec 32 := 256#32
  let v6493 : BitVec 32 := Scalar.muli v6444 c256_i32_5476
  let v6494 : BitVec 32 := Scalar.addi v6493 c0_i32_5477
  let c0_i32_5480 : BitVec 32 := 0#32
  ![v6494.toNat, 0]
def k0_off325 (d0 : Dev nD) (c0_i32_5408 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_5407 : BitVec 32 := 256#32
  let v6402 : BitVec 32 := Scalar.muli v2 c256_i32_5407
  let v6403 : BitVec 32 := Scalar.addi v6402 c0_i32_5408
  let c0_i32_5484 : BitVec 32 := 0#32
  ![v6403.toNat, 0]
def k0_dev195 (v3 : BitVec 32) : Nat :=
  let c0_i32_5492 : BitVec 32 := 0#32
  let c1_i32_5491 : BitVec 32 := 1#32
  let v6509 : BitVec 32 := Scalar.muli v3 c1_i32_5491
  let v6510 : BitVec 32 := Scalar.addi c0_i32_5492 v6509
  v6510.toNat
def k0_dev196 (v3 : BitVec 32) : Nat :=
  let c0_i32_5511 : BitVec 32 := 0#32
  let c1_i32_5510 : BitVec 32 := 1#32
  let v6533 : BitVec 32 := Scalar.muli v3 c1_i32_5510
  let v6534 : BitVec 32 := Scalar.addi c0_i32_5511 v6533
  v6534.toNat
def k0_off326 (v6443 : BitVec 32) : Fin 2 → Nat :=
  let c256_i32_5514 : BitVec 32 := 256#32
  let v6541 : BitVec 32 := Scalar.muli v6443 c256_i32_5514
  let v6542 : Index := Scalar.indexCast v6541
  let c0_5515 : Index := 0#32
  ![v6542.toNat, 0]
def k0_off327 (v6444 : BitVec 32) : Fin 2 → Nat :=
  let c256_i32_5525 : BitVec 32 := 256#32
  let v6558 : BitVec 32 := Scalar.muli v6444 c256_i32_5525
  let v6559 : Index := Scalar.indexCast v6558
  let c0_5526 : Index := 0#32
  ![v6559.toNat, 0]
def k0_off328 (v6575 : BitVec 32) : Fin 1 → Nat :=
  ![v6575.toNat]

def k0_off329 (v6575 : BitVec 32) (c0_i32_5539 : BitVec 32) : Fin 2 → Nat :=
  let c256_i32_5538 : BitVec 32 := 256#32
  let v6577 : BitVec 32 := Scalar.muli v6575 c256_i32_5538
  let v6578 : BitVec 32 := Scalar.addi v6577 c0_i32_5539
  let c0_i32_5542 : BitVec 32 := 0#32
  ![v6578.toNat, 0]
def k0_off330 (v6443 : BitVec 32) (c0_i32_5449 : BitVec 32) : Fin 2 → Nat :=
  let c256_i32_5448 : BitVec 32 := 256#32
  let v6457 : BitVec 32 := Scalar.muli v6443 c256_i32_5448
  let v6458 : BitVec 32 := Scalar.addi v6457 c0_i32_5449
  let c0_i32_5546 : BitVec 32 := 0#32
  ![v6458.toNat, 0]

def k0_chk127 (v6443 : BitVec 32) : Prop :=
  (∀ a, (k0_off320 v6443) a + S1.size a ≤ S32.size a) ∧
  (∀ (r : Fin 2), ∀ a, (k0_off321 v6443 (BitVec.ofNat 32 (128 * r.val))) a + S128x256.size a ≤ S8192x256.size a) ∧
  (∀ (r : Fin 2), ∀ (hinb : ∀ a, (k0_off321 v6443 (BitVec.ofNat 32 (128 * r.val))) a + S128x256.size a ≤ S8192x256.size a), (Rect.unit (s := S8192x256) (k0_off321 v6443 (BitVec.ofNat 32 (128 * r.val))) S128x256.size hinb).WholeWords (EltTy.packing .bf16)) ∧
  (∀ a, (k0_off326 v6443) a + S256x256.size a ≤ S8192x256.size a) ∧
  (∀ (r : Fin 2), ∀ a, (k0_off330 v6443 (BitVec.ofNat 32 (128 * r.val))) a + S128x256.size a ≤ S8192x256.size a) ∧
  (∀ (r : Fin 2), ∀ (hinb : ∀ a, (k0_off330 v6443 (BitVec.ofNat 32 (128 * r.val))) a + S128x256.size a ≤ S8192x256.size a), (Rect.unit (s := S8192x256) (k0_off330 v6443 (BitVec.ofNat 32 (128 * r.val))) S128x256.size hinb).WholeWords (EltTy.packing .bf16))
theorem k0_off320_inb : ∀ (v6443 : BitVec 32) (k0_hw127 : k0_chk127 v6443), ∀ a, (k0_off320 v6443) a + S1.size a ≤ S32.size a := fun v6443 k0_hw127 => k0_hw127.1
theorem k0_off321_inb : ∀ (v6443 : BitVec 32) (k0_hw127 : k0_chk127 v6443), ∀ (r : Fin 2), ∀ a, (k0_off321 v6443 (BitVec.ofNat 32 (128 * r.val))) a + S128x256.size a ≤ S8192x256.size a := fun v6443 k0_hw127 r => k0_hw127.2.1 r
theorem k0_off321_wordsbf16 : ∀ (v6443 : BitVec 32) (k0_hw127 : k0_chk127 v6443), ∀ (r : Fin 2), (Rect.unit (s := S8192x256) (k0_off321 v6443 (BitVec.ofNat 32 (128 * r.val))) S128x256.size (k0_off321_inb v6443 k0_hw127 r)).WholeWords (EltTy.packing .bf16) := fun v6443 k0_hw127 r => k0_hw127.2.2.1 r (k0_off321_inb v6443 k0_hw127 r)
theorem k0_off326_inb : ∀ (v6443 : BitVec 32) (k0_hw127 : k0_chk127 v6443), ∀ a, (k0_off326 v6443) a + S256x256.size a ≤ S8192x256.size a := fun v6443 k0_hw127 => k0_hw127.2.2.2.1
theorem k0_off330_inb : ∀ (v6443 : BitVec 32) (k0_hw127 : k0_chk127 v6443), ∀ (r : Fin 2), ∀ a, (k0_off330 v6443 (BitVec.ofNat 32 (128 * r.val))) a + S128x256.size a ≤ S8192x256.size a := fun v6443 k0_hw127 r => k0_hw127.2.2.2.2.1 r
theorem k0_off330_wordsbf16 : ∀ (v6443 : BitVec 32) (k0_hw127 : k0_chk127 v6443), ∀ (r : Fin 2), (Rect.unit (s := S8192x256) (k0_off330 v6443 (BitVec.ofNat 32 (128 * r.val))) S128x256.size (k0_off330_inb v6443 k0_hw127 r)).WholeWords (EltTy.packing .bf16) := fun v6443 k0_hw127 r => k0_hw127.2.2.2.2.2 r (k0_off330_inb v6443 k0_hw127 r)

def k0_dev197 (v4 : BitVec 32) : Nat :=
  let c0_i32_5554 : BitVec 32 := 0#32
  let c1_i32_5553 : BitVec 32 := 1#32
  let v6593 : BitVec 32 := Scalar.muli v4 c1_i32_5553
  let v6594 : BitVec 32 := Scalar.addi c0_i32_5554 v6593
  v6594.toNat
def k0_dev198 (v4 : BitVec 32) : Nat :=
  let c0_i32_5573 : BitVec 32 := 0#32
  let c1_i32_5572 : BitVec 32 := 1#32
  let v6617 : BitVec 32 := Scalar.muli v4 c1_i32_5572
  let v6618 : BitVec 32 := Scalar.addi c0_i32_5573 v6617
  v6618.toNat
def k0_off331 (v6576 : BitVec 32) : Fin 1 → Nat :=
  ![v6576.toNat]

def k0_off332 (v6576 : BitVec 32) (c0_i32_5577 : BitVec 32) : Fin 2 → Nat :=
  let c256_i32_5576 : BitVec 32 := 256#32
  let v6625 : BitVec 32 := Scalar.muli v6576 c256_i32_5576
  let v6626 : BitVec 32 := Scalar.addi v6625 c0_i32_5577
  let c0_i32_5580 : BitVec 32 := 0#32
  ![v6626.toNat, 0]
def k0_off333 (v6444 : BitVec 32) (c0_i32_5487 : BitVec 32) : Fin 2 → Nat :=
  let c256_i32_5486 : BitVec 32 := 256#32
  let v6505 : BitVec 32 := Scalar.muli v6444 c256_i32_5486
  let v6506 : BitVec 32 := Scalar.addi v6505 c0_i32_5487
  let c0_i32_5584 : BitVec 32 := 0#32
  ![v6506.toNat, 0]

def k0_chk128 (v6444 : BitVec 32) : Prop :=
  (∀ a, (k0_off323 v6444) a + S1.size a ≤ S32.size a) ∧
  (∀ (r : Fin 2), ∀ a, (k0_off324 v6444 (BitVec.ofNat 32 (128 * r.val))) a + S128x256.size a ≤ S8192x256.size a) ∧
  (∀ (r : Fin 2), ∀ (hinb : ∀ a, (k0_off324 v6444 (BitVec.ofNat 32 (128 * r.val))) a + S128x256.size a ≤ S8192x256.size a), (Rect.unit (s := S8192x256) (k0_off324 v6444 (BitVec.ofNat 32 (128 * r.val))) S128x256.size hinb).WholeWords (EltTy.packing .bf16)) ∧
  (∀ a, (k0_off327 v6444) a + S256x256.size a ≤ S8192x256.size a) ∧
  (∀ (r : Fin 2), ∀ a, (k0_off333 v6444 (BitVec.ofNat 32 (128 * r.val))) a + S128x256.size a ≤ S8192x256.size a) ∧
  (∀ (r : Fin 2), ∀ (hinb : ∀ a, (k0_off333 v6444 (BitVec.ofNat 32 (128 * r.val))) a + S128x256.size a ≤ S8192x256.size a), (Rect.unit (s := S8192x256) (k0_off333 v6444 (BitVec.ofNat 32 (128 * r.val))) S128x256.size hinb).WholeWords (EltTy.packing .bf16))
theorem k0_off323_inb : ∀ (v6444 : BitVec 32) (k0_hw128 : k0_chk128 v6444), ∀ a, (k0_off323 v6444) a + S1.size a ≤ S32.size a := fun v6444 k0_hw128 => k0_hw128.1
theorem k0_off324_inb : ∀ (v6444 : BitVec 32) (k0_hw128 : k0_chk128 v6444), ∀ (r : Fin 2), ∀ a, (k0_off324 v6444 (BitVec.ofNat 32 (128 * r.val))) a + S128x256.size a ≤ S8192x256.size a := fun v6444 k0_hw128 r => k0_hw128.2.1 r
theorem k0_off324_wordsbf16 : ∀ (v6444 : BitVec 32) (k0_hw128 : k0_chk128 v6444), ∀ (r : Fin 2), (Rect.unit (s := S8192x256) (k0_off324 v6444 (BitVec.ofNat 32 (128 * r.val))) S128x256.size (k0_off324_inb v6444 k0_hw128 r)).WholeWords (EltTy.packing .bf16) := fun v6444 k0_hw128 r => k0_hw128.2.2.1 r (k0_off324_inb v6444 k0_hw128 r)
theorem k0_off327_inb : ∀ (v6444 : BitVec 32) (k0_hw128 : k0_chk128 v6444), ∀ a, (k0_off327 v6444) a + S256x256.size a ≤ S8192x256.size a := fun v6444 k0_hw128 => k0_hw128.2.2.2.1
theorem k0_off333_inb : ∀ (v6444 : BitVec 32) (k0_hw128 : k0_chk128 v6444), ∀ (r : Fin 2), ∀ a, (k0_off333 v6444 (BitVec.ofNat 32 (128 * r.val))) a + S128x256.size a ≤ S8192x256.size a := fun v6444 k0_hw128 r => k0_hw128.2.2.2.2.1 r
theorem k0_off333_wordsbf16 : ∀ (v6444 : BitVec 32) (k0_hw128 : k0_chk128 v6444), ∀ (r : Fin 2), (Rect.unit (s := S8192x256) (k0_off333 v6444 (BitVec.ofNat 32 (128 * r.val))) S128x256.size (k0_off333_inb v6444 k0_hw128 r)).WholeWords (EltTy.packing .bf16) := fun v6444 k0_hw128 r => k0_hw128.2.2.2.2.2 r (k0_off333_inb v6444 k0_hw128 r)

def k0_dev199 (v3 : BitVec 32) : Nat :=
  let c0_i32_5592 : BitVec 32 := 0#32
  let c1_i32_5591 : BitVec 32 := 1#32
  let v6641 : BitVec 32 := Scalar.muli v3 c1_i32_5591
  let v6642 : BitVec 32 := Scalar.addi c0_i32_5592 v6641
  v6642.toNat
def k0_dev200 (v3 : BitVec 32) : Nat :=
  let c0_i32_5611 : BitVec 32 := 0#32
  let c1_i32_5610 : BitVec 32 := 1#32
  let v6665 : BitVec 32 := Scalar.muli v3 c1_i32_5610
  let v6666 : BitVec 32 := Scalar.addi c0_i32_5611 v6665
  v6666.toNat
def k0_off334 (v6575 : BitVec 32) : Fin 2 → Nat :=
  let c256_i32_5614 : BitVec 32 := 256#32
  let v6673 : BitVec 32 := Scalar.muli v6575 c256_i32_5614
  let v6674 : Index := Scalar.indexCast v6673
  let c0_5615 : Index := 0#32
  ![v6674.toNat, 0]
def k0_off335 (v6576 : BitVec 32) : Fin 2 → Nat :=
  let c256_i32_5625 : BitVec 32 := 256#32
  let v6690 : BitVec 32 := Scalar.muli v6576 c256_i32_5625
  let v6691 : Index := Scalar.indexCast v6690
  let c0_5626 : Index := 0#32
  ![v6691.toNat, 0]
def k0_off336 (v6707 : BitVec 32) : Fin 1 → Nat :=
  ![v6707.toNat]

def k0_off337 (v6707 : BitVec 32) (c0_i32_5639 : BitVec 32) : Fin 2 → Nat :=
  let c256_i32_5638 : BitVec 32 := 256#32
  let v6709 : BitVec 32 := Scalar.muli v6707 c256_i32_5638
  let v6710 : BitVec 32 := Scalar.addi v6709 c0_i32_5639
  let c0_i32_5642 : BitVec 32 := 0#32
  ![v6710.toNat, 0]
def k0_off338 (v6575 : BitVec 32) (c0_i32_5549 : BitVec 32) : Fin 2 → Nat :=
  let c256_i32_5548 : BitVec 32 := 256#32
  let v6589 : BitVec 32 := Scalar.muli v6575 c256_i32_5548
  let v6590 : BitVec 32 := Scalar.addi v6589 c0_i32_5549
  let c0_i32_5646 : BitVec 32 := 0#32
  ![v6590.toNat, 0]

def k0_chk129 (v6575 : BitVec 32) : Prop :=
  (∀ a, (k0_off328 v6575) a + S1.size a ≤ S32.size a) ∧
  (∀ (r : Fin 2), ∀ a, (k0_off329 v6575 (BitVec.ofNat 32 (128 * r.val))) a + S128x256.size a ≤ S8192x256.size a) ∧
  (∀ (r : Fin 2), ∀ (hinb : ∀ a, (k0_off329 v6575 (BitVec.ofNat 32 (128 * r.val))) a + S128x256.size a ≤ S8192x256.size a), (Rect.unit (s := S8192x256) (k0_off329 v6575 (BitVec.ofNat 32 (128 * r.val))) S128x256.size hinb).WholeWords (EltTy.packing .bf16)) ∧
  (∀ a, (k0_off334 v6575) a + S256x256.size a ≤ S8192x256.size a) ∧
  (∀ (r : Fin 2), ∀ a, (k0_off338 v6575 (BitVec.ofNat 32 (128 * r.val))) a + S128x256.size a ≤ S8192x256.size a) ∧
  (∀ (r : Fin 2), ∀ (hinb : ∀ a, (k0_off338 v6575 (BitVec.ofNat 32 (128 * r.val))) a + S128x256.size a ≤ S8192x256.size a), (Rect.unit (s := S8192x256) (k0_off338 v6575 (BitVec.ofNat 32 (128 * r.val))) S128x256.size hinb).WholeWords (EltTy.packing .bf16))
theorem k0_off328_inb : ∀ (v6575 : BitVec 32) (k0_hw129 : k0_chk129 v6575), ∀ a, (k0_off328 v6575) a + S1.size a ≤ S32.size a := fun v6575 k0_hw129 => k0_hw129.1
theorem k0_off329_inb : ∀ (v6575 : BitVec 32) (k0_hw129 : k0_chk129 v6575), ∀ (r : Fin 2), ∀ a, (k0_off329 v6575 (BitVec.ofNat 32 (128 * r.val))) a + S128x256.size a ≤ S8192x256.size a := fun v6575 k0_hw129 r => k0_hw129.2.1 r
theorem k0_off329_wordsbf16 : ∀ (v6575 : BitVec 32) (k0_hw129 : k0_chk129 v6575), ∀ (r : Fin 2), (Rect.unit (s := S8192x256) (k0_off329 v6575 (BitVec.ofNat 32 (128 * r.val))) S128x256.size (k0_off329_inb v6575 k0_hw129 r)).WholeWords (EltTy.packing .bf16) := fun v6575 k0_hw129 r => k0_hw129.2.2.1 r (k0_off329_inb v6575 k0_hw129 r)
theorem k0_off334_inb : ∀ (v6575 : BitVec 32) (k0_hw129 : k0_chk129 v6575), ∀ a, (k0_off334 v6575) a + S256x256.size a ≤ S8192x256.size a := fun v6575 k0_hw129 => k0_hw129.2.2.2.1
theorem k0_off338_inb : ∀ (v6575 : BitVec 32) (k0_hw129 : k0_chk129 v6575), ∀ (r : Fin 2), ∀ a, (k0_off338 v6575 (BitVec.ofNat 32 (128 * r.val))) a + S128x256.size a ≤ S8192x256.size a := fun v6575 k0_hw129 r => k0_hw129.2.2.2.2.1 r
theorem k0_off338_wordsbf16 : ∀ (v6575 : BitVec 32) (k0_hw129 : k0_chk129 v6575), ∀ (r : Fin 2), (Rect.unit (s := S8192x256) (k0_off338 v6575 (BitVec.ofNat 32 (128 * r.val))) S128x256.size (k0_off338_inb v6575 k0_hw129 r)).WholeWords (EltTy.packing .bf16) := fun v6575 k0_hw129 r => k0_hw129.2.2.2.2.2 r (k0_off338_inb v6575 k0_hw129 r)

def k0_dev201 (v4 : BitVec 32) : Nat :=
  let c0_i32_5654 : BitVec 32 := 0#32
  let c1_i32_5653 : BitVec 32 := 1#32
  let v6725 : BitVec 32 := Scalar.muli v4 c1_i32_5653
  let v6726 : BitVec 32 := Scalar.addi c0_i32_5654 v6725
  v6726.toNat
def k0_dev202 (v4 : BitVec 32) : Nat :=
  let c0_i32_5673 : BitVec 32 := 0#32
  let c1_i32_5672 : BitVec 32 := 1#32
  let v6749 : BitVec 32 := Scalar.muli v4 c1_i32_5672
  let v6750 : BitVec 32 := Scalar.addi c0_i32_5673 v6749
  v6750.toNat
def k0_off339 (v6708 : BitVec 32) : Fin 1 → Nat :=
  ![v6708.toNat]

def k0_off340 (v6708 : BitVec 32) (c0_i32_5677 : BitVec 32) : Fin 2 → Nat :=
  let c256_i32_5676 : BitVec 32 := 256#32
  let v6757 : BitVec 32 := Scalar.muli v6708 c256_i32_5676
  let v6758 : BitVec 32 := Scalar.addi v6757 c0_i32_5677
  let c0_i32_5680 : BitVec 32 := 0#32
  ![v6758.toNat, 0]
def k0_off341 (v6576 : BitVec 32) (c0_i32_5587 : BitVec 32) : Fin 2 → Nat :=
  let c256_i32_5586 : BitVec 32 := 256#32
  let v6637 : BitVec 32 := Scalar.muli v6576 c256_i32_5586
  let v6638 : BitVec 32 := Scalar.addi v6637 c0_i32_5587
  let c0_i32_5684 : BitVec 32 := 0#32
  ![v6638.toNat, 0]

def k0_chk130 (v6576 : BitVec 32) : Prop :=
  (∀ a, (k0_off331 v6576) a + S1.size a ≤ S32.size a) ∧
  (∀ (r : Fin 2), ∀ a, (k0_off332 v6576 (BitVec.ofNat 32 (128 * r.val))) a + S128x256.size a ≤ S8192x256.size a) ∧
  (∀ (r : Fin 2), ∀ (hinb : ∀ a, (k0_off332 v6576 (BitVec.ofNat 32 (128 * r.val))) a + S128x256.size a ≤ S8192x256.size a), (Rect.unit (s := S8192x256) (k0_off332 v6576 (BitVec.ofNat 32 (128 * r.val))) S128x256.size hinb).WholeWords (EltTy.packing .bf16)) ∧
  (∀ a, (k0_off335 v6576) a + S256x256.size a ≤ S8192x256.size a) ∧
  (∀ (r : Fin 2), ∀ a, (k0_off341 v6576 (BitVec.ofNat 32 (128 * r.val))) a + S128x256.size a ≤ S8192x256.size a) ∧
  (∀ (r : Fin 2), ∀ (hinb : ∀ a, (k0_off341 v6576 (BitVec.ofNat 32 (128 * r.val))) a + S128x256.size a ≤ S8192x256.size a), (Rect.unit (s := S8192x256) (k0_off341 v6576 (BitVec.ofNat 32 (128 * r.val))) S128x256.size hinb).WholeWords (EltTy.packing .bf16))
theorem k0_off331_inb : ∀ (v6576 : BitVec 32) (k0_hw130 : k0_chk130 v6576), ∀ a, (k0_off331 v6576) a + S1.size a ≤ S32.size a := fun v6576 k0_hw130 => k0_hw130.1
theorem k0_off332_inb : ∀ (v6576 : BitVec 32) (k0_hw130 : k0_chk130 v6576), ∀ (r : Fin 2), ∀ a, (k0_off332 v6576 (BitVec.ofNat 32 (128 * r.val))) a + S128x256.size a ≤ S8192x256.size a := fun v6576 k0_hw130 r => k0_hw130.2.1 r
theorem k0_off332_wordsbf16 : ∀ (v6576 : BitVec 32) (k0_hw130 : k0_chk130 v6576), ∀ (r : Fin 2), (Rect.unit (s := S8192x256) (k0_off332 v6576 (BitVec.ofNat 32 (128 * r.val))) S128x256.size (k0_off332_inb v6576 k0_hw130 r)).WholeWords (EltTy.packing .bf16) := fun v6576 k0_hw130 r => k0_hw130.2.2.1 r (k0_off332_inb v6576 k0_hw130 r)
theorem k0_off335_inb : ∀ (v6576 : BitVec 32) (k0_hw130 : k0_chk130 v6576), ∀ a, (k0_off335 v6576) a + S256x256.size a ≤ S8192x256.size a := fun v6576 k0_hw130 => k0_hw130.2.2.2.1
theorem k0_off341_inb : ∀ (v6576 : BitVec 32) (k0_hw130 : k0_chk130 v6576), ∀ (r : Fin 2), ∀ a, (k0_off341 v6576 (BitVec.ofNat 32 (128 * r.val))) a + S128x256.size a ≤ S8192x256.size a := fun v6576 k0_hw130 r => k0_hw130.2.2.2.2.1 r
theorem k0_off341_wordsbf16 : ∀ (v6576 : BitVec 32) (k0_hw130 : k0_chk130 v6576), ∀ (r : Fin 2), (Rect.unit (s := S8192x256) (k0_off341 v6576 (BitVec.ofNat 32 (128 * r.val))) S128x256.size (k0_off341_inb v6576 k0_hw130 r)).WholeWords (EltTy.packing .bf16) := fun v6576 k0_hw130 r => k0_hw130.2.2.2.2.2 r (k0_off341_inb v6576 k0_hw130 r)

def k0_dev203 (v3 : BitVec 32) : Nat :=
  let c0_i32_5692 : BitVec 32 := 0#32
  let c1_i32_5691 : BitVec 32 := 1#32
  let v6773 : BitVec 32 := Scalar.muli v3 c1_i32_5691
  let v6774 : BitVec 32 := Scalar.addi c0_i32_5692 v6773
  v6774.toNat
def k0_dev204 (v3 : BitVec 32) : Nat :=
  let c0_i32_5711 : BitVec 32 := 0#32
  let c1_i32_5710 : BitVec 32 := 1#32
  let v6797 : BitVec 32 := Scalar.muli v3 c1_i32_5710
  let v6798 : BitVec 32 := Scalar.addi c0_i32_5711 v6797
  v6798.toNat
def k0_off342 (v6707 : BitVec 32) : Fin 2 → Nat :=
  let c256_i32_5714 : BitVec 32 := 256#32
  let v6805 : BitVec 32 := Scalar.muli v6707 c256_i32_5714
  let v6806 : Index := Scalar.indexCast v6805
  let c0_5715 : Index := 0#32
  ![v6806.toNat, 0]
def k0_off343 (v6708 : BitVec 32) : Fin 2 → Nat :=
  let c256_i32_5725 : BitVec 32 := 256#32
  let v6822 : BitVec 32 := Scalar.muli v6708 c256_i32_5725
  let v6823 : Index := Scalar.indexCast v6822
  let c0_5726 : Index := 0#32
  ![v6823.toNat, 0]
def k0_off344 (v6839 : BitVec 32) : Fin 1 → Nat :=
  ![v6839.toNat]

def k0_off345 (v6839 : BitVec 32) (c0_i32_5739 : BitVec 32) : Fin 2 → Nat :=
  let c256_i32_5738 : BitVec 32 := 256#32
  let v6841 : BitVec 32 := Scalar.muli v6839 c256_i32_5738
  let v6842 : BitVec 32 := Scalar.addi v6841 c0_i32_5739
  let c0_i32_5742 : BitVec 32 := 0#32
  ![v6842.toNat, 0]
def k0_off346 (v6707 : BitVec 32) (c0_i32_5649 : BitVec 32) : Fin 2 → Nat :=
  let c256_i32_5648 : BitVec 32 := 256#32
  let v6721 : BitVec 32 := Scalar.muli v6707 c256_i32_5648
  let v6722 : BitVec 32 := Scalar.addi v6721 c0_i32_5649
  let c0_i32_5746 : BitVec 32 := 0#32
  ![v6722.toNat, 0]

def k0_chk131 (v6707 : BitVec 32) : Prop :=
  (∀ a, (k0_off336 v6707) a + S1.size a ≤ S32.size a) ∧
  (∀ (r : Fin 2), ∀ a, (k0_off337 v6707 (BitVec.ofNat 32 (128 * r.val))) a + S128x256.size a ≤ S8192x256.size a) ∧
  (∀ (r : Fin 2), ∀ (hinb : ∀ a, (k0_off337 v6707 (BitVec.ofNat 32 (128 * r.val))) a + S128x256.size a ≤ S8192x256.size a), (Rect.unit (s := S8192x256) (k0_off337 v6707 (BitVec.ofNat 32 (128 * r.val))) S128x256.size hinb).WholeWords (EltTy.packing .bf16)) ∧
  (∀ a, (k0_off342 v6707) a + S256x256.size a ≤ S8192x256.size a) ∧
  (∀ (r : Fin 2), ∀ a, (k0_off346 v6707 (BitVec.ofNat 32 (128 * r.val))) a + S128x256.size a ≤ S8192x256.size a) ∧
  (∀ (r : Fin 2), ∀ (hinb : ∀ a, (k0_off346 v6707 (BitVec.ofNat 32 (128 * r.val))) a + S128x256.size a ≤ S8192x256.size a), (Rect.unit (s := S8192x256) (k0_off346 v6707 (BitVec.ofNat 32 (128 * r.val))) S128x256.size hinb).WholeWords (EltTy.packing .bf16))
theorem k0_off336_inb : ∀ (v6707 : BitVec 32) (k0_hw131 : k0_chk131 v6707), ∀ a, (k0_off336 v6707) a + S1.size a ≤ S32.size a := fun v6707 k0_hw131 => k0_hw131.1
theorem k0_off337_inb : ∀ (v6707 : BitVec 32) (k0_hw131 : k0_chk131 v6707), ∀ (r : Fin 2), ∀ a, (k0_off337 v6707 (BitVec.ofNat 32 (128 * r.val))) a + S128x256.size a ≤ S8192x256.size a := fun v6707 k0_hw131 r => k0_hw131.2.1 r
theorem k0_off337_wordsbf16 : ∀ (v6707 : BitVec 32) (k0_hw131 : k0_chk131 v6707), ∀ (r : Fin 2), (Rect.unit (s := S8192x256) (k0_off337 v6707 (BitVec.ofNat 32 (128 * r.val))) S128x256.size (k0_off337_inb v6707 k0_hw131 r)).WholeWords (EltTy.packing .bf16) := fun v6707 k0_hw131 r => k0_hw131.2.2.1 r (k0_off337_inb v6707 k0_hw131 r)
theorem k0_off342_inb : ∀ (v6707 : BitVec 32) (k0_hw131 : k0_chk131 v6707), ∀ a, (k0_off342 v6707) a + S256x256.size a ≤ S8192x256.size a := fun v6707 k0_hw131 => k0_hw131.2.2.2.1
theorem k0_off346_inb : ∀ (v6707 : BitVec 32) (k0_hw131 : k0_chk131 v6707), ∀ (r : Fin 2), ∀ a, (k0_off346 v6707 (BitVec.ofNat 32 (128 * r.val))) a + S128x256.size a ≤ S8192x256.size a := fun v6707 k0_hw131 r => k0_hw131.2.2.2.2.1 r
theorem k0_off346_wordsbf16 : ∀ (v6707 : BitVec 32) (k0_hw131 : k0_chk131 v6707), ∀ (r : Fin 2), (Rect.unit (s := S8192x256) (k0_off346 v6707 (BitVec.ofNat 32 (128 * r.val))) S128x256.size (k0_off346_inb v6707 k0_hw131 r)).WholeWords (EltTy.packing .bf16) := fun v6707 k0_hw131 r => k0_hw131.2.2.2.2.2 r (k0_off346_inb v6707 k0_hw131 r)

def k0_dev205 (v4 : BitVec 32) : Nat :=
  let c0_i32_5754 : BitVec 32 := 0#32
  let c1_i32_5753 : BitVec 32 := 1#32
  let v6857 : BitVec 32 := Scalar.muli v4 c1_i32_5753
  let v6858 : BitVec 32 := Scalar.addi c0_i32_5754 v6857
  v6858.toNat
def k0_dev206 (v4 : BitVec 32) : Nat :=
  let c0_i32_5773 : BitVec 32 := 0#32
  let c1_i32_5772 : BitVec 32 := 1#32
  let v6881 : BitVec 32 := Scalar.muli v4 c1_i32_5772
  let v6882 : BitVec 32 := Scalar.addi c0_i32_5773 v6881
  v6882.toNat
def k0_off347 (v6840 : BitVec 32) : Fin 1 → Nat :=
  ![v6840.toNat]

def k0_off348 (v6840 : BitVec 32) (c0_i32_5777 : BitVec 32) : Fin 2 → Nat :=
  let c256_i32_5776 : BitVec 32 := 256#32
  let v6889 : BitVec 32 := Scalar.muli v6840 c256_i32_5776
  let v6890 : BitVec 32 := Scalar.addi v6889 c0_i32_5777
  let c0_i32_5780 : BitVec 32 := 0#32
  ![v6890.toNat, 0]
def k0_off349 (v6708 : BitVec 32) (c0_i32_5687 : BitVec 32) : Fin 2 → Nat :=
  let c256_i32_5686 : BitVec 32 := 256#32
  let v6769 : BitVec 32 := Scalar.muli v6708 c256_i32_5686
  let v6770 : BitVec 32 := Scalar.addi v6769 c0_i32_5687
  let c0_i32_5784 : BitVec 32 := 0#32
  ![v6770.toNat, 0]

def k0_chk132 (v6708 : BitVec 32) : Prop :=
  (∀ a, (k0_off339 v6708) a + S1.size a ≤ S32.size a) ∧
  (∀ (r : Fin 2), ∀ a, (k0_off340 v6708 (BitVec.ofNat 32 (128 * r.val))) a + S128x256.size a ≤ S8192x256.size a) ∧
  (∀ (r : Fin 2), ∀ (hinb : ∀ a, (k0_off340 v6708 (BitVec.ofNat 32 (128 * r.val))) a + S128x256.size a ≤ S8192x256.size a), (Rect.unit (s := S8192x256) (k0_off340 v6708 (BitVec.ofNat 32 (128 * r.val))) S128x256.size hinb).WholeWords (EltTy.packing .bf16)) ∧
  (∀ a, (k0_off343 v6708) a + S256x256.size a ≤ S8192x256.size a) ∧
  (∀ (r : Fin 2), ∀ a, (k0_off349 v6708 (BitVec.ofNat 32 (128 * r.val))) a + S128x256.size a ≤ S8192x256.size a) ∧
  (∀ (r : Fin 2), ∀ (hinb : ∀ a, (k0_off349 v6708 (BitVec.ofNat 32 (128 * r.val))) a + S128x256.size a ≤ S8192x256.size a), (Rect.unit (s := S8192x256) (k0_off349 v6708 (BitVec.ofNat 32 (128 * r.val))) S128x256.size hinb).WholeWords (EltTy.packing .bf16))
theorem k0_off339_inb : ∀ (v6708 : BitVec 32) (k0_hw132 : k0_chk132 v6708), ∀ a, (k0_off339 v6708) a + S1.size a ≤ S32.size a := fun v6708 k0_hw132 => k0_hw132.1
theorem k0_off340_inb : ∀ (v6708 : BitVec 32) (k0_hw132 : k0_chk132 v6708), ∀ (r : Fin 2), ∀ a, (k0_off340 v6708 (BitVec.ofNat 32 (128 * r.val))) a + S128x256.size a ≤ S8192x256.size a := fun v6708 k0_hw132 r => k0_hw132.2.1 r
theorem k0_off340_wordsbf16 : ∀ (v6708 : BitVec 32) (k0_hw132 : k0_chk132 v6708), ∀ (r : Fin 2), (Rect.unit (s := S8192x256) (k0_off340 v6708 (BitVec.ofNat 32 (128 * r.val))) S128x256.size (k0_off340_inb v6708 k0_hw132 r)).WholeWords (EltTy.packing .bf16) := fun v6708 k0_hw132 r => k0_hw132.2.2.1 r (k0_off340_inb v6708 k0_hw132 r)
theorem k0_off343_inb : ∀ (v6708 : BitVec 32) (k0_hw132 : k0_chk132 v6708), ∀ a, (k0_off343 v6708) a + S256x256.size a ≤ S8192x256.size a := fun v6708 k0_hw132 => k0_hw132.2.2.2.1
theorem k0_off349_inb : ∀ (v6708 : BitVec 32) (k0_hw132 : k0_chk132 v6708), ∀ (r : Fin 2), ∀ a, (k0_off349 v6708 (BitVec.ofNat 32 (128 * r.val))) a + S128x256.size a ≤ S8192x256.size a := fun v6708 k0_hw132 r => k0_hw132.2.2.2.2.1 r
theorem k0_off349_wordsbf16 : ∀ (v6708 : BitVec 32) (k0_hw132 : k0_chk132 v6708), ∀ (r : Fin 2), (Rect.unit (s := S8192x256) (k0_off349 v6708 (BitVec.ofNat 32 (128 * r.val))) S128x256.size (k0_off349_inb v6708 k0_hw132 r)).WholeWords (EltTy.packing .bf16) := fun v6708 k0_hw132 r => k0_hw132.2.2.2.2.2 r (k0_off349_inb v6708 k0_hw132 r)

def k0_dev207 (v3 : BitVec 32) : Nat :=
  let c0_i32_5792 : BitVec 32 := 0#32
  let c1_i32_5791 : BitVec 32 := 1#32
  let v6905 : BitVec 32 := Scalar.muli v3 c1_i32_5791
  let v6906 : BitVec 32 := Scalar.addi c0_i32_5792 v6905
  v6906.toNat
def k0_dev208 (v3 : BitVec 32) : Nat :=
  let c0_i32_5811 : BitVec 32 := 0#32
  let c1_i32_5810 : BitVec 32 := 1#32
  let v6929 : BitVec 32 := Scalar.muli v3 c1_i32_5810
  let v6930 : BitVec 32 := Scalar.addi c0_i32_5811 v6929
  v6930.toNat
def k0_off350 (v6839 : BitVec 32) : Fin 2 → Nat :=
  let c256_i32_5814 : BitVec 32 := 256#32
  let v6937 : BitVec 32 := Scalar.muli v6839 c256_i32_5814
  let v6938 : Index := Scalar.indexCast v6937
  let c0_5815 : Index := 0#32
  ![v6938.toNat, 0]
def k0_off351 (v6840 : BitVec 32) : Fin 2 → Nat :=
  let c256_i32_5825 : BitVec 32 := 256#32
  let v6954 : BitVec 32 := Scalar.muli v6840 c256_i32_5825
  let v6955 : Index := Scalar.indexCast v6954
  let c0_5826 : Index := 0#32
  ![v6955.toNat, 0]
def k0_off352 (v6971 : BitVec 32) : Fin 1 → Nat :=
  ![v6971.toNat]

def k0_off353 (v6971 : BitVec 32) (c0_i32_5839 : BitVec 32) : Fin 2 → Nat :=
  let c256_i32_5838 : BitVec 32 := 256#32
  let v6973 : BitVec 32 := Scalar.muli v6971 c256_i32_5838
  let v6974 : BitVec 32 := Scalar.addi v6973 c0_i32_5839
  let c0_i32_5842 : BitVec 32 := 0#32
  ![v6974.toNat, 0]
def k0_off354 (v6839 : BitVec 32) (c0_i32_5749 : BitVec 32) : Fin 2 → Nat :=
  let c256_i32_5748 : BitVec 32 := 256#32
  let v6853 : BitVec 32 := Scalar.muli v6839 c256_i32_5748
  let v6854 : BitVec 32 := Scalar.addi v6853 c0_i32_5749
  let c0_i32_5846 : BitVec 32 := 0#32
  ![v6854.toNat, 0]

def k0_chk133 (v6839 : BitVec 32) : Prop :=
  (∀ a, (k0_off344 v6839) a + S1.size a ≤ S32.size a) ∧
  (∀ (r : Fin 2), ∀ a, (k0_off345 v6839 (BitVec.ofNat 32 (128 * r.val))) a + S128x256.size a ≤ S8192x256.size a) ∧
  (∀ (r : Fin 2), ∀ (hinb : ∀ a, (k0_off345 v6839 (BitVec.ofNat 32 (128 * r.val))) a + S128x256.size a ≤ S8192x256.size a), (Rect.unit (s := S8192x256) (k0_off345 v6839 (BitVec.ofNat 32 (128 * r.val))) S128x256.size hinb).WholeWords (EltTy.packing .bf16)) ∧
  (∀ a, (k0_off350 v6839) a + S256x256.size a ≤ S8192x256.size a) ∧
  (∀ (r : Fin 2), ∀ a, (k0_off354 v6839 (BitVec.ofNat 32 (128 * r.val))) a + S128x256.size a ≤ S8192x256.size a) ∧
  (∀ (r : Fin 2), ∀ (hinb : ∀ a, (k0_off354 v6839 (BitVec.ofNat 32 (128 * r.val))) a + S128x256.size a ≤ S8192x256.size a), (Rect.unit (s := S8192x256) (k0_off354 v6839 (BitVec.ofNat 32 (128 * r.val))) S128x256.size hinb).WholeWords (EltTy.packing .bf16))
theorem k0_off344_inb : ∀ (v6839 : BitVec 32) (k0_hw133 : k0_chk133 v6839), ∀ a, (k0_off344 v6839) a + S1.size a ≤ S32.size a := fun v6839 k0_hw133 => k0_hw133.1
theorem k0_off345_inb : ∀ (v6839 : BitVec 32) (k0_hw133 : k0_chk133 v6839), ∀ (r : Fin 2), ∀ a, (k0_off345 v6839 (BitVec.ofNat 32 (128 * r.val))) a + S128x256.size a ≤ S8192x256.size a := fun v6839 k0_hw133 r => k0_hw133.2.1 r
theorem k0_off345_wordsbf16 : ∀ (v6839 : BitVec 32) (k0_hw133 : k0_chk133 v6839), ∀ (r : Fin 2), (Rect.unit (s := S8192x256) (k0_off345 v6839 (BitVec.ofNat 32 (128 * r.val))) S128x256.size (k0_off345_inb v6839 k0_hw133 r)).WholeWords (EltTy.packing .bf16) := fun v6839 k0_hw133 r => k0_hw133.2.2.1 r (k0_off345_inb v6839 k0_hw133 r)
theorem k0_off350_inb : ∀ (v6839 : BitVec 32) (k0_hw133 : k0_chk133 v6839), ∀ a, (k0_off350 v6839) a + S256x256.size a ≤ S8192x256.size a := fun v6839 k0_hw133 => k0_hw133.2.2.2.1
theorem k0_off354_inb : ∀ (v6839 : BitVec 32) (k0_hw133 : k0_chk133 v6839), ∀ (r : Fin 2), ∀ a, (k0_off354 v6839 (BitVec.ofNat 32 (128 * r.val))) a + S128x256.size a ≤ S8192x256.size a := fun v6839 k0_hw133 r => k0_hw133.2.2.2.2.1 r
theorem k0_off354_wordsbf16 : ∀ (v6839 : BitVec 32) (k0_hw133 : k0_chk133 v6839), ∀ (r : Fin 2), (Rect.unit (s := S8192x256) (k0_off354 v6839 (BitVec.ofNat 32 (128 * r.val))) S128x256.size (k0_off354_inb v6839 k0_hw133 r)).WholeWords (EltTy.packing .bf16) := fun v6839 k0_hw133 r => k0_hw133.2.2.2.2.2 r (k0_off354_inb v6839 k0_hw133 r)

def k0_dev209 (v4 : BitVec 32) : Nat :=
  let c0_i32_5854 : BitVec 32 := 0#32
  let c1_i32_5853 : BitVec 32 := 1#32
  let v6989 : BitVec 32 := Scalar.muli v4 c1_i32_5853
  let v6990 : BitVec 32 := Scalar.addi c0_i32_5854 v6989
  v6990.toNat
def k0_dev210 (v4 : BitVec 32) : Nat :=
  let c0_i32_5873 : BitVec 32 := 0#32
  let c1_i32_5872 : BitVec 32 := 1#32
  let v7013 : BitVec 32 := Scalar.muli v4 c1_i32_5872
  let v7014 : BitVec 32 := Scalar.addi c0_i32_5873 v7013
  v7014.toNat
def k0_off355 (v6972 : BitVec 32) : Fin 1 → Nat :=
  ![v6972.toNat]

def k0_off356 (v6972 : BitVec 32) (c0_i32_5877 : BitVec 32) : Fin 2 → Nat :=
  let c256_i32_5876 : BitVec 32 := 256#32
  let v7021 : BitVec 32 := Scalar.muli v6972 c256_i32_5876
  let v7022 : BitVec 32 := Scalar.addi v7021 c0_i32_5877
  let c0_i32_5880 : BitVec 32 := 0#32
  ![v7022.toNat, 0]
def k0_off357 (v6840 : BitVec 32) (c0_i32_5787 : BitVec 32) : Fin 2 → Nat :=
  let c256_i32_5786 : BitVec 32 := 256#32
  let v6901 : BitVec 32 := Scalar.muli v6840 c256_i32_5786
  let v6902 : BitVec 32 := Scalar.addi v6901 c0_i32_5787
  let c0_i32_5884 : BitVec 32 := 0#32
  ![v6902.toNat, 0]

def k0_chk134 (v6840 : BitVec 32) : Prop :=
  (∀ a, (k0_off347 v6840) a + S1.size a ≤ S32.size a) ∧
  (∀ (r : Fin 2), ∀ a, (k0_off348 v6840 (BitVec.ofNat 32 (128 * r.val))) a + S128x256.size a ≤ S8192x256.size a) ∧
  (∀ (r : Fin 2), ∀ (hinb : ∀ a, (k0_off348 v6840 (BitVec.ofNat 32 (128 * r.val))) a + S128x256.size a ≤ S8192x256.size a), (Rect.unit (s := S8192x256) (k0_off348 v6840 (BitVec.ofNat 32 (128 * r.val))) S128x256.size hinb).WholeWords (EltTy.packing .bf16)) ∧
  (∀ a, (k0_off351 v6840) a + S256x256.size a ≤ S8192x256.size a) ∧
  (∀ (r : Fin 2), ∀ a, (k0_off357 v6840 (BitVec.ofNat 32 (128 * r.val))) a + S128x256.size a ≤ S8192x256.size a) ∧
  (∀ (r : Fin 2), ∀ (hinb : ∀ a, (k0_off357 v6840 (BitVec.ofNat 32 (128 * r.val))) a + S128x256.size a ≤ S8192x256.size a), (Rect.unit (s := S8192x256) (k0_off357 v6840 (BitVec.ofNat 32 (128 * r.val))) S128x256.size hinb).WholeWords (EltTy.packing .bf16))
theorem k0_off347_inb : ∀ (v6840 : BitVec 32) (k0_hw134 : k0_chk134 v6840), ∀ a, (k0_off347 v6840) a + S1.size a ≤ S32.size a := fun v6840 k0_hw134 => k0_hw134.1
theorem k0_off348_inb : ∀ (v6840 : BitVec 32) (k0_hw134 : k0_chk134 v6840), ∀ (r : Fin 2), ∀ a, (k0_off348 v6840 (BitVec.ofNat 32 (128 * r.val))) a + S128x256.size a ≤ S8192x256.size a := fun v6840 k0_hw134 r => k0_hw134.2.1 r
theorem k0_off348_wordsbf16 : ∀ (v6840 : BitVec 32) (k0_hw134 : k0_chk134 v6840), ∀ (r : Fin 2), (Rect.unit (s := S8192x256) (k0_off348 v6840 (BitVec.ofNat 32 (128 * r.val))) S128x256.size (k0_off348_inb v6840 k0_hw134 r)).WholeWords (EltTy.packing .bf16) := fun v6840 k0_hw134 r => k0_hw134.2.2.1 r (k0_off348_inb v6840 k0_hw134 r)
theorem k0_off351_inb : ∀ (v6840 : BitVec 32) (k0_hw134 : k0_chk134 v6840), ∀ a, (k0_off351 v6840) a + S256x256.size a ≤ S8192x256.size a := fun v6840 k0_hw134 => k0_hw134.2.2.2.1
theorem k0_off357_inb : ∀ (v6840 : BitVec 32) (k0_hw134 : k0_chk134 v6840), ∀ (r : Fin 2), ∀ a, (k0_off357 v6840 (BitVec.ofNat 32 (128 * r.val))) a + S128x256.size a ≤ S8192x256.size a := fun v6840 k0_hw134 r => k0_hw134.2.2.2.2.1 r
theorem k0_off357_wordsbf16 : ∀ (v6840 : BitVec 32) (k0_hw134 : k0_chk134 v6840), ∀ (r : Fin 2), (Rect.unit (s := S8192x256) (k0_off357 v6840 (BitVec.ofNat 32 (128 * r.val))) S128x256.size (k0_off357_inb v6840 k0_hw134 r)).WholeWords (EltTy.packing .bf16) := fun v6840 k0_hw134 r => k0_hw134.2.2.2.2.2 r (k0_off357_inb v6840 k0_hw134 r)

def k0_dev211 (v3 : BitVec 32) : Nat :=
  let c0_i32_5892 : BitVec 32 := 0#32
  let c1_i32_5891 : BitVec 32 := 1#32
  let v7037 : BitVec 32 := Scalar.muli v3 c1_i32_5891
  let v7038 : BitVec 32 := Scalar.addi c0_i32_5892 v7037
  v7038.toNat
def k0_dev212 (v3 : BitVec 32) : Nat :=
  let c0_i32_5911 : BitVec 32 := 0#32
  let c1_i32_5910 : BitVec 32 := 1#32
  let v7061 : BitVec 32 := Scalar.muli v3 c1_i32_5910
  let v7062 : BitVec 32 := Scalar.addi c0_i32_5911 v7061
  v7062.toNat
def k0_off358 (v6971 : BitVec 32) : Fin 2 → Nat :=
  let c256_i32_5914 : BitVec 32 := 256#32
  let v7069 : BitVec 32 := Scalar.muli v6971 c256_i32_5914
  let v7070 : Index := Scalar.indexCast v7069
  let c0_5915 : Index := 0#32
  ![v7070.toNat, 0]
def k0_off359 (v6972 : BitVec 32) : Fin 2 → Nat :=
  let c256_i32_5925 : BitVec 32 := 256#32
  let v7086 : BitVec 32 := Scalar.muli v6972 c256_i32_5925
  let v7087 : Index := Scalar.indexCast v7086
  let c0_5926 : Index := 0#32
  ![v7087.toNat, 0]
def k0_off360 (v7103 : BitVec 32) : Fin 1 → Nat :=
  ![v7103.toNat]

def k0_off361 (v7103 : BitVec 32) (c0_i32_5939 : BitVec 32) : Fin 2 → Nat :=
  let c256_i32_5938 : BitVec 32 := 256#32
  let v7105 : BitVec 32 := Scalar.muli v7103 c256_i32_5938
  let v7106 : BitVec 32 := Scalar.addi v7105 c0_i32_5939
  let c0_i32_5942 : BitVec 32 := 0#32
  ![v7106.toNat, 0]
def k0_off362 (v6971 : BitVec 32) (c0_i32_5849 : BitVec 32) : Fin 2 → Nat :=
  let c256_i32_5848 : BitVec 32 := 256#32
  let v6985 : BitVec 32 := Scalar.muli v6971 c256_i32_5848
  let v6986 : BitVec 32 := Scalar.addi v6985 c0_i32_5849
  let c0_i32_5946 : BitVec 32 := 0#32
  ![v6986.toNat, 0]

def k0_chk135 (v6971 : BitVec 32) : Prop :=
  (∀ a, (k0_off352 v6971) a + S1.size a ≤ S32.size a) ∧
  (∀ (r : Fin 2), ∀ a, (k0_off353 v6971 (BitVec.ofNat 32 (128 * r.val))) a + S128x256.size a ≤ S8192x256.size a) ∧
  (∀ (r : Fin 2), ∀ (hinb : ∀ a, (k0_off353 v6971 (BitVec.ofNat 32 (128 * r.val))) a + S128x256.size a ≤ S8192x256.size a), (Rect.unit (s := S8192x256) (k0_off353 v6971 (BitVec.ofNat 32 (128 * r.val))) S128x256.size hinb).WholeWords (EltTy.packing .bf16)) ∧
  (∀ a, (k0_off358 v6971) a + S256x256.size a ≤ S8192x256.size a) ∧
  (∀ (r : Fin 2), ∀ a, (k0_off362 v6971 (BitVec.ofNat 32 (128 * r.val))) a + S128x256.size a ≤ S8192x256.size a) ∧
  (∀ (r : Fin 2), ∀ (hinb : ∀ a, (k0_off362 v6971 (BitVec.ofNat 32 (128 * r.val))) a + S128x256.size a ≤ S8192x256.size a), (Rect.unit (s := S8192x256) (k0_off362 v6971 (BitVec.ofNat 32 (128 * r.val))) S128x256.size hinb).WholeWords (EltTy.packing .bf16))
theorem k0_off352_inb : ∀ (v6971 : BitVec 32) (k0_hw135 : k0_chk135 v6971), ∀ a, (k0_off352 v6971) a + S1.size a ≤ S32.size a := fun v6971 k0_hw135 => k0_hw135.1
theorem k0_off353_inb : ∀ (v6971 : BitVec 32) (k0_hw135 : k0_chk135 v6971), ∀ (r : Fin 2), ∀ a, (k0_off353 v6971 (BitVec.ofNat 32 (128 * r.val))) a + S128x256.size a ≤ S8192x256.size a := fun v6971 k0_hw135 r => k0_hw135.2.1 r
theorem k0_off353_wordsbf16 : ∀ (v6971 : BitVec 32) (k0_hw135 : k0_chk135 v6971), ∀ (r : Fin 2), (Rect.unit (s := S8192x256) (k0_off353 v6971 (BitVec.ofNat 32 (128 * r.val))) S128x256.size (k0_off353_inb v6971 k0_hw135 r)).WholeWords (EltTy.packing .bf16) := fun v6971 k0_hw135 r => k0_hw135.2.2.1 r (k0_off353_inb v6971 k0_hw135 r)
theorem k0_off358_inb : ∀ (v6971 : BitVec 32) (k0_hw135 : k0_chk135 v6971), ∀ a, (k0_off358 v6971) a + S256x256.size a ≤ S8192x256.size a := fun v6971 k0_hw135 => k0_hw135.2.2.2.1
theorem k0_off362_inb : ∀ (v6971 : BitVec 32) (k0_hw135 : k0_chk135 v6971), ∀ (r : Fin 2), ∀ a, (k0_off362 v6971 (BitVec.ofNat 32 (128 * r.val))) a + S128x256.size a ≤ S8192x256.size a := fun v6971 k0_hw135 r => k0_hw135.2.2.2.2.1 r
theorem k0_off362_wordsbf16 : ∀ (v6971 : BitVec 32) (k0_hw135 : k0_chk135 v6971), ∀ (r : Fin 2), (Rect.unit (s := S8192x256) (k0_off362 v6971 (BitVec.ofNat 32 (128 * r.val))) S128x256.size (k0_off362_inb v6971 k0_hw135 r)).WholeWords (EltTy.packing .bf16) := fun v6971 k0_hw135 r => k0_hw135.2.2.2.2.2 r (k0_off362_inb v6971 k0_hw135 r)

def k0_dev213 (v4 : BitVec 32) : Nat :=
  let c0_i32_5954 : BitVec 32 := 0#32
  let c1_i32_5953 : BitVec 32 := 1#32
  let v7121 : BitVec 32 := Scalar.muli v4 c1_i32_5953
  let v7122 : BitVec 32 := Scalar.addi c0_i32_5954 v7121
  v7122.toNat
def k0_dev214 (v4 : BitVec 32) : Nat :=
  let c0_i32_5973 : BitVec 32 := 0#32
  let c1_i32_5972 : BitVec 32 := 1#32
  let v7145 : BitVec 32 := Scalar.muli v4 c1_i32_5972
  let v7146 : BitVec 32 := Scalar.addi c0_i32_5973 v7145
  v7146.toNat
def k0_off363 (v7104 : BitVec 32) : Fin 1 → Nat :=
  ![v7104.toNat]

def k0_off364 (v7104 : BitVec 32) (c0_i32_5977 : BitVec 32) : Fin 2 → Nat :=
  let c256_i32_5976 : BitVec 32 := 256#32
  let v7153 : BitVec 32 := Scalar.muli v7104 c256_i32_5976
  let v7154 : BitVec 32 := Scalar.addi v7153 c0_i32_5977
  let c0_i32_5980 : BitVec 32 := 0#32
  ![v7154.toNat, 0]
def k0_off365 (v6972 : BitVec 32) (c0_i32_5887 : BitVec 32) : Fin 2 → Nat :=
  let c256_i32_5886 : BitVec 32 := 256#32
  let v7033 : BitVec 32 := Scalar.muli v6972 c256_i32_5886
  let v7034 : BitVec 32 := Scalar.addi v7033 c0_i32_5887
  let c0_i32_5984 : BitVec 32 := 0#32
  ![v7034.toNat, 0]

def k0_chk136 (v6972 : BitVec 32) : Prop :=
  (∀ a, (k0_off355 v6972) a + S1.size a ≤ S32.size a) ∧
  (∀ (r : Fin 2), ∀ a, (k0_off356 v6972 (BitVec.ofNat 32 (128 * r.val))) a + S128x256.size a ≤ S8192x256.size a) ∧
  (∀ (r : Fin 2), ∀ (hinb : ∀ a, (k0_off356 v6972 (BitVec.ofNat 32 (128 * r.val))) a + S128x256.size a ≤ S8192x256.size a), (Rect.unit (s := S8192x256) (k0_off356 v6972 (BitVec.ofNat 32 (128 * r.val))) S128x256.size hinb).WholeWords (EltTy.packing .bf16)) ∧
  (∀ a, (k0_off359 v6972) a + S256x256.size a ≤ S8192x256.size a) ∧
  (∀ (r : Fin 2), ∀ a, (k0_off365 v6972 (BitVec.ofNat 32 (128 * r.val))) a + S128x256.size a ≤ S8192x256.size a) ∧
  (∀ (r : Fin 2), ∀ (hinb : ∀ a, (k0_off365 v6972 (BitVec.ofNat 32 (128 * r.val))) a + S128x256.size a ≤ S8192x256.size a), (Rect.unit (s := S8192x256) (k0_off365 v6972 (BitVec.ofNat 32 (128 * r.val))) S128x256.size hinb).WholeWords (EltTy.packing .bf16))
theorem k0_off355_inb : ∀ (v6972 : BitVec 32) (k0_hw136 : k0_chk136 v6972), ∀ a, (k0_off355 v6972) a + S1.size a ≤ S32.size a := fun v6972 k0_hw136 => k0_hw136.1
theorem k0_off356_inb : ∀ (v6972 : BitVec 32) (k0_hw136 : k0_chk136 v6972), ∀ (r : Fin 2), ∀ a, (k0_off356 v6972 (BitVec.ofNat 32 (128 * r.val))) a + S128x256.size a ≤ S8192x256.size a := fun v6972 k0_hw136 r => k0_hw136.2.1 r
theorem k0_off356_wordsbf16 : ∀ (v6972 : BitVec 32) (k0_hw136 : k0_chk136 v6972), ∀ (r : Fin 2), (Rect.unit (s := S8192x256) (k0_off356 v6972 (BitVec.ofNat 32 (128 * r.val))) S128x256.size (k0_off356_inb v6972 k0_hw136 r)).WholeWords (EltTy.packing .bf16) := fun v6972 k0_hw136 r => k0_hw136.2.2.1 r (k0_off356_inb v6972 k0_hw136 r)
theorem k0_off359_inb : ∀ (v6972 : BitVec 32) (k0_hw136 : k0_chk136 v6972), ∀ a, (k0_off359 v6972) a + S256x256.size a ≤ S8192x256.size a := fun v6972 k0_hw136 => k0_hw136.2.2.2.1
theorem k0_off365_inb : ∀ (v6972 : BitVec 32) (k0_hw136 : k0_chk136 v6972), ∀ (r : Fin 2), ∀ a, (k0_off365 v6972 (BitVec.ofNat 32 (128 * r.val))) a + S128x256.size a ≤ S8192x256.size a := fun v6972 k0_hw136 r => k0_hw136.2.2.2.2.1 r
theorem k0_off365_wordsbf16 : ∀ (v6972 : BitVec 32) (k0_hw136 : k0_chk136 v6972), ∀ (r : Fin 2), (Rect.unit (s := S8192x256) (k0_off365 v6972 (BitVec.ofNat 32 (128 * r.val))) S128x256.size (k0_off365_inb v6972 k0_hw136 r)).WholeWords (EltTy.packing .bf16) := fun v6972 k0_hw136 r => k0_hw136.2.2.2.2.2 r (k0_off365_inb v6972 k0_hw136 r)

def k0_dev215 (v3 : BitVec 32) : Nat :=
  let c0_i32_5992 : BitVec 32 := 0#32
  let c1_i32_5991 : BitVec 32 := 1#32
  let v7169 : BitVec 32 := Scalar.muli v3 c1_i32_5991
  let v7170 : BitVec 32 := Scalar.addi c0_i32_5992 v7169
  v7170.toNat
def k0_dev216 (v3 : BitVec 32) : Nat :=
  let c0_i32_6011 : BitVec 32 := 0#32
  let c1_i32_6010 : BitVec 32 := 1#32
  let v7193 : BitVec 32 := Scalar.muli v3 c1_i32_6010
  let v7194 : BitVec 32 := Scalar.addi c0_i32_6011 v7193
  v7194.toNat
def k0_off366 (v7103 : BitVec 32) : Fin 2 → Nat :=
  let c256_i32_6014 : BitVec 32 := 256#32
  let v7201 : BitVec 32 := Scalar.muli v7103 c256_i32_6014
  let v7202 : Index := Scalar.indexCast v7201
  let c0_6015 : Index := 0#32
  ![v7202.toNat, 0]
def k0_off367 (v7104 : BitVec 32) : Fin 2 → Nat :=
  let c256_i32_6025 : BitVec 32 := 256#32
  let v7218 : BitVec 32 := Scalar.muli v7104 c256_i32_6025
  let v7219 : Index := Scalar.indexCast v7218
  let c0_6026 : Index := 0#32
  ![v7219.toNat, 0]
def k0_off368 (v7235 : BitVec 32) : Fin 1 → Nat :=
  ![v7235.toNat]

def k0_off369 (v7235 : BitVec 32) (c0_i32_6039 : BitVec 32) : Fin 2 → Nat :=
  let c256_i32_6038 : BitVec 32 := 256#32
  let v7237 : BitVec 32 := Scalar.muli v7235 c256_i32_6038
  let v7238 : BitVec 32 := Scalar.addi v7237 c0_i32_6039
  let c0_i32_6042 : BitVec 32 := 0#32
  ![v7238.toNat, 0]
def k0_off370 (v7103 : BitVec 32) (c0_i32_5949 : BitVec 32) : Fin 2 → Nat :=
  let c256_i32_5948 : BitVec 32 := 256#32
  let v7117 : BitVec 32 := Scalar.muli v7103 c256_i32_5948
  let v7118 : BitVec 32 := Scalar.addi v7117 c0_i32_5949
  let c0_i32_6046 : BitVec 32 := 0#32
  ![v7118.toNat, 0]

def k0_chk137 (v7103 : BitVec 32) : Prop :=
  (∀ a, (k0_off360 v7103) a + S1.size a ≤ S32.size a) ∧
  (∀ (r : Fin 2), ∀ a, (k0_off361 v7103 (BitVec.ofNat 32 (128 * r.val))) a + S128x256.size a ≤ S8192x256.size a) ∧
  (∀ (r : Fin 2), ∀ (hinb : ∀ a, (k0_off361 v7103 (BitVec.ofNat 32 (128 * r.val))) a + S128x256.size a ≤ S8192x256.size a), (Rect.unit (s := S8192x256) (k0_off361 v7103 (BitVec.ofNat 32 (128 * r.val))) S128x256.size hinb).WholeWords (EltTy.packing .bf16)) ∧
  (∀ a, (k0_off366 v7103) a + S256x256.size a ≤ S8192x256.size a) ∧
  (∀ (r : Fin 2), ∀ a, (k0_off370 v7103 (BitVec.ofNat 32 (128 * r.val))) a + S128x256.size a ≤ S8192x256.size a) ∧
  (∀ (r : Fin 2), ∀ (hinb : ∀ a, (k0_off370 v7103 (BitVec.ofNat 32 (128 * r.val))) a + S128x256.size a ≤ S8192x256.size a), (Rect.unit (s := S8192x256) (k0_off370 v7103 (BitVec.ofNat 32 (128 * r.val))) S128x256.size hinb).WholeWords (EltTy.packing .bf16))
theorem k0_off360_inb : ∀ (v7103 : BitVec 32) (k0_hw137 : k0_chk137 v7103), ∀ a, (k0_off360 v7103) a + S1.size a ≤ S32.size a := fun v7103 k0_hw137 => k0_hw137.1
theorem k0_off361_inb : ∀ (v7103 : BitVec 32) (k0_hw137 : k0_chk137 v7103), ∀ (r : Fin 2), ∀ a, (k0_off361 v7103 (BitVec.ofNat 32 (128 * r.val))) a + S128x256.size a ≤ S8192x256.size a := fun v7103 k0_hw137 r => k0_hw137.2.1 r
theorem k0_off361_wordsbf16 : ∀ (v7103 : BitVec 32) (k0_hw137 : k0_chk137 v7103), ∀ (r : Fin 2), (Rect.unit (s := S8192x256) (k0_off361 v7103 (BitVec.ofNat 32 (128 * r.val))) S128x256.size (k0_off361_inb v7103 k0_hw137 r)).WholeWords (EltTy.packing .bf16) := fun v7103 k0_hw137 r => k0_hw137.2.2.1 r (k0_off361_inb v7103 k0_hw137 r)
theorem k0_off366_inb : ∀ (v7103 : BitVec 32) (k0_hw137 : k0_chk137 v7103), ∀ a, (k0_off366 v7103) a + S256x256.size a ≤ S8192x256.size a := fun v7103 k0_hw137 => k0_hw137.2.2.2.1
theorem k0_off370_inb : ∀ (v7103 : BitVec 32) (k0_hw137 : k0_chk137 v7103), ∀ (r : Fin 2), ∀ a, (k0_off370 v7103 (BitVec.ofNat 32 (128 * r.val))) a + S128x256.size a ≤ S8192x256.size a := fun v7103 k0_hw137 r => k0_hw137.2.2.2.2.1 r
theorem k0_off370_wordsbf16 : ∀ (v7103 : BitVec 32) (k0_hw137 : k0_chk137 v7103), ∀ (r : Fin 2), (Rect.unit (s := S8192x256) (k0_off370 v7103 (BitVec.ofNat 32 (128 * r.val))) S128x256.size (k0_off370_inb v7103 k0_hw137 r)).WholeWords (EltTy.packing .bf16) := fun v7103 k0_hw137 r => k0_hw137.2.2.2.2.2 r (k0_off370_inb v7103 k0_hw137 r)

def k0_dev217 (v4 : BitVec 32) : Nat :=
  let c0_i32_6054 : BitVec 32 := 0#32
  let c1_i32_6053 : BitVec 32 := 1#32
  let v7253 : BitVec 32 := Scalar.muli v4 c1_i32_6053
  let v7254 : BitVec 32 := Scalar.addi c0_i32_6054 v7253
  v7254.toNat
def k0_dev218 (v4 : BitVec 32) : Nat :=
  let c0_i32_6073 : BitVec 32 := 0#32
  let c1_i32_6072 : BitVec 32 := 1#32
  let v7277 : BitVec 32 := Scalar.muli v4 c1_i32_6072
  let v7278 : BitVec 32 := Scalar.addi c0_i32_6073 v7277
  v7278.toNat
def k0_off371 (v7236 : BitVec 32) : Fin 1 → Nat :=
  ![v7236.toNat]

def k0_off372 (v7236 : BitVec 32) (c0_i32_6077 : BitVec 32) : Fin 2 → Nat :=
  let c256_i32_6076 : BitVec 32 := 256#32
  let v7285 : BitVec 32 := Scalar.muli v7236 c256_i32_6076
  let v7286 : BitVec 32 := Scalar.addi v7285 c0_i32_6077
  let c0_i32_6080 : BitVec 32 := 0#32
  ![v7286.toNat, 0]
def k0_off373 (v7104 : BitVec 32) (c0_i32_5987 : BitVec 32) : Fin 2 → Nat :=
  let c256_i32_5986 : BitVec 32 := 256#32
  let v7165 : BitVec 32 := Scalar.muli v7104 c256_i32_5986
  let v7166 : BitVec 32 := Scalar.addi v7165 c0_i32_5987
  let c0_i32_6084 : BitVec 32 := 0#32
  ![v7166.toNat, 0]

def k0_chk138 (v7104 : BitVec 32) : Prop :=
  (∀ a, (k0_off363 v7104) a + S1.size a ≤ S32.size a) ∧
  (∀ (r : Fin 2), ∀ a, (k0_off364 v7104 (BitVec.ofNat 32 (128 * r.val))) a + S128x256.size a ≤ S8192x256.size a) ∧
  (∀ (r : Fin 2), ∀ (hinb : ∀ a, (k0_off364 v7104 (BitVec.ofNat 32 (128 * r.val))) a + S128x256.size a ≤ S8192x256.size a), (Rect.unit (s := S8192x256) (k0_off364 v7104 (BitVec.ofNat 32 (128 * r.val))) S128x256.size hinb).WholeWords (EltTy.packing .bf16)) ∧
  (∀ a, (k0_off367 v7104) a + S256x256.size a ≤ S8192x256.size a) ∧
  (∀ (r : Fin 2), ∀ a, (k0_off373 v7104 (BitVec.ofNat 32 (128 * r.val))) a + S128x256.size a ≤ S8192x256.size a) ∧
  (∀ (r : Fin 2), ∀ (hinb : ∀ a, (k0_off373 v7104 (BitVec.ofNat 32 (128 * r.val))) a + S128x256.size a ≤ S8192x256.size a), (Rect.unit (s := S8192x256) (k0_off373 v7104 (BitVec.ofNat 32 (128 * r.val))) S128x256.size hinb).WholeWords (EltTy.packing .bf16))
theorem k0_off363_inb : ∀ (v7104 : BitVec 32) (k0_hw138 : k0_chk138 v7104), ∀ a, (k0_off363 v7104) a + S1.size a ≤ S32.size a := fun v7104 k0_hw138 => k0_hw138.1
theorem k0_off364_inb : ∀ (v7104 : BitVec 32) (k0_hw138 : k0_chk138 v7104), ∀ (r : Fin 2), ∀ a, (k0_off364 v7104 (BitVec.ofNat 32 (128 * r.val))) a + S128x256.size a ≤ S8192x256.size a := fun v7104 k0_hw138 r => k0_hw138.2.1 r
theorem k0_off364_wordsbf16 : ∀ (v7104 : BitVec 32) (k0_hw138 : k0_chk138 v7104), ∀ (r : Fin 2), (Rect.unit (s := S8192x256) (k0_off364 v7104 (BitVec.ofNat 32 (128 * r.val))) S128x256.size (k0_off364_inb v7104 k0_hw138 r)).WholeWords (EltTy.packing .bf16) := fun v7104 k0_hw138 r => k0_hw138.2.2.1 r (k0_off364_inb v7104 k0_hw138 r)
theorem k0_off367_inb : ∀ (v7104 : BitVec 32) (k0_hw138 : k0_chk138 v7104), ∀ a, (k0_off367 v7104) a + S256x256.size a ≤ S8192x256.size a := fun v7104 k0_hw138 => k0_hw138.2.2.2.1
theorem k0_off373_inb : ∀ (v7104 : BitVec 32) (k0_hw138 : k0_chk138 v7104), ∀ (r : Fin 2), ∀ a, (k0_off373 v7104 (BitVec.ofNat 32 (128 * r.val))) a + S128x256.size a ≤ S8192x256.size a := fun v7104 k0_hw138 r => k0_hw138.2.2.2.2.1 r
theorem k0_off373_wordsbf16 : ∀ (v7104 : BitVec 32) (k0_hw138 : k0_chk138 v7104), ∀ (r : Fin 2), (Rect.unit (s := S8192x256) (k0_off373 v7104 (BitVec.ofNat 32 (128 * r.val))) S128x256.size (k0_off373_inb v7104 k0_hw138 r)).WholeWords (EltTy.packing .bf16) := fun v7104 k0_hw138 r => k0_hw138.2.2.2.2.2 r (k0_off373_inb v7104 k0_hw138 r)

def k0_dev219 (v3 : BitVec 32) : Nat :=
  let c0_i32_6092 : BitVec 32 := 0#32
  let c1_i32_6091 : BitVec 32 := 1#32
  let v7301 : BitVec 32 := Scalar.muli v3 c1_i32_6091
  let v7302 : BitVec 32 := Scalar.addi c0_i32_6092 v7301
  v7302.toNat
def k0_dev220 (v3 : BitVec 32) : Nat :=
  let c0_i32_6111 : BitVec 32 := 0#32
  let c1_i32_6110 : BitVec 32 := 1#32
  let v7325 : BitVec 32 := Scalar.muli v3 c1_i32_6110
  let v7326 : BitVec 32 := Scalar.addi c0_i32_6111 v7325
  v7326.toNat
def k0_off374 (v7235 : BitVec 32) : Fin 2 → Nat :=
  let c256_i32_6114 : BitVec 32 := 256#32
  let v7333 : BitVec 32 := Scalar.muli v7235 c256_i32_6114
  let v7334 : Index := Scalar.indexCast v7333
  let c0_6115 : Index := 0#32
  ![v7334.toNat, 0]
def k0_off375 (v7236 : BitVec 32) : Fin 2 → Nat :=
  let c256_i32_6125 : BitVec 32 := 256#32
  let v7350 : BitVec 32 := Scalar.muli v7236 c256_i32_6125
  let v7351 : Index := Scalar.indexCast v7350
  let c0_6126 : Index := 0#32
  ![v7351.toNat, 0]
def k0_off376 (v7367 : BitVec 32) : Fin 1 → Nat :=
  ![v7367.toNat]

def k0_off377 (v7367 : BitVec 32) (c0_i32_6139 : BitVec 32) : Fin 2 → Nat :=
  let c256_i32_6138 : BitVec 32 := 256#32
  let v7369 : BitVec 32 := Scalar.muli v7367 c256_i32_6138
  let v7370 : BitVec 32 := Scalar.addi v7369 c0_i32_6139
  let c0_i32_6142 : BitVec 32 := 0#32
  ![v7370.toNat, 0]
def k0_off378 (v7235 : BitVec 32) (c0_i32_6049 : BitVec 32) : Fin 2 → Nat :=
  let c256_i32_6048 : BitVec 32 := 256#32
  let v7249 : BitVec 32 := Scalar.muli v7235 c256_i32_6048
  let v7250 : BitVec 32 := Scalar.addi v7249 c0_i32_6049
  let c0_i32_6146 : BitVec 32 := 0#32
  ![v7250.toNat, 0]

def k0_chk139 (v7235 : BitVec 32) : Prop :=
  (∀ a, (k0_off368 v7235) a + S1.size a ≤ S32.size a) ∧
  (∀ (r : Fin 2), ∀ a, (k0_off369 v7235 (BitVec.ofNat 32 (128 * r.val))) a + S128x256.size a ≤ S8192x256.size a) ∧
  (∀ (r : Fin 2), ∀ (hinb : ∀ a, (k0_off369 v7235 (BitVec.ofNat 32 (128 * r.val))) a + S128x256.size a ≤ S8192x256.size a), (Rect.unit (s := S8192x256) (k0_off369 v7235 (BitVec.ofNat 32 (128 * r.val))) S128x256.size hinb).WholeWords (EltTy.packing .bf16)) ∧
  (∀ a, (k0_off374 v7235) a + S256x256.size a ≤ S8192x256.size a) ∧
  (∀ (r : Fin 2), ∀ a, (k0_off378 v7235 (BitVec.ofNat 32 (128 * r.val))) a + S128x256.size a ≤ S8192x256.size a) ∧
  (∀ (r : Fin 2), ∀ (hinb : ∀ a, (k0_off378 v7235 (BitVec.ofNat 32 (128 * r.val))) a + S128x256.size a ≤ S8192x256.size a), (Rect.unit (s := S8192x256) (k0_off378 v7235 (BitVec.ofNat 32 (128 * r.val))) S128x256.size hinb).WholeWords (EltTy.packing .bf16))
theorem k0_off368_inb : ∀ (v7235 : BitVec 32) (k0_hw139 : k0_chk139 v7235), ∀ a, (k0_off368 v7235) a + S1.size a ≤ S32.size a := fun v7235 k0_hw139 => k0_hw139.1
theorem k0_off369_inb : ∀ (v7235 : BitVec 32) (k0_hw139 : k0_chk139 v7235), ∀ (r : Fin 2), ∀ a, (k0_off369 v7235 (BitVec.ofNat 32 (128 * r.val))) a + S128x256.size a ≤ S8192x256.size a := fun v7235 k0_hw139 r => k0_hw139.2.1 r
theorem k0_off369_wordsbf16 : ∀ (v7235 : BitVec 32) (k0_hw139 : k0_chk139 v7235), ∀ (r : Fin 2), (Rect.unit (s := S8192x256) (k0_off369 v7235 (BitVec.ofNat 32 (128 * r.val))) S128x256.size (k0_off369_inb v7235 k0_hw139 r)).WholeWords (EltTy.packing .bf16) := fun v7235 k0_hw139 r => k0_hw139.2.2.1 r (k0_off369_inb v7235 k0_hw139 r)
theorem k0_off374_inb : ∀ (v7235 : BitVec 32) (k0_hw139 : k0_chk139 v7235), ∀ a, (k0_off374 v7235) a + S256x256.size a ≤ S8192x256.size a := fun v7235 k0_hw139 => k0_hw139.2.2.2.1
theorem k0_off378_inb : ∀ (v7235 : BitVec 32) (k0_hw139 : k0_chk139 v7235), ∀ (r : Fin 2), ∀ a, (k0_off378 v7235 (BitVec.ofNat 32 (128 * r.val))) a + S128x256.size a ≤ S8192x256.size a := fun v7235 k0_hw139 r => k0_hw139.2.2.2.2.1 r
theorem k0_off378_wordsbf16 : ∀ (v7235 : BitVec 32) (k0_hw139 : k0_chk139 v7235), ∀ (r : Fin 2), (Rect.unit (s := S8192x256) (k0_off378 v7235 (BitVec.ofNat 32 (128 * r.val))) S128x256.size (k0_off378_inb v7235 k0_hw139 r)).WholeWords (EltTy.packing .bf16) := fun v7235 k0_hw139 r => k0_hw139.2.2.2.2.2 r (k0_off378_inb v7235 k0_hw139 r)

def k0_dev221 (v4 : BitVec 32) : Nat :=
  let c0_i32_6154 : BitVec 32 := 0#32
  let c1_i32_6153 : BitVec 32 := 1#32
  let v7385 : BitVec 32 := Scalar.muli v4 c1_i32_6153
  let v7386 : BitVec 32 := Scalar.addi c0_i32_6154 v7385
  v7386.toNat
def k0_dev222 (v4 : BitVec 32) : Nat :=
  let c0_i32_6173 : BitVec 32 := 0#32
  let c1_i32_6172 : BitVec 32 := 1#32
  let v7409 : BitVec 32 := Scalar.muli v4 c1_i32_6172
  let v7410 : BitVec 32 := Scalar.addi c0_i32_6173 v7409
  v7410.toNat
def k0_off379 (v7368 : BitVec 32) : Fin 1 → Nat :=
  ![v7368.toNat]

def k0_off380 (v7368 : BitVec 32) (c0_i32_6177 : BitVec 32) : Fin 2 → Nat :=
  let c256_i32_6176 : BitVec 32 := 256#32
  let v7417 : BitVec 32 := Scalar.muli v7368 c256_i32_6176
  let v7418 : BitVec 32 := Scalar.addi v7417 c0_i32_6177
  let c0_i32_6180 : BitVec 32 := 0#32
  ![v7418.toNat, 0]
def k0_off381 (v7236 : BitVec 32) (c0_i32_6087 : BitVec 32) : Fin 2 → Nat :=
  let c256_i32_6086 : BitVec 32 := 256#32
  let v7297 : BitVec 32 := Scalar.muli v7236 c256_i32_6086
  let v7298 : BitVec 32 := Scalar.addi v7297 c0_i32_6087
  let c0_i32_6184 : BitVec 32 := 0#32
  ![v7298.toNat, 0]

def k0_chk140 (v7236 : BitVec 32) : Prop :=
  (∀ a, (k0_off371 v7236) a + S1.size a ≤ S32.size a) ∧
  (∀ (r : Fin 2), ∀ a, (k0_off372 v7236 (BitVec.ofNat 32 (128 * r.val))) a + S128x256.size a ≤ S8192x256.size a) ∧
  (∀ (r : Fin 2), ∀ (hinb : ∀ a, (k0_off372 v7236 (BitVec.ofNat 32 (128 * r.val))) a + S128x256.size a ≤ S8192x256.size a), (Rect.unit (s := S8192x256) (k0_off372 v7236 (BitVec.ofNat 32 (128 * r.val))) S128x256.size hinb).WholeWords (EltTy.packing .bf16)) ∧
  (∀ a, (k0_off375 v7236) a + S256x256.size a ≤ S8192x256.size a) ∧
  (∀ (r : Fin 2), ∀ a, (k0_off381 v7236 (BitVec.ofNat 32 (128 * r.val))) a + S128x256.size a ≤ S8192x256.size a) ∧
  (∀ (r : Fin 2), ∀ (hinb : ∀ a, (k0_off381 v7236 (BitVec.ofNat 32 (128 * r.val))) a + S128x256.size a ≤ S8192x256.size a), (Rect.unit (s := S8192x256) (k0_off381 v7236 (BitVec.ofNat 32 (128 * r.val))) S128x256.size hinb).WholeWords (EltTy.packing .bf16))
theorem k0_off371_inb : ∀ (v7236 : BitVec 32) (k0_hw140 : k0_chk140 v7236), ∀ a, (k0_off371 v7236) a + S1.size a ≤ S32.size a := fun v7236 k0_hw140 => k0_hw140.1
theorem k0_off372_inb : ∀ (v7236 : BitVec 32) (k0_hw140 : k0_chk140 v7236), ∀ (r : Fin 2), ∀ a, (k0_off372 v7236 (BitVec.ofNat 32 (128 * r.val))) a + S128x256.size a ≤ S8192x256.size a := fun v7236 k0_hw140 r => k0_hw140.2.1 r
theorem k0_off372_wordsbf16 : ∀ (v7236 : BitVec 32) (k0_hw140 : k0_chk140 v7236), ∀ (r : Fin 2), (Rect.unit (s := S8192x256) (k0_off372 v7236 (BitVec.ofNat 32 (128 * r.val))) S128x256.size (k0_off372_inb v7236 k0_hw140 r)).WholeWords (EltTy.packing .bf16) := fun v7236 k0_hw140 r => k0_hw140.2.2.1 r (k0_off372_inb v7236 k0_hw140 r)
theorem k0_off375_inb : ∀ (v7236 : BitVec 32) (k0_hw140 : k0_chk140 v7236), ∀ a, (k0_off375 v7236) a + S256x256.size a ≤ S8192x256.size a := fun v7236 k0_hw140 => k0_hw140.2.2.2.1
theorem k0_off381_inb : ∀ (v7236 : BitVec 32) (k0_hw140 : k0_chk140 v7236), ∀ (r : Fin 2), ∀ a, (k0_off381 v7236 (BitVec.ofNat 32 (128 * r.val))) a + S128x256.size a ≤ S8192x256.size a := fun v7236 k0_hw140 r => k0_hw140.2.2.2.2.1 r
theorem k0_off381_wordsbf16 : ∀ (v7236 : BitVec 32) (k0_hw140 : k0_chk140 v7236), ∀ (r : Fin 2), (Rect.unit (s := S8192x256) (k0_off381 v7236 (BitVec.ofNat 32 (128 * r.val))) S128x256.size (k0_off381_inb v7236 k0_hw140 r)).WholeWords (EltTy.packing .bf16) := fun v7236 k0_hw140 r => k0_hw140.2.2.2.2.2 r (k0_off381_inb v7236 k0_hw140 r)

def k0_dev223 (v3 : BitVec 32) : Nat :=
  let c0_i32_6192 : BitVec 32 := 0#32
  let c1_i32_6191 : BitVec 32 := 1#32
  let v7433 : BitVec 32 := Scalar.muli v3 c1_i32_6191
  let v7434 : BitVec 32 := Scalar.addi c0_i32_6192 v7433
  v7434.toNat
def k0_dev224 (v3 : BitVec 32) : Nat :=
  let c0_i32_6211 : BitVec 32 := 0#32
  let c1_i32_6210 : BitVec 32 := 1#32
  let v7457 : BitVec 32 := Scalar.muli v3 c1_i32_6210
  let v7458 : BitVec 32 := Scalar.addi c0_i32_6211 v7457
  v7458.toNat
def k0_off382 (v7367 : BitVec 32) : Fin 2 → Nat :=
  let c256_i32_6214 : BitVec 32 := 256#32
  let v7465 : BitVec 32 := Scalar.muli v7367 c256_i32_6214
  let v7466 : Index := Scalar.indexCast v7465
  let c0_6215 : Index := 0#32
  ![v7466.toNat, 0]
def k0_off383 (v7368 : BitVec 32) : Fin 2 → Nat :=
  let c256_i32_6225 : BitVec 32 := 256#32
  let v7482 : BitVec 32 := Scalar.muli v7368 c256_i32_6225
  let v7483 : Index := Scalar.indexCast v7482
  let c0_6226 : Index := 0#32
  ![v7483.toNat, 0]
def k0_off384 (v7499 : BitVec 32) : Fin 1 → Nat :=
  ![v7499.toNat]

def k0_off385 (v7499 : BitVec 32) (c0_i32_6239 : BitVec 32) : Fin 2 → Nat :=
  let c256_i32_6238 : BitVec 32 := 256#32
  let v7501 : BitVec 32 := Scalar.muli v7499 c256_i32_6238
  let v7502 : BitVec 32 := Scalar.addi v7501 c0_i32_6239
  let c0_i32_6242 : BitVec 32 := 0#32
  ![v7502.toNat, 0]
def k0_off386 (v7367 : BitVec 32) (c0_i32_6149 : BitVec 32) : Fin 2 → Nat :=
  let c256_i32_6148 : BitVec 32 := 256#32
  let v7381 : BitVec 32 := Scalar.muli v7367 c256_i32_6148
  let v7382 : BitVec 32 := Scalar.addi v7381 c0_i32_6149
  let c0_i32_6246 : BitVec 32 := 0#32
  ![v7382.toNat, 0]

def k0_chk141 (v7367 : BitVec 32) : Prop :=
  (∀ a, (k0_off376 v7367) a + S1.size a ≤ S32.size a) ∧
  (∀ (r : Fin 2), ∀ a, (k0_off377 v7367 (BitVec.ofNat 32 (128 * r.val))) a + S128x256.size a ≤ S8192x256.size a) ∧
  (∀ (r : Fin 2), ∀ (hinb : ∀ a, (k0_off377 v7367 (BitVec.ofNat 32 (128 * r.val))) a + S128x256.size a ≤ S8192x256.size a), (Rect.unit (s := S8192x256) (k0_off377 v7367 (BitVec.ofNat 32 (128 * r.val))) S128x256.size hinb).WholeWords (EltTy.packing .bf16)) ∧
  (∀ a, (k0_off382 v7367) a + S256x256.size a ≤ S8192x256.size a) ∧
  (∀ (r : Fin 2), ∀ a, (k0_off386 v7367 (BitVec.ofNat 32 (128 * r.val))) a + S128x256.size a ≤ S8192x256.size a) ∧
  (∀ (r : Fin 2), ∀ (hinb : ∀ a, (k0_off386 v7367 (BitVec.ofNat 32 (128 * r.val))) a + S128x256.size a ≤ S8192x256.size a), (Rect.unit (s := S8192x256) (k0_off386 v7367 (BitVec.ofNat 32 (128 * r.val))) S128x256.size hinb).WholeWords (EltTy.packing .bf16))
theorem k0_off376_inb : ∀ (v7367 : BitVec 32) (k0_hw141 : k0_chk141 v7367), ∀ a, (k0_off376 v7367) a + S1.size a ≤ S32.size a := fun v7367 k0_hw141 => k0_hw141.1
theorem k0_off377_inb : ∀ (v7367 : BitVec 32) (k0_hw141 : k0_chk141 v7367), ∀ (r : Fin 2), ∀ a, (k0_off377 v7367 (BitVec.ofNat 32 (128 * r.val))) a + S128x256.size a ≤ S8192x256.size a := fun v7367 k0_hw141 r => k0_hw141.2.1 r
theorem k0_off377_wordsbf16 : ∀ (v7367 : BitVec 32) (k0_hw141 : k0_chk141 v7367), ∀ (r : Fin 2), (Rect.unit (s := S8192x256) (k0_off377 v7367 (BitVec.ofNat 32 (128 * r.val))) S128x256.size (k0_off377_inb v7367 k0_hw141 r)).WholeWords (EltTy.packing .bf16) := fun v7367 k0_hw141 r => k0_hw141.2.2.1 r (k0_off377_inb v7367 k0_hw141 r)
theorem k0_off382_inb : ∀ (v7367 : BitVec 32) (k0_hw141 : k0_chk141 v7367), ∀ a, (k0_off382 v7367) a + S256x256.size a ≤ S8192x256.size a := fun v7367 k0_hw141 => k0_hw141.2.2.2.1
theorem k0_off386_inb : ∀ (v7367 : BitVec 32) (k0_hw141 : k0_chk141 v7367), ∀ (r : Fin 2), ∀ a, (k0_off386 v7367 (BitVec.ofNat 32 (128 * r.val))) a + S128x256.size a ≤ S8192x256.size a := fun v7367 k0_hw141 r => k0_hw141.2.2.2.2.1 r
theorem k0_off386_wordsbf16 : ∀ (v7367 : BitVec 32) (k0_hw141 : k0_chk141 v7367), ∀ (r : Fin 2), (Rect.unit (s := S8192x256) (k0_off386 v7367 (BitVec.ofNat 32 (128 * r.val))) S128x256.size (k0_off386_inb v7367 k0_hw141 r)).WholeWords (EltTy.packing .bf16) := fun v7367 k0_hw141 r => k0_hw141.2.2.2.2.2 r (k0_off386_inb v7367 k0_hw141 r)

def k0_dev225 (v4 : BitVec 32) : Nat :=
  let c0_i32_6254 : BitVec 32 := 0#32
  let c1_i32_6253 : BitVec 32 := 1#32
  let v7517 : BitVec 32 := Scalar.muli v4 c1_i32_6253
  let v7518 : BitVec 32 := Scalar.addi c0_i32_6254 v7517
  v7518.toNat
def k0_dev226 (v4 : BitVec 32) : Nat :=
  let c0_i32_6273 : BitVec 32 := 0#32
  let c1_i32_6272 : BitVec 32 := 1#32
  let v7541 : BitVec 32 := Scalar.muli v4 c1_i32_6272
  let v7542 : BitVec 32 := Scalar.addi c0_i32_6273 v7541
  v7542.toNat
def k0_off387 (v7500 : BitVec 32) : Fin 1 → Nat :=
  ![v7500.toNat]

def k0_off388 (v7500 : BitVec 32) (c0_i32_6277 : BitVec 32) : Fin 2 → Nat :=
  let c256_i32_6276 : BitVec 32 := 256#32
  let v7549 : BitVec 32 := Scalar.muli v7500 c256_i32_6276
  let v7550 : BitVec 32 := Scalar.addi v7549 c0_i32_6277
  let c0_i32_6280 : BitVec 32 := 0#32
  ![v7550.toNat, 0]
def k0_off389 (v7368 : BitVec 32) (c0_i32_6187 : BitVec 32) : Fin 2 → Nat :=
  let c256_i32_6186 : BitVec 32 := 256#32
  let v7429 : BitVec 32 := Scalar.muli v7368 c256_i32_6186
  let v7430 : BitVec 32 := Scalar.addi v7429 c0_i32_6187
  let c0_i32_6284 : BitVec 32 := 0#32
  ![v7430.toNat, 0]

def k0_chk142 (v7368 : BitVec 32) : Prop :=
  (∀ a, (k0_off379 v7368) a + S1.size a ≤ S32.size a) ∧
  (∀ (r : Fin 2), ∀ a, (k0_off380 v7368 (BitVec.ofNat 32 (128 * r.val))) a + S128x256.size a ≤ S8192x256.size a) ∧
  (∀ (r : Fin 2), ∀ (hinb : ∀ a, (k0_off380 v7368 (BitVec.ofNat 32 (128 * r.val))) a + S128x256.size a ≤ S8192x256.size a), (Rect.unit (s := S8192x256) (k0_off380 v7368 (BitVec.ofNat 32 (128 * r.val))) S128x256.size hinb).WholeWords (EltTy.packing .bf16)) ∧
  (∀ a, (k0_off383 v7368) a + S256x256.size a ≤ S8192x256.size a) ∧
  (∀ (r : Fin 2), ∀ a, (k0_off389 v7368 (BitVec.ofNat 32 (128 * r.val))) a + S128x256.size a ≤ S8192x256.size a) ∧
  (∀ (r : Fin 2), ∀ (hinb : ∀ a, (k0_off389 v7368 (BitVec.ofNat 32 (128 * r.val))) a + S128x256.size a ≤ S8192x256.size a), (Rect.unit (s := S8192x256) (k0_off389 v7368 (BitVec.ofNat 32 (128 * r.val))) S128x256.size hinb).WholeWords (EltTy.packing .bf16))
theorem k0_off379_inb : ∀ (v7368 : BitVec 32) (k0_hw142 : k0_chk142 v7368), ∀ a, (k0_off379 v7368) a + S1.size a ≤ S32.size a := fun v7368 k0_hw142 => k0_hw142.1
theorem k0_off380_inb : ∀ (v7368 : BitVec 32) (k0_hw142 : k0_chk142 v7368), ∀ (r : Fin 2), ∀ a, (k0_off380 v7368 (BitVec.ofNat 32 (128 * r.val))) a + S128x256.size a ≤ S8192x256.size a := fun v7368 k0_hw142 r => k0_hw142.2.1 r
theorem k0_off380_wordsbf16 : ∀ (v7368 : BitVec 32) (k0_hw142 : k0_chk142 v7368), ∀ (r : Fin 2), (Rect.unit (s := S8192x256) (k0_off380 v7368 (BitVec.ofNat 32 (128 * r.val))) S128x256.size (k0_off380_inb v7368 k0_hw142 r)).WholeWords (EltTy.packing .bf16) := fun v7368 k0_hw142 r => k0_hw142.2.2.1 r (k0_off380_inb v7368 k0_hw142 r)
theorem k0_off383_inb : ∀ (v7368 : BitVec 32) (k0_hw142 : k0_chk142 v7368), ∀ a, (k0_off383 v7368) a + S256x256.size a ≤ S8192x256.size a := fun v7368 k0_hw142 => k0_hw142.2.2.2.1
theorem k0_off389_inb : ∀ (v7368 : BitVec 32) (k0_hw142 : k0_chk142 v7368), ∀ (r : Fin 2), ∀ a, (k0_off389 v7368 (BitVec.ofNat 32 (128 * r.val))) a + S128x256.size a ≤ S8192x256.size a := fun v7368 k0_hw142 r => k0_hw142.2.2.2.2.1 r
theorem k0_off389_wordsbf16 : ∀ (v7368 : BitVec 32) (k0_hw142 : k0_chk142 v7368), ∀ (r : Fin 2), (Rect.unit (s := S8192x256) (k0_off389 v7368 (BitVec.ofNat 32 (128 * r.val))) S128x256.size (k0_off389_inb v7368 k0_hw142 r)).WholeWords (EltTy.packing .bf16) := fun v7368 k0_hw142 r => k0_hw142.2.2.2.2.2 r (k0_off389_inb v7368 k0_hw142 r)

def k0_dev227 (v3 : BitVec 32) : Nat :=
  let c0_i32_6292 : BitVec 32 := 0#32
  let c1_i32_6291 : BitVec 32 := 1#32
  let v7565 : BitVec 32 := Scalar.muli v3 c1_i32_6291
  let v7566 : BitVec 32 := Scalar.addi c0_i32_6292 v7565
  v7566.toNat
def k0_dev228 (v3 : BitVec 32) : Nat :=
  let c0_i32_6311 : BitVec 32 := 0#32
  let c1_i32_6310 : BitVec 32 := 1#32
  let v7589 : BitVec 32 := Scalar.muli v3 c1_i32_6310
  let v7590 : BitVec 32 := Scalar.addi c0_i32_6311 v7589
  v7590.toNat
def k0_off390 (v7499 : BitVec 32) : Fin 2 → Nat :=
  let c256_i32_6314 : BitVec 32 := 256#32
  let v7597 : BitVec 32 := Scalar.muli v7499 c256_i32_6314
  let v7598 : Index := Scalar.indexCast v7597
  let c0_6315 : Index := 0#32
  ![v7598.toNat, 0]
def k0_off391 (v7500 : BitVec 32) : Fin 2 → Nat :=
  let c256_i32_6325 : BitVec 32 := 256#32
  let v7614 : BitVec 32 := Scalar.muli v7500 c256_i32_6325
  let v7615 : Index := Scalar.indexCast v7614
  let c0_6326 : Index := 0#32
  ![v7615.toNat, 0]
def k0_off392 (v7631 : BitVec 32) : Fin 1 → Nat :=
  ![v7631.toNat]

def k0_off393 (v7631 : BitVec 32) (c0_i32_6339 : BitVec 32) : Fin 2 → Nat :=
  let c256_i32_6338 : BitVec 32 := 256#32
  let v7633 : BitVec 32 := Scalar.muli v7631 c256_i32_6338
  let v7634 : BitVec 32 := Scalar.addi v7633 c0_i32_6339
  let c0_i32_6342 : BitVec 32 := 0#32
  ![v7634.toNat, 0]
def k0_off394 (v7499 : BitVec 32) (c0_i32_6249 : BitVec 32) : Fin 2 → Nat :=
  let c256_i32_6248 : BitVec 32 := 256#32
  let v7513 : BitVec 32 := Scalar.muli v7499 c256_i32_6248
  let v7514 : BitVec 32 := Scalar.addi v7513 c0_i32_6249
  let c0_i32_6346 : BitVec 32 := 0#32
  ![v7514.toNat, 0]

def k0_chk143 (v7499 : BitVec 32) : Prop :=
  (∀ a, (k0_off384 v7499) a + S1.size a ≤ S32.size a) ∧
  (∀ (r : Fin 2), ∀ a, (k0_off385 v7499 (BitVec.ofNat 32 (128 * r.val))) a + S128x256.size a ≤ S8192x256.size a) ∧
  (∀ (r : Fin 2), ∀ (hinb : ∀ a, (k0_off385 v7499 (BitVec.ofNat 32 (128 * r.val))) a + S128x256.size a ≤ S8192x256.size a), (Rect.unit (s := S8192x256) (k0_off385 v7499 (BitVec.ofNat 32 (128 * r.val))) S128x256.size hinb).WholeWords (EltTy.packing .bf16)) ∧
  (∀ a, (k0_off390 v7499) a + S256x256.size a ≤ S8192x256.size a) ∧
  (∀ (r : Fin 2), ∀ a, (k0_off394 v7499 (BitVec.ofNat 32 (128 * r.val))) a + S128x256.size a ≤ S8192x256.size a) ∧
  (∀ (r : Fin 2), ∀ (hinb : ∀ a, (k0_off394 v7499 (BitVec.ofNat 32 (128 * r.val))) a + S128x256.size a ≤ S8192x256.size a), (Rect.unit (s := S8192x256) (k0_off394 v7499 (BitVec.ofNat 32 (128 * r.val))) S128x256.size hinb).WholeWords (EltTy.packing .bf16))
theorem k0_off384_inb : ∀ (v7499 : BitVec 32) (k0_hw143 : k0_chk143 v7499), ∀ a, (k0_off384 v7499) a + S1.size a ≤ S32.size a := fun v7499 k0_hw143 => k0_hw143.1
theorem k0_off385_inb : ∀ (v7499 : BitVec 32) (k0_hw143 : k0_chk143 v7499), ∀ (r : Fin 2), ∀ a, (k0_off385 v7499 (BitVec.ofNat 32 (128 * r.val))) a + S128x256.size a ≤ S8192x256.size a := fun v7499 k0_hw143 r => k0_hw143.2.1 r
theorem k0_off385_wordsbf16 : ∀ (v7499 : BitVec 32) (k0_hw143 : k0_chk143 v7499), ∀ (r : Fin 2), (Rect.unit (s := S8192x256) (k0_off385 v7499 (BitVec.ofNat 32 (128 * r.val))) S128x256.size (k0_off385_inb v7499 k0_hw143 r)).WholeWords (EltTy.packing .bf16) := fun v7499 k0_hw143 r => k0_hw143.2.2.1 r (k0_off385_inb v7499 k0_hw143 r)
theorem k0_off390_inb : ∀ (v7499 : BitVec 32) (k0_hw143 : k0_chk143 v7499), ∀ a, (k0_off390 v7499) a + S256x256.size a ≤ S8192x256.size a := fun v7499 k0_hw143 => k0_hw143.2.2.2.1
theorem k0_off394_inb : ∀ (v7499 : BitVec 32) (k0_hw143 : k0_chk143 v7499), ∀ (r : Fin 2), ∀ a, (k0_off394 v7499 (BitVec.ofNat 32 (128 * r.val))) a + S128x256.size a ≤ S8192x256.size a := fun v7499 k0_hw143 r => k0_hw143.2.2.2.2.1 r
theorem k0_off394_wordsbf16 : ∀ (v7499 : BitVec 32) (k0_hw143 : k0_chk143 v7499), ∀ (r : Fin 2), (Rect.unit (s := S8192x256) (k0_off394 v7499 (BitVec.ofNat 32 (128 * r.val))) S128x256.size (k0_off394_inb v7499 k0_hw143 r)).WholeWords (EltTy.packing .bf16) := fun v7499 k0_hw143 r => k0_hw143.2.2.2.2.2 r (k0_off394_inb v7499 k0_hw143 r)

def k0_dev229 (v4 : BitVec 32) : Nat :=
  let c0_i32_6354 : BitVec 32 := 0#32
  let c1_i32_6353 : BitVec 32 := 1#32
  let v7649 : BitVec 32 := Scalar.muli v4 c1_i32_6353
  let v7650 : BitVec 32 := Scalar.addi c0_i32_6354 v7649
  v7650.toNat
def k0_dev230 (v4 : BitVec 32) : Nat :=
  let c0_i32_6373 : BitVec 32 := 0#32
  let c1_i32_6372 : BitVec 32 := 1#32
  let v7673 : BitVec 32 := Scalar.muli v4 c1_i32_6372
  let v7674 : BitVec 32 := Scalar.addi c0_i32_6373 v7673
  v7674.toNat
def k0_off395 (v7632 : BitVec 32) : Fin 1 → Nat :=
  ![v7632.toNat]

def k0_off396 (v7632 : BitVec 32) (c0_i32_6377 : BitVec 32) : Fin 2 → Nat :=
  let c256_i32_6376 : BitVec 32 := 256#32
  let v7681 : BitVec 32 := Scalar.muli v7632 c256_i32_6376
  let v7682 : BitVec 32 := Scalar.addi v7681 c0_i32_6377
  let c0_i32_6380 : BitVec 32 := 0#32
  ![v7682.toNat, 0]
def k0_off397 (v7500 : BitVec 32) (c0_i32_6287 : BitVec 32) : Fin 2 → Nat :=
  let c256_i32_6286 : BitVec 32 := 256#32
  let v7561 : BitVec 32 := Scalar.muli v7500 c256_i32_6286
  let v7562 : BitVec 32 := Scalar.addi v7561 c0_i32_6287
  let c0_i32_6384 : BitVec 32 := 0#32
  ![v7562.toNat, 0]

def k0_chk144 (v7500 : BitVec 32) : Prop :=
  (∀ a, (k0_off387 v7500) a + S1.size a ≤ S32.size a) ∧
  (∀ (r : Fin 2), ∀ a, (k0_off388 v7500 (BitVec.ofNat 32 (128 * r.val))) a + S128x256.size a ≤ S8192x256.size a) ∧
  (∀ (r : Fin 2), ∀ (hinb : ∀ a, (k0_off388 v7500 (BitVec.ofNat 32 (128 * r.val))) a + S128x256.size a ≤ S8192x256.size a), (Rect.unit (s := S8192x256) (k0_off388 v7500 (BitVec.ofNat 32 (128 * r.val))) S128x256.size hinb).WholeWords (EltTy.packing .bf16)) ∧
  (∀ a, (k0_off391 v7500) a + S256x256.size a ≤ S8192x256.size a) ∧
  (∀ (r : Fin 2), ∀ a, (k0_off397 v7500 (BitVec.ofNat 32 (128 * r.val))) a + S128x256.size a ≤ S8192x256.size a) ∧
  (∀ (r : Fin 2), ∀ (hinb : ∀ a, (k0_off397 v7500 (BitVec.ofNat 32 (128 * r.val))) a + S128x256.size a ≤ S8192x256.size a), (Rect.unit (s := S8192x256) (k0_off397 v7500 (BitVec.ofNat 32 (128 * r.val))) S128x256.size hinb).WholeWords (EltTy.packing .bf16))
theorem k0_off387_inb : ∀ (v7500 : BitVec 32) (k0_hw144 : k0_chk144 v7500), ∀ a, (k0_off387 v7500) a + S1.size a ≤ S32.size a := fun v7500 k0_hw144 => k0_hw144.1
theorem k0_off388_inb : ∀ (v7500 : BitVec 32) (k0_hw144 : k0_chk144 v7500), ∀ (r : Fin 2), ∀ a, (k0_off388 v7500 (BitVec.ofNat 32 (128 * r.val))) a + S128x256.size a ≤ S8192x256.size a := fun v7500 k0_hw144 r => k0_hw144.2.1 r
theorem k0_off388_wordsbf16 : ∀ (v7500 : BitVec 32) (k0_hw144 : k0_chk144 v7500), ∀ (r : Fin 2), (Rect.unit (s := S8192x256) (k0_off388 v7500 (BitVec.ofNat 32 (128 * r.val))) S128x256.size (k0_off388_inb v7500 k0_hw144 r)).WholeWords (EltTy.packing .bf16) := fun v7500 k0_hw144 r => k0_hw144.2.2.1 r (k0_off388_inb v7500 k0_hw144 r)
theorem k0_off391_inb : ∀ (v7500 : BitVec 32) (k0_hw144 : k0_chk144 v7500), ∀ a, (k0_off391 v7500) a + S256x256.size a ≤ S8192x256.size a := fun v7500 k0_hw144 => k0_hw144.2.2.2.1
theorem k0_off397_inb : ∀ (v7500 : BitVec 32) (k0_hw144 : k0_chk144 v7500), ∀ (r : Fin 2), ∀ a, (k0_off397 v7500 (BitVec.ofNat 32 (128 * r.val))) a + S128x256.size a ≤ S8192x256.size a := fun v7500 k0_hw144 r => k0_hw144.2.2.2.2.1 r
theorem k0_off397_wordsbf16 : ∀ (v7500 : BitVec 32) (k0_hw144 : k0_chk144 v7500), ∀ (r : Fin 2), (Rect.unit (s := S8192x256) (k0_off397 v7500 (BitVec.ofNat 32 (128 * r.val))) S128x256.size (k0_off397_inb v7500 k0_hw144 r)).WholeWords (EltTy.packing .bf16) := fun v7500 k0_hw144 r => k0_hw144.2.2.2.2.2 r (k0_off397_inb v7500 k0_hw144 r)

def k0_dev231 (v3 : BitVec 32) : Nat :=
  let c0_i32_6392 : BitVec 32 := 0#32
  let c1_i32_6391 : BitVec 32 := 1#32
  let v7697 : BitVec 32 := Scalar.muli v3 c1_i32_6391
  let v7698 : BitVec 32 := Scalar.addi c0_i32_6392 v7697
  v7698.toNat
def k0_dev232 (v3 : BitVec 32) : Nat :=
  let c0_i32_6411 : BitVec 32 := 0#32
  let c1_i32_6410 : BitVec 32 := 1#32
  let v7721 : BitVec 32 := Scalar.muli v3 c1_i32_6410
  let v7722 : BitVec 32 := Scalar.addi c0_i32_6411 v7721
  v7722.toNat
def k0_off398 (v7631 : BitVec 32) : Fin 2 → Nat :=
  let c256_i32_6414 : BitVec 32 := 256#32
  let v7729 : BitVec 32 := Scalar.muli v7631 c256_i32_6414
  let v7730 : Index := Scalar.indexCast v7729
  let c0_6415 : Index := 0#32
  ![v7730.toNat, 0]
def k0_off399 (v7632 : BitVec 32) : Fin 2 → Nat :=
  let c256_i32_6425 : BitVec 32 := 256#32
  let v7746 : BitVec 32 := Scalar.muli v7632 c256_i32_6425
  let v7747 : Index := Scalar.indexCast v7746
  let c0_6426 : Index := 0#32
  ![v7747.toNat, 0]
def k0_off400 (v7763 : BitVec 32) : Fin 1 → Nat :=
  ![v7763.toNat]

def k0_off401 (v7763 : BitVec 32) (c0_i32_6439 : BitVec 32) : Fin 2 → Nat :=
  let c256_i32_6438 : BitVec 32 := 256#32
  let v7765 : BitVec 32 := Scalar.muli v7763 c256_i32_6438
  let v7766 : BitVec 32 := Scalar.addi v7765 c0_i32_6439
  let c0_i32_6442 : BitVec 32 := 0#32
  ![v7766.toNat, 0]
def k0_off402 (v7631 : BitVec 32) (c0_i32_6349 : BitVec 32) : Fin 2 → Nat :=
  let c256_i32_6348 : BitVec 32 := 256#32
  let v7645 : BitVec 32 := Scalar.muli v7631 c256_i32_6348
  let v7646 : BitVec 32 := Scalar.addi v7645 c0_i32_6349
  let c0_i32_6446 : BitVec 32 := 0#32
  ![v7646.toNat, 0]

def k0_chk145 (v7631 : BitVec 32) : Prop :=
  (∀ a, (k0_off392 v7631) a + S1.size a ≤ S32.size a) ∧
  (∀ (r : Fin 2), ∀ a, (k0_off393 v7631 (BitVec.ofNat 32 (128 * r.val))) a + S128x256.size a ≤ S8192x256.size a) ∧
  (∀ (r : Fin 2), ∀ (hinb : ∀ a, (k0_off393 v7631 (BitVec.ofNat 32 (128 * r.val))) a + S128x256.size a ≤ S8192x256.size a), (Rect.unit (s := S8192x256) (k0_off393 v7631 (BitVec.ofNat 32 (128 * r.val))) S128x256.size hinb).WholeWords (EltTy.packing .bf16)) ∧
  (∀ a, (k0_off398 v7631) a + S256x256.size a ≤ S8192x256.size a) ∧
  (∀ (r : Fin 2), ∀ a, (k0_off402 v7631 (BitVec.ofNat 32 (128 * r.val))) a + S128x256.size a ≤ S8192x256.size a) ∧
  (∀ (r : Fin 2), ∀ (hinb : ∀ a, (k0_off402 v7631 (BitVec.ofNat 32 (128 * r.val))) a + S128x256.size a ≤ S8192x256.size a), (Rect.unit (s := S8192x256) (k0_off402 v7631 (BitVec.ofNat 32 (128 * r.val))) S128x256.size hinb).WholeWords (EltTy.packing .bf16))
theorem k0_off392_inb : ∀ (v7631 : BitVec 32) (k0_hw145 : k0_chk145 v7631), ∀ a, (k0_off392 v7631) a + S1.size a ≤ S32.size a := fun v7631 k0_hw145 => k0_hw145.1
theorem k0_off393_inb : ∀ (v7631 : BitVec 32) (k0_hw145 : k0_chk145 v7631), ∀ (r : Fin 2), ∀ a, (k0_off393 v7631 (BitVec.ofNat 32 (128 * r.val))) a + S128x256.size a ≤ S8192x256.size a := fun v7631 k0_hw145 r => k0_hw145.2.1 r
theorem k0_off393_wordsbf16 : ∀ (v7631 : BitVec 32) (k0_hw145 : k0_chk145 v7631), ∀ (r : Fin 2), (Rect.unit (s := S8192x256) (k0_off393 v7631 (BitVec.ofNat 32 (128 * r.val))) S128x256.size (k0_off393_inb v7631 k0_hw145 r)).WholeWords (EltTy.packing .bf16) := fun v7631 k0_hw145 r => k0_hw145.2.2.1 r (k0_off393_inb v7631 k0_hw145 r)
theorem k0_off398_inb : ∀ (v7631 : BitVec 32) (k0_hw145 : k0_chk145 v7631), ∀ a, (k0_off398 v7631) a + S256x256.size a ≤ S8192x256.size a := fun v7631 k0_hw145 => k0_hw145.2.2.2.1
theorem k0_off402_inb : ∀ (v7631 : BitVec 32) (k0_hw145 : k0_chk145 v7631), ∀ (r : Fin 2), ∀ a, (k0_off402 v7631 (BitVec.ofNat 32 (128 * r.val))) a + S128x256.size a ≤ S8192x256.size a := fun v7631 k0_hw145 r => k0_hw145.2.2.2.2.1 r
theorem k0_off402_wordsbf16 : ∀ (v7631 : BitVec 32) (k0_hw145 : k0_chk145 v7631), ∀ (r : Fin 2), (Rect.unit (s := S8192x256) (k0_off402 v7631 (BitVec.ofNat 32 (128 * r.val))) S128x256.size (k0_off402_inb v7631 k0_hw145 r)).WholeWords (EltTy.packing .bf16) := fun v7631 k0_hw145 r => k0_hw145.2.2.2.2.2 r (k0_off402_inb v7631 k0_hw145 r)

def k0_dev233 (v4 : BitVec 32) : Nat :=
  let c0_i32_6454 : BitVec 32 := 0#32
  let c1_i32_6453 : BitVec 32 := 1#32
  let v7781 : BitVec 32 := Scalar.muli v4 c1_i32_6453
  let v7782 : BitVec 32 := Scalar.addi c0_i32_6454 v7781
  v7782.toNat
def k0_dev234 (v4 : BitVec 32) : Nat :=
  let c0_i32_6473 : BitVec 32 := 0#32
  let c1_i32_6472 : BitVec 32 := 1#32
  let v7805 : BitVec 32 := Scalar.muli v4 c1_i32_6472
  let v7806 : BitVec 32 := Scalar.addi c0_i32_6473 v7805
  v7806.toNat
def k0_off403 (v7764 : BitVec 32) : Fin 1 → Nat :=
  ![v7764.toNat]

def k0_off404 (v7764 : BitVec 32) (c0_i32_6477 : BitVec 32) : Fin 2 → Nat :=
  let c256_i32_6476 : BitVec 32 := 256#32
  let v7813 : BitVec 32 := Scalar.muli v7764 c256_i32_6476
  let v7814 : BitVec 32 := Scalar.addi v7813 c0_i32_6477
  let c0_i32_6480 : BitVec 32 := 0#32
  ![v7814.toNat, 0]
def k0_off405 (v7632 : BitVec 32) (c0_i32_6387 : BitVec 32) : Fin 2 → Nat :=
  let c256_i32_6386 : BitVec 32 := 256#32
  let v7693 : BitVec 32 := Scalar.muli v7632 c256_i32_6386
  let v7694 : BitVec 32 := Scalar.addi v7693 c0_i32_6387
  let c0_i32_6484 : BitVec 32 := 0#32
  ![v7694.toNat, 0]

def k0_chk146 (v7632 : BitVec 32) : Prop :=
  (∀ a, (k0_off395 v7632) a + S1.size a ≤ S32.size a) ∧
  (∀ (r : Fin 2), ∀ a, (k0_off396 v7632 (BitVec.ofNat 32 (128 * r.val))) a + S128x256.size a ≤ S8192x256.size a) ∧
  (∀ (r : Fin 2), ∀ (hinb : ∀ a, (k0_off396 v7632 (BitVec.ofNat 32 (128 * r.val))) a + S128x256.size a ≤ S8192x256.size a), (Rect.unit (s := S8192x256) (k0_off396 v7632 (BitVec.ofNat 32 (128 * r.val))) S128x256.size hinb).WholeWords (EltTy.packing .bf16)) ∧
  (∀ a, (k0_off399 v7632) a + S256x256.size a ≤ S8192x256.size a) ∧
  (∀ (r : Fin 2), ∀ a, (k0_off405 v7632 (BitVec.ofNat 32 (128 * r.val))) a + S128x256.size a ≤ S8192x256.size a) ∧
  (∀ (r : Fin 2), ∀ (hinb : ∀ a, (k0_off405 v7632 (BitVec.ofNat 32 (128 * r.val))) a + S128x256.size a ≤ S8192x256.size a), (Rect.unit (s := S8192x256) (k0_off405 v7632 (BitVec.ofNat 32 (128 * r.val))) S128x256.size hinb).WholeWords (EltTy.packing .bf16))
theorem k0_off395_inb : ∀ (v7632 : BitVec 32) (k0_hw146 : k0_chk146 v7632), ∀ a, (k0_off395 v7632) a + S1.size a ≤ S32.size a := fun v7632 k0_hw146 => k0_hw146.1
theorem k0_off396_inb : ∀ (v7632 : BitVec 32) (k0_hw146 : k0_chk146 v7632), ∀ (r : Fin 2), ∀ a, (k0_off396 v7632 (BitVec.ofNat 32 (128 * r.val))) a + S128x256.size a ≤ S8192x256.size a := fun v7632 k0_hw146 r => k0_hw146.2.1 r
theorem k0_off396_wordsbf16 : ∀ (v7632 : BitVec 32) (k0_hw146 : k0_chk146 v7632), ∀ (r : Fin 2), (Rect.unit (s := S8192x256) (k0_off396 v7632 (BitVec.ofNat 32 (128 * r.val))) S128x256.size (k0_off396_inb v7632 k0_hw146 r)).WholeWords (EltTy.packing .bf16) := fun v7632 k0_hw146 r => k0_hw146.2.2.1 r (k0_off396_inb v7632 k0_hw146 r)
theorem k0_off399_inb : ∀ (v7632 : BitVec 32) (k0_hw146 : k0_chk146 v7632), ∀ a, (k0_off399 v7632) a + S256x256.size a ≤ S8192x256.size a := fun v7632 k0_hw146 => k0_hw146.2.2.2.1
theorem k0_off405_inb : ∀ (v7632 : BitVec 32) (k0_hw146 : k0_chk146 v7632), ∀ (r : Fin 2), ∀ a, (k0_off405 v7632 (BitVec.ofNat 32 (128 * r.val))) a + S128x256.size a ≤ S8192x256.size a := fun v7632 k0_hw146 r => k0_hw146.2.2.2.2.1 r
theorem k0_off405_wordsbf16 : ∀ (v7632 : BitVec 32) (k0_hw146 : k0_chk146 v7632), ∀ (r : Fin 2), (Rect.unit (s := S8192x256) (k0_off405 v7632 (BitVec.ofNat 32 (128 * r.val))) S128x256.size (k0_off405_inb v7632 k0_hw146 r)).WholeWords (EltTy.packing .bf16) := fun v7632 k0_hw146 r => k0_hw146.2.2.2.2.2 r (k0_off405_inb v7632 k0_hw146 r)

def k0_dev235 (v3 : BitVec 32) : Nat :=
  let c0_i32_6492 : BitVec 32 := 0#32
  let c1_i32_6491 : BitVec 32 := 1#32
  let v7829 : BitVec 32 := Scalar.muli v3 c1_i32_6491
  let v7830 : BitVec 32 := Scalar.addi c0_i32_6492 v7829
  v7830.toNat
def k0_dev236 (v3 : BitVec 32) : Nat :=
  let c0_i32_6511 : BitVec 32 := 0#32
  let c1_i32_6510 : BitVec 32 := 1#32
  let v7853 : BitVec 32 := Scalar.muli v3 c1_i32_6510
  let v7854 : BitVec 32 := Scalar.addi c0_i32_6511 v7853
  v7854.toNat
def k0_off406 (v7763 : BitVec 32) : Fin 2 → Nat :=
  let c256_i32_6514 : BitVec 32 := 256#32
  let v7861 : BitVec 32 := Scalar.muli v7763 c256_i32_6514
  let v7862 : Index := Scalar.indexCast v7861
  let c0_6515 : Index := 0#32
  ![v7862.toNat, 0]
def k0_off407 (v7764 : BitVec 32) : Fin 2 → Nat :=
  let c256_i32_6525 : BitVec 32 := 256#32
  let v7878 : BitVec 32 := Scalar.muli v7764 c256_i32_6525
  let v7879 : Index := Scalar.indexCast v7878
  let c0_6526 : Index := 0#32
  ![v7879.toNat, 0]
def k0_off408 (v7895 : BitVec 32) : Fin 1 → Nat :=
  ![v7895.toNat]

def k0_off409 (v7895 : BitVec 32) (c0_i32_6539 : BitVec 32) : Fin 2 → Nat :=
  let c256_i32_6538 : BitVec 32 := 256#32
  let v7897 : BitVec 32 := Scalar.muli v7895 c256_i32_6538
  let v7898 : BitVec 32 := Scalar.addi v7897 c0_i32_6539
  let c0_i32_6542 : BitVec 32 := 0#32
  ![v7898.toNat, 0]
def k0_off410 (v7763 : BitVec 32) (c0_i32_6449 : BitVec 32) : Fin 2 → Nat :=
  let c256_i32_6448 : BitVec 32 := 256#32
  let v7777 : BitVec 32 := Scalar.muli v7763 c256_i32_6448
  let v7778 : BitVec 32 := Scalar.addi v7777 c0_i32_6449
  let c0_i32_6546 : BitVec 32 := 0#32
  ![v7778.toNat, 0]

def k0_chk147 (v7763 : BitVec 32) : Prop :=
  (∀ a, (k0_off400 v7763) a + S1.size a ≤ S32.size a) ∧
  (∀ (r : Fin 2), ∀ a, (k0_off401 v7763 (BitVec.ofNat 32 (128 * r.val))) a + S128x256.size a ≤ S8192x256.size a) ∧
  (∀ (r : Fin 2), ∀ (hinb : ∀ a, (k0_off401 v7763 (BitVec.ofNat 32 (128 * r.val))) a + S128x256.size a ≤ S8192x256.size a), (Rect.unit (s := S8192x256) (k0_off401 v7763 (BitVec.ofNat 32 (128 * r.val))) S128x256.size hinb).WholeWords (EltTy.packing .bf16)) ∧
  (∀ a, (k0_off406 v7763) a + S256x256.size a ≤ S8192x256.size a) ∧
  (∀ (r : Fin 2), ∀ a, (k0_off410 v7763 (BitVec.ofNat 32 (128 * r.val))) a + S128x256.size a ≤ S8192x256.size a) ∧
  (∀ (r : Fin 2), ∀ (hinb : ∀ a, (k0_off410 v7763 (BitVec.ofNat 32 (128 * r.val))) a + S128x256.size a ≤ S8192x256.size a), (Rect.unit (s := S8192x256) (k0_off410 v7763 (BitVec.ofNat 32 (128 * r.val))) S128x256.size hinb).WholeWords (EltTy.packing .bf16))
theorem k0_off400_inb : ∀ (v7763 : BitVec 32) (k0_hw147 : k0_chk147 v7763), ∀ a, (k0_off400 v7763) a + S1.size a ≤ S32.size a := fun v7763 k0_hw147 => k0_hw147.1
theorem k0_off401_inb : ∀ (v7763 : BitVec 32) (k0_hw147 : k0_chk147 v7763), ∀ (r : Fin 2), ∀ a, (k0_off401 v7763 (BitVec.ofNat 32 (128 * r.val))) a + S128x256.size a ≤ S8192x256.size a := fun v7763 k0_hw147 r => k0_hw147.2.1 r
theorem k0_off401_wordsbf16 : ∀ (v7763 : BitVec 32) (k0_hw147 : k0_chk147 v7763), ∀ (r : Fin 2), (Rect.unit (s := S8192x256) (k0_off401 v7763 (BitVec.ofNat 32 (128 * r.val))) S128x256.size (k0_off401_inb v7763 k0_hw147 r)).WholeWords (EltTy.packing .bf16) := fun v7763 k0_hw147 r => k0_hw147.2.2.1 r (k0_off401_inb v7763 k0_hw147 r)
theorem k0_off406_inb : ∀ (v7763 : BitVec 32) (k0_hw147 : k0_chk147 v7763), ∀ a, (k0_off406 v7763) a + S256x256.size a ≤ S8192x256.size a := fun v7763 k0_hw147 => k0_hw147.2.2.2.1
theorem k0_off410_inb : ∀ (v7763 : BitVec 32) (k0_hw147 : k0_chk147 v7763), ∀ (r : Fin 2), ∀ a, (k0_off410 v7763 (BitVec.ofNat 32 (128 * r.val))) a + S128x256.size a ≤ S8192x256.size a := fun v7763 k0_hw147 r => k0_hw147.2.2.2.2.1 r
theorem k0_off410_wordsbf16 : ∀ (v7763 : BitVec 32) (k0_hw147 : k0_chk147 v7763), ∀ (r : Fin 2), (Rect.unit (s := S8192x256) (k0_off410 v7763 (BitVec.ofNat 32 (128 * r.val))) S128x256.size (k0_off410_inb v7763 k0_hw147 r)).WholeWords (EltTy.packing .bf16) := fun v7763 k0_hw147 r => k0_hw147.2.2.2.2.2 r (k0_off410_inb v7763 k0_hw147 r)

def k0_dev237 (v4 : BitVec 32) : Nat :=
  let c0_i32_6554 : BitVec 32 := 0#32
  let c1_i32_6553 : BitVec 32 := 1#32
  let v7913 : BitVec 32 := Scalar.muli v4 c1_i32_6553
  let v7914 : BitVec 32 := Scalar.addi c0_i32_6554 v7913
  v7914.toNat
def k0_dev238 (v4 : BitVec 32) : Nat :=
  let c0_i32_6573 : BitVec 32 := 0#32
  let c1_i32_6572 : BitVec 32 := 1#32
  let v7937 : BitVec 32 := Scalar.muli v4 c1_i32_6572
  let v7938 : BitVec 32 := Scalar.addi c0_i32_6573 v7937
  v7938.toNat
def k0_off411 (v7896 : BitVec 32) : Fin 1 → Nat :=
  ![v7896.toNat]

def k0_off412 (v7896 : BitVec 32) (c0_i32_6577 : BitVec 32) : Fin 2 → Nat :=
  let c256_i32_6576 : BitVec 32 := 256#32
  let v7945 : BitVec 32 := Scalar.muli v7896 c256_i32_6576
  let v7946 : BitVec 32 := Scalar.addi v7945 c0_i32_6577
  let c0_i32_6580 : BitVec 32 := 0#32
  ![v7946.toNat, 0]
def k0_off413 (v7764 : BitVec 32) (c0_i32_6487 : BitVec 32) : Fin 2 → Nat :=
  let c256_i32_6486 : BitVec 32 := 256#32
  let v7825 : BitVec 32 := Scalar.muli v7764 c256_i32_6486
  let v7826 : BitVec 32 := Scalar.addi v7825 c0_i32_6487
  let c0_i32_6584 : BitVec 32 := 0#32
  ![v7826.toNat, 0]

def k0_chk148 (v7764 : BitVec 32) : Prop :=
  (∀ a, (k0_off403 v7764) a + S1.size a ≤ S32.size a) ∧
  (∀ (r : Fin 2), ∀ a, (k0_off404 v7764 (BitVec.ofNat 32 (128 * r.val))) a + S128x256.size a ≤ S8192x256.size a) ∧
  (∀ (r : Fin 2), ∀ (hinb : ∀ a, (k0_off404 v7764 (BitVec.ofNat 32 (128 * r.val))) a + S128x256.size a ≤ S8192x256.size a), (Rect.unit (s := S8192x256) (k0_off404 v7764 (BitVec.ofNat 32 (128 * r.val))) S128x256.size hinb).WholeWords (EltTy.packing .bf16)) ∧
  (∀ a, (k0_off407 v7764) a + S256x256.size a ≤ S8192x256.size a) ∧
  (∀ (r : Fin 2), ∀ a, (k0_off413 v7764 (BitVec.ofNat 32 (128 * r.val))) a + S128x256.size a ≤ S8192x256.size a) ∧
  (∀ (r : Fin 2), ∀ (hinb : ∀ a, (k0_off413 v7764 (BitVec.ofNat 32 (128 * r.val))) a + S128x256.size a ≤ S8192x256.size a), (Rect.unit (s := S8192x256) (k0_off413 v7764 (BitVec.ofNat 32 (128 * r.val))) S128x256.size hinb).WholeWords (EltTy.packing .bf16))
theorem k0_off403_inb : ∀ (v7764 : BitVec 32) (k0_hw148 : k0_chk148 v7764), ∀ a, (k0_off403 v7764) a + S1.size a ≤ S32.size a := fun v7764 k0_hw148 => k0_hw148.1
theorem k0_off404_inb : ∀ (v7764 : BitVec 32) (k0_hw148 : k0_chk148 v7764), ∀ (r : Fin 2), ∀ a, (k0_off404 v7764 (BitVec.ofNat 32 (128 * r.val))) a + S128x256.size a ≤ S8192x256.size a := fun v7764 k0_hw148 r => k0_hw148.2.1 r
theorem k0_off404_wordsbf16 : ∀ (v7764 : BitVec 32) (k0_hw148 : k0_chk148 v7764), ∀ (r : Fin 2), (Rect.unit (s := S8192x256) (k0_off404 v7764 (BitVec.ofNat 32 (128 * r.val))) S128x256.size (k0_off404_inb v7764 k0_hw148 r)).WholeWords (EltTy.packing .bf16) := fun v7764 k0_hw148 r => k0_hw148.2.2.1 r (k0_off404_inb v7764 k0_hw148 r)
theorem k0_off407_inb : ∀ (v7764 : BitVec 32) (k0_hw148 : k0_chk148 v7764), ∀ a, (k0_off407 v7764) a + S256x256.size a ≤ S8192x256.size a := fun v7764 k0_hw148 => k0_hw148.2.2.2.1
theorem k0_off413_inb : ∀ (v7764 : BitVec 32) (k0_hw148 : k0_chk148 v7764), ∀ (r : Fin 2), ∀ a, (k0_off413 v7764 (BitVec.ofNat 32 (128 * r.val))) a + S128x256.size a ≤ S8192x256.size a := fun v7764 k0_hw148 r => k0_hw148.2.2.2.2.1 r
theorem k0_off413_wordsbf16 : ∀ (v7764 : BitVec 32) (k0_hw148 : k0_chk148 v7764), ∀ (r : Fin 2), (Rect.unit (s := S8192x256) (k0_off413 v7764 (BitVec.ofNat 32 (128 * r.val))) S128x256.size (k0_off413_inb v7764 k0_hw148 r)).WholeWords (EltTy.packing .bf16) := fun v7764 k0_hw148 r => k0_hw148.2.2.2.2.2 r (k0_off413_inb v7764 k0_hw148 r)

def k0_dev239 (v3 : BitVec 32) : Nat :=
  let c0_i32_6592 : BitVec 32 := 0#32
  let c1_i32_6591 : BitVec 32 := 1#32
  let v7961 : BitVec 32 := Scalar.muli v3 c1_i32_6591
  let v7962 : BitVec 32 := Scalar.addi c0_i32_6592 v7961
  v7962.toNat
def k0_dev240 (v3 : BitVec 32) : Nat :=
  let c0_i32_6611 : BitVec 32 := 0#32
  let c1_i32_6610 : BitVec 32 := 1#32
  let v7985 : BitVec 32 := Scalar.muli v3 c1_i32_6610
  let v7986 : BitVec 32 := Scalar.addi c0_i32_6611 v7985
  v7986.toNat
def k0_off414 (v7895 : BitVec 32) : Fin 2 → Nat :=
  let c256_i32_6614 : BitVec 32 := 256#32
  let v7993 : BitVec 32 := Scalar.muli v7895 c256_i32_6614
  let v7994 : Index := Scalar.indexCast v7993
  let c0_6615 : Index := 0#32
  ![v7994.toNat, 0]
def k0_off415 (v7896 : BitVec 32) : Fin 2 → Nat :=
  let c256_i32_6625 : BitVec 32 := 256#32
  let v8010 : BitVec 32 := Scalar.muli v7896 c256_i32_6625
  let v8011 : Index := Scalar.indexCast v8010
  let c0_6626 : Index := 0#32
  ![v8011.toNat, 0]
def k0_off416 (v8027 : BitVec 32) : Fin 1 → Nat :=
  ![v8027.toNat]

def k0_off417 (v8027 : BitVec 32) (c0_i32_6639 : BitVec 32) : Fin 2 → Nat :=
  let c256_i32_6638 : BitVec 32 := 256#32
  let v8029 : BitVec 32 := Scalar.muli v8027 c256_i32_6638
  let v8030 : BitVec 32 := Scalar.addi v8029 c0_i32_6639
  let c0_i32_6642 : BitVec 32 := 0#32
  ![v8030.toNat, 0]
def k0_off418 (v7895 : BitVec 32) (c0_i32_6549 : BitVec 32) : Fin 2 → Nat :=
  let c256_i32_6548 : BitVec 32 := 256#32
  let v7909 : BitVec 32 := Scalar.muli v7895 c256_i32_6548
  let v7910 : BitVec 32 := Scalar.addi v7909 c0_i32_6549
  let c0_i32_6646 : BitVec 32 := 0#32
  ![v7910.toNat, 0]

def k0_chk149 (v7895 : BitVec 32) : Prop :=
  (∀ a, (k0_off408 v7895) a + S1.size a ≤ S32.size a) ∧
  (∀ (r : Fin 2), ∀ a, (k0_off409 v7895 (BitVec.ofNat 32 (128 * r.val))) a + S128x256.size a ≤ S8192x256.size a) ∧
  (∀ (r : Fin 2), ∀ (hinb : ∀ a, (k0_off409 v7895 (BitVec.ofNat 32 (128 * r.val))) a + S128x256.size a ≤ S8192x256.size a), (Rect.unit (s := S8192x256) (k0_off409 v7895 (BitVec.ofNat 32 (128 * r.val))) S128x256.size hinb).WholeWords (EltTy.packing .bf16)) ∧
  (∀ a, (k0_off414 v7895) a + S256x256.size a ≤ S8192x256.size a) ∧
  (∀ (r : Fin 2), ∀ a, (k0_off418 v7895 (BitVec.ofNat 32 (128 * r.val))) a + S128x256.size a ≤ S8192x256.size a) ∧
  (∀ (r : Fin 2), ∀ (hinb : ∀ a, (k0_off418 v7895 (BitVec.ofNat 32 (128 * r.val))) a + S128x256.size a ≤ S8192x256.size a), (Rect.unit (s := S8192x256) (k0_off418 v7895 (BitVec.ofNat 32 (128 * r.val))) S128x256.size hinb).WholeWords (EltTy.packing .bf16))
theorem k0_off408_inb : ∀ (v7895 : BitVec 32) (k0_hw149 : k0_chk149 v7895), ∀ a, (k0_off408 v7895) a + S1.size a ≤ S32.size a := fun v7895 k0_hw149 => k0_hw149.1
theorem k0_off409_inb : ∀ (v7895 : BitVec 32) (k0_hw149 : k0_chk149 v7895), ∀ (r : Fin 2), ∀ a, (k0_off409 v7895 (BitVec.ofNat 32 (128 * r.val))) a + S128x256.size a ≤ S8192x256.size a := fun v7895 k0_hw149 r => k0_hw149.2.1 r
theorem k0_off409_wordsbf16 : ∀ (v7895 : BitVec 32) (k0_hw149 : k0_chk149 v7895), ∀ (r : Fin 2), (Rect.unit (s := S8192x256) (k0_off409 v7895 (BitVec.ofNat 32 (128 * r.val))) S128x256.size (k0_off409_inb v7895 k0_hw149 r)).WholeWords (EltTy.packing .bf16) := fun v7895 k0_hw149 r => k0_hw149.2.2.1 r (k0_off409_inb v7895 k0_hw149 r)
theorem k0_off414_inb : ∀ (v7895 : BitVec 32) (k0_hw149 : k0_chk149 v7895), ∀ a, (k0_off414 v7895) a + S256x256.size a ≤ S8192x256.size a := fun v7895 k0_hw149 => k0_hw149.2.2.2.1
theorem k0_off418_inb : ∀ (v7895 : BitVec 32) (k0_hw149 : k0_chk149 v7895), ∀ (r : Fin 2), ∀ a, (k0_off418 v7895 (BitVec.ofNat 32 (128 * r.val))) a + S128x256.size a ≤ S8192x256.size a := fun v7895 k0_hw149 r => k0_hw149.2.2.2.2.1 r
theorem k0_off418_wordsbf16 : ∀ (v7895 : BitVec 32) (k0_hw149 : k0_chk149 v7895), ∀ (r : Fin 2), (Rect.unit (s := S8192x256) (k0_off418 v7895 (BitVec.ofNat 32 (128 * r.val))) S128x256.size (k0_off418_inb v7895 k0_hw149 r)).WholeWords (EltTy.packing .bf16) := fun v7895 k0_hw149 r => k0_hw149.2.2.2.2.2 r (k0_off418_inb v7895 k0_hw149 r)

def k0_dev241 (v4 : BitVec 32) : Nat :=
  let c0_i32_6654 : BitVec 32 := 0#32
  let c1_i32_6653 : BitVec 32 := 1#32
  let v8045 : BitVec 32 := Scalar.muli v4 c1_i32_6653
  let v8046 : BitVec 32 := Scalar.addi c0_i32_6654 v8045
  v8046.toNat
def k0_dev242 (v4 : BitVec 32) : Nat :=
  let c0_i32_6673 : BitVec 32 := 0#32
  let c1_i32_6672 : BitVec 32 := 1#32
  let v8069 : BitVec 32 := Scalar.muli v4 c1_i32_6672
  let v8070 : BitVec 32 := Scalar.addi c0_i32_6673 v8069
  v8070.toNat
def k0_off419 (v8028 : BitVec 32) : Fin 1 → Nat :=
  ![v8028.toNat]

def k0_off420 (v8028 : BitVec 32) (c0_i32_6677 : BitVec 32) : Fin 2 → Nat :=
  let c256_i32_6676 : BitVec 32 := 256#32
  let v8077 : BitVec 32 := Scalar.muli v8028 c256_i32_6676
  let v8078 : BitVec 32 := Scalar.addi v8077 c0_i32_6677
  let c0_i32_6680 : BitVec 32 := 0#32
  ![v8078.toNat, 0]
def k0_off421 (v7896 : BitVec 32) (c0_i32_6587 : BitVec 32) : Fin 2 → Nat :=
  let c256_i32_6586 : BitVec 32 := 256#32
  let v7957 : BitVec 32 := Scalar.muli v7896 c256_i32_6586
  let v7958 : BitVec 32 := Scalar.addi v7957 c0_i32_6587
  let c0_i32_6684 : BitVec 32 := 0#32
  ![v7958.toNat, 0]

def k0_chk150 (v7896 : BitVec 32) : Prop :=
  (∀ a, (k0_off411 v7896) a + S1.size a ≤ S32.size a) ∧
  (∀ (r : Fin 2), ∀ a, (k0_off412 v7896 (BitVec.ofNat 32 (128 * r.val))) a + S128x256.size a ≤ S8192x256.size a) ∧
  (∀ (r : Fin 2), ∀ (hinb : ∀ a, (k0_off412 v7896 (BitVec.ofNat 32 (128 * r.val))) a + S128x256.size a ≤ S8192x256.size a), (Rect.unit (s := S8192x256) (k0_off412 v7896 (BitVec.ofNat 32 (128 * r.val))) S128x256.size hinb).WholeWords (EltTy.packing .bf16)) ∧
  (∀ a, (k0_off415 v7896) a + S256x256.size a ≤ S8192x256.size a) ∧
  (∀ (r : Fin 2), ∀ a, (k0_off421 v7896 (BitVec.ofNat 32 (128 * r.val))) a + S128x256.size a ≤ S8192x256.size a) ∧
  (∀ (r : Fin 2), ∀ (hinb : ∀ a, (k0_off421 v7896 (BitVec.ofNat 32 (128 * r.val))) a + S128x256.size a ≤ S8192x256.size a), (Rect.unit (s := S8192x256) (k0_off421 v7896 (BitVec.ofNat 32 (128 * r.val))) S128x256.size hinb).WholeWords (EltTy.packing .bf16))
theorem k0_off411_inb : ∀ (v7896 : BitVec 32) (k0_hw150 : k0_chk150 v7896), ∀ a, (k0_off411 v7896) a + S1.size a ≤ S32.size a := fun v7896 k0_hw150 => k0_hw150.1
theorem k0_off412_inb : ∀ (v7896 : BitVec 32) (k0_hw150 : k0_chk150 v7896), ∀ (r : Fin 2), ∀ a, (k0_off412 v7896 (BitVec.ofNat 32 (128 * r.val))) a + S128x256.size a ≤ S8192x256.size a := fun v7896 k0_hw150 r => k0_hw150.2.1 r
theorem k0_off412_wordsbf16 : ∀ (v7896 : BitVec 32) (k0_hw150 : k0_chk150 v7896), ∀ (r : Fin 2), (Rect.unit (s := S8192x256) (k0_off412 v7896 (BitVec.ofNat 32 (128 * r.val))) S128x256.size (k0_off412_inb v7896 k0_hw150 r)).WholeWords (EltTy.packing .bf16) := fun v7896 k0_hw150 r => k0_hw150.2.2.1 r (k0_off412_inb v7896 k0_hw150 r)
theorem k0_off415_inb : ∀ (v7896 : BitVec 32) (k0_hw150 : k0_chk150 v7896), ∀ a, (k0_off415 v7896) a + S256x256.size a ≤ S8192x256.size a := fun v7896 k0_hw150 => k0_hw150.2.2.2.1
theorem k0_off421_inb : ∀ (v7896 : BitVec 32) (k0_hw150 : k0_chk150 v7896), ∀ (r : Fin 2), ∀ a, (k0_off421 v7896 (BitVec.ofNat 32 (128 * r.val))) a + S128x256.size a ≤ S8192x256.size a := fun v7896 k0_hw150 r => k0_hw150.2.2.2.2.1 r
theorem k0_off421_wordsbf16 : ∀ (v7896 : BitVec 32) (k0_hw150 : k0_chk150 v7896), ∀ (r : Fin 2), (Rect.unit (s := S8192x256) (k0_off421 v7896 (BitVec.ofNat 32 (128 * r.val))) S128x256.size (k0_off421_inb v7896 k0_hw150 r)).WholeWords (EltTy.packing .bf16) := fun v7896 k0_hw150 r => k0_hw150.2.2.2.2.2 r (k0_off421_inb v7896 k0_hw150 r)

def k0_dev243 (v3 : BitVec 32) : Nat :=
  let c0_i32_6692 : BitVec 32 := 0#32
  let c1_i32_6691 : BitVec 32 := 1#32
  let v8093 : BitVec 32 := Scalar.muli v3 c1_i32_6691
  let v8094 : BitVec 32 := Scalar.addi c0_i32_6692 v8093
  v8094.toNat
def k0_dev244 (v3 : BitVec 32) : Nat :=
  let c0_i32_6711 : BitVec 32 := 0#32
  let c1_i32_6710 : BitVec 32 := 1#32
  let v8117 : BitVec 32 := Scalar.muli v3 c1_i32_6710
  let v8118 : BitVec 32 := Scalar.addi c0_i32_6711 v8117
  v8118.toNat
def k0_off422 (v8027 : BitVec 32) : Fin 2 → Nat :=
  let c256_i32_6714 : BitVec 32 := 256#32
  let v8125 : BitVec 32 := Scalar.muli v8027 c256_i32_6714
  let v8126 : Index := Scalar.indexCast v8125
  let c0_6715 : Index := 0#32
  ![v8126.toNat, 0]
def k0_off423 (v8028 : BitVec 32) : Fin 2 → Nat :=
  let c256_i32_6725 : BitVec 32 := 256#32
  let v8142 : BitVec 32 := Scalar.muli v8028 c256_i32_6725
  let v8143 : Index := Scalar.indexCast v8142
  let c0_6726 : Index := 0#32
  ![v8143.toNat, 0]
def k0_off424 (v8159 : BitVec 32) : Fin 1 → Nat :=
  ![v8159.toNat]

def k0_off425 (v8159 : BitVec 32) (c0_i32_6739 : BitVec 32) : Fin 2 → Nat :=
  let c256_i32_6738 : BitVec 32 := 256#32
  let v8161 : BitVec 32 := Scalar.muli v8159 c256_i32_6738
  let v8162 : BitVec 32 := Scalar.addi v8161 c0_i32_6739
  let c0_i32_6742 : BitVec 32 := 0#32
  ![v8162.toNat, 0]
def k0_off426 (v8027 : BitVec 32) (c0_i32_6649 : BitVec 32) : Fin 2 → Nat :=
  let c256_i32_6648 : BitVec 32 := 256#32
  let v8041 : BitVec 32 := Scalar.muli v8027 c256_i32_6648
  let v8042 : BitVec 32 := Scalar.addi v8041 c0_i32_6649
  let c0_i32_6746 : BitVec 32 := 0#32
  ![v8042.toNat, 0]

def k0_chk151 (v8027 : BitVec 32) : Prop :=
  (∀ a, (k0_off416 v8027) a + S1.size a ≤ S32.size a) ∧
  (∀ (r : Fin 2), ∀ a, (k0_off417 v8027 (BitVec.ofNat 32 (128 * r.val))) a + S128x256.size a ≤ S8192x256.size a) ∧
  (∀ (r : Fin 2), ∀ (hinb : ∀ a, (k0_off417 v8027 (BitVec.ofNat 32 (128 * r.val))) a + S128x256.size a ≤ S8192x256.size a), (Rect.unit (s := S8192x256) (k0_off417 v8027 (BitVec.ofNat 32 (128 * r.val))) S128x256.size hinb).WholeWords (EltTy.packing .bf16)) ∧
  (∀ a, (k0_off422 v8027) a + S256x256.size a ≤ S8192x256.size a) ∧
  (∀ (r : Fin 2), ∀ a, (k0_off426 v8027 (BitVec.ofNat 32 (128 * r.val))) a + S128x256.size a ≤ S8192x256.size a) ∧
  (∀ (r : Fin 2), ∀ (hinb : ∀ a, (k0_off426 v8027 (BitVec.ofNat 32 (128 * r.val))) a + S128x256.size a ≤ S8192x256.size a), (Rect.unit (s := S8192x256) (k0_off426 v8027 (BitVec.ofNat 32 (128 * r.val))) S128x256.size hinb).WholeWords (EltTy.packing .bf16))
theorem k0_off416_inb : ∀ (v8027 : BitVec 32) (k0_hw151 : k0_chk151 v8027), ∀ a, (k0_off416 v8027) a + S1.size a ≤ S32.size a := fun v8027 k0_hw151 => k0_hw151.1
theorem k0_off417_inb : ∀ (v8027 : BitVec 32) (k0_hw151 : k0_chk151 v8027), ∀ (r : Fin 2), ∀ a, (k0_off417 v8027 (BitVec.ofNat 32 (128 * r.val))) a + S128x256.size a ≤ S8192x256.size a := fun v8027 k0_hw151 r => k0_hw151.2.1 r
theorem k0_off417_wordsbf16 : ∀ (v8027 : BitVec 32) (k0_hw151 : k0_chk151 v8027), ∀ (r : Fin 2), (Rect.unit (s := S8192x256) (k0_off417 v8027 (BitVec.ofNat 32 (128 * r.val))) S128x256.size (k0_off417_inb v8027 k0_hw151 r)).WholeWords (EltTy.packing .bf16) := fun v8027 k0_hw151 r => k0_hw151.2.2.1 r (k0_off417_inb v8027 k0_hw151 r)
theorem k0_off422_inb : ∀ (v8027 : BitVec 32) (k0_hw151 : k0_chk151 v8027), ∀ a, (k0_off422 v8027) a + S256x256.size a ≤ S8192x256.size a := fun v8027 k0_hw151 => k0_hw151.2.2.2.1
theorem k0_off426_inb : ∀ (v8027 : BitVec 32) (k0_hw151 : k0_chk151 v8027), ∀ (r : Fin 2), ∀ a, (k0_off426 v8027 (BitVec.ofNat 32 (128 * r.val))) a + S128x256.size a ≤ S8192x256.size a := fun v8027 k0_hw151 r => k0_hw151.2.2.2.2.1 r
theorem k0_off426_wordsbf16 : ∀ (v8027 : BitVec 32) (k0_hw151 : k0_chk151 v8027), ∀ (r : Fin 2), (Rect.unit (s := S8192x256) (k0_off426 v8027 (BitVec.ofNat 32 (128 * r.val))) S128x256.size (k0_off426_inb v8027 k0_hw151 r)).WholeWords (EltTy.packing .bf16) := fun v8027 k0_hw151 r => k0_hw151.2.2.2.2.2 r (k0_off426_inb v8027 k0_hw151 r)

def k0_dev245 (v4 : BitVec 32) : Nat :=
  let c0_i32_6754 : BitVec 32 := 0#32
  let c1_i32_6753 : BitVec 32 := 1#32
  let v8177 : BitVec 32 := Scalar.muli v4 c1_i32_6753
  let v8178 : BitVec 32 := Scalar.addi c0_i32_6754 v8177
  v8178.toNat
def k0_dev246 (v4 : BitVec 32) : Nat :=
  let c0_i32_6773 : BitVec 32 := 0#32
  let c1_i32_6772 : BitVec 32 := 1#32
  let v8201 : BitVec 32 := Scalar.muli v4 c1_i32_6772
  let v8202 : BitVec 32 := Scalar.addi c0_i32_6773 v8201
  v8202.toNat
def k0_off427 (v8160 : BitVec 32) : Fin 1 → Nat :=
  ![v8160.toNat]

def k0_off428 (v8160 : BitVec 32) (c0_i32_6777 : BitVec 32) : Fin 2 → Nat :=
  let c256_i32_6776 : BitVec 32 := 256#32
  let v8209 : BitVec 32 := Scalar.muli v8160 c256_i32_6776
  let v8210 : BitVec 32 := Scalar.addi v8209 c0_i32_6777
  let c0_i32_6780 : BitVec 32 := 0#32
  ![v8210.toNat, 0]
def k0_off429 (v8028 : BitVec 32) (c0_i32_6687 : BitVec 32) : Fin 2 → Nat :=
  let c256_i32_6686 : BitVec 32 := 256#32
  let v8089 : BitVec 32 := Scalar.muli v8028 c256_i32_6686
  let v8090 : BitVec 32 := Scalar.addi v8089 c0_i32_6687
  let c0_i32_6784 : BitVec 32 := 0#32
  ![v8090.toNat, 0]

def k0_chk152 (v8028 : BitVec 32) : Prop :=
  (∀ a, (k0_off419 v8028) a + S1.size a ≤ S32.size a) ∧
  (∀ (r : Fin 2), ∀ a, (k0_off420 v8028 (BitVec.ofNat 32 (128 * r.val))) a + S128x256.size a ≤ S8192x256.size a) ∧
  (∀ (r : Fin 2), ∀ (hinb : ∀ a, (k0_off420 v8028 (BitVec.ofNat 32 (128 * r.val))) a + S128x256.size a ≤ S8192x256.size a), (Rect.unit (s := S8192x256) (k0_off420 v8028 (BitVec.ofNat 32 (128 * r.val))) S128x256.size hinb).WholeWords (EltTy.packing .bf16)) ∧
  (∀ a, (k0_off423 v8028) a + S256x256.size a ≤ S8192x256.size a) ∧
  (∀ (r : Fin 2), ∀ a, (k0_off429 v8028 (BitVec.ofNat 32 (128 * r.val))) a + S128x256.size a ≤ S8192x256.size a) ∧
  (∀ (r : Fin 2), ∀ (hinb : ∀ a, (k0_off429 v8028 (BitVec.ofNat 32 (128 * r.val))) a + S128x256.size a ≤ S8192x256.size a), (Rect.unit (s := S8192x256) (k0_off429 v8028 (BitVec.ofNat 32 (128 * r.val))) S128x256.size hinb).WholeWords (EltTy.packing .bf16))
theorem k0_off419_inb : ∀ (v8028 : BitVec 32) (k0_hw152 : k0_chk152 v8028), ∀ a, (k0_off419 v8028) a + S1.size a ≤ S32.size a := fun v8028 k0_hw152 => k0_hw152.1
theorem k0_off420_inb : ∀ (v8028 : BitVec 32) (k0_hw152 : k0_chk152 v8028), ∀ (r : Fin 2), ∀ a, (k0_off420 v8028 (BitVec.ofNat 32 (128 * r.val))) a + S128x256.size a ≤ S8192x256.size a := fun v8028 k0_hw152 r => k0_hw152.2.1 r
theorem k0_off420_wordsbf16 : ∀ (v8028 : BitVec 32) (k0_hw152 : k0_chk152 v8028), ∀ (r : Fin 2), (Rect.unit (s := S8192x256) (k0_off420 v8028 (BitVec.ofNat 32 (128 * r.val))) S128x256.size (k0_off420_inb v8028 k0_hw152 r)).WholeWords (EltTy.packing .bf16) := fun v8028 k0_hw152 r => k0_hw152.2.2.1 r (k0_off420_inb v8028 k0_hw152 r)
theorem k0_off423_inb : ∀ (v8028 : BitVec 32) (k0_hw152 : k0_chk152 v8028), ∀ a, (k0_off423 v8028) a + S256x256.size a ≤ S8192x256.size a := fun v8028 k0_hw152 => k0_hw152.2.2.2.1
theorem k0_off429_inb : ∀ (v8028 : BitVec 32) (k0_hw152 : k0_chk152 v8028), ∀ (r : Fin 2), ∀ a, (k0_off429 v8028 (BitVec.ofNat 32 (128 * r.val))) a + S128x256.size a ≤ S8192x256.size a := fun v8028 k0_hw152 r => k0_hw152.2.2.2.2.1 r
theorem k0_off429_wordsbf16 : ∀ (v8028 : BitVec 32) (k0_hw152 : k0_chk152 v8028), ∀ (r : Fin 2), (Rect.unit (s := S8192x256) (k0_off429 v8028 (BitVec.ofNat 32 (128 * r.val))) S128x256.size (k0_off429_inb v8028 k0_hw152 r)).WholeWords (EltTy.packing .bf16) := fun v8028 k0_hw152 r => k0_hw152.2.2.2.2.2 r (k0_off429_inb v8028 k0_hw152 r)

def k0_dev247 (v3 : BitVec 32) : Nat :=
  let c0_i32_6792 : BitVec 32 := 0#32
  let c1_i32_6791 : BitVec 32 := 1#32
  let v8225 : BitVec 32 := Scalar.muli v3 c1_i32_6791
  let v8226 : BitVec 32 := Scalar.addi c0_i32_6792 v8225
  v8226.toNat
def k0_dev248 (v3 : BitVec 32) : Nat :=
  let c0_i32_6811 : BitVec 32 := 0#32
  let c1_i32_6810 : BitVec 32 := 1#32
  let v8249 : BitVec 32 := Scalar.muli v3 c1_i32_6810
  let v8250 : BitVec 32 := Scalar.addi c0_i32_6811 v8249
  v8250.toNat
def k0_off430 (v8159 : BitVec 32) : Fin 2 → Nat :=
  let c256_i32_6814 : BitVec 32 := 256#32
  let v8257 : BitVec 32 := Scalar.muli v8159 c256_i32_6814
  let v8258 : Index := Scalar.indexCast v8257
  let c0_6815 : Index := 0#32
  ![v8258.toNat, 0]
def k0_off431 (v8160 : BitVec 32) : Fin 2 → Nat :=
  let c256_i32_6825 : BitVec 32 := 256#32
  let v8274 : BitVec 32 := Scalar.muli v8160 c256_i32_6825
  let v8275 : Index := Scalar.indexCast v8274
  let c0_6826 : Index := 0#32
  ![v8275.toNat, 0]
def k0_off432 (v8291 : BitVec 32) : Fin 1 → Nat :=
  ![v8291.toNat]

def k0_off433 (v8291 : BitVec 32) (c0_i32_6839 : BitVec 32) : Fin 2 → Nat :=
  let c256_i32_6838 : BitVec 32 := 256#32
  let v8293 : BitVec 32 := Scalar.muli v8291 c256_i32_6838
  let v8294 : BitVec 32 := Scalar.addi v8293 c0_i32_6839
  let c0_i32_6842 : BitVec 32 := 0#32
  ![v8294.toNat, 0]
def k0_off434 (v8159 : BitVec 32) (c0_i32_6749 : BitVec 32) : Fin 2 → Nat :=
  let c256_i32_6748 : BitVec 32 := 256#32
  let v8173 : BitVec 32 := Scalar.muli v8159 c256_i32_6748
  let v8174 : BitVec 32 := Scalar.addi v8173 c0_i32_6749
  let c0_i32_6846 : BitVec 32 := 0#32
  ![v8174.toNat, 0]

def k0_chk153 (v8159 : BitVec 32) : Prop :=
  (∀ a, (k0_off424 v8159) a + S1.size a ≤ S32.size a) ∧
  (∀ (r : Fin 2), ∀ a, (k0_off425 v8159 (BitVec.ofNat 32 (128 * r.val))) a + S128x256.size a ≤ S8192x256.size a) ∧
  (∀ (r : Fin 2), ∀ (hinb : ∀ a, (k0_off425 v8159 (BitVec.ofNat 32 (128 * r.val))) a + S128x256.size a ≤ S8192x256.size a), (Rect.unit (s := S8192x256) (k0_off425 v8159 (BitVec.ofNat 32 (128 * r.val))) S128x256.size hinb).WholeWords (EltTy.packing .bf16)) ∧
  (∀ a, (k0_off430 v8159) a + S256x256.size a ≤ S8192x256.size a) ∧
  (∀ (r : Fin 2), ∀ a, (k0_off434 v8159 (BitVec.ofNat 32 (128 * r.val))) a + S128x256.size a ≤ S8192x256.size a) ∧
  (∀ (r : Fin 2), ∀ (hinb : ∀ a, (k0_off434 v8159 (BitVec.ofNat 32 (128 * r.val))) a + S128x256.size a ≤ S8192x256.size a), (Rect.unit (s := S8192x256) (k0_off434 v8159 (BitVec.ofNat 32 (128 * r.val))) S128x256.size hinb).WholeWords (EltTy.packing .bf16))
theorem k0_off424_inb : ∀ (v8159 : BitVec 32) (k0_hw153 : k0_chk153 v8159), ∀ a, (k0_off424 v8159) a + S1.size a ≤ S32.size a := fun v8159 k0_hw153 => k0_hw153.1
theorem k0_off425_inb : ∀ (v8159 : BitVec 32) (k0_hw153 : k0_chk153 v8159), ∀ (r : Fin 2), ∀ a, (k0_off425 v8159 (BitVec.ofNat 32 (128 * r.val))) a + S128x256.size a ≤ S8192x256.size a := fun v8159 k0_hw153 r => k0_hw153.2.1 r
theorem k0_off425_wordsbf16 : ∀ (v8159 : BitVec 32) (k0_hw153 : k0_chk153 v8159), ∀ (r : Fin 2), (Rect.unit (s := S8192x256) (k0_off425 v8159 (BitVec.ofNat 32 (128 * r.val))) S128x256.size (k0_off425_inb v8159 k0_hw153 r)).WholeWords (EltTy.packing .bf16) := fun v8159 k0_hw153 r => k0_hw153.2.2.1 r (k0_off425_inb v8159 k0_hw153 r)
theorem k0_off430_inb : ∀ (v8159 : BitVec 32) (k0_hw153 : k0_chk153 v8159), ∀ a, (k0_off430 v8159) a + S256x256.size a ≤ S8192x256.size a := fun v8159 k0_hw153 => k0_hw153.2.2.2.1
theorem k0_off434_inb : ∀ (v8159 : BitVec 32) (k0_hw153 : k0_chk153 v8159), ∀ (r : Fin 2), ∀ a, (k0_off434 v8159 (BitVec.ofNat 32 (128 * r.val))) a + S128x256.size a ≤ S8192x256.size a := fun v8159 k0_hw153 r => k0_hw153.2.2.2.2.1 r
theorem k0_off434_wordsbf16 : ∀ (v8159 : BitVec 32) (k0_hw153 : k0_chk153 v8159), ∀ (r : Fin 2), (Rect.unit (s := S8192x256) (k0_off434 v8159 (BitVec.ofNat 32 (128 * r.val))) S128x256.size (k0_off434_inb v8159 k0_hw153 r)).WholeWords (EltTy.packing .bf16) := fun v8159 k0_hw153 r => k0_hw153.2.2.2.2.2 r (k0_off434_inb v8159 k0_hw153 r)

def k0_dev249 (v4 : BitVec 32) : Nat :=
  let c0_i32_6854 : BitVec 32 := 0#32
  let c1_i32_6853 : BitVec 32 := 1#32
  let v8309 : BitVec 32 := Scalar.muli v4 c1_i32_6853
  let v8310 : BitVec 32 := Scalar.addi c0_i32_6854 v8309
  v8310.toNat
def k0_dev250 (v4 : BitVec 32) : Nat :=
  let c0_i32_6873 : BitVec 32 := 0#32
  let c1_i32_6872 : BitVec 32 := 1#32
  let v8333 : BitVec 32 := Scalar.muli v4 c1_i32_6872
  let v8334 : BitVec 32 := Scalar.addi c0_i32_6873 v8333
  v8334.toNat
def k0_off435 (v8292 : BitVec 32) : Fin 1 → Nat :=
  ![v8292.toNat]

def k0_off436 (v8292 : BitVec 32) (c0_i32_6877 : BitVec 32) : Fin 2 → Nat :=
  let c256_i32_6876 : BitVec 32 := 256#32
  let v8341 : BitVec 32 := Scalar.muli v8292 c256_i32_6876
  let v8342 : BitVec 32 := Scalar.addi v8341 c0_i32_6877
  let c0_i32_6880 : BitVec 32 := 0#32
  ![v8342.toNat, 0]
def k0_off437 (v8291 : BitVec 32) : Fin 2 → Nat :=
  let c256_i32_6888 : BitVec 32 := 256#32
  let v8357 : BitVec 32 := Scalar.muli v8291 c256_i32_6888
  let v8358 : Index := Scalar.indexCast v8357
  let c0_6889 : Index := 0#32
  ![v8358.toNat, 0]
def k0_off438 (v8292 : BitVec 32) : Fin 2 → Nat :=
  let c256_i32_6899 : BitVec 32 := 256#32
  let v8374 : BitVec 32 := Scalar.muli v8292 c256_i32_6899
  let v8375 : Index := Scalar.indexCast v8374
  let c0_6900 : Index := 0#32
  ![v8375.toNat, 0]

def k0_chk156 (v8292 : BitVec 32) : Prop :=
  (∀ a, (k0_off435 v8292) a + S1.size a ≤ S32.size a) ∧
  (∀ (r : Fin 2), ∀ a, (k0_off436 v8292 (BitVec.ofNat 32 (128 * r.val))) a + S128x256.size a ≤ S8192x256.size a) ∧
  (∀ (r : Fin 2), ∀ (hinb : ∀ a, (k0_off436 v8292 (BitVec.ofNat 32 (128 * r.val))) a + S128x256.size a ≤ S8192x256.size a), (Rect.unit (s := S8192x256) (k0_off436 v8292 (BitVec.ofNat 32 (128 * r.val))) S128x256.size hinb).WholeWords (EltTy.packing .bf16)) ∧
  (∀ a, (k0_off438 v8292) a + S256x256.size a ≤ S8192x256.size a)
theorem k0_off435_inb : ∀ (v8292 : BitVec 32) (k0_hw156 : k0_chk156 v8292), ∀ a, (k0_off435 v8292) a + S1.size a ≤ S32.size a := fun v8292 k0_hw156 => k0_hw156.1
theorem k0_off436_inb : ∀ (v8292 : BitVec 32) (k0_hw156 : k0_chk156 v8292), ∀ (r : Fin 2), ∀ a, (k0_off436 v8292 (BitVec.ofNat 32 (128 * r.val))) a + S128x256.size a ≤ S8192x256.size a := fun v8292 k0_hw156 r => k0_hw156.2.1 r
theorem k0_off436_wordsbf16 : ∀ (v8292 : BitVec 32) (k0_hw156 : k0_chk156 v8292), ∀ (r : Fin 2), (Rect.unit (s := S8192x256) (k0_off436 v8292 (BitVec.ofNat 32 (128 * r.val))) S128x256.size (k0_off436_inb v8292 k0_hw156 r)).WholeWords (EltTy.packing .bf16) := fun v8292 k0_hw156 r => k0_hw156.2.2.1 r (k0_off436_inb v8292 k0_hw156 r)
theorem k0_off438_inb : ∀ (v8292 : BitVec 32) (k0_hw156 : k0_chk156 v8292), ∀ a, (k0_off438 v8292) a + S256x256.size a ≤ S8192x256.size a := fun v8292 k0_hw156 => k0_hw156.2.2.2

def k0_off439 (v8391 : BitVec 32) : Fin 1 → Nat :=
  ![v8391.toNat]

def k0_off440 (v8391 : BitVec 32) (c0_i32_6912 : BitVec 32) : Fin 2 → Nat :=
  let c256_i32_6911 : BitVec 32 := 256#32
  let v8392 : BitVec 32 := Scalar.muli v8391 c256_i32_6911
  let v8393 : BitVec 32 := Scalar.addi v8392 c0_i32_6912
  let c0_i32_6915 : BitVec 32 := 0#32
  ![v8393.toNat, 0]
def k0_off441 (v8391 : BitVec 32) : Fin 2 → Nat :=
  let c256_i32_6923 : BitVec 32 := 256#32
  let v8408 : BitVec 32 := Scalar.muli v8391 c256_i32_6923
  let v8409 : Index := Scalar.indexCast v8408
  let c0_6924 : Index := 0#32
  ![v8409.toNat, 0]

def k0_chk157 (v8391 : BitVec 32) : Prop :=
  (∀ a, (k0_off439 v8391) a + S1.size a ≤ S32.size a) ∧
  (∀ (r : Fin 2), ∀ a, (k0_off440 v8391 (BitVec.ofNat 32 (128 * r.val))) a + S128x256.size a ≤ S8192x256.size a) ∧
  (∀ (r : Fin 2), ∀ (hinb : ∀ a, (k0_off440 v8391 (BitVec.ofNat 32 (128 * r.val))) a + S128x256.size a ≤ S8192x256.size a), (Rect.unit (s := S8192x256) (k0_off440 v8391 (BitVec.ofNat 32 (128 * r.val))) S128x256.size hinb).WholeWords (EltTy.packing .bf16)) ∧
  (∀ a, (k0_off441 v8391) a + S256x256.size a ≤ S8192x256.size a)
theorem k0_off439_inb : ∀ (v8391 : BitVec 32) (k0_hw157 : k0_chk157 v8391), ∀ a, (k0_off439 v8391) a + S1.size a ≤ S32.size a := fun v8391 k0_hw157 => k0_hw157.1
theorem k0_off440_inb : ∀ (v8391 : BitVec 32) (k0_hw157 : k0_chk157 v8391), ∀ (r : Fin 2), ∀ a, (k0_off440 v8391 (BitVec.ofNat 32 (128 * r.val))) a + S128x256.size a ≤ S8192x256.size a := fun v8391 k0_hw157 r => k0_hw157.2.1 r
theorem k0_off440_wordsbf16 : ∀ (v8391 : BitVec 32) (k0_hw157 : k0_chk157 v8391), ∀ (r : Fin 2), (Rect.unit (s := S8192x256) (k0_off440 v8391 (BitVec.ofNat 32 (128 * r.val))) S128x256.size (k0_off440_inb v8391 k0_hw157 r)).WholeWords (EltTy.packing .bf16) := fun v8391 k0_hw157 r => k0_hw157.2.2.1 r (k0_off440_inb v8391 k0_hw157 r)
theorem k0_off441_inb : ∀ (v8391 : BitVec 32) (k0_hw157 : k0_chk157 v8391), ∀ a, (k0_off441 v8391) a + S256x256.size a ≤ S8192x256.size a := fun v8391 k0_hw157 => k0_hw157.2.2.2

def k0_off442 (v8291 : BitVec 32) (c0_i32_6849 : BitVec 32) : Fin 2 → Nat :=
  let c256_i32_6848 : BitVec 32 := 256#32
  let v8305 : BitVec 32 := Scalar.muli v8291 c256_i32_6848
  let v8306 : BitVec 32 := Scalar.addi v8305 c0_i32_6849
  let c0_i32_6936 : BitVec 32 := 0#32
  ![v8306.toNat, 0]

def k0_chk155 (v8291 : BitVec 32) : Prop :=
  (∀ a, (k0_off432 v8291) a + S1.size a ≤ S32.size a) ∧
  (∀ (r : Fin 2), ∀ a, (k0_off433 v8291 (BitVec.ofNat 32 (128 * r.val))) a + S128x256.size a ≤ S8192x256.size a) ∧
  (∀ (r : Fin 2), ∀ (hinb : ∀ a, (k0_off433 v8291 (BitVec.ofNat 32 (128 * r.val))) a + S128x256.size a ≤ S8192x256.size a), (Rect.unit (s := S8192x256) (k0_off433 v8291 (BitVec.ofNat 32 (128 * r.val))) S128x256.size hinb).WholeWords (EltTy.packing .bf16)) ∧
  (∀ a, (k0_off437 v8291) a + S256x256.size a ≤ S8192x256.size a) ∧
  (∀ (r : Fin 2), ∀ a, (k0_off442 v8291 (BitVec.ofNat 32 (128 * r.val))) a + S128x256.size a ≤ S8192x256.size a) ∧
  (∀ (r : Fin 2), ∀ (hinb : ∀ a, (k0_off442 v8291 (BitVec.ofNat 32 (128 * r.val))) a + S128x256.size a ≤ S8192x256.size a), (Rect.unit (s := S8192x256) (k0_off442 v8291 (BitVec.ofNat 32 (128 * r.val))) S128x256.size hinb).WholeWords (EltTy.packing .bf16))
theorem k0_off432_inb : ∀ (v8291 : BitVec 32) (k0_hw155 : k0_chk155 v8291), ∀ a, (k0_off432 v8291) a + S1.size a ≤ S32.size a := fun v8291 k0_hw155 => k0_hw155.1
theorem k0_off433_inb : ∀ (v8291 : BitVec 32) (k0_hw155 : k0_chk155 v8291), ∀ (r : Fin 2), ∀ a, (k0_off433 v8291 (BitVec.ofNat 32 (128 * r.val))) a + S128x256.size a ≤ S8192x256.size a := fun v8291 k0_hw155 r => k0_hw155.2.1 r
theorem k0_off433_wordsbf16 : ∀ (v8291 : BitVec 32) (k0_hw155 : k0_chk155 v8291), ∀ (r : Fin 2), (Rect.unit (s := S8192x256) (k0_off433 v8291 (BitVec.ofNat 32 (128 * r.val))) S128x256.size (k0_off433_inb v8291 k0_hw155 r)).WholeWords (EltTy.packing .bf16) := fun v8291 k0_hw155 r => k0_hw155.2.2.1 r (k0_off433_inb v8291 k0_hw155 r)
theorem k0_off437_inb : ∀ (v8291 : BitVec 32) (k0_hw155 : k0_chk155 v8291), ∀ a, (k0_off437 v8291) a + S256x256.size a ≤ S8192x256.size a := fun v8291 k0_hw155 => k0_hw155.2.2.2.1
theorem k0_off442_inb : ∀ (v8291 : BitVec 32) (k0_hw155 : k0_chk155 v8291), ∀ (r : Fin 2), ∀ a, (k0_off442 v8291 (BitVec.ofNat 32 (128 * r.val))) a + S128x256.size a ≤ S8192x256.size a := fun v8291 k0_hw155 r => k0_hw155.2.2.2.2.1 r
theorem k0_off442_wordsbf16 : ∀ (v8291 : BitVec 32) (k0_hw155 : k0_chk155 v8291), ∀ (r : Fin 2), (Rect.unit (s := S8192x256) (k0_off442 v8291 (BitVec.ofNat 32 (128 * r.val))) S128x256.size (k0_off442_inb v8291 k0_hw155 r)).WholeWords (EltTy.packing .bf16) := fun v8291 k0_hw155 r => k0_hw155.2.2.2.2.2 r (k0_off442_inb v8291 k0_hw155 r)

def k0_off443 (v8160 : BitVec 32) (c0_i32_6787 : BitVec 32) : Fin 2 → Nat :=
  let c256_i32_6786 : BitVec 32 := 256#32
  let v8221 : BitVec 32 := Scalar.muli v8160 c256_i32_6786
  let v8222 : BitVec 32 := Scalar.addi v8221 c0_i32_6787
  let c0_i32_6944 : BitVec 32 := 0#32
  ![v8222.toNat, 0]

def k0_chk154 (v8160 : BitVec 32) : Prop :=
  (∀ a, (k0_off427 v8160) a + S1.size a ≤ S32.size a) ∧
  (∀ (r : Fin 2), ∀ a, (k0_off428 v8160 (BitVec.ofNat 32 (128 * r.val))) a + S128x256.size a ≤ S8192x256.size a) ∧
  (∀ (r : Fin 2), ∀ (hinb : ∀ a, (k0_off428 v8160 (BitVec.ofNat 32 (128 * r.val))) a + S128x256.size a ≤ S8192x256.size a), (Rect.unit (s := S8192x256) (k0_off428 v8160 (BitVec.ofNat 32 (128 * r.val))) S128x256.size hinb).WholeWords (EltTy.packing .bf16)) ∧
  (∀ a, (k0_off431 v8160) a + S256x256.size a ≤ S8192x256.size a) ∧
  (∀ (r : Fin 2), ∀ a, (k0_off443 v8160 (BitVec.ofNat 32 (128 * r.val))) a + S128x256.size a ≤ S8192x256.size a) ∧
  (∀ (r : Fin 2), ∀ (hinb : ∀ a, (k0_off443 v8160 (BitVec.ofNat 32 (128 * r.val))) a + S128x256.size a ≤ S8192x256.size a), (Rect.unit (s := S8192x256) (k0_off443 v8160 (BitVec.ofNat 32 (128 * r.val))) S128x256.size hinb).WholeWords (EltTy.packing .bf16))
theorem k0_off427_inb : ∀ (v8160 : BitVec 32) (k0_hw154 : k0_chk154 v8160), ∀ a, (k0_off427 v8160) a + S1.size a ≤ S32.size a := fun v8160 k0_hw154 => k0_hw154.1
theorem k0_off428_inb : ∀ (v8160 : BitVec 32) (k0_hw154 : k0_chk154 v8160), ∀ (r : Fin 2), ∀ a, (k0_off428 v8160 (BitVec.ofNat 32 (128 * r.val))) a + S128x256.size a ≤ S8192x256.size a := fun v8160 k0_hw154 r => k0_hw154.2.1 r
theorem k0_off428_wordsbf16 : ∀ (v8160 : BitVec 32) (k0_hw154 : k0_chk154 v8160), ∀ (r : Fin 2), (Rect.unit (s := S8192x256) (k0_off428 v8160 (BitVec.ofNat 32 (128 * r.val))) S128x256.size (k0_off428_inb v8160 k0_hw154 r)).WholeWords (EltTy.packing .bf16) := fun v8160 k0_hw154 r => k0_hw154.2.2.1 r (k0_off428_inb v8160 k0_hw154 r)
theorem k0_off431_inb : ∀ (v8160 : BitVec 32) (k0_hw154 : k0_chk154 v8160), ∀ a, (k0_off431 v8160) a + S256x256.size a ≤ S8192x256.size a := fun v8160 k0_hw154 => k0_hw154.2.2.2.1
theorem k0_off443_inb : ∀ (v8160 : BitVec 32) (k0_hw154 : k0_chk154 v8160), ∀ (r : Fin 2), ∀ a, (k0_off443 v8160 (BitVec.ofNat 32 (128 * r.val))) a + S128x256.size a ≤ S8192x256.size a := fun v8160 k0_hw154 r => k0_hw154.2.2.2.2.1 r
theorem k0_off443_wordsbf16 : ∀ (v8160 : BitVec 32) (k0_hw154 : k0_chk154 v8160), ∀ (r : Fin 2), (Rect.unit (s := S8192x256) (k0_off443 v8160 (BitVec.ofNat 32 (128 * r.val))) S128x256.size (k0_off443_inb v8160 k0_hw154 r)).WholeWords (EltTy.packing .bf16) := fun v8160 k0_hw154 r => k0_hw154.2.2.2.2.2 r (k0_off443_inb v8160 k0_hw154 r)

def k0_off444 (v8441 : BitVec 32) : Fin 2 → Nat :=
  let c256_i32_6951 : BitVec 32 := 256#32
  let v8442 : BitVec 32 := Scalar.muli v8441 c256_i32_6951
  let v8443 : Index := Scalar.indexCast v8442
  let c0_6952 : Index := 0#32
  ![v8443.toNat, 0]

def k0_chk158 (v8441 : BitVec 32) : Prop :=
  (∀ a, (k0_off444 v8441) a + S256x256.size a ≤ S8192x256.size a)
theorem k0_off444_inb : ∀ (v8441 : BitVec 32) (k0_hw158 : k0_chk158 v8441), ∀ a, (k0_off444 v8441) a + S256x256.size a ≤ S8192x256.size a := fun v8441 k0_hw158 => k0_hw158

def k0_off445 (v8449 : BitVec 32) : Fin 2 → Nat :=
  let c256_i32_6956 : BitVec 32 := 256#32
  let v8450 : BitVec 32 := Scalar.muli v8449 c256_i32_6956
  let v8451 : Index := Scalar.indexCast v8450
  let c0_6957 : Index := 0#32
  ![v8451.toNat, 0]

def k0_chk159 (v8449 : BitVec 32) : Prop :=
  (∀ a, (k0_off445 v8449) a + S256x256.size a ≤ S8192x256.size a)
theorem k0_off445_inb : ∀ (v8449 : BitVec 32) (k0_hw159 : k0_chk159 v8449), ∀ a, (k0_off445 v8449) a + S256x256.size a ≤ S8192x256.size a := fun v8449 k0_hw159 => k0_hw159

def k0_dev251 (v4 : BitVec 32) : Nat :=
  let c0_i32_6964 : BitVec 32 := 0#32
  let c1_i32_6963 : BitVec 32 := 1#32
  let v8457 : BitVec 32 := Scalar.muli v4 c1_i32_6963
  let v8458 : BitVec 32 := Scalar.addi c0_i32_6964 v8457
  v8458.toNat
def k0_dev252 (v3 : BitVec 32) : Nat :=
  let c0_i32_6971 : BitVec 32 := 0#32
  let c1_i32_6970 : BitVec 32 := 1#32
  let v8465 : BitVec 32 := Scalar.muli v3 c1_i32_6970
  let v8466 : BitVec 32 := Scalar.addi c0_i32_6971 v8465
  v8466.toNat
def k0_off446 (v8481 : BitVec 32) : Fin 2 → Nat :=
  let c256_i32_6988 : BitVec 32 := 256#32
  let v8485 : BitVec 32 := Scalar.muli v8481 c256_i32_6988
  let v8486 : Index := Scalar.indexCast v8485
  let c0_6989 : Index := 0#32
  ![v8486.toNat, 0]

def k0_chk160 (v8481 : BitVec 32) : Prop :=
  (∀ a, (k0_off446 v8481) a + S256x256.size a ≤ S8192x256.size a)
theorem k0_off446_inb : ∀ (v8481 : BitVec 32) (k0_hw160 : k0_chk160 v8481), ∀ a, (k0_off446 v8481) a + S256x256.size a ≤ S8192x256.size a := fun v8481 k0_hw160 => k0_hw160

def k0_dev253 (v4 : BitVec 32) : Nat :=
  let c0_i32_6998 : BitVec 32 := 0#32
  let c1_i32_6997 : BitVec 32 := 1#32
  let v8493 : BitVec 32 := Scalar.muli v4 c1_i32_6997
  let v8494 : BitVec 32 := Scalar.addi c0_i32_6998 v8493
  v8494.toNat
def k0_off447 (v8511 : BitVec 32) : Fin 2 → Nat :=
  let c256_i32_7017 : BitVec 32 := 256#32
  let v8515 : BitVec 32 := Scalar.muli v8511 c256_i32_7017
  let v8516 : Index := Scalar.indexCast v8515
  let c0_7018 : Index := 0#32
  ![v8516.toNat, 0]

def k0_chk161 (v8511 : BitVec 32) : Prop :=
  (∀ a, (k0_off447 v8511) a + S256x256.size a ≤ S8192x256.size a)
theorem k0_off447_inb : ∀ (v8511 : BitVec 32) (k0_hw161 : k0_chk161 v8511), ∀ a, (k0_off447 v8511) a + S256x256.size a ≤ S8192x256.size a := fun v8511 k0_hw161 => k0_hw161

def k0_dev254 (v3 : BitVec 32) : Nat :=
  let c0_i32_7027 : BitVec 32 := 0#32
  let c1_i32_7026 : BitVec 32 := 1#32
  let v8523 : BitVec 32 := Scalar.muli v3 c1_i32_7026
  let v8524 : BitVec 32 := Scalar.addi c0_i32_7027 v8523
  v8524.toNat
def k0_off448 (v8541 : BitVec 32) : Fin 2 → Nat :=
  let c256_i32_7046 : BitVec 32 := 256#32
  let v8545 : BitVec 32 := Scalar.muli v8541 c256_i32_7046
  let v8546 : Index := Scalar.indexCast v8545
  let c0_7047 : Index := 0#32
  ![v8546.toNat, 0]

def k0_chk162 (v8541 : BitVec 32) : Prop :=
  (∀ a, (k0_off448 v8541) a + S256x256.size a ≤ S8192x256.size a)
theorem k0_off448_inb : ∀ (v8541 : BitVec 32) (k0_hw162 : k0_chk162 v8541), ∀ a, (k0_off448 v8541) a + S256x256.size a ≤ S8192x256.size a := fun v8541 k0_hw162 => k0_hw162

def k0_dev255 (v4 : BitVec 32) : Nat :=
  let c0_i32_7062 : BitVec 32 := 0#32
  let c1_i32_7061 : BitVec 32 := 1#32
  let v8557 : BitVec 32 := Scalar.muli v4 c1_i32_7061
  let v8558 : BitVec 32 := Scalar.addi c0_i32_7062 v8557
  v8558.toNat
def k0_off449 (v8575 : BitVec 32) : Fin 2 → Nat :=
  let c256_i32_7081 : BitVec 32 := 256#32
  let v8579 : BitVec 32 := Scalar.muli v8575 c256_i32_7081
  let v8580 : Index := Scalar.indexCast v8579
  let c0_7082 : Index := 0#32
  ![v8580.toNat, 0]

def k0_chk163 (v8575 : BitVec 32) : Prop :=
  (∀ a, (k0_off449 v8575) a + S256x256.size a ≤ S8192x256.size a)
theorem k0_off449_inb : ∀ (v8575 : BitVec 32) (k0_hw163 : k0_chk163 v8575), ∀ a, (k0_off449 v8575) a + S256x256.size a ≤ S8192x256.size a := fun v8575 k0_hw163 => k0_hw163

def k0_dev256 (v3 : BitVec 32) : Nat :=
  let c0_i32_7097 : BitVec 32 := 0#32
  let c1_i32_7096 : BitVec 32 := 1#32
  let v8591 : BitVec 32 := Scalar.muli v3 c1_i32_7096
  let v8592 : BitVec 32 := Scalar.addi c0_i32_7097 v8591
  v8592.toNat
def k0_off450 (v8609 : BitVec 32) : Fin 2 → Nat :=
  let c256_i32_7116 : BitVec 32 := 256#32
  let v8613 : BitVec 32 := Scalar.muli v8609 c256_i32_7116
  let v8614 : Index := Scalar.indexCast v8613
  let c0_7117 : Index := 0#32
  ![v8614.toNat, 0]

def k0_chk164 (v8609 : BitVec 32) : Prop :=
  (∀ a, (k0_off450 v8609) a + S256x256.size a ≤ S8192x256.size a)
theorem k0_off450_inb : ∀ (v8609 : BitVec 32) (k0_hw164 : k0_chk164 v8609), ∀ a, (k0_off450 v8609) a + S256x256.size a ≤ S8192x256.size a := fun v8609 k0_hw164 => k0_hw164

def k0_dev257 (v4 : BitVec 32) : Nat :=
  let c0_i32_7135 : BitVec 32 := 0#32
  let c1_i32_7134 : BitVec 32 := 1#32
  let v8627 : BitVec 32 := Scalar.muli v4 c1_i32_7134
  let v8628 : BitVec 32 := Scalar.addi c0_i32_7135 v8627
  v8628.toNat
def k0_off451 (v8645 : BitVec 32) : Fin 2 → Nat :=
  let c256_i32_7154 : BitVec 32 := 256#32
  let v8649 : BitVec 32 := Scalar.muli v8645 c256_i32_7154
  let v8650 : Index := Scalar.indexCast v8649
  let c0_7155 : Index := 0#32
  ![v8650.toNat, 0]

def k0_chk165 (v8645 : BitVec 32) : Prop :=
  (∀ a, (k0_off451 v8645) a + S256x256.size a ≤ S8192x256.size a)
theorem k0_off451_inb : ∀ (v8645 : BitVec 32) (k0_hw165 : k0_chk165 v8645), ∀ a, (k0_off451 v8645) a + S256x256.size a ≤ S8192x256.size a := fun v8645 k0_hw165 => k0_hw165

def k0_dev258 (v3 : BitVec 32) : Nat :=
  let c0_i32_7173 : BitVec 32 := 0#32
  let c1_i32_7172 : BitVec 32 := 1#32
  let v8663 : BitVec 32 := Scalar.muli v3 c1_i32_7172
  let v8664 : BitVec 32 := Scalar.addi c0_i32_7173 v8663
  v8664.toNat
def k0_off452 (v8681 : BitVec 32) : Fin 2 → Nat :=
  let c256_i32_7192 : BitVec 32 := 256#32
  let v8685 : BitVec 32 := Scalar.muli v8681 c256_i32_7192
  let v8686 : Index := Scalar.indexCast v8685
  let c0_7193 : Index := 0#32
  ![v8686.toNat, 0]

def k0_chk166 (v8681 : BitVec 32) : Prop :=
  (∀ a, (k0_off452 v8681) a + S256x256.size a ≤ S8192x256.size a)
theorem k0_off452_inb : ∀ (v8681 : BitVec 32) (k0_hw166 : k0_chk166 v8681), ∀ a, (k0_off452 v8681) a + S256x256.size a ≤ S8192x256.size a := fun v8681 k0_hw166 => k0_hw166

def k0_dev259 (v4 : BitVec 32) : Nat :=
  let c0_i32_7211 : BitVec 32 := 0#32
  let c1_i32_7210 : BitVec 32 := 1#32
  let v8699 : BitVec 32 := Scalar.muli v4 c1_i32_7210
  let v8700 : BitVec 32 := Scalar.addi c0_i32_7211 v8699
  v8700.toNat
def k0_off453 (v8717 : BitVec 32) : Fin 2 → Nat :=
  let c256_i32_7230 : BitVec 32 := 256#32
  let v8721 : BitVec 32 := Scalar.muli v8717 c256_i32_7230
  let v8722 : Index := Scalar.indexCast v8721
  let c0_7231 : Index := 0#32
  ![v8722.toNat, 0]

def k0_chk167 (v8717 : BitVec 32) : Prop :=
  (∀ a, (k0_off453 v8717) a + S256x256.size a ≤ S8192x256.size a)
theorem k0_off453_inb : ∀ (v8717 : BitVec 32) (k0_hw167 : k0_chk167 v8717), ∀ a, (k0_off453 v8717) a + S256x256.size a ≤ S8192x256.size a := fun v8717 k0_hw167 => k0_hw167

def k0_dev260 (v3 : BitVec 32) : Nat :=
  let c0_i32_7249 : BitVec 32 := 0#32
  let c1_i32_7248 : BitVec 32 := 1#32
  let v8735 : BitVec 32 := Scalar.muli v3 c1_i32_7248
  let v8736 : BitVec 32 := Scalar.addi c0_i32_7249 v8735
  v8736.toNat
def k0_off454 (v8753 : BitVec 32) : Fin 2 → Nat :=
  let c256_i32_7268 : BitVec 32 := 256#32
  let v8757 : BitVec 32 := Scalar.muli v8753 c256_i32_7268
  let v8758 : Index := Scalar.indexCast v8757
  let c0_7269 : Index := 0#32
  ![v8758.toNat, 0]

def k0_chk168 (v8753 : BitVec 32) : Prop :=
  (∀ a, (k0_off454 v8753) a + S256x256.size a ≤ S8192x256.size a)
theorem k0_off454_inb : ∀ (v8753 : BitVec 32) (k0_hw168 : k0_chk168 v8753), ∀ a, (k0_off454 v8753) a + S256x256.size a ≤ S8192x256.size a := fun v8753 k0_hw168 => k0_hw168

def k0_dev261 (v4 : BitVec 32) : Nat :=
  let c0_i32_7287 : BitVec 32 := 0#32
  let c1_i32_7286 : BitVec 32 := 1#32
  let v8771 : BitVec 32 := Scalar.muli v4 c1_i32_7286
  let v8772 : BitVec 32 := Scalar.addi c0_i32_7287 v8771
  v8772.toNat
def k0_off455 (v8789 : BitVec 32) : Fin 2 → Nat :=
  let c256_i32_7306 : BitVec 32 := 256#32
  let v8793 : BitVec 32 := Scalar.muli v8789 c256_i32_7306
  let v8794 : Index := Scalar.indexCast v8793
  let c0_7307 : Index := 0#32
  ![v8794.toNat, 0]

def k0_chk169 (v8789 : BitVec 32) : Prop :=
  (∀ a, (k0_off455 v8789) a + S256x256.size a ≤ S8192x256.size a)
theorem k0_off455_inb : ∀ (v8789 : BitVec 32) (k0_hw169 : k0_chk169 v8789), ∀ a, (k0_off455 v8789) a + S256x256.size a ≤ S8192x256.size a := fun v8789 k0_hw169 => k0_hw169

def k0_dev262 (v3 : BitVec 32) : Nat :=
  let c0_i32_7325 : BitVec 32 := 0#32
  let c1_i32_7324 : BitVec 32 := 1#32
  let v8807 : BitVec 32 := Scalar.muli v3 c1_i32_7324
  let v8808 : BitVec 32 := Scalar.addi c0_i32_7325 v8807
  v8808.toNat
def k0_off456 (v8825 : BitVec 32) : Fin 2 → Nat :=
  let c256_i32_7344 : BitVec 32 := 256#32
  let v8829 : BitVec 32 := Scalar.muli v8825 c256_i32_7344
  let v8830 : Index := Scalar.indexCast v8829
  let c0_7345 : Index := 0#32
  ![v8830.toNat, 0]

def k0_chk170 (v8825 : BitVec 32) : Prop :=
  (∀ a, (k0_off456 v8825) a + S256x256.size a ≤ S8192x256.size a)
theorem k0_off456_inb : ∀ (v8825 : BitVec 32) (k0_hw170 : k0_chk170 v8825), ∀ a, (k0_off456 v8825) a + S256x256.size a ≤ S8192x256.size a := fun v8825 k0_hw170 => k0_hw170

def k0_dev263 (v4 : BitVec 32) : Nat :=
  let c0_i32_7363 : BitVec 32 := 0#32
  let c1_i32_7362 : BitVec 32 := 1#32
  let v8843 : BitVec 32 := Scalar.muli v4 c1_i32_7362
  let v8844 : BitVec 32 := Scalar.addi c0_i32_7363 v8843
  v8844.toNat
def k0_off457 (v8861 : BitVec 32) : Fin 2 → Nat :=
  let c256_i32_7382 : BitVec 32 := 256#32
  let v8865 : BitVec 32 := Scalar.muli v8861 c256_i32_7382
  let v8866 : Index := Scalar.indexCast v8865
  let c0_7383 : Index := 0#32
  ![v8866.toNat, 0]

def k0_chk171 (v8861 : BitVec 32) : Prop :=
  (∀ a, (k0_off457 v8861) a + S256x256.size a ≤ S8192x256.size a)
theorem k0_off457_inb : ∀ (v8861 : BitVec 32) (k0_hw171 : k0_chk171 v8861), ∀ a, (k0_off457 v8861) a + S256x256.size a ≤ S8192x256.size a := fun v8861 k0_hw171 => k0_hw171

def k0_dev264 (v3 : BitVec 32) : Nat :=
  let c0_i32_7401 : BitVec 32 := 0#32
  let c1_i32_7400 : BitVec 32 := 1#32
  let v8879 : BitVec 32 := Scalar.muli v3 c1_i32_7400
  let v8880 : BitVec 32 := Scalar.addi c0_i32_7401 v8879
  v8880.toNat
def k0_off458 (v8897 : BitVec 32) : Fin 2 → Nat :=
  let c256_i32_7420 : BitVec 32 := 256#32
  let v8901 : BitVec 32 := Scalar.muli v8897 c256_i32_7420
  let v8902 : Index := Scalar.indexCast v8901
  let c0_7421 : Index := 0#32
  ![v8902.toNat, 0]

def k0_chk172 (v8897 : BitVec 32) : Prop :=
  (∀ a, (k0_off458 v8897) a + S256x256.size a ≤ S8192x256.size a)
theorem k0_off458_inb : ∀ (v8897 : BitVec 32) (k0_hw172 : k0_chk172 v8897), ∀ a, (k0_off458 v8897) a + S256x256.size a ≤ S8192x256.size a := fun v8897 k0_hw172 => k0_hw172

def k0_dev265 (v4 : BitVec 32) : Nat :=
  let c0_i32_7439 : BitVec 32 := 0#32
  let c1_i32_7438 : BitVec 32 := 1#32
  let v8915 : BitVec 32 := Scalar.muli v4 c1_i32_7438
  let v8916 : BitVec 32 := Scalar.addi c0_i32_7439 v8915
  v8916.toNat
def k0_off459 (v8933 : BitVec 32) : Fin 2 → Nat :=
  let c256_i32_7458 : BitVec 32 := 256#32
  let v8937 : BitVec 32 := Scalar.muli v8933 c256_i32_7458
  let v8938 : Index := Scalar.indexCast v8937
  let c0_7459 : Index := 0#32
  ![v8938.toNat, 0]

def k0_chk173 (v8933 : BitVec 32) : Prop :=
  (∀ a, (k0_off459 v8933) a + S256x256.size a ≤ S8192x256.size a)
theorem k0_off459_inb : ∀ (v8933 : BitVec 32) (k0_hw173 : k0_chk173 v8933), ∀ a, (k0_off459 v8933) a + S256x256.size a ≤ S8192x256.size a := fun v8933 k0_hw173 => k0_hw173

def k0_dev266 (v3 : BitVec 32) : Nat :=
  let c0_i32_7477 : BitVec 32 := 0#32
  let c1_i32_7476 : BitVec 32 := 1#32
  let v8951 : BitVec 32 := Scalar.muli v3 c1_i32_7476
  let v8952 : BitVec 32 := Scalar.addi c0_i32_7477 v8951
  v8952.toNat
def k0_off460 (v8969 : BitVec 32) : Fin 2 → Nat :=
  let c256_i32_7496 : BitVec 32 := 256#32
  let v8973 : BitVec 32 := Scalar.muli v8969 c256_i32_7496
  let v8974 : Index := Scalar.indexCast v8973
  let c0_7497 : Index := 0#32
  ![v8974.toNat, 0]

def k0_chk174 (v8969 : BitVec 32) : Prop :=
  (∀ a, (k0_off460 v8969) a + S256x256.size a ≤ S8192x256.size a)
theorem k0_off460_inb : ∀ (v8969 : BitVec 32) (k0_hw174 : k0_chk174 v8969), ∀ a, (k0_off460 v8969) a + S256x256.size a ≤ S8192x256.size a := fun v8969 k0_hw174 => k0_hw174

def k0_dev267 (v4 : BitVec 32) : Nat :=
  let c0_i32_7515 : BitVec 32 := 0#32
  let c1_i32_7514 : BitVec 32 := 1#32
  let v8987 : BitVec 32 := Scalar.muli v4 c1_i32_7514
  let v8988 : BitVec 32 := Scalar.addi c0_i32_7515 v8987
  v8988.toNat
def k0_off461 (v9005 : BitVec 32) : Fin 2 → Nat :=
  let c256_i32_7534 : BitVec 32 := 256#32
  let v9009 : BitVec 32 := Scalar.muli v9005 c256_i32_7534
  let v9010 : Index := Scalar.indexCast v9009
  let c0_7535 : Index := 0#32
  ![v9010.toNat, 0]

def k0_chk175 (v9005 : BitVec 32) : Prop :=
  (∀ a, (k0_off461 v9005) a + S256x256.size a ≤ S8192x256.size a)
theorem k0_off461_inb : ∀ (v9005 : BitVec 32) (k0_hw175 : k0_chk175 v9005), ∀ a, (k0_off461 v9005) a + S256x256.size a ≤ S8192x256.size a := fun v9005 k0_hw175 => k0_hw175

def k0_dev268 (v3 : BitVec 32) : Nat :=
  let c0_i32_7553 : BitVec 32 := 0#32
  let c1_i32_7552 : BitVec 32 := 1#32
  let v9023 : BitVec 32 := Scalar.muli v3 c1_i32_7552
  let v9024 : BitVec 32 := Scalar.addi c0_i32_7553 v9023
  v9024.toNat
def k0_off462 (v9041 : BitVec 32) : Fin 2 → Nat :=
  let c256_i32_7572 : BitVec 32 := 256#32
  let v9045 : BitVec 32 := Scalar.muli v9041 c256_i32_7572
  let v9046 : Index := Scalar.indexCast v9045
  let c0_7573 : Index := 0#32
  ![v9046.toNat, 0]

def k0_chk176 (v9041 : BitVec 32) : Prop :=
  (∀ a, (k0_off462 v9041) a + S256x256.size a ≤ S8192x256.size a)
theorem k0_off462_inb : ∀ (v9041 : BitVec 32) (k0_hw176 : k0_chk176 v9041), ∀ a, (k0_off462 v9041) a + S256x256.size a ≤ S8192x256.size a := fun v9041 k0_hw176 => k0_hw176

def k0_dev269 (v4 : BitVec 32) : Nat :=
  let c0_i32_7591 : BitVec 32 := 0#32
  let c1_i32_7590 : BitVec 32 := 1#32
  let v9059 : BitVec 32 := Scalar.muli v4 c1_i32_7590
  let v9060 : BitVec 32 := Scalar.addi c0_i32_7591 v9059
  v9060.toNat
def k0_off463 (v9077 : BitVec 32) : Fin 2 → Nat :=
  let c256_i32_7610 : BitVec 32 := 256#32
  let v9081 : BitVec 32 := Scalar.muli v9077 c256_i32_7610
  let v9082 : Index := Scalar.indexCast v9081
  let c0_7611 : Index := 0#32
  ![v9082.toNat, 0]

def k0_chk177 (v9077 : BitVec 32) : Prop :=
  (∀ a, (k0_off463 v9077) a + S256x256.size a ≤ S8192x256.size a)
theorem k0_off463_inb : ∀ (v9077 : BitVec 32) (k0_hw177 : k0_chk177 v9077), ∀ a, (k0_off463 v9077) a + S256x256.size a ≤ S8192x256.size a := fun v9077 k0_hw177 => k0_hw177

def k0_dev270 (v3 : BitVec 32) : Nat :=
  let c0_i32_7629 : BitVec 32 := 0#32
  let c1_i32_7628 : BitVec 32 := 1#32
  let v9095 : BitVec 32 := Scalar.muli v3 c1_i32_7628
  let v9096 : BitVec 32 := Scalar.addi c0_i32_7629 v9095
  v9096.toNat
def k0_off464 (v9113 : BitVec 32) : Fin 2 → Nat :=
  let c256_i32_7648 : BitVec 32 := 256#32
  let v9117 : BitVec 32 := Scalar.muli v9113 c256_i32_7648
  let v9118 : Index := Scalar.indexCast v9117
  let c0_7649 : Index := 0#32
  ![v9118.toNat, 0]

def k0_chk178 (v9113 : BitVec 32) : Prop :=
  (∀ a, (k0_off464 v9113) a + S256x256.size a ≤ S8192x256.size a)
theorem k0_off464_inb : ∀ (v9113 : BitVec 32) (k0_hw178 : k0_chk178 v9113), ∀ a, (k0_off464 v9113) a + S256x256.size a ≤ S8192x256.size a := fun v9113 k0_hw178 => k0_hw178

def k0_dev271 (v4 : BitVec 32) : Nat :=
  let c0_i32_7667 : BitVec 32 := 0#32
  let c1_i32_7666 : BitVec 32 := 1#32
  let v9131 : BitVec 32 := Scalar.muli v4 c1_i32_7666
  let v9132 : BitVec 32 := Scalar.addi c0_i32_7667 v9131
  v9132.toNat
def k0_off465 (v9149 : BitVec 32) : Fin 2 → Nat :=
  let c256_i32_7686 : BitVec 32 := 256#32
  let v9153 : BitVec 32 := Scalar.muli v9149 c256_i32_7686
  let v9154 : Index := Scalar.indexCast v9153
  let c0_7687 : Index := 0#32
  ![v9154.toNat, 0]

def k0_chk179 (v9149 : BitVec 32) : Prop :=
  (∀ a, (k0_off465 v9149) a + S256x256.size a ≤ S8192x256.size a)
theorem k0_off465_inb : ∀ (v9149 : BitVec 32) (k0_hw179 : k0_chk179 v9149), ∀ a, (k0_off465 v9149) a + S256x256.size a ≤ S8192x256.size a := fun v9149 k0_hw179 => k0_hw179

def k0_dev272 (v3 : BitVec 32) : Nat :=
  let c0_i32_7705 : BitVec 32 := 0#32
  let c1_i32_7704 : BitVec 32 := 1#32
  let v9167 : BitVec 32 := Scalar.muli v3 c1_i32_7704
  let v9168 : BitVec 32 := Scalar.addi c0_i32_7705 v9167
  v9168.toNat
def k0_off466 (v9185 : BitVec 32) : Fin 2 → Nat :=
  let c256_i32_7724 : BitVec 32 := 256#32
  let v9189 : BitVec 32 := Scalar.muli v9185 c256_i32_7724
  let v9190 : Index := Scalar.indexCast v9189
  let c0_7725 : Index := 0#32
  ![v9190.toNat, 0]

def k0_chk180 (v9185 : BitVec 32) : Prop :=
  (∀ a, (k0_off466 v9185) a + S256x256.size a ≤ S8192x256.size a)
theorem k0_off466_inb : ∀ (v9185 : BitVec 32) (k0_hw180 : k0_chk180 v9185), ∀ a, (k0_off466 v9185) a + S256x256.size a ≤ S8192x256.size a := fun v9185 k0_hw180 => k0_hw180

def k0_dev273 (v4 : BitVec 32) : Nat :=
  let c0_i32_7743 : BitVec 32 := 0#32
  let c1_i32_7742 : BitVec 32 := 1#32
  let v9203 : BitVec 32 := Scalar.muli v4 c1_i32_7742
  let v9204 : BitVec 32 := Scalar.addi c0_i32_7743 v9203
  v9204.toNat
def k0_off467 (v9221 : BitVec 32) : Fin 2 → Nat :=
  let c256_i32_7762 : BitVec 32 := 256#32
  let v9225 : BitVec 32 := Scalar.muli v9221 c256_i32_7762
  let v9226 : Index := Scalar.indexCast v9225
  let c0_7763 : Index := 0#32
  ![v9226.toNat, 0]

def k0_chk181 (v9221 : BitVec 32) : Prop :=
  (∀ a, (k0_off467 v9221) a + S256x256.size a ≤ S8192x256.size a)
theorem k0_off467_inb : ∀ (v9221 : BitVec 32) (k0_hw181 : k0_chk181 v9221), ∀ a, (k0_off467 v9221) a + S256x256.size a ≤ S8192x256.size a := fun v9221 k0_hw181 => k0_hw181

def k0_dev274 (v3 : BitVec 32) : Nat :=
  let c0_i32_7781 : BitVec 32 := 0#32
  let c1_i32_7780 : BitVec 32 := 1#32
  let v9239 : BitVec 32 := Scalar.muli v3 c1_i32_7780
  let v9240 : BitVec 32 := Scalar.addi c0_i32_7781 v9239
  v9240.toNat
def k0_off468 (v9257 : BitVec 32) : Fin 2 → Nat :=
  let c256_i32_7800 : BitVec 32 := 256#32
  let v9261 : BitVec 32 := Scalar.muli v9257 c256_i32_7800
  let v9262 : Index := Scalar.indexCast v9261
  let c0_7801 : Index := 0#32
  ![v9262.toNat, 0]

def k0_chk182 (v9257 : BitVec 32) : Prop :=
  (∀ a, (k0_off468 v9257) a + S256x256.size a ≤ S8192x256.size a)
theorem k0_off468_inb : ∀ (v9257 : BitVec 32) (k0_hw182 : k0_chk182 v9257), ∀ a, (k0_off468 v9257) a + S256x256.size a ≤ S8192x256.size a := fun v9257 k0_hw182 => k0_hw182

def k0_dev275 (v4 : BitVec 32) : Nat :=
  let c0_i32_7819 : BitVec 32 := 0#32
  let c1_i32_7818 : BitVec 32 := 1#32
  let v9275 : BitVec 32 := Scalar.muli v4 c1_i32_7818
  let v9276 : BitVec 32 := Scalar.addi c0_i32_7819 v9275
  v9276.toNat
def k0_off469 (v9293 : BitVec 32) : Fin 2 → Nat :=
  let c256_i32_7838 : BitVec 32 := 256#32
  let v9297 : BitVec 32 := Scalar.muli v9293 c256_i32_7838
  let v9298 : Index := Scalar.indexCast v9297
  let c0_7839 : Index := 0#32
  ![v9298.toNat, 0]

def k0_chk183 (v9293 : BitVec 32) : Prop :=
  (∀ a, (k0_off469 v9293) a + S256x256.size a ≤ S8192x256.size a)
theorem k0_off469_inb : ∀ (v9293 : BitVec 32) (k0_hw183 : k0_chk183 v9293), ∀ a, (k0_off469 v9293) a + S256x256.size a ≤ S8192x256.size a := fun v9293 k0_hw183 => k0_hw183

def k0_dev276 (v3 : BitVec 32) : Nat :=
  let c0_i32_7857 : BitVec 32 := 0#32
  let c1_i32_7856 : BitVec 32 := 1#32
  let v9311 : BitVec 32 := Scalar.muli v3 c1_i32_7856
  let v9312 : BitVec 32 := Scalar.addi c0_i32_7857 v9311
  v9312.toNat
def k0_off470 (v9329 : BitVec 32) : Fin 2 → Nat :=
  let c256_i32_7876 : BitVec 32 := 256#32
  let v9333 : BitVec 32 := Scalar.muli v9329 c256_i32_7876
  let v9334 : Index := Scalar.indexCast v9333
  let c0_7877 : Index := 0#32
  ![v9334.toNat, 0]

def k0_chk184 (v9329 : BitVec 32) : Prop :=
  (∀ a, (k0_off470 v9329) a + S256x256.size a ≤ S8192x256.size a)
theorem k0_off470_inb : ∀ (v9329 : BitVec 32) (k0_hw184 : k0_chk184 v9329), ∀ a, (k0_off470 v9329) a + S256x256.size a ≤ S8192x256.size a := fun v9329 k0_hw184 => k0_hw184

def k0_dev277 (v4 : BitVec 32) : Nat :=
  let c0_i32_7895 : BitVec 32 := 0#32
  let c1_i32_7894 : BitVec 32 := 1#32
  let v9347 : BitVec 32 := Scalar.muli v4 c1_i32_7894
  let v9348 : BitVec 32 := Scalar.addi c0_i32_7895 v9347
  v9348.toNat
def k0_off471 (v9365 : BitVec 32) : Fin 2 → Nat :=
  let c256_i32_7914 : BitVec 32 := 256#32
  let v9369 : BitVec 32 := Scalar.muli v9365 c256_i32_7914
  let v9370 : Index := Scalar.indexCast v9369
  let c0_7915 : Index := 0#32
  ![v9370.toNat, 0]

def k0_chk185 (v9365 : BitVec 32) : Prop :=
  (∀ a, (k0_off471 v9365) a + S256x256.size a ≤ S8192x256.size a)
theorem k0_off471_inb : ∀ (v9365 : BitVec 32) (k0_hw185 : k0_chk185 v9365), ∀ a, (k0_off471 v9365) a + S256x256.size a ≤ S8192x256.size a := fun v9365 k0_hw185 => k0_hw185

def k0_dev278 (v3 : BitVec 32) : Nat :=
  let c0_i32_7933 : BitVec 32 := 0#32
  let c1_i32_7932 : BitVec 32 := 1#32
  let v9383 : BitVec 32 := Scalar.muli v3 c1_i32_7932
  let v9384 : BitVec 32 := Scalar.addi c0_i32_7933 v9383
  v9384.toNat
def k0_off472 (v9401 : BitVec 32) : Fin 2 → Nat :=
  let c256_i32_7952 : BitVec 32 := 256#32
  let v9405 : BitVec 32 := Scalar.muli v9401 c256_i32_7952
  let v9406 : Index := Scalar.indexCast v9405
  let c0_7953 : Index := 0#32
  ![v9406.toNat, 0]

def k0_chk186 (v9401 : BitVec 32) : Prop :=
  (∀ a, (k0_off472 v9401) a + S256x256.size a ≤ S8192x256.size a)
theorem k0_off472_inb : ∀ (v9401 : BitVec 32) (k0_hw186 : k0_chk186 v9401), ∀ a, (k0_off472 v9401) a + S256x256.size a ≤ S8192x256.size a := fun v9401 k0_hw186 => k0_hw186

def k0_dev279 (v4 : BitVec 32) : Nat :=
  let c0_i32_7971 : BitVec 32 := 0#32
  let c1_i32_7970 : BitVec 32 := 1#32
  let v9419 : BitVec 32 := Scalar.muli v4 c1_i32_7970
  let v9420 : BitVec 32 := Scalar.addi c0_i32_7971 v9419
  v9420.toNat
def k0_off473 (v9437 : BitVec 32) : Fin 2 → Nat :=
  let c256_i32_7990 : BitVec 32 := 256#32
  let v9441 : BitVec 32 := Scalar.muli v9437 c256_i32_7990
  let v9442 : Index := Scalar.indexCast v9441
  let c0_7991 : Index := 0#32
  ![v9442.toNat, 0]

def k0_chk187 (v9437 : BitVec 32) : Prop :=
  (∀ a, (k0_off473 v9437) a + S256x256.size a ≤ S8192x256.size a)
theorem k0_off473_inb : ∀ (v9437 : BitVec 32) (k0_hw187 : k0_chk187 v9437), ∀ a, (k0_off473 v9437) a + S256x256.size a ≤ S8192x256.size a := fun v9437 k0_hw187 => k0_hw187

def k0_dev280 (v3 : BitVec 32) : Nat :=
  let c0_i32_8009 : BitVec 32 := 0#32
  let c1_i32_8008 : BitVec 32 := 1#32
  let v9455 : BitVec 32 := Scalar.muli v3 c1_i32_8008
  let v9456 : BitVec 32 := Scalar.addi c0_i32_8009 v9455
  v9456.toNat

def k0_chk1_0 (v3 : BitVec 32) : Prop :=
  ((k0_dev1 v3) < nD) ∧
  ((k0_dev5 v3) < nD) ∧
  ((k0_dev6 v3) < nD) ∧
  ((k0_dev9 v3) < nD) ∧
  ((k0_dev10 v3) < nD) ∧
  ((k0_dev13 v3) < nD) ∧
  ((k0_dev14 v3) < nD) ∧
  ((k0_dev17 v3) < nD) ∧
  ((k0_dev18 v3) < nD) ∧
  ((k0_dev21 v3) < nD) ∧
  ((k0_dev22 v3) < nD) ∧
  ((k0_dev25 v3) < nD) ∧
  ((k0_dev26 v3) < nD) ∧
  ((k0_dev29 v3) < nD) ∧
  ((k0_dev30 v3) < nD) ∧
  ((k0_dev33 v3) < nD) ∧
  ((k0_dev34 v3) < nD) ∧
  ((k0_dev37 v3) < nD) ∧
  ((k0_dev38 v3) < nD) ∧
  ((k0_dev41 v3) < nD) ∧
  ((k0_dev42 v3) < nD) ∧
  ((k0_dev45 v3) < nD) ∧
  ((k0_dev46 v3) < nD) ∧
  ((k0_dev49 v3) < nD) ∧
  ((k0_dev50 v3) < nD) ∧
  ((k0_dev53 v3) < nD) ∧
  ((k0_dev54 v3) < nD) ∧
  ((k0_dev57 v3) < nD) ∧
  ((k0_dev58 v3) < nD) ∧
  ((k0_dev61 v3) < nD) ∧
  ((k0_dev62 v3) < nD) ∧
  ((k0_dev66 v3) < nD)
def k0_chk1_1 (v3 : BitVec 32) : Prop :=
  ((k0_dev68 v3) < nD) ∧
  ((k0_dev70 v3) < nD) ∧
  ((k0_dev72 v3) < nD) ∧
  ((k0_dev74 v3) < nD) ∧
  ((k0_dev76 v3) < nD) ∧
  ((k0_dev78 v3) < nD) ∧
  ((k0_dev80 v3) < nD) ∧
  ((k0_dev82 v3) < nD) ∧
  ((k0_dev84 v3) < nD) ∧
  ((k0_dev86 v3) < nD) ∧
  ((k0_dev88 v3) < nD) ∧
  ((k0_dev90 v3) < nD) ∧
  ((k0_dev92 v3) < nD) ∧
  ((k0_dev94 v3) < nD) ∧
  ((k0_dev98 v3) < nD) ∧
  ((k0_dev99 v3) < nD) ∧
  ((k0_dev102 v3) < nD) ∧
  ((k0_dev103 v3) < nD) ∧
  ((k0_dev106 v3) < nD) ∧
  ((k0_dev107 v3) < nD) ∧
  ((k0_dev110 v3) < nD) ∧
  ((k0_dev111 v3) < nD) ∧
  ((k0_dev114 v3) < nD) ∧
  ((k0_dev115 v3) < nD) ∧
  ((k0_dev118 v3) < nD) ∧
  ((k0_dev119 v3) < nD) ∧
  ((k0_dev122 v3) < nD) ∧
  ((k0_dev123 v3) < nD) ∧
  ((k0_dev126 v3) < nD) ∧
  ((k0_dev127 v3) < nD) ∧
  ((k0_dev130 v3) < nD) ∧
  ((k0_dev131 v3) < nD)
def k0_chk1_2 (v3 : BitVec 32) : Prop :=
  ((k0_dev134 v3) < nD) ∧
  ((k0_dev135 v3) < nD) ∧
  ((k0_dev138 v3) < nD) ∧
  ((k0_dev139 v3) < nD) ∧
  ((k0_dev142 v3) < nD) ∧
  ((k0_dev143 v3) < nD) ∧
  ((k0_dev146 v3) < nD) ∧
  ((k0_dev147 v3) < nD) ∧
  ((k0_dev150 v3) < nD) ∧
  ((k0_dev151 v3) < nD) ∧
  ((k0_dev154 v3) < nD) ∧
  ((k0_dev155 v3) < nD) ∧
  ((k0_dev159 v3) < nD) ∧
  ((k0_dev161 v3) < nD) ∧
  ((k0_dev163 v3) < nD) ∧
  ((k0_dev165 v3) < nD) ∧
  ((k0_dev167 v3) < nD) ∧
  ((k0_dev169 v3) < nD) ∧
  ((k0_dev171 v3) < nD) ∧
  ((k0_dev173 v3) < nD) ∧
  ((k0_dev175 v3) < nD) ∧
  ((k0_dev177 v3) < nD) ∧
  ((k0_dev179 v3) < nD) ∧
  ((k0_dev181 v3) < nD) ∧
  ((k0_dev183 v3) < nD) ∧
  ((k0_dev185 v3) < nD) ∧
  ((k0_dev187 v3) < nD) ∧
  ((k0_dev191 v3) < nD) ∧
  ((k0_dev192 v3) < nD) ∧
  ((k0_dev195 v3) < nD) ∧
  ((k0_dev196 v3) < nD) ∧
  ((k0_dev199 v3) < nD)
def k0_chk1_3 (v3 : BitVec 32) : Prop :=
  ((k0_dev200 v3) < nD) ∧
  ((k0_dev203 v3) < nD) ∧
  ((k0_dev204 v3) < nD) ∧
  ((k0_dev207 v3) < nD) ∧
  ((k0_dev208 v3) < nD) ∧
  ((k0_dev211 v3) < nD) ∧
  ((k0_dev212 v3) < nD) ∧
  ((k0_dev215 v3) < nD) ∧
  ((k0_dev216 v3) < nD) ∧
  ((k0_dev219 v3) < nD) ∧
  ((k0_dev220 v3) < nD) ∧
  ((k0_dev223 v3) < nD) ∧
  ((k0_dev224 v3) < nD) ∧
  ((k0_dev227 v3) < nD) ∧
  ((k0_dev228 v3) < nD) ∧
  ((k0_dev231 v3) < nD) ∧
  ((k0_dev232 v3) < nD) ∧
  ((k0_dev235 v3) < nD) ∧
  ((k0_dev236 v3) < nD) ∧
  ((k0_dev239 v3) < nD) ∧
  ((k0_dev240 v3) < nD) ∧
  ((k0_dev243 v3) < nD) ∧
  ((k0_dev244 v3) < nD) ∧
  ((k0_dev247 v3) < nD) ∧
  ((k0_dev248 v3) < nD) ∧
  ((k0_dev252 v3) < nD) ∧
  ((k0_dev254 v3) < nD) ∧
  ((k0_dev256 v3) < nD) ∧
  ((k0_dev258 v3) < nD) ∧
  ((k0_dev260 v3) < nD) ∧
  ((k0_dev262 v3) < nD) ∧
  ((k0_dev264 v3) < nD)
def k0_chk1_4 (v3 : BitVec 32) : Prop :=
  ((k0_dev266 v3) < nD) ∧
  ((k0_dev268 v3) < nD) ∧
  ((k0_dev270 v3) < nD) ∧
  ((k0_dev272 v3) < nD) ∧
  ((k0_dev274 v3) < nD) ∧
  ((k0_dev276 v3) < nD) ∧
  ((k0_dev278 v3) < nD) ∧
  ((k0_dev280 v3) < nD)
def k0_chk1 (v3 : BitVec 32) : Prop :=
  k0_chk1_0 v3 ∧
  k0_chk1_1 v3 ∧
  k0_chk1_2 v3 ∧
  k0_chk1_3 v3 ∧
  k0_chk1_4 v3
theorem k0_dev1_lt : ∀ (v3 : BitVec 32) (k0_hw1 : k0_chk1 v3), (k0_dev1 v3) < nD := fun v3 k0_hw1 => k0_hw1.1.1
theorem k0_dev5_lt : ∀ (v3 : BitVec 32) (k0_hw1 : k0_chk1 v3), (k0_dev5 v3) < nD := fun v3 k0_hw1 => k0_hw1.1.2.1
theorem k0_dev6_lt : ∀ (v3 : BitVec 32) (k0_hw1 : k0_chk1 v3), (k0_dev6 v3) < nD := fun v3 k0_hw1 => k0_hw1.1.2.2.1
theorem k0_dev9_lt : ∀ (v3 : BitVec 32) (k0_hw1 : k0_chk1 v3), (k0_dev9 v3) < nD := fun v3 k0_hw1 => k0_hw1.1.2.2.2.1
theorem k0_dev10_lt : ∀ (v3 : BitVec 32) (k0_hw1 : k0_chk1 v3), (k0_dev10 v3) < nD := fun v3 k0_hw1 => k0_hw1.1.2.2.2.2.1
theorem k0_dev13_lt : ∀ (v3 : BitVec 32) (k0_hw1 : k0_chk1 v3), (k0_dev13 v3) < nD := fun v3 k0_hw1 => k0_hw1.1.2.2.2.2.2.1
theorem k0_dev14_lt : ∀ (v3 : BitVec 32) (k0_hw1 : k0_chk1 v3), (k0_dev14 v3) < nD := fun v3 k0_hw1 => k0_hw1.1.2.2.2.2.2.2.1
theorem k0_dev17_lt : ∀ (v3 : BitVec 32) (k0_hw1 : k0_chk1 v3), (k0_dev17 v3) < nD := fun v3 k0_hw1 => k0_hw1.1.2.2.2.2.2.2.2.1
theorem k0_dev18_lt : ∀ (v3 : BitVec 32) (k0_hw1 : k0_chk1 v3), (k0_dev18 v3) < nD := fun v3 k0_hw1 => k0_hw1.1.2.2.2.2.2.2.2.2.1
theorem k0_dev21_lt : ∀ (v3 : BitVec 32) (k0_hw1 : k0_chk1 v3), (k0_dev21 v3) < nD := fun v3 k0_hw1 => k0_hw1.1.2.2.2.2.2.2.2.2.2.1
theorem k0_dev22_lt : ∀ (v3 : BitVec 32) (k0_hw1 : k0_chk1 v3), (k0_dev22 v3) < nD := fun v3 k0_hw1 => k0_hw1.1.2.2.2.2.2.2.2.2.2.2.1
theorem k0_dev25_lt : ∀ (v3 : BitVec 32) (k0_hw1 : k0_chk1 v3), (k0_dev25 v3) < nD := fun v3 k0_hw1 => k0_hw1.1.2.2.2.2.2.2.2.2.2.2.2.1
theorem k0_dev26_lt : ∀ (v3 : BitVec 32) (k0_hw1 : k0_chk1 v3), (k0_dev26 v3) < nD := fun v3 k0_hw1 => k0_hw1.1.2.2.2.2.2.2.2.2.2.2.2.2.1
theorem k0_dev29_lt : ∀ (v3 : BitVec 32) (k0_hw1 : k0_chk1 v3), (k0_dev29 v3) < nD := fun v3 k0_hw1 => k0_hw1.1.2.2.2.2.2.2.2.2.2.2.2.2.2.1
theorem k0_dev30_lt : ∀ (v3 : BitVec 32) (k0_hw1 : k0_chk1 v3), (k0_dev30 v3) < nD := fun v3 k0_hw1 => k0_hw1.1.2.2.2.2.2.2.2.2.2.2.2.2.2.2.1
theorem k0_dev33_lt : ∀ (v3 : BitVec 32) (k0_hw1 : k0_chk1 v3), (k0_dev33 v3) < nD := fun v3 k0_hw1 => k0_hw1.1.2.2.2.2.2.2.2.2.2.2.2.2.2.2.2.1
theorem k0_dev34_lt : ∀ (v3 : BitVec 32) (k0_hw1 : k0_chk1 v3), (k0_dev34 v3) < nD := fun v3 k0_hw1 => k0_hw1.1.2.2.2.2.2.2.2.2.2.2.2.2.2.2.2.2.1
theorem k0_dev37_lt : ∀ (v3 : BitVec 32) (k0_hw1 : k0_chk1 v3), (k0_dev37 v3) < nD := fun v3 k0_hw1 => k0_hw1.1.2.2.2.2.2.2.2.2.2.2.2.2.2.2.2.2.2.1
theorem k0_dev38_lt : ∀ (v3 : BitVec 32) (k0_hw1 : k0_chk1 v3), (k0_dev38 v3) < nD := fun v3 k0_hw1 => k0_hw1.1.2.2.2.2.2.2.2.2.2.2.2.2.2.2.2.2.2.2.1
theorem k0_dev41_lt : ∀ (v3 : BitVec 32) (k0_hw1 : k0_chk1 v3), (k0_dev41 v3) < nD := fun v3 k0_hw1 => k0_hw1.1.2.2.2.2.2.2.2.2.2.2.2.2.2.2.2.2.2.2.2.1
theorem k0_dev42_lt : ∀ (v3 : BitVec 32) (k0_hw1 : k0_chk1 v3), (k0_dev42 v3) < nD := fun v3 k0_hw1 => k0_hw1.1.2.2.2.2.2.2.2.2.2.2.2.2.2.2.2.2.2.2.2.2.1
theorem k0_dev45_lt : ∀ (v3 : BitVec 32) (k0_hw1 : k0_chk1 v3), (k0_dev45 v3) < nD := fun v3 k0_hw1 => k0_hw1.1.2.2.2.2.2.2.2.2.2.2.2.2.2.2.2.2.2.2.2.2.2.1
theorem k0_dev46_lt : ∀ (v3 : BitVec 32) (k0_hw1 : k0_chk1 v3), (k0_dev46 v3) < nD := fun v3 k0_hw1 => k0_hw1.1.2.2.2.2.2.2.2.2.2.2.2.2.2.2.2.2.2.2.2.2.2.2.1
theorem k0_dev49_lt : ∀ (v3 : BitVec 32) (k0_hw1 : k0_chk1 v3), (k0_dev49 v3) < nD := fun v3 k0_hw1 => k0_hw1.1.2.2.2.2.2.2.2.2.2.2.2.2.2.2.2.2.2.2.2.2.2.2.2.1
theorem k0_dev50_lt : ∀ (v3 : BitVec 32) (k0_hw1 : k0_chk1 v3), (k0_dev50 v3) < nD := fun v3 k0_hw1 => k0_hw1.1.2.2.2.2.2.2.2.2.2.2.2.2.2.2.2.2.2.2.2.2.2.2.2.2.1
theorem k0_dev53_lt : ∀ (v3 : BitVec 32) (k0_hw1 : k0_chk1 v3), (k0_dev53 v3) < nD := fun v3 k0_hw1 => k0_hw1.1.2.2.2.2.2.2.2.2.2.2.2.2.2.2.2.2.2.2.2.2.2.2.2.2.2.1
theorem k0_dev54_lt : ∀ (v3 : BitVec 32) (k0_hw1 : k0_chk1 v3), (k0_dev54 v3) < nD := fun v3 k0_hw1 => k0_hw1.1.2.2.2.2.2.2.2.2.2.2.2.2.2.2.2.2.2.2.2.2.2.2.2.2.2.2.1
theorem k0_dev57_lt : ∀ (v3 : BitVec 32) (k0_hw1 : k0_chk1 v3), (k0_dev57 v3) < nD := fun v3 k0_hw1 => k0_hw1.1.2.2.2.2.2.2.2.2.2.2.2.2.2.2.2.2.2.2.2.2.2.2.2.2.2.2.2.1
theorem k0_dev58_lt : ∀ (v3 : BitVec 32) (k0_hw1 : k0_chk1 v3), (k0_dev58 v3) < nD := fun v3 k0_hw1 => k0_hw1.1.2.2.2.2.2.2.2.2.2.2.2.2.2.2.2.2.2.2.2.2.2.2.2.2.2.2.2.2.1
theorem k0_dev61_lt : ∀ (v3 : BitVec 32) (k0_hw1 : k0_chk1 v3), (k0_dev61 v3) < nD := fun v3 k0_hw1 => k0_hw1.1.2.2.2.2.2.2.2.2.2.2.2.2.2.2.2.2.2.2.2.2.2.2.2.2.2.2.2.2.2.1
theorem k0_dev62_lt : ∀ (v3 : BitVec 32) (k0_hw1 : k0_chk1 v3), (k0_dev62 v3) < nD := fun v3 k0_hw1 => k0_hw1.1.2.2.2.2.2.2.2.2.2.2.2.2.2.2.2.2.2.2.2.2.2.2.2.2.2.2.2.2.2.2.1
theorem k0_dev66_lt : ∀ (v3 : BitVec 32) (k0_hw1 : k0_chk1 v3), (k0_dev66 v3) < nD := fun v3 k0_hw1 => k0_hw1.1.2.2.2.2.2.2.2.2.2.2.2.2.2.2.2.2.2.2.2.2.2.2.2.2.2.2.2.2.2.2.2
theorem k0_dev68_lt : ∀ (v3 : BitVec 32) (k0_hw1 : k0_chk1 v3), (k0_dev68 v3) < nD := fun v3 k0_hw1 => k0_hw1.2.1.1
theorem k0_dev70_lt : ∀ (v3 : BitVec 32) (k0_hw1 : k0_chk1 v3), (k0_dev70 v3) < nD := fun v3 k0_hw1 => k0_hw1.2.1.2.1
theorem k0_dev72_lt : ∀ (v3 : BitVec 32) (k0_hw1 : k0_chk1 v3), (k0_dev72 v3) < nD := fun v3 k0_hw1 => k0_hw1.2.1.2.2.1
theorem k0_dev74_lt : ∀ (v3 : BitVec 32) (k0_hw1 : k0_chk1 v3), (k0_dev74 v3) < nD := fun v3 k0_hw1 => k0_hw1.2.1.2.2.2.1
theorem k0_dev76_lt : ∀ (v3 : BitVec 32) (k0_hw1 : k0_chk1 v3), (k0_dev76 v3) < nD := fun v3 k0_hw1 => k0_hw1.2.1.2.2.2.2.1
theorem k0_dev78_lt : ∀ (v3 : BitVec 32) (k0_hw1 : k0_chk1 v3), (k0_dev78 v3) < nD := fun v3 k0_hw1 => k0_hw1.2.1.2.2.2.2.2.1
theorem k0_dev80_lt : ∀ (v3 : BitVec 32) (k0_hw1 : k0_chk1 v3), (k0_dev80 v3) < nD := fun v3 k0_hw1 => k0_hw1.2.1.2.2.2.2.2.2.1
theorem k0_dev82_lt : ∀ (v3 : BitVec 32) (k0_hw1 : k0_chk1 v3), (k0_dev82 v3) < nD := fun v3 k0_hw1 => k0_hw1.2.1.2.2.2.2.2.2.2.1
theorem k0_dev84_lt : ∀ (v3 : BitVec 32) (k0_hw1 : k0_chk1 v3), (k0_dev84 v3) < nD := fun v3 k0_hw1 => k0_hw1.2.1.2.2.2.2.2.2.2.2.1
theorem k0_dev86_lt : ∀ (v3 : BitVec 32) (k0_hw1 : k0_chk1 v3), (k0_dev86 v3) < nD := fun v3 k0_hw1 => k0_hw1.2.1.2.2.2.2.2.2.2.2.2.1
theorem k0_dev88_lt : ∀ (v3 : BitVec 32) (k0_hw1 : k0_chk1 v3), (k0_dev88 v3) < nD := fun v3 k0_hw1 => k0_hw1.2.1.2.2.2.2.2.2.2.2.2.2.1
theorem k0_dev90_lt : ∀ (v3 : BitVec 32) (k0_hw1 : k0_chk1 v3), (k0_dev90 v3) < nD := fun v3 k0_hw1 => k0_hw1.2.1.2.2.2.2.2.2.2.2.2.2.2.1
theorem k0_dev92_lt : ∀ (v3 : BitVec 32) (k0_hw1 : k0_chk1 v3), (k0_dev92 v3) < nD := fun v3 k0_hw1 => k0_hw1.2.1.2.2.2.2.2.2.2.2.2.2.2.2.1
theorem k0_dev94_lt : ∀ (v3 : BitVec 32) (k0_hw1 : k0_chk1 v3), (k0_dev94 v3) < nD := fun v3 k0_hw1 => k0_hw1.2.1.2.2.2.2.2.2.2.2.2.2.2.2.2.1
theorem k0_dev98_lt : ∀ (v3 : BitVec 32) (k0_hw1 : k0_chk1 v3), (k0_dev98 v3) < nD := fun v3 k0_hw1 => k0_hw1.2.1.2.2.2.2.2.2.2.2.2.2.2.2.2.2.1
theorem k0_dev99_lt : ∀ (v3 : BitVec 32) (k0_hw1 : k0_chk1 v3), (k0_dev99 v3) < nD := fun v3 k0_hw1 => k0_hw1.2.1.2.2.2.2.2.2.2.2.2.2.2.2.2.2.2.1
theorem k0_dev102_lt : ∀ (v3 : BitVec 32) (k0_hw1 : k0_chk1 v3), (k0_dev102 v3) < nD := fun v3 k0_hw1 => k0_hw1.2.1.2.2.2.2.2.2.2.2.2.2.2.2.2.2.2.2.1
theorem k0_dev103_lt : ∀ (v3 : BitVec 32) (k0_hw1 : k0_chk1 v3), (k0_dev103 v3) < nD := fun v3 k0_hw1 => k0_hw1.2.1.2.2.2.2.2.2.2.2.2.2.2.2.2.2.2.2.2.1
theorem k0_dev106_lt : ∀ (v3 : BitVec 32) (k0_hw1 : k0_chk1 v3), (k0_dev106 v3) < nD := fun v3 k0_hw1 => k0_hw1.2.1.2.2.2.2.2.2.2.2.2.2.2.2.2.2.2.2.2.2.1
theorem k0_dev107_lt : ∀ (v3 : BitVec 32) (k0_hw1 : k0_chk1 v3), (k0_dev107 v3) < nD := fun v3 k0_hw1 => k0_hw1.2.1.2.2.2.2.2.2.2.2.2.2.2.2.2.2.2.2.2.2.2.1
theorem k0_dev110_lt : ∀ (v3 : BitVec 32) (k0_hw1 : k0_chk1 v3), (k0_dev110 v3) < nD := fun v3 k0_hw1 => k0_hw1.2.1.2.2.2.2.2.2.2.2.2.2.2.2.2.2.2.2.2.2.2.2.1
theorem k0_dev111_lt : ∀ (v3 : BitVec 32) (k0_hw1 : k0_chk1 v3), (k0_dev111 v3) < nD := fun v3 k0_hw1 => k0_hw1.2.1.2.2.2.2.2.2.2.2.2.2.2.2.2.2.2.2.2.2.2.2.2.1
theorem k0_dev114_lt : ∀ (v3 : BitVec 32) (k0_hw1 : k0_chk1 v3), (k0_dev114 v3) < nD := fun v3 k0_hw1 => k0_hw1.2.1.2.2.2.2.2.2.2.2.2.2.2.2.2.2.2.2.2.2.2.2.2.2.1
theorem k0_dev115_lt : ∀ (v3 : BitVec 32) (k0_hw1 : k0_chk1 v3), (k0_dev115 v3) < nD := fun v3 k0_hw1 => k0_hw1.2.1.2.2.2.2.2.2.2.2.2.2.2.2.2.2.2.2.2.2.2.2.2.2.2.1
theorem k0_dev118_lt : ∀ (v3 : BitVec 32) (k0_hw1 : k0_chk1 v3), (k0_dev118 v3) < nD := fun v3 k0_hw1 => k0_hw1.2.1.2.2.2.2.2.2.2.2.2.2.2.2.2.2.2.2.2.2.2.2.2.2.2.2.1
theorem k0_dev119_lt : ∀ (v3 : BitVec 32) (k0_hw1 : k0_chk1 v3), (k0_dev119 v3) < nD := fun v3 k0_hw1 => k0_hw1.2.1.2.2.2.2.2.2.2.2.2.2.2.2.2.2.2.2.2.2.2.2.2.2.2.2.2.1
theorem k0_dev122_lt : ∀ (v3 : BitVec 32) (k0_hw1 : k0_chk1 v3), (k0_dev122 v3) < nD := fun v3 k0_hw1 => k0_hw1.2.1.2.2.2.2.2.2.2.2.2.2.2.2.2.2.2.2.2.2.2.2.2.2.2.2.2.2.1
theorem k0_dev123_lt : ∀ (v3 : BitVec 32) (k0_hw1 : k0_chk1 v3), (k0_dev123 v3) < nD := fun v3 k0_hw1 => k0_hw1.2.1.2.2.2.2.2.2.2.2.2.2.2.2.2.2.2.2.2.2.2.2.2.2.2.2.2.2.2.1
theorem k0_dev126_lt : ∀ (v3 : BitVec 32) (k0_hw1 : k0_chk1 v3), (k0_dev126 v3) < nD := fun v3 k0_hw1 => k0_hw1.2.1.2.2.2.2.2.2.2.2.2.2.2.2.2.2.2.2.2.2.2.2.2.2.2.2.2.2.2.2.1
theorem k0_dev127_lt : ∀ (v3 : BitVec 32) (k0_hw1 : k0_chk1 v3), (k0_dev127 v3) < nD := fun v3 k0_hw1 => k0_hw1.2.1.2.2.2.2.2.2.2.2.2.2.2.2.2.2.2.2.2.2.2.2.2.2.2.2.2.2.2.2.2.1
theorem k0_dev130_lt : ∀ (v3 : BitVec 32) (k0_hw1 : k0_chk1 v3), (k0_dev130 v3) < nD := fun v3 k0_hw1 => k0_hw1.2.1.2.2.2.2.2.2.2.2.2.2.2.2.2.2.2.2.2.2.2.2.2.2.2.2.2.2.2.2.2.2.1
theorem k0_dev131_lt : ∀ (v3 : BitVec 32) (k0_hw1 : k0_chk1 v3), (k0_dev131 v3) < nD := fun v3 k0_hw1 => k0_hw1.2.1.2.2.2.2.2.2.2.2.2.2.2.2.2.2.2.2.2.2.2.2.2.2.2.2.2.2.2.2.2.2.2
theorem k0_dev134_lt : ∀ (v3 : BitVec 32) (k0_hw1 : k0_chk1 v3), (k0_dev134 v3) < nD := fun v3 k0_hw1 => k0_hw1.2.2.1.1
theorem k0_dev135_lt : ∀ (v3 : BitVec 32) (k0_hw1 : k0_chk1 v3), (k0_dev135 v3) < nD := fun v3 k0_hw1 => k0_hw1.2.2.1.2.1
theorem k0_dev138_lt : ∀ (v3 : BitVec 32) (k0_hw1 : k0_chk1 v3), (k0_dev138 v3) < nD := fun v3 k0_hw1 => k0_hw1.2.2.1.2.2.1
theorem k0_dev139_lt : ∀ (v3 : BitVec 32) (k0_hw1 : k0_chk1 v3), (k0_dev139 v3) < nD := fun v3 k0_hw1 => k0_hw1.2.2.1.2.2.2.1
theorem k0_dev142_lt : ∀ (v3 : BitVec 32) (k0_hw1 : k0_chk1 v3), (k0_dev142 v3) < nD := fun v3 k0_hw1 => k0_hw1.2.2.1.2.2.2.2.1
theorem k0_dev143_lt : ∀ (v3 : BitVec 32) (k0_hw1 : k0_chk1 v3), (k0_dev143 v3) < nD := fun v3 k0_hw1 => k0_hw1.2.2.1.2.2.2.2.2.1
theorem k0_dev146_lt : ∀ (v3 : BitVec 32) (k0_hw1 : k0_chk1 v3), (k0_dev146 v3) < nD := fun v3 k0_hw1 => k0_hw1.2.2.1.2.2.2.2.2.2.1
theorem k0_dev147_lt : ∀ (v3 : BitVec 32) (k0_hw1 : k0_chk1 v3), (k0_dev147 v3) < nD := fun v3 k0_hw1 => k0_hw1.2.2.1.2.2.2.2.2.2.2.1
theorem k0_dev150_lt : ∀ (v3 : BitVec 32) (k0_hw1 : k0_chk1 v3), (k0_dev150 v3) < nD := fun v3 k0_hw1 => k0_hw1.2.2.1.2.2.2.2.2.2.2.2.1
theorem k0_dev151_lt : ∀ (v3 : BitVec 32) (k0_hw1 : k0_chk1 v3), (k0_dev151 v3) < nD := fun v3 k0_hw1 => k0_hw1.2.2.1.2.2.2.2.2.2.2.2.2.1
theorem k0_dev154_lt : ∀ (v3 : BitVec 32) (k0_hw1 : k0_chk1 v3), (k0_dev154 v3) < nD := fun v3 k0_hw1 => k0_hw1.2.2.1.2.2.2.2.2.2.2.2.2.2.1
theorem k0_dev155_lt : ∀ (v3 : BitVec 32) (k0_hw1 : k0_chk1 v3), (k0_dev155 v3) < nD := fun v3 k0_hw1 => k0_hw1.2.2.1.2.2.2.2.2.2.2.2.2.2.2.1
theorem k0_dev159_lt : ∀ (v3 : BitVec 32) (k0_hw1 : k0_chk1 v3), (k0_dev159 v3) < nD := fun v3 k0_hw1 => k0_hw1.2.2.1.2.2.2.2.2.2.2.2.2.2.2.2.1
theorem k0_dev161_lt : ∀ (v3 : BitVec 32) (k0_hw1 : k0_chk1 v3), (k0_dev161 v3) < nD := fun v3 k0_hw1 => k0_hw1.2.2.1.2.2.2.2.2.2.2.2.2.2.2.2.2.1
theorem k0_dev163_lt : ∀ (v3 : BitVec 32) (k0_hw1 : k0_chk1 v3), (k0_dev163 v3) < nD := fun v3 k0_hw1 => k0_hw1.2.2.1.2.2.2.2.2.2.2.2.2.2.2.2.2.2.1
theorem k0_dev165_lt : ∀ (v3 : BitVec 32) (k0_hw1 : k0_chk1 v3), (k0_dev165 v3) < nD := fun v3 k0_hw1 => k0_hw1.2.2.1.2.2.2.2.2.2.2.2.2.2.2.2.2.2.2.1
theorem k0_dev167_lt : ∀ (v3 : BitVec 32) (k0_hw1 : k0_chk1 v3), (k0_dev167 v3) < nD := fun v3 k0_hw1 => k0_hw1.2.2.1.2.2.2.2.2.2.2.2.2.2.2.2.2.2.2.2.1
theorem k0_dev169_lt : ∀ (v3 : BitVec 32) (k0_hw1 : k0_chk1 v3), (k0_dev169 v3) < nD := fun v3 k0_hw1 => k0_hw1.2.2.1.2.2.2.2.2.2.2.2.2.2.2.2.2.2.2.2.2.1
theorem k0_dev171_lt : ∀ (v3 : BitVec 32) (k0_hw1 : k0_chk1 v3), (k0_dev171 v3) < nD := fun v3 k0_hw1 => k0_hw1.2.2.1.2.2.2.2.2.2.2.2.2.2.2.2.2.2.2.2.2.2.1
theorem k0_dev173_lt : ∀ (v3 : BitVec 32) (k0_hw1 : k0_chk1 v3), (k0_dev173 v3) < nD := fun v3 k0_hw1 => k0_hw1.2.2.1.2.2.2.2.2.2.2.2.2.2.2.2.2.2.2.2.2.2.2.1
theorem k0_dev175_lt : ∀ (v3 : BitVec 32) (k0_hw1 : k0_chk1 v3), (k0_dev175 v3) < nD := fun v3 k0_hw1 => k0_hw1.2.2.1.2.2.2.2.2.2.2.2.2.2.2.2.2.2.2.2.2.2.2.2.1
theorem k0_dev177_lt : ∀ (v3 : BitVec 32) (k0_hw1 : k0_chk1 v3), (k0_dev177 v3) < nD := fun v3 k0_hw1 => k0_hw1.2.2.1.2.2.2.2.2.2.2.2.2.2.2.2.2.2.2.2.2.2.2.2.2.1
theorem k0_dev179_lt : ∀ (v3 : BitVec 32) (k0_hw1 : k0_chk1 v3), (k0_dev179 v3) < nD := fun v3 k0_hw1 => k0_hw1.2.2.1.2.2.2.2.2.2.2.2.2.2.2.2.2.2.2.2.2.2.2.2.2.2.1
theorem k0_dev181_lt : ∀ (v3 : BitVec 32) (k0_hw1 : k0_chk1 v3), (k0_dev181 v3) < nD := fun v3 k0_hw1 => k0_hw1.2.2.1.2.2.2.2.2.2.2.2.2.2.2.2.2.2.2.2.2.2.2.2.2.2.2.1
theorem k0_dev183_lt : ∀ (v3 : BitVec 32) (k0_hw1 : k0_chk1 v3), (k0_dev183 v3) < nD := fun v3 k0_hw1 => k0_hw1.2.2.1.2.2.2.2.2.2.2.2.2.2.2.2.2.2.2.2.2.2.2.2.2.2.2.2.1
theorem k0_dev185_lt : ∀ (v3 : BitVec 32) (k0_hw1 : k0_chk1 v3), (k0_dev185 v3) < nD := fun v3 k0_hw1 => k0_hw1.2.2.1.2.2.2.2.2.2.2.2.2.2.2.2.2.2.2.2.2.2.2.2.2.2.2.2.2.1
theorem k0_dev187_lt : ∀ (v3 : BitVec 32) (k0_hw1 : k0_chk1 v3), (k0_dev187 v3) < nD := fun v3 k0_hw1 => k0_hw1.2.2.1.2.2.2.2.2.2.2.2.2.2.2.2.2.2.2.2.2.2.2.2.2.2.2.2.2.2.1
theorem k0_dev191_lt : ∀ (v3 : BitVec 32) (k0_hw1 : k0_chk1 v3), (k0_dev191 v3) < nD := fun v3 k0_hw1 => k0_hw1.2.2.1.2.2.2.2.2.2.2.2.2.2.2.2.2.2.2.2.2.2.2.2.2.2.2.2.2.2.2.1
theorem k0_dev192_lt : ∀ (v3 : BitVec 32) (k0_hw1 : k0_chk1 v3), (k0_dev192 v3) < nD := fun v3 k0_hw1 => k0_hw1.2.2.1.2.2.2.2.2.2.2.2.2.2.2.2.2.2.2.2.2.2.2.2.2.2.2.2.2.2.2.2.1
theorem k0_dev195_lt : ∀ (v3 : BitVec 32) (k0_hw1 : k0_chk1 v3), (k0_dev195 v3) < nD := fun v3 k0_hw1 => k0_hw1.2.2.1.2.2.2.2.2.2.2.2.2.2.2.2.2.2.2.2.2.2.2.2.2.2.2.2.2.2.2.2.2.1
theorem k0_dev196_lt : ∀ (v3 : BitVec 32) (k0_hw1 : k0_chk1 v3), (k0_dev196 v3) < nD := fun v3 k0_hw1 => k0_hw1.2.2.1.2.2.2.2.2.2.2.2.2.2.2.2.2.2.2.2.2.2.2.2.2.2.2.2.2.2.2.2.2.2.1
theorem k0_dev199_lt : ∀ (v3 : BitVec 32) (k0_hw1 : k0_chk1 v3), (k0_dev199 v3) < nD := fun v3 k0_hw1 => k0_hw1.2.2.1.2.2.2.2.2.2.2.2.2.2.2.2.2.2.2.2.2.2.2.2.2.2.2.2.2.2.2.2.2.2.2
theorem k0_dev200_lt : ∀ (v3 : BitVec 32) (k0_hw1 : k0_chk1 v3), (k0_dev200 v3) < nD := fun v3 k0_hw1 => k0_hw1.2.2.2.1.1
theorem k0_dev203_lt : ∀ (v3 : BitVec 32) (k0_hw1 : k0_chk1 v3), (k0_dev203 v3) < nD := fun v3 k0_hw1 => k0_hw1.2.2.2.1.2.1
theorem k0_dev204_lt : ∀ (v3 : BitVec 32) (k0_hw1 : k0_chk1 v3), (k0_dev204 v3) < nD := fun v3 k0_hw1 => k0_hw1.2.2.2.1.2.2.1
theorem k0_dev207_lt : ∀ (v3 : BitVec 32) (k0_hw1 : k0_chk1 v3), (k0_dev207 v3) < nD := fun v3 k0_hw1 => k0_hw1.2.2.2.1.2.2.2.1
theorem k0_dev208_lt : ∀ (v3 : BitVec 32) (k0_hw1 : k0_chk1 v3), (k0_dev208 v3) < nD := fun v3 k0_hw1 => k0_hw1.2.2.2.1.2.2.2.2.1
theorem k0_dev211_lt : ∀ (v3 : BitVec 32) (k0_hw1 : k0_chk1 v3), (k0_dev211 v3) < nD := fun v3 k0_hw1 => k0_hw1.2.2.2.1.2.2.2.2.2.1
theorem k0_dev212_lt : ∀ (v3 : BitVec 32) (k0_hw1 : k0_chk1 v3), (k0_dev212 v3) < nD := fun v3 k0_hw1 => k0_hw1.2.2.2.1.2.2.2.2.2.2.1
theorem k0_dev215_lt : ∀ (v3 : BitVec 32) (k0_hw1 : k0_chk1 v3), (k0_dev215 v3) < nD := fun v3 k0_hw1 => k0_hw1.2.2.2.1.2.2.2.2.2.2.2.1
theorem k0_dev216_lt : ∀ (v3 : BitVec 32) (k0_hw1 : k0_chk1 v3), (k0_dev216 v3) < nD := fun v3 k0_hw1 => k0_hw1.2.2.2.1.2.2.2.2.2.2.2.2.1
theorem k0_dev219_lt : ∀ (v3 : BitVec 32) (k0_hw1 : k0_chk1 v3), (k0_dev219 v3) < nD := fun v3 k0_hw1 => k0_hw1.2.2.2.1.2.2.2.2.2.2.2.2.2.1
theorem k0_dev220_lt : ∀ (v3 : BitVec 32) (k0_hw1 : k0_chk1 v3), (k0_dev220 v3) < nD := fun v3 k0_hw1 => k0_hw1.2.2.2.1.2.2.2.2.2.2.2.2.2.2.1
theorem k0_dev223_lt : ∀ (v3 : BitVec 32) (k0_hw1 : k0_chk1 v3), (k0_dev223 v3) < nD := fun v3 k0_hw1 => k0_hw1.2.2.2.1.2.2.2.2.2.2.2.2.2.2.2.1
theorem k0_dev224_lt : ∀ (v3 : BitVec 32) (k0_hw1 : k0_chk1 v3), (k0_dev224 v3) < nD := fun v3 k0_hw1 => k0_hw1.2.2.2.1.2.2.2.2.2.2.2.2.2.2.2.2.1
theorem k0_dev227_lt : ∀ (v3 : BitVec 32) (k0_hw1 : k0_chk1 v3), (k0_dev227 v3) < nD := fun v3 k0_hw1 => k0_hw1.2.2.2.1.2.2.2.2.2.2.2.2.2.2.2.2.2.1
theorem k0_dev228_lt : ∀ (v3 : BitVec 32) (k0_hw1 : k0_chk1 v3), (k0_dev228 v3) < nD := fun v3 k0_hw1 => k0_hw1.2.2.2.1.2.2.2.2.2.2.2.2.2.2.2.2.2.2.1
theorem k0_dev231_lt : ∀ (v3 : BitVec 32) (k0_hw1 : k0_chk1 v3), (k0_dev231 v3) < nD := fun v3 k0_hw1 => k0_hw1.2.2.2.1.2.2.2.2.2.2.2.2.2.2.2.2.2.2.2.1
theorem k0_dev232_lt : ∀ (v3 : BitVec 32) (k0_hw1 : k0_chk1 v3), (k0_dev232 v3) < nD := fun v3 k0_hw1 => k0_hw1.2.2.2.1.2.2.2.2.2.2.2.2.2.2.2.2.2.2.2.2.1
theorem k0_dev235_lt : ∀ (v3 : BitVec 32) (k0_hw1 : k0_chk1 v3), (k0_dev235 v3) < nD := fun v3 k0_hw1 => k0_hw1.2.2.2.1.2.2.2.2.2.2.2.2.2.2.2.2.2.2.2.2.2.1
theorem k0_dev236_lt : ∀ (v3 : BitVec 32) (k0_hw1 : k0_chk1 v3), (k0_dev236 v3) < nD := fun v3 k0_hw1 => k0_hw1.2.2.2.1.2.2.2.2.2.2.2.2.2.2.2.2.2.2.2.2.2.2.1
theorem k0_dev239_lt : ∀ (v3 : BitVec 32) (k0_hw1 : k0_chk1 v3), (k0_dev239 v3) < nD := fun v3 k0_hw1 => k0_hw1.2.2.2.1.2.2.2.2.2.2.2.2.2.2.2.2.2.2.2.2.2.2.2.1
theorem k0_dev240_lt : ∀ (v3 : BitVec 32) (k0_hw1 : k0_chk1 v3), (k0_dev240 v3) < nD := fun v3 k0_hw1 => k0_hw1.2.2.2.1.2.2.2.2.2.2.2.2.2.2.2.2.2.2.2.2.2.2.2.2.1
theorem k0_dev243_lt : ∀ (v3 : BitVec 32) (k0_hw1 : k0_chk1 v3), (k0_dev243 v3) < nD := fun v3 k0_hw1 => k0_hw1.2.2.2.1.2.2.2.2.2.2.2.2.2.2.2.2.2.2.2.2.2.2.2.2.2.1
theorem k0_dev244_lt : ∀ (v3 : BitVec 32) (k0_hw1 : k0_chk1 v3), (k0_dev244 v3) < nD := fun v3 k0_hw1 => k0_hw1.2.2.2.1.2.2.2.2.2.2.2.2.2.2.2.2.2.2.2.2.2.2.2.2.2.2.1
theorem k0_dev247_lt : ∀ (v3 : BitVec 32) (k0_hw1 : k0_chk1 v3), (k0_dev247 v3) < nD := fun v3 k0_hw1 => k0_hw1.2.2.2.1.2.2.2.2.2.2.2.2.2.2.2.2.2.2.2.2.2.2.2.2.2.2.2.1
theorem k0_dev248_lt : ∀ (v3 : BitVec 32) (k0_hw1 : k0_chk1 v3), (k0_dev248 v3) < nD := fun v3 k0_hw1 => k0_hw1.2.2.2.1.2.2.2.2.2.2.2.2.2.2.2.2.2.2.2.2.2.2.2.2.2.2.2.2.1
theorem k0_dev252_lt : ∀ (v3 : BitVec 32) (k0_hw1 : k0_chk1 v3), (k0_dev252 v3) < nD := fun v3 k0_hw1 => k0_hw1.2.2.2.1.2.2.2.2.2.2.2.2.2.2.2.2.2.2.2.2.2.2.2.2.2.2.2.2.2.1
theorem k0_dev254_lt : ∀ (v3 : BitVec 32) (k0_hw1 : k0_chk1 v3), (k0_dev254 v3) < nD := fun v3 k0_hw1 => k0_hw1.2.2.2.1.2.2.2.2.2.2.2.2.2.2.2.2.2.2.2.2.2.2.2.2.2.2.2.2.2.2.1
theorem k0_dev256_lt : ∀ (v3 : BitVec 32) (k0_hw1 : k0_chk1 v3), (k0_dev256 v3) < nD := fun v3 k0_hw1 => k0_hw1.2.2.2.1.2.2.2.2.2.2.2.2.2.2.2.2.2.2.2.2.2.2.2.2.2.2.2.2.2.2.2.1
theorem k0_dev258_lt : ∀ (v3 : BitVec 32) (k0_hw1 : k0_chk1 v3), (k0_dev258 v3) < nD := fun v3 k0_hw1 => k0_hw1.2.2.2.1.2.2.2.2.2.2.2.2.2.2.2.2.2.2.2.2.2.2.2.2.2.2.2.2.2.2.2.2.1
theorem k0_dev260_lt : ∀ (v3 : BitVec 32) (k0_hw1 : k0_chk1 v3), (k0_dev260 v3) < nD := fun v3 k0_hw1 => k0_hw1.2.2.2.1.2.2.2.2.2.2.2.2.2.2.2.2.2.2.2.2.2.2.2.2.2.2.2.2.2.2.2.2.2.1
theorem k0_dev262_lt : ∀ (v3 : BitVec 32) (k0_hw1 : k0_chk1 v3), (k0_dev262 v3) < nD := fun v3 k0_hw1 => k0_hw1.2.2.2.1.2.2.2.2.2.2.2.2.2.2.2.2.2.2.2.2.2.2.2.2.2.2.2.2.2.2.2.2.2.2.1
theorem k0_dev264_lt : ∀ (v3 : BitVec 32) (k0_hw1 : k0_chk1 v3), (k0_dev264 v3) < nD := fun v3 k0_hw1 => k0_hw1.2.2.2.1.2.2.2.2.2.2.2.2.2.2.2.2.2.2.2.2.2.2.2.2.2.2.2.2.2.2.2.2.2.2.2
theorem k0_dev266_lt : ∀ (v3 : BitVec 32) (k0_hw1 : k0_chk1 v3), (k0_dev266 v3) < nD := fun v3 k0_hw1 => k0_hw1.2.2.2.2.1
theorem k0_dev268_lt : ∀ (v3 : BitVec 32) (k0_hw1 : k0_chk1 v3), (k0_dev268 v3) < nD := fun v3 k0_hw1 => k0_hw1.2.2.2.2.2.1
theorem k0_dev270_lt : ∀ (v3 : BitVec 32) (k0_hw1 : k0_chk1 v3), (k0_dev270 v3) < nD := fun v3 k0_hw1 => k0_hw1.2.2.2.2.2.2.1
theorem k0_dev272_lt : ∀ (v3 : BitVec 32) (k0_hw1 : k0_chk1 v3), (k0_dev272 v3) < nD := fun v3 k0_hw1 => k0_hw1.2.2.2.2.2.2.2.1
theorem k0_dev274_lt : ∀ (v3 : BitVec 32) (k0_hw1 : k0_chk1 v3), (k0_dev274 v3) < nD := fun v3 k0_hw1 => k0_hw1.2.2.2.2.2.2.2.2.1
theorem k0_dev276_lt : ∀ (v3 : BitVec 32) (k0_hw1 : k0_chk1 v3), (k0_dev276 v3) < nD := fun v3 k0_hw1 => k0_hw1.2.2.2.2.2.2.2.2.2.1
theorem k0_dev278_lt : ∀ (v3 : BitVec 32) (k0_hw1 : k0_chk1 v3), (k0_dev278 v3) < nD := fun v3 k0_hw1 => k0_hw1.2.2.2.2.2.2.2.2.2.2.1
theorem k0_dev280_lt : ∀ (v3 : BitVec 32) (k0_hw1 : k0_chk1 v3), (k0_dev280 v3) < nD := fun v3 k0_hw1 => k0_hw1.2.2.2.2.2.2.2.2.2.2.2

def k0_off474 (v9473 : BitVec 32) : Fin 2 → Nat :=
  let c256_i32_8028 : BitVec 32 := 256#32
  let v9477 : BitVec 32 := Scalar.muli v9473 c256_i32_8028
  let v9478 : Index := Scalar.indexCast v9477
  let c0_8029 : Index := 0#32
  ![v9478.toNat, 0]

def k0_chk188 (v9473 : BitVec 32) : Prop :=
  (∀ a, (k0_off474 v9473) a + S256x256.size a ≤ S8192x256.size a)
theorem k0_off474_inb : ∀ (v9473 : BitVec 32) (k0_hw188 : k0_chk188 v9473), ∀ a, (k0_off474 v9473) a + S256x256.size a ≤ S8192x256.size a := fun v9473 k0_hw188 => k0_hw188

def k0_dev281 (v4 : BitVec 32) : Nat :=
  let c0_i32_8047 : BitVec 32 := 0#32
  let c1_i32_8046 : BitVec 32 := 1#32
  let v9491 : BitVec 32 := Scalar.muli v4 c1_i32_8046
  let v9492 : BitVec 32 := Scalar.addi c0_i32_8047 v9491
  v9492.toNat

def k0_chk2_0 (v4 : BitVec 32) : Prop :=
  ((k0_dev2 v4) < nD) ∧
  ((k0_dev3 v4) < nD) ∧
  ((k0_dev4 v4) < nD) ∧
  ((k0_dev7 v4) < nD) ∧
  ((k0_dev8 v4) < nD) ∧
  ((k0_dev11 v4) < nD) ∧
  ((k0_dev12 v4) < nD) ∧
  ((k0_dev15 v4) < nD) ∧
  ((k0_dev16 v4) < nD) ∧
  ((k0_dev19 v4) < nD) ∧
  ((k0_dev20 v4) < nD) ∧
  ((k0_dev23 v4) < nD) ∧
  ((k0_dev24 v4) < nD) ∧
  ((k0_dev27 v4) < nD) ∧
  ((k0_dev28 v4) < nD) ∧
  ((k0_dev31 v4) < nD) ∧
  ((k0_dev32 v4) < nD) ∧
  ((k0_dev35 v4) < nD) ∧
  ((k0_dev36 v4) < nD) ∧
  ((k0_dev39 v4) < nD) ∧
  ((k0_dev40 v4) < nD) ∧
  ((k0_dev43 v4) < nD) ∧
  ((k0_dev44 v4) < nD) ∧
  ((k0_dev47 v4) < nD) ∧
  ((k0_dev48 v4) < nD) ∧
  ((k0_dev51 v4) < nD) ∧
  ((k0_dev52 v4) < nD) ∧
  ((k0_dev55 v4) < nD) ∧
  ((k0_dev56 v4) < nD) ∧
  ((k0_dev59 v4) < nD) ∧
  ((k0_dev60 v4) < nD) ∧
  ((k0_dev63 v4) < nD)
def k0_chk2_1 (v4 : BitVec 32) : Prop :=
  ((k0_dev64 v4) < nD) ∧
  ((k0_dev65 v4) < nD) ∧
  ((k0_dev67 v4) < nD) ∧
  ((k0_dev69 v4) < nD) ∧
  ((k0_dev71 v4) < nD) ∧
  ((k0_dev73 v4) < nD) ∧
  ((k0_dev75 v4) < nD) ∧
  ((k0_dev77 v4) < nD) ∧
  ((k0_dev79 v4) < nD) ∧
  ((k0_dev81 v4) < nD) ∧
  ((k0_dev83 v4) < nD) ∧
  ((k0_dev85 v4) < nD) ∧
  ((k0_dev87 v4) < nD) ∧
  ((k0_dev89 v4) < nD) ∧
  ((k0_dev91 v4) < nD) ∧
  ((k0_dev93 v4) < nD) ∧
  ((k0_dev95 v4) < nD) ∧
  ((k0_dev96 v4) < nD) ∧
  ((k0_dev97 v4) < nD) ∧
  ((k0_dev100 v4) < nD) ∧
  ((k0_dev101 v4) < nD) ∧
  ((k0_dev104 v4) < nD) ∧
  ((k0_dev105 v4) < nD) ∧
  ((k0_dev108 v4) < nD) ∧
  ((k0_dev109 v4) < nD) ∧
  ((k0_dev112 v4) < nD) ∧
  ((k0_dev113 v4) < nD) ∧
  ((k0_dev116 v4) < nD) ∧
  ((k0_dev117 v4) < nD) ∧
  ((k0_dev120 v4) < nD) ∧
  ((k0_dev121 v4) < nD) ∧
  ((k0_dev124 v4) < nD)
def k0_chk2_2 (v4 : BitVec 32) : Prop :=
  ((k0_dev125 v4) < nD) ∧
  ((k0_dev128 v4) < nD) ∧
  ((k0_dev129 v4) < nD) ∧
  ((k0_dev132 v4) < nD) ∧
  ((k0_dev133 v4) < nD) ∧
  ((k0_dev136 v4) < nD) ∧
  ((k0_dev137 v4) < nD) ∧
  ((k0_dev140 v4) < nD) ∧
  ((k0_dev141 v4) < nD) ∧
  ((k0_dev144 v4) < nD) ∧
  ((k0_dev145 v4) < nD) ∧
  ((k0_dev148 v4) < nD) ∧
  ((k0_dev149 v4) < nD) ∧
  ((k0_dev152 v4) < nD) ∧
  ((k0_dev153 v4) < nD) ∧
  ((k0_dev156 v4) < nD) ∧
  ((k0_dev157 v4) < nD) ∧
  ((k0_dev158 v4) < nD) ∧
  ((k0_dev160 v4) < nD) ∧
  ((k0_dev162 v4) < nD) ∧
  ((k0_dev164 v4) < nD) ∧
  ((k0_dev166 v4) < nD) ∧
  ((k0_dev168 v4) < nD) ∧
  ((k0_dev170 v4) < nD) ∧
  ((k0_dev172 v4) < nD) ∧
  ((k0_dev174 v4) < nD) ∧
  ((k0_dev176 v4) < nD) ∧
  ((k0_dev178 v4) < nD) ∧
  ((k0_dev180 v4) < nD) ∧
  ((k0_dev182 v4) < nD) ∧
  ((k0_dev184 v4) < nD) ∧
  ((k0_dev186 v4) < nD)
def k0_chk2_3 (v4 : BitVec 32) : Prop :=
  ((k0_dev188 v4) < nD) ∧
  ((k0_dev189 v4) < nD) ∧
  ((k0_dev190 v4) < nD) ∧
  ((k0_dev193 v4) < nD) ∧
  ((k0_dev194 v4) < nD) ∧
  ((k0_dev197 v4) < nD) ∧
  ((k0_dev198 v4) < nD) ∧
  ((k0_dev201 v4) < nD) ∧
  ((k0_dev202 v4) < nD) ∧
  ((k0_dev205 v4) < nD) ∧
  ((k0_dev206 v4) < nD) ∧
  ((k0_dev209 v4) < nD) ∧
  ((k0_dev210 v4) < nD) ∧
  ((k0_dev213 v4) < nD) ∧
  ((k0_dev214 v4) < nD) ∧
  ((k0_dev217 v4) < nD) ∧
  ((k0_dev218 v4) < nD) ∧
  ((k0_dev221 v4) < nD) ∧
  ((k0_dev222 v4) < nD) ∧
  ((k0_dev225 v4) < nD) ∧
  ((k0_dev226 v4) < nD) ∧
  ((k0_dev229 v4) < nD) ∧
  ((k0_dev230 v4) < nD) ∧
  ((k0_dev233 v4) < nD) ∧
  ((k0_dev234 v4) < nD) ∧
  ((k0_dev237 v4) < nD) ∧
  ((k0_dev238 v4) < nD) ∧
  ((k0_dev241 v4) < nD) ∧
  ((k0_dev242 v4) < nD) ∧
  ((k0_dev245 v4) < nD) ∧
  ((k0_dev246 v4) < nD) ∧
  ((k0_dev249 v4) < nD)
def k0_chk2_4 (v4 : BitVec 32) : Prop :=
  ((k0_dev250 v4) < nD) ∧
  ((k0_dev251 v4) < nD) ∧
  ((k0_dev253 v4) < nD) ∧
  ((k0_dev255 v4) < nD) ∧
  ((k0_dev257 v4) < nD) ∧
  ((k0_dev259 v4) < nD) ∧
  ((k0_dev261 v4) < nD) ∧
  ((k0_dev263 v4) < nD) ∧
  ((k0_dev265 v4) < nD) ∧
  ((k0_dev267 v4) < nD) ∧
  ((k0_dev269 v4) < nD) ∧
  ((k0_dev271 v4) < nD) ∧
  ((k0_dev273 v4) < nD) ∧
  ((k0_dev275 v4) < nD) ∧
  ((k0_dev277 v4) < nD) ∧
  ((k0_dev279 v4) < nD) ∧
  ((k0_dev281 v4) < nD)
def k0_chk2 (v4 : BitVec 32) : Prop :=
  k0_chk2_0 v4 ∧
  k0_chk2_1 v4 ∧
  k0_chk2_2 v4 ∧
  k0_chk2_3 v4 ∧
  k0_chk2_4 v4
theorem k0_dev2_lt : ∀ (v4 : BitVec 32) (k0_hw2 : k0_chk2 v4), (k0_dev2 v4) < nD := fun v4 k0_hw2 => k0_hw2.1.1
theorem k0_dev3_lt : ∀ (v4 : BitVec 32) (k0_hw2 : k0_chk2 v4), (k0_dev3 v4) < nD := fun v4 k0_hw2 => k0_hw2.1.2.1
theorem k0_dev4_lt : ∀ (v4 : BitVec 32) (k0_hw2 : k0_chk2 v4), (k0_dev4 v4) < nD := fun v4 k0_hw2 => k0_hw2.1.2.2.1
theorem k0_dev7_lt : ∀ (v4 : BitVec 32) (k0_hw2 : k0_chk2 v4), (k0_dev7 v4) < nD := fun v4 k0_hw2 => k0_hw2.1.2.2.2.1
theorem k0_dev8_lt : ∀ (v4 : BitVec 32) (k0_hw2 : k0_chk2 v4), (k0_dev8 v4) < nD := fun v4 k0_hw2 => k0_hw2.1.2.2.2.2.1
theorem k0_dev11_lt : ∀ (v4 : BitVec 32) (k0_hw2 : k0_chk2 v4), (k0_dev11 v4) < nD := fun v4 k0_hw2 => k0_hw2.1.2.2.2.2.2.1
theorem k0_dev12_lt : ∀ (v4 : BitVec 32) (k0_hw2 : k0_chk2 v4), (k0_dev12 v4) < nD := fun v4 k0_hw2 => k0_hw2.1.2.2.2.2.2.2.1
theorem k0_dev15_lt : ∀ (v4 : BitVec 32) (k0_hw2 : k0_chk2 v4), (k0_dev15 v4) < nD := fun v4 k0_hw2 => k0_hw2.1.2.2.2.2.2.2.2.1
theorem k0_dev16_lt : ∀ (v4 : BitVec 32) (k0_hw2 : k0_chk2 v4), (k0_dev16 v4) < nD := fun v4 k0_hw2 => k0_hw2.1.2.2.2.2.2.2.2.2.1
theorem k0_dev19_lt : ∀ (v4 : BitVec 32) (k0_hw2 : k0_chk2 v4), (k0_dev19 v4) < nD := fun v4 k0_hw2 => k0_hw2.1.2.2.2.2.2.2.2.2.2.1
theorem k0_dev20_lt : ∀ (v4 : BitVec 32) (k0_hw2 : k0_chk2 v4), (k0_dev20 v4) < nD := fun v4 k0_hw2 => k0_hw2.1.2.2.2.2.2.2.2.2.2.2.1
theorem k0_dev23_lt : ∀ (v4 : BitVec 32) (k0_hw2 : k0_chk2 v4), (k0_dev23 v4) < nD := fun v4 k0_hw2 => k0_hw2.1.2.2.2.2.2.2.2.2.2.2.2.1
theorem k0_dev24_lt : ∀ (v4 : BitVec 32) (k0_hw2 : k0_chk2 v4), (k0_dev24 v4) < nD := fun v4 k0_hw2 => k0_hw2.1.2.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.2.1
theorem k0_dev28_lt : ∀ (v4 : BitVec 32) (k0_hw2 : k0_chk2 v4), (k0_dev28 v4) < nD := fun v4 k0_hw2 => k0_hw2.1.2.2.2.2.2.2.2.2.2.2.2.2.2.2.1
theorem k0_dev31_lt : ∀ (v4 : BitVec 32) (k0_hw2 : k0_chk2 v4), (k0_dev31 v4) < nD := fun v4 k0_hw2 => k0_hw2.1.2.2.2.2.2.2.2.2.2.2.2.2.2.2.2.1
theorem k0_dev32_lt : ∀ (v4 : BitVec 32) (k0_hw2 : k0_chk2 v4), (k0_dev32 v4) < nD := fun v4 k0_hw2 => k0_hw2.1.2.2.2.2.2.2.2.2.2.2.2.2.2.2.2.2.1
theorem k0_dev35_lt : ∀ (v4 : BitVec 32) (k0_hw2 : k0_chk2 v4), (k0_dev35 v4) < nD := fun v4 k0_hw2 => k0_hw2.1.2.2.2.2.2.2.2.2.2.2.2.2.2.2.2.2.2.1
theorem k0_dev36_lt : ∀ (v4 : BitVec 32) (k0_hw2 : k0_chk2 v4), (k0_dev36 v4) < nD := fun v4 k0_hw2 => k0_hw2.1.2.2.2.2.2.2.2.2.2.2.2.2.2.2.2.2.2.2.1
theorem k0_dev39_lt : ∀ (v4 : BitVec 32) (k0_hw2 : k0_chk2 v4), (k0_dev39 v4) < nD := fun v4 k0_hw2 => k0_hw2.1.2.2.2.2.2.2.2.2.2.2.2.2.2.2.2.2.2.2.2.1
theorem k0_dev40_lt : ∀ (v4 : BitVec 32) (k0_hw2 : k0_chk2 v4), (k0_dev40 v4) < nD := fun v4 k0_hw2 => k0_hw2.1.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.1.2.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.1.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.1.2.2.2.2.2.2.2.2.2.2.2.2.2.2.2.2.2.2.2.2.2.2.2.1
theorem k0_dev48_lt : ∀ (v4 : BitVec 32) (k0_hw2 : k0_chk2 v4), (k0_dev48 v4) < nD := fun v4 k0_hw2 => k0_hw2.1.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.1.2.2.2.2.2.2.2.2.2.2.2.2.2.2.2.2.2.2.2.2.2.2.2.2.2.1
theorem k0_dev52_lt : ∀ (v4 : BitVec 32) (k0_hw2 : k0_chk2 v4), (k0_dev52 v4) < nD := fun v4 k0_hw2 => k0_hw2.1.2.2.2.2.2.2.2.2.2.2.2.2.2.2.2.2.2.2.2.2.2.2.2.2.2.2.1
theorem k0_dev55_lt : ∀ (v4 : BitVec 32) (k0_hw2 : k0_chk2 v4), (k0_dev55 v4) < nD := fun v4 k0_hw2 => k0_hw2.1.2.2.2.2.2.2.2.2.2.2.2.2.2.2.2.2.2.2.2.2.2.2.2.2.2.2.2.1
theorem k0_dev56_lt : ∀ (v4 : BitVec 32) (k0_hw2 : k0_chk2 v4), (k0_dev56 v4) < nD := fun v4 k0_hw2 => k0_hw2.1.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.2.1
theorem k0_dev60_lt : ∀ (v4 : BitVec 32) (k0_hw2 : k0_chk2 v4), (k0_dev60 v4) < nD := fun v4 k0_hw2 => k0_hw2.1.2.2.2.2.2.2.2.2.2.2.2.2.2.2.2.2.2.2.2.2.2.2.2.2.2.2.2.2.2.2.1
theorem k0_dev63_lt : ∀ (v4 : BitVec 32) (k0_hw2 : k0_chk2 v4), (k0_dev63 v4) < nD := fun v4 k0_hw2 => k0_hw2.1.2.2.2.2.2.2.2.2.2.2.2.2.2.2.2.2.2.2.2.2.2.2.2.2.2.2.2.2.2.2.2
theorem k0_dev64_lt : ∀ (v4 : BitVec 32) (k0_hw2 : k0_chk2 v4), (k0_dev64 v4) < nD := fun v4 k0_hw2 => k0_hw2.2.1.1
theorem k0_dev65_lt : ∀ (v4 : BitVec 32) (k0_hw2 : k0_chk2 v4), (k0_dev65 v4) < nD := fun v4 k0_hw2 => k0_hw2.2.1.2.1
theorem k0_dev67_lt : ∀ (v4 : BitVec 32) (k0_hw2 : k0_chk2 v4), (k0_dev67 v4) < nD := fun v4 k0_hw2 => k0_hw2.2.1.2.2.1
theorem k0_dev69_lt : ∀ (v4 : BitVec 32) (k0_hw2 : k0_chk2 v4), (k0_dev69 v4) < nD := fun v4 k0_hw2 => k0_hw2.2.1.2.2.2.1
theorem k0_dev71_lt : ∀ (v4 : BitVec 32) (k0_hw2 : k0_chk2 v4), (k0_dev71 v4) < nD := fun v4 k0_hw2 => k0_hw2.2.1.2.2.2.2.1
theorem k0_dev73_lt : ∀ (v4 : BitVec 32) (k0_hw2 : k0_chk2 v4), (k0_dev73 v4) < nD := fun v4 k0_hw2 => k0_hw2.2.1.2.2.2.2.2.1
theorem k0_dev75_lt : ∀ (v4 : BitVec 32) (k0_hw2 : k0_chk2 v4), (k0_dev75 v4) < nD := fun v4 k0_hw2 => k0_hw2.2.1.2.2.2.2.2.2.1
theorem k0_dev77_lt : ∀ (v4 : BitVec 32) (k0_hw2 : k0_chk2 v4), (k0_dev77 v4) < nD := fun v4 k0_hw2 => k0_hw2.2.1.2.2.2.2.2.2.2.1
theorem k0_dev79_lt : ∀ (v4 : BitVec 32) (k0_hw2 : k0_chk2 v4), (k0_dev79 v4) < nD := fun v4 k0_hw2 => k0_hw2.2.1.2.2.2.2.2.2.2.2.1
theorem k0_dev81_lt : ∀ (v4 : BitVec 32) (k0_hw2 : k0_chk2 v4), (k0_dev81 v4) < nD := fun v4 k0_hw2 => k0_hw2.2.1.2.2.2.2.2.2.2.2.2.1
theorem k0_dev83_lt : ∀ (v4 : BitVec 32) (k0_hw2 : k0_chk2 v4), (k0_dev83 v4) < nD := fun v4 k0_hw2 => k0_hw2.2.1.2.2.2.2.2.2.2.2.2.2.1
theorem k0_dev85_lt : ∀ (v4 : BitVec 32) (k0_hw2 : k0_chk2 v4), (k0_dev85 v4) < nD := fun v4 k0_hw2 => k0_hw2.2.1.2.2.2.2.2.2.2.2.2.2.2.1
theorem k0_dev87_lt : ∀ (v4 : BitVec 32) (k0_hw2 : k0_chk2 v4), (k0_dev87 v4) < nD := fun v4 k0_hw2 => k0_hw2.2.1.2.2.2.2.2.2.2.2.2.2.2.2.1
theorem k0_dev89_lt : ∀ (v4 : BitVec 32) (k0_hw2 : k0_chk2 v4), (k0_dev89 v4) < nD := fun v4 k0_hw2 => k0_hw2.2.1.2.2.2.2.2.2.2.2.2.2.2.2.2.1
theorem k0_dev91_lt : ∀ (v4 : BitVec 32) (k0_hw2 : k0_chk2 v4), (k0_dev91 v4) < nD := fun v4 k0_hw2 => k0_hw2.2.1.2.2.2.2.2.2.2.2.2.2.2.2.2.2.1
theorem k0_dev93_lt : ∀ (v4 : BitVec 32) (k0_hw2 : k0_chk2 v4), (k0_dev93 v4) < nD := fun v4 k0_hw2 => k0_hw2.2.1.2.2.2.2.2.2.2.2.2.2.2.2.2.2.2.1
theorem k0_dev95_lt : ∀ (v4 : BitVec 32) (k0_hw2 : k0_chk2 v4), (k0_dev95 v4) < nD := fun v4 k0_hw2 => k0_hw2.2.1.2.2.2.2.2.2.2.2.2.2.2.2.2.2.2.2.1
theorem k0_dev96_lt : ∀ (v4 : BitVec 32) (k0_hw2 : k0_chk2 v4), (k0_dev96 v4) < nD := fun v4 k0_hw2 => k0_hw2.2.1.2.2.2.2.2.2.2.2.2.2.2.2.2.2.2.2.2.1
theorem k0_dev97_lt : ∀ (v4 : BitVec 32) (k0_hw2 : k0_chk2 v4), (k0_dev97 v4) < nD := fun v4 k0_hw2 => k0_hw2.2.1.2.2.2.2.2.2.2.2.2.2.2.2.2.2.2.2.2.2.1
theorem k0_dev100_lt : ∀ (v4 : BitVec 32) (k0_hw2 : k0_chk2 v4), (k0_dev100 v4) < nD := fun v4 k0_hw2 => k0_hw2.2.1.2.2.2.2.2.2.2.2.2.2.2.2.2.2.2.2.2.2.2.1
theorem k0_dev101_lt : ∀ (v4 : BitVec 32) (k0_hw2 : k0_chk2 v4), (k0_dev101 v4) < nD := fun v4 k0_hw2 => k0_hw2.2.1.2.2.2.2.2.2.2.2.2.2.2.2.2.2.2.2.2.2.2.2.1
theorem k0_dev104_lt : ∀ (v4 : BitVec 32) (k0_hw2 : k0_chk2 v4), (k0_dev104 v4) < nD := fun v4 k0_hw2 => k0_hw2.2.1.2.2.2.2.2.2.2.2.2.2.2.2.2.2.2.2.2.2.2.2.2.1
theorem k0_dev105_lt : ∀ (v4 : BitVec 32) (k0_hw2 : k0_chk2 v4), (k0_dev105 v4) < nD := fun v4 k0_hw2 => k0_hw2.2.1.2.2.2.2.2.2.2.2.2.2.2.2.2.2.2.2.2.2.2.2.2.2.1
theorem k0_dev108_lt : ∀ (v4 : BitVec 32) (k0_hw2 : k0_chk2 v4), (k0_dev108 v4) < nD := fun v4 k0_hw2 => k0_hw2.2.1.2.2.2.2.2.2.2.2.2.2.2.2.2.2.2.2.2.2.2.2.2.2.2.1
theorem k0_dev109_lt : ∀ (v4 : BitVec 32) (k0_hw2 : k0_chk2 v4), (k0_dev109 v4) < nD := fun v4 k0_hw2 => k0_hw2.2.1.2.2.2.2.2.2.2.2.2.2.2.2.2.2.2.2.2.2.2.2.2.2.2.2.1
theorem k0_dev112_lt : ∀ (v4 : BitVec 32) (k0_hw2 : k0_chk2 v4), (k0_dev112 v4) < nD := fun v4 k0_hw2 => k0_hw2.2.1.2.2.2.2.2.2.2.2.2.2.2.2.2.2.2.2.2.2.2.2.2.2.2.2.2.1
theorem k0_dev113_lt : ∀ (v4 : BitVec 32) (k0_hw2 : k0_chk2 v4), (k0_dev113 v4) < nD := fun v4 k0_hw2 => k0_hw2.2.1.2.2.2.2.2.2.2.2.2.2.2.2.2.2.2.2.2.2.2.2.2.2.2.2.2.2.1
theorem k0_dev116_lt : ∀ (v4 : BitVec 32) (k0_hw2 : k0_chk2 v4), (k0_dev116 v4) < nD := fun v4 k0_hw2 => k0_hw2.2.1.2.2.2.2.2.2.2.2.2.2.2.2.2.2.2.2.2.2.2.2.2.2.2.2.2.2.2.1
theorem k0_dev117_lt : ∀ (v4 : BitVec 32) (k0_hw2 : k0_chk2 v4), (k0_dev117 v4) < nD := fun v4 k0_hw2 => k0_hw2.2.1.2.2.2.2.2.2.2.2.2.2.2.2.2.2.2.2.2.2.2.2.2.2.2.2.2.2.2.2.1
theorem k0_dev120_lt : ∀ (v4 : BitVec 32) (k0_hw2 : k0_chk2 v4), (k0_dev120 v4) < nD := fun v4 k0_hw2 => k0_hw2.2.1.2.2.2.2.2.2.2.2.2.2.2.2.2.2.2.2.2.2.2.2.2.2.2.2.2.2.2.2.2.1
theorem k0_dev121_lt : ∀ (v4 : BitVec 32) (k0_hw2 : k0_chk2 v4), (k0_dev121 v4) < nD := fun v4 k0_hw2 => k0_hw2.2.1.2.2.2.2.2.2.2.2.2.2.2.2.2.2.2.2.2.2.2.2.2.2.2.2.2.2.2.2.2.2.1
theorem k0_dev124_lt : ∀ (v4 : BitVec 32) (k0_hw2 : k0_chk2 v4), (k0_dev124 v4) < nD := fun v4 k0_hw2 => k0_hw2.2.1.2.2.2.2.2.2.2.2.2.2.2.2.2.2.2.2.2.2.2.2.2.2.2.2.2.2.2.2.2.2.2
theorem k0_dev125_lt : ∀ (v4 : BitVec 32) (k0_hw2 : k0_chk2 v4), (k0_dev125 v4) < nD := fun v4 k0_hw2 => k0_hw2.2.2.1.1
theorem k0_dev128_lt : ∀ (v4 : BitVec 32) (k0_hw2 : k0_chk2 v4), (k0_dev128 v4) < nD := fun v4 k0_hw2 => k0_hw2.2.2.1.2.1
theorem k0_dev129_lt : ∀ (v4 : BitVec 32) (k0_hw2 : k0_chk2 v4), (k0_dev129 v4) < nD := fun v4 k0_hw2 => k0_hw2.2.2.1.2.2.1
theorem k0_dev132_lt : ∀ (v4 : BitVec 32) (k0_hw2 : k0_chk2 v4), (k0_dev132 v4) < nD := fun v4 k0_hw2 => k0_hw2.2.2.1.2.2.2.1
theorem k0_dev133_lt : ∀ (v4 : BitVec 32) (k0_hw2 : k0_chk2 v4), (k0_dev133 v4) < nD := fun v4 k0_hw2 => k0_hw2.2.2.1.2.2.2.2.1
theorem k0_dev136_lt : ∀ (v4 : BitVec 32) (k0_hw2 : k0_chk2 v4), (k0_dev136 v4) < nD := fun v4 k0_hw2 => k0_hw2.2.2.1.2.2.2.2.2.1
theorem k0_dev137_lt : ∀ (v4 : BitVec 32) (k0_hw2 : k0_chk2 v4), (k0_dev137 v4) < nD := fun v4 k0_hw2 => k0_hw2.2.2.1.2.2.2.2.2.2.1
theorem k0_dev140_lt : ∀ (v4 : BitVec 32) (k0_hw2 : k0_chk2 v4), (k0_dev140 v4) < nD := fun v4 k0_hw2 => k0_hw2.2.2.1.2.2.2.2.2.2.2.1
theorem k0_dev141_lt : ∀ (v4 : BitVec 32) (k0_hw2 : k0_chk2 v4), (k0_dev141 v4) < nD := fun v4 k0_hw2 => k0_hw2.2.2.1.2.2.2.2.2.2.2.2.1
theorem k0_dev144_lt : ∀ (v4 : BitVec 32) (k0_hw2 : k0_chk2 v4), (k0_dev144 v4) < nD := fun v4 k0_hw2 => k0_hw2.2.2.1.2.2.2.2.2.2.2.2.2.1
theorem k0_dev145_lt : ∀ (v4 : BitVec 32) (k0_hw2 : k0_chk2 v4), (k0_dev145 v4) < nD := fun v4 k0_hw2 => k0_hw2.2.2.1.2.2.2.2.2.2.2.2.2.2.1
theorem k0_dev148_lt : ∀ (v4 : BitVec 32) (k0_hw2 : k0_chk2 v4), (k0_dev148 v4) < nD := fun v4 k0_hw2 => k0_hw2.2.2.1.2.2.2.2.2.2.2.2.2.2.2.1
theorem k0_dev149_lt : ∀ (v4 : BitVec 32) (k0_hw2 : k0_chk2 v4), (k0_dev149 v4) < nD := fun v4 k0_hw2 => k0_hw2.2.2.1.2.2.2.2.2.2.2.2.2.2.2.2.1
theorem k0_dev152_lt : ∀ (v4 : BitVec 32) (k0_hw2 : k0_chk2 v4), (k0_dev152 v4) < nD := fun v4 k0_hw2 => k0_hw2.2.2.1.2.2.2.2.2.2.2.2.2.2.2.2.2.1
theorem k0_dev153_lt : ∀ (v4 : BitVec 32) (k0_hw2 : k0_chk2 v4), (k0_dev153 v4) < nD := fun v4 k0_hw2 => k0_hw2.2.2.1.2.2.2.2.2.2.2.2.2.2.2.2.2.2.1
theorem k0_dev156_lt : ∀ (v4 : BitVec 32) (k0_hw2 : k0_chk2 v4), (k0_dev156 v4) < nD := fun v4 k0_hw2 => k0_hw2.2.2.1.2.2.2.2.2.2.2.2.2.2.2.2.2.2.2.1
theorem k0_dev157_lt : ∀ (v4 : BitVec 32) (k0_hw2 : k0_chk2 v4), (k0_dev157 v4) < nD := fun v4 k0_hw2 => k0_hw2.2.2.1.2.2.2.2.2.2.2.2.2.2.2.2.2.2.2.2.1
theorem k0_dev158_lt : ∀ (v4 : BitVec 32) (k0_hw2 : k0_chk2 v4), (k0_dev158 v4) < nD := fun v4 k0_hw2 => k0_hw2.2.2.1.2.2.2.2.2.2.2.2.2.2.2.2.2.2.2.2.2.1
theorem k0_dev160_lt : ∀ (v4 : BitVec 32) (k0_hw2 : k0_chk2 v4), (k0_dev160 v4) < nD := fun v4 k0_hw2 => k0_hw2.2.2.1.2.2.2.2.2.2.2.2.2.2.2.2.2.2.2.2.2.2.1
theorem k0_dev162_lt : ∀ (v4 : BitVec 32) (k0_hw2 : k0_chk2 v4), (k0_dev162 v4) < nD := fun v4 k0_hw2 => k0_hw2.2.2.1.2.2.2.2.2.2.2.2.2.2.2.2.2.2.2.2.2.2.2.1
theorem k0_dev164_lt : ∀ (v4 : BitVec 32) (k0_hw2 : k0_chk2 v4), (k0_dev164 v4) < nD := fun v4 k0_hw2 => k0_hw2.2.2.1.2.2.2.2.2.2.2.2.2.2.2.2.2.2.2.2.2.2.2.2.1
theorem k0_dev166_lt : ∀ (v4 : BitVec 32) (k0_hw2 : k0_chk2 v4), (k0_dev166 v4) < nD := fun v4 k0_hw2 => k0_hw2.2.2.1.2.2.2.2.2.2.2.2.2.2.2.2.2.2.2.2.2.2.2.2.2.1
theorem k0_dev168_lt : ∀ (v4 : BitVec 32) (k0_hw2 : k0_chk2 v4), (k0_dev168 v4) < nD := fun v4 k0_hw2 => k0_hw2.2.2.1.2.2.2.2.2.2.2.2.2.2.2.2.2.2.2.2.2.2.2.2.2.2.1
theorem k0_dev170_lt : ∀ (v4 : BitVec 32) (k0_hw2 : k0_chk2 v4), (k0_dev170 v4) < nD := fun v4 k0_hw2 => k0_hw2.2.2.1.2.2.2.2.2.2.2.2.2.2.2.2.2.2.2.2.2.2.2.2.2.2.2.1
theorem k0_dev172_lt : ∀ (v4 : BitVec 32) (k0_hw2 : k0_chk2 v4), (k0_dev172 v4) < nD := fun v4 k0_hw2 => k0_hw2.2.2.1.2.2.2.2.2.2.2.2.2.2.2.2.2.2.2.2.2.2.2.2.2.2.2.2.1
theorem k0_dev174_lt : ∀ (v4 : BitVec 32) (k0_hw2 : k0_chk2 v4), (k0_dev174 v4) < nD := fun v4 k0_hw2 => k0_hw2.2.2.1.2.2.2.2.2.2.2.2.2.2.2.2.2.2.2.2.2.2.2.2.2.2.2.2.2.1
theorem k0_dev176_lt : ∀ (v4 : BitVec 32) (k0_hw2 : k0_chk2 v4), (k0_dev176 v4) < nD := fun v4 k0_hw2 => k0_hw2.2.2.1.2.2.2.2.2.2.2.2.2.2.2.2.2.2.2.2.2.2.2.2.2.2.2.2.2.2.1
theorem k0_dev178_lt : ∀ (v4 : BitVec 32) (k0_hw2 : k0_chk2 v4), (k0_dev178 v4) < nD := fun v4 k0_hw2 => k0_hw2.2.2.1.2.2.2.2.2.2.2.2.2.2.2.2.2.2.2.2.2.2.2.2.2.2.2.2.2.2.2.1
theorem k0_dev180_lt : ∀ (v4 : BitVec 32) (k0_hw2 : k0_chk2 v4), (k0_dev180 v4) < nD := fun v4 k0_hw2 => k0_hw2.2.2.1.2.2.2.2.2.2.2.2.2.2.2.2.2.2.2.2.2.2.2.2.2.2.2.2.2.2.2.2.1
theorem k0_dev182_lt : ∀ (v4 : BitVec 32) (k0_hw2 : k0_chk2 v4), (k0_dev182 v4) < nD := fun v4 k0_hw2 => k0_hw2.2.2.1.2.2.2.2.2.2.2.2.2.2.2.2.2.2.2.2.2.2.2.2.2.2.2.2.2.2.2.2.2.1
theorem k0_dev184_lt : ∀ (v4 : BitVec 32) (k0_hw2 : k0_chk2 v4), (k0_dev184 v4) < nD := fun v4 k0_hw2 => k0_hw2.2.2.1.2.2.2.2.2.2.2.2.2.2.2.2.2.2.2.2.2.2.2.2.2.2.2.2.2.2.2.2.2.2.1
theorem k0_dev186_lt : ∀ (v4 : BitVec 32) (k0_hw2 : k0_chk2 v4), (k0_dev186 v4) < nD := fun v4 k0_hw2 => k0_hw2.2.2.1.2.2.2.2.2.2.2.2.2.2.2.2.2.2.2.2.2.2.2.2.2.2.2.2.2.2.2.2.2.2.2
theorem k0_dev188_lt : ∀ (v4 : BitVec 32) (k0_hw2 : k0_chk2 v4), (k0_dev188 v4) < nD := fun v4 k0_hw2 => k0_hw2.2.2.2.1.1
theorem k0_dev189_lt : ∀ (v4 : BitVec 32) (k0_hw2 : k0_chk2 v4), (k0_dev189 v4) < nD := fun v4 k0_hw2 => k0_hw2.2.2.2.1.2.1
theorem k0_dev190_lt : ∀ (v4 : BitVec 32) (k0_hw2 : k0_chk2 v4), (k0_dev190 v4) < nD := fun v4 k0_hw2 => k0_hw2.2.2.2.1.2.2.1
theorem k0_dev193_lt : ∀ (v4 : BitVec 32) (k0_hw2 : k0_chk2 v4), (k0_dev193 v4) < nD := fun v4 k0_hw2 => k0_hw2.2.2.2.1.2.2.2.1
theorem k0_dev194_lt : ∀ (v4 : BitVec 32) (k0_hw2 : k0_chk2 v4), (k0_dev194 v4) < nD := fun v4 k0_hw2 => k0_hw2.2.2.2.1.2.2.2.2.1
theorem k0_dev197_lt : ∀ (v4 : BitVec 32) (k0_hw2 : k0_chk2 v4), (k0_dev197 v4) < nD := fun v4 k0_hw2 => k0_hw2.2.2.2.1.2.2.2.2.2.1
theorem k0_dev198_lt : ∀ (v4 : BitVec 32) (k0_hw2 : k0_chk2 v4), (k0_dev198 v4) < nD := fun v4 k0_hw2 => k0_hw2.2.2.2.1.2.2.2.2.2.2.1
theorem k0_dev201_lt : ∀ (v4 : BitVec 32) (k0_hw2 : k0_chk2 v4), (k0_dev201 v4) < nD := fun v4 k0_hw2 => k0_hw2.2.2.2.1.2.2.2.2.2.2.2.1
theorem k0_dev202_lt : ∀ (v4 : BitVec 32) (k0_hw2 : k0_chk2 v4), (k0_dev202 v4) < nD := fun v4 k0_hw2 => k0_hw2.2.2.2.1.2.2.2.2.2.2.2.2.1
theorem k0_dev205_lt : ∀ (v4 : BitVec 32) (k0_hw2 : k0_chk2 v4), (k0_dev205 v4) < nD := fun v4 k0_hw2 => k0_hw2.2.2.2.1.2.2.2.2.2.2.2.2.2.1
theorem k0_dev206_lt : ∀ (v4 : BitVec 32) (k0_hw2 : k0_chk2 v4), (k0_dev206 v4) < nD := fun v4 k0_hw2 => k0_hw2.2.2.2.1.2.2.2.2.2.2.2.2.2.2.1
theorem k0_dev209_lt : ∀ (v4 : BitVec 32) (k0_hw2 : k0_chk2 v4), (k0_dev209 v4) < nD := fun v4 k0_hw2 => k0_hw2.2.2.2.1.2.2.2.2.2.2.2.2.2.2.2.1
theorem k0_dev210_lt : ∀ (v4 : BitVec 32) (k0_hw2 : k0_chk2 v4), (k0_dev210 v4) < nD := fun v4 k0_hw2 => k0_hw2.2.2.2.1.2.2.2.2.2.2.2.2.2.2.2.2.1
theorem k0_dev213_lt : ∀ (v4 : BitVec 32) (k0_hw2 : k0_chk2 v4), (k0_dev213 v4) < nD := fun v4 k0_hw2 => k0_hw2.2.2.2.1.2.2.2.2.2.2.2.2.2.2.2.2.2.1
theorem k0_dev214_lt : ∀ (v4 : BitVec 32) (k0_hw2 : k0_chk2 v4), (k0_dev214 v4) < nD := fun v4 k0_hw2 => k0_hw2.2.2.2.1.2.2.2.2.2.2.2.2.2.2.2.2.2.2.1
theorem k0_dev217_lt : ∀ (v4 : BitVec 32) (k0_hw2 : k0_chk2 v4), (k0_dev217 v4) < nD := fun v4 k0_hw2 => k0_hw2.2.2.2.1.2.2.2.2.2.2.2.2.2.2.2.2.2.2.2.1
theorem k0_dev218_lt : ∀ (v4 : BitVec 32) (k0_hw2 : k0_chk2 v4), (k0_dev218 v4) < nD := fun v4 k0_hw2 => k0_hw2.2.2.2.1.2.2.2.2.2.2.2.2.2.2.2.2.2.2.2.2.1
theorem k0_dev221_lt : ∀ (v4 : BitVec 32) (k0_hw2 : k0_chk2 v4), (k0_dev221 v4) < nD := fun v4 k0_hw2 => k0_hw2.2.2.2.1.2.2.2.2.2.2.2.2.2.2.2.2.2.2.2.2.2.1
theorem k0_dev222_lt : ∀ (v4 : BitVec 32) (k0_hw2 : k0_chk2 v4), (k0_dev222 v4) < nD := fun v4 k0_hw2 => k0_hw2.2.2.2.1.2.2.2.2.2.2.2.2.2.2.2.2.2.2.2.2.2.2.1
theorem k0_dev225_lt : ∀ (v4 : BitVec 32) (k0_hw2 : k0_chk2 v4), (k0_dev225 v4) < nD := fun v4 k0_hw2 => k0_hw2.2.2.2.1.2.2.2.2.2.2.2.2.2.2.2.2.2.2.2.2.2.2.2.1
theorem k0_dev226_lt : ∀ (v4 : BitVec 32) (k0_hw2 : k0_chk2 v4), (k0_dev226 v4) < nD := fun v4 k0_hw2 => k0_hw2.2.2.2.1.2.2.2.2.2.2.2.2.2.2.2.2.2.2.2.2.2.2.2.2.1
theorem k0_dev229_lt : ∀ (v4 : BitVec 32) (k0_hw2 : k0_chk2 v4), (k0_dev229 v4) < nD := fun v4 k0_hw2 => k0_hw2.2.2.2.1.2.2.2.2.2.2.2.2.2.2.2.2.2.2.2.2.2.2.2.2.2.1
theorem k0_dev230_lt : ∀ (v4 : BitVec 32) (k0_hw2 : k0_chk2 v4), (k0_dev230 v4) < nD := fun v4 k0_hw2 => k0_hw2.2.2.2.1.2.2.2.2.2.2.2.2.2.2.2.2.2.2.2.2.2.2.2.2.2.2.1
theorem k0_dev233_lt : ∀ (v4 : BitVec 32) (k0_hw2 : k0_chk2 v4), (k0_dev233 v4) < nD := fun v4 k0_hw2 => k0_hw2.2.2.2.1.2.2.2.2.2.2.2.2.2.2.2.2.2.2.2.2.2.2.2.2.2.2.2.1
theorem k0_dev234_lt : ∀ (v4 : BitVec 32) (k0_hw2 : k0_chk2 v4), (k0_dev234 v4) < nD := fun v4 k0_hw2 => k0_hw2.2.2.2.1.2.2.2.2.2.2.2.2.2.2.2.2.2.2.2.2.2.2.2.2.2.2.2.2.1
theorem k0_dev237_lt : ∀ (v4 : BitVec 32) (k0_hw2 : k0_chk2 v4), (k0_dev237 v4) < nD := fun v4 k0_hw2 => k0_hw2.2.2.2.1.2.2.2.2.2.2.2.2.2.2.2.2.2.2.2.2.2.2.2.2.2.2.2.2.2.1
theorem k0_dev238_lt : ∀ (v4 : BitVec 32) (k0_hw2 : k0_chk2 v4), (k0_dev238 v4) < nD := fun v4 k0_hw2 => k0_hw2.2.2.2.1.2.2.2.2.2.2.2.2.2.2.2.2.2.2.2.2.2.2.2.2.2.2.2.2.2.2.1
theorem k0_dev241_lt : ∀ (v4 : BitVec 32) (k0_hw2 : k0_chk2 v4), (k0_dev241 v4) < nD := fun v4 k0_hw2 => k0_hw2.2.2.2.1.2.2.2.2.2.2.2.2.2.2.2.2.2.2.2.2.2.2.2.2.2.2.2.2.2.2.2.1
theorem k0_dev242_lt : ∀ (v4 : BitVec 32) (k0_hw2 : k0_chk2 v4), (k0_dev242 v4) < nD := fun v4 k0_hw2 => k0_hw2.2.2.2.1.2.2.2.2.2.2.2.2.2.2.2.2.2.2.2.2.2.2.2.2.2.2.2.2.2.2.2.2.1
theorem k0_dev245_lt : ∀ (v4 : BitVec 32) (k0_hw2 : k0_chk2 v4), (k0_dev245 v4) < nD := fun v4 k0_hw2 => k0_hw2.2.2.2.1.2.2.2.2.2.2.2.2.2.2.2.2.2.2.2.2.2.2.2.2.2.2.2.2.2.2.2.2.2.1
theorem k0_dev246_lt : ∀ (v4 : BitVec 32) (k0_hw2 : k0_chk2 v4), (k0_dev246 v4) < nD := fun v4 k0_hw2 => k0_hw2.2.2.2.1.2.2.2.2.2.2.2.2.2.2.2.2.2.2.2.2.2.2.2.2.2.2.2.2.2.2.2.2.2.2.1
theorem k0_dev249_lt : ∀ (v4 : BitVec 32) (k0_hw2 : k0_chk2 v4), (k0_dev249 v4) < nD := fun v4 k0_hw2 => k0_hw2.2.2.2.1.2.2.2.2.2.2.2.2.2.2.2.2.2.2.2.2.2.2.2.2.2.2.2.2.2.2.2.2.2.2.2
theorem k0_dev250_lt : ∀ (v4 : BitVec 32) (k0_hw2 : k0_chk2 v4), (k0_dev250 v4) < nD := fun v4 k0_hw2 => k0_hw2.2.2.2.2.1
theorem k0_dev251_lt : ∀ (v4 : BitVec 32) (k0_hw2 : k0_chk2 v4), (k0_dev251 v4) < nD := fun v4 k0_hw2 => k0_hw2.2.2.2.2.2.1
theorem k0_dev253_lt : ∀ (v4 : BitVec 32) (k0_hw2 : k0_chk2 v4), (k0_dev253 v4) < nD := fun v4 k0_hw2 => k0_hw2.2.2.2.2.2.2.1
theorem k0_dev255_lt : ∀ (v4 : BitVec 32) (k0_hw2 : k0_chk2 v4), (k0_dev255 v4) < nD := fun v4 k0_hw2 => k0_hw2.2.2.2.2.2.2.2.1
theorem k0_dev257_lt : ∀ (v4 : BitVec 32) (k0_hw2 : k0_chk2 v4), (k0_dev257 v4) < nD := fun v4 k0_hw2 => k0_hw2.2.2.2.2.2.2.2.2.1
theorem k0_dev259_lt : ∀ (v4 : BitVec 32) (k0_hw2 : k0_chk2 v4), (k0_dev259 v4) < nD := fun v4 k0_hw2 => k0_hw2.2.2.2.2.2.2.2.2.2.1
theorem k0_dev261_lt : ∀ (v4 : BitVec 32) (k0_hw2 : k0_chk2 v4), (k0_dev261 v4) < nD := fun v4 k0_hw2 => k0_hw2.2.2.2.2.2.2.2.2.2.2.1
theorem k0_dev263_lt : ∀ (v4 : BitVec 32) (k0_hw2 : k0_chk2 v4), (k0_dev263 v4) < nD := fun v4 k0_hw2 => k0_hw2.2.2.2.2.2.2.2.2.2.2.2.1
theorem k0_dev265_lt : ∀ (v4 : BitVec 32) (k0_hw2 : k0_chk2 v4), (k0_dev265 v4) < nD := fun v4 k0_hw2 => k0_hw2.2.2.2.2.2.2.2.2.2.2.2.2.1
theorem k0_dev267_lt : ∀ (v4 : BitVec 32) (k0_hw2 : k0_chk2 v4), (k0_dev267 v4) < nD := fun v4 k0_hw2 => k0_hw2.2.2.2.2.2.2.2.2.2.2.2.2.2.1
theorem k0_dev269_lt : ∀ (v4 : BitVec 32) (k0_hw2 : k0_chk2 v4), (k0_dev269 v4) < nD := fun v4 k0_hw2 => k0_hw2.2.2.2.2.2.2.2.2.2.2.2.2.2.2.1
theorem k0_dev271_lt : ∀ (v4 : BitVec 32) (k0_hw2 : k0_chk2 v4), (k0_dev271 v4) < nD := fun v4 k0_hw2 => k0_hw2.2.2.2.2.2.2.2.2.2.2.2.2.2.2.2.1
theorem k0_dev273_lt : ∀ (v4 : BitVec 32) (k0_hw2 : k0_chk2 v4), (k0_dev273 v4) < nD := fun v4 k0_hw2 => k0_hw2.2.2.2.2.2.2.2.2.2.2.2.2.2.2.2.2.1
theorem k0_dev275_lt : ∀ (v4 : BitVec 32) (k0_hw2 : k0_chk2 v4), (k0_dev275 v4) < nD := fun v4 k0_hw2 => k0_hw2.2.2.2.2.2.2.2.2.2.2.2.2.2.2.2.2.2.1
theorem k0_dev277_lt : ∀ (v4 : BitVec 32) (k0_hw2 : k0_chk2 v4), (k0_dev277 v4) < nD := fun v4 k0_hw2 => k0_hw2.2.2.2.2.2.2.2.2.2.2.2.2.2.2.2.2.2.2.1
theorem k0_dev279_lt : ∀ (v4 : BitVec 32) (k0_hw2 : k0_chk2 v4), (k0_dev279 v4) < nD := fun v4 k0_hw2 => k0_hw2.2.2.2.2.2.2.2.2.2.2.2.2.2.2.2.2.2.2.2.1
theorem k0_dev281_lt : ∀ (v4 : BitVec 32) (k0_hw2 : k0_chk2 v4), (k0_dev281 v4) < nD := fun v4 k0_hw2 => k0_hw2.2.2.2.2.2.2.2.2.2.2.2.2.2.2.2.2.2.2.2.2

def k0_off475 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_8114 : BitVec 32 := 256#32
  let v9548 : BitVec 32 := Scalar.muli v2 c256_i32_8114
  let v9549 : Index := Scalar.indexCast v9548
  let c0_8115 : Index := 0#32
  ![v9549.toNat, 0]
abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S8192x256 : Shape := ⟨2, ![8192, 256]⟩
abbrev S256x16384 : Shape := ⟨2, ![256, 16384]⟩
abbrev S16384x256 : Shape := ⟨2, ![16384, 256]⟩
abbrev S8192x16384 : Shape := ⟨2, ![8192, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x16384, .f32⟩
  | .hbm, ⟨2, _⟩ => ⟨S256x16384, .f32⟩
  | .hbm, ⟨3, _⟩ => ⟨S256x16384, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S8192x16384, .f32⟩
  | .hbm, ⟨8, _⟩ => ⟨S_, .f32⟩
  | .hbm, ⟨9, _⟩ => ⟨S8192x16384, .f32⟩
  | .hbm, ⟨10, _⟩ => ⟨S8192x16384, .f32⟩
  | .hbm, ⟨11, _⟩ => ⟨S8192x256, .f32⟩
  | .hbm, ⟨12, _⟩ => ⟨S8192x16384, .f32⟩
  | .hbm, ⟨13, _⟩ => ⟨S_, .f32⟩
  | .hbm, ⟨14, _⟩ => ⟨S8192x16384, .f32⟩
  | .hbm, ⟨15, _⟩ => ⟨S8192x16384, .f32⟩
  | .hbm, ⟨16, _⟩ => ⟨S8192x256, .f32⟩
  | .hbm, ⟨17, _⟩ => ⟨S8192x16384, .f32⟩
  | .hbm, ⟨18, _⟩ => ⟨S_, .f32⟩
  | .hbm, ⟨19, _⟩ => ⟨S8192x16384, .f32⟩
  | .hbm, ⟨20, _⟩ => ⟨S8192x16384, .f32⟩
  | .hbm, ⟨21, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ring.lean ====
/-
  The ring of the 32 devices: a device's place on it (`pos`), the device at a place (`dev`), the chunk a device sends at
  the `h`-th step of the all-gather in each direction (`ck`), the chunk it adds at each step of the reduce-scatter
  (`rsc`), the table the kernel reads them from (`tabD`), and the closed forms of the offsets and device numbers the
  kernel computes from a word of that table.
-/
module

public import proofs.«01_k».proof.Proof.Gen.KernelIdeal
public import proofs.«01_k».proof.Proof.Gen.KernelIdeal.Skeleton

@[expose] public section

noncomputable section

namespace Cert.TpMlp

open Cert.KernelIdeal Cert.KernelIdeal.Gen
open Idealize.ShloMosaic Idealize.SL.Sem

/-- The places of the devices on the ring, by device number. -/
def posL : List ℕ := [0, 31, 24, 7, 8, 23, 16, 15, 1, 30, 25, 6, 9, 22, 17, 14, 2, 29, 26, 5, 10, 21, 18, 13, 3, 28, 27, 4, 11, 20, 19, 12]
/-- The devices by their place. -/
def devL : List ℕ := [0, 8, 16, 24, 27, 19, 11, 3, 4, 12, 20, 28, 31, 23, 15, 7, 6, 14, 22, 30, 29, 21, 13, 5, 2, 10, 18, 26, 25, 17, 9, 1]

/-- Device `d`'s place on the ring. -/
def pos (d : ℕ) : ℕ := posL.getD d 0

theorem devL_lt : ∀ p : Fin 32, devL.getD p.val 0 < 32 := by decide

/-- The device at place `p`, counted round the ring. -/
def dev (p : ℕ) : Dev nD := ⟨devL.getD (p % 32) 0, devL_lt ⟨p % 32, Nat.mod_lt _ (by decide)⟩⟩

theorem pos_lt (d : Dev nD) : pos d.val < 32 := by
  have h : ∀ d : Fin 32, pos d.val < 32 := by decide
  exact h d
theorem dev_pos (d : Dev nD) : dev (pos d.val) = d := by
  have h : ∀ d : Fin 32, (dev (pos d.val)).val = d.val := by decide
  exact Fin.ext (h d)
theorem pos_dev (p : ℕ) : pos (dev p).val = p % 32 := by
  have h : ∀ p : Fin 32, pos (devL.getD p.val 0) = p.val := by decide
  exact h ⟨p % 32, Nat.mod_lt _ (by decide)⟩
theorem dev_congr {p q : ℕ} (h : p % 32 = q % 32) : dev p = dev q := by
  apply Fin.ext; unfold dev; simp only [h]
theorem dev_eq_iff {p q : ℕ} : dev p = dev q ↔ p % 32 = q % 32 :=
  ⟨fun h => by rw [← pos_dev, ← pos_dev, h], dev_congr⟩
theorem pos_inj {c d : Dev nD} (h : pos c.val = pos d.val) : c = d := by rw [← dev_pos c, ← dev_pos d, h]

/-- The neighbour device `c` sends to: `true` is the next place, `false` the one before. -/
def nx (c : Dev nD) (s : Bool) : Dev nD := dev (match s with | true => pos c.val + 1 | false => pos c.val + 31)

theorem pos_nx (c : Dev nD) (s : Bool) : pos (nx c s).val = (match s with | true => pos c.val + 1 | false => pos c.val + 31) % 32 := pos_dev _

theorem nx_nx (c : Dev nD) (s : Bool) : nx (nx c s) (!s) = c := by
  apply pos_inj
  have := pos_lt c
  cases s <;> simp only [pos_nx, Bool.not_true, Bool.not_false] <;> omega
theorem nx_nx' (c : Dev nD) (s : Bool) : nx (nx c (!s)) s = c := by
  have := nx_nx c (!s); rwa [Bool.not_not] at this
theorem nx_ne (c : Dev nD) : nx c true ≠ nx c false := by
  intro h
  have := congrArg (fun d : Dev nD => pos d.val) h
  simp only [pos_nx] at this; omega
theorem nx_self (c : Dev nD) (s : Bool) : nx c s ≠ c := by
  intro h
  have := congrArg (fun d : Dev nD => pos d.val) h
  have := pos_lt c
  cases s <;> simp only [pos_nx] at this <;> omega

/-- The chunk device `c` sends at the all-gather's step `h` in direction `s`: the one whose owner sits `h` places back. -/
def ck (c : Dev nD) (s : Bool) (h : ℕ) : Dev nD := dev (match s with | true => pos c.val + (32 - h) | false => pos c.val + h)

theorem pos_ck (c : Dev nD) (s : Bool) (h : ℕ) : pos (ck c s h).val = (match s with | true => pos c.val + (32 - h) | false => pos c.val + h) % 32 := pos_dev _

theorem ck_zero (c : Dev nD) (s : Bool) : ck c s 0 = c := by
  apply pos_inj
  have := pos_lt c
  cases s <;> simp only [pos_ck] <;> omega
theorem ck_one (c : Dev nD) (s : Bool) : ck c s 1 = nx c (!s) := by
  apply pos_inj
  have := pos_lt c
  cases s <;> simp only [pos_ck, pos_nx, Bool.not_true, Bool.not_false] <;> omega
/-- What `c` sends at step `h` its neighbour receives as its step `h + 1`. -/
theorem ck_nx (c : Dev nD) (s : Bool) (h : ℕ) (hh : h < 32) : ck (nx c s) s (h + 1) = ck c s h := by
  apply pos_inj
  have := pos_lt c
  cases s <;> simp only [pos_ck, pos_nx] <;> omega

/-- The chunk device `c` adds at step `t` of the reduce-scatter in direction `s`. -/
def rsc (c : Dev nD) (s : Bool) (t : ℕ) : Dev nD := dev (match s with | true => pos c.val + (16 - t) | false => pos c.val + (17 + t))

theorem rsc_nx (c : Dev nD) (s : Bool) (t : ℕ) (ht : t < 15) : rsc (nx c s) s (t + 1) = rsc c s t := by
  apply pos_inj
  have := pos_lt c
  cases s <;> simp only [rsc, pos_dev, pos_nx] <;> omega

/-- The device named by entry `i` of the table the kernel reads on device `c`. -/
def tabD (c : Dev nD) (i : ℕ) : Dev nD :=
  if i = 0 then nx c false else if i = 1 then nx c true else if i = 2 then rsc c true 0 else if i = 3 then rsc c false 0
  else if i < 20 then ck c true (i - 3) else if i < 35 then ck c false (i - 19)
  else if i < 50 then rsc c true (i - 34) else rsc c false (i - 49)

/-! ## Words -/

/-- A device's number as the word the table holds. -/
def W (e : Dev nD) : BitVec 32 := BitVec.ofNat 32 e.val

theorem W_toNat (e : Dev nD) : (W e).toNat = e.val := by
  have : e.val < 32 := e.isLt; unfold W; rw [BitVec.toNat_ofNat]; omega

/-- Rows `128 k` of chunk `e`, and where the chunk begins. -/
def offH (e : Dev nD) (k : ℕ) : Fin 2 → ℕ := ![256 * e.val + 128 * k, 0]
def offC (e : Dev nD) : Fin 2 → ℕ := ![256 * e.val, 0]
def offS (e : Dev nD) : Fin 1 → ℕ := ![e.val]

theorem offS_W (e : Dev nD) : k0_off4 (W e) = offS e := by
  unfold k0_off4 offS; rw [W_toNat]

theorem half_word (k : Fin 2) (e : Dev nD) : (Scalar.addi (Scalar.muli (W e) 256#32) (BitVec.ofNat 32 (128 * k.val))).toNat = 256 * e.val + 128 * k.val := by
  have h : ∀ (k : Fin 2) (e : Fin 32), (Scalar.addi (Scalar.muli (BitVec.ofNat 32 e.val) 256#32) (BitVec.ofNat 32 (128 * k.val))).toNat = 256 * e.val + 128 * k.val := by decide
  exact h k e
theorem chunk_word (e : Dev nD) : (Scalar.indexCast (Scalar.muli (W e) 256#32) : Index).toNat = 256 * e.val := by
  have h : ∀ (e : Fin 32), (Scalar.indexCast (Scalar.muli (BitVec.ofNat 32 e.val) 256#32) : Index).toNat = 256 * e.val := by decide
  exact h e
theorem own_word (c : Dev nD) : Scalar.remsi (Scalar.divsi (Dev.word c) 1#32) 32#32 = W c := by
  have h : ∀ (c : Dev nD), Scalar.remsi (Scalar.divsi (Dev.word c) 1#32) 32#32 = W c := by decide
  exact h c

theorem offH0_W (e : Dev nD) : k0_off5 (W e) 0#32 = offH e 0 := by
  unfold k0_off5 offH; exact congrArg (fun n => (![n, 0] : Fin 2 → ℕ)) (half_word 0 e)
theorem offH1_W (e : Dev nD) : k0_off5 (W e) 128#32 = offH e 1 := by
  unfold k0_off5 offH; exact congrArg (fun n => (![n, 0] : Fin 2 → ℕ)) (half_word 1 e)
theorem offHk_W (e : Dev nD) (k : Fin 2) : k0_off5 (W e) (BitVec.ofNat 32 (128 * k.val)) = offH e k.val := by
  unfold k0_off5 offH; exact congrArg (fun n => (![n, 0] : Fin 2 → ℕ)) (half_word k e)
theorem offC_W (e : Dev nD) : k0_off10 (W e) = offC e := by
  unfold k0_off10 offC; exact congrArg (fun n => (![n, 0] : Fin 2 → ℕ)) (chunk_word e)

theorem offS_own (c : Dev nD) : k0_off2 c = offS c := by
  unfold k0_off2; exact (congrArg (fun w : BitVec 32 => (![w.toNat] : Fin 1 → ℕ)) (own_word c)).trans (offS_W c)
theorem offH0_own (c : Dev nD) : k0_off3 c 0#32 = offH c 0 := by
  unfold k0_off3; exact (congrArg (fun w : BitVec 32 => k0_off5 w 0#32) (own_word c)).trans (offH0_W c)
theorem offH1_own (c : Dev nD) : k0_off3 c 128#32 = offH c 1 := by
  unfold k0_off3; exact (congrArg (fun w : BitVec 32 => k0_off5 w 128#32) (own_word c)).trans (offH1_W c)
theorem offC_own (c : Dev nD) : k0_off1 c = offC c := by
  unfold k0_off1; exact (congrArg (fun w : BitVec 32 => k0_off10 w) (own_word c)).trans (offC_W c)

theorem dev_W_val (e : Dev nD) : k0_dev1 (W e) = e.val := by
  have h : ∀ e : Fin 32, k0_dev1 (BitVec.ofNat 32 e.val) = e.val := by decide
  exact h e
theorem dev_W_lt (e : Dev nD) : k0_dev1 (W e) < nD := by rw [dev_W_val]; exact e.isLt
/-- The device a word of the table names. -/
theorem dev_W (e : Dev nD) (h : k0_dev1 (W e) < nD) : (⟨k0_dev1 (W e), h⟩ : Dev nD) = e := Fin.ext (dev_W_val e)

/-! ## The conditions the kernel states of a word it has read -/

theorem inbS (e : Dev nD) : ∀ a, offS e a + S1.size a ≤ S32.size a := by
  have : e.val < 32 := e.isLt; intro a; fin_cases a; show e.val + 1 ≤ 32; omega
theorem inbH (e : Dev nD) (k : Fin 2) : ∀ a, offH e k.val a + S128x256.size a ≤ S8192x256.size a := by
  have : e.val < 32 := e.isLt; have := k.isLt; intro a; fin_cases a
  · show 256 * e.val + 128 * k.val + 128 ≤ 8192; omega
  · show 0 + 256 ≤ 256; omega
theorem inbC (e : Dev nD) : ∀ a, offC e a + S256x256.size a ≤ S8192x256.size a := by
  have : e.val < 32 := e.isLt; intro a; fin_cases a
  · show 256 * e.val + 256 ≤ 8192; omega
  · show 0 + 256 ≤ 256; omega
end Cert.TpMlp

end
-- ==== Proof.Cells.lean ====
/-
  The semaphores of the kernel as cells, and which message of which stream each cell serves.

  Per layer there are four streams of copies out of a device: the gather to the right and to the left, and the reduction
  to the right and to the left. `p = false` is the gather, `p = true` the reduction; `s = true` is rightward. `nm p s` is
  how many messages a stream has in one layer; message `i` of stream `(p, s)` out of device `c` lands on the cell
  `rcell p s i` of device `nx c s` and its read-out is credited to the cell `scell p s (i % 2)` of `c`.
-/
module

public import proofs.«01_k».proof.Proof.Ring
public import Idealize.ShloMosaic.Lib.Pipeline.Launch
public import Idealize.ShloMosaic.Lib.Tactic

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Numbers -/

/-- Messages of stream `(p, s)` in one layer. -/
def nm : Bool → Bool → ℕ
  | false, true => 32 | false, false => 30 | true, true => 16 | true, false => 15

/-- How many of them use the send cell of parity `k`. -/
def cnt (p s : Bool) (k : ℕ) : ℕ := (nm p s + 1 - k) / 2

/-- The number of the DMA semaphore message `i` of stream `(p, s)` lands on, at device `d`. -/
def rq (d : Dev nD) : Bool → Bool → ℕ → ℕ
  | false, s, i => 17 + 32 * (i % 2) + (ck d s (i / 2 + 1)).val
  | true, true, i => 81 + i
  | true, false, i => 97 + i
/-- The number of the send semaphore of parity `k`. -/
def sq : Bool → Bool → ℕ → ℕ
  | false, true, k => 9 + k | false, false, k => 11 + k | true, true, k => 13 + k | true, false, k => 15 + k

/-- DMA semaphore `q` (taken modulo their number). -/
def qs (q : ℕ) : DmaSem sig := ⟨q % 112, Nat.mod_lt _ (by decide)⟩
/-- The cell of DMA semaphore `q` on device `d`. -/
abbrev dcell (d : Dev nD) (q : ℕ) : GSem nD τ sig := ((d : Thread nD τ), .dma (qs q))
abbrev rcell (d : Dev nD) (p s : Bool) (i : ℕ) : GSem nD τ sig := dcell d (rq d p s i)
abbrev scell (d : Dev nD) (p s : Bool) (k : ℕ) : GSem nD τ sig := dcell d (sq p s k)
abbrev barS : Sem sig := (SemArray.scalar (sig.barrier 0 rfl) : Sems sig S_).sem
abbrev bcell (d : Dev nD) : GSem nD τ sig := ((d : Thread nD τ), .reg barS)

theorem nm_le (p s : Bool) : nm p s ≤ 32 := by cases p <;> cases s <;> decide

theorem rq_lo (d : Dev nD) {p s : Bool} {i : ℕ} (h : i < nm p s) : 17 ≤ rq d p s i := by
  cases p
  · simp only [rq]; omega
  · cases s <;> (simp only [rq]; omega)
theorem rq_hi (d : Dev nD) {p s : Bool} {i : ℕ} (h : i < nm p s) : rq d p s i < 112 := by
  cases p
  · have : (ck d s (i / 2 + 1)).val < 32 := (ck d s (i / 2 + 1)).isLt
    simp only [rq]; omega
  · cases s <;> (simp only [rq]; simp only [nm] at h; omega)
theorem sq_lo (p s : Bool) (k : ℕ) : 9 ≤ sq p s k := by cases p <;> cases s <;> (simp only [sq]; omega)
theorem sq_hi (p s : Bool) {k : ℕ} (h : k < 2) : sq p s k < 17 := by cases p <;> cases s <;> (simp only [sq]; omega)

theorem qs_val {q : ℕ} (h : q < 112) : (qs q).val = q := Nat.mod_eq_of_lt h
theorem qs_inj {a b : ℕ} (ha : a < 112) (hb : b < 112) (h : qs a = qs b) : a = b := by
  have := congrArg Fin.val h; rwa [qs_val ha, qs_val hb] at this

/-! ## What a cell is for -/

/-- The kinds of DMA cell. -/
inductive Kd where
  | recv (p s : Bool) (i : ℕ) | send (p s : Bool) (k : ℕ) | none
deriving DecidableEq

/-- How far back round the ring from device `d` the device of number `e` is. -/
def far (d : Dev nD) (e : ℕ) : ℕ := (pos d.val + 32 - pos e) % 32

/-- What DMA semaphore `q` of device `d` is for. The gather's receive semaphores are indexed by the chunk that arrives,
    so which message that is depends on how far round the ring the chunk's owner is. -/
def dec (d : Dev nD) (q : ℕ) : Kd :=
  if q < 9 then .none
  else if q < 17 then .send (decide (13 ≤ q)) (decide ((q - 9) / 2 % 2 = 0)) ((q - 9) % 2)
  else if q < 81 then
    if far d ((q - 17) % 32) = 0 then .none
    else if far d ((q - 17) % 32) ≤ 16 then .recv false true (2 * (far d ((q - 17) % 32) - 1) + (q - 17) / 32)
    else .recv false false (2 * (31 - far d ((q - 17) % 32)) + (q - 17) / 32)
  else if q < 97 then .recv true true (q - 81)
  else if q < 112 then .recv true false (q - 97) else .none

theorem dec_send (d : Dev nD) (p s : Bool) {k : ℕ} (h : k < 2) : dec d (sq p s k) = .send p s k := by
  have : k = 0 ∨ k = 1 := by omega
  rcases this with rfl | rfl <;> cases p <;> cases s <;> rfl

theorem dec_recv (d : Dev nD) {p s : Bool} {i : ℕ} (h : i < nm p s) : dec d (rq d p s i) = .recv p s i := by
  cases p
  · have he : (ck d s (i / 2 + 1)).val < 32 := (ck d s (i / 2 + 1)).isLt
    have hp : pos d.val < 32 := pos_lt d
    have hi : i < 32 := lt_of_lt_of_le h (nm_le _ _)
    have hq : rq d false s i = 17 + 32 * (i % 2) + (ck d s (i / 2 + 1)).val := rfl
    have h32 : (rq d false s i - 17) % 32 = (ck d s (i / 2 + 1)).val := by omega
    have hk : (rq d false s i - 17) / 32 = i % 2 := by omega
    unfold dec
    rw [if_neg (by omega), if_neg (by omega), if_pos (by omega), h32, hk]
    cases s
    · have hpe := pos_ck d false (i / 2 + 1)
      simp only [nm] at h
      have hf : far d (ck d false (i / 2 + 1)).val = 31 - i / 2 := by unfold far; simp only at hpe; omega
      rw [hf, if_neg (by omega), if_neg (by omega)]
      congr 1; omega
    · have hpe := pos_ck d true (i / 2 + 1)
      simp only [nm] at h
      have hf : far d (ck d true (i / 2 + 1)).val = i / 2 + 1 := by unfold far; simp only at hpe; omega
      rw [hf, if_neg (by omega), if_pos (by omega)]
      congr 1; omega
  · cases s
    · simp only [nm] at h
      have hq : rq d true false i = 97 + i := rfl
      unfold dec; rw [hq, if_neg (by omega), if_neg (by omega), if_neg (by omega), if_neg (by omega), if_pos (by omega)]
      congr 1; omega
    · simp only [nm] at h
      have hq : rq d true true i = 81 + i := rfl
      unfold dec; rw [hq, if_neg (by omega), if_neg (by omega), if_neg (by omega), if_pos (by omega)]
      congr 1; omega

/-- Every cell that receives a message is named by it: a kind determines its semaphore. -/
theorem dec_inv (d : Dev nD) {q : ℕ} {p s : Bool} {i : ℕ} (h : dec d q = .recv p s i) : i < nm p s ∧ q = rq d p s i := by
  unfold dec at h
  split at h; · cases h
  split at h; · cases h
  rename_i h9 h17
  split at h
  · rename_i h81
    have hlt : (q - 17) % 32 < 32 := Nat.mod_lt _ (by decide)
    have hp : pos d.val < 32 := pos_lt d
    have hpe : pos ((q - 17) % 32) < 32 := pos_lt (⟨(q - 17) % 32, hlt⟩ : Dev nD)
    have hfl : far d ((q - 17) % 32) < 32 := Nat.mod_lt _ (by decide)
    split at h; · cases h
    rename_i h0
    split at h
    · rename_i h16
      injection h with h1 h2 h3; subst h1 h2
      have hi : i / 2 = (far d ((q - 17) % 32) - 1) := by omega
      have hk : i % 2 = (q - 17) / 32 := by omega
      have hck : ck d true (i / 2 + 1) = ⟨(q - 17) % 32, hlt⟩ := by
        apply pos_inj; rw [pos_ck, hi]; unfold far at *; simp only; omega
      refine ⟨by simp only [nm]; omega, ?_⟩
      show q = 17 + 32 * (i % 2) + (ck d true (i / 2 + 1)).val
      rw [hck, hk]; show q = 17 + 32 * ((q - 17) / 32) + (q - 17) % 32; omega
    · rename_i h16
      injection h with h1 h2 h3; subst h1 h2
      have hi : i / 2 = (31 - far d ((q - 17) % 32)) := by omega
      have hk : i % 2 = (q - 17) / 32 := by omega
      have hck : ck d false (i / 2 + 1) = ⟨(q - 17) % 32, hlt⟩ := by
        apply pos_inj; rw [pos_ck, hi]; unfold far at *; simp only; omega
      refine ⟨by simp only [nm]; omega, ?_⟩
      show q = 17 + 32 * (i % 2) + (ck d false (i / 2 + 1)).val
      rw [hck, hk]; show q = 17 + 32 * ((q - 17) / 32) + (q - 17) % 32; omega
  · rename_i h81
    split at h
    · injection h with h1 h2 h3; subst h1 h2
      refine ⟨by simp only [nm]; omega, ?_⟩
      show q = 81 + i; omega
    · split at h
      · injection h with h1 h2 h3; subst h1 h2
        refine ⟨by simp only [nm]; omega, ?_⟩
        show q = 97 + i; omega
      · cases h

theorem dec_inv_send (d : Dev nD) {q : ℕ} {p s : Bool} {k : ℕ} (h : dec d q = .send p s k) : k < 2 ∧ q = sq p s k := by
  unfold dec at h
  split at h; · cases h
  split at h
  · rename_i h9 h17
    have : q = 9 ∨ q = 10 ∨ q = 11 ∨ q = 12 ∨ q = 13 ∨ q = 14 ∨ q = 15 ∨ q = 16 := by omega
    rcases this with rfl | rfl | rfl | rfl | rfl | rfl | rfl | rfl <;> (cases h; exact ⟨by decide, rfl⟩)
  · split at h
    · split at h
      · cases h
      · split at h
        · cases h
        · cases h
    · split at h
      · cases h
      · split at h
        · cases h
        · cases h

theorem dec_lo (d : Dev nD) {q : ℕ} (h : q < 9) : dec d q = .none := if_pos h

/-! ## The semaphores as the kernel names them -/

theorem sem_at (base n k : ℕ) (hb : base + (⟨1, ![n]⟩ : Shape).numel ≤ 112) (off : Fin 1 → ℕ) (ho : off = ![k])
    (h : ∀ a, off a + S1.size a ≤ (⟨1, ![n]⟩ : Shape).size a) (hs : (⟨1, S1.size⟩ : Shape).Squeezes S_) (hk : base + k < 112) :
    (((SemArray.consecutive (n := 112) base ⟨1, ![n]⟩ hb).slice (Rect.unit (s := ⟨1, ![n]⟩) off S1.size h)).squeeze S_ hs).sem = qs (base + k) := by
  subst ho
  apply Fin.ext
  rw [qs_val hk]
  show base + ((⟨1, ![n]⟩ : Shape).rowMajor _).val = base + k
  rw [Shape.rowMajor_val_one]
  have hj : ∀ j : (⟨1, S1.size⟩ : Shape).Idx, (j 0).val = 0 := fun j => by
    have : (j 0).val < 1 := (j 0).isLt
    omega
  show base + (k + 1 * (Shape.reshapeEquiv hs.numel_eq _ 0).val) = base + k
  rw [hj]; omega

theorem sem15 (k : ℕ) (hk : k < 2) (h) : ((cc0_scratch6.slice (Rect.unit (s := S2) ![k] S1.size h)).squeeze S_ squeezes_S1_S_).sem = qs (sq false true k) :=
  sem_at 9 2 k _ _ rfl h _ (by omega)
theorem sem16 (k : ℕ) (hk : k < 2) (h) : ((cc0_scratch7.slice (Rect.unit (s := S2) ![k] S1.size h)).squeeze S_ squeezes_S1_S_).sem = qs (sq false false k) :=
  sem_at 11 2 k _ _ rfl h _ (by omega)
theorem sem17 (k : ℕ) (hk : k < 2) (h) : ((cc0_scratch8.slice (Rect.unit (s := S2) ![k] S1.size h)).squeeze S_ squeezes_S1_S_).sem = qs (sq true true k) :=
  sem_at 13 2 k _ _ rfl h _ (by omega)
theorem sem18 (k : ℕ) (hk : k < 2) (h) : ((cc0_scratch9.slice (Rect.unit (s := S2) ![k] S1.size h)).squeeze S_ squeezes_S1_S_).sem = qs (sq true false k) :=
  sem_at 15 2 k _ _ rfl h _ (by omega)
theorem sem21 (k : ℕ) (hk : k < 16) (h) : ((cc0_scratch12.slice (Rect.unit (s := S16) ![k] S1.size h)).squeeze S_ squeezes_S1_S_).sem = qs (81 + k) :=
  sem_at 81 16 k _ _ rfl h _ (by omega)
theorem sem22 (k : ℕ) (hk : k < 15) (h) : ((cc0_scratch13.slice (Rect.unit (s := S15) ![k] S1.size h)).squeeze S_ squeezes_S1_S_).sem = qs (97 + k) :=
  sem_at 97 15 k _ _ rfl h _ (by omega)
theorem sem19 (e : Dev nD) (off : Fin 1 → ℕ) (ho : off = offS e) (h) :
    ((cc0_scratch10.slice (Rect.unit (s := S32) off S1.size h)).squeeze S_ squeezes_S1_S_).sem = qs (17 + 32 * 0 + e.val) :=
  sem_at 17 32 e.val _ _ ho h _ (by have : e.val < 32 := e.isLt; omega)
theorem sem20 (e : Dev nD) (off : Fin 1 → ℕ) (ho : off = offS e) (h) :
    ((cc0_scratch11.slice (Rect.unit (s := S32) off S1.size h)).squeeze S_ squeezes_S1_S_).sem = qs (17 + 32 * 1 + e.val) :=
  sem_at 49 32 e.val _ _ ho h _ (by have : e.val < 32 := e.isLt; omega)

end Cert.TpMlp

end
-- ==== Proof.Sched.lean ====
/-
  The protocol of the kernel and what a device holds at each point of it.

  What moves. In layer `l` the gather carries the layer's input: message `j` of direction `s` out of device `c` is half
  `j % 2` of chunk `ck c s (j / 2)`, which lands in the same place of the next device's buffer. The reduction carries
  partial sums: message `0` is the stage buffer, message `t + 1` is slot `t` with the device's own term added; message `t`
  lands in slot `t` of the next device.

  What a landing hands over: the elements written, with their contents; and with message 1 of a gather the slots of the
  device that sent it, for the reduction that flows back the other way; with message 0 of a reduction its gather buffer
  for the next layer; with the opening signal its gather buffer for the first layer.
-/
module

public import proofs.«01_k».proof.Proof.Cells
public import Idealize.ShloMosaic.Lib.Pipeline.Kit

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's copy of the rounds algebra, duties named by a direction, beside the pipeline's. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Buffers -/

abbrev tabM : Memref sig .tc .smem S64 .i32 := Memref.whole cc0_stg0_0
abbrev xM : Memref sig .tc .vmem S8192x256 .bf16 := Memref.whole cc0_scratch0
abbrev yM : Memref sig .tc .vmem S8192x256 .f32 := Memref.whole cc0_scratch1
abbrev rrM : Memref sig .tc .vmem S16x256x256 .bf16 := Memref.whole cc0_scratch2
abbrev rlM : Memref sig .tc .vmem S15x256x256 .bf16 := Memref.whole cc0_scratch3
abbrev srM : Memref sig .tc .vmem S256x256 .bf16 := Memref.whole cc0_scratch4
abbrev slM : Memref sig .tc .vmem S256x256 .bf16 := Memref.whole cc0_scratch5

/-- Half `k` (modulo 2) of chunk `e`, chunk `e`, and slot `t` of the two slot buffers, as rectangles. -/
abbrev rH (e : Dev nD) (k : ℕ) : Rect S8192x256 :=
  Rect.unit (s := S8192x256) (offH e (k % 2)) S128x256.size (inbH e ⟨k % 2, Nat.mod_lt _ (by decide)⟩)
abbrev rC (e : Dev nD) : Rect S8192x256 := Rect.unit (s := S8192x256) (offC e) S256x256.size (inbC e)
theorem inbR (t : ℕ) : ∀ a, (![t % 16, 0, 0] : Fin 3 → ℕ) a + S1x256x256.size a ≤ S16x256x256.size a := by
  intro a; fin_cases a
  · show t % 16 + 1 ≤ 16; omega
  · exact Nat.le_refl 256
  · exact Nat.le_refl 256
theorem inbL (t : ℕ) : ∀ a, (![t % 15, 0, 0] : Fin 3 → ℕ) a + S1x256x256.size a ≤ S15x256x256.size a := by
  intro a; fin_cases a
  · show t % 15 + 1 ≤ 15; omega
  · exact Nat.le_refl 256
  · exact Nat.le_refl 256
abbrev rR (t : ℕ) : Rect S16x256x256 := Rect.unit (s := S16x256x256) ![t % 16, 0, 0] S1x256x256.size (inbR t)
abbrev rL (t : ℕ) : Rect S15x256x256 := Rect.unit (s := S15x256x256) ![t % 15, 0, 0] S1x256x256.size (inbL t)

/-- The units a message of each kind is worth. -/
def NN : Bool → ℕ
  | false => (xM.slice (rH 0 0) (fun _ => rfl)).view.dmaCredit
  | true => srM.view.dmaCredit
theorem NN_pos (p : Bool) : 0 < NN p := by cases p <;> exact View.dmaCredit_pos _ (by decide)

/-! ## Contents -/

/-- Every device's blocks of the arguments: of the input, and of each layer's two weights. -/
structure Args (F : FTy → Type) where
  x : Dev nD → Vec F S256x256 .f32
  wi : ℕ → Dev nD → Vec F S256x512 .f32
  wo : ℕ → Dev nD → Vec F S512x256 .f32

/-- Device `c`'s term for chunk `e`, from a layer's input. -/
def Yof (A : Args F) (l : ℕ) (xl : Dev nD → Vec F S256x256 .bf16) (c e : Dev nD) : Vec F S256x256 .f32 :=
  k0_pay3 (xl e) (A.wi l c) (A.wo l c)

/-- What message `t` of the reduction in direction `s` out of device `c` holds. -/
def Smof (Y : Dev nD → Dev nD → Vec F S256x256 .f32) (s : Bool) : ℕ → Dev nD → Vec F S1x256x256 .bf16
  | 0, c => shapeCast S1x256x256 (k0_pay48 (Y c (rsc c s 0))) shapeCasts_S256x256_S1x256x256
  | t + 1, c => k0_pay50 (Smof Y s t (nx c (!s))) (Y c (rsc c s (t + 1)))

/-- The input of layer `l`, chunk by chunk. -/
def xb (A : Args F) : ℕ → Dev nD → Vec F S256x256 .bf16
  | 0 => fun c => k0_pay2 (A.x c)
  | l + 1 => fun c => k0_pay86 (Smof (Yof A l (xb A l)) true 15 (nx c false)) (Smof (Yof A l (xb A l)) false 14 (nx c true))
      (Yof A l (xb A l) c c)

def Y (A : Args F) (l : ℕ) : Dev nD → Dev nD → Vec F S256x256 .f32 := Yof A l (xb A l)
def Sm (A : Args F) (l : ℕ) (s : Bool) (t : ℕ) (c : Dev nD) : Vec F S1x256x256 .bf16 := Smof (Y A l) s t c
/-- The kernel's result on device `c`. -/
def res (A : Args F) (c : Dev nD) : Vec F S256x256 .f32 :=
  k0_pay1 (k0_pay257 (Sm A 2 true 15 (nx c false))) (Sm A 2 false 14 (nx c true)) (Y A 2 c c)

theorem Sm_zero (A : Args F) (l : ℕ) (s : Bool) (c : Dev nD) :
    Sm A l s 0 c = shapeCast S1x256x256 (k0_pay48 (Y A l c (rsc c s 0))) shapeCasts_S256x256_S1x256x256 := rfl
theorem Sm_succ (A : Args F) (l : ℕ) (s : Bool) (t : ℕ) (c : Dev nD) :
    Sm A l s (t + 1) c = k0_pay50 (Sm A l s t (nx c (!s))) (Y A l c (rsc c s (t + 1))) := rfl

/-- The gather buffer of layer `l` once whole. -/
def XF (A : Args F) (l : ℕ) : Vec F S8192x256 .bf16 := fun i =>
  xb A l ⟨(i 0).val / 256, by have : (i 0).val < 8192 := (i 0).isLt; show _ < 32; omega⟩
    (fun a => match a with
      | ⟨0, _⟩ => ⟨(i 0).val % 256, Nat.mod_lt _ (by decide)⟩
      | ⟨1, _⟩ => ⟨(i 1).val, (i 1).isLt⟩)

/-- The table of device `c`. -/
def tabV (c : Dev nD) : S64.Idx → Elt F .i32 := fun i => W (tabD c (i 0).val)

/-! ## Points-tos -/

/-- Half `k` of chunk `e` of device `c`'s gather buffer, at a share and contents. -/
def hpt (c e : Dev nD) (k : ℕ) (q : PosShare TreeShare) (f : Vec F S8192x256 .bf16) : sProp 𝕄 :=
  ((c : Thread nD τ).loc cc0_scratch0) ↦[(rH e k).set]{q} f
/-- Slot `t` of direction `s` of device `c`, holding `v`. -/
def slot (c : Dev nD) : Bool → ℕ → Vec F S1x256x256 .bf16 → sProp 𝕄
  | true, t, v => iprop(∃ f : Vec F S16x256x256 .bf16, ⌜rrM.view.readAt (Elt F) (rR t).toLoadRect f = v⌝
      ∗ ((c : Thread nD τ).loc cc0_scratch2) ↦[(rR t).set]{fullShare} f)
  | false, t, v => iprop(∃ f : Vec F S15x256x256 .bf16, ⌜rlM.view.readAt (Elt F) (rL t).toLoadRect f = v⌝
      ∗ ((c : Thread nD τ).loc cc0_scratch3) ↦[(rL t).set]{fullShare} f)
def slotE (c : Dev nD) (s : Bool) (t : ℕ) : sProp 𝕄 := iprop(∃ v, slot (F := F) c s t v)
/-- The stage buffer of direction `s` of device `c`, holding `v`. -/
def stg (c : Dev nD) : Bool → Vec F S256x256 .bf16 → sProp 𝕄
  | true, v => ((c : Thread nD τ).loc cc0_scratch4) ↦{fullShare} v
  | false, v => ((c : Thread nD τ).loc cc0_scratch5) ↦{fullShare} v
def stgE (c : Dev nD) (s : Bool) : sProp 𝕄 := iprop(∃ v, stg (F := F) c s v)

omit [FloatOps F] in
instance hpt_storable (c e : Dev nD) (k q) (f : Vec F S8192x256 .bf16) : BI.Storable (upEmb : UEmb _ 𝕄) (hpt c e k q f) := by
  unfold hpt; infer_instance
omit [FloatOps F] in
instance slot_storable (c : Dev nD) (s t) (v : Vec F S1x256x256 .bf16) : BI.Storable (upEmb : UEmb _ 𝕄) (slot c s t v) := by
  cases s <;> (unfold slot; infer_instance)
omit [FloatOps F] in
instance slotE_storable (c : Dev nD) (s t) : BI.Storable (upEmb : UEmb _ 𝕄) (slotE (F := F) c s t) := by unfold slotE; infer_instance
omit [FloatOps F] in
instance stg_storable (c : Dev nD) (s) (v : Vec F S256x256 .bf16) : BI.Storable (upEmb : UEmb _ 𝕄) (stg c s v) := by
  cases s <;> (unfold stg; infer_instance)
omit [FloatOps F] in
instance stgE_storable (c : Dev nD) (s) : BI.Storable (upEmb : UEmb _ 𝕄) (stgE (F := F) c s) := by unfold stgE; infer_instance

/-! ## What the messages hand over -/

/-- Where device `d` receives layer `l`'s gather in direction `s`: the halves, and that the cells are at round `l`. -/
def XS (l : ℕ) (d : Dev nD) (s : Bool) : sProp 𝕄 :=
  bigSep (Finset.range (nm false s)) fun i =>
    iprop((∃ f, hpt (F := F) d (ck d s (i / 2 + 1)) i fullShare f) ∗ reached ER (rcell d false s i) l)
/-- Where it receives layer `l`'s reduction. -/
def RSS (l : ℕ) (d : Dev nD) (s : Bool) : sProp 𝕄 :=
  bigSep (Finset.range (nm true s)) fun t => iprop(slotE (F := F) d s t ∗ reached ER (rcell d true s t) l)

/-- What message `i` of a stream of device `d` in direction `s` brings beside its elements. -/
def give (l : ℕ) (d : Dev nD) (s : Bool) : Bool → ℕ → sProp 𝕄
  | false, i => if i = 1 then RSS (F := F) l d (!s) else iprop(emp)
  | true, i => if i = 0 ∧ l < 2 then XS (F := F) (l + 1) d (!s) else iprop(emp)

/-- The share at which gather message `j` in direction `s` is read out. -/
def shr (s : Bool) (j : ℕ) : PosShare TreeShare :=
  if j < 2 then (if s then fullShare.left.left else fullShare.left.right) else fullShare.left

/-- What comes back once message `j` has been read out. -/
def src (A : Args F) (l : ℕ) (c : Dev nD) (s : Bool) : Bool → ℕ → sProp 𝕄
  | false, j => hpt c (ck c s (j / 2)) j (shr s j) (XF A l)
  | true, 0 => stgE c s
  | true, t + 1 => slotE c s t
/-- A source before it is ready to send, and once it is. -/
def raw (A : Args F) (l : ℕ) (c : Dev nD) (s : Bool) : Bool → ℕ → sProp 𝕄
  | false, j => hpt c (ck c s (j / 2)) j (shr s j) (XF A l)
  | true, 0 => stgE c s
  | true, t + 1 => slot c s t (Sm A l s t (nx c (!s)))
def rdy (A : Args F) (l : ℕ) (c : Dev nD) (s : Bool) : Bool → ℕ → sProp 𝕄
  | false, j => hpt c (ck c s (j / 2)) j (shr s j) (XF A l)
  | true, 0 => stg c s (k0_pay48 (Y A l c (rsc c s 0)))
  | true, t + 1 => slot c s t (Sm A l s (t + 1) c)

/-- The elements message `i` in direction `s` lands at device `c`. -/
def lnd (A : Args F) (l : ℕ) (c : Dev nD) (s : Bool) : Bool → ℕ → sProp 𝕄
  | false, i => hpt c (ck c s (i / 2 + 1)) i fullShare (XF A l)
  | true, i => slot c s i (Sm A l s i (nx c (!s)))
def rx (A : Args F) (l : ℕ) (c : Dev nD) (p s : Bool) (i : ℕ) : sProp 𝕄 :=
  iprop(lnd A l c s p i ∗ give l (nx c (!s)) s p i)

omit [FloatOps F] in
instance XS_storable (l : ℕ) (d : Dev nD) (s : Bool) : BI.Storable (upEmb : UEmb _ 𝕄) (XS (F := F) l d s) := by unfold XS; infer_instance
omit [FloatOps F] in
instance RSS_storable (l : ℕ) (d : Dev nD) (s : Bool) : BI.Storable (upEmb : UEmb _ 𝕄) (RSS (F := F) l d s) := by unfold RSS; infer_instance
omit [FloatOps F] in
instance give_storable (l : ℕ) (d : Dev nD) (s p : Bool) (i : ℕ) : BI.Storable (upEmb : UEmb _ 𝕄) (give (F := F) l d s p i) := by
  cases p
  · unfold give; dsimp only; by_cases h : i = 1
    · rw [if_pos h]; infer_instance
    · rw [if_neg h]; infer_instance
  · unfold give; dsimp only; by_cases h : i = 0 ∧ l < 2
    · rw [if_pos h]; infer_instance
    · rw [if_neg h]; infer_instance
instance src_storable (A : Args F) (l c s p j) : BI.Storable (upEmb : UEmb _ 𝕄) (src A l c s p j) := by
  cases p
  · unfold src; infer_instance
  · cases j <;> (unfold src; infer_instance)
instance rx_storable (A : Args F) (l c p s i) : BI.Storable (upEmb : UEmb _ 𝕄) (rx A l c p s i) := by
  unfold rx; cases p <;> (unfold lnd; infer_instance)

/-! ## The schedule -/

/-- One round per layer on a receive cell; on a send cell one per message of its parity; one on the barrier cell, to
    which each neighbour signals once. -/
def Rd (A : Args F) : Rounds.Schedule (GSem nD τ sig) Bool 𝕄 where
  duties g r :=
    if g.1.2 = .tc then
      match g.2 with
      | .reg _ => if r = 0 then Finset.univ else ∅
      | .dma q => match dec g.1.1 q.val with
        | .recv _ _ _ => if r < 3 then {true} else ∅
        | .send p s k => if r < 3 * cnt p s k then {true} else ∅
        | .none => ∅
    else ∅
  unitless _ := False
  amount g _ _ := match g.2 with
    | .reg _ => 1
    | .dma q => match dec g.1.1 q.val with
      | .recv p _ _ => NN p
      | .send p _ _ => NN p
      | .none => 1
  payload g r d := match g.2 with
    | .reg _ => XS 0 (nx g.1.1 d) d
    | .dma q => match dec g.1.1 q.val with
      | .recv p s i => rx A r g.1.1 p s i
      | .send p s k => src A (r / cnt p s k) g.1.1 s p (2 * (r % cnt p s k) + k)
      | .none => iprop(emp)
  amount_pos g r d _ := by
    rcases g with ⟨t, _ | q⟩
    · exact Nat.one_pos
    · dsimp only; split
      · exact NN_pos _
      · exact NN_pos _
      · exact Nat.one_pos

instance Rd_storable (A : Args F) (g : GSem nD τ sig) (r : ℕ) (d : Bool) : BI.Storable (upEmb : UEmb _ 𝕄) ((Rd A).payload g r d) := by
  rcases g with ⟨t, _ | q⟩
  · show BI.Storable _ (XS 0 (nx t.1 d) d); infer_instance
  · show BI.Storable _ (match dec t.1 q.val with
      | .recv p s i => rx A r t.1 p s i
      | .send p s k => src A (r / cnt p s k) t.1 s p (2 * (r % cnt p s k) + k)
      | .none => iprop(emp))
    split <;> infer_instance

section Sched
variable (A : Args F) (c : Dev nD)

theorem duties_recv {p s : Bool} {i r : ℕ} (h : i < nm p s) (hr : r < 3) : (Rd A).duties (rcell c p s i) r = {true} := by
  dsimp only [Rd]
  rw [qs_val (rq_hi c h), dec_recv c h, if_pos rfl]; exact if_pos hr
theorem duties_send {p s : Bool} {k r : ℕ} (h : k < 2) (hr : r < 3 * cnt p s k) : (Rd A).duties (scell c p s k) r = {true} := by
  dsimp only [Rd]
  rw [qs_val (lt_trans (sq_hi p s h) (by decide)), dec_send c p s h, if_pos rfl]; exact if_pos hr
theorem duties_bar : (Rd A).duties (bcell c) 0 = Finset.univ := by
  dsimp only [Rd]; rw [if_pos rfl, if_pos rfl]
theorem duties_recv_end {p s : Bool} {i : ℕ} (h : i < nm p s) : ∀ r, 3 ≤ r → (Rd A).duties (rcell c p s i) r = ∅ := fun r hr => by
  dsimp only [Rd]
  rw [qs_val (rq_hi c h), dec_recv c h, if_pos rfl]; exact if_neg (by omega)
theorem duties_send_end {p s : Bool} {k : ℕ} (h : k < 2) : ∀ r, 3 * cnt p s k ≤ r → (Rd A).duties (scell c p s k) r = ∅ := fun r hr => by
  dsimp only [Rd]
  rw [qs_val (lt_trans (sq_hi p s h) (by decide)), dec_send c p s h, if_pos rfl]; exact if_neg (by omega)
theorem duties_bar_end : ∀ r, 1 ≤ r → (Rd A).duties (bcell c) r = ∅ := fun r hr => by
  dsimp only [Rd]; rw [if_pos rfl, if_neg (by omega)]

theorem amount_recv {p s : Bool} {i : ℕ} (h : i < nm p s) (r d) : (Rd A).amount (rcell c p s i) r d = NN p := by
  dsimp only [Rd]; rw [qs_val (rq_hi c h), dec_recv c h]
theorem amount_send {p s : Bool} {k : ℕ} (h : k < 2) (r d) : (Rd A).amount (scell c p s k) r d = NN p := by
  dsimp only [Rd]; rw [qs_val (lt_trans (sq_hi p s h) (by decide)), dec_send c p s h]
theorem amount_bar (r d) : (Rd A).amount (bcell c) r d = 1 := rfl

theorem payload_recv {p s : Bool} {i : ℕ} (h : i < nm p s) (r d) : (Rd A).payload (rcell c p s i) r d = rx A r c p s i := by
  dsimp only [Rd]; rw [qs_val (rq_hi c h), dec_recv c h]
theorem payload_send {p s : Bool} {k : ℕ} (h : k < 2) (r d) :
    (Rd A).payload (scell c p s k) r d = src A (r / cnt p s k) c s p (2 * (r % cnt p s k) + k) := by
  dsimp only [Rd]; rw [qs_val (lt_trans (sq_hi p s h) (by decide)), dec_send c p s h]
theorem payload_bar (r : ℕ) (d : Bool) : (Rd A).payload (bcell c) r d = XS 0 (nx c d) d := rfl

theorem expect_recv {p s : Bool} {i r : ℕ} (h : i < nm p s) (hr : r < 3) : (Rd A).expect (rcell c p s i) r = NN p := by
  unfold Schedule.expect Schedule.amountOf; rw [duties_recv A c h hr, Finset.sum_singleton, amount_recv A c h]
theorem expect_send {p s : Bool} {k r : ℕ} (h : k < 2) (hr : r < 3 * cnt p s k) : (Rd A).expect (scell c p s k) r = NN p := by
  unfold Schedule.expect Schedule.amountOf; rw [duties_send A c h hr, Finset.sum_singleton, amount_send A c h]
theorem expect_bar : (Rd A).expect (bcell c) 0 = 2 := by
  unfold Schedule.expect Schedule.amountOf
  rw [duties_bar, Finset.sum_congr rfl fun d _ => amount_bar A c 0 d, Finset.sum_const, Finset.card_univ, Fintype.card_bool, smul_eq_mul]

theorem rest_recv {p s : Bool} {i r : ℕ} (h : i < nm p s) (hr : r < 3) :
    bigSep ((Rd A).duties (rcell c p s i) r \ ∅) (fun d => (Rd A).payload (rcell c p s i) r d) = rx A r c p s i := by
  rw [Finset.sdiff_empty, duties_recv A c h hr, bigSep_singleton, payload_recv A c h]
theorem rest_send {p s : Bool} {k r : ℕ} (h : k < 2) (hr : r < 3 * cnt p s k) :
    bigSep ((Rd A).duties (scell c p s k) r \ ∅) (fun d => (Rd A).payload (scell c p s k) r d)
      = src A (r / cnt p s k) c s p (2 * (r % cnt p s k) + k) := by
  rw [Finset.sdiff_empty, duties_send A c h hr, bigSep_singleton, payload_send A c h]
theorem rest_bar : bigSep ((Rd A).duties (bcell c) 0 \ ∅) (fun d => (Rd A).payload (bcell c) 0 d)
    = iprop(XS 0 (nx c true) true ∗ XS 0 (nx c false) false) := by
  rw [Finset.sdiff_empty, duties_bar, bigSep_univ_eq_bigSepL [true, false] (by decide) (by decide), bigSepL_cons_cons, bigSepL_singleton]
  rfl
end Sched

/-! ## What is owed, and levels -/

/-- A phase is one gather or one reduction: `ph l p` is its number. -/
def ph (l : ℕ) (p : Bool) : ℕ := 2 * l + (if p then 1 else 0)
/-- The place of message `j` within its phase. -/
def ixp (p : Bool) (j : ℕ) : ℕ := if p then j else j / 2
/-- The level of message `j` of phase `ph l p`. -/
def ix (p : Bool) (l j : ℕ) : ℕ := 50 * ph l p + 10 + ixp p j
/-- What device `c` still owes for a stream, `n` messages sent. -/
def due (c : Dev nD) (l : ℕ) (p s : Bool) (n : ℕ) : CellTallies nD τ sig ℕ :=
  ∑ j ∈ Finset.Ico n (nm p s), tallyAt (rcell (nx c s) p s j) (ix p l j) (NN p)
/-- What it owes for all phases from `k` on. -/
def rest (c : Dev nD) (k : ℕ) : CellTallies nD τ sig ℕ :=
  ∑ h ∈ Finset.Ico k 6, (due c (h / 2) (decide (h % 2 = 1)) true 0 + due c (h / 2) (decide (h % 2 = 1)) false 0)

def L (g : GSem nD τ sig) : Finset ℕ := if g.1.2 = .tc then Finset.range 400 else ∅
def lv (_ : GSem nD τ sig) (i : ℕ) : ℕ := i

theorem Ico_bot {a b : ℕ} (h : a < b) : Finset.Ico a b = insert a (Finset.Ico (a + 1) b) := by
  ext i; rw [Finset.mem_insert, Finset.mem_Ico, Finset.mem_Ico]; omega
theorem due_succ (c : Dev nD) (l : ℕ) (p s : Bool) {n : ℕ} (h : n < nm p s) :
    due c l p s n = due c l p s (n + 1) + tallyAt (rcell (nx c s) p s n) (ix p l n) (NN p) := by
  unfold due; rw [Ico_bot h, Finset.sum_insert (by simp), add_comm]
theorem due_end (c : Dev nD) (l : ℕ) (p s : Bool) {n : ℕ} (h : nm p s ≤ n) : due c l p s n = 0 := by
  unfold due; rw [Finset.Ico_eq_empty (by omega), Finset.sum_empty]
theorem rest_succ (c : Dev nD) {k : ℕ} (h : k < 6) :
    rest c k = (due c (k / 2) (decide (k % 2 = 1)) true 0 + due c (k / 2) (decide (k % 2 = 1)) false 0) + rest c (k + 1) := by
  unfold rest; rw [Ico_bot h, Finset.sum_insert (by simp)]

theorem sum_pos {ι : Type} [DecidableEq ι] (S : Finset ι) (f : ι → CellTallies nD τ sig ℕ) {g : GSem nD τ sig} {u : ℕ}
    (h : 0 < (∑ j ∈ S, f j) g u) : ∃ j ∈ S, 0 < f j g u := by
  induction S using Finset.induction_on with
  | empty => exact absurd h (Nat.lt_irrefl 0)
  | insert a S ha ih =>
    rw [Finset.sum_insert ha, Pi.add_apply, Finsupp.add_apply] at h
    by_cases h0 : 0 < f a g u
    · exact ⟨a, Finset.mem_insert_self _ _, h0⟩
    · obtain ⟨j, hj, h'⟩ := ih (by omega)
      exact ⟨j, Finset.mem_insert_of_mem hj, h'⟩

theorem due_pos {c : Dev nD} {l : ℕ} {p s : Bool} {n : ℕ} {g : GSem nD τ sig} {u : ℕ} (h : 0 < due c l p s n g u) :
    g.1.2 = .tc ∧ ∃ j, n ≤ j ∧ j < nm p s ∧ u = ix p l j := by
  obtain ⟨j, hj, h⟩ := sum_pos _ _ h
  rw [tallyAt_apply] at h
  rw [Finset.mem_Ico] at hj
  by_cases h' : g = rcell (nx c s) p s j ∧ u = ix p l j
  · exact ⟨by rw [h'.1], j, hj.1, hj.2, h'.2⟩
  · rw [if_neg h'] at h; exact absurd h (Nat.lt_irrefl 0)

theorem ixp_le (p : Bool) {s : Bool} {j : ℕ} (h : j < nm p s) : ixp p j < 40 := by
  have := nm_le p s
  unfold ixp; split <;> omega

theorem rest_pos {c : Dev nD} {k : ℕ} {g : GSem nD τ sig} {u : ℕ} (h : 0 < rest c k g u) :
    g.1.2 = .tc ∧ 50 * k + 10 ≤ u ∧ u < 400 := by
  obtain ⟨j, hj, h⟩ := sum_pos _ _ h
  rw [Finset.mem_Ico] at hj
  rw [Pi.add_apply, Finsupp.add_apply] at h
  have key : ∀ s, 0 < due c (j / 2) (decide (j % 2 = 1)) s 0 g u → g.1.2 = .tc ∧ 50 * k + 10 ≤ u ∧ u < 400 := fun s hd => by
    obtain ⟨h1, i, -, hi, rfl⟩ := due_pos hd
    refine ⟨h1, ?_⟩
    have hix := ixp_le _ hi
    have hph : ph (j / 2) (decide (j % 2 = 1)) = j := by unfold ph; by_cases h : j % 2 = 1 <;> simp [h] <;> omega
    unfold ix; rw [hph]; omega
  by_cases h1 : 0 < due c (j / 2) (decide (j % 2 = 1)) true 0 g u
  · exact key true h1
  · exact key false (by omega)

/-- What device `c` owes inside a phase, `n s` messages of direction `s` sent. -/
def OO (c : Dev nD) (l : ℕ) (p : Bool) (nt nf : ℕ) : CellTallies nD τ sig ℕ :=
  due c l p true nt + due c l p false nf + rest c (ph l p + 1)

theorem OO_pos {c : Dev nD} {l : ℕ} {p : Bool} {nt nf : ℕ} (hl : l < 3) {g : GSem nD τ sig} {u : ℕ} (h : 0 < OO c l p nt nf g u) :
    g.1.2 = .tc ∧ u < 400 ∧ 10 ≤ u ∧ ∀ i s₀, i < nm p s₀ → (nm p true ≤ nt ∨ ixp p i < ixp p nt) → (nm p false ≤ nf ∨ ixp p i < ixp p nf) → ix p l i < u := by
  unfold OO at h
  rw [Pi.add_apply, Finsupp.add_apply, Pi.add_apply, Finsupp.add_apply] at h
  have hph : ph l p < 6 := by unfold ph; split <;> omega
  have mono : ∀ a b, a ≤ b → ixp p a ≤ ixp p b := fun a b h => by unfold ixp; split <;> omega
  by_cases h1 : 0 < due c l p true nt g u
  · obtain ⟨h2, j, hj, hj', rfl⟩ := due_pos h1
    have := ixp_le _ hj'
    have := mono _ _ hj
    refine ⟨h2, by unfold ix; omega, by unfold ix; omega, fun i s₀ hi ht hf => ?_⟩
    unfold ix; omega
  by_cases h3 : 0 < due c l p false nf g u
  · obtain ⟨h2, j, hj, hj', rfl⟩ := due_pos h3
    have := ixp_le _ hj'
    have := mono _ _ hj
    refine ⟨h2, by unfold ix; omega, by unfold ix; omega, fun i s₀ hi ht hf => ?_⟩
    unfold ix; omega
  · obtain ⟨h2, h4, h5⟩ := rest_pos (show 0 < rest c (ph l p + 1) g u by omega)
    refine ⟨h2, h5, by omega, fun i s₀ hi ht hf => ?_⟩
    have := ixp_le _ hi
    unfold ix; omega

/-- The receive wait for message `i` is below everything owed. -/
def okLev (p : Bool) (i nt nf : ℕ) : Bool :=
  (decide (nm p true ≤ nt) || decide (ixp p i < ixp p nt)) && (decide (nm p false ≤ nf) || decide (ixp p i < ixp p nf))

omit [FloatOps F] in
theorem mayWait_recv (c : Dev nD) (l : ℕ) (hl : l < 3) (p s : Bool) (i nt nf : ℕ) (hi : i < nm p s) (h : okLev p i nt nf = true) :
    (levAts L lv : sProp 𝕄) ⊢ MayWait (c : Thread nD τ) (.dma (qs (rq c p s i))) (ix p l i) (OO c l p nt nf) := by
  have hix := ixp_le _ hi
  have hph : ph l p < 6 := by unfold ph; split <;> omega
  unfold okLev at h
  rw [Bool.and_eq_true, Bool.or_eq_true, Bool.or_eq_true, decide_eq_true_eq, decide_eq_true_eq, decide_eq_true_eq, decide_eq_true_eq] at h
  refine MayOwe.of_cut (L := L) (lev := lv) (ix p l i) (fun q hq => ?_) (fun g u hg => ?_) (fun q hq => ?_) (fun g u hg => ?_)
  · rw [Finset.mem_singleton.mp hq]; unfold L; rw [if_pos rfl, Finset.mem_range]; unfold ix; omega
  · obtain ⟨h1, h2, -, -⟩ := OO_pos hl hg
    unfold L; rw [if_pos h1, Finset.mem_range]; exact h2
  · rw [Finset.mem_singleton.mp hq]; exact Nat.le_refl _
  · obtain ⟨-, -, -, h4⟩ := OO_pos hl hg
    exact h4 i s hi h.1 h.2
omit [FloatOps F] in
theorem mayWait_low (c : Dev nD) (l : ℕ) (hl : l < 3) (p : Bool) (sm : SemLoc sig) (u nt nf : ℕ) (hu : u < 10) :
    (levAts L lv : sProp 𝕄) ⊢ MayWait (c : Thread nD τ) sm u (OO c l p nt nf) := by
  refine MayOwe.of_cut (L := L) (lev := lv) u (fun q hq => ?_) (fun g u' hg => ?_) (fun q hq => ?_) (fun g u' hg => ?_)
  · rw [Finset.mem_singleton.mp hq]; unfold L; rw [if_pos rfl, Finset.mem_range]; show u < 400; omega
  · obtain ⟨h1, h2, -, -⟩ := OO_pos hl hg
    unfold L; rw [if_pos h1, Finset.mem_range]; exact h2
  · rw [Finset.mem_singleton.mp hq]; exact Nat.le_refl _
  · obtain ⟨-, -, h3, -⟩ := OO_pos hl hg
    show u < u'; omega

end Cert.TpMlp

end
-- ==== Proof.State.lean ====
/-
  What a device holds inside a phase: its receive cells, its messages, the positions of its send cells, each by how far
  the phase has got; and the steps that change it, one message at a time.
-/
module

public import proofs.«01_k».proof.Proof.Sched
public import Idealize.ShloMosaic.Lib.SparseCore.ProtocolKit

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families -/

theorem fam_erase {M : Type} [URA M] {I : Type} [DecidableEq I] {S : Finset I} {i : I} (h : i ∈ S) {Φ : I → sProp M} :
    bigSep S Φ = iprop(Φ i ∗ bigSep (S.erase i) Φ) := bigSep_erase h
theorem fam_elim {M : Type} [URA M] {I : Type} [DecidableEq I] {S : Finset I} {i : I} (h : i ∈ S) {Φ : I → sProp M} :
    bigSep S Φ ⊢ Φ i := by
  rw [fam_erase h]; iintro ⟨H, -⟩; iexact H

/-! ## Every cell -/

/-- The barrier cells, and the copy semaphores of the kernel. -/
def barCells : Finset (GSem nD τ sig) := Finset.univ.image bcell
def dmaCells : Finset (GSem nD τ sig) := Finset.univ.image fun p : Dev nD × Fin 103 => dcell p.1 (9 + p.2.val)

/-- The invariants of all cells and the levels: known throughout. -/
def IN (A : Args F) (K : GSem nD τ sig → ℕ) : sProp 𝕄 :=
  iprop(bigSep (barCells ∪ dmaCells) (fun g => cellInv ER (Rd A) (K g) g) ∗ levAts L lv)

instance IN_pers (A : Args F) (K) : BI.Persistent (IN A K) := by unfold IN; infer_instance

theorem dcell_mem (c : Dev nD) (q : ℕ) (h : 9 ≤ q) (h' : q < 112) : dcell c q ∈ barCells ∪ dmaCells :=
  Finset.mem_union_right _ (Finset.mem_image.mpr ⟨(c, ⟨q - 9, by omega⟩), Finset.mem_univ _, by
    show dcell c (9 + (q - 9)) = _; rw [show 9 + (q - 9) = q by omega]⟩)
theorem rcell_mem (c : Dev nD) {p s : Bool} {i : ℕ} (h : i < nm p s) : rcell c p s i ∈ barCells ∪ dmaCells :=
  dcell_mem c _ (by have := rq_lo c h; omega) (rq_hi c h)
theorem scell_mem (c : Dev nD) (p s : Bool) {k : ℕ} (h : k < 2) : scell c p s k ∈ barCells ∪ dmaCells :=
  dcell_mem c _ (by have := sq_lo p s k; omega) (lt_trans (sq_hi p s h) (by decide))
theorem bcell_mem (c : Dev nD) : bcell c ∈ barCells ∪ dmaCells :=
  Finset.mem_union_left _ (Finset.mem_image.mpr ⟨c, Finset.mem_univ _, rfl⟩)

theorem IN_cell (A : Args F) (K) {g : GSem nD τ sig} (h : g ∈ barCells ∪ dmaCells) : IN A K ⊢ cellInv ER (Rd A) (K g) g := by
  unfold IN; iintro ⟨#H, -⟩
  iapply (fam_elim h) $$ H
theorem IN_wait (A : Args F) (K) {t : Thread nD τ} {sm : SemLoc sig} {u : ℕ} {O : CellTallies nD τ sig ℕ}
    (h : (levAts L lv : sProp 𝕄) ⊢ MayWait t sm u O) : IN A K ⊢ MayWait t sm u O := by
  unfold IN; iintro ⟨-, #H⟩; iapply h $$ H

/-! ## A family changed at one member -/

theorem fam_at {M : Type} [URA M] {S : Finset ℕ} {i : ℕ} (hi : i ∈ S) {Φ Ψ : ℕ → sProp M} (h : ∀ j ∈ S, j ≠ i → Φ j = Ψ j) :
    bigSep S Φ ⊢ iprop(Φ i ∗ (Ψ i -∗ bigSep S Ψ)) := by
  rw [fam_erase hi, fam_erase (Φ := Ψ) hi, bigSep_congr (fun j hj => h j (Finset.mem_of_mem_erase hj) (Finset.ne_of_mem_erase hj))]
  iintro ⟨H, Hr⟩
  isplitl [H]; · iexact H
  iintro Hi
  isplitl [Hi]; · iexact Hi
  iexact Hr

/-! ## A stream of one direction -/

section Stream
variable (A : Args F) (c : Dev nD) (l : ℕ) (p s : Bool)

/-- How much of what the phase receives is held before the first landing. -/
def dl : Bool → ℕ
  | false => 2
  | true => 1

/-- What stays with the receiver of message `i` when its elements become the source of message `i + dl p`. -/
def kp (i : ℕ) : sProp 𝕄 :=
  match p with
  | false => iprop(hpt c (ck c s (i / 2 + 1)) i fullShare.right (XF A l) ∗ give l (nx c (!s)) s false i)
  | true => give l (nx c (!s)) s true i

/-- Receive cell `i`, `r` messages received. -/
def inI (r i : ℕ) : sProp 𝕄 :=
  if i < r then iprop(atPos ER (rcell c p s i) (l + 1) ∅ 0 ∗ reached ER (rcell c p s i) (l + 1) ∗ kp A c l p s i)
  else iprop(atPos ER (rcell c p s i) l ∅ 0 ∗ cred (tallyAt (rcell c p s i) (ix p l i) (NN p)))

/-- The elements message `j` lands on. -/
def dst (j : ℕ) : sProp 𝕄 :=
  match p with
  | false => iprop(∃ f, hpt (F := F) (nx c s) (ck c s (j / 2)) j fullShare f)
  | true => slotE (nx c s) s j
/-- The duties message `j` pays. -/
def dty (j : ℕ) : sProp 𝕄 :=
  iprop(dutyTok ER (rcell (nx c s) p s j) l true ∗ dutyTok ER (scell c p s (j % 2)) (l * cnt p s (j % 2) + j / 2) true)
/-- What sending message `j` needs beside its source. -/
def tok (j : ℕ) : sProp 𝕄 :=
  if j < nm p s then iprop(dty (F := F) c l p s j ∗ (dst (F := F) c p s j ∗ reached ER (rcell (nx c s) p s j) l) ∗ give l c s p j)
  else iprop(emp)

/-- Message `j`: `r` received, `b` made ready, `n` sent, `w` read out. -/
def outI (r b n w j : ℕ) : sProp 𝕄 :=
  if j < w then src A l c s p j
  else if j < n then cred (tallyAt (scell c p s (j % 2)) 0 (NN p))
  else iprop(tok (F := F) c l p s j ∗ if j < b then rdy A l c s p j else if j < r + dl p then raw A l c s p j else iprop(emp))

/-- The send cells, `w` messages read out. -/
def sp (w : ℕ) : sProp 𝕄 :=
  bigSep (Finset.range 2) fun k => iprop(atPos ER (scell c p s k) (l * cnt p s k + (w + 1 - k) / 2) ∅ 0
    ∗ reached ER (scell c p s k) (l * cnt p s k + (w + 1 - k) / 2))

/-- A stream's state. -/
def DirS (q : ℕ × ℕ × ℕ × ℕ) : sProp 𝕄 :=
  iprop(bigSep (Finset.range (nm p s)) (inI A c l p s q.1) ∗ bigSep (Finset.range (nm p s + 2)) (outI A c l p s q.1 q.2.1 q.2.2.1 q.2.2.2)
    ∗ sp (F := F) c l p s q.2.2.2)

theorem inI_congr {r r' i : ℕ} (h : i < r ↔ i < r') : inI A c l p s r i = inI A c l p s r' i := by
  unfold inI; simp only [h]
theorem outI_congr {r b n w r' b' n' w' j : ℕ} (h1 : j < r + dl p ↔ j < r' + dl p) (h2 : j < b ↔ j < b') (h3 : j < n ↔ j < n') (h4 : j < w ↔ j < w') :
    outI A c l p s r b n w j = outI A c l p s r' b' n' w' j := by
  unfold outI; simp only [h1, h2, h3, h4]

/-- Sending the next message: its token and its source go, the credit of its read-out comes. -/
theorem dir_send {r b n w : ℕ} (hw : w ≤ n) (hn : n < nm p s) (hs : (w + 1 - n % 2) / 2 = n / 2) {P : sProp 𝕄}
    (hP : (if n < b then rdy A l c s p n else if n < r + dl p then raw A l c s p n else iprop(emp)) = P) :
    DirS A c l p s (r, b, n, w) ⊢ iprop(dty (F := F) c l p s n ∗ (dst (F := F) c p s n ∗ reached ER (rcell (nx c s) p s n) l) ∗ give l c s p n ∗ P
      ∗ reached ER (scell c p s (n % 2)) (l * cnt p s (n % 2) + n / 2)
      ∗ (cred (tallyAt (scell c p s (n % 2)) 0 (NN p)) -∗ DirS A c l p s (r, b, n + 1, w))) := by
  unfold DirS sp
  dsimp only
  have e1 : outI A c l p s r b n w n = iprop((dty (F := F) c l p s n ∗ (dst (F := F) c p s n ∗ reached ER (rcell (nx c s) p s n) l) ∗ give l c s p n) ∗ P) := by
    unfold outI tok; rw [if_neg (by omega), if_neg (by omega), if_pos hn, hP]
  have e2 : outI A c l p s r b (n + 1) w n = cred (tallyAt (scell c p s (n % 2)) 0 (NN p)) := by
    unfold outI; rw [if_neg (by omega), if_pos (by omega)]
  have hHo := fam_at (M := 𝕄) (i := n) (Finset.mem_range.mpr (show n < nm p s + 2 by omega)) (Φ := outI A c l p s r b n w) (Ψ := outI A c l p s r b (n + 1) w)
    (fun j _ hj => outI_congr A c l p s Iff.rfl Iff.rfl (by omega) Iff.rfl)
  have hHs := fam_at (M := 𝕄) (S := Finset.range 2) (i := n % 2) (Finset.mem_range.mpr (by omega)) (Φ := (fun k => iprop(atPos ER (scell c p s k) (l * cnt p s k + (w + 1 - k) / 2) ∅ 0 ∗ reached ER (scell c p s k) (l * cnt p s k + (w + 1 - k) / 2)))) (fun _ _ _ => rfl)
  rw [e1, e2] at hHo

  rw [hs] at hHs
  iintro ⟨Hi, Ho, Hs⟩
  ihave Ho := hHo $$ Ho
  icases Ho with ⟨Ho, Hr⟩
  ihave Hs := hHs $$ Hs
  icases Hs with ⟨⟨Ha, #Hre⟩, Hs⟩
  icases Ho with ⟨⟨Hd, Hdst, Hg⟩, HP⟩
  isplitl [Hd]; · iexact Hd
  isplitl [Hdst]; · iexact Hdst
  isplitl [Hg]; · iexact Hg
  isplitl [HP]; · iexact HP
  isplitr; · iexact Hre
  iintro Hc
  isplitl [Hi]; · iexact Hi
  isplitl [Hr Hc]; · iapply Hr $$ Hc
  iapply Hs
  isplitl [Ha]; · iexact Ha
  iexact Hre

/-- Waiting for message `w`'s read-out: the credit and the cell's position go, the source comes back. -/
theorem dir_swait {r b n w : ℕ} (hw : w < n) (hn : n ≤ nm p s) :
    DirS A c l p s (r, b, n, w) ⊢ iprop(cred (tallyAt (scell c p s (w % 2)) 0 (NN p)) ∗ atPos ER (scell c p s (w % 2)) (l * cnt p s (w % 2) + w / 2) ∅ 0
      ∗ (src A l c s p w ∗ atPos ER (scell c p s (w % 2)) (l * cnt p s (w % 2) + w / 2 + 1) ∅ 0 ∗ reached ER (scell c p s (w % 2)) (l * cnt p s (w % 2) + w / 2 + 1)
        -∗ DirS A c l p s (r, b, n, w + 1))) := by
  unfold DirS sp
  dsimp only
  have e1 : outI A c l p s r b n w w = cred (tallyAt (scell c p s (w % 2)) 0 (NN p)) := by
    unfold outI; rw [if_neg (by omega), if_pos (by omega)]
  have e2 : outI A c l p s r b n (w + 1) w = src A l c s p w := by
    unfold outI; rw [if_pos (by omega)]
  have hHo := fam_at (M := 𝕄) (i := w) (Finset.mem_range.mpr (show w < nm p s + 2 by omega)) (Φ := outI A c l p s r b n w) (Ψ := outI A c l p s r b n (w + 1))
    (fun j _ hj => outI_congr A c l p s Iff.rfl Iff.rfl Iff.rfl (by omega))
  have hHs := fam_at (M := 𝕄) (S := Finset.range 2) (i := w % 2) (Finset.mem_range.mpr (by omega)) (Φ := (fun k => iprop(atPos ER (scell c p s k) (l * cnt p s k + (w + 1 - k) / 2) ∅ 0 ∗ reached ER (scell c p s k) (l * cnt p s k + (w + 1 - k) / 2)))) (Ψ := fun k => iprop(atPos ER (scell c p s k) (l * cnt p s k + (w + 1 + 1 - k) / 2) ∅ 0
    ∗ reached ER (scell c p s k) (l * cnt p s k + (w + 1 + 1 - k) / 2))) (fun k hk hk' => by
      have h : (w + 1 + 1 - k) / 2 = (w + 1 - k) / 2 := by rw [Finset.mem_range] at hk; omega
      rw [h])
  rw [e1, e2] at hHo

  rw [show (w + 1 - w % 2) / 2 = w / 2 by omega, show (w + 1 + 1 - w % 2) / 2 = w / 2 + 1 by omega, ← Nat.add_assoc] at hHs
  iintro ⟨Hi, Ho, Hs⟩
  ihave Ho := hHo $$ Ho
  icases Ho with ⟨Ho, Hr⟩
  ihave Hs := hHs $$ Hs
  icases Hs with ⟨⟨Ha, -⟩, Hs⟩
  isplitl [Ho]; · iexact Ho
  isplitl [Ha]; · iexact Ha
  iintro ⟨Hsrc, Ha, #Hre⟩
  isplitl [Hi]; · iexact Hi
  isplitl [Hr Hsrc]; · iapply Hr $$ Hsrc
  iapply Hs
  isplitl [Ha]; · iexact Ha
  iexact Hre

omit [FloatOps F] in
theorem share_split (q : PosShare TreeShare) (e : Dev nD) (k : ℕ) (f : Vec F S8192x256 .bf16) :
    hpt c e k q f ⊣⊢ iprop(hpt c e k q.left f ∗ hpt c e k q.right f) := by
  unfold hpt; exact pointsTo_share (PosShare.mem_left_op_right q)

/-- What a landing brings is what the receiver keeps and the source of a later message. -/
theorem rx_split (i : ℕ) : rx A l c p s i ⊢ iprop(kp A c l p s i ∗ raw A l c s p (i + dl p)) := by
  unfold rx
  cases p
  · show iprop(hpt c (ck c s (i / 2 + 1)) i fullShare (XF A l) ∗ give l (nx c (!s)) s false i)
      ⊢ iprop((hpt c (ck c s (i / 2 + 1)) i fullShare.right (XF A l) ∗ give l (nx c (!s)) s false i) ∗ hpt c (ck c s ((i + 2) / 2)) (i + 2) (shr s (i + 2)) (XF A l))
    have e : hpt c (ck c s ((i + 2) / 2)) (i + 2) (shr s (i + 2)) (XF A l) = hpt c (ck c s (i / 2 + 1)) i fullShare.left (XF A l) := by
      unfold hpt shr; rw [if_neg (by omega), show (i + 2) / 2 = i / 2 + 1 by omega]
      have : (rH (ck c s (i / 2 + 1)) (i + 2)).set = (rH (ck c s (i / 2 + 1)) i).set := by
        unfold rH; simp only [show (i + 2) % 2 = i % 2 by omega]
      rw [this]
    rw [e]
    iintro ⟨H, Hg⟩
    ihave H := (share_split c fullShare (ck c s (i / 2 + 1)) i (XF A l)).1 $$ H
    icases H with ⟨H1, H2⟩
    isplitr [H1]
    · isplitl [H2]; · iexact H2
      iexact Hg
    · iexact H1
  · show iprop(slot c s i (Sm A l s i (nx c (!s))) ∗ give l (nx c (!s)) s true i)
      ⊢ iprop(give l (nx c (!s)) s true i ∗ slot c s i (Sm A l s i (nx c (!s))))
    iintro ⟨H, Hg⟩
    isplitl [Hg]; · iexact Hg
    iexact H

/-- Receiving the next message. -/
theorem dir_recv {r b n w : ℕ} (hr : r < nm p s) (hw : w ≤ n) (hn : n ≤ r + dl p) (hb : b ≤ r + dl p) :
    DirS A c l p s (r, b, n, w) ⊢ iprop(cred (tallyAt (rcell c p s r) (ix p l r) (NN p)) ∗ atPos ER (rcell c p s r) l ∅ 0
      ∗ (rx A l c p s r ∗ atPos ER (rcell c p s r) (l + 1) ∅ 0 ∗ reached ER (rcell c p s r) (l + 1)
        -∗ DirS A c l p s (r + 1, b, n, w))) := by
  unfold DirS
  have hdl : dl p ≤ 2 := by cases p <;> decide
  dsimp only
  have e1 : inI A c l p s r r = iprop(atPos ER (rcell c p s r) l ∅ 0 ∗ cred (tallyAt (rcell c p s r) (ix p l r) (NN p))) := by
    unfold inI; rw [if_neg (by omega)]
  have e2 : inI A c l p s (r + 1) r = iprop(atPos ER (rcell c p s r) (l + 1) ∅ 0 ∗ reached ER (rcell c p s r) (l + 1) ∗ kp A c l p s r) := by
    unfold inI; rw [if_pos (by omega)]
  have e3 : outI A c l p s r b n w (r + dl p) = iprop(tok (F := F) c l p s (r + dl p) ∗ emp) := by
    unfold outI; rw [if_neg (by omega), if_neg (by omega), if_neg (by omega), if_neg (by omega)]
  have e4 : outI A c l p s (r + 1) b n w (r + dl p) = iprop(tok (F := F) c l p s (r + dl p) ∗ raw A l c s p (r + dl p)) := by
    unfold outI; rw [if_neg (by omega), if_neg (by omega), if_neg (by omega), if_pos (by omega)]
  have hHo := fam_at (M := 𝕄) (i := r + dl p) (Finset.mem_range.mpr (show r + dl p < nm p s + 2 by omega)) (Φ := outI A c l p s r b n w) (Ψ := outI A c l p s (r + 1) b n w)
    (fun j _ hj => outI_congr A c l p s (by omega) Iff.rfl Iff.rfl Iff.rfl)
  have hHi := fam_at (M := 𝕄) (i := r) (Finset.mem_range.mpr hr) (Φ := inI A c l p s r) (Ψ := inI A c l p s (r + 1))
    (fun j _ hj => inI_congr A c l p s (by omega))
  rw [e1, e2] at hHi
  rw [e3, e4] at hHo
  iintro ⟨Hi, Ho, Hs⟩
  ihave Ho := hHo $$ Ho
  icases Ho with ⟨Ho, Hr⟩
  ihave Hi := hHi $$ Hi
  icases Hi with ⟨Hi, Hir⟩
  icases Hi with ⟨Ha, Hc⟩
  icases Ho with ⟨Ht, -⟩
  isplitl [Hc]; · iexact Hc
  isplitl [Ha]; · iexact Ha
  iintro ⟨Hrx, Ha, #Hre⟩
  ihave Hrx := (rx_split A c l p s r) $$ Hrx
  icases Hrx with ⟨Hk, Hraw⟩
  isplitl [Hir Ha Hk]
  · iapply Hir
    isplitl [Ha]; · iexact Ha
    isplitr; · iexact Hre
    iexact Hk
  isplitl [Hr Ht Hraw]
  · iapply Hr
    isplitl [Ht]; · iexact Ht
    iexact Hraw
  iexact Hs

/-- Making the next message of a reduction ready. -/
theorem dir_ready {r b n w : ℕ} (hw : w ≤ n) (hn : n ≤ b) (hb : b < r + dl p) (hbn : b < nm p s) :
    DirS A c l p s (r, b, n, w) ⊢ iprop(raw A l c s p b ∗ (rdy A l c s p b -∗ DirS A c l p s (r, b + 1, n, w))) := by
  unfold DirS
  dsimp only
  have e3 : outI A c l p s r b n w b = iprop(tok (F := F) c l p s b ∗ raw A l c s p b) := by
    unfold outI; rw [if_neg (by omega), if_neg (by omega), if_neg (by omega), if_pos (by omega)]
  have e4 : outI A c l p s r (b + 1) n w b = iprop(tok (F := F) c l p s b ∗ rdy A l c s p b) := by
    unfold outI; rw [if_neg (by omega), if_neg (by omega), if_pos (by omega)]
  have hHo := fam_at (M := 𝕄) (i := b) (Finset.mem_range.mpr (show b < nm p s + 2 by omega)) (Φ := outI A c l p s r b n w) (Ψ := outI A c l p s r (b + 1) n w)
    (fun j _ hj => outI_congr A c l p s Iff.rfl (by omega) Iff.rfl Iff.rfl)
  rw [e3, e4] at hHo
  iintro ⟨Hi, Ho, Hs⟩
  ihave Ho := hHo $$ Ho
  icases Ho with ⟨Ho, Hr⟩
  icases Ho with ⟨Ht, Hraw⟩
  isplitl [Hraw]; · iexact Hraw
  iintro Hrdy
  isplitl [Hi]; · iexact Hi
  isplitr [Hs]
  · iapply Hr
    isplitl [Ht]; · iexact Ht
    iexact Hrdy
  iexact Hs

/-- Looking at what the last landing of a reduction left. -/
theorem dir_last {r b n w : ℕ} (hw : w ≤ n) (hn : n = nm true s) (hb : b ≤ n) (hr : r = nm true s) :
    DirS A c l true s (r, b, n, w) ⊢ iprop(raw A l c s true (nm true s) ∗ (raw A l c s true (nm true s) -∗ DirS A c l true s (r, b, n, w))) := by
  unfold DirS
  dsimp only
  have e3 : outI A c l true s r b n w (nm true s) = iprop(emp ∗ raw A l c s true (nm true s)) := by
    unfold outI tok; rw [if_neg (by omega), if_neg (by omega), if_neg (by omega), if_neg (by omega), if_pos (by rw [hr]; exact Nat.lt_succ_self _)]
  have hHo := fam_at (M := 𝕄) (i := nm true s) (Finset.mem_range.mpr (show nm true s < nm true s + 2 by omega)) (Φ := outI A c l true s r b n w) (fun _ _ _ => rfl)
  rw [e3] at hHo
  iintro ⟨Hi, Ho, Hs⟩
  ihave Ho := hHo $$ Ho
  icases Ho with ⟨Ho, Hr⟩
  icases Ho with ⟨Ht, Hraw⟩
  isplitl [Hraw]; · iexact Hraw
  iintro Hraw
  isplitl [Hi]; · iexact Hi
  isplitr [Hs]
  · iapply Hr
    isplitl [Ht]; · iexact Ht
    iexact Hraw
  iexact Hs

/-- Reading a received half of a gather. -/
theorem dir_half {q : ℕ × ℕ × ℕ × ℕ} {i : ℕ} (hi : i < q.1) (hi' : i < nm false s) :
    DirS A c l false s q ⊢ iprop(hpt c (ck c s (i / 2 + 1)) i fullShare.right (XF A l)
      ∗ (hpt c (ck c s (i / 2 + 1)) i fullShare.right (XF A l) -∗ DirS A c l false s q)) := by
  unfold DirS
  have e1 : inI A c l false s q.1 i = iprop(atPos ER (rcell c false s i) (l + 1) ∅ 0 ∗ reached ER (rcell c false s i) (l + 1)
      ∗ hpt c (ck c s (i / 2 + 1)) i fullShare.right (XF A l) ∗ give l (nx c (!s)) s false i) := by
    unfold inI kp; rw [if_pos hi]
  have hHi := fam_at (M := 𝕄) (i := i) (Finset.mem_range.mpr hi') (Φ := inI A c l false s q.1) (fun _ _ _ => rfl)
  rw [e1] at hHi
  iintro ⟨Hi, Ho, Hs⟩
  ihave Hi := hHi $$ Hi
  icases Hi with ⟨Hi, Hir⟩
  icases Hi with ⟨Ha, Hre, Hh, Hg⟩
  isplitl [Hh]; · iexact Hh
  iintro Hh
  isplitr [Ho Hs]
  · iapply Hir
    isplitl [Ha]; · iexact Ha
    isplitl [Hre]; · iexact Hre
    isplitl [Hh]; · iexact Hh
    iexact Hg
  isplitl [Ho]; · iexact Ho
  iexact Hs

end Stream

end Cert.TpMlp

end
-- ==== Proof.Step.lean ====
/-
  The kernel's operations, each as a step from one state of the device to the next, whatever the rest of the program
  does. A stream's step is proved once, for both directions.
-/
module

public import proofs.«01_k».proof.Proof.State

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none
/-- What it takes to run `p` on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_seq {c : Dev nD} {α β : Type} {p : Prog (TpuEff nD τ sig (Elt F) Λ₀ .tc) α}
    {k : α → Prog (TpuEff nD τ sig (Elt F) Λ₀ .tc) β} {Q : β → sProp 𝕄} {P : sProp 𝕄}
    (h : P ⊢ WP c p fun a => WP c (k a) Q) : P ⊢ WP c (p >>= k) Q := by
  show P ⊢ wp _ _ _ _ _
  rw [wp_bind]; exact h
theorem wp_pure' {c : Dev nD} {α : Type} {a : α} {Q : α → sProp 𝕄} {P : sProp 𝕄} (h : P ⊢ Q a) :
    P ⊢ WP c (pure a) Q := by
  show P ⊢ wp _ _ _ _ _
  rw [Prog.pure_eq_ret, wp_ret]; exact h.trans fupd_intro

theorem lift_bind {β γ : Type} (e : TpuEff nD τ sig (Elt F) Λ₀ .tc β) (k : β → Prog (TpuEff nD τ sig (Elt F) Λ₀ .tc) γ) :
    (Prog.lift e >>= k) = .op e k := by
  simp only [Prog.lift, Prog.bind_op, Prog.bind_ret]

/-! ## The state inside a phase -/

/-- Both directions' counters: received, ready, sent, read out; to the right and to the left. -/
def qq (r b n w r' b' n' w' : ℕ) : Bool → ℕ × ℕ × ℕ × ℕ
  | true => (r, b, n, w)
  | false => (r', b', n', w')
/-- How many messages of a direction are sent. -/
abbrev sn (q : Bool → ℕ × ℕ × ℕ × ℕ) (s : Bool) : ℕ := (q s).2.2.1

section
variable (A : Args F) (K : GSem nD τ sig → ℕ) (c : Dev nD) (l : ℕ) (p : Bool)

/-- Both streams of a phase. -/
def Two (q : Bool → ℕ × ℕ × ℕ × ℕ) : sProp 𝕄 := iprop(DirS A c l p true (q true) ∗ DirS A c l p false (q false))

/-- A device inside phase `p` of layer `l`, its counters at `q`, holding `R` beside. -/
def St (q : Bool → ℕ × ℕ × ℕ × ℕ) (R : sProp 𝕄) : sProp 𝕄 :=
  iprop(IN A K ∗ Two A c l p q ∗ (∃ W, owes (c : Thread nD τ) (OO c l p (sn q true) (sn q false)) W) ∗ R)

theorem two_at (s : Bool) {q q' : Bool → ℕ × ℕ × ℕ × ℕ} (h : q' (!s) = q (!s)) :
    Two A c l p q ⊢ iprop(DirS A c l p s (q s) ∗ (DirS A c l p s (q' s) -∗ Two A c l p q')) := by
  unfold Two
  cases s
  · rw [show q' true = q true from h]
    iintro ⟨H1, H2⟩
    isplitl [H2]; · iexact H2
    iintro H2
    isplitl [H1]; · iexact H1
    iexact H2
  · rw [show q' false = q false from h]
    iintro ⟨H1, H2⟩
    isplitl [H1]; · iexact H1
    iintro H1
    isplitl [H1]; · iexact H1
    iexact H2

theorem OO_same (s : Bool) {q q' : Bool → ℕ × ℕ × ℕ × ℕ} (h : q' (!s) = q (!s)) (h' : sn q' s = sn q s) :
    OO c l p (sn q true) (sn q false) = OO c l p (sn q' true) (sn q' false) := by
  cases s
  · unfold sn at *; rw [h', show q' true = q true from h]
  · unfold sn at *; rw [h', show q' false = q false from h]
theorem OO_send (s : Bool) {q q' : Bool → ℕ × ℕ × ℕ × ℕ} {n : ℕ} (h : q' (!s) = q (!s)) (h1 : sn q s = n) (h2 : sn q' s = n + 1) (hn : n < nm p s) :
    OO c l p (sn q true) (sn q false) = OO c l p (sn q' true) (sn q' false) + tallyAt (rcell (nx c s) p s n) (ix p l n) (NN p) := by
  unfold OO
  cases s
  · unfold sn at *; rw [h1, h2, show q' true = q true from h, due_succ c l p false hn]; ac_rfl
  · unfold sn at *; rw [h1, h2, show q' false = q false from h, due_succ c l p true hn]; ac_rfl

end

section
variable {A : Args F} {K : GSem nD τ sig → ℕ} {c : Dev nD} {l : ℕ} {p : Bool} {q q' : Bool → ℕ × ℕ × ℕ × ℕ} {α : Type} {r b n w : ℕ}

/-- A step that changes neither counters nor what is owed: it works on part of `R` alone. -/
theorem St_mono {R R' : sProp 𝕄} (h : R ⊢ R') : St A K c l p q R ⊢ St A K c l p q R' := by
  unfold St
  iintro ⟨#HI, H1, H2, H3⟩
  isplitr; · iexact HI
  isplitl [H1]; · iexact H1
  isplitl [H2]; · iexact H2
  iapply h $$ H3

/-! ## Waits -/

/-- Waiting for a landing. -/
theorem st_recv {R : sProp 𝕄} {Q : α → sProp 𝕄} (s : Bool) (h1 : q s = (r, b, n, w)) (h2 : q' s = (r + 1, b, n, w)) (h3 : q' (!s) = q (!s)) (hl : l < 3)
    (hc : r < nm p s ∧ w ≤ n ∧ n ≤ r + dl p ∧ b ≤ r + dl p) (hlev : okLev p r (sn q true) (sn q false) = true)
    {sem : DmaSem sig} (hsem : sem = qs (rq c p s r)) {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    (hN : dst.view.dmaCredit = NN p) {k : PUnit → Prog (TpuEff nD τ sig (Elt F) Λ₀ .tc) α}
    (h : St A K c l p q' R ⊢ WP c (k ⟨⟩) Q) :
    St A K c l p q R ⊢ WP c (Prog.lift (.waitDma2 sem src dst hsrc hdst) >>= k) Q := by
  subst hsem
  have hd := dir_recv A c l p s hc.1 hc.2.1 hc.2.2.1 hc.2.2.2
  rw [← h1, ← h2] at hd
  have hO := OO_same c l p s h3 (by unfold sn; rw [h1, h2])
  have hcr : (cred (tallyAt (rcell c p s r) (ix p l r) (NN p)) : sProp 𝕄) ⊢ cred (tallyAt (rcell c p s r) (ix p l r) dst.view.dmaCredit) := by rw [hN]
  rw [lift_bind]
  unfold St at h ⊢
  iintro ⟨#HI, H2, ⟨%W, HO⟩, HR⟩
  ihave H2 := (two_at A c l p s h3) $$ H2
  icases H2 with ⟨Hd, Hb⟩
  ihave Hd := hd $$ Hd
  icases Hd with ⟨Hc, Ha, Hd⟩
  ihave #HIr := (IN_cell A K (rcell_mem c hc.1)) $$ HI
  iapply (Rounds.wp_wait_rest_token 𝒱₀ ER (Rd A) (c : Thread nD τ) none (κ := K (rcell c p s r))
      (wpE_waitDma2_eq 𝒱₀ (c : Thread nD τ) none Set.univ) (Set.mem_univ _) (ix p l r) (O := OO c l p (sn q true) (sn q false)) (W := W) (R := l) (m := 0) (T := ∅)
      (by rw [Nat.zero_add, hN, expect_recv A c hc.1 hl])) $$ [Hc HO Ha]
  · isplitr; · iexact HIr
    isplitl [Hc]; · iapply hcr $$ Hc
    isplitl [HO]; · iexact HO
    isplitr
    · iapply (IN_wait A K (mayWait_recv c l hl p s r _ _ hc.1 hlev)) $$ HI
    iexact Ha
  iintro ⟨HO, Ha, Hre, Hpay⟩
  ihave Hpay := (Entails.of_eq (rest_recv A c hc.1 hl)) $$ Hpay
  iapply h
  isplitr; · iexact HI
  isplitl [Hb Hd Hpay Ha Hre]
  · iapply Hb
    iapply Hd
    isplitl [Hpay]; · iexact Hpay
    isplitl [Ha]; · iexact Ha
    iexact Hre
  isplitl [HO]
  · iexists _
    rw [← hO]
    iexact HO
  iexact HR

/-- Waiting for a read-out. -/
theorem st_swait {R : sProp 𝕄} {Q : α → sProp 𝕄} (s : Bool) (h1 : q s = (r, b, n, w)) (h2 : q' s = (r, b, n, w + 1)) (h3 : q' (!s) = q (!s)) (hl : l < 3)
    (hc : w < n ∧ n ≤ nm p s)
    {sem : DmaSem sig} (hsem : sem = qs (sq p s (w % 2))) {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    (hN : dst.view.dmaCredit = NN p) {k : PUnit → Prog (TpuEff nD τ sig (Elt F) Λ₀ .tc) α}
    (h : St A K c l p q' R ⊢ WP c (k ⟨⟩) Q) :
    St A K c l p q R ⊢ WP c (Prog.lift (.waitDma2 sem src dst hsrc hdst) >>= k) Q := by
  subst hsem
  have hk2 : w % 2 < 2 := Nat.mod_lt _ (by decide)
  have hcnt : w / 2 < cnt p s (w % 2) ∧ (l * cnt p s (w % 2) + w / 2) / cnt p s (w % 2) = l ∧ (l * cnt p s (w % 2) + w / 2) % cnt p s (w % 2) = w / 2 := by
    have h0 : w / 2 < cnt p s (w % 2) := by
      have : w < nm p s := by omega
      cases p <;> cases s <;> simp only [nm, cnt] at * <;> (try split) <;> omega
    refine ⟨h0, ?_, ?_⟩
    · rw [Nat.mul_comm, Nat.mul_add_div (by omega), Nat.div_eq_of_lt h0]; omega
    · rw [Nat.mul_comm, Nat.mul_add_mod, Nat.mod_eq_of_lt h0]
  have hrd : l * cnt p s (w % 2) + w / 2 < 3 * cnt p s (w % 2) := by
    have : (l + 1) * cnt p s (w % 2) ≤ 3 * cnt p s (w % 2) := Nat.mul_le_mul_right _ (by omega)
    rw [Nat.add_mul] at this; omega
  have hd := dir_swait A c l p s (r := r) (b := b) hc.1 hc.2
  rw [← h1, ← h2] at hd
  have hO := OO_same c l p s h3 (by unfold sn; rw [h1, h2])
  have hcr : (cred (tallyAt (scell c p s (w % 2)) 0 (NN p)) : sProp 𝕄) ⊢ cred (tallyAt (scell c p s (w % 2)) 0 dst.view.dmaCredit) := by rw [hN]
  rw [lift_bind]
  unfold St at h ⊢
  iintro ⟨#HI, H2, ⟨%W, HO⟩, HR⟩
  ihave H2 := (two_at A c l p s h3) $$ H2
  icases H2 with ⟨Hd, Hb⟩
  ihave Hd := hd $$ Hd
  icases Hd with ⟨Hc, Ha, Hd⟩
  ihave #HIr := (IN_cell A K (scell_mem c p s hk2)) $$ HI
  iapply (Rounds.wp_wait_rest_token 𝒱₀ ER (Rd A) (c : Thread nD τ) none (κ := K (scell c p s (w % 2)))
      (wpE_waitDma2_eq 𝒱₀ (c : Thread nD τ) none Set.univ) (Set.mem_univ _) 0 (O := OO c l p (sn q true) (sn q false)) (W := W)
      (R := l * cnt p s (w % 2) + w / 2) (m := 0) (T := ∅)
      (by rw [Nat.zero_add, hN, expect_send A c hk2 hrd])) $$ [Hc HO Ha]
  · isplitr; · iexact HIr
    isplitl [Hc]; · iapply hcr $$ Hc
    isplitl [HO]; · iexact HO
    isplitr
    · iapply (IN_wait A K (mayWait_low c l hl p _ 0 _ _ (by decide))) $$ HI
    iexact Ha
  iintro ⟨HO, Ha, Hre, Hpay⟩
  ihave Hpay := (Entails.of_eq ((rest_send A c hk2 hrd).trans (by
    rw [hcnt.2.1, hcnt.2.2, show 2 * (w / 2) + w % 2 = w by omega]))) $$ Hpay
  iapply h
  isplitr; · iexact HI
  isplitl [Hb Hd Hpay Ha Hre]
  · iapply Hb
    iapply Hd
    isplitl [Hpay]; · iexact Hpay
    isplitl [Ha]; · iexact Ha
    iexact Hre
  isplitl [HO]
  · iexists _
    rw [← hO]
    iexact HO
  iexact HR

/-! ## Sends -/

/-- Sending a message, from how its source reads and how what lands is written. -/
theorem st_send {R : sProp 𝕄} {Q : α → sProp 𝕄} (s : Bool) (h1 : q s = (r, b, n, w)) (h2 : q' s = (r, b, n + 1, w)) (h3 : q' (!s) = q (!s)) (hl : l < 3)
    (hc : w ≤ n ∧ n < nm p s ∧ (w + 1 - n % 2) / 2 = n / 2) {P : sProp 𝕄}
    (hP : (if n < b then rdy A l c s p n else if n < r + dl p then raw A l c s p n else iprop(emp)) = P)
    {d : Dev nD} (hd : d = nx c s) {sS sem : DmaSem sig} (hsS : sS = qs (sq p s (n % 2))) (hsem : sem = qs (rq (nx c s) p s n))
    {sp₁ sp₂ : Space} {s₁ : Shape} {e₁ : EltTy}
    {sm : Memref sig .tc sp₁ s₁ e₁} {dst' : Memref sig .tc sp₂ s₁ e₁} {hsrc : sm.view.WordExact} {hdst : dst'.view.WordExact}
    {hsc : dst'.view.ref.isScScratch = false} {htt : DmaTarget.Typed sp₁ (.dma sem) (.remote (Dev.tc d : Thread nD τ) dst' (.dma sS) hsc)}
    (hN : dst'.view.dmaCredit = NN p)
    (G : Buf (Elt F) (sm.view.loc (c : Thread nD τ)) → Prop) {sh : PosShare TreeShare}
    (hsrc₁ : P ⊢ iprop(∃ fs, ⌜G fs⌝ ∗ sm.view.loc (c : Thread nD τ) ↦[sm.view.set]{sh} fs))
    (hsrc₂ : ∀ fs, G fs → (sm.view.loc (c : Thread nD τ) ↦[sm.view.set]{sh} fs) ⊢ src A l c s p n)
    (hdst₁ : dst (F := F) c p s n ⊢ iprop(∃ fd, dst'.view.loc (nx c s : Thread nD τ) ↦[dst'.view.set]{fullShare} fd))
    (hdst₂ : ∀ fs fd, G fs → (dst'.view.loc (nx c s : Thread nD τ) ↦[dst'.view.set]{fullShare} (dst'.view.write (Elt F) fd (sm.view.read (Elt F) fs) Finset.univ))
      ⊢ lnd A l (nx c s) s p n)
    {k : PUnit → Prog (TpuEff nD τ sig (Elt F) Λ₀ .tc) α}
    (h : St A K c l p q' R ⊢ WP c (k ⟨⟩) Q) :
    St A K c l p q R ⊢ WP c (Prog.lift (.enqueueDma sm (.remote (Dev.tc d : Thread nD τ) dst' (.dma sS) hsc) (.dma sem) hsrc hdst htt) >>= k) Q := by
  subst hd hsS hsem
  have hk2 : n % 2 < 2 := Nat.mod_lt _ (by decide)
  have hcnt : n / 2 < cnt p s (n % 2) ∧ (l * cnt p s (n % 2) + n / 2) / cnt p s (n % 2) = l ∧ (l * cnt p s (n % 2) + n / 2) % cnt p s (n % 2) = n / 2 := by
    have h0 : n / 2 < cnt p s (n % 2) := by
      have : n < nm p s := hc.2.1
      cases p <;> cases s <;> simp only [nm, cnt] at * <;> (try split) <;> omega
    refine ⟨h0, ?_, ?_⟩
    · rw [Nat.mul_comm, Nat.mul_add_div (by omega), Nat.div_eq_of_lt h0]; omega
    · rw [Nat.mul_comm, Nat.mul_add_mod, Nat.mod_eq_of_lt h0]
  have hrd : l * cnt p s (n % 2) + n / 2 < 3 * cnt p s (n % 2) := by
    have : (l + 1) * cnt p s (n % 2) ≤ 3 * cnt p s (n % 2) := Nat.mul_le_mul_right _ (by omega)
    rw [Nat.add_mul] at this; omega
  have hd := dir_send A c l p s hc.1 hc.2.1 hc.2.2 hP
  rw [← h1, ← h2] at hd
  have hO := OO_send c l p s h3 (by unfold sn; rw [h1]) (by unfold sn; rw [h2]) hc.2.1
  rw [lift_bind]
  unfold St at h ⊢
  iintro ⟨#HI, H2, ⟨%W, HO⟩, HR⟩
  ihave H2 := (two_at A c l p s h3) $$ H2
  icases H2 with ⟨Hd, Hb⟩
  ihave Hd := hd $$ Hd
  icases Hd with ⟨Hdt, ⟨Hdst, #Hre₂⟩, Hg, HP, #Hre₁, Hd⟩
  unfold dty
  icases Hdt with ⟨Ht₂, Ht₁⟩
  ihave HP := hsrc₁ $$ HP
  icases HP with ⟨%fs, %hG, HP⟩
  ihave Hdst := hdst₁ $$ Hdst
  icases Hdst with ⟨%fd, Hdst⟩
  ihave #HI₁ := (IN_cell A K (scell_mem c p s hk2)) $$ HI
  ihave #HI₂ := (IN_cell A K (rcell_mem (nx c s) hc.2.1)) $$ HI
  iapply (Rounds.wp_send_pointsTo_with 𝒱₀ ER (Rd A) (c : Thread nD τ) none (c' := (nx c s : Thread nD τ)) (src := sm) (dst := dst')
      (sS := .dma (qs (sq p s (n % 2)))) (sem := .dma (qs (rq (nx c s) p s n))) (q := sh) (fs := fs) (fd := fd) (F := give l c s p n)
      (r₁ := l * cnt p s (n % 2) + n / 2) (r₂ := l) (d₁ := true) (d₂ := true) (κ₁ := K (scell c p s (n % 2))) (κ₂ := K (rcell (nx c s) p s n))
      (by rw [duties_send A c hk2 hrd]; exact Finset.mem_singleton_self _) (by rw [duties_recv A (nx c s) hc.2.1 hl]; exact Finset.mem_singleton_self _)
      (ix p l n) 0 (NN p) ((View.amount_dma _ _).trans hN) (amount_send A c hk2 _ _) (amount_recv A (nx c s) hc.2.1 _ _)
      (OO c l p (sn q' true) (sn q' false)) hO
      (by rw [payload_send A c hk2, hcnt.2.1, hcnt.2.2, show 2 * (n / 2) + n % 2 = n by omega]; exact hsrc₂ fs hG)
      (by
        rw [payload_recv A (nx c s) hc.2.1]; unfold rx; rw [nx_nx]
        exact sep_mono_left (hdst₂ fs fd hG))) $$ [HP Hdst Hg HO Ht₁ Ht₂]
  · isplitr; · iexact HI₁
    isplitr; · iexact HI₂
    isplitl [HP]; · iexact HP
    isplitl [Hdst Hg]
    · isplitl [Hdst]; · iexact Hdst
      iexact Hg
    isplitl [HO]; · iexact HO
    isplitl [Ht₁]; · iexact Ht₁
    isplitr; · iexact Hre₁
    isplitl [Ht₂]; · iexact Ht₂
    iexact Hre₂
  iintro ⟨Hc, HO⟩
  iapply h
  isplitr; · iexact HI
  isplitl [Hb Hd Hc]
  · iapply Hb
    iapply Hd $$ Hc
  isplitl [HO]
  · iexists _
    iexact HO
  iexact HR

end

end Cert.TpMlp

end
-- ==== Proof.Mem.lean ====
/-
  The kernel's loads and stores as steps of the state, and what its loads read of the buffers the protocol names.
-/
module

public import proofs.«01_k».proof.Proof.Step
public import Idealize.ShloMosaic.Lib.Writes

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {A : Args F} {K : GSem nD τ sig → ℕ} {c : Dev nD} {l : ℕ} {p : Bool} {q q' : Bool → ℕ × ℕ × ℕ × ℕ} {α : Type}

/-! ## Steps that touch memory only -/

/-- A load of a value that is known. -/
theorem st_load {R R' : sProp 𝕄} {Q : α → sProp 𝕄} {sp' : CoreSpace} {s : Shape} {e : EltTy} {m : Memref sig .tc sp' s e} {r : LoadRect s}
    {hl : m.view.LoadsAt r} {k : (r.shape.Idx → Elt F e) → Prog (TpuEff nD τ sig (Elt F) Λ₀ .tc) α}
    {v : r.shape.Idx → Elt F e} {S : Finset (Idx (m.view.loc (c : Thread nD τ)))} {sh : PosShare TreeShare}
    (ht : sn q' true = sn q true) (hf : sn q' false = sn q false)
    (hR : iprop(Two A c l p q ∗ R) ⊢ iprop(∃ f, ⌜m.view.readAt (Elt F) r f = v⌝ ∗ (m.view.loc (c : Thread nD τ) ↦[S]{sh} f)
      ∗ ((m.view.loc (c : Thread nD τ) ↦[S]{sh} f) -∗ Two A c l p q' ∗ R')))
    (hS : m.view.setOn r.set ⊆ S)
    (h : St A K c l p q' R' ⊢ WP c (k v) Q) :
    St A K c l p q R ⊢ WP c (Prog.lift (.load m r hl) >>= k) Q := by
  rw [lift_bind]
  unfold St at h ⊢
  rw [ht, hf] at h
  iintro ⟨#HI, H2, HO, HR⟩
  ihave H := hR $$ [H2 HR]
  · isplitl [H2]; · iexact H2
    iexact HR
  icases H with ⟨%f, %hv, Hp, Hw⟩
  iapply (wp_load 𝒱₀ (c : Thread nD τ) none Set.univ (m := m) (S := S) (q := sh) hS) $$ Hp
  iintro Hp
  rw [hv]
  iapply h
  ihave H := Hw $$ Hp
  icases H with ⟨H2, HR⟩
  isplitr; · iexact HI
  isplitl [H2]; · iexact H2
  isplitl [HO]; · iexact HO
  iexact HR

/-- A load whose value nothing depends on. -/
theorem st_load_any {R : sProp 𝕄} {Q : α → sProp 𝕄} {sp' : CoreSpace} {s : Shape} {e : EltTy} {m : Memref sig .tc sp' s e} {r : LoadRect s}
    {hl : m.view.LoadsAt r} {k : (r.shape.Idx → Elt F e) → Prog (TpuEff nD τ sig (Elt F) Λ₀ .tc) α}
    {S : Finset (Idx (m.view.loc (c : Thread nD τ)))} {sh : PosShare TreeShare}
    (hR : iprop(Two A c l p q ∗ R) ⊢ iprop(∃ f, (m.view.loc (c : Thread nD τ) ↦[S]{sh} f)
      ∗ ((m.view.loc (c : Thread nD τ) ↦[S]{sh} f) -∗ Two A c l p q ∗ R)))
    (hS : m.view.setOn r.set ⊆ S)
    (h : ∀ v, St A K c l p q R ⊢ WP c (k v) Q) :
    St A K c l p q R ⊢ WP c (Prog.lift (.load m r hl) >>= k) Q := by
  rw [lift_bind]
  unfold St at h ⊢
  iintro ⟨#HI, H2, HO, HR⟩
  ihave H := hR $$ [H2 HR]
  · isplitl [H2]; · iexact H2
    iexact HR
  icases H with ⟨%f, Hp, Hw⟩
  iapply (wp_load 𝒱₀ (c : Thread nD τ) none Set.univ (m := m) (S := S) (q := sh) hS) $$ Hp
  iintro Hp
  iapply (h _)
  ihave H := Hw $$ Hp
  icases H with ⟨H2, HR⟩
  isplitr; · iexact HI
  isplitl [H2]; · iexact H2
  isplitl [HO]; · iexact HO
  iexact HR

/-- A store. -/
theorem st_store {R R' : sProp 𝕄} {Q : α → sProp 𝕄} {sp' : CoreSpace} {s : Shape} {e : EltTy} {m : Memref sig .tc sp' s e} {r : Rect s}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α}
    {S : Finset (Idx ((m.access r).loc (c : Thread nD τ)))}
    (ht : sn q' true = sn q true) (hf : sn q' false = sn q false)
    (hR : iprop(Two A c l p q ∗ R) ⊢ iprop(∃ f, ((m.access r).loc (c : Thread nD τ) ↦[S]{fullShare} f)
      ∗ (((m.access r).loc (c : Thread nD τ) ↦[S]{fullShare} ((m.access r).write (Elt F) f w Finset.univ)) -∗ Two A c l p q' ∗ R')))
    (hS : (m.access r).setOn Finset.univ ⊆ S)
    (h : St A K c l p q' R' ⊢ WP c (k ⟨⟩) Q) :
    St A K c l p q R ⊢ WP c (Prog.lift (.store m r w Finset.univ hx hm) >>= k) Q := by
  rw [lift_bind]
  unfold St at h ⊢
  rw [ht, hf] at h
  iintro ⟨#HI, H2, HO, HR⟩
  ihave H := hR $$ [H2 HR]
  · isplitl [H2]; · iexact H2
    iexact HR
  icases H with ⟨%f, Hp, Hw⟩
  iapply (wp_store 𝒱₀ (c : Thread nD τ) none Set.univ (m := m) (S := S) hS) $$ Hp
  iintro Hp
  iapply h
  ihave H := Hw $$ Hp
  icases H with ⟨H2, HR⟩
  isplitr; · iexact HI
  isplitl [H2]; · iexact H2
  isplitl [HO]; · iexact HO
  iexact HR

/-- A condition that holds. -/
theorem st_assume {R : sProp 𝕄} {Q : α → sProp 𝕄} {P : Prop} {d : Decidable P} (hP : P) {k : PLift P → Prog (TpuEff nD τ sig (Elt F) Λ₀ .tc) α}
    (h : St A K c l p q R ⊢ WP c (k ⟨hP⟩) Q) :
    St A K c l p q R ⊢ WP c (Prog.lift (.assume P d) >>= k) Q := by
  rw [lift_bind]
  exact h.trans (wp_assume 𝒱₀ (c : Thread nD τ) none Set.univ hP)

end

/-! ## What the views read and write -/

theorem nn_half (off : Fin 2 → ℕ) (h) (hr) : (xM.slice (Rect.unit (s := S8192x256) off S128x256.size h) hr).view.dmaCredit = NN false := rfl
theorem nn_stR : srM.view.dmaCredit = NN true := rfl
theorem nn_stL : slM.view.dmaCredit = NN true := rfl
theorem nn_R (off : Fin 3 → ℕ) (h) (hr) (hs) : ((rrM.slice (Rect.unit (s := S16x256x256) off S1x256x256.size h) hr).squeeze S256x256 hs).view.dmaCredit = NN true := rfl
theorem nn_L (off : Fin 3 → ℕ) (h) (hr) (hs) : ((rlM.slice (Rect.unit (s := S15x256x256) off S1x256x256.size h) hr).squeeze S256x256 hs).view.dmaCredit = NN true := rfl

/-- The chunk of the gathered input. -/
theorem read_XF (A : Args F) (l : ℕ) (e : Dev nD) : xM.view.readAt (Elt F) (rC e).toLoadRect (XF A l) = xb A l e := by
  funext x
  have h0 : (x 0).val < 256 := (x 0).isLt
  have he : e.val < 32 := e.isLt
  show XF A l ((rC e).emb x) = _
  unfold XF
  have e0 : (((rC e).emb x) 0).val = 256 * e.val + 1 * (x 0).val := rfl
  have e1 : (((rC e).emb x) 1).val = 0 + 1 * (x 1).val := rfl
  have hd : (⟨(((rC e).emb x) 0).val / 256, by rw [e0]; show _ < 32; omega⟩ : Dev nD) = e := Fin.ext (by show _ / 256 = _; rw [e0]; omega)
  have hx : (fun a : Fin 2 => match a with
      | ⟨0, _⟩ => (⟨(((rC e).emb x) 0).val % 256, Nat.mod_lt _ (by decide)⟩ : Fin 256)
      | ⟨1, _⟩ => (⟨(((rC e).emb x) 1).val, (((rC e).emb x) 1).isLt⟩ : Fin 256)) = x := by
    funext a; fin_cases a
    · exact Fin.ext (show (((rC e).emb x) 0).val % 256 = (x 0).val by rw [e0]; omega)
    · exact Fin.ext (show (((rC e).emb x) 1).val = (x 1).val by rw [e1]; omega)
  exact congr (congrArg (xb A l) hd) hx

/-- A buffer that reads a layer's input at chunk `e` holds it there. -/
theorem XF_of_read (A : Args F) (l : ℕ) (e : Dev nD) {f : Vec F S8192x256 .bf16} (h : xM.view.readAt (Elt F) (rC e).toLoadRect f = xb A l e) :
    ∀ i ∈ (rC e).set, f i = XF A l i := by
  intro i hi
  obtain ⟨x, rfl⟩ := (rC e).exists_idx_of_mem hi
  have h1 := congrFun h x
  rw [← read_XF A l e] at h1
  exact h1

/-! ## Chunks and halves -/

theorem mem_rH (e : Dev nD) (k : ℕ) (i : S8192x256.Idx) : i ∈ (rH e k).set ↔ 256 * e.val + 128 * (k % 2) ≤ (i 0).val ∧ (i 0).val < 256 * e.val + 128 * (k % 2) + 128 := by
  rw [Rect.mem_set_unit]
  constructor
  · intro h; exact h 0
  · intro h a; fin_cases a
    · exact h
    · exact ⟨Nat.zero_le _, (i 1).isLt⟩
theorem mem_rC (e : Dev nD) (i : S8192x256.Idx) : i ∈ (rC e).set ↔ 256 * e.val ≤ (i 0).val ∧ (i 0).val < 256 * e.val + 256 := by
  rw [Rect.mem_set_unit]
  constructor
  · intro h; exact h 0
  · intro h a; fin_cases a
    · exact h
    · exact ⟨Nat.zero_le _, (i 1).isLt⟩
theorem mem_rR (t : ℕ) (i : S16x256x256.Idx) : i ∈ (rR t).set ↔ (i 0).val = t % 16 := by
  rw [Rect.mem_set_unit]
  constructor
  · intro h
    have h0 : t % 16 ≤ (i 0).val ∧ (i 0).val < t % 16 + 1 := h 0
    omega
  · intro h a; fin_cases a
    · exact (show t % 16 ≤ (i 0).val ∧ (i 0).val < t % 16 + 1 by omega)
    · exact ⟨Nat.zero_le _, (i 1).isLt⟩
    · exact ⟨Nat.zero_le _, (i 2).isLt⟩
theorem mem_rL (t : ℕ) (i : S15x256x256.Idx) : i ∈ (rL t).set ↔ (i 0).val = t % 15 := by
  rw [Rect.mem_set_unit]
  constructor
  · intro h
    have h0 : t % 15 ≤ (i 0).val ∧ (i 0).val < t % 15 + 1 := h 0
    omega
  · intro h a; fin_cases a
    · exact (show t % 15 ≤ (i 0).val ∧ (i 0).val < t % 15 + 1 by omega)
    · exact ⟨Nat.zero_le _, (i 1).isLt⟩
    · exact ⟨Nat.zero_le _, (i 2).isLt⟩

/-- A chunk is its two halves. -/
theorem rC_halves (e : Dev nD) : (rC e).set = (rH e 0).set ∪ (rH e 1).set := by
  ext i; rw [Finset.mem_union, mem_rH, mem_rH, mem_rC]; omega
theorem rH_disj (e : Dev nD) : Disjoint (rH e 0).set (rH e 1).set :=
  Finset.disjoint_left.mpr fun i h h' => by rw [mem_rH] at h h'; omega
theorem rC_disj {e e' : Dev nD} (h : e ≠ e') : Disjoint (rC e).set (rC e').set :=
  Finset.disjoint_left.mpr fun i h1 h2 => by
    rw [mem_rC] at h1 h2
    exact h (Fin.ext (by omega))
theorem rH_mod (e : Dev nD) {k k' : ℕ} (h : k % 2 = k' % 2) : (rH e k).set = (rH e k').set := by
  ext i; rw [mem_rH, mem_rH, h]

/-- Chunk `e` of device `c`'s gather buffer, at a share. -/
def cpt (c e : Dev nD) (q : PosShare TreeShare) (f : Vec F S8192x256 .bf16) : sProp 𝕄 :=
  ((c : Thread nD τ).loc cc0_scratch0) ↦[(rC e).set]{q} f

omit [FloatOps F] in
theorem cpt_halves (c e : Dev nD) (q : PosShare TreeShare) (f : Vec F S8192x256 .bf16) :
    cpt c e q f ⊣⊢ iprop(hpt c e 0 q f ∗ hpt c e 1 q f) := by
  unfold cpt hpt; rw [rC_halves]
  exact pointsTo_union (ℓ := (c : Thread nD τ).loc cc0_scratch0) (rH_disj e)

omit [FloatOps F] in
theorem hpt_mod (c e : Dev nD) {k k' : ℕ} (h : k % 2 = k' % 2) (q : PosShare TreeShare) (f : Vec F S8192x256 .bf16) :
    hpt c e k q f = hpt c e k' q f := by
  unfold hpt; rw [rH_mod e h]

/-! ## Order of the chunks -/

/-- When device `c` computes its term for chunk `e`. -/
def rk (c e : Dev nD) : ℕ :=
  if (pos e.val + 32 - pos c.val) % 32 = 0 then 0
  else if (pos e.val + 32 - pos c.val) % 32 < 16 then 2 * ((pos e.val + 32 - pos c.val) % 32)
  else 2 * (32 - (pos e.val + 32 - pos c.val) % 32) - 1
theorem rk_lt (c e : Dev nD) : rk c e < 32 := by
  have : (pos e.val + 32 - pos c.val) % 32 < 32 := Nat.mod_lt _ (by decide)
  unfold rk; split
  · decide
  · split <;> omega
theorem rk_inj (c : Dev nD) {e e' : Dev nD} (h : rk c e = rk c e') : e = e' := by
  apply pos_inj
  have := pos_lt e; have := pos_lt e'; have := pos_lt c
  unfold rk at h
  split at h <;> (try split at h) <;> (try split at h) <;> (try split at h) <;> omega
theorem rk_own (c : Dev nD) : rk c c = 0 := by
  have := pos_lt c
  unfold rk; rw [if_pos (by omega)]
theorem rk_ck (c : Dev nD) (s : Bool) (h : ℕ) (h1 : 1 ≤ h) (h2 : h ≤ 15 ∨ (h = 16 ∧ s = true)) : rk c (ck c s h) = if s then 2 * h - 1 else 2 * h := by
  have := pos_lt c
  have h16 : h ≤ 16 := by rcases h2 with h2 | h2 <;> omega
  unfold rk
  cases s
  · have h15 : h ≤ 15 := by
      rcases h2 with h2 | h2
      · exact h2
      · cases h2.2
    have e : (pos (ck c false h).val + 32 - pos c.val) % 32 = h := by rw [pos_ck]; dsimp only; omega
    rw [e, if_neg (by omega), if_pos (by omega)]; rfl
  · have e : (pos (ck c true h).val + 32 - pos c.val) % 32 = 32 - h := by rw [pos_ck]; dsimp only; omega
    rw [e, if_neg (by omega), if_neg (by omega)]
    show 2 * (32 - (32 - h)) - 1 = 2 * h - 1
    omega

/-! ## What lies beside the streams -/

/-- The terms computed: those of the first `y` chunks. -/
def ybuf (A : Args F) (c : Dev nD) (l y : ℕ) : sProp 𝕄 :=
  iprop(∃ f : Vec F S8192x256 .f32, ⌜∀ e, rk c e < y → yM.view.readAt (Elt F) (rC e).toLoadRect f = Y A l c e⌝
    ∗ ((c : Thread nD τ).loc cc0_scratch1) ↦{fullShare} f)

/-- The blocks the kernel reads. -/
def IB (A : Args F) (c : Dev nD) : sProp 𝕄 :=
  iprop((((c : Thread nD τ).loc cc0_stg0_0) ↦{fullShare} (tabV (F := F) c)) ∗ (((c : Thread nD τ).loc cc0_stg1_0) ↦{fullShare} (A.x c))
    ∗ (((c : Thread nD τ).loc cc0_stg2_0) ↦{fullShare} (A.wi 0 c)) ∗ (((c : Thread nD τ).loc cc0_stg3_0) ↦{fullShare} (A.wo 0 c))
    ∗ (((c : Thread nD τ).loc cc0_stg4_0) ↦{fullShare} (A.wi 1 c)) ∗ (((c : Thread nD τ).loc cc0_stg5_0) ↦{fullShare} (A.wo 1 c))
    ∗ (((c : Thread nD τ).loc cc0_stg6_0) ↦{fullShare} (A.wi 2 c)) ∗ (((c : Thread nD τ).loc cc0_stg7_0) ↦{fullShare} (A.wo 2 c)))

/-- The result's block, and its contents. -/
def out (c : Dev nD) (v : Vec F S256x256 .f32) : sProp 𝕄 := ((c : Thread nD τ).loc cc0_stg8_0) ↦{fullShare} v
def outE (c : Dev nD) : sProp 𝕄 := iprop(∃ v, out (F := F) c v)

/-- The own chunk while its layer is gathered; and once the next layer's is to be written (`o`: is written). -/
def ownA (A : Args F) (c : Dev nD) (l : ℕ) : sProp 𝕄 := cpt c c fullShare.right (XF A l)
def ownB (A : Args F) (c : Dev nD) (l : ℕ) : Bool → sProp 𝕄
  | true => cpt c c fullShare (XF A (l + 1))
  | false => iprop(∃ f, cpt (F := F) c c fullShare f)

/-- All of it: `y` terms computed, the own chunk `O`, the result `U`, and what the phase does not touch. -/
def RX (A : Args F) (c : Dev nD) (l y : ℕ) (O U KK : sProp 𝕄) : sProp 𝕄 :=
  iprop(ybuf A c l y ∗ O ∗ IB A c ∗ U ∗ KK)

end Cert.TpMlp

end
-- ==== Proof.Phase.lean ====
/-
  From one phase to the next: what a device needs to begin a phase, and what it holds when the phase is over.
-/
module

public import proofs.«01_k».proof.Proof.Mem

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over initial segments -/

theorem fam_emp {M : Type} [URA M] (S : Finset ℕ) : bigSep S (fun _ => iprop(emp)) = (iprop(emp) : sProp M) := bigSep_emp_const _
theorem fam_sep {M : Type} [URA M] {I : Type} (S : Finset I) (Φ Ψ : I → sProp M) :
    bigSep S (fun i => iprop(Φ i ∗ Ψ i)) = iprop(bigSep S Φ ∗ bigSep S Ψ) := bigSep_sep S Φ Ψ

theorem fam_mono {M : Type} [URA M] {I : Type} {S : Finset I} {Φ Ψ : I → sProp M} (h : ∀ i ∈ S, Φ i ⊢ Ψ i) : bigSep S Φ ⊢ bigSep S Ψ := bigSep_mono h

/-- A family that is `emp` from `d` on. -/
theorem fam_trunc {M : Type} [URA M] {Φ : ℕ → sProp M} {d k : ℕ} (h : d ≤ k) :
    bigSep (Finset.range k) (fun j => if j < d then Φ j else iprop(emp)) = bigSep (Finset.range d) Φ := by
  rw [bigSep_sdiff_split (s := Finset.range k) (t := Finset.range d) (by intro x; simp only [Finset.mem_range]; omega),
    bigSep_congr (s := Finset.range d) (Ψ := Φ) (fun j hj => if_pos (Finset.mem_range.mp hj)),
    bigSep_congr (s := Finset.range k \ Finset.range d) (Ψ := fun _ => iprop(emp)) (fun j hj => if_neg (by simp only [Finset.mem_sdiff, Finset.mem_range] at hj; omega)),
    fam_emp]
  exact equiv_iff.mp sep_emp

theorem fam_only {M : Type} [URA M] {P : sProp M} {i k : ℕ} (h : i < k) :
    bigSep (Finset.range k) (fun j => if j = i then P else iprop(emp)) = P := by
  rw [bigSep_erase (Finset.mem_range.mpr h), if_pos rfl,
    bigSep_congr (s := (Finset.range k).erase i) (Ψ := fun _ => iprop(emp)) (fun j hj => if_neg (Finset.ne_of_mem_erase hj)), fam_emp]
  exact equiv_iff.mp sep_emp

/-- A family with its first member apart. -/
theorem fam_shift {M : Type} [URA M] {Φ : ℕ → sProp M} (k : ℕ) :
    bigSep (Finset.range (k + 1)) Φ = iprop(Φ 0 ∗ bigSep (Finset.range k) fun i => Φ (i + 1)) := by
  rw [bigSep_erase (Finset.mem_range.mpr (Nat.succ_pos k)), show (Finset.range (k + 1)).erase 0 = (Finset.range k).image (· + 1) from by
      ext x; simp only [Finset.mem_erase, Finset.mem_range, Finset.mem_image]
      constructor
      · rintro ⟨h0, h1⟩; exact ⟨x - 1, by omega, by omega⟩
      · rintro ⟨a, h, rfl⟩; omega,
    bigSep_image_of_injOn (fun a _ b _ (h : a + 1 = b + 1) => by omega)]
  rfl

section Stream
variable (A : Args F) (c : Dev nD) (l : ℕ) (p s : Bool)

/-- The positions of a stream's receive cells, at round `l`. -/
def posn : sProp 𝕄 := bigSep (Finset.range (nm p s)) fun i => atPos ER (rcell c p s i) l ∅ 0
/-- The credits of what a stream will receive. -/
def crd : sProp 𝕄 := bigSep (Finset.range (nm p s)) fun i => cred (tallyAt (rcell c p s i) (ix p l i) (NN p))
/-- The duties of what it will send. -/
def dtys : sProp 𝕄 := bigSep (Finset.range (nm p s)) fun j => dty (F := F) c l p s j
/-- Where it will send. -/
def dsts : sProp 𝕄 := bigSep (Finset.range (nm p s)) fun j => iprop(dst (F := F) c p s j ∗ reached ER (rcell (nx c s) p s j) l)
/-- What its messages give beside their elements. -/
def gvs : sProp 𝕄 := bigSep (Finset.range (nm p s)) fun j => give (F := F) l c s p j

/-- A phase begins. -/
theorem dir_start {P : sProp 𝕄} (hP : P ⊢ bigSep (Finset.range (dl p)) (raw A l c s p)) :
    iprop((posn (F := F) c l p s ∗ crd (F := F) c l p s) ∗ (dtys (F := F) c l p s ∗ dsts (F := F) c l p s ∗ gvs (F := F) c l p s) ∗ P ∗ sp (F := F) c l p s 0)
      ⊢ DirS A c l p s (0, 0, 0, 0) := by
  have hdl : dl p ≤ nm p s + 2 := le_trans (show dl p ≤ 2 by cases p <;> decide) (Nat.le_add_left 2 _)
  unfold DirS
  dsimp only
  rw [show bigSep (Finset.range (nm p s)) (inI A c l p s 0) = iprop(posn (F := F) c l p s ∗ crd (F := F) c l p s) from by
      unfold posn crd; rw [← fam_sep]
      exact bigSep_congr fun i _ => by unfold inI; rw [if_neg (by omega)],
    show bigSep (Finset.range (nm p s + 2)) (outI A c l p s 0 0 0 0)
        = iprop((dtys (F := F) c l p s ∗ dsts (F := F) c l p s ∗ gvs (F := F) c l p s) ∗ bigSep (Finset.range (dl p)) (raw A l c s p)) from by
      rw [← fam_trunc (Φ := raw A l c s p) hdl]
      unfold dtys dsts gvs; rw [← fam_sep, ← fam_sep, ← fam_trunc (d := nm p s) (k := nm p s + 2) (by omega), ← fam_sep]
      exact bigSep_congr fun j _ => by
        unfold outI tok; rw [if_neg (Nat.not_lt_zero j), if_neg (Nat.not_lt_zero j), if_neg (Nat.not_lt_zero j), Nat.zero_add]]
  iintro ⟨Hi, Ho, HP, Hs⟩
  isplitl [Hi]; · iexact Hi
  isplitl [Ho HP]
  · isplitl [Ho]; · iexact Ho
    iapply hP $$ HP
  iexact Hs

end Stream

section Ends
variable (A : Args F) (c : Dev nD) (l : ℕ) (s : Bool)

theorem sp_next (p : Bool) : sp (F := F) c l p s (nm p s) = sp (F := F) c (l + 1) p s 0 := by
  unfold sp
  refine bigSep_congr fun k hk => ?_
  have hk := Finset.mem_range.mp hk
  have h : l * cnt p s k + (nm p s + 1 - k) / 2 = (l + 1) * cnt p s k + (0 + 1 - k) / 2 := by
    rw [show (nm p s + 1 - k) / 2 = cnt p s k from rfl, show (0 + 1 - k) / 2 = 0 by omega, Nat.add_mul, Nat.one_mul, Nat.add_zero]
  rw [h]

/-- Where a gather's messages go is what the neighbour holds ready. -/
theorem dsts_gather : dsts (F := F) c l false s = XS (F := F) l (nx c s) s := by
  unfold dsts XS
  refine bigSep_congr fun j hj => ?_
  have hj := Finset.mem_range.mp hj
  have := nm_le false s
  show iprop((∃ f, hpt (F := F) (nx c s) (ck c s (j / 2)) j fullShare f) ∗ _) = _
  rw [ck_nx c s (j / 2) (by omega)]
theorem dsts_reduce : dsts (F := F) c l true s = RSS (F := F) l (nx c s) s := rfl

theorem gvs_gather : gvs (F := F) c l false s = RSS (F := F) l c (!s) := by
  unfold gvs give; dsimp only
  exact fam_only (by cases s <;> decide)
theorem gvs_reduce (h : l < 2) : gvs (F := F) c l true s = XS (F := F) (l + 1) c (!s) := by
  unfold gvs give; dsimp only; simp only [h, and_true]
  exact fam_only (by cases s <;> decide)
theorem gvs_reduce_last (h : ¬ l < 2) : gvs (F := F) c l true s = iprop(emp) := by
  unfold gvs give; dsimp only; simp only [h, and_false, if_false]
  exact fam_emp _

/-- The halves of the own chunk at the share the gather in direction `s` reads them. -/
def own2 (q : PosShare TreeShare) : sProp 𝕄 := cpt c c q (XF A l)

theorem own2_raw : own2 A c l (if s then fullShare.left.left else fullShare.left.right) ⊢ bigSep (Finset.range (dl false)) (raw A l c s false) := by
  rw [show bigSep (Finset.range (dl false)) (raw A l c s false) = iprop(raw A l c s false 0 ∗ raw A l c s false 1) from by
    rw [show dl false = 1 + 1 from rfl, fam_shift, fam_shift, Finset.range_zero, bigSep_empty]
    exact congrArg _ (equiv_iff.mp sep_emp)]
  show _ ⊢ iprop(hpt c (ck c s 0) 0 (shr s 0) (XF A l) ∗ hpt c (ck c s 0) 1 (shr s 1) (XF A l))
  rw [ck_zero]
  unfold own2
  exact (cpt_halves c c _ _).1

/-- What a stream of the gather holds when it is over: its positions a round on, the halves received and the own ones, and
    the right to send the coming reduction. -/
theorem end_gather : DirS A c l false s (nm false s, 0, nm false s, nm false s)
    ⊢ iprop(posn (F := F) c (l + 1) false s ∗ sp (F := F) c (l + 1) false s 0 ∗ XS (F := F) (l + 1) c s ∗ RSS (F := F) l (nx c (!s)) (!s)
      ∗ own2 A c l (if s then fullShare.left.left else fullShare.left.right)) := by
  unfold DirS
  dsimp only
  rw [sp_next,
    show bigSep (Finset.range (nm false s)) (inI A c l false s (nm false s))
      = iprop(posn (F := F) c (l + 1) false s ∗ (bigSep (Finset.range (nm false s)) fun i => reached ER (rcell c false s i) (l + 1))
        ∗ (bigSep (Finset.range (nm false s)) fun i => hpt c (ck c s (i / 2 + 1)) i fullShare.right (XF A l)) ∗ gvs (F := F) (nx c (!s)) l false s) from by
      unfold posn gvs; rw [← fam_sep, ← fam_sep, ← fam_sep]
      refine bigSep_congr fun i hi => ?_
      unfold inI kp; rw [if_pos (Finset.mem_range.mp hi)],
    gvs_gather,
    show (bigSep (Finset.range (nm false s + 2)) (outI A c l false s (nm false s) 0 (nm false s) (nm false s)))
      = bigSep (Finset.range (nm false s + 1 + 1)) (raw A l c s false) from bigSep_congr fun j hj => by
        have hj := Finset.mem_range.mp hj
        unfold outI
        by_cases h : j < nm false s
        · rw [if_pos h]; rfl
        · rw [if_neg h, if_neg h, if_neg (by omega), if_pos (show j < nm false s + dl false from hj)]
          unfold tok; rw [if_neg h]; exact equiv_iff.mp emp_sep,
    fam_shift, fam_shift]
  iintro ⟨⟨Hp, Hre, Hr, Hg⟩, ⟨H0, H1, Hl⟩, Hs⟩
  isplitl [Hp]; · iexact Hp
  isplitl [Hs]; · iexact Hs
  isplitl [Hre Hr Hl]
  · have h : iprop((bigSep (Finset.range (nm false s)) fun i => reached ER (rcell c false s i) (l + 1))
          ∗ (bigSep (Finset.range (nm false s)) fun i => hpt c (ck c s (i / 2 + 1)) i fullShare.right (XF A l)) ∗ bigSep (Finset.range (nm false s)) fun i => raw A l c s false (i + 1 + 1)) ⊢ XS (F := F) (l + 1) c s := by
      unfold XS; rw [← fam_sep, ← fam_sep]
      refine fam_mono fun i hi => ?_
      have e : raw A l c s false (i + 1 + 1) = hpt c (ck c s (i / 2 + 1)) i fullShare.left (XF A l) := by
        show hpt c (ck c s ((i + 1 + 1) / 2)) (i + 1 + 1) (shr s (i + 1 + 1)) (XF A l) = _
        unfold shr; rw [if_neg (by omega), show (i + 1 + 1) / 2 = i / 2 + 1 by omega]
        exact hpt_mod c _ (by omega) _ _
      rw [e]
      iintro ⟨Hr, H1, H2⟩
      isplitr [Hr]
      · iexists (XF A l)
        iapply (share_split c fullShare (ck c s (i / 2 + 1)) i (XF A l)).2
        isplitl [H2]; · iexact H2
        iexact H1
      iexact Hr
    iapply h
    isplitl [Hre]; · iexact Hre
    isplitl [Hr]; · iexact Hr
    iexact Hl
  isplitl [Hg]; · iexact Hg
  have h : iprop(raw A l c s false 0 ∗ raw A l c s false (0 + 1)) ⊢ own2 A c l (if s then fullShare.left.left else fullShare.left.right) := by
    show iprop(hpt c (ck c s 0) 0 (shr s 0) (XF A l) ∗ hpt c (ck c s 0) 1 (shr s 1) (XF A l)) ⊢ _
    rw [ck_zero]
    exact (cpt_halves c c _ _).2
  iapply h
  isplitl [H0]; · iexact H0
  iexact H1

theorem raw_slotE (t : ℕ) : raw A l c s true (t + 1) ⊢ slotE (F := F) c s t := by
  show slot c s t _ ⊢ _
  unfold slotE
  iintro H; iexists _; iexact H

/-- What a stream of the reduction holds when it is over. -/
theorem end_reduce : DirS A c l true s (nm true s, nm true s, nm true s, nm true s)
    ⊢ iprop(posn (F := F) c (l + 1) true s ∗ sp (F := F) c (l + 1) true s 0 ∗ RSS (F := F) (l + 1) c s ∗ gvs (F := F) (nx c (!s)) l true s
      ∗ stgE (F := F) c s) := by
  unfold DirS
  dsimp only
  have hm : 1 ≤ nm true s := by cases s <;> decide
  have ho : bigSep (Finset.range (nm true s + 2)) (outI A c l true s (nm true s) (nm true s) (nm true s) (nm true s))
      ⊢ iprop(stgE (F := F) c s ∗ bigSep (Finset.range (nm true s)) fun t => slotE (F := F) c s t) := by
    refine (fam_mono (Ψ := fun j => if j < nm true s + 1 then (match j with | 0 => stgE (F := F) c s | t + 1 => slotE (F := F) c s t) else iprop(emp)) fun j hj => ?_).trans ?_
    · have hj := Finset.mem_range.mp hj
      unfold outI
      by_cases h : j < nm true s
      · rw [if_pos h, if_pos (by omega)]
        cases j
        · exact (BIBase.Entails.rfl : stgE (F := F) c s ⊢ _)
        · exact (BIBase.Entails.rfl : slotE (F := F) c s _ ⊢ _)
      · by_cases h' : j < nm true s + 1
        · rw [if_neg h, if_neg h, if_neg h, if_pos (show j < nm true s + dl true from h'), if_pos h']
          unfold tok; rw [if_neg h]
          obtain ⟨t, rfl⟩ : ∃ t, j = t + 1 := ⟨j - 1, by omega⟩
          show iprop(emp ∗ raw A l c s true (t + 1)) ⊢ slotE (F := F) c s t
          iintro ⟨-, H⟩
          iapply (raw_slotE A c l s t) $$ H
        · rw [if_neg h, if_neg h, if_neg h, if_neg (show ¬ j < nm true s + dl true from h'), if_neg h']
          show iprop(tok (F := F) c l true s j ∗ emp) ⊢ iprop(emp)
          iintro -; iempintro
    · rw [fam_trunc (by omega), fam_shift]
  rw [sp_next,
    show bigSep (Finset.range (nm true s)) (inI A c l true s (nm true s))
      = iprop(posn (F := F) c (l + 1) true s ∗ (bigSep (Finset.range (nm true s)) fun i => reached ER (rcell c true s i) (l + 1))
        ∗ gvs (F := F) (nx c (!s)) l true s) from by
      unfold posn gvs; rw [← fam_sep, ← fam_sep]
      refine bigSep_congr fun i hi => ?_
      unfold inI kp; rw [if_pos (Finset.mem_range.mp hi)]]
  iintro ⟨⟨Hp, Hr, Hg⟩, Ho, Hs⟩
  isplitl [Hp]; · iexact Hp
  isplitl [Hs]; · iexact Hs
  ihave Ho := ho $$ Ho
  icases Ho with ⟨Hst, Hsl⟩
  isplitl [Hr Hsl]
  · unfold RSS; rw [fam_sep]
    isplitl [Hsl]; · iexact Hsl
    iexact Hr
  isplitl [Hg]; · iexact Hg
  iexact Hst

end Ends

end Cert.TpMlp

end
-- ==== Proof.Buffers.lean ====
/-
  The gather buffer and the slot buffers as the families of pieces that the messages move, and whole again.
-/
module

public import proofs.«01_k».proof.Proof.Phase

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A buffer as a family of pieces -/

/-- Pieces held at contents of their own, joined. -/
theorem join_fam {I : Type} [DecidableEq I] {ℓ : Loc nD τ sig} (S : Finset I) (T : I → Finset (Idx ℓ))
    (h : ∀ t ∈ S, ∀ t' ∈ S, t ≠ t' → Disjoint (T t) (T t')) (f₀ : Buf (Elt F) ℓ) :
    bigSep S (fun i => iprop(∃ f, ℓ ↦[T i]{fullShare} f)) ⊢ (iprop(∃ f, ℓ ↦[S.biUnion T]{fullShare} f) : sProp 𝕄) := by
  classical
  induction S using Finset.induction_on with
  | empty =>
    rw [Finset.biUnion_empty, bigSep_empty]
    iintro H; iexists f₀; rw [pointsTo_empty]; iexact H
  | insert a S ha ih =>
    have hi := ih fun t ht t' ht' => h t (Finset.mem_insert_of_mem ht) t' (Finset.mem_insert_of_mem ht')
    have hd : Disjoint (T a) (S.biUnion T) := (Finset.disjoint_biUnion_right _ _ _).mpr fun t ht =>
      h a (Finset.mem_insert_self _ _) t (Finset.mem_insert_of_mem ht) (fun e => ha (e ▸ ht))
    rw [bigSep_insert ha, Finset.biUnion_insert]
    show iprop((∃ f, ℓ ↦[T a]{fullShare} f) ∗ bigSep S (fun i => iprop(∃ f, ℓ ↦[T i]{fullShare} f))) ⊢ _
    iintro ⟨⟨%f, H⟩, HS⟩
    ihave HS := hi $$ HS
    icases HS with ⟨%g, HS⟩
    iexists ((S.biUnion T).piecewise g f)
    iapply (pointsTo_join hd)
    isplitl [H]; · iexact H
    iexact HS

/-- And taken apart. -/
theorem split_fam {I : Type} [DecidableEq I] {ℓ : Loc nD τ sig} (S : Finset I) (T : I → Finset (Idx ℓ))
    (h : ∀ t ∈ S, ∀ t' ∈ S, t ≠ t' → Disjoint (T t) (T t')) (f : Buf (Elt F) ℓ) :
    (ℓ ↦[S.biUnion T]{fullShare} f : sProp 𝕄) ⊢ bigSep S (fun i => iprop(∃ f, ℓ ↦[T i]{fullShare} f)) := by
  rw [pointsTo_biUnion S T h]
  refine fam_mono fun i _ => ?_
  iintro H; iexists f; iexact H

/-! ## The gather buffer -/

/-- The elements direction `s` brings to device `c`. -/
def hset (c : Dev nD) (s : Bool) : Finset S8192x256.Idx := (Finset.range (nm false s)).biUnion fun i => (rH (ck c s (i / 2 + 1)) i).set

/-- The device whose chunk an element is in. -/
def chunkOf (i : S8192x256.Idx) : Dev nD := ⟨(i 0).val / 256, by have : (i 0).val < 8192 := (i 0).isLt; show _ < 32; omega⟩

theorem mem_rH' (e : Dev nD) (k : ℕ) (i : S8192x256.Idx) : i ∈ (rH e k).set ↔ chunkOf i = e ∧ (i 0).val % 256 / 128 = k % 2 := by
  rw [mem_rH]
  have : (i 0).val < 8192 := (i 0).isLt
  constructor
  · rintro ⟨h1, h2⟩
    exact ⟨Fin.ext (show (i 0).val / 256 = e.val by omega), by omega⟩
  · rintro ⟨h1, h2⟩
    have : (i 0).val / 256 = e.val := congrArg Fin.val h1
    omega
theorem mem_rC' (e : Dev nD) (i : S8192x256.Idx) : i ∈ (rC e).set ↔ chunkOf i = e := by
  rw [mem_rC]
  constructor
  · rintro ⟨h1, h2⟩
    exact Fin.ext (show (i 0).val / 256 = e.val by omega)
  · intro h1
    have : (i 0).val / 256 = e.val := congrArg Fin.val h1
    omega

theorem rk_piece (c : Dev nD) (s : Bool) {i : ℕ} (h : i < nm false s) : rk c (ck c s (i / 2 + 1)) = if s then 2 * (i / 2) + 1 else 2 * (i / 2) + 2 := by
  rw [rk_ck c s (i / 2 + 1) (by omega) (by cases s <;> (simp only [nm] at h; simp; try omega))]
  cases s
  · show 2 * (i / 2 + 1) = 2 * (i / 2) + 2; omega
  · show 2 * (i / 2 + 1) - 1 = 2 * (i / 2) + 1; omega

theorem pieces_disj (c : Dev nD) (s : Bool) : ∀ t ∈ Finset.range (nm false s), ∀ t' ∈ Finset.range (nm false s), t ≠ t' →
    Disjoint (rH (ck c s (t / 2 + 1)) t).set (rH (ck c s (t' / 2 + 1)) t').set := fun t ht t' ht' hne => by
  have ht := Finset.mem_range.mp ht
  have ht' := Finset.mem_range.mp ht'
  rw [Finset.disjoint_left]
  intro i hi hi'
  rw [mem_rH'] at hi hi'
  have e := congrArg (rk c) (hi.1.symm.trans hi'.1)
  rw [rk_piece c s ht, rk_piece c s ht'] at e
  have := hi.2.symm.trans hi'.2
  cases s
  · simp only [Bool.false_eq_true, if_false] at e; omega
  · simp only [if_true] at e; omega

theorem mem_hset (c : Dev nD) (s : Bool) (i : S8192x256.Idx) :
    i ∈ hset c s ↔ rk c (chunkOf i) ≠ 0 ∧ rk c (chunkOf i) % 2 = if s then 1 else 0 := by
  unfold hset
  rw [Finset.mem_biUnion]
  constructor
  · rintro ⟨t, ht, hi⟩
    rw [mem_rH'] at hi
    rw [hi.1, rk_piece c s (Finset.mem_range.mp ht)]
    cases s
    · simp only [Bool.false_eq_true, if_false]; omega
    · simp only [if_true]; omega
  · rintro ⟨h0, h1⟩
    have h32 := rk_lt c (chunkOf i)
    have hlt : (i 0).val % 256 / 128 < 2 := by omega
    cases s
    · simp only [Bool.false_eq_true, if_false] at h1
      refine ⟨2 * (rk c (chunkOf i) / 2 - 1) + (i 0).val % 256 / 128, Finset.mem_range.mpr (show _ < 30 by omega), ?_⟩
      rw [mem_rH']
      refine ⟨rk_inj c ?_, by omega⟩
      rw [rk_piece c false (show _ < 30 by omega)]
      simp only [Bool.false_eq_true, if_false]; omega
    · simp only [if_true] at h1
      refine ⟨2 * (rk c (chunkOf i) / 2) + (i 0).val % 256 / 128, Finset.mem_range.mpr (show _ < 32 by omega), ?_⟩
      rw [mem_rH']
      refine ⟨rk_inj c ?_, by omega⟩
      rw [rk_piece c true (show _ < 32 by omega)]
      simp only [if_true]; omega

theorem mem_own (c : Dev nD) (i : S8192x256.Idx) : i ∈ (rC c).set ↔ rk c (chunkOf i) = 0 := by
  rw [mem_rC']
  constructor
  · intro h; rw [h, rk_own]
  · intro h; exact rk_inj c (h.trans (rk_own c).symm)

theorem whole_x (c : Dev nD) : (Finset.univ : Finset S8192x256.Idx) = (rC c).set ∪ (hset c true ∪ hset c false) := by
  ext i
  simp only [Finset.mem_univ, Finset.mem_union, mem_hset, mem_own, true_iff, if_true, Bool.false_eq_true, if_false]
  omega
theorem own_disj (c : Dev nD) : Disjoint (rC c).set (hset c true ∪ hset c false) := by
  rw [Finset.disjoint_left]
  intro i hi hi'
  rw [Finset.mem_union, mem_hset, mem_hset] at hi'
  rw [mem_own] at hi
  rcases hi' with h | h <;> exact h.1 hi
theorem dirs_disj (c : Dev nD) : Disjoint (hset c true) (hset c false) := by
  rw [Finset.disjoint_left]
  intro i hi hi'
  rw [mem_hset] at hi hi'
  simp only [if_true, Bool.false_eq_true, if_false] at hi hi'
  omega

/-- The pieces direction `s` brings to device `c`, at any contents. -/
def pieces (c : Dev nD) (s : Bool) : sProp 𝕄 := bigSep (Finset.range (nm false s)) fun i => iprop(∃ f, hpt (F := F) c (ck c s (i / 2 + 1)) i fullShare f)

/-- The gather buffer: the own chunk and what each direction brings. -/
theorem x_split (c : Dev nD) (f : Vec F S8192x256 .bf16) : (((c : Thread nD τ).loc cc0_scratch0) ↦{fullShare} f : sProp 𝕄)
    ⊢ iprop(cpt c c fullShare f ∗ pieces (F := F) c true ∗ pieces (F := F) c false) := by
  have h1 : (((c : Thread nD τ).loc cc0_scratch0) ↦[(rC c).set ∪ (hset c true ∪ hset c false)]{fullShare} f : sProp 𝕄) ⊢ iprop(cpt c c fullShare f ∗ (((c : Thread nD τ).loc cc0_scratch0) ↦[hset c true ∪ hset c false]{fullShare} f)) :=
    (pointsTo_union (Ix := ℕ) (Val := Elt F) (Name := ℕ) (U := UU) (Lvl := ℕ) (ℓ := (c : Thread nD τ).loc cc0_scratch0) (q := fullShare) (f := f) (own_disj c)).1
  have h2 := (pointsTo_union (Ix := ℕ) (Val := Elt F) (Name := ℕ) (U := UU) (Lvl := ℕ) (ℓ := (c : Thread nD τ).loc cc0_scratch0) (q := fullShare) (f := f) (dirs_disj c)).1
  have h3 (s : Bool) : (((c : Thread nD τ).loc cc0_scratch0) ↦[hset c s]{fullShare} f : sProp 𝕄) ⊢ pieces (F := F) c s :=
    split_fam (F := F) (ℓ := (c : Thread nD τ).loc cc0_scratch0) (Finset.range (nm false s)) (fun i => (rH (ck c s (i / 2 + 1)) i).set) (pieces_disj c s) f
  have h0 : (((c : Thread nD τ).loc cc0_scratch0) ↦{fullShare} f : sProp 𝕄)
      ⊢ (((c : Thread nD τ).loc cc0_scratch0) ↦[(rC c).set ∪ (hset c true ∪ hset c false)]{fullShare} f) :=
    Entails.of_eq (congrArg (fun S => (((c : Thread nD τ).loc cc0_scratch0) ↦[S]{fullShare} f : sProp 𝕄)) (whole_x c))
  iintro H
  ihave H := h0 $$ H
  ihave H := h1 $$ H
  icases H with ⟨Ho, H⟩
  ihave H := h2 $$ H
  icases H with ⟨Ht, Hf⟩
  isplitl [Ho]; · iexact Ho
  isplitl [Ht]
  · iapply (h3 true) $$ Ht
  · iapply (h3 false) $$ Hf

theorem x_join (c : Dev nD) : iprop((∃ f, cpt (F := F) c c fullShare f) ∗ pieces (F := F) c true ∗ pieces (F := F) c false)
    ⊢ iprop(∃ f, (((c : Thread nD τ).loc cc0_scratch0) ↦{fullShare} f : sProp 𝕄)) := by
  have h1 (f g) : iprop(cpt (F := F) c c fullShare f ∗ (((c : Thread nD τ).loc cc0_scratch0) ↦[hset c true ∪ hset c false]{fullShare} g)) ⊢ (((c : Thread nD τ).loc cc0_scratch0) ↦[(rC c).set ∪ (hset c true ∪ hset c false)]{fullShare} (hset c true ∪ hset c false).piecewise g f : sProp 𝕄) :=
    pointsTo_join (Ix := ℕ) (Val := Elt F) (Name := ℕ) (U := UU) (Lvl := ℕ) (ℓ := (c : Thread nD τ).loc cc0_scratch0) (q := fullShare) (f := f) (g := g) (own_disj c)
  have h2 (f g) := pointsTo_join (Ix := ℕ) (Val := Elt F) (Name := ℕ) (U := UU) (Lvl := ℕ) (ℓ := (c : Thread nD τ).loc cc0_scratch0) (q := fullShare) (f := f) (g := g) (dirs_disj c)
  have h0 (f) : (((c : Thread nD τ).loc cc0_scratch0) ↦[(rC c).set ∪ (hset c true ∪ hset c false)]{fullShare} f : sProp 𝕄)
      ⊢ (((c : Thread nD τ).loc cc0_scratch0) ↦{fullShare} f) :=
    Entails.of_eq (congrArg (fun S => (((c : Thread nD τ).loc cc0_scratch0) ↦[S]{fullShare} f : sProp 𝕄)) (whole_x c).symm)
  iintro ⟨⟨%f, Ho⟩, Ht, Hf⟩
  have h3 (s : Bool) : pieces (F := F) c s ⊢ iprop(∃ f, (((c : Thread nD τ).loc cc0_scratch0) ↦[hset c s]{fullShare} f : sProp 𝕄)) :=
    join_fam (F := F) (ℓ := (c : Thread nD τ).loc cc0_scratch0) (Finset.range (nm false s)) (fun i => (rH (ck c s (i / 2 + 1)) i).set) (pieces_disj c s) f
  ihave Ht := (h3 true) $$ Ht
  ihave Hf := (h3 false) $$ Hf
  icases Ht with ⟨%f1, Ht⟩
  icases Hf with ⟨%f2, Hf⟩
  ihave H := (h2 f1 f2) $$ [Ht Hf]
  · isplitl [Ht]; · iexact Ht
    iexact Hf
  ihave H := (h1 f _) $$ [Ho H]
  · isplitl [Ho]; · iexact Ho
    iexact H
  ihave H := (h0 _) $$ H
  iexists _; iexact H

/-! ## The slots -/

theorem rR_disj : ∀ t ∈ Finset.range 16, ∀ t' ∈ Finset.range 16, t ≠ t' → Disjoint (rR t).set (rR t').set := fun t ht t' ht' hne => by
  have ht := Finset.mem_range.mp ht
  have ht' := Finset.mem_range.mp ht'
  rw [Finset.disjoint_left]
  intro i hi hi'
  rw [mem_rR] at hi hi'
  omega
theorem rL_disj : ∀ t ∈ Finset.range 15, ∀ t' ∈ Finset.range 15, t ≠ t' → Disjoint (rL t).set (rL t').set := fun t ht t' ht' hne => by
  have ht := Finset.mem_range.mp ht
  have ht' := Finset.mem_range.mp ht'
  rw [Finset.disjoint_left]
  intro i hi hi'
  rw [mem_rL] at hi hi'
  omega
theorem rR_all : (Finset.univ : Finset S16x256x256.Idx) = (Finset.range 16).biUnion fun t => (rR t).set := by
  ext i
  have : (i 0).val < 16 := (i 0).isLt
  simp only [Finset.mem_univ, true_iff, Finset.mem_biUnion]
  exact ⟨(i 0).val, Finset.mem_range.mpr this, (mem_rR _ _).mpr (by omega)⟩
theorem rL_all : (Finset.univ : Finset S15x256x256.Idx) = (Finset.range 15).biUnion fun t => (rL t).set := by
  ext i
  have : (i 0).val < 15 := (i 0).isLt
  simp only [Finset.mem_univ, true_iff, Finset.mem_biUnion]
  exact ⟨(i 0).val, Finset.mem_range.mpr this, (mem_rL _ _).mpr (by omega)⟩

/-- The slots of direction `s`. -/
def slots (c : Dev nD) (s : Bool) : sProp 𝕄 := bigSep (Finset.range (nm true s)) fun t => slotE (F := F) c s t

theorem rr_split (c : Dev nD) (f : Vec F S16x256x256 .bf16) : (((c : Thread nD τ).loc cc0_scratch2) ↦{fullShare} f : sProp 𝕄) ⊢ slots (F := F) c true := by
  have h3 := split_fam (F := F) (ℓ := (c : Thread nD τ).loc cc0_scratch2) (Finset.range 16) (fun t => (rR t).set) rR_disj f
  have h0 : (((c : Thread nD τ).loc cc0_scratch2) ↦{fullShare} f : sProp 𝕄)
      ⊢ (((c : Thread nD τ).loc cc0_scratch2) ↦[(Finset.range 16).biUnion fun t => (rR t).set]{fullShare} f) :=
    Entails.of_eq (congrArg (fun S => (((c : Thread nD τ).loc cc0_scratch2) ↦[S]{fullShare} f : sProp 𝕄)) rR_all)
  refine h0.trans (h3.trans (fam_mono fun t _ => ?_))
  unfold slotE slot
  iintro ⟨%g, H⟩
  iexists _; iexists g
  isplitr; · ipureintro; rfl
  iexact H
theorem rl_split (c : Dev nD) (f : Vec F S15x256x256 .bf16) : (((c : Thread nD τ).loc cc0_scratch3) ↦{fullShare} f : sProp 𝕄) ⊢ slots (F := F) c false := by
  have h3 := split_fam (F := F) (ℓ := (c : Thread nD τ).loc cc0_scratch3) (Finset.range 15) (fun t => (rL t).set) rL_disj f
  have h0 : (((c : Thread nD τ).loc cc0_scratch3) ↦{fullShare} f : sProp 𝕄)
      ⊢ (((c : Thread nD τ).loc cc0_scratch3) ↦[(Finset.range 15).biUnion fun t => (rL t).set]{fullShare} f) :=
    Entails.of_eq (congrArg (fun S => (((c : Thread nD τ).loc cc0_scratch3) ↦[S]{fullShare} f : sProp 𝕄)) rL_all)
  refine h0.trans (h3.trans (fam_mono fun t _ => ?_))
  unfold slotE slot
  iintro ⟨%g, H⟩
  iexists _; iexists g
  isplitr; · ipureintro; rfl
  iexact H
theorem rr_join (c : Dev nD) (f₀ : Vec F S16x256x256 .bf16) : slots (F := F) c true ⊢ iprop(∃ f, (((c : Thread nD τ).loc cc0_scratch2) ↦{fullShare} f : sProp 𝕄)) := by
  have h3 := join_fam (F := F) (ℓ := (c : Thread nD τ).loc cc0_scratch2) (Finset.range 16) (fun t => (rR t).set) rR_disj f₀
  have h0 (f) : (((c : Thread nD τ).loc cc0_scratch2) ↦[(Finset.range 16).biUnion fun t => (rR t).set]{fullShare} f : sProp 𝕄)
      ⊢ (((c : Thread nD τ).loc cc0_scratch2) ↦{fullShare} f) :=
    Entails.of_eq (congrArg (fun S => (((c : Thread nD τ).loc cc0_scratch2) ↦[S]{fullShare} f : sProp 𝕄)) rR_all.symm)
  have h4 : slots (F := F) c true ⊢ bigSep (Finset.range 16) fun t => iprop(∃ f, ((c : Thread nD τ).loc cc0_scratch2) ↦[(rR t).set]{fullShare} f) :=
    fam_mono fun t _ => by
      unfold slotE slot
      iintro ⟨%v, %g, -, H⟩
      iexists g; iexact H
  iintro H
  ihave H := h4 $$ H
  ihave H := h3 $$ H
  icases H with ⟨%f, H⟩
  ihave H := (h0 f) $$ H
  iexists f; iexact H
theorem rl_join (c : Dev nD) (f₀ : Vec F S15x256x256 .bf16) : slots (F := F) c false ⊢ iprop(∃ f, (((c : Thread nD τ).loc cc0_scratch3) ↦{fullShare} f : sProp 𝕄)) := by
  have h3 := join_fam (F := F) (ℓ := (c : Thread nD τ).loc cc0_scratch3) (Finset.range 15) (fun t => (rL t).set) rL_disj f₀
  have h0 (f) : (((c : Thread nD τ).loc cc0_scratch3) ↦[(Finset.range 15).biUnion fun t => (rL t).set]{fullShare} f : sProp 𝕄)
      ⊢ (((c : Thread nD τ).loc cc0_scratch3) ↦{fullShare} f) :=
    Entails.of_eq (congrArg (fun S => (((c : Thread nD τ).loc cc0_scratch3) ↦[S]{fullShare} f : sProp 𝕄)) rL_all.symm)
  have h4 : slots (F := F) c false ⊢ bigSep (Finset.range 15) fun t => iprop(∃ f, ((c : Thread nD τ).loc cc0_scratch3) ↦[(rL t).set]{fullShare} f) :=
    fam_mono fun t _ => by
      unfold slotE slot
      iintro ⟨%v, %g, -, H⟩
      iexists g; iexact H
  iintro H
  ihave H := h4 $$ H
  ihave H := h3 $$ H
  icases H with ⟨%f, H⟩
  ihave H := (h0 f) $$ H
  iexists f; iexact H

/-! ## With the counts of their cells -/

/-- The cells of a stream have met `l` rounds. -/
def met (c : Dev nD) (l : ℕ) (p s : Bool) : sProp 𝕄 := bigSep (Finset.range (nm p s)) fun i => reached (ER (F := F)) (rcell c p s i) l

theorem XS_eq (l : ℕ) (c : Dev nD) (s : Bool) : XS (F := F) l c s = iprop(pieces (F := F) c s ∗ met (F := F) c l false s) := fam_sep _ _ _
theorem RSS_eq (l : ℕ) (c : Dev nD) (s : Bool) : RSS (F := F) l c s = iprop(slots (F := F) c s ∗ met (F := F) c l true s) := fam_sep _ _ _

end Cert.TpMlp

end
-- ==== Proof.Ops.lean ====
/-
  Each load and store of the kernel as a step of the state: which part of what the device holds it touches, and what it
  reads or leaves.
-/
module

public import proofs.«01_k».proof.Proof.Mem

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The memrefs as the body names them. -/
abbrev m0 : Memref sig .tc .smem S64 .i32 := Memref.whole cc0_stg0_0
abbrev m1 : Memref sig .tc .vmem S256x256 .f32 := Memref.whole cc0_stg1_0
abbrev m2 : Memref sig .tc .vmem S256x512 .f32 := Memref.whole cc0_stg2_0
abbrev m3 : Memref sig .tc .vmem S512x256 .f32 := Memref.whole cc0_stg3_0
abbrev m4 : Memref sig .tc .vmem S256x512 .f32 := Memref.whole cc0_stg4_0
abbrev m5 : Memref sig .tc .vmem S512x256 .f32 := Memref.whole cc0_stg5_0
abbrev m6 : Memref sig .tc .vmem S256x512 .f32 := Memref.whole cc0_stg6_0
abbrev m7 : Memref sig .tc .vmem S512x256 .f32 := Memref.whole cc0_stg7_0
abbrev m8 : Memref sig .tc .vmem S256x256 .f32 := Memref.whole cc0_stg8_0

/-- A fact of one side of a separating conjunction, the other carried along. -/
theorem carry_left {M : Type} [URA M] {ι : Type} {T R R' : sProp M} {φ : ι → Prop} {P P' : ι → sProp M}
    (h : R ⊢ iprop(∃ f, ⌜φ f⌝ ∗ P f ∗ (P' f -∗ R'))) : iprop(T ∗ R) ⊢ iprop(∃ f, ⌜φ f⌝ ∗ P f ∗ (P' f -∗ T ∗ R')) := by
  iintro ⟨HT, HR⟩
  ihave H := h $$ HR
  icases H with ⟨%f, %hf, Hp, Hw⟩
  iexists f
  isplitr; · ipureintro; exact hf
  isplitl [Hp]; · iexact Hp
  iintro Hp
  isplitl [HT]; · iexact HT
  iapply Hw $$ Hp
theorem carry_right {M : Type} [URA M] {ι : Type} {T T' R : sProp M} {φ : ι → Prop} {P P' : ι → sProp M}
    (h : T ⊢ iprop(∃ f, ⌜φ f⌝ ∗ P f ∗ (P' f -∗ T'))) : iprop(T ∗ R) ⊢ iprop(∃ f, ⌜φ f⌝ ∗ P f ∗ (P' f -∗ T' ∗ R)) := by
  iintro ⟨HT, HR⟩
  ihave H := h $$ HT
  icases H with ⟨%f, %hf, Hp, Hw⟩
  iexists f
  isplitr; · ipureintro; exact hf
  isplitl [Hp]; · iexact Hp
  iintro Hp
  isplitr [HR]
  · iapply Hw $$ Hp
  iexact HR
/-- The same, of a fact with nothing to remember. -/
theorem drop_pure {M : Type} [URA M] {ι : Type} {T T' : sProp M} {φ : ι → Prop} {P P' : ι → sProp M}
    (h : T ⊢ iprop(∃ f, ⌜φ f⌝ ∗ P f ∗ (P' f -∗ T'))) : T ⊢ iprop(∃ f, P f ∗ (P' f -∗ T')) := by
  iintro HT
  ihave H := h $$ HT
  icases H with ⟨%f, -, Hp, Hw⟩
  iexists f
  isplitl [Hp]; · iexact Hp
  iexact Hw

theorem setOn_whole (b : Ref sig .tc) (M : Finset (b.ty.shape.Idx)) : (Memref.whole b).view.setOn M = M := Finset.map_refl
/-- Reading a chunk received. -/
theorem dir_chunk (A : Args F) (c : Dev nD) (l : ℕ) (s : Bool) {q : ℕ × ℕ × ℕ × ℕ} {h : ℕ} (hi : 2 * h + 1 < q.1) (hi' : 2 * h + 1 < nm false s) :
    DirS A c l false s q ⊢ iprop(cpt c (ck c s (h + 1)) fullShare.right (XF A l)
      ∗ (cpt c (ck c s (h + 1)) fullShare.right (XF A l) -∗ DirS A c l false s q)) := by
  have e1 : ∀ i, i < q.1 → inI A c l false s q.1 i = iprop(atPos ER (rcell c false s i) (l + 1) ∅ 0 ∗ reached ER (rcell c false s i) (l + 1)
      ∗ hpt c (ck c s (i / 2 + 1)) i fullShare.right (XF A l) ∗ give l (nx c (!s)) s false i) := fun i hi => by
    unfold inI kp; rw [if_pos hi]
  have m0 : 2 * h ∈ Finset.range (nm false s) := Finset.mem_range.mpr (by omega)
  have m1 : 2 * h + 1 ∈ (Finset.range (nm false s)).erase (2 * h) := Finset.mem_erase.mpr ⟨by omega, Finset.mem_range.mpr hi'⟩
  have hc := cpt_halves c (ck c s (h + 1)) fullShare.right (XF A l)
  unfold DirS
  rw [fam_erase (M := 𝕄) m0, fam_erase (M := 𝕄) m1, e1 _ (by omega), e1 _ hi]
  rw [show 2 * h / 2 = h by omega, show (2 * h + 1) / 2 = h by omega, hpt_mod c _ (show 2 * h % 2 = 0 % 2 by omega), hpt_mod c _ (show (2 * h + 1) % 2 = 1 % 2 by omega)]
  iintro ⟨⟨⟨Ha, Hre, Hh, Hg⟩, ⟨Ha', Hre', Hh', Hg'⟩, Hi⟩, Ho, Hs⟩
  isplitl [Hh Hh']
  · iapply hc.2
    isplitl [Hh]; · iexact Hh
    iexact Hh'
  iintro H
  ihave H := hc.1 $$ H
  icases H with ⟨Hh, Hh'⟩
  isplitr [Ho Hs]
  · isplitl [Ha Hre Hh Hg]
    · isplitl [Ha]; · iexact Ha
      isplitl [Hre]; · iexact Hre
      isplitl [Hh]; · iexact Hh
      iexact Hg
    isplitr [Hi]
    · isplitl [Ha']; · iexact Ha'
      isplitl [Hre']; · iexact Hre'
      isplitl [Hh']; · iexact Hh'
      iexact Hg'
    iexact Hi
  isplitl [Ho]; · iexact Ho
  iexact Hs

section
variable {A : Args F} {K : GSem nD τ sig → ℕ} {c : Dev nD} {l y : ℕ} {p : Bool} {q q' : Bool → ℕ × ℕ × ℕ × ℕ} {α : Type}

/-! ## The blocks -/

theorem IB_0 {O U KK : sProp 𝕄} : RX A c l y O U KK ⊢ iprop(∃ f, ⌜f = (tabV (F := F) c)⌝ ∗ (((c : Thread nD τ).loc cc0_stg0_0) ↦{fullShare} f)
    ∗ ((((c : Thread nD τ).loc cc0_stg0_0) ↦{fullShare} f) -∗ RX A c l y O U KK)) := by
  unfold RX IB
  iintro ⟨Hy, HO, ⟨HT, H1, H2, H3, H4, H5, H6, H7⟩, HU, HK⟩
  iexists (tabV (F := F) c)
  isplitr; · ipureintro; rfl
  isplitl [HT]; · iexact HT
  iintro HT
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

theorem IB_1 {O U KK : sProp 𝕄} : RX A c l y O U KK ⊢ iprop(∃ f, ⌜f = (A.x c)⌝ ∗ (((c : Thread nD τ).loc cc0_stg1_0) ↦{fullShare} f)
    ∗ ((((c : Thread nD τ).loc cc0_stg1_0) ↦{fullShare} f) -∗ RX A c l y O U KK)) := by
  unfold RX IB
  iintro ⟨Hy, HO, ⟨HT, H1, H2, H3, H4, H5, H6, H7⟩, HU, HK⟩
  iexists (A.x c)
  isplitr; · ipureintro; rfl
  isplitl [H1]; · iexact H1
  iintro H1
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

theorem IB_2 {O U KK : sProp 𝕄} : RX A c l y O U KK ⊢ iprop(∃ f, ⌜f = (A.wi 0 c)⌝ ∗ (((c : Thread nD τ).loc cc0_stg2_0) ↦{fullShare} f)
    ∗ ((((c : Thread nD τ).loc cc0_stg2_0) ↦{fullShare} f) -∗ RX A c l y O U KK)) := by
  unfold RX IB
  iintro ⟨Hy, HO, ⟨HT, H1, H2, H3, H4, H5, H6, H7⟩, HU, HK⟩
  iexists (A.wi 0 c)
  isplitr; · ipureintro; rfl
  isplitl [H2]; · iexact H2
  iintro H2
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

theorem IB_3 {O U KK : sProp 𝕄} : RX A c l y O U KK ⊢ iprop(∃ f, ⌜f = (A.wo 0 c)⌝ ∗ (((c : Thread nD τ).loc cc0_stg3_0) ↦{fullShare} f)
    ∗ ((((c : Thread nD τ).loc cc0_stg3_0) ↦{fullShare} f) -∗ RX A c l y O U KK)) := by
  unfold RX IB
  iintro ⟨Hy, HO, ⟨HT, H1, H2, H3, H4, H5, H6, H7⟩, HU, HK⟩
  iexists (A.wo 0 c)
  isplitr; · ipureintro; rfl
  isplitl [H3]; · iexact H3
  iintro H3
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

theorem IB_4 {O U KK : sProp 𝕄} : RX A c l y O U KK ⊢ iprop(∃ f, ⌜f = (A.wi 1 c)⌝ ∗ (((c : Thread nD τ).loc cc0_stg4_0) ↦{fullShare} f)
    ∗ ((((c : Thread nD τ).loc cc0_stg4_0) ↦{fullShare} f) -∗ RX A c l y O U KK)) := by
  unfold RX IB
  iintro ⟨Hy, HO, ⟨HT, H1, H2, H3, H4, H5, H6, H7⟩, HU, HK⟩
  iexists (A.wi 1 c)
  isplitr; · ipureintro; rfl
  isplitl [H4]; · iexact H4
  iintro H4
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

theorem IB_5 {O U KK : sProp 𝕄} : RX A c l y O U KK ⊢ iprop(∃ f, ⌜f = (A.wo 1 c)⌝ ∗ (((c : Thread nD τ).loc cc0_stg5_0) ↦{fullShare} f)
    ∗ ((((c : Thread nD τ).loc cc0_stg5_0) ↦{fullShare} f) -∗ RX A c l y O U KK)) := by
  unfold RX IB
  iintro ⟨Hy, HO, ⟨HT, H1, H2, H3, H4, H5, H6, H7⟩, HU, HK⟩
  iexists (A.wo 1 c)
  isplitr; · ipureintro; rfl
  isplitl [H5]; · iexact H5
  iintro H5
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

theorem IB_6 {O U KK : sProp 𝕄} : RX A c l y O U KK ⊢ iprop(∃ f, ⌜f = (A.wi 2 c)⌝ ∗ (((c : Thread nD τ).loc cc0_stg6_0) ↦{fullShare} f)
    ∗ ((((c : Thread nD τ).loc cc0_stg6_0) ↦{fullShare} f) -∗ RX A c l y O U KK)) := by
  unfold RX IB
  iintro ⟨Hy, HO, ⟨HT, H1, H2, H3, H4, H5, H6, H7⟩, HU, HK⟩
  iexists (A.wi 2 c)
  isplitr; · ipureintro; rfl
  isplitl [H6]; · iexact H6
  iintro H6
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

theorem IB_7 {O U KK : sProp 𝕄} : RX A c l y O U KK ⊢ iprop(∃ f, ⌜f = (A.wo 2 c)⌝ ∗ (((c : Thread nD τ).loc cc0_stg7_0) ↦{fullShare} f)
    ∗ ((((c : Thread nD τ).loc cc0_stg7_0) ↦{fullShare} f) -∗ RX A c l y O U KK)) := by
  unfold RX IB
  iintro ⟨Hy, HO, ⟨HT, H1, H2, H3, H4, H5, H6, H7⟩, HU, HK⟩
  iexists (A.wo 2 c)
  isplitr; · ipureintro; rfl
  isplitl [H7]; · iexact H7
  iintro H7
  isplitl [Hy]; · iexact Hy
  isplitl [HO]; · iexact HO
  isplitl [HT H1 H2 H3 H4 H5 H6 H7]
  · isplitl [HT]; · iexact HT
    isplitl [H1]; · iexact H1
    isplitl [H2]; · iexact H2
    isplitl [H3]; · iexact H3
    isplitl [H4]; · iexact H4
    isplitl [H5]; · iexact H5
    isplitl [H6]; · iexact H6
    iexact H7
  isplitl [HU]; · iexact HU
  iexact HK

/-- Loading block 1. -/
theorem op_in1 {O U KK : sProp 𝕄} {Q : α → sProp 𝕄} {h₀} {hl} {k : _ → Prog (TpuEff nD τ sig (Elt F) Λ₀ .tc) α}
    (h : St A K c l p q (RX A c l y O U KK) ⊢ WP c (k (A.x c)) Q) :
    St A K c l p q (RX A c l y O U KK) ⊢ WP c (Prog.lift (.load m1 (Rect.unit (s := S256x256) ![0, 0] S256x256.size h₀).toLoadRect hl) >>= k) Q := by
  refine st_load (v := (A.x c)) (S := Finset.univ) (sh := fullShare) rfl rfl (carry_left ?_) (Finset.subset_univ _) h
  have hz : ∀ f, m1.view.readAt (Elt F) (Rect.unit (s := S256x256) ![0, 0] S256x256.size h₀).toLoadRect f = f := fun f =>
    Memref.readAt_unit_zero (Elt F) cc0_stg1_0 (by funext a; fin_cases a <;> rfl) _ f
  simp only [hz]
  exact IB_1

/-- Loading block 2. -/
theorem op_in2 {O U KK : sProp 𝕄} {Q : α → sProp 𝕄} {h₀} {hl} {k : _ → Prog (TpuEff nD τ sig (Elt F) Λ₀ .tc) α}
    (h : St A K c l p q (RX A c l y O U KK) ⊢ WP c (k (A.wi 0 c)) Q) :
    St A K c l p q (RX A c l y O U KK) ⊢ WP c (Prog.lift (.load m2 (Rect.unit (s := S256x512) ![0, 0] S256x512.size h₀).toLoadRect hl) >>= k) Q := by
  refine st_load (v := (A.wi 0 c)) (S := Finset.univ) (sh := fullShare) rfl rfl (carry_left ?_) (Finset.subset_univ _) h
  have hz : ∀ f, m2.view.readAt (Elt F) (Rect.unit (s := S256x512) ![0, 0] S256x512.size h₀).toLoadRect f = f := fun f =>
    Memref.readAt_unit_zero (Elt F) cc0_stg2_0 (by funext a; fin_cases a <;> rfl) _ f
  simp only [hz]
  exact IB_2

/-- Loading block 3. -/
theorem op_in3 {O U KK : sProp 𝕄} {Q : α → sProp 𝕄} {h₀} {hl} {k : _ → Prog (TpuEff nD τ sig (Elt F) Λ₀ .tc) α}
    (h : St A K c l p q (RX A c l y O U KK) ⊢ WP c (k (A.wo 0 c)) Q) :
    St A K c l p q (RX A c l y O U KK) ⊢ WP c (Prog.lift (.load m3 (Rect.unit (s := S512x256) ![0, 0] S512x256.size h₀).toLoadRect hl) >>= k) Q := by
  refine st_load (v := (A.wo 0 c)) (S := Finset.univ) (sh := fullShare) rfl rfl (carry_left ?_) (Finset.subset_univ _) h
  have hz : ∀ f, m3.view.readAt (Elt F) (Rect.unit (s := S512x256) ![0, 0] S512x256.size h₀).toLoadRect f = f := fun f =>
    Memref.readAt_unit_zero (Elt F) cc0_stg3_0 (by funext a; fin_cases a <;> rfl) _ f
  simp only [hz]
  exact IB_3

/-- Loading block 4. -/
theorem op_in4 {O U KK : sProp 𝕄} {Q : α → sProp 𝕄} {h₀} {hl} {k : _ → Prog (TpuEff nD τ sig (Elt F) Λ₀ .tc) α}
    (h : St A K c l p q (RX A c l y O U KK) ⊢ WP c (k (A.wi 1 c)) Q) :
    St A K c l p q (RX A c l y O U KK) ⊢ WP c (Prog.lift (.load m4 (Rect.unit (s := S256x512) ![0, 0] S256x512.size h₀).toLoadRect hl) >>= k) Q := by
  refine st_load (v := (A.wi 1 c)) (S := Finset.univ) (sh := fullShare) rfl rfl (carry_left ?_) (Finset.subset_univ _) h
  have hz : ∀ f, m4.view.readAt (Elt F) (Rect.unit (s := S256x512) ![0, 0] S256x512.size h₀).toLoadRect f = f := fun f =>
    Memref.readAt_unit_zero (Elt F) cc0_stg4_0 (by funext a; fin_cases a <;> rfl) _ f
  simp only [hz]
  exact IB_4

/-- Loading block 5. -/
theorem op_in5 {O U KK : sProp 𝕄} {Q : α → sProp 𝕄} {h₀} {hl} {k : _ → Prog (TpuEff nD τ sig (Elt F) Λ₀ .tc) α}
    (h : St A K c l p q (RX A c l y O U KK) ⊢ WP c (k (A.wo 1 c)) Q) :
    St A K c l p q (RX A c l y O U KK) ⊢ WP c (Prog.lift (.load m5 (Rect.unit (s := S512x256) ![0, 0] S512x256.size h₀).toLoadRect hl) >>= k) Q := by
  refine st_load (v := (A.wo 1 c)) (S := Finset.univ) (sh := fullShare) rfl rfl (carry_left ?_) (Finset.subset_univ _) h
  have hz : ∀ f, m5.view.readAt (Elt F) (Rect.unit (s := S512x256) ![0, 0] S512x256.size h₀).toLoadRect f = f := fun f =>
    Memref.readAt_unit_zero (Elt F) cc0_stg5_0 (by funext a; fin_cases a <;> rfl) _ f
  simp only [hz]
  exact IB_5

/-- Loading block 6. -/
theorem op_in6 {O U KK : sProp 𝕄} {Q : α → sProp 𝕄} {h₀} {hl} {k : _ → Prog (TpuEff nD τ sig (Elt F) Λ₀ .tc) α}
    (h : St A K c l p q (RX A c l y O U KK) ⊢ WP c (k (A.wi 2 c)) Q) :
    St A K c l p q (RX A c l y O U KK) ⊢ WP c (Prog.lift (.load m6 (Rect.unit (s := S256x512) ![0, 0] S256x512.size h₀).toLoadRect hl) >>= k) Q := by
  refine st_load (v := (A.wi 2 c)) (S := Finset.univ) (sh := fullShare) rfl rfl (carry_left ?_) (Finset.subset_univ _) h
  have hz : ∀ f, m6.view.readAt (Elt F) (Rect.unit (s := S256x512) ![0, 0] S256x512.size h₀).toLoadRect f = f := fun f =>
    Memref.readAt_unit_zero (Elt F) cc0_stg6_0 (by funext a; fin_cases a <;> rfl) _ f
  simp only [hz]
  exact IB_6

/-- Loading block 7. -/
theorem op_in7 {O U KK : sProp 𝕄} {Q : α → sProp 𝕄} {h₀} {hl} {k : _ → Prog (TpuEff nD τ sig (Elt F) Λ₀ .tc) α}
    (h : St A K c l p q (RX A c l y O U KK) ⊢ WP c (k (A.wo 2 c)) Q) :
    St A K c l p q (RX A c l y O U KK) ⊢ WP c (Prog.lift (.load m7 (Rect.unit (s := S512x256) ![0, 0] S512x256.size h₀).toLoadRect hl) >>= k) Q := by
  refine st_load (v := (A.wo 2 c)) (S := Finset.univ) (sh := fullShare) rfl rfl (carry_left ?_) (Finset.subset_univ _) h
  have hz : ∀ f, m7.view.readAt (Elt F) (Rect.unit (s := S512x256) ![0, 0] S512x256.size h₀).toLoadRect f = f := fun f =>
    Memref.readAt_unit_zero (Elt F) cc0_stg7_0 (by funext a; fin_cases a <;> rfl) _ f
  simp only [hz]
  exact IB_7

/-- Loading an entry of the table. -/
theorem op_tab {O U KK : sProp 𝕄} {Q : α → sProp 𝕄} (i : ℕ) {e : Dev nD} (he : tabD c i = e) {h₀} {h1} {hp} {k : _ → Prog (TpuEff nD τ sig (Elt F) Λ₀ .tc) α}
    (h : St A K c l p q (RX A c l y O U KK) ⊢ WP c (k (W e)) Q) :
    St A K c l p q (RX A c l y O U KK) ⊢ WP c (smemLoad m0 (Rect.unit (s := S64) ![i] S1.size h₀) h1 hp >>= k) Q := by
  refine st_load (m := m0) (r := (Rect.unit (s := S64) ![i] S1.size h₀).toLoadRect) (v := fun _ => W e) (k := fun f => k (f _)) (S := Finset.univ) (sh := fullShare)
    (hl := View.loadsAt_rect (View.loads_smem_one hp h1)) rfl rfl (carry_left ?_) (Finset.subset_univ _) h
  iintro H
  ihave H := (IB_0 (A := A) (c := c)) $$ H
  icases H with ⟨%f, %hf, Hp, Hw⟩
  iexists f
  isplitr
  · ipureintro
    subst hf
    funext x
    have hx : (x 0).val = 0 := by have : (x 0).val < 1 := (x 0).isLt; omega
    show W (tabD c (i + 1 * (x 0).val)) = W e
    rw [hx, ← he, Nat.mul_zero, Nat.add_zero]
  isplitl [Hp]; · iexact Hp
  iexact Hw

/-! ## The terms -/

theorem op_ydead {O U KK : sProp 𝕄} {Q : α → sProp 𝕄} {r} {hl} {k : _ → Prog (TpuEff nD τ sig (Elt F) Λ₀ .tc) α}
    (h : ∀ v, St A K c l p q (RX A c l y O U KK) ⊢ WP c (k v) Q) :
    St A K c l p q (RX A c l y O U KK) ⊢ WP c (Prog.lift (.load yM r hl) >>= k) Q := by
  refine st_load_any (S := Finset.univ) (sh := fullShare) (drop_pure (φ := fun _ => True) (carry_left ?_)) (Finset.subset_univ _) h
  unfold RX ybuf
  iintro ⟨⟨%f, %hf, Hy⟩, HO, HI, HU, HK⟩
  iexists f
  isplitr; · ipureintro; trivial
  isplitl [Hy]; · iexact Hy
  iintro Hy
  isplitl [Hy]
  · iexists f
    isplitr; · ipureintro; exact hf
    iexact Hy
  isplitl [HO]; · iexact HO
  isplitl [HI]; · iexact HI
  isplitl [HU]; · iexact HU
  iexact HK

/-- Storing the term of the next chunk. -/
theorem op_ystore {O U KK : sProp 𝕄} {Q : α → sProp 𝕄} (e : Dev nD) (he : rk c e = y) {off : Fin 2 → ℕ} (ho : off = offC e) {h₀} {w} (hw : w = Y A l c e) {hx} {hm}
    {k : _ → Prog (TpuEff nD τ sig (Elt F) Λ₀ .tc) α}
    (h : St A K c l p q (RX A c l (y + 1) O U KK) ⊢ WP c (k ⟨⟩) Q) :
    St A K c l p q (RX A c l y O U KK) ⊢ WP c (Prog.lift (.store yM (Rect.unit (s := S8192x256) off S256x256.size h₀) w Finset.univ hx hm) >>= k) Q := by
  subst ho hw
  refine st_store (S := Finset.univ) rfl rfl (drop_pure (φ := fun _ => True) (carry_left ?_)) (Finset.subset_univ _) h
  unfold RX ybuf
  iintro ⟨⟨%f, %hf, Hy⟩, HO, HI, HU, HK⟩
  iexists f
  isplitr; · ipureintro; trivial
  isplitl [Hy]; · iexact Hy
  iintro Hy
  isplitl [Hy]
  · iexists _
    isplitr
    swap; · iexact Hy
    ipureintro
    intro e' he'
    by_cases hee : e' = e
    · subst hee
      exact View.read_write_univ (v := yM.access (rC e')) _ _
    · have hlt : rk c e' < y := by
        have : rk c e' ≠ y := fun h' => hee (rk_inj c (h'.trans he.symm))
        omega
      rw [← hf e' hlt]
      refine View.readAt_congr fun i hi => View.write_of_not_mem _ _ _ ?_
      rw [View.setOn_univ, View.set_slice_whole]
      rw [setOn_whole] at hi
      intro hi'
      exact Finset.disjoint_left.mp (rC_disj hee) hi hi'
  isplitl [HO]; · iexact HO
  isplitl [HI]; · iexact HI
  isplitl [HU]; · iexact HU
  iexact HK

/-- Loading a term. -/
theorem op_yload {O U KK : sProp 𝕄} {Q : α → sProp 𝕄} (e : Dev nD) {off : Fin 2 → ℕ} (ho : off = offC e) {h₀} {hl}
    {k : _ → Prog (TpuEff nD τ sig (Elt F) Λ₀ .tc) α}
    (h : St A K c l p q (RX A c l 32 O U KK) ⊢ WP c (k (Y A l c e)) Q) :
    St A K c l p q (RX A c l 32 O U KK) ⊢ WP c (Prog.lift (.load yM (Rect.unit (s := S8192x256) off S256x256.size h₀).toLoadRect hl) >>= k) Q := by
  subst ho
  refine st_load (v := Y A l c e) (S := Finset.univ) (sh := fullShare) rfl rfl (carry_left ?_) (Finset.subset_univ _) h
  unfold RX ybuf
  iintro ⟨⟨%f, %hf, Hy⟩, HO, HI, HU, HK⟩
  iexists f
  isplitr; · ipureintro; exact hf e (rk_lt c e)
  isplitl [Hy]; · iexact Hy
  iintro Hy
  isplitl [Hy]
  · iexists f
    isplitr; · ipureintro; exact hf
    iexact Hy
  isplitl [HO]; · iexact HO
  isplitl [HI]; · iexact HI
  isplitl [HU]; · iexact HU
  iexact HK

/-! ## The gathered input -/

/-- Loading the own chunk. -/
theorem op_xown {U KK : sProp 𝕄} {Q : α → sProp 𝕄} {off : Fin 2 → ℕ} (ho : off = offC c) {h₀} {hl}
    {k : _ → Prog (TpuEff nD τ sig (Elt F) Λ₀ .tc) α}
    (h : St A K c l p q (RX A c l y (ownA A c l) U KK) ⊢ WP c (k (xb A l c)) Q) :
    St A K c l p q (RX A c l y (ownA A c l) U KK) ⊢ WP c (Prog.lift (.load xM (Rect.unit (s := S8192x256) off S256x256.size h₀).toLoadRect hl) >>= k) Q := by
  subst ho
  refine st_load (v := xb A l c) (S := (rC c).set) (sh := fullShare.right) rfl rfl (carry_left ?_) ?_ h
  · unfold RX ownA cpt
    iintro ⟨Hy, HO, HI, HU, HK⟩
    iexists (XF A l)
    isplitr; · ipureintro; exact read_XF A l c
    isplitl [HO]; · iexact HO
    iintro HO
    isplitl [Hy]; · iexact Hy
    isplitl [HO]; · iexact HO
    isplitl [HI]; · iexact HI
    isplitl [HU]; · iexact HU
    iexact HK
  · exact (setOn_whole cc0_scratch0 _).le

/-- Loading the own chunk before it is overwritten. -/
theorem op_xdead {U KK : sProp 𝕄} {Q : α → sProp 𝕄} {off : Fin 2 → ℕ} (ho : off = offC c) {h₀} {hl}
    {k : _ → Prog (TpuEff nD τ sig (Elt F) Λ₀ .tc) α}
    (h : ∀ v, St A K c l p q (RX A c l y (ownB A c l false) U KK) ⊢ WP c (k v) Q) :
    St A K c l p q (RX A c l y (ownB A c l false) U KK) ⊢ WP c (Prog.lift (.load xM (Rect.unit (s := S8192x256) off S256x256.size h₀).toLoadRect hl) >>= k) Q := by
  subst ho
  refine st_load_any (S := (rC c).set) (sh := fullShare) (drop_pure (φ := fun _ => True) (carry_left ?_)) ?_ h
  · unfold RX ownB cpt
    iintro ⟨Hy, ⟨%f, HO⟩, HI, HU, HK⟩
    iexists f
    isplitr; · ipureintro; trivial
    isplitl [HO]; · iexact HO
    iintro HO
    isplitl [Hy]; · iexact Hy
    isplitl [HO]; · iexists f; iexact HO
    isplitl [HI]; · iexact HI
    isplitl [HU]; · iexact HU
    iexact HK
  · exact (setOn_whole cc0_scratch0 _).le

/-- Overwriting it. -/
theorem op_xstore {U KK : sProp 𝕄} {Q : α → sProp 𝕄} {off : Fin 2 → ℕ} (ho : off = offC c) {h₀} {w} (hw : w = xb A (l + 1) c) {hx} {hm}
    {k : _ → Prog (TpuEff nD τ sig (Elt F) Λ₀ .tc) α}
    (h : St A K c l p q (RX A c l y (ownB A c l true) U KK) ⊢ WP c (k ⟨⟩) Q) :
    St A K c l p q (RX A c l y (ownB A c l false) U KK) ⊢ WP c (Prog.lift (.store xM (Rect.unit (s := S8192x256) off S256x256.size h₀) w Finset.univ hx hm) >>= k) Q := by
  subst ho hw
  refine st_store (S := (rC c).set) rfl rfl (drop_pure (φ := fun _ => True) (carry_left ?_)) ?_ h
  · unfold RX ownB cpt
    iintro ⟨Hy, ⟨%f, HO⟩, HI, HU, HK⟩
    iexists f
    isplitr; · ipureintro; trivial
    isplitl [HO]; · iexact HO
    have e : ((((c : Thread nD τ).loc cc0_scratch0) ↦[(rC c).set]{fullShare} ((xM.access (rC c)).write (Elt F) f (xb A (l + 1) c) Finset.univ)) : sProp 𝕄)
        = ((c : Thread nD τ).loc cc0_scratch0) ↦[(rC c).set]{fullShare} (XF A (l + 1)) :=
      pointsTo_congr (XF_of_read A (l + 1) c (View.read_write_univ (v := xM.access (rC c)) _ _))
    iintro HO
    isplitl [Hy]; · iexact Hy
    isplitl [HO]; · iapply (Entails.of_eq e) $$ HO
    isplitl [HI]; · iexact HI
    isplitl [HU]; · iexact HU
    iexact HK
  · rw [View.setOn_univ]; exact (View.set_slice_whole cc0_scratch0 (rC c)).le

/-- Loading a chunk received. -/
theorem op_xrecv {R : sProp 𝕄} {Q : α → sProp 𝕄} (s : Bool) (h₁ : ℕ) (hh : 2 * h₁ + 1 < (q s).1 ∧ 2 * h₁ + 1 < nm false s) {off : Fin 2 → ℕ} (ho : off = offC (ck c s (h₁ + 1))) {h₀} {hl}
    {k : _ → Prog (TpuEff nD τ sig (Elt F) Λ₀ .tc) α}
    (h : St A K c l false q R ⊢ WP c (k (xb A l (ck c s (h₁ + 1)))) Q) :
    St A K c l false q R ⊢ WP c (Prog.lift (.load xM (Rect.unit (s := S8192x256) off S256x256.size h₀).toLoadRect hl) >>= k) Q := by
  subst ho
  refine st_load (v := xb A l (ck c s (h₁ + 1))) (S := (rC (ck c s (h₁ + 1))).set) (sh := fullShare.right) rfl rfl (carry_right ?_) ?_ h
  · iintro H
    ihave H := (two_at A c l false s (q := q) rfl) $$ H
    icases H with ⟨Hd, Hb⟩
    ihave H := (dir_chunk A c l s hh.1 hh.2) $$ Hd
    icases H with ⟨Hp, Hw⟩
    iexists (XF A l)
    isplitr; · ipureintro; exact read_XF A l _
    isplitl [Hp]; · unfold cpt; iexact Hp
    iintro Hp
    iapply Hb
    iapply Hw
    unfold cpt; iexact Hp
  · exact (setOn_whole cc0_scratch0 _).le

end

end Cert.TpMlp

end
-- ==== Proof.Ops2.lean ====
/-
  The loads, stores and copies of the messages: the stage buffers, the slots and the halves of the gather.
-/
module

public import proofs.«01_k».proof.Proof.Ops

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Conditions -/

/-- What the kernel asks of a word that names a chunk holds of a device's. -/
theorem chkA (e : Dev nD) : k0_chk3 (W e) := by
  have hb : ∀ (k : Fin 2) (a), k0_off5 (W e) (BitVec.ofNat 32 (128 * k.val)) a + S128x256.size a ≤ S8192x256.size a := fun k => by
    rw [offHk_W]; exact inbH e k
  have hw : ∀ (k : Fin 2) (hinb : ∀ a, k0_off5 (W e) (BitVec.ofNat 32 (128 * k.val)) a + S128x256.size a ≤ S8192x256.size a),
      (Rect.unit (s := S8192x256) (k0_off5 (W e) (BitVec.ofNat 32 (128 * k.val))) S128x256.size hinb).WholeWords (EltTy.packing .bf16) := by
    intro k
    rw [offHk_W]
    intro hinb
    refine Or.inl (Or.inr ⟨by decide, rfl, Or.inl ⟨?_, ?_⟩⟩)
    · show 2 ∣ 256 * e.val + 128 * k.val
      omega
    · show 2 ∣ 128
      omega
  refine ⟨?_, hb, hw, ?_, hb, hw⟩
  · rw [offS_W]; exact inbS e
  · rw [offC_W]; exact inbC e
theorem chkZ (e : Dev nD) : k0_chk32 (W e) := ⟨(chkA e).1, (chkA e).2.1, (chkA e).2.2.1, (chkA e).2.2.2.1⟩
theorem chkB (e : Dev nD) : k0_chk34 (W e) := (chkA e).2.2.2.1

/-! ## One place of a stream -/

/-- Looking at a source that is not ready. -/
theorem dir_peek (A : Args F) (c : Dev nD) (l : ℕ) (p s : Bool) {q : ℕ × ℕ × ℕ × ℕ} {j : ℕ} (hj : j < nm p s + 2) (h1 : q.2.2.2 ≤ j) (h2 : q.2.2.1 ≤ j) (h3 : q.2.1 ≤ j)
    (h4 : j < q.1 + dl p) :
    DirS A c l p s q ⊢ iprop(raw A l c s p j ∗ (raw A l c s p j -∗ DirS A c l p s q)) := by
  unfold DirS
  have e3 : outI A c l p s q.1 q.2.1 q.2.2.1 q.2.2.2 j = iprop(tok (F := F) c l p s j ∗ raw A l c s p j) := by
    unfold outI; rw [if_neg (by omega), if_neg (by omega), if_neg (by omega), if_pos h4]
  have hHo := fam_at (M := 𝕄) (i := j) (Finset.mem_range.mpr hj) (Φ := outI A c l p s q.1 q.2.1 q.2.2.1 q.2.2.2) (fun _ _ _ => rfl)
  rw [e3] at hHo
  iintro ⟨Hi, Ho, Hs⟩
  ihave Ho := hHo $$ Ho
  icases Ho with ⟨Ho, Hr⟩
  icases Ho with ⟨Ht, Hraw⟩
  isplitl [Hraw]; · iexact Hraw
  iintro Hraw
  isplitl [Hi]; · iexact Hi
  isplitr [Hs]
  · iapply Hr
    isplitl [Ht]; · iexact Ht
    iexact Hraw
  iexact Hs

section
variable {A : Args F} {K : GSem nD τ sig → ℕ} {c : Dev nD} {l : ℕ} {p : Bool} {q q' : Bool → ℕ × ℕ × ℕ × ℕ} {α : Type} {r b n w : ℕ}

theorem two_peek (s : Bool) {j : ℕ} (hc : j < nm p s + 2 ∧ (q s).2.2.2 ≤ j ∧ (q s).2.2.1 ≤ j ∧ (q s).2.1 ≤ j ∧ j < (q s).1 + dl p) :
    Two A c l p q ⊢ iprop(raw A l c s p j ∗ (raw A l c s p j -∗ Two A c l p q)) := by
  iintro H
  ihave H := (two_at A c l p s (q := q) rfl) $$ H
  icases H with ⟨Hd, Hb⟩
  ihave Hd := (dir_peek A c l p s hc.1 hc.2.1 hc.2.2.1 hc.2.2.2.1 hc.2.2.2.2) $$ Hd
  icases Hd with ⟨Hr, Hd⟩
  isplitl [Hr]; · iexact Hr
  iintro Hr
  iapply Hb
  iapply Hd $$ Hr

theorem two_ready (s : Bool) (h1 : q s = (r, b, n, w)) (h2 : q' s = (r, b + 1, n, w)) (h3 : q' (!s) = q (!s)) (hc : w ≤ n ∧ n ≤ b ∧ b < r + dl p ∧ b < nm p s) :
    Two A c l p q ⊢ iprop(raw A l c s p b ∗ (rdy A l c s p b -∗ Two A c l p q')) := by
  have hd := dir_ready A c l p s hc.1 hc.2.1 hc.2.2.1 hc.2.2.2
  rw [← h1, ← h2] at hd
  iintro H
  ihave H := (two_at A c l p s h3) $$ H
  icases H with ⟨Hd, Hb⟩
  ihave Hd := hd $$ Hd
  icases Hd with ⟨Hr, Hd⟩
  isplitl [Hr]; · iexact Hr
  iintro Hr
  iapply Hb
  iapply Hd $$ Hr
theorem sn_ready (s : Bool) (h1 : q s = (r, b, n, w)) (h2 : q' s = (r, b + 1, n, w)) (h3 : q' (!s) = q (!s)) (s' : Bool) : sn q' s' = sn q s' := by
  unfold sn
  cases s <;> cases s' <;> first | (rw [h1, h2]) | (exact congrArg (fun x => x.2.2.1) h3)

/-! ## Direction `true` -/

/-- The stage buffer, looked at before it is written. -/
theorem op_sdeadR {R : sProp 𝕄} {Q : α → sProp 𝕄} (hc : 0 < nm true true + 2 ∧ (q true).2.2.2 ≤ 0 ∧ (q true).2.2.1 ≤ 0 ∧ (q true).2.1 ≤ 0 ∧ 0 < (q true).1 + dl true) {r'} {hl}
    {k : _ → Prog (TpuEff nD τ sig (Elt F) Λ₀ .tc) α} (h : ∀ v, St A K c l true q R ⊢ WP c (k v) Q) :
    St A K c l true q R ⊢ WP c (Prog.lift (.load srM r' hl) >>= k) Q := by
  refine st_load_any (S := Finset.univ) (sh := fullShare) (drop_pure (φ := fun _ => True) (carry_right ?_)) (Finset.subset_univ _) h
  iintro H
  ihave H := (two_peek true hc) $$ H
  icases H with ⟨Hp, Hw⟩
  unfold raw stgE stg
  icases Hp with ⟨%f, Hp⟩
  iexists f
  isplitr; · ipureintro; trivial
  isplitl [Hp]; · iexact Hp
  iintro Hp
  iapply Hw
  iexists f
  iexact Hp

/-- Writing it. -/
theorem op_sstoreR {R : sProp 𝕄} {Q : α → sProp 𝕄} (h1 : q true = (r, 0, n, w)) (h2 : q' true = (r, 1, n, w)) (h3 : q' (!true) = q (!true)) (hc : w ≤ n ∧ n ≤ 0 ∧ 0 < r + dl true ∧ 0 < nm true true)
    {h₀} {v} (hv : v = k0_pay48 (Y A l c (rsc c true 0))) {hx} {hm}
    {k : _ → Prog (TpuEff nD τ sig (Elt F) Λ₀ .tc) α} (h : St A K c l true q' R ⊢ WP c (k ⟨⟩) Q) :
    St A K c l true q R ⊢ WP c (Prog.lift (.store srM (Rect.unit (s := S256x256) ![0, 0] S256x256.size h₀) v Finset.univ hx hm) >>= k) Q := by
  subst hv
  refine st_store (S := Finset.univ) (sn_ready true h1 h2 h3 _) (sn_ready true h1 h2 h3 _) (drop_pure (φ := fun _ => True) (carry_right ?_)) (Finset.subset_univ _) h
  have hz : ∀ f w', ((srM.access (Rect.unit (s := S256x256) ![0, 0] S256x256.size h₀)).write (Elt F) f w' Finset.univ) = w' := fun f w' =>
    Memref.write_access_unit_zero_univ (Elt F) cc0_scratch4 (by funext a; fin_cases a <;> rfl) _ f w'
  simp only [hz]
  iintro H
  ihave H := (two_ready true h1 h2 h3 hc) $$ H
  icases H with ⟨Hp, Hw⟩
  unfold raw rdy stgE stg
  icases Hp with ⟨%f, Hp⟩
  iexists f
  isplitr; · ipureintro; trivial
  isplitl [Hp]; · iexact Hp
  iintro Hp
  iapply Hw
  iexact Hp

/-- Loading a slot that has landed. -/
theorem op_slotR {R : sProp 𝕄} {Q : α → sProp 𝕄} (t : ℕ) (hc : t + 1 < nm true true + 2 ∧ (q true).2.2.2 ≤ t + 1 ∧ (q true).2.2.1 ≤ t + 1 ∧ (q true).2.1 ≤ t + 1 ∧ t + 1 < (q true).1 + dl true)
    {off} (ho : off = ![t % 16, 0, 0]) {h₀} {hl}
    {k : _ → Prog (TpuEff nD τ sig (Elt F) Λ₀ .tc) α} (h : St A K c l true q R ⊢ WP c (k (Sm A l true t (nx c (!true)))) Q) :
    St A K c l true q R ⊢ WP c (Prog.lift (.load rrM (Rect.unit (s := S16x256x256) off S1x256x256.size h₀).toLoadRect hl) >>= k) Q := by
  subst ho
  refine st_load (v := Sm A l true t (nx c (!true))) (S := (rR t).set) (sh := fullShare) rfl rfl (carry_right ?_) (setOn_whole cc0_scratch2 _).le h
  iintro H
  ihave H := (two_peek true hc) $$ H
  icases H with ⟨Hp, Hw⟩
  unfold raw slot
  icases Hp with ⟨%f, %hf, Hp⟩
  iexists f
  isplitr; · ipureintro; exact hf
  isplitl [Hp]; · iexact Hp
  iintro Hp
  iapply Hw
  iexists f
  isplitr; · ipureintro; exact hf
  iexact Hp

/-- Adding the own term to it. -/
theorem op_slotstoreR {R : sProp 𝕄} {Q : α → sProp 𝕄} (t : ℕ) (h1 : q true = (r, t + 1, n, w)) (h2 : q' true = (r, t + 1 + 1, n, w)) (h3 : q' (!true) = q (!true))
    (hc : w ≤ n ∧ n ≤ t + 1 ∧ t + 1 < r + dl true ∧ t + 1 < nm true true)
    {off} (ho : off = ![t % 16, 0, 0]) {h₀} {v} (hv : v = k0_pay50 (Sm A l true t (nx c (!true))) (Y A l c (rsc c true (t + 1)))) {hx} {hm}
    {k : _ → Prog (TpuEff nD τ sig (Elt F) Λ₀ .tc) α} (h : St A K c l true q' R ⊢ WP c (k ⟨⟩) Q) :
    St A K c l true q R ⊢ WP c (Prog.lift (.store rrM (Rect.unit (s := S16x256x256) off S1x256x256.size h₀) v Finset.univ hx hm) >>= k) Q := by
  subst ho hv
  refine st_store (S := (rR t).set) (sn_ready true h1 h2 h3 _) (sn_ready true h1 h2 h3 _) (drop_pure (φ := fun _ => True) (carry_right ?_)) (View.set_slice_whole cc0_scratch2 (rR t)).le h
  iintro H
  ihave H := (two_ready true h1 h2 h3 hc) $$ H
  icases H with ⟨Hp, Hw⟩
  unfold raw rdy slot
  icases Hp with ⟨%f, %hf, Hp⟩
  iexists f
  isplitr; · ipureintro; trivial
  isplitl [Hp]; · iexact Hp
  iintro Hp
  iapply Hw
  iexists _
  isplitr
  swap; · iexact Hp
  ipureintro
  exact View.read_write_univ (v := rrM.access (rR t)) _ _

theorem slotR_set {off} (t : ℕ) (ho : off = ![t % 16, 0, 0]) (h₀) (hr) (hs) :
    ((rrM.slice (Rect.unit (s := S16x256x256) off S1x256x256.size h₀) hr).squeeze S256x256 hs).view.set = (rR t).set := by
  subst ho
  exact (View.set_reshape _ _).trans (View.set_slice_whole cc0_scratch2 (rR t))

/-- What lands in a slot is what was sent, from the stage buffer -/
theorem landR_stage {off} (t : ℕ) (ho : off = ![t % 16, 0, 0]) (h₀) (hr) (hs) (fs : Vec F S256x256 .bf16) (fd : Vec F S16x256x256 .bf16) :
    rrM.view.readAt (Elt F) (rR t).toLoadRect (((rrM.slice (Rect.unit (s := S16x256x256) off S1x256x256.size h₀) hr).squeeze S256x256 hs).view.write (Elt F) fd (srM.view.read (Elt F) fs) Finset.univ)
      = shapeCast S1x256x256 fs shapeCasts_S256x256_S1x256x256 := by
  subst ho
  refine (congrArg _ (View.write_reshape_univ (v := (rrM.slice (rR t) (fun _ => rfl)).view) _ _ _)).trans ?_
  refine (View.read_write_univ (v := rrM.access (rR t)) _ _).trans ?_
  rfl

/-- or from another slot. -/
theorem landR_slot {off off'} (t t' : ℕ) (ho : off = ![t % 16, 0, 0]) (ho' : off' = ![t' % 16, 0, 0]) (h₀) (hr) (hs) (h₀') (hr') (hs') (fs fd : Vec F S16x256x256 .bf16) :
    rrM.view.readAt (Elt F) (rR t).toLoadRect (((rrM.slice (Rect.unit (s := S16x256x256) off S1x256x256.size h₀) hr).squeeze S256x256 hs).view.write (Elt F) fd
        (((rrM.slice (Rect.unit (s := S16x256x256) off' S1x256x256.size h₀') hr').squeeze S256x256 hs').view.read (Elt F) fs) Finset.univ)
      = rrM.view.readAt (Elt F) (rR t').toLoadRect fs := by
  subst ho ho'
  refine (congrArg _ (View.write_reshape_univ (v := (rrM.slice (rR t) (fun _ => rfl)).view) _ _ _)).trans ?_
  refine (View.read_write_univ (v := rrM.access (rR t)) _ _).trans ?_
  funext x
  show rrM.view.readAt (Elt F) (rR t').toLoadRect fs (Shape.reshapeEquiv _ ((Shape.reshapeEquiv _).symm x)) = _
  rw [Equiv.apply_symm_apply]

/-- Sending the stage buffer. -/
theorem op_send0R {R : sProp 𝕄} {Q : α → sProp 𝕄} (h1 : q true = (r, b, 0, w)) (h2 : q' true = (r, b, 1, w)) (h3 : q' (!true) = q (!true)) (hl : l < 3)
    (hc : (w ≤ 0 ∧ 0 < nm true true ∧ (w + 1 - 0 % 2) / 2 = 0 / 2) ∧ 0 < b)
    {e : Dev nD} (hd : e = nx c true) {sS sem : DmaSem sig} (hsS : sS = qs (sq true true (0 % 2))) (hsem : sem = qs (rq (nx c true) true true 0))
    {off} (ho : off = ![0 % 16, 0, 0]) {h₀} {hr} {hs} {hsrc : srM.view.WordExact} {hdst : ((rrM.slice (Rect.unit (s := S16x256x256) off S1x256x256.size h₀) hr).squeeze S256x256 hs).view.WordExact} {hsc} {htt}
    {k : _ → Prog (TpuEff nD τ sig (Elt F) Λ₀ .tc) α} (h : St A K c l true q' R ⊢ WP c (k ⟨⟩) Q) :
    St A K c l true q R ⊢ WP c (Prog.lift (.enqueueDma srM (.remote (Dev.tc e : Thread nD τ) ((rrM.slice (Rect.unit (s := S16x256x256) off S1x256x256.size h₀) hr).squeeze S256x256 hs) (.dma sS) hsc)
      (.dma sem) hsrc hdst htt) >>= k) Q := by
  refine st_send true h1 h2 h3 hl hc.1 (P := stg c true (k0_pay48 (Y A l c (rsc c true 0)))) (by rw [if_pos hc.2]; rfl) hd hsS hsem (nn_R _ _ _ _)
    (fun fs => fs = k0_pay48 (Y A l c (rsc c true 0))) (sh := fullShare) ?_ ?_ ?_ ?_ h
  · unfold stg
    iintro H
    iexists _
    isplitr; · ipureintro; rfl
    rw [show srM.view.set = Finset.univ from View.set_whole cc0_scratch4]
    iexact H
  · intro fs hfs
    rw [show srM.view.set = Finset.univ from View.set_whole cc0_scratch4]
    show _ ⊢ stgE c true
    unfold stgE stg
    iintro H
    iexists fs
    iexact H
  · rw [slotR_set 0 ho]
    show slotE (nx c true) true 0 ⊢ _
    unfold slotE slot
    iintro ⟨%v, %f, %hf, H⟩
    iexists f
    iexact H
  · intro fs fd hfs
    have hv := landR_stage (F := F) 0 ho h₀ hr hs fs fd
    rw [slotR_set 0 ho]
    show _ ⊢ slot (nx c true) true 0 (Sm A l true 0 (nx (nx c true) (!true)))
    rw [nx_nx, Sm_zero, ← hfs]
    unfold slot
    iintro H
    iexists _
    isplitr
    swap; · iexact H
    ipureintro; exact hv

/-- Sending a slot on. -/
theorem op_sendR {R : sProp 𝕄} {Q : α → sProp 𝕄} (t : ℕ) (h1 : q true = (r, b, t + 1, w)) (h2 : q' true = (r, b, t + 1 + 1, w)) (h3 : q' (!true) = q (!true)) (hl : l < 3)
    (hc : (w ≤ t + 1 ∧ t + 1 < nm true true ∧ (w + 1 - (t + 1) % 2) / 2 = (t + 1) / 2) ∧ t + 1 < b)
    {e : Dev nD} (hd : e = nx c true) {sS sem : DmaSem sig} (hsS : sS = qs (sq true true ((t + 1) % 2))) (hsem : sem = qs (rq (nx c true) true true (t + 1)))
    {off off'} (ho : off = ![(t + 1) % 16, 0, 0]) (ho' : off' = ![t % 16, 0, 0]) {h₀} {hr} {hs} {h₀'} {hr'} {hs'} {hsrc : ((rrM.slice (Rect.unit (s := S16x256x256) off' S1x256x256.size h₀') hr').squeeze S256x256 hs').view.WordExact} {hdst : ((rrM.slice (Rect.unit (s := S16x256x256) off S1x256x256.size h₀) hr).squeeze S256x256 hs).view.WordExact} {hsc} {htt}
    {k : _ → Prog (TpuEff nD τ sig (Elt F) Λ₀ .tc) α} (h : St A K c l true q' R ⊢ WP c (k ⟨⟩) Q) :
    St A K c l true q R ⊢ WP c (Prog.lift (.enqueueDma ((rrM.slice (Rect.unit (s := S16x256x256) off' S1x256x256.size h₀') hr').squeeze S256x256 hs')
      (.remote (Dev.tc e : Thread nD τ) ((rrM.slice (Rect.unit (s := S16x256x256) off S1x256x256.size h₀) hr).squeeze S256x256 hs) (.dma sS) hsc)
      (.dma sem) hsrc hdst htt) >>= k) Q := by
  refine st_send true h1 h2 h3 hl hc.1 (sm := ((rrM.slice (Rect.unit (s := S16x256x256) off' S1x256x256.size h₀') hr').squeeze S256x256 hs')) (P := slot c true t (Sm A l true (t + 1) c)) (by rw [if_pos hc.2]; rfl) hd hsS hsem (nn_R _ _ _ _)
    (fun (fs : Vec F S16x256x256 .bf16) => rrM.view.readAt (Elt F) (rR t).toLoadRect fs = Sm A l true (t + 1) c) (sh := fullShare) ?_ ?_ ?_ ?_ h
  · rw [slotR_set t ho']
    unfold slot
    iintro H
    iexact H
  · intro fs hfs
    rw [slotR_set t ho']
    show _ ⊢ slotE c true t
    unfold slotE slot
    iintro H
    iexists _, fs
    isplitr; · ipureintro; exact hfs
    iexact H
  · rw [slotR_set (t + 1) ho]
    show slotE (nx c true) true (t + 1) ⊢ _
    unfold slotE slot
    iintro ⟨%v, %f, %hf, H⟩
    iexists f
    iexact H
  · intro fs fd hfs
    have hv := landR_slot (F := F) (t + 1) t ho ho' h₀ hr hs h₀' hr' hs' fs fd
    rw [slotR_set (t + 1) ho]
    show _ ⊢ slot (nx c true) true (t + 1) (Sm A l true (t + 1) (nx (nx c true) (!true)))
    rw [nx_nx]
    unfold slot
    iintro H
    iexists _
    isplitr
    swap; · iexact H
    ipureintro; exact hv.trans hfs

/-! ## Direction `false` -/

/-- The stage buffer, looked at before it is written. -/
theorem op_sdeadL {R : sProp 𝕄} {Q : α → sProp 𝕄} (hc : 0 < nm true false + 2 ∧ (q false).2.2.2 ≤ 0 ∧ (q false).2.2.1 ≤ 0 ∧ (q false).2.1 ≤ 0 ∧ 0 < (q false).1 + dl true) {r'} {hl}
    {k : _ → Prog (TpuEff nD τ sig (Elt F) Λ₀ .tc) α} (h : ∀ v, St A K c l true q R ⊢ WP c (k v) Q) :
    St A K c l true q R ⊢ WP c (Prog.lift (.load slM r' hl) >>= k) Q := by
  refine st_load_any (S := Finset.univ) (sh := fullShare) (drop_pure (φ := fun _ => True) (carry_right ?_)) (Finset.subset_univ _) h
  iintro H
  ihave H := (two_peek false hc) $$ H
  icases H with ⟨Hp, Hw⟩
  unfold raw stgE stg
  icases Hp with ⟨%f, Hp⟩
  iexists f
  isplitr; · ipureintro; trivial
  isplitl [Hp]; · iexact Hp
  iintro Hp
  iapply Hw
  iexists f
  iexact Hp

/-- Writing it. -/
theorem op_sstoreL {R : sProp 𝕄} {Q : α → sProp 𝕄} (h1 : q false = (r, 0, n, w)) (h2 : q' false = (r, 1, n, w)) (h3 : q' (!false) = q (!false)) (hc : w ≤ n ∧ n ≤ 0 ∧ 0 < r + dl true ∧ 0 < nm true false)
    {h₀} {v} (hv : v = k0_pay48 (Y A l c (rsc c false 0))) {hx} {hm}
    {k : _ → Prog (TpuEff nD τ sig (Elt F) Λ₀ .tc) α} (h : St A K c l true q' R ⊢ WP c (k ⟨⟩) Q) :
    St A K c l true q R ⊢ WP c (Prog.lift (.store slM (Rect.unit (s := S256x256) ![0, 0] S256x256.size h₀) v Finset.univ hx hm) >>= k) Q := by
  subst hv
  refine st_store (S := Finset.univ) (sn_ready false h1 h2 h3 _) (sn_ready false h1 h2 h3 _) (drop_pure (φ := fun _ => True) (carry_right ?_)) (Finset.subset_univ _) h
  have hz : ∀ f w', ((slM.access (Rect.unit (s := S256x256) ![0, 0] S256x256.size h₀)).write (Elt F) f w' Finset.univ) = w' := fun f w' =>
    Memref.write_access_unit_zero_univ (Elt F) cc0_scratch5 (by funext a; fin_cases a <;> rfl) _ f w'
  simp only [hz]
  iintro H
  ihave H := (two_ready false h1 h2 h3 hc) $$ H
  icases H with ⟨Hp, Hw⟩
  unfold raw rdy stgE stg
  icases Hp with ⟨%f, Hp⟩
  iexists f
  isplitr; · ipureintro; trivial
  isplitl [Hp]; · iexact Hp
  iintro Hp
  iapply Hw
  iexact Hp

/-- Loading a slot that has landed. -/
theorem op_slotL {R : sProp 𝕄} {Q : α → sProp 𝕄} (t : ℕ) (hc : t + 1 < nm true false + 2 ∧ (q false).2.2.2 ≤ t + 1 ∧ (q false).2.2.1 ≤ t + 1 ∧ (q false).2.1 ≤ t + 1 ∧ t + 1 < (q false).1 + dl true)
    {off} (ho : off = ![t % 15, 0, 0]) {h₀} {hl}
    {k : _ → Prog (TpuEff nD τ sig (Elt F) Λ₀ .tc) α} (h : St A K c l true q R ⊢ WP c (k (Sm A l false t (nx c (!false)))) Q) :
    St A K c l true q R ⊢ WP c (Prog.lift (.load rlM (Rect.unit (s := S15x256x256) off S1x256x256.size h₀).toLoadRect hl) >>= k) Q := by
  subst ho
  refine st_load (v := Sm A l false t (nx c (!false))) (S := (rL t).set) (sh := fullShare) rfl rfl (carry_right ?_) (setOn_whole cc0_scratch3 _).le h
  iintro H
  ihave H := (two_peek false hc) $$ H
  icases H with ⟨Hp, Hw⟩
  unfold raw slot
  icases Hp with ⟨%f, %hf, Hp⟩
  iexists f
  isplitr; · ipureintro; exact hf
  isplitl [Hp]; · iexact Hp
  iintro Hp
  iapply Hw
  iexists f
  isplitr; · ipureintro; exact hf
  iexact Hp

/-- Adding the own term to it. -/
theorem op_slotstoreL {R : sProp 𝕄} {Q : α → sProp 𝕄} (t : ℕ) (h1 : q false = (r, t + 1, n, w)) (h2 : q' false = (r, t + 1 + 1, n, w)) (h3 : q' (!false) = q (!false))
    (hc : w ≤ n ∧ n ≤ t + 1 ∧ t + 1 < r + dl true ∧ t + 1 < nm true false)
    {off} (ho : off = ![t % 15, 0, 0]) {h₀} {v} (hv : v = k0_pay50 (Sm A l false t (nx c (!false))) (Y A l c (rsc c false (t + 1)))) {hx} {hm}
    {k : _ → Prog (TpuEff nD τ sig (Elt F) Λ₀ .tc) α} (h : St A K c l true q' R ⊢ WP c (k ⟨⟩) Q) :
    St A K c l true q R ⊢ WP c (Prog.lift (.store rlM (Rect.unit (s := S15x256x256) off S1x256x256.size h₀) v Finset.univ hx hm) >>= k) Q := by
  subst ho hv
  refine st_store (S := (rL t).set) (sn_ready false h1 h2 h3 _) (sn_ready false h1 h2 h3 _) (drop_pure (φ := fun _ => True) (carry_right ?_)) (View.set_slice_whole cc0_scratch3 (rL t)).le h
  iintro H
  ihave H := (two_ready false h1 h2 h3 hc) $$ H
  icases H with ⟨Hp, Hw⟩
  unfold raw rdy slot
  icases Hp with ⟨%f, %hf, Hp⟩
  iexists f
  isplitr; · ipureintro; trivial
  isplitl [Hp]; · iexact Hp
  iintro Hp
  iapply Hw
  iexists _
  isplitr
  swap; · iexact Hp
  ipureintro
  exact View.read_write_univ (v := rlM.access (rL t)) _ _

theorem slotL_set {off} (t : ℕ) (ho : off = ![t % 15, 0, 0]) (h₀) (hr) (hs) :
    ((rlM.slice (Rect.unit (s := S15x256x256) off S1x256x256.size h₀) hr).squeeze S256x256 hs).view.set = (rL t).set := by
  subst ho
  exact (View.set_reshape _ _).trans (View.set_slice_whole cc0_scratch3 (rL t))

/-- What lands in a slot is what was sent, from the stage buffer -/
theorem landL_stage {off} (t : ℕ) (ho : off = ![t % 15, 0, 0]) (h₀) (hr) (hs) (fs : Vec F S256x256 .bf16) (fd : Vec F S15x256x256 .bf16) :
    rlM.view.readAt (Elt F) (rL t).toLoadRect (((rlM.slice (Rect.unit (s := S15x256x256) off S1x256x256.size h₀) hr).squeeze S256x256 hs).view.write (Elt F) fd (slM.view.read (Elt F) fs) Finset.univ)
      = shapeCast S1x256x256 fs shapeCasts_S256x256_S1x256x256 := by
  subst ho
  refine (congrArg _ (View.write_reshape_univ (v := (rlM.slice (rL t) (fun _ => rfl)).view) _ _ _)).trans ?_
  refine (View.read_write_univ (v := rlM.access (rL t)) _ _).trans ?_
  rfl

/-- or from another slot. -/
theorem landL_slot {off off'} (t t' : ℕ) (ho : off = ![t % 15, 0, 0]) (ho' : off' = ![t' % 15, 0, 0]) (h₀) (hr) (hs) (h₀') (hr') (hs') (fs fd : Vec F S15x256x256 .bf16) :
    rlM.view.readAt (Elt F) (rL t).toLoadRect (((rlM.slice (Rect.unit (s := S15x256x256) off S1x256x256.size h₀) hr).squeeze S256x256 hs).view.write (Elt F) fd
        (((rlM.slice (Rect.unit (s := S15x256x256) off' S1x256x256.size h₀') hr').squeeze S256x256 hs').view.read (Elt F) fs) Finset.univ)
      = rlM.view.readAt (Elt F) (rL t').toLoadRect fs := by
  subst ho ho'
  refine (congrArg _ (View.write_reshape_univ (v := (rlM.slice (rL t) (fun _ => rfl)).view) _ _ _)).trans ?_
  refine (View.read_write_univ (v := rlM.access (rL t)) _ _).trans ?_
  funext x
  show rlM.view.readAt (Elt F) (rL t').toLoadRect fs (Shape.reshapeEquiv _ ((Shape.reshapeEquiv _).symm x)) = _
  rw [Equiv.apply_symm_apply]

/-- Sending the stage buffer. -/
theorem op_send0L {R : sProp 𝕄} {Q : α → sProp 𝕄} (h1 : q false = (r, b, 0, w)) (h2 : q' false = (r, b, 1, w)) (h3 : q' (!false) = q (!false)) (hl : l < 3)
    (hc : (w ≤ 0 ∧ 0 < nm true false ∧ (w + 1 - 0 % 2) / 2 = 0 / 2) ∧ 0 < b)
    {e : Dev nD} (hd : e = nx c false) {sS sem : DmaSem sig} (hsS : sS = qs (sq true false (0 % 2))) (hsem : sem = qs (rq (nx c false) true false 0))
    {off} (ho : off = ![0 % 15, 0, 0]) {h₀} {hr} {hs} {hsrc : slM.view.WordExact} {hdst : ((rlM.slice (Rect.unit (s := S15x256x256) off S1x256x256.size h₀) hr).squeeze S256x256 hs).view.WordExact} {hsc} {htt}
    {k : _ → Prog (TpuEff nD τ sig (Elt F) Λ₀ .tc) α} (h : St A K c l true q' R ⊢ WP c (k ⟨⟩) Q) :
    St A K c l true q R ⊢ WP c (Prog.lift (.enqueueDma slM (.remote (Dev.tc e : Thread nD τ) ((rlM.slice (Rect.unit (s := S15x256x256) off S1x256x256.size h₀) hr).squeeze S256x256 hs) (.dma sS) hsc)
      (.dma sem) hsrc hdst htt) >>= k) Q := by
  refine st_send false h1 h2 h3 hl hc.1 (P := stg c false (k0_pay48 (Y A l c (rsc c false 0)))) (by rw [if_pos hc.2]; rfl) hd hsS hsem (nn_L _ _ _ _)
    (fun fs => fs = k0_pay48 (Y A l c (rsc c false 0))) (sh := fullShare) ?_ ?_ ?_ ?_ h
  · unfold stg
    iintro H
    iexists _
    isplitr; · ipureintro; rfl
    rw [show slM.view.set = Finset.univ from View.set_whole cc0_scratch5]
    iexact H
  · intro fs hfs
    rw [show slM.view.set = Finset.univ from View.set_whole cc0_scratch5]
    show _ ⊢ stgE c false
    unfold stgE stg
    iintro H
    iexists fs
    iexact H
  · rw [slotL_set 0 ho]
    show slotE (nx c false) false 0 ⊢ _
    unfold slotE slot
    iintro ⟨%v, %f, %hf, H⟩
    iexists f
    iexact H
  · intro fs fd hfs
    have hv := landL_stage (F := F) 0 ho h₀ hr hs fs fd
    rw [slotL_set 0 ho]
    show _ ⊢ slot (nx c false) false 0 (Sm A l false 0 (nx (nx c false) (!false)))
    rw [nx_nx, Sm_zero, ← hfs]
    unfold slot
    iintro H
    iexists _
    isplitr
    swap; · iexact H
    ipureintro; exact hv

/-- Sending a slot on. -/
theorem op_sendL {R : sProp 𝕄} {Q : α → sProp 𝕄} (t : ℕ) (h1 : q false = (r, b, t + 1, w)) (h2 : q' false = (r, b, t + 1 + 1, w)) (h3 : q' (!false) = q (!false)) (hl : l < 3)
    (hc : (w ≤ t + 1 ∧ t + 1 < nm true false ∧ (w + 1 - (t + 1) % 2) / 2 = (t + 1) / 2) ∧ t + 1 < b)
    {e : Dev nD} (hd : e = nx c false) {sS sem : DmaSem sig} (hsS : sS = qs (sq true false ((t + 1) % 2))) (hsem : sem = qs (rq (nx c false) true false (t + 1)))
    {off off'} (ho : off = ![(t + 1) % 15, 0, 0]) (ho' : off' = ![t % 15, 0, 0]) {h₀} {hr} {hs} {h₀'} {hr'} {hs'} {hsrc : ((rlM.slice (Rect.unit (s := S15x256x256) off' S1x256x256.size h₀') hr').squeeze S256x256 hs').view.WordExact} {hdst : ((rlM.slice (Rect.unit (s := S15x256x256) off S1x256x256.size h₀) hr).squeeze S256x256 hs).view.WordExact} {hsc} {htt}
    {k : _ → Prog (TpuEff nD τ sig (Elt F) Λ₀ .tc) α} (h : St A K c l true q' R ⊢ WP c (k ⟨⟩) Q) :
    St A K c l true q R ⊢ WP c (Prog.lift (.enqueueDma ((rlM.slice (Rect.unit (s := S15x256x256) off' S1x256x256.size h₀') hr').squeeze S256x256 hs')
      (.remote (Dev.tc e : Thread nD τ) ((rlM.slice (Rect.unit (s := S15x256x256) off S1x256x256.size h₀) hr).squeeze S256x256 hs) (.dma sS) hsc)
      (.dma sem) hsrc hdst htt) >>= k) Q := by
  refine st_send false h1 h2 h3 hl hc.1 (sm := ((rlM.slice (Rect.unit (s := S15x256x256) off' S1x256x256.size h₀') hr').squeeze S256x256 hs')) (P := slot c false t (Sm A l false (t + 1) c)) (by rw [if_pos hc.2]; rfl) hd hsS hsem (nn_L _ _ _ _)
    (fun (fs : Vec F S15x256x256 .bf16) => rlM.view.readAt (Elt F) (rL t).toLoadRect fs = Sm A l false (t + 1) c) (sh := fullShare) ?_ ?_ ?_ ?_ h
  · rw [slotL_set t ho']
    unfold slot
    iintro H
    iexact H
  · intro fs hfs
    rw [slotL_set t ho']
    show _ ⊢ slotE c false t
    unfold slotE slot
    iintro H
    iexists _, fs
    isplitr; · ipureintro; exact hfs
    iexact H
  · rw [slotL_set (t + 1) ho]
    show slotE (nx c false) false (t + 1) ⊢ _
    unfold slotE slot
    iintro ⟨%v, %f, %hf, H⟩
    iexists f
    iexact H
  · intro fs fd hfs
    have hv := landL_slot (F := F) (t + 1) t ho ho' h₀ hr hs h₀' hr' hs' fs fd
    rw [slotL_set (t + 1) ho]
    show _ ⊢ slot (nx c false) false (t + 1) (Sm A l false (t + 1) (nx (nx c false) (!false)))
    rw [nx_nx]
    unfold slot
    iintro H
    iexists _
    isplitr
    swap; · iexact H
    ipureintro; exact hv.trans hfs

/-! ## The gather -/

/-- Sending a half of a chunk. -/
theorem op_gsend {R : sProp 𝕄} {Q : α → sProp 𝕄} (s : Bool) (n : ℕ) (h1 : q s = (r, b, n, w)) (h2 : q' s = (r, b, n + 1, w)) (h3 : q' (!s) = q (!s)) (hl : l < 3)
    (hc : (w ≤ n ∧ n < nm false s ∧ (w + 1 - n % 2) / 2 = n / 2) ∧ b ≤ n ∧ n < r + dl false)
    {d e : Dev nD} (hd : d = nx c s) (he : ck c s (n / 2) = e) {sS sem : DmaSem sig} (hsS : sS = qs (sq false s (n % 2))) (hsem : sem = qs (17 + 32 * (n % 2) + e.val))
    {off off'} (ho : off = offH e (n % 2)) (ho' : off' = offH e (n % 2)) {h₀ h₀'} {hr hr'} {hsrc : (xM.slice (Rect.unit (s := S8192x256) off' S128x256.size h₀') hr').view.WordExact} {hdst : (xM.slice (Rect.unit (s := S8192x256) off S128x256.size h₀) hr).view.WordExact} {hsc} {htt}
    {k : _ → Prog (TpuEff nD τ sig (Elt F) Λ₀ .tc) α} (h : St A K c l false q' R ⊢ WP c (k ⟨⟩) Q) :
    St A K c l false q R ⊢ WP c (Prog.lift (.enqueueDma (xM.slice (Rect.unit (s := S8192x256) off' S128x256.size h₀') hr')
      (.remote (Dev.tc d : Thread nD τ) (xM.slice (Rect.unit (s := S8192x256) off S128x256.size h₀) hr) (.dma sS) hsc)
      (.dma sem) hsrc hdst htt) >>= k) Q := by
  subst he ho ho'
  have hn : n < 32 := lt_of_lt_of_le hc.1.2.1 (nm_le false s)
  have hset : ∀ h hr, (xM.slice (Rect.unit (s := S8192x256) (offH (ck c s (n / 2)) (n % 2)) S128x256.size h) hr).view.set = (rH (ck c s (n / 2)) n).set := fun h hr =>
    View.set_slice_whole cc0_scratch0 (rH (ck c s (n / 2)) n)
  refine st_send s h1 h2 h3 hl hc.1 (P := hpt c (ck c s (n / 2)) n (shr s n) (XF A l)) (by rw [if_neg (by omega), if_pos hc.2.2]; rfl) hd hsS
    (hsem.trans (by rw [← ck_nx c s (n / 2) (by omega)]; rfl)) (nn_half _ _ _)
    (fun fs => fs = XF A l) (sh := shr s n) ?_ ?_ ?_ ?_ h
  · rw [hset]
    unfold hpt
    iintro H
    iexists _
    isplitr; · ipureintro; rfl
    iexact H
  · intro fs hfs
    rw [hset]
    subst hfs
    exact Entails.refl _
  · rw [hset]
    show iprop(∃ f, hpt (nx c s) (ck c s (n / 2)) n fullShare f) ⊢ _
    unfold hpt
    exact Entails.refl _
  · intro fs fd hfs
    rw [hset]
    show _ ⊢ hpt (nx c s) (ck (nx c s) s (n / 2 + 1)) n fullShare (XF A l)
    rw [ck_nx c s _ (by omega)]
    subst hfs
    unfold hpt
    refine Entails.of_eq (pointsTo_congr fun i hi => ?_)
    rw [← hset h₀ hr] at hi
    obtain ⟨x, -, rfl⟩ := Finset.mem_map.mp hi
    exact View.write_emb_of_mem _ _ (Finset.mem_univ x)

end

end Cert.TpMlp

end
-- ==== Proof.Steps.lean ====
/-
  The steps of the body as they are used, one lemma for each kind of operation, the counters written out.
-/
module

public import proofs.«01_k».proof.Proof.Ops2

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev m9 : Memref sig .tc .vmem S8192x256 .bf16 := Memref.whole cc0_scratch0
abbrev m10 : Memref sig .tc .vmem S8192x256 .f32 := Memref.whole cc0_scratch1
abbrev m11 : Memref sig .tc .vmem S16x256x256 .bf16 := Memref.whole cc0_scratch2
abbrev m12 : Memref sig .tc .vmem S15x256x256 .bf16 := Memref.whole cc0_scratch3
abbrev m13 : Memref sig .tc .vmem S256x256 .bf16 := Memref.whole cc0_scratch4
abbrev m14 : Memref sig .tc .vmem S256x256 .bf16 := Memref.whole cc0_scratch5
theorem h0 : (m0).IsWhole := Memref.isWhole_whole _
theorem h1 : (m1).IsWhole := Memref.isWhole_whole _
theorem h2 : (m2).IsWhole := Memref.isWhole_whole _
theorem h3 : (m3).IsWhole := Memref.isWhole_whole _
theorem h4 : (m4).IsWhole := Memref.isWhole_whole _
theorem h5 : (m5).IsWhole := Memref.isWhole_whole _
theorem h6 : (m6).IsWhole := Memref.isWhole_whole _
theorem h7 : (m7).IsWhole := Memref.isWhole_whole _
theorem h8 : (m8).IsWhole := Memref.isWhole_whole _
theorem h9 : (m9).IsWhole := Memref.isWhole_whole _
theorem h10 : (m10).IsWhole := Memref.isWhole_whole _
theorem h11 : (m11).IsWhole := Memref.isWhole_whole _
theorem h12 : (m12).IsWhole := Memref.isWhole_whole _
theorem h13 : (m13).IsWhole := Memref.isWhole_whole _
theorem h14 : (m14).IsWhole := Memref.isWhole_whole _

/-- A device in a gather, `y` terms computed; and in a reduction, the own chunk overwritten or not (`o`). -/
abbrev SA (A : Args F) (K : GSem nD τ sig → ℕ) (c : Dev nD) (l : ℕ) (U KK : sProp 𝕄) (r n w r' n' w' y : ℕ) : sProp 𝕄 :=
  St A K c l false (qq r 0 n w r' 0 n' w') (RX A c l y (ownA A c l) U KK)
abbrev SB (A : Args F) (K : GSem nD τ sig → ℕ) (c : Dev nD) (l : ℕ) (U KK : sProp 𝕄) (o : Bool) (r b n w r' b' n' w' : ℕ) : sProp 𝕄 :=
  St A K c l true (qq r b n w r' b' n' w') (RX A c l 32 (ownB A c l o) U KK)

section
variable {A : Args F} {K : GSem nD τ sig → ℕ} {c : Dev nD} {l y : ℕ} {p o : Bool} {q : Bool → ℕ × ℕ × ℕ × ℕ} {α : Type} {r b n w r' b' n' w' : ℕ}

/-- The end of a part. -/
theorem fin {P : sProp 𝕄} {a : α} {Q : α → sProp 𝕄} (h : P ⊢ Q a) : P ⊢ WP c (pure a) Q := wp_pure' h

theorem tail {P : sProp 𝕄} {m : Prog (TpuEff nD τ sig (Elt F) Λ₀ .tc) α} {Q : α → sProp 𝕄} (h : P ⊢ WP c (m >>= pure) Q) : P ⊢ WP c m Q := by
  have e : m >>= pure = m := Prog.bind_pure m
  rw [e] at h; exact h

/-- A condition on a word of the table. -/
theorem chk {R : sProp 𝕄} {Q : α → sProp 𝕄} {P : Prop} {d : Decidable P} {k : PLift P → Prog (TpuEff nD τ sig (Elt F) Λ₀ .tc) α} (hP : P)
    (h : St A K c l p q R ⊢ WP c (k ⟨hP⟩) Q) : St A K c l p q R ⊢ WP c (Prog.lift (.assume P d) >>= k) Q := st_assume hP h

/-- Storing the own term, and that of a chunk received. -/
theorem yO {O U KK : sProp 𝕄} {Q : α → sProp 𝕄} {off : Fin 2 → ℕ} {h₀} {v} {hx} {hm}
    {k : _ → Prog (TpuEff nD τ sig (Elt F) Λ₀ .tc) α} (ho : off = offC c) (hw : v = Y A l c c)
    (h : St A K c l p q (RX A c l 1 O U KK) ⊢ WP c (k ⟨⟩) Q) :
    St A K c l p q (RX A c l 0 O U KK) ⊢ WP c (Prog.lift (.store m10 (Rect.unit (s := S8192x256) off S256x256.size h₀) v Finset.univ hx hm) >>= k) Q :=
  op_ystore (y := 0) c (rk_own c) ho hw h
theorem yC {O U KK : sProp 𝕄} {Q : α → sProp 𝕄} {off : Fin 2 → ℕ} {h₀} {v} {hx} {hm}
    {k : _ → Prog (TpuEff nD τ sig (Elt F) Λ₀ .tc) α} (s : Bool) (i : ℕ) (hw : v = Y A l c (ck c s i)) (h : St A K c l p q (RX A c l (y + 1) O U KK) ⊢ WP c (k ⟨⟩) Q)
    (h1 : 1 ≤ i := by decide) (h2 : i ≤ 15 ∨ (i = 16 ∧ s = true) := by decide) (hy : (if s then 2 * i - 1 else 2 * i) = y := by rfl)
    (ho : off = offC (ck c s i) := by exact offC_W _) :
    St A K c l p q (RX A c l y O U KK) ⊢ WP c (Prog.lift (.store m10 (Rect.unit (s := S8192x256) off S256x256.size h₀) v Finset.univ hx hm) >>= k) Q :=
  op_ystore (ck c s i) ((rk_ck c s i h1 h2).trans hy) ho hw h
/-- Loading a chunk received. -/
theorem xC {R : sProp 𝕄} {Q : α → sProp 𝕄} {off : Fin 2 → ℕ} {h₀} {hl}
    {k : _ → Prog (TpuEff nD τ sig (Elt F) Λ₀ .tc) α} (s : Bool) (i : ℕ) (h : St A K c l false q R ⊢ WP c (k (xb A l (ck c s (i + 1)))) Q)
    (hh : 2 * i + 1 < (q s).1 ∧ 2 * i + 1 < nm false s := by decide) (ho : off = offC (ck c s (i + 1)) := by exact offC_W _) :
    St A K c l false q R ⊢ WP c (Prog.lift (.load m9 (Rect.unit (s := S8192x256) off S256x256.size h₀).toLoadRect hl) >>= k) Q := op_xrecv s i hh ho h

/-! ### `true` -/

/-- Gather: sending, receiving, waiting for a read-out. -/
theorem gsR {U KK : sProp 𝕄} {Q : α → sProp 𝕄} {d : Dev nD} {sS sem : DmaSem sig}
    {off off'} {h₀ h₀'} {hr hr'} {hsrc : (xM.slice (Rect.unit (s := S8192x256) off' S128x256.size h₀') hr').view.WordExact}
    {hdst : (xM.slice (Rect.unit (s := S8192x256) off S128x256.size h₀) hr).view.WordExact} {hsc} {htt}
    {k : _ → Prog (TpuEff nD τ sig (Elt F) Λ₀ .tc) α} {e : Dev nD} (he : ck c true (n / 2) = e) (hsem : sem = qs (17 + 32 * (n % 2) + e.val)) (ho : off = offH e (n % 2)) (ho' : off' = offH e (n % 2))
    (h : SA A K c l U KK r (n + 1) w r' n' w' y ⊢ WP c (k ⟨⟩) Q)
    (hl : l < 3 := by decide) (hc : (w ≤ n ∧ n < nm false true ∧ (w + 1 - n % 2) / 2 = n / 2) ∧ 0 ≤ n ∧ n < r + dl false := by decide)
    (hd : d = nx c true := by exact dev_W _ _) (hsS : sS = qs (sq false true (n % 2)) := by exact sem15 _ (by decide) _) :
    SA A K c l U KK r n w r' n' w' y ⊢ WP c (Prog.lift (.enqueueDma (xM.slice (Rect.unit (s := S8192x256) off' S128x256.size h₀') hr')
      (.remote (Dev.tc d : Thread nD τ) (xM.slice (Rect.unit (s := S8192x256) off S128x256.size h₀) hr) (.dma sS) hsc)
      (.dma sem) hsrc hdst htt) >>= k) Q := op_gsend (q := qq r 0 n w r' 0 n' w') (q' := qq r 0 (n + 1) w r' 0 n' w') true n rfl rfl rfl hl hc hd he hsS hsem ho ho' h
theorem grR {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α} (hsem : sem = qs (rq c false true r))
    (h : SA A K c l U KK (r + 1) n w r' n' w' y ⊢ WP c (k ⟨⟩) Q) (hl : l < 3 := by decide)
    (hc : r < nm false true ∧ w ≤ n ∧ n ≤ r + dl false ∧ 0 ≤ r + dl false := by decide) (hlev : okLev false r n n' = true := by decide)
    (hN : dst.view.dmaCredit = NN false := by rfl) :
    SA A K c l U KK r n w r' n' w' y ⊢ WP c (Prog.lift (.waitDma2 sem src dst hsrc hdst) >>= k) Q := st_recv (q := qq r 0 n w r' 0 n' w') (q' := qq (r + 1) 0 n w r' 0 n' w') true rfl rfl rfl hl hc hlev hsem hN h
theorem gwR {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α}
    (h : SA A K c l U KK r n (w + 1) r' n' w' y ⊢ WP c (k ⟨⟩) Q) (hl : l < 3 := by decide) (hc : w < n ∧ n ≤ nm false true := by decide)
    (hsem : sem = qs (sq false true (w % 2)) := by exact sem15 _ (by decide) _) (hN : dst.view.dmaCredit = NN false := by rfl) :
    SA A K c l U KK r n w r' n' w' y ⊢ WP c (Prog.lift (.waitDma2 sem src dst hsrc hdst) >>= k) Q := st_swait (q := qq r 0 n w r' 0 n' w') (q' := qq r 0 n (w + 1) r' 0 n' w') true rfl rfl rfl hl hc hsem hN h

/-- Reduction: the stage buffer looked at, written, sent. -/
theorem sdR {U KK : sProp 𝕄} {Q : α → sProp 𝕄} {x} {hl} {k : _ → Prog (TpuEff nD τ sig (Elt F) Λ₀ .tc) α}
    (h : ∀ v, SB A K c l U KK o 0 0 0 0 r' b' n' w' ⊢ WP c (k v) Q) :
    SB A K c l U KK o 0 0 0 0 r' b' n' w' ⊢ WP c (Prog.lift (.load m13 x hl) >>= k) Q := op_sdeadR (show 0 < nm true true + 2 ∧ (0:ℕ) ≤ 0 ∧ (0:ℕ) ≤ 0 ∧ (0:ℕ) ≤ 0 ∧ 0 < 0 + dl true from by decide) h
theorem ssR {U KK : sProp 𝕄} {Q : α → sProp 𝕄} {h₀} {v} {hx} {hm} {k : _ → Prog (TpuEff nD τ sig (Elt F) Λ₀ .tc) α}
    (hv : v = k0_pay48 (Y A l c (rsc c true 0)))
    (h : SB A K c l U KK o 0 1 0 0 r' b' n' w' ⊢ WP c (k ⟨⟩) Q) :
    SB A K c l U KK o 0 0 0 0 r' b' n' w' ⊢ WP c (Prog.lift (.store m13 (Rect.unit (s := S256x256) ![0, 0] S256x256.size h₀) v Finset.univ hx hm) >>= k) Q :=
  op_sstoreR (q := qq 0 0 0 0 r' b' n' w') (q' := qq 0 1 0 0 r' b' n' w') rfl rfl rfl (by decide) hv h
theorem s0R {U KK : sProp 𝕄} {Q : α → sProp 𝕄} {e : Dev nD} {sS sem : DmaSem sig} {off} {h₀} {hr} {hs} {hsrc : m13.view.WordExact} {hdst : ((m11.slice (Rect.unit (s := S16x256x256) off S1x256x256.size h₀) hr).squeeze S256x256 hs).view.WordExact} {hsc} {htt}
    {k : _ → Prog (TpuEff nD τ sig (Elt F) Λ₀ .tc) α}
    (h : SB A K c l U KK o 0 1 1 0 r' b' n' w' ⊢ WP c (k ⟨⟩) Q) (hl : l < 3 := by decide)
    (hd : e = nx c true := by exact dev_W _ _) (hsS : sS = qs (sq true true (0 % 2)) := by exact sem17 _ (by decide) _)
    (hsem : sem = qs (rq (nx c true) true true 0) := by exact sem21 _ (by decide) _) (ho : off = ![0 % 16, 0, 0] := by rfl) :
    SB A K c l U KK o 0 1 0 0 r' b' n' w' ⊢ WP c (Prog.lift (.enqueueDma m13 (.remote (Dev.tc e : Thread nD τ) ((m11.slice (Rect.unit (s := S16x256x256) off S1x256x256.size h₀) hr).squeeze S256x256 hs) (.dma sS) hsc)
      (.dma sem) hsrc hdst htt) >>= k) Q := op_send0R (q := qq 0 1 0 0 r' b' n' w') (q' := qq 0 1 1 0 r' b' n' w') rfl rfl rfl hl (by decide) hd hsS hsem ho h
/-- A slot landing, read (`t` its number), added to, sent on; the read-out waited for. -/
theorem rrR {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α}
    (h : SB A K c l U KK o (r + 1) b n w r' b' n' w' ⊢ WP c (k ⟨⟩) Q) (hl : l < 3 := by decide)
    (hc : r < nm true true ∧ w ≤ n ∧ n ≤ r + dl true ∧ b ≤ r + dl true := by decide) (hlev : okLev true r n n' = true := by decide)
    (hsem : sem = qs (rq c true true r) := by exact sem21 _ (by decide) _) (hN : dst.view.dmaCredit = NN true := by rfl) :
    SB A K c l U KK o r b n w r' b' n' w' ⊢ WP c (Prog.lift (.waitDma2 sem src dst hsrc hdst) >>= k) Q := st_recv (q := qq r b n w r' b' n' w') (q' := qq (r + 1) b n w r' b' n' w') true rfl rfl rfl hl hc hlev hsem hN h
theorem slR {U KK : sProp 𝕄} {Q : α → sProp 𝕄} {off} {h₀} {hl} {k : _ → Prog (TpuEff nD τ sig (Elt F) Λ₀ .tc) α} (t : ℕ)
    (h : SB A K c l U KK o r b n w r' b' n' w' ⊢ WP c (k (Sm A l true t (nx c (!true)))) Q)
    (hc : t + 1 < nm true true + 2 ∧ w ≤ t + 1 ∧ n ≤ t + 1 ∧ b ≤ t + 1 ∧ t + 1 < r + dl true := by decide) (ho : off = ![t % 16, 0, 0] := by rfl) :
    SB A K c l U KK o r b n w r' b' n' w' ⊢ WP c (Prog.lift (.load m11 (Rect.unit (s := S16x256x256) off S1x256x256.size h₀).toLoadRect hl) >>= k) Q := op_slotR t hc ho h
theorem stR {U KK : sProp 𝕄} {Q : α → sProp 𝕄} {off} {h₀} {v} {hx} {hm} {k : _ → Prog (TpuEff nD τ sig (Elt F) Λ₀ .tc) α} (t : ℕ)
    (hv : v = k0_pay50 (Sm A l true t (nx c (!true))) (Y A l c (rsc c true (t + 1))))
    (h : SB A K c l U KK o r (t + 1 + 1) n w r' b' n' w' ⊢ WP c (k ⟨⟩) Q)
    (hc : w ≤ n ∧ n ≤ t + 1 ∧ t + 1 < r + dl true ∧ t + 1 < nm true true := by decide) (ho : off = ![t % 16, 0, 0] := by rfl) :
    SB A K c l U KK o r (t + 1) n w r' b' n' w' ⊢ WP c (Prog.lift (.store m11 (Rect.unit (s := S16x256x256) off S1x256x256.size h₀) v Finset.univ hx hm) >>= k) Q :=
  op_slotstoreR (q := qq r (t + 1) n w r' b' n' w') (q' := qq r (t + 1 + 1) n w r' b' n' w') t rfl rfl rfl hc ho hv h
theorem rsR {U KK : sProp 𝕄} {Q : α → sProp 𝕄} {e : Dev nD} {sS sem : DmaSem sig} {off off'} {h₀} {hr} {hs} {h₀'} {hr'} {hs'} {hsrc : ((m11.slice (Rect.unit (s := S16x256x256) off' S1x256x256.size h₀') hr').squeeze S256x256 hs').view.WordExact} {hdst : ((m11.slice (Rect.unit (s := S16x256x256) off S1x256x256.size h₀) hr).squeeze S256x256 hs).view.WordExact} {hsc} {htt}
    {k : _ → Prog (TpuEff nD τ sig (Elt F) Λ₀ .tc) α} (t : ℕ)
    (h : SB A K c l U KK o r b (t + 1 + 1) w r' b' n' w' ⊢ WP c (k ⟨⟩) Q) (hl : l < 3 := by decide)
    (hc : (w ≤ t + 1 ∧ t + 1 < nm true true ∧ (w + 1 - (t + 1) % 2) / 2 = (t + 1) / 2) ∧ t + 1 < b := by decide)
    (hd : e = nx c true := by exact dev_W _ _) (hsS : sS = qs (sq true true ((t + 1) % 2)) := by exact sem17 _ (by decide) _)
    (hsem : sem = qs (rq (nx c true) true true (t + 1)) := by exact sem21 _ (by decide) _) (ho : off = ![(t + 1) % 16, 0, 0] := by rfl) (ho' : off' = ![t % 16, 0, 0] := by rfl) :
    SB A K c l U KK o r b (t + 1) w r' b' n' w' ⊢ WP c (Prog.lift (.enqueueDma ((m11.slice (Rect.unit (s := S16x256x256) off' S1x256x256.size h₀') hr').squeeze S256x256 hs') (.remote (Dev.tc e : Thread nD τ) ((m11.slice (Rect.unit (s := S16x256x256) off S1x256x256.size h₀) hr).squeeze S256x256 hs) (.dma sS) hsc)
      (.dma sem) hsrc hdst htt) >>= k) Q := op_sendR (q := qq r b (t + 1) w r' b' n' w') (q' := qq r b (t + 1 + 1) w r' b' n' w') t rfl rfl rfl hl hc hd hsS hsem ho ho' h
theorem rwR {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α}
    (h : SB A K c l U KK o r b n (w + 1) r' b' n' w' ⊢ WP c (k ⟨⟩) Q) (hl : l < 3 := by decide) (hc : w < n ∧ n ≤ nm true true := by decide)
    (hsem : sem = qs (sq true true (w % 2)) := by exact sem17 _ (by decide) _) (hN : dst.view.dmaCredit = NN true := by rfl) :
    SB A K c l U KK o r b n w r' b' n' w' ⊢ WP c (Prog.lift (.waitDma2 sem src dst hsrc hdst) >>= k) Q := st_swait (q := qq r b n w r' b' n' w') (q' := qq r b n (w + 1) r' b' n' w') true rfl rfl rfl hl hc hsem hN h

/-! ### `false` -/

/-- Gather: sending, receiving, waiting for a read-out. -/
theorem gsL {U KK : sProp 𝕄} {Q : α → sProp 𝕄} {d : Dev nD} {sS sem : DmaSem sig}
    {off off'} {h₀ h₀'} {hr hr'} {hsrc : (xM.slice (Rect.unit (s := S8192x256) off' S128x256.size h₀') hr').view.WordExact}
    {hdst : (xM.slice (Rect.unit (s := S8192x256) off S128x256.size h₀) hr).view.WordExact} {hsc} {htt}
    {k : _ → Prog (TpuEff nD τ sig (Elt F) Λ₀ .tc) α} {e : Dev nD} (he : ck c false (n' / 2) = e) (hsem : sem = qs (17 + 32 * (n' % 2) + e.val)) (ho : off = offH e (n' % 2)) (ho' : off' = offH e (n' % 2))
    (h : SA A K c l U KK r n w r' (n' + 1) w' y ⊢ WP c (k ⟨⟩) Q)
    (hl : l < 3 := by decide) (hc : (w' ≤ n' ∧ n' < nm false false ∧ (w' + 1 - n' % 2) / 2 = n' / 2) ∧ 0 ≤ n' ∧ n' < r' + dl false := by decide)
    (hd : d = nx c false := by exact dev_W _ _) (hsS : sS = qs (sq false false (n' % 2)) := by exact sem16 _ (by decide) _) :
    SA A K c l U KK r n w r' n' w' y ⊢ WP c (Prog.lift (.enqueueDma (xM.slice (Rect.unit (s := S8192x256) off' S128x256.size h₀') hr')
      (.remote (Dev.tc d : Thread nD τ) (xM.slice (Rect.unit (s := S8192x256) off S128x256.size h₀) hr) (.dma sS) hsc)
      (.dma sem) hsrc hdst htt) >>= k) Q := op_gsend (q := qq r 0 n w r' 0 n' w') (q' := qq r 0 n w r' 0 (n' + 1) w') false n' rfl rfl rfl hl hc hd he hsS hsem ho ho' h
theorem grL {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α} (hsem : sem = qs (rq c false false r'))
    (h : SA A K c l U KK r n w (r' + 1) n' w' y ⊢ WP c (k ⟨⟩) Q) (hl : l < 3 := by decide)
    (hc : r' < nm false false ∧ w' ≤ n' ∧ n' ≤ r' + dl false ∧ 0 ≤ r' + dl false := by decide) (hlev : okLev false r' n n' = true := by decide)
    (hN : dst.view.dmaCredit = NN false := by rfl) :
    SA A K c l U KK r n w r' n' w' y ⊢ WP c (Prog.lift (.waitDma2 sem src dst hsrc hdst) >>= k) Q := st_recv (q := qq r 0 n w r' 0 n' w') (q' := qq r 0 n w (r' + 1) 0 n' w') false rfl rfl rfl hl hc hlev hsem hN h
theorem gwL {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α}
    (h : SA A K c l U KK r n w r' n' (w' + 1) y ⊢ WP c (k ⟨⟩) Q) (hl : l < 3 := by decide) (hc : w' < n' ∧ n' ≤ nm false false := by decide)
    (hsem : sem = qs (sq false false (w' % 2)) := by exact sem16 _ (by decide) _) (hN : dst.view.dmaCredit = NN false := by rfl) :
    SA A K c l U KK r n w r' n' w' y ⊢ WP c (Prog.lift (.waitDma2 sem src dst hsrc hdst) >>= k) Q := st_swait (q := qq r 0 n w r' 0 n' w') (q' := qq r 0 n w r' 0 n' (w' + 1)) false rfl rfl rfl hl hc hsem hN h

/-- Reduction: the stage buffer looked at, written, sent. -/
theorem sdL {U KK : sProp 𝕄} {Q : α → sProp 𝕄} {x} {hl} {k : _ → Prog (TpuEff nD τ sig (Elt F) Λ₀ .tc) α}
    (h : ∀ v, SB A K c l U KK o r b n w 0 0 0 0 ⊢ WP c (k v) Q) :
    SB A K c l U KK o r b n w 0 0 0 0 ⊢ WP c (Prog.lift (.load m14 x hl) >>= k) Q := op_sdeadL (show 0 < nm true false + 2 ∧ (0:ℕ) ≤ 0 ∧ (0:ℕ) ≤ 0 ∧ (0:ℕ) ≤ 0 ∧ 0 < 0 + dl true from by decide) h
theorem ssL {U KK : sProp 𝕄} {Q : α → sProp 𝕄} {h₀} {v} {hx} {hm} {k : _ → Prog (TpuEff nD τ sig (Elt F) Λ₀ .tc) α}
    (hv : v = k0_pay48 (Y A l c (rsc c false 0)))
    (h : SB A K c l U KK o r b n w 0 1 0 0 ⊢ WP c (k ⟨⟩) Q) :
    SB A K c l U KK o r b n w 0 0 0 0 ⊢ WP c (Prog.lift (.store m14 (Rect.unit (s := S256x256) ![0, 0] S256x256.size h₀) v Finset.univ hx hm) >>= k) Q :=
  op_sstoreL (q := qq r b n w 0 0 0 0) (q' := qq r b n w 0 1 0 0) rfl rfl rfl (by decide) hv h
theorem s0L {U KK : sProp 𝕄} {Q : α → sProp 𝕄} {e : Dev nD} {sS sem : DmaSem sig} {off} {h₀} {hr} {hs} {hsrc : m14.view.WordExact} {hdst : ((m12.slice (Rect.unit (s := S15x256x256) off S1x256x256.size h₀) hr).squeeze S256x256 hs).view.WordExact} {hsc} {htt}
    {k : _ → Prog (TpuEff nD τ sig (Elt F) Λ₀ .tc) α}
    (h : SB A K c l U KK o r b n w 0 1 1 0 ⊢ WP c (k ⟨⟩) Q) (hl : l < 3 := by decide)
    (hd : e = nx c false := by exact dev_W _ _) (hsS : sS = qs (sq true false (0 % 2)) := by exact sem18 _ (by decide) _)
    (hsem : sem = qs (rq (nx c false) true false 0) := by exact sem22 _ (by decide) _) (ho : off = ![0 % 15, 0, 0] := by rfl) :
    SB A K c l U KK o r b n w 0 1 0 0 ⊢ WP c (Prog.lift (.enqueueDma m14 (.remote (Dev.tc e : Thread nD τ) ((m12.slice (Rect.unit (s := S15x256x256) off S1x256x256.size h₀) hr).squeeze S256x256 hs) (.dma sS) hsc)
      (.dma sem) hsrc hdst htt) >>= k) Q := op_send0L (q := qq r b n w 0 1 0 0) (q' := qq r b n w 0 1 1 0) rfl rfl rfl hl (by decide) hd hsS hsem ho h
/-- A slot landing, read (`t` its number), added to, sent on; the read-out waited for. -/
theorem rrL {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α}
    (h : SB A K c l U KK o r b n w (r' + 1) b' n' w' ⊢ WP c (k ⟨⟩) Q) (hl : l < 3 := by decide)
    (hc : r' < nm true false ∧ w' ≤ n' ∧ n' ≤ r' + dl true ∧ b' ≤ r' + dl true := by decide) (hlev : okLev true r' n n' = true := by decide)
    (hsem : sem = qs (rq c true false r') := by exact sem22 _ (by decide) _) (hN : dst.view.dmaCredit = NN true := by rfl) :
    SB A K c l U KK o r b n w r' b' n' w' ⊢ WP c (Prog.lift (.waitDma2 sem src dst hsrc hdst) >>= k) Q := st_recv (q := qq r b n w r' b' n' w') (q' := qq r b n w (r' + 1) b' n' w') false rfl rfl rfl hl hc hlev hsem hN h
theorem slL {U KK : sProp 𝕄} {Q : α → sProp 𝕄} {off} {h₀} {hl} {k : _ → Prog (TpuEff nD τ sig (Elt F) Λ₀ .tc) α} (t : ℕ)
    (h : SB A K c l U KK o r b n w r' b' n' w' ⊢ WP c (k (Sm A l false t (nx c (!false)))) Q)
    (hc : t + 1 < nm true false + 2 ∧ w' ≤ t + 1 ∧ n' ≤ t + 1 ∧ b' ≤ t + 1 ∧ t + 1 < r' + dl true := by decide) (ho : off = ![t % 15, 0, 0] := by rfl) :
    SB A K c l U KK o r b n w r' b' n' w' ⊢ WP c (Prog.lift (.load m12 (Rect.unit (s := S15x256x256) off S1x256x256.size h₀).toLoadRect hl) >>= k) Q := op_slotL t hc ho h
theorem stL {U KK : sProp 𝕄} {Q : α → sProp 𝕄} {off} {h₀} {v} {hx} {hm} {k : _ → Prog (TpuEff nD τ sig (Elt F) Λ₀ .tc) α} (t : ℕ)
    (hv : v = k0_pay50 (Sm A l false t (nx c (!false))) (Y A l c (rsc c false (t + 1))))
    (h : SB A K c l U KK o r b n w r' (t + 1 + 1) n' w' ⊢ WP c (k ⟨⟩) Q)
    (hc : w' ≤ n' ∧ n' ≤ t + 1 ∧ t + 1 < r' + dl true ∧ t + 1 < nm true false := by decide) (ho : off = ![t % 15, 0, 0] := by rfl) :
    SB A K c l U KK o r b n w r' (t + 1) n' w' ⊢ WP c (Prog.lift (.store m12 (Rect.unit (s := S15x256x256) off S1x256x256.size h₀) v Finset.univ hx hm) >>= k) Q :=
  op_slotstoreL (q := qq r b n w r' (t + 1) n' w') (q' := qq r b n w r' (t + 1 + 1) n' w') t rfl rfl rfl hc ho hv h
theorem rsL {U KK : sProp 𝕄} {Q : α → sProp 𝕄} {e : Dev nD} {sS sem : DmaSem sig} {off off'} {h₀} {hr} {hs} {h₀'} {hr'} {hs'} {hsrc : ((m12.slice (Rect.unit (s := S15x256x256) off' S1x256x256.size h₀') hr').squeeze S256x256 hs').view.WordExact} {hdst : ((m12.slice (Rect.unit (s := S15x256x256) off S1x256x256.size h₀) hr).squeeze S256x256 hs).view.WordExact} {hsc} {htt}
    {k : _ → Prog (TpuEff nD τ sig (Elt F) Λ₀ .tc) α} (t : ℕ)
    (h : SB A K c l U KK o r b n w r' b' (t + 1 + 1) w' ⊢ WP c (k ⟨⟩) Q) (hl : l < 3 := by decide)
    (hc : (w' ≤ t + 1 ∧ t + 1 < nm true false ∧ (w' + 1 - (t + 1) % 2) / 2 = (t + 1) / 2) ∧ t + 1 < b' := by decide)
    (hd : e = nx c false := by exact dev_W _ _) (hsS : sS = qs (sq true false ((t + 1) % 2)) := by exact sem18 _ (by decide) _)
    (hsem : sem = qs (rq (nx c false) true false (t + 1)) := by exact sem22 _ (by decide) _) (ho : off = ![(t + 1) % 15, 0, 0] := by rfl) (ho' : off' = ![t % 15, 0, 0] := by rfl) :
    SB A K c l U KK o r b n w r' b' (t + 1) w' ⊢ WP c (Prog.lift (.enqueueDma ((m12.slice (Rect.unit (s := S15x256x256) off' S1x256x256.size h₀') hr').squeeze S256x256 hs') (.remote (Dev.tc e : Thread nD τ) ((m12.slice (Rect.unit (s := S15x256x256) off S1x256x256.size h₀) hr).squeeze S256x256 hs) (.dma sS) hsc)
      (.dma sem) hsrc hdst htt) >>= k) Q := op_sendL (q := qq r b n w r' b' (t + 1) w') (q' := qq r b n w r' b' (t + 1 + 1) w') t rfl rfl rfl hl hc hd hsS hsem ho ho' h
theorem rwL {U KK : sProp 𝕄} {Q : α → sProp 𝕄} {sem : DmaSem sig} {sp₁ sp₂ : Space} {s₁ s₂ : Shape} {e₁ e₂ : EltTy}
    {src : Memref sig .tc sp₁ s₁ e₁} {dst : Memref sig .tc sp₂ s₂ e₂} {hsrc : src.view.WordExact} {hdst : dst.view.WordExact}
    {k : _ → Prog (TpuEff nD τ sig (Elt F) Λ₀ .tc) α}
    (h : SB A K c l U KK o r b n w r' b' n' (w' + 1) ⊢ WP c (k ⟨⟩) Q) (hl : l < 3 := by decide) (hc : w' < n' ∧ n' ≤ nm true false := by decide)
    (hsem : sem = qs (sq true false (w' % 2)) := by exact sem18 _ (by decide) _) (hN : dst.view.dmaCredit = NN true := by rfl) :
    SB A K c l U KK o r b n w r' b' n' w' ⊢ WP c (Prog.lift (.waitDma2 sem src dst hsrc hdst) >>= k) Q := st_swait (q := qq r b n w r' b' n' w') (q' := qq r b n w r' b' n' (w' + 1)) false rfl rfl rfl hl hc hsem hN h

end

end Cert.TpMlp

end
-- ==== Proof.Turn.lean ====
/-
  The phases joined: what lies untouched while a gather or a reduction runs, and the passage from each to the next.
-/
module

public import proofs.«01_k».proof.Proof.Phase
public import proofs.«01_k».proof.Proof.Steps

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (A : Args F) (K : GSem nD τ sig → ℕ) (c : Dev nD) (l : ℕ)

/-- The credits and duties of a phase. -/
def futp (p : Bool) : sProp 𝕄 :=
  iprop((crd (F := F) c l p true ∗ dtys (F := F) c l p true) ∗ crd (F := F) c l p false ∗ dtys (F := F) c l p false)
/-- Those of all phases from `k` on. -/
def fut (k : ℕ) : sProp 𝕄 := bigSep (Finset.Ico k 6) fun h => futp (F := F) c (h / 2) (decide (h % 2 = 1))
/-- A kind of phase that is not running: its cells' positions. -/
def idle (p : Bool) : sProp 𝕄 :=
  iprop((posn (F := F) c l p true ∗ sp (F := F) c l p true 0) ∗ posn (F := F) c l p false ∗ sp (F := F) c l p false 0)
/-- The barrier cell, its one round over. -/
def BP : sProp 𝕄 := atPos (ER (F := F)) (bcell c) 1 ∅ 0
def stgs : sProp 𝕄 := iprop(stgE (F := F) c true ∗ stgE (F := F) c false)
/-- What lies untouched while layer `l` is gathered; and while it is reduced. -/
def NA : sProp 𝕄 := iprop(BP (F := F) c ∗ idle (F := F) c l true ∗ stgs (F := F) c ∗ fut (F := F) c (2 * l + 1))
def NB : sProp 𝕄 :=
  iprop(BP (F := F) c ∗ idle (F := F) c (l + 1) false ∗ (if l < 2 then iprop(emp) else iprop(XS (F := F) (l + 1) c true ∗ XS (F := F) (l + 1) c false))
    ∗ fut (F := F) c (2 * l + 2))

theorem fam_Ico {M : Type} [URA M] {Φ : ℕ → sProp M} {a b : ℕ} (h : a < b) :
    bigSep (Finset.Ico a b) Φ = iprop(Φ a ∗ bigSep (Finset.Ico (a + 1) b) Φ) := by
  rw [Ico_bot h]; exact bigSep_insert (by simp)
theorem fut_gather (h : l < 3) : fut (F := F) c (2 * l) = iprop(futp (F := F) c l false ∗ fut (F := F) c (2 * l + 1)) := by
  unfold fut; rw [fam_Ico (show 2 * l < 6 by omega), show 2 * l / 2 = l by omega, show decide (2 * l % 2 = 1) = false from decide_eq_false (by omega)]
theorem fut_reduce (h : l < 3) : fut (F := F) c (2 * l + 1) = iprop(futp (F := F) c l true ∗ fut (F := F) c (2 * l + 2)) := by
  unfold fut; rw [fam_Ico (show 2 * l + 1 < 6 by omega), show (2 * l + 1) / 2 = l by omega, show decide ((2 * l + 1) % 2 = 1) = true from decide_eq_true (by omega)]

omit [FloatOps F] in
theorem OO_gather (h : l < 3) : OO c l false 0 0 = rest c (2 * l) := by
  rw [rest_succ c (show 2 * l < 6 by omega), show 2 * l / 2 = l by omega, show decide (2 * l % 2 = 1) = false from decide_eq_false (by omega)]; rfl
omit [FloatOps F] in
theorem OO_reduce (h : l < 3) : OO c l true 0 0 = rest c (2 * l + 1) := by
  rw [rest_succ c (show 2 * l + 1 < 6 by omega), show (2 * l + 1) / 2 = l by omega, show decide ((2 * l + 1) % 2 = 1) = true from decide_eq_true (by omega)]; rfl
omit [FloatOps F] in
theorem OO_gather_end : OO c l false 32 30 = rest c (2 * l + 1) := by
  unfold OO; rw [due_end _ _ _ _ (show nm false true ≤ 32 by decide), due_end _ _ _ _ (show nm false false ≤ 30 by decide), add_zero, zero_add]; rfl
omit [FloatOps F] in
theorem OO_reduce_end : OO c l true 16 15 = rest c (2 * l + 2) := by
  unfold OO; rw [due_end _ _ _ _ (show nm true true ≤ 16 by decide), due_end _ _ _ _ (show nm true false ≤ 15 by decide), add_zero, zero_add]; rfl

omit [FloatOps F] in
/-- The own chunk in the three shares of a gather: one for each direction's messages, one for the kernel's own loads. -/
theorem own_three (f : Vec F S8192x256 .bf16) : cpt c c fullShare f
    ⊣⊢ iprop((cpt c c fullShare.left.left f ∗ cpt c c fullShare.left.right f) ∗ cpt c c fullShare.right f) := by
  have h1 : cpt c c fullShare f ⊣⊢ iprop(cpt c c fullShare.left f ∗ cpt c c fullShare.right f) := by
    unfold cpt; exact pointsTo_share (PosShare.mem_left_op_right _)
  have h2 : cpt c c fullShare.left f ⊣⊢ iprop(cpt c c fullShare.left.left f ∗ cpt c c fullShare.left.right f) := by
    unfold cpt; exact pointsTo_share (PosShare.mem_left_op_right _)
  constructor
  · iintro H
    ihave H := h1.1 $$ H
    icases H with ⟨H, Hr⟩
    isplitl [H]; · iapply h2.1 $$ H
    iexact Hr
  · iintro ⟨H, Hr⟩
    iapply h1.2
    isplitl [H]; · iapply h2.2 $$ H
    iexact Hr

/-- A gather begins. -/
theorem start_gather {U N : sProp 𝕄} (hl : l < 3) :
    iprop(IN A K ∗ idle (F := F) c l false ∗ futp (F := F) c l false ∗ (XS (F := F) l (nx c true) true ∗ XS (F := F) l (nx c false) false)
      ∗ (RSS (F := F) l c true ∗ RSS (F := F) l c false) ∗ cpt c c fullShare (XF A l) ∗ (∃ W, owes (c : Thread nD τ) (rest c (2 * l)) W)
      ∗ ybuf A c l 0 ∗ IB A c ∗ U ∗ N) ⊢ SA A K c l U N 0 0 0 0 0 0 0 := by
  show _ ⊢ iprop(IN A K ∗ (DirS A c l false true (0, 0, 0, 0) ∗ DirS A c l false false (0, 0, 0, 0))
    ∗ (∃ W, owes (c : Thread nD τ) (OO c l false 0 0) W) ∗ (ybuf A c l 0 ∗ cpt c c fullShare.right (XF A l) ∗ IB A c ∗ U ∗ N))
  rw [OO_gather c l hl]
  have hR := dir_start (P := cpt c c fullShare.left.left (XF A l)) A c l false true (own2_raw A c l true)
  have hL := dir_start (P := cpt c c fullShare.left.right (XF A l)) A c l false false (own2_raw A c l false)
  rw [dsts_gather, gvs_gather] at hR hL
  unfold idle futp
  iintro ⟨#HI, ⟨⟨HpR, HsR⟩, HpL, HsL⟩, ⟨⟨HcR, HdR⟩, HcL, HdL⟩, ⟨HxR, HxL⟩, ⟨HrR, HrL⟩, Ho, HO, Hy, HB, HU, HN⟩
  ihave Ho := (own_three c (XF A l)).1 $$ Ho
  icases Ho with ⟨⟨HoR, HoL⟩, Ho⟩
  isplitr; · iexact HI
  isplitr [HO Hy Ho HB HU HN]
  · isplitl [HpR HsR HcR HdR HxR HrL HoR]
    · iapply hR
      isplitl [HpR HcR]; · isplitl [HpR]; · iexact HpR
                           iexact HcR
      isplitl [HdR HxR HrL]
      · isplitl [HdR]; · iexact HdR
        isplitl [HxR]; · iexact HxR
        iexact HrL
      isplitl [HoR]; · iexact HoR
      iexact HsR
    · iapply hL
      isplitl [HpL HcL]; · isplitl [HpL]; · iexact HpL
                           iexact HcL
      isplitl [HdL HxL HrR]
      · isplitl [HdL]; · iexact HdL
        isplitl [HxL]; · iexact HxL
        iexact HrR
      isplitl [HoL]; · iexact HoL
      iexact HsL
  isplitl [HO]; · iexact HO
  isplitl [Hy]; · iexact Hy
  isplitl [Ho]; · iexact Ho
  isplitl [HB]; · iexact HB
  isplitl [HU]; · iexact HU
  iexact HN

/-- Whether the next layer's gather is to be given room. -/
theorem gvs_both : (if l < 2 then iprop(XS (F := F) (l + 1) c true ∗ XS (F := F) (l + 1) c false) else iprop(emp))
    ⊢ iprop(gvs (F := F) c l true false ∗ gvs (F := F) c l true true) := by
  by_cases h : l < 2
  · rw [if_pos h, gvs_reduce c l _ h, gvs_reduce c l _ h]; exact BIBase.Entails.rfl
  · rw [if_neg h, gvs_reduce_last c l _ h, gvs_reduce_last c l _ h]
    iintro -; isplitl <;> iempintro

theorem stgE_raw (s : Bool) : stgE (F := F) c s ⊢ bigSep (Finset.range (dl true)) (raw A l c s true) := by
  rw [show dl true = 0 + 1 from rfl, fam_shift, Finset.range_zero, bigSep_empty]
  show _ ⊢ iprop(stgE (F := F) c s ∗ emp)
  iintro H; isplitl [H]; · iexact H
  iempintro

/-- A reduction begins. -/
theorem start_reduce {U N : sProp 𝕄} (hl : l < 3) :
    iprop(IN A K ∗ idle (F := F) c l true ∗ futp (F := F) c l true ∗ (RSS (F := F) l (nx c true) true ∗ RSS (F := F) l (nx c false) false)
      ∗ (if l < 2 then iprop(XS (F := F) (l + 1) c true ∗ XS (F := F) (l + 1) c false) else iprop(emp)) ∗ stgs (F := F) c
      ∗ (∃ W, owes (c : Thread nD τ) (rest c (2 * l + 1)) W)
      ∗ ybuf A c l 32 ∗ (∃ f, cpt (F := F) c c fullShare f) ∗ IB A c ∗ U ∗ N) ⊢ SB A K c l U N false 0 0 0 0 0 0 0 0 := by
  show _ ⊢ iprop(IN A K ∗ (DirS A c l true true (0, 0, 0, 0) ∗ DirS A c l true false (0, 0, 0, 0))
    ∗ (∃ W, owes (c : Thread nD τ) (OO c l true 0 0) W) ∗ (ybuf A c l 32 ∗ (∃ f, cpt (F := F) c c fullShare f) ∗ IB A c ∗ U ∗ N))
  rw [OO_reduce c l hl]
  have hR := dir_start A c l true true (stgE_raw A c l true)
  have hL := dir_start A c l true false (stgE_raw A c l false)
  rw [dsts_reduce] at hR hL
  unfold idle futp stgs
  iintro ⟨#HI, ⟨⟨HpR, HsR⟩, HpL, HsL⟩, ⟨⟨HcR, HdR⟩, HcL, HdL⟩, ⟨HxR, HxL⟩, Hg, ⟨HoR, HoL⟩, HO, Hy, Ho, HB, HU, HN⟩
  ihave Hg := (gvs_both c l) $$ Hg
  icases Hg with ⟨HrR, HrL⟩
  isplitr; · iexact HI
  isplitr [HO Hy Ho HB HU HN]
  · isplitl [HpR HsR HcR HdR HxR HrL HoR]
    · iapply hR
      isplitl [HpR HcR]; · isplitl [HpR]; · iexact HpR
                           iexact HcR
      isplitl [HdR HxR HrL]
      · isplitl [HdR]; · iexact HdR
        isplitl [HxR]; · iexact HxR
        iexact HrL
      isplitl [HoR]; · iexact HoR
      iexact HsR
    · iapply hL
      isplitl [HpL HcL]; · isplitl [HpL]; · iexact HpL
                           iexact HcL
      isplitl [HdL HxL HrR]
      · isplitl [HdL]; · iexact HdL
        isplitl [HxL]; · iexact HxL
        iexact HrR
      isplitl [HoL]; · iexact HoL
      iexact HsL
  isplitl [HO]; · iexact HO
  isplitl [Hy]; · iexact Hy
  isplitl [Ho]; · iexact Ho
  isplitl [HB]; · iexact HB
  isplitl [HU]; · iexact HU
  iexact HN

/-- The gather of a layer over, its reduction begins. -/
theorem gather_reduce {U : sProp 𝕄} (hl : l < 3) :
    SA A K c l U (NA (F := F) c l) 32 32 32 30 30 30 32 ⊢ SB A K c l U (NB (F := F) c l) false 0 0 0 0 0 0 0 0 := by
  refine BIBase.Entails.trans ?_ (start_reduce A K c l hl)
  show iprop(IN A K ∗ (DirS A c l false true (32, 0, 32, 32) ∗ DirS A c l false false (30, 0, 30, 30))
    ∗ (∃ W, owes (c : Thread nD τ) (OO c l false 32 30) W) ∗ (ybuf A c l 32 ∗ cpt c c fullShare.right (XF A l) ∗ IB A c ∗ U ∗ NA (F := F) c l)) ⊢ _
  rw [OO_gather_end]
  unfold NA NB; rw [fut_reduce c l hl]
  have hR : DirS A c l false true (32, 0, 32, 32) ⊢ iprop(posn (F := F) c (l + 1) false true ∗ sp (F := F) c (l + 1) false true 0 ∗ XS (F := F) (l + 1) c true
      ∗ RSS (F := F) l (nx c false) false ∗ cpt c c fullShare.left.left (XF A l)) := end_gather A c l true
  have hL : DirS A c l false false (30, 0, 30, 30) ⊢ iprop(posn (F := F) c (l + 1) false false ∗ sp (F := F) c (l + 1) false false 0 ∗ XS (F := F) (l + 1) c false
      ∗ RSS (F := F) l (nx c true) true ∗ cpt c c fullShare.left.right (XF A l)) := end_gather A c l false
  have hx : iprop(XS (F := F) (l + 1) c true ∗ XS (F := F) (l + 1) c false)
      ⊢ iprop((if l < 2 then iprop(XS (F := F) (l + 1) c true ∗ XS (F := F) (l + 1) c false) else iprop(emp))
        ∗ (if l < 2 then iprop(emp) else iprop(XS (F := F) (l + 1) c true ∗ XS (F := F) (l + 1) c false))) := by
    by_cases h : l < 2
    · rw [if_pos h, if_pos h]; iintro H; isplitl; · iexact H
      iempintro
    · rw [if_neg h, if_neg h]; iintro H; isplitr; · iempintro
      iexact H
  iintro ⟨#HI, ⟨HR, HL⟩, HO, Hy, Ho, HB, HU, HN, Hid, Hst, Hf, Hfut⟩
  ihave HR := hR $$ HR
  ihave HL := hL $$ HL
  icases HR with ⟨HpR, HsR, HxR, HrR, HoR⟩
  icases HL with ⟨HpL, HsL, HxL, HrL, HoL⟩
  ihave Hx := hx $$ [HxR HxL]
  · isplitl [HxR]; · iexact HxR
    iexact HxL
  icases Hx with ⟨Hx, Hx'⟩
  isplitr; · iexact HI
  isplitl [Hid]; · iexact Hid
  isplitl [Hf]; · iexact Hf
  isplitl [HrR HrL]
  · isplitl [HrL]; · iexact HrL
    iexact HrR
  isplitl [Hx]; · iexact Hx
  isplitl [Hst]; · iexact Hst
  isplitl [HO]; · iexact HO
  isplitl [Hy]; · iexact Hy
  isplitl [Ho HoR HoL]
  · iexists (XF A l)
    iapply (own_three c (XF A l)).2
    isplitl [HoR HoL]
    · isplitl [HoR]; · iexact HoR
      iexact HoL
    iexact Ho
  isplitl [HB]; · iexact HB
  isplitl [HU]; · iexact HU
  isplitl [HN]; · iexact HN
  isplitl [HpR HsR HpL HsL]
  · unfold idle
    isplitl [HpR HsR]
    · isplitl [HpR]; · iexact HpR
      iexact HsR
    isplitl [HpL]; · iexact HpL
    iexact HsL
  isplitl [Hx']; · iexact Hx'
  iexact Hfut

/-- The reduction of a layer over, the next layer's gather begins. -/
theorem reduce_gather {U : sProp 𝕄} (hl : l < 2) :
    SB A K c l U (NB (F := F) c l) true 16 16 16 16 15 15 15 15 ⊢ SA A K c (l + 1) U (NA (F := F) c (l + 1)) 0 0 0 0 0 0 0 := by
  refine BIBase.Entails.trans ?_ (start_gather A K c (l + 1) (by omega))
  show iprop(IN A K ∗ (DirS A c l true true (16, 16, 16, 16) ∗ DirS A c l true false (15, 15, 15, 15))
    ∗ (∃ W, owes (c : Thread nD τ) (OO c l true 16 15) W) ∗ (ybuf A c l 32 ∗ cpt c c fullShare (XF A (l + 1)) ∗ IB A c ∗ U ∗ NB (F := F) c l)) ⊢ _
  rw [OO_reduce_end]
  unfold NA NB; rw [show 2 * l + 2 = 2 * (l + 1) by omega, fut_gather c (l + 1) (by omega), if_pos hl]
  have hR : DirS A c l true true (16, 16, 16, 16) ⊢ iprop(posn (F := F) c (l + 1) true true ∗ sp (F := F) c (l + 1) true true 0 ∗ RSS (F := F) (l + 1) c true
      ∗ gvs (F := F) (nx c false) l true true ∗ stgE (F := F) c true) := end_reduce A c l true
  have hL : DirS A c l true false (15, 15, 15, 15) ⊢ iprop(posn (F := F) c (l + 1) true false ∗ sp (F := F) c (l + 1) true false 0 ∗ RSS (F := F) (l + 1) c false
      ∗ gvs (F := F) (nx c true) l true false ∗ stgE (F := F) c false) := end_reduce A c l false
  rw [gvs_reduce _ l _ hl] at hR hL
  have hy : ybuf A c l 32 ⊢ ybuf A c (l + 1) 0 := by
    unfold ybuf
    iintro ⟨%f, -, H⟩
    iexists f
    isplitr; · ipureintro; exact fun e h => absurd h (Nat.not_lt_zero _)
    iexact H
  iintro ⟨#HI, ⟨HR, HL⟩, HO, Hy, Ho, HB, HU, HN, Hid, -, Hf, Hfut⟩
  ihave HR := hR $$ HR
  ihave HL := hL $$ HL
  icases HR with ⟨HpR, HsR, HrR, HxR, HstR⟩
  icases HL with ⟨HpL, HsL, HrL, HxL, HstL⟩
  isplitr; · iexact HI
  isplitl [Hid]; · iexact Hid
  isplitl [Hf]; · iexact Hf
  isplitl [HxR HxL]
  · isplitl [HxL]; · iexact HxL
    iexact HxR
  isplitl [HrR HrL]
  · isplitl [HrR]; · iexact HrR
    iexact HrL
  isplitl [Ho]; · iexact Ho
  isplitl [HO]; · iexact HO
  isplitl [Hy]; · iapply hy $$ Hy
  isplitl [HB]; · iexact HB
  isplitl [HU]; · iexact HU
  isplitl [HN]; · iexact HN
  isplitl [HpR HsR HpL HsL]
  · unfold idle
    isplitl [HpR HsR]
    · isplitl [HpR]; · iexact HpR
      iexact HsR
    isplitl [HpL]; · iexact HpL
    iexact HsL
  isplitl [HstR HstL]
  · unfold stgs; isplitl [HstR]; · iexact HstR
    iexact HstL
  iexact Hfut

end

end Cert.TpMlp

end
-- ==== Proof.Ends.lean ====
/-
  A device's cells: sorted by stream, opened before the kernel runs, closed when it is over.
-/
module

public import proofs.«01_k».proof.Proof.Buffers
public import proofs.«01_k».proof.Proof.Turn

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families and updates -/

theorem fam_fupd {I : Type} [DecidableEq I] {S : Finset I} {R : sProp 𝕄} [BI.Persistent R] {Φ Ψ : I → sProp 𝕄}
    (h : ∀ i ∈ S, iprop(R ∗ Φ i) ⊢ |={Set.univ}=> Ψ i) : iprop(R ∗ bigSep S Φ) ⊢ |={Set.univ}=> bigSep S Ψ :=
  (show iprop(R ∗ bigSep S Φ) ⊢ bigSep S fun i => iprop(|={Set.univ}=> Ψ i) from bigSep_with_persistent h).trans (bigSep_fupd S Ψ)

/-! ## A device's copy semaphores, stream by stream -/

/-- The numbers of the semaphores of stream `(p, s)`. -/
def mine (c : Dev nD) (p s : Bool) : Finset ℕ := (Finset.range (nm p s)).image (rq c p s) ∪ (Finset.range 2).image (sq p s)
/-- Those of all streams; and those of the kernel's that are of none. -/
def used (c : Dev nD) : Finset ℕ := mine c true true ∪ (mine c true false ∪ (mine c false true ∪ mine c false false))
@[irreducible] def spare (c : Dev nD) : Finset ℕ := Finset.Ico 9 112 \ used c

/-- The stream a semaphore is of. -/
def strm : Kd → Option (Bool × Bool)
  | .recv p s _ => some (p, s) | .send p s _ => some (p, s) | .none => none

theorem mine_strm (c : Dev nD) {p s : Bool} {q : ℕ} (h : q ∈ mine c p s) : strm (dec c q) = some (p, s) := by
  unfold mine at h
  rcases Finset.mem_union.mp h with h | h <;> obtain ⟨i, hi, rfl⟩ := Finset.mem_image.mp h <;> have hi := Finset.mem_range.mp hi
  · rw [dec_recv c hi]; rfl
  · rw [dec_send c p s hi]; rfl
theorem mine_disj (c : Dev nD) {p s p' s' : Bool} (h : (p, s) ≠ (p', s')) : Disjoint (mine c p s) (mine c p' s') :=
  Finset.disjoint_left.mpr fun _ h1 h2 => h (Option.some.inj ((mine_strm c h1).symm.trans (mine_strm c h2)))
theorem mine_sub (c : Dev nD) (p s : Bool) : mine c p s ⊆ Finset.Ico 9 112 := fun q h => by
  unfold mine at h
  rcases Finset.mem_union.mp h with h | h <;> obtain ⟨i, hi, rfl⟩ := Finset.mem_image.mp h <;> have hi := Finset.mem_range.mp hi
  · have := rq_lo c hi; have := rq_hi c hi; exact Finset.mem_Ico.mpr ⟨by omega, by omega⟩
  · have := sq_lo p s i; have := sq_hi p s hi; exact Finset.mem_Ico.mpr ⟨by omega, by omega⟩
theorem used_sub (c : Dev nD) : used c ⊆ Finset.Ico 9 112 :=
  Finset.union_subset (mine_sub c _ _) (Finset.union_subset (mine_sub c _ _) (Finset.union_subset (mine_sub c _ _) (mine_sub c _ _)))
theorem mem_used (c : Dev nD) {p s : Bool} {q : ℕ} (h : q ∈ mine c p s) : q ∈ used c := by
  unfold used; simp only [Finset.mem_union]; cases p <;> cases s <;> simp only [h, true_or, or_true]
theorem spare_sub (c : Dev nD) : spare c ⊆ Finset.Ico 9 112 := by unfold spare; exact Finset.sdiff_subset
theorem spare_dec (c : Dev nD) {q : ℕ} (h : q ∈ spare c) : dec c q = .none := by
  unfold spare at h
  have h := (Finset.mem_sdiff.mp h).2
  cases e : dec c q with
  | none => rfl
  | recv p s i =>
    obtain ⟨hi, rfl⟩ := dec_inv c e
    exact absurd (mem_used c (Finset.mem_union_left _ (Finset.mem_image.mpr ⟨i, Finset.mem_range.mpr hi, rfl⟩))) h
  | send p s k =>
    obtain ⟨hk, rfl⟩ := dec_inv_send c e
    exact absurd (mem_used c (Finset.mem_union_right _ (Finset.mem_image.mpr ⟨k, Finset.mem_range.mpr hk, rfl⟩))) h

/-- Stream `(p, s)`'s part of a family over a device's copy semaphores. -/
def part (Φ : ℕ → sProp 𝕄) (c : Dev nD) (p s : Bool) : sProp 𝕄 :=
  iprop((bigSep (Finset.range (nm p s)) fun i => Φ (rq c p s i)) ∗ bigSep (Finset.range 2) fun k => Φ (sq p s k))

theorem fam_union {I : Type} [DecidableEq I] {S T : Finset I} (h : Disjoint S T) (Φ : I → sProp 𝕄) :
    bigSep (S ∪ T) Φ = iprop(bigSep S Φ ∗ bigSep T Φ) := bigSep_union h
theorem fam_split {I : Type} [DecidableEq I] {S T : Finset I} (h : T ⊆ S) (Φ : I → sProp 𝕄) :
    bigSep S Φ = iprop(bigSep T Φ ∗ bigSep (S \ T) Φ) := bigSep_sdiff_split h

theorem mine_part (Φ : ℕ → sProp 𝕄) (c : Dev nD) (p s : Bool) : bigSep (mine c p s) Φ = part Φ c p s := by
  unfold mine part
  rw [fam_union, bigSep_image_of_injOn, bigSep_image_of_injOn]
  · intro a ha b hb h
    have e := (dec_send c p s (Finset.mem_range.mp ha)).symm.trans ((congrArg (dec c) h).trans (dec_send c p s (Finset.mem_range.mp hb)))
    injection e
  · intro a ha b hb h
    have e := (dec_recv c (Finset.mem_range.mp ha)).symm.trans ((congrArg (dec c) h).trans (dec_recv c (Finset.mem_range.mp hb)))
    injection e
  · refine Finset.disjoint_left.mpr fun q h1 h2 => ?_
    obtain ⟨i, hi, rfl⟩ := Finset.mem_image.mp h1
    obtain ⟨k, hk, h⟩ := Finset.mem_image.mp h2
    have e := (dec_send c p s (Finset.mem_range.mp hk)).symm.trans ((congrArg (dec c) h).trans (dec_recv c (Finset.mem_range.mp hi)))
    injection e

/-- A family over a device's copy semaphores, stream by stream. -/
theorem streams (Φ : ℕ → sProp 𝕄) (c : Dev nD) :
    bigSep (Finset.Ico 9 112) Φ = iprop((part Φ c true true ∗ part Φ c true false ∗ part Φ c false true ∗ part Φ c false false) ∗ bigSep (spare c) Φ) := by
  rw [fam_split (used_sub c)]
  have h1 : Disjoint (mine c false true) (mine c false false) := mine_disj c (by decide)
  have h2 : Disjoint (mine c true false) (mine c false true ∪ mine c false false) :=
    Finset.disjoint_union_right.mpr ⟨mine_disj c (by decide), mine_disj c (by decide)⟩
  have h3 : Disjoint (mine c true true) (mine c true false ∪ (mine c false true ∪ mine c false false)) :=
    Finset.disjoint_union_right.mpr ⟨mine_disj c (by decide), Finset.disjoint_union_right.mpr ⟨mine_disj c (by decide), mine_disj c (by decide)⟩⟩
  unfold used spare
  rw [fam_union h3, fam_union h2, fam_union h1, mine_part, mine_part, mine_part, mine_part]
  rfl

/-! ## Opening and closing the cells -/

section
variable (A : Args F) (K : GSem nD τ sig → ℕ) (c : Dev nD)

/-- A device's rights to open its copy semaphores' cells; their counters at zero; their positions before the first round. -/
def opens : sProp 𝕄 := bigSep (Finset.Ico 9 112) fun q => openTok (ER (F := F)) (dcell c q)
def zeros : sProp 𝕄 := bigSep (Finset.Ico 9 112) fun q => semVal (dcell c q) 0
def unused : sProp 𝕄 := bigSep (spare c) fun q => atPos (ER (F := F)) (dcell c q) 0 ∅ 0

def posn2 (l : ℕ) (p s : Bool) : sProp 𝕄 := iprop(posn (F := F) c l p s ∗ sp (F := F) c l p s 0)

/-- What a device has opened: every stream's positions, what they are known to have reached, and the cells of no stream. -/
def opened : sProp 𝕄 :=
  iprop((idle (F := F) c 0 true ∗ idle (F := F) c 0 false)
    ∗ ((met (F := F) c 0 true true ∗ met (F := F) c 0 true false) ∗ (met (F := F) c 0 false true ∗ met (F := F) c 0 false false)) ∗ unused (F := F) c)

theorem part_open (p s : Bool) :
    part (fun q => iprop(atPos (ER (F := F)) (dcell c q) 0 ∅ 0 ∗ reached ER (dcell c q) 0)) c p s
      ⊢ iprop((posn (F := F) c 0 p s ∗ sp (F := F) c 0 p s 0) ∗ met (F := F) c 0 p s) := by
  unfold part posn sp met
  rw [fam_sep]
  have e : (bigSep (Finset.range 2) fun k => iprop(atPos (ER (F := F)) (dcell c (sq p s k)) 0 ∅ 0 ∗ reached ER (dcell c (sq p s k)) 0))
      ⊢ bigSep (Finset.range 2) fun k => iprop(atPos (ER (F := F)) (scell c p s k) (0 * cnt p s k + (0 + 1 - k) / 2) ∅ 0
        ∗ reached ER (scell c p s k) (0 * cnt p s k + (0 + 1 - k) / 2)) := by
    refine fam_mono fun k _ => ?_
    rw [show 0 * cnt p s k + (0 + 1 - k) / 2 = 0 by rw [Nat.zero_mul]; omega]
  iintro ⟨⟨Ha, Hr⟩, Hs⟩
  isplitr [Hr]
  · isplitl [Ha]; · iexact Ha
    iapply e $$ Hs
  iexact Hr

/-- Every copy semaphore's cell opened. -/
theorem open_all : iprop(IN A K ∗ opens (F := F) c ∗ zeros (F := F) c)
    ⊢ |={Set.univ}=> bigSep (Finset.Ico 9 112) fun q => iprop(atPos (ER (F := F)) (dcell c q) 0 ∅ 0 ∗ reached ER (dcell c q) 0) := by
  have h1 : iprop(IN A K ∗ bigSep (Finset.Ico 9 112) fun q => iprop(openTok (ER (F := F)) (dcell c q) ∗ semVal (dcell c q) 0))
      ⊢ |={Set.univ}=> bigSep (Finset.Ico 9 112) fun q => iprop(atPos (ER (F := F)) (dcell c q) 0 ∅ 0 ∗ reached ER (dcell c q) 0) := by
    refine fam_fupd fun q hq => ?_
    have hq := Finset.mem_Ico.mp hq
    have hI := IN_cell A K (dcell_mem c q hq.1 hq.2)
    iintro ⟨#HI, H1, H2⟩
    ihave #Hc := hI $$ HI
    iapply (Rounds.cell_open ER (Rd A) (g := dcell c q) (Set.mem_univ (K (dcell c q))))
    isplitr; · iexact Hc
    isplitl [H1]; · iexact H1
    iexact H2
  unfold opens zeros
  rw [fam_sep] at h1
  exact h1

theorem fam_fst (S : Finset ℕ) : (bigSep S fun q => iprop(atPos (ER (F := F)) (dcell c q) 0 ∅ 0 ∗ reached ER (dcell c q) 0))
    ⊢ bigSep S fun q => atPos (ER (F := F)) (dcell c q) 0 ∅ 0 := by
  rw [fam_sep]
  iintro ⟨H, -⟩; iexact H

theorem open_sort : (bigSep (Finset.Ico 9 112) fun q => iprop(atPos (ER (F := F)) (dcell c q) 0 ∅ 0 ∗ reached ER (dcell c q) 0))
    ⊢ opened (F := F) c := by
  rw [streams _ c]
  unfold opened idle unused
  have hu := fam_fst (F := F) c (spare c)
  iintro ⟨⟨H1, H2, H3, H4⟩, H5⟩
  ihave H1 := (part_open c true true) $$ H1
  ihave H2 := (part_open c true false) $$ H2
  ihave H3 := (part_open c false true) $$ H3
  ihave H4 := (part_open c false false) $$ H4
  icases H1 with ⟨H1, M1⟩
  icases H2 with ⟨⟨P2, S2⟩, M2⟩
  icases H3 with ⟨H3, M3⟩
  icases H4 with ⟨⟨P4, S4⟩, M4⟩
  isplitl [H1 P2 S2 H3 P4 S4]
  · isplitl [H1 P2 S2]
    · isplitl [H1]; · iexact H1
      isplitl [P2]; · iexact P2
      iexact S2
    · isplitl [H3]; · iexact H3
      isplitl [P4]; · iexact P4
      iexact S4
  isplitr [H5]
  · isplitl [M1 M2]
    · isplitl [M1]; · iexact M1
      iexact M2
    · isplitl [M3]; · iexact M3
      iexact M4
  iapply hu $$ H5

theorem open_cells : iprop(IN A K ∗ opens (F := F) c ∗ zeros (F := F) c) ⊢ |={Set.univ}=> opened (F := F) c := by
  iintro H
  imod (open_all A K c) $$ H with H
  imodintro
  iapply (open_sort (F := F) c) $$ H

/-- A cell past its last round, closed. -/
theorem close_cell {g : GSem nD τ sig} (hg : g ∈ barCells ∪ dmaCells) {R : ℕ} (hR : ∀ r, R ≤ r → (Rd A).duties g r = ∅) :
    iprop(IN A K ∗ atPos (ER (F := F)) g R ∅ 0) ⊢ |={Set.univ}=> semVal g 0 := by
  have hI := IN_cell A K hg
  iintro ⟨#HI, H⟩
  ihave #Hc := hI $$ HI
  iapply (Rounds.cell_close ER (Rd A) (g := g) (Set.mem_univ (K g)) (fun h => h) hR)
  isplitr; · iexact Hc
  iexact H

theorem duties_spare {q : ℕ} (hq : 9 ≤ q) (hq' : q < 112) (h : dec c q = .none) : ∀ r, 0 ≤ r → (Rd A).duties (dcell c q) r = ∅ := fun r _ => by
  unfold Rd; dsimp only
  rw [if_pos rfl, qs_val hq', h]

theorem close_part (p s : Bool) :
    iprop(IN A K ∗ posn (F := F) c 3 p s ∗ sp (F := F) c 3 p s 0) ⊢ |={Set.univ}=> part (fun q => semVal (dcell c q) 0) c p s := by
  have h1 : iprop(IN A K ∗ bigSep (Finset.range (nm p s)) fun i => atPos (ER (F := F)) (rcell c p s i) 3 ∅ 0)
      ⊢ |={Set.univ}=> bigSep (Finset.range (nm p s)) fun i => semVal (rcell c p s i) 0 :=
    fam_fupd fun i hi => close_cell A K (rcell_mem c (Finset.mem_range.mp hi)) (duties_recv_end A c (Finset.mem_range.mp hi))
  have h2 : iprop(IN A K ∗ bigSep (Finset.range 2) fun k => iprop(atPos (ER (F := F)) (scell c p s k) (3 * cnt p s k + (0 + 1 - k) / 2) ∅ 0
        ∗ reached ER (scell c p s k) (3 * cnt p s k + (0 + 1 - k) / 2)))
      ⊢ |={Set.univ}=> bigSep (Finset.range 2) fun k => semVal (scell c p s k) 0 :=
    fam_fupd fun k hk => by
      have hc := close_cell A K (scell_mem c p s (Finset.mem_range.mp hk)) (duties_send_end A c (s := s) (p := p) (Finset.mem_range.mp hk))
      rw [show 3 * cnt p s k + (0 + 1 - k) / 2 = 3 * cnt p s k by omega]
      iintro ⟨#HI, H, -⟩
      iapply hc
      isplitr; · iexact HI
      iexact H
  unfold posn sp part
  iintro ⟨#HI, H1, H2⟩
  imod h1 $$ [H1] with H1
  · isplitr; · iexact HI
    iexact H1
  imod h2 $$ [H2] with H2
  · isplitr; · iexact HI
    iexact H2
  imodintro
  isplitl [H1]; · iexact H1
  iexact H2

/-- Every cell of a device closed. -/
theorem close_cells : iprop(IN A K ∗ (idle (F := F) c 3 true ∗ idle (F := F) c 3 false) ∗ unused (F := F) c ∗ BP (F := F) c)
    ⊢ |={Set.univ}=> iprop(zeros (F := F) c ∗ semVal (bcell c) 0) := by
  have hs : iprop(IN A K ∗ bigSep (spare c) fun q => atPos (ER (F := F)) (dcell c q) 0 ∅ 0) ⊢ |={Set.univ}=> bigSep (spare c) fun q => semVal (dcell c q) 0 :=
    fam_fupd fun q hq => by
      have hm := Finset.mem_Ico.mp (spare_sub c hq)
      exact close_cell A K (dcell_mem c q hm.1 hm.2) (duties_spare A c hm.1 hm.2 (spare_dec c hq))
  have hb := close_cell A K (bcell_mem c) (duties_bar_end A c)
  have h1 := close_part A K c true true
  have h2 := close_part A K c true false
  have h3 := close_part A K c false true
  have h4 := close_part A K c false false
  unfold zeros
  rw [streams _ c]
  unfold idle unused BP
  iintro ⟨#HI, ⟨⟨H1, H2⟩, H3, H4⟩, Hs, Hb⟩
  imod h1 $$ [H1] with H1
  · isplitr; · iexact HI
    iexact H1
  imod h2 $$ [H2] with H2
  · isplitr; · iexact HI
    iexact H2
  imod h3 $$ [H3] with H3
  · isplitr; · iexact HI
    iexact H3
  imod h4 $$ [H4] with H4
  · isplitr; · iexact HI
    iexact H4
  imod hs $$ [Hs] with Hs
  · isplitr; · iexact HI
    iexact Hs
  imod hb $$ [Hb] with Hb
  · isplitr; · iexact HI
    iexact Hb
  imodintro
  isplitr [Hb]
  · isplitr [Hs]
    · isplitl [H1]; · iexact H1
      isplitl [H2]; · iexact H2
      isplitl [H3]; · iexact H3
      iexact H4
    iexact Hs
  iexact Hb

end

end Cert.TpMlp

end
-- ==== Proof.Start.lean ====
/-
  The kernel's first part: it tells its neighbours that they may send, waits for them, and writes its own chunk.
-/
module

public import proofs.«01_k».proof.Proof.Buffers
public import proofs.«01_k».proof.Proof.Turn
public import proofs.«01_k».proof.Proof.Steps

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The conditions on the two neighbours -/

theorem chk_left (e : Dev nD) : k0_chk1 (W e) := by
  refine ⟨?_, ?_, ?_, ?_, ?_⟩ <;> repeat (first | exact dev_W_lt e | refine ⟨dev_W_lt e, ?_⟩)
theorem chk_right (e : Dev nD) : k0_chk2 (W e) := by
  refine ⟨?_, ?_, ?_, ?_, ?_⟩ <;> repeat (first | exact dev_W_lt e | refine ⟨dev_W_lt e, ?_⟩)

section
variable {A : Args F} {K : GSem nD τ sig → ℕ} {c : Dev nD} {α : Type}

/-! ## The blocks, read -/

/-- A load of a value that is known. -/
theorem in_load {P : sProp 𝕄} {Q : α → sProp 𝕄} {sp' : CoreSpace} {s : Shape} {e : EltTy} {m : Memref sig .tc sp' s e} {r : LoadRect s}
    {hl : m.view.LoadsAt r} {k : (r.shape.Idx → Elt F e) → Prog (TpuEff nD τ sig (Elt F) Λ₀ .tc) α}
    {v : r.shape.Idx → Elt F e}
    (hR : P ⊢ iprop(∃ f, ⌜m.view.readAt (Elt F) r f = v⌝ ∗ (m.view.loc (c : Thread nD τ) ↦{fullShare} f)
      ∗ ((m.view.loc (c : Thread nD τ) ↦{fullShare} f) -∗ P)))
    (h : P ⊢ WP c (k v) Q) :
    P ⊢ WP c (Prog.lift (.load m r hl) >>= k) Q := by
  rw [lift_bind]
  iintro HP
  ihave H := hR $$ HP
  icases H with ⟨%f, %hv, Hp, Hw⟩
  iapply (wp_load 𝒱₀ (c : Thread nD τ) none Set.univ (m := m) (r := r) (S := Finset.univ) (q := fullShare) (Finset.subset_univ _)) $$ Hp
  iintro Hp
  rw [hv]
  iapply h
  iapply Hw $$ Hp

/-- Reading an entry of the table. -/
theorem in_tab {R : sProp 𝕄} {Q : α → sProp 𝕄} (i : ℕ) {e : Dev nD} (he : tabD c i = e) {h₀} {h1} {hp} {k : _ → Prog (TpuEff nD τ sig (Elt F) Λ₀ .tc) α}
    (h : iprop(IB A c ∗ R) ⊢ WP c (k (W e)) Q) :
    iprop(IB A c ∗ R) ⊢ WP c (smemLoad m0 (Rect.unit (s := S64) ![i] S1.size h₀) h1 hp >>= k) Q := by
  refine in_load (m := m0) (r := (Rect.unit (s := S64) ![i] S1.size h₀).toLoadRect) (v := fun _ => W e) (k := fun f => k (f _))
    (hl := View.loadsAt_rect (View.loads_smem_one hp h1)) ?_ h
  unfold IB
  iintro ⟨⟨Ht, HB⟩, HR⟩
  iexists (tabV (F := F) c)
  isplitr
  · ipureintro
    funext x
    have hx : (x 0).val = 0 := by have : (x 0).val < 1 := (x 0).isLt; omega
    show W (tabD c (i + 1 * (x 0).val)) = W e
    rw [hx, ← he, Nat.mul_zero, Nat.add_zero]
  isplitl [Ht]; · iexact Ht
  iintro Ht
  isplitl [Ht HB]
  · isplitl [Ht]; · iexact Ht
    iexact HB
  iexact HR

/-- Reading the input. -/
theorem in_x {R : sProp 𝕄} {Q : α → sProp 𝕄} {h₀} {hl} {k : _ → Prog (TpuEff nD τ sig (Elt F) Λ₀ .tc) α}
    (h : iprop(IB A c ∗ R) ⊢ WP c (k (A.x c)) Q) :
    iprop(IB A c ∗ R) ⊢ WP c (Prog.lift (.load m1 (Rect.unit (s := S256x256) ![0, 0] S256x256.size h₀).toLoadRect hl) >>= k) Q := by
  rw [lift_bind]
  unfold IB at h ⊢
  iintro ⟨⟨Ht, Hx, HB⟩, HR⟩
  iapply (wp_load 𝒱₀ (c : Thread nD τ) none Set.univ (m := m1) (r := (Rect.unit (s := S256x256) ![0, 0] S256x256.size h₀).toLoadRect) (S := Finset.univ) (q := fullShare) (Finset.subset_univ _)) $$ Hx
  iintro Hx
  have hz : m1.view.readAt (Elt F) (Rect.unit (s := S256x256) ![0, 0] S256x256.size h₀).toLoadRect (A.x c) = A.x c :=
    Memref.readAt_unit_zero (Elt F) cc0_stg1_0 (by funext a; fin_cases a <;> rfl) _ _
  rw [hz]
  iapply h
  isplitl [Ht Hx HB]
  · isplitl [Ht]; · iexact Ht
    isplitl [Hx]; · iexact Hx
    iexact HB
  iexact HR

/-- A condition that holds. -/
theorem in_chk {R : sProp 𝕄} {Q : α → sProp 𝕄} {P : Prop} {d : Decidable P} {k : PLift P → Prog (TpuEff nD τ sig (Elt F) Λ₀ .tc) α} (hP : P)
    (h : R ⊢ WP c (k ⟨hP⟩) Q) : R ⊢ WP c (Prog.lift (.assume P d) >>= k) Q := by
  rw [lift_bind]; exact h.trans (wp_assume 𝒱₀ (c : Thread nD τ) none Set.univ hP)

/-- The device's own number. -/
theorem in_dev {R : sProp 𝕄} {Q : α → sProp 𝕄} {k : Dev nD → Prog (TpuEff nD τ sig (Elt F) Λ₀ .tc) α}
    (h : R ⊢ WP c (k c) Q) : R ⊢ WP c (Prog.lift .deviceId >>= k) Q := by
  rw [lift_bind]
  show R ⊢ wp _ _ _ _ _
  rw [wp_deviceId]; exact h

/-- The own chunk, loaded for nothing. -/
theorem own_dead {R : sProp 𝕄} {Q : α → sProp 𝕄} {off : Fin 2 → ℕ} (ho : off = offC c) {h₀} {hl}
    {k : _ → Prog (TpuEff nD τ sig (Elt F) Λ₀ .tc) α}
    (h : ∀ v, iprop((∃ f, cpt (F := F) c c fullShare f) ∗ R) ⊢ WP c (k v) Q) :
    iprop((∃ f, cpt (F := F) c c fullShare f) ∗ R) ⊢ WP c (Prog.lift (.load xM (Rect.unit (s := S8192x256) off S256x256.size h₀).toLoadRect hl) >>= k) Q := by
  subst ho
  rw [lift_bind]
  unfold cpt at h ⊢
  iintro ⟨⟨%f, Hx⟩, HR⟩
  iapply (wp_load 𝒱₀ (c : Thread nD τ) none Set.univ (m := xM) (S := (rC c).set) (q := fullShare) (setOn_whole cc0_scratch0 _).le) $$ Hx
  iintro Hx
  iapply (h _)
  isplitl [Hx]; · iexists f; iexact Hx
  iexact HR

/-- The own chunk, written. -/
theorem own_store {R : sProp 𝕄} {Q : α → sProp 𝕄} {off : Fin 2 → ℕ} (ho : off = offC c) {h₀} {w} (hw : w = xb A 0 c) {hx} {hm}
    {k : _ → Prog (TpuEff nD τ sig (Elt F) Λ₀ .tc) α}
    (h : iprop(cpt c c fullShare (XF A 0) ∗ R) ⊢ WP c (k ⟨⟩) Q) :
    iprop((∃ f, cpt (F := F) c c fullShare f) ∗ R) ⊢ WP c (Prog.lift (.store xM (Rect.unit (s := S8192x256) off S256x256.size h₀) w Finset.univ hx hm) >>= k) Q := by
  subst ho hw
  rw [lift_bind]
  unfold cpt at h ⊢
  iintro ⟨⟨%f, Hx⟩, HR⟩
  iapply (wp_store 𝒱₀ (c : Thread nD τ) none Set.univ (m := xM) (r := rC c) (S := (rC c).set)
    (by rw [View.setOn_univ]; exact (View.set_slice_whole cc0_scratch0 (rC c)).le)) $$ Hx
  have e : ((((c : Thread nD τ).loc cc0_scratch0) ↦[(rC c).set]{fullShare} ((xM.access (rC c)).write (Elt F) f (xb A 0 c) Finset.univ)) : sProp 𝕄)
      = ((c : Thread nD τ).loc cc0_scratch0) ↦[(rC c).set]{fullShare} (XF A 0) :=
    pointsTo_congr (XF_of_read A 0 c (View.read_write_univ (v := xM.access (rC c)) _ _))
  iintro Hx
  iapply h
  isplitl [Hx]; · iapply (Entails.of_eq e) $$ Hx
  iexact HR

/-! ## The barrier -/

/-- What a device owes when it starts. -/
def OB (c : Dev nD) : CellTallies nD τ sig ℕ := tallyAt (bcell (nx c true)) 5 1 + rest c 0
def O₀ (c : Dev nD) : CellTallies nD τ sig ℕ := tallyAt (bcell (nx c false)) 5 1 + OB c

/-- Telling a neighbour: direction `s`'s pieces go to the device they come from. -/
theorem tell (s : Bool) (n : Dev nD) (hn : n = nx c (!s)) {O' O : CellTallies nD τ sig ℕ} (hO : O' = tallyAt (bcell (nx c (!s))) 5 1 + O) (W : Waits sig ℕ)
    {Q : α → sProp 𝕄} {k : PUnit → Prog (TpuEff nD τ sig (Elt F) Λ₀ .tc) α} :
    iprop(IN A K ∗ owes (c : Thread nD τ) O' W ∗ dutyTok ER (bcell (nx c (!s))) 0 s ∗ XS (F := F) 0 c s ∗ reached ER (bcell (nx c (!s))) 0)
      ⊢ iprop((owes (c : Thread nD τ) O W -∗ WP c (k ⟨⟩) Q) -∗ WP c (semSignalWord n (SemArray.scalar (sig.barrier 0 rfl) : Sems sig S_).sem 1#32 >>= k) Q) := by
  subst hn
  have hk : (semSignalWord (nx c (!s)) (SemArray.scalar (sig.barrier 0 rfl) : Sems sig S_).sem 1#32 >>= k : Prog (TpuEff nD τ sig (Elt F) Λ₀ .tc) α)
      = .op (.semSignal (Dev.tc (nx c (!s))) barS ((1#32 : BitVec 32).toNat : Int)) k := rfl
  rw [hk]
  have hp : XS (F := F) 0 c s ⊢ (Rd A).payload (bcell (nx c (!s))) 0 s := by rw [payload_bar, nx_nx']
  iintro ⟨#HI, HO, Ht, Hx, Hr⟩ Hk
  ihave #HIb := (IN_cell A K (bcell_mem (nx c (!s)))) $$ HI
  iapply (Rounds.wp_signal 𝒱₀ ER (Rd A) (c : Thread nD τ) none (dst := (nx c (!s) : Thread nD τ)) (κ := K (bcell (nx c (!s))))
      (d := s) (by rw [duties_bar]; exact Finset.mem_univ _) (show (Rd A).amount (bcell (nx c (!s))) 0 s = (1#32 : BitVec 32).toNat from rfl) 5
      (O₀ := O') O (by rw [hO, add_comm]; rfl)) $$ [HO Ht Hx Hr]
  · isplitr; · iexact HIb
    isplitl [HO]; · iexact HO
    isplitl [Ht]; · iexact Ht
    isplitl [Hx]; · iapply hp $$ Hx
    iexact Hr
  iexact Hk

/-- Waiting for both neighbours. -/
theorem hear {O : CellTallies nD τ sig ℕ} (hO : (levAts L lv : sProp 𝕄) ⊢ MayWait (c : Thread nD τ) (.reg barS) 5 O) (W : Waits sig ℕ)
    {Q : α → sProp 𝕄} {k : PUnit → Prog (TpuEff nD τ sig (Elt F) Λ₀ .tc) α} :
    iprop(IN A K ∗ cred (tallyAt (bcell c) 5 2) ∗ owes (c : Thread nD τ) O W ∗ atPos ER (bcell c) 0 ∅ 0)
      ⊢ iprop((((∃ W, owes (c : Thread nD τ) O W) ∗ BP (F := F) c ∗ XS (F := F) 0 (nx c true) true ∗ XS (F := F) 0 (nx c false) false) -∗ WP c (k ⟨⟩) Q)
        -∗ WP c (semWaitWord (SemArray.scalar (sig.barrier 0 rfl) : Sems sig S_).sem 2#32 >>= k) Q) := by
  have hk : (semWaitWord (SemArray.scalar (sig.barrier 0 rfl) : Sems sig S_).sem 2#32 >>= k : Prog (TpuEff nD τ sig (Elt F) Λ₀ .tc) α)
      = .op (.semWait barS ((2#32 : BitVec 32).toInt)) k := rfl
  rw [hk]
  iintro ⟨#HI, Hc, HO, Hat⟩ Hk
  ihave #HIb := (IN_cell A K (bcell_mem c)) $$ HI
  iapply (Rounds.wp_wait_rest_token 𝒱₀ ER (Rd A) (c : Thread nD τ) none (κ := K (bcell c))
      (wpE_semWait_eq 𝒱₀ (c : Thread nD τ) none Set.univ) (Set.mem_univ _) 5 (O := O) (W := W) (R := 0) (m := 0) (T := ∅)
      (by rw [expect_bar]; decide)) $$ [Hc HO Hat]
  · isplitr; · iexact HIb
    isplitl [Hc]; · iexact Hc
    isplitl [HO]; · iexact HO
    isplitr; · iapply (IN_wait A K hO) $$ HI
    iexact Hat
  iintro ⟨HO, Hat, -, Hpay⟩
  ihave Hpay := (Entails.of_eq (rest_bar A c)) $$ Hpay
  iapply Hk
  isplitl [HO]; · iexists _; iexact HO
  isplitl [Hat]; · unfold BP; iexact Hat
  iexact Hpay

/-! ## The part -/

/-- What a device starts from. -/
def Pre (A : Args F) (K : GSem nD τ sig → ℕ) (c : Dev nD) : sProp 𝕄 :=
  iprop(IB A c ∗ IN A K ∗ (∃ W, owes (c : Thread nD τ) (O₀ c) W)
    ∗ (dutyTok ER (bcell (nx c false)) 0 true ∗ reached (ER (F := F)) (bcell (nx c false)) 0)
    ∗ (dutyTok ER (bcell (nx c true)) 0 false ∗ reached (ER (F := F)) (bcell (nx c true)) 0)
    ∗ cred (tallyAt (bcell c) 5 2) ∗ atPos (ER (F := F)) (bcell c) 0 ∅ 0
    ∗ (XS (F := F) 0 c true ∗ XS (F := F) 0 c false) ∗ (∃ f, cpt (F := F) c c fullShare f)
    ∗ (RSS (F := F) 0 c true ∗ RSS (F := F) 0 c false) ∗ ybuf A c 0 0 ∗ outE (F := F) c
    ∗ idle (F := F) c 0 false ∗ idle (F := F) c 0 true ∗ stgs (F := F) c ∗ fut (F := F) c 0)

/-- What it has once both neighbours have told it. -/
def Got (A : Args F) (K : GSem nD τ sig → ℕ) (c : Dev nD) : sProp 𝕄 :=
  iprop(IN A K ∗ (∃ W, owes (c : Thread nD τ) (rest c 0) W) ∗ BP (F := F) c ∗ (XS (F := F) 0 (nx c true) true ∗ XS (F := F) 0 (nx c false) false)
    ∗ (RSS (F := F) 0 c true ∗ RSS (F := F) 0 c false) ∗ ybuf A c 0 0 ∗ outE (F := F) c
    ∗ idle (F := F) c 0 false ∗ idle (F := F) c 0 true ∗ stgs (F := F) c ∗ fut (F := F) c 0)

/-- The barrier. -/
theorem barrier {Q : α → sProp 𝕄} {n n' : Dev nD} (hn : n = nx c false) (hn' : n' = nx c true) {k : PUnit → Prog (TpuEff nD τ sig (Elt F) Λ₀ .tc) α}
    (h : iprop(IB A c ∗ (∃ f, cpt (F := F) c c fullShare f) ∗ Got A K c) ⊢ WP c (k ⟨⟩) Q) :
    Pre A K c ⊢ WP c (semSignalWord n (SemArray.scalar (sig.barrier 0 rfl) : Sems sig S_).sem 1#32 >>= fun _ =>
      semSignalWord n' (SemArray.scalar (sig.barrier 0 rfl) : Sems sig S_).sem 1#32 >>= fun _ =>
      semWaitWord (SemArray.scalar (sig.barrier 0 rfl) : Sems sig S_).sem 2#32 >>= k) Q := by
  have hlev : (levAts L lv : sProp 𝕄) ⊢ MayWait (c : Thread nD τ) (.reg barS) 5 (rest c 0) := by
    have := mayWait_low (F := F) c 0 (by omega) false (.reg barS) 5 0 0 (by omega)
    rwa [OO_gather c 0 (by omega)] at this
  unfold Pre
  iintro ⟨HB, #HI, ⟨%W, HO⟩, ⟨HtL, HrL⟩, ⟨HtR, HrR⟩, Hc, Hat, ⟨HxR, HxL⟩, Ho, HRS, Hy, HU, Hi, Hi', Hs, Hf⟩
  iapply (tell (A := A) (K := K) (c := c) true n hn (O' := O₀ c) (O := OB c) rfl W) $$ [HO HtL HrL HxR]
  · isplitr; · iexact HI
    isplitl [HO]; · iexact HO
    isplitl [HtL]; · iexact HtL
    isplitl [HxR]; · iexact HxR
    iexact HrL
  iintro HO
  iapply (tell (A := A) (K := K) (c := c) false n' hn' (O' := OB c) (O := rest c 0) rfl W) $$ [HO HtR HrR HxL]
  · isplitr; · iexact HI
    isplitl [HO]; · iexact HO
    isplitl [HtR]; · iexact HtR
    isplitl [HxL]; · iexact HxL
    iexact HrR
  iintro HO
  iapply (hear (A := A) (K := K) (c := c) (O := rest c 0) hlev W) $$ [HO Hc Hat]
  · isplitr; · iexact HI
    isplitl [Hc]; · iexact Hc
    isplitl [HO]; · iexact HO
    iexact Hat
  iintro ⟨HO, Hb, HX⟩
  iapply h
  unfold Got
  isplitl [HB]; · iexact HB
  isplitl [Ho]; · iexact Ho
  isplitr; · iexact HI
  isplitl [HO]; · iexact HO
  isplitl [Hb]; · iexact Hb
  isplitl [HX]; · iexact HX
  isplitl [HRS]; · iexact HRS
  isplitl [Hy]; · iexact Hy
  isplitl [HU]; · iexact HU
  isplitl [Hi]; · iexact Hi
  isplitl [Hi']; · iexact Hi'
  isplitl [Hs]; · iexact Hs
  iexact Hf

theorem got_start : iprop(cpt c c fullShare (XF A 0) ∗ IB A c ∗ Got A K c) ⊢ SA A K c 0 (outE (F := F) c) (NA (F := F) c 0) 0 0 0 0 0 0 0 := by
  refine BIBase.Entails.trans ?_ (start_gather A K c 0 (U := outE (F := F) c) (N := NA (F := F) c 0) (by omega))
  have hf := fut_gather (F := F) c 0 (by omega)
  rw [show 2 * 0 = 0 from rfl] at hf ⊢
  unfold Got NA
  rw [hf]
  iintro ⟨Ho, HB, #HI, HO, Hb, HX, HRS, Hy, HU, Hi, Hi', Hs, ⟨Hf, Hf'⟩⟩
  isplitr; · iexact HI
  isplitl [Hi]; · iexact Hi
  isplitl [Hf]; · iexact Hf
  isplitl [HX]; · iexact HX
  isplitl [HRS]; · iexact HRS
  isplitl [Ho]; · iexact Ho
  isplitl [HO]; · iexact HO
  isplitl [Hy]; · iexact Hy
  isplitl [HB]; · iexact HB
  isplitl [HU]; · iexact HU
  isplitl [Hb]; · iexact Hb
  isplitl [Hi']; · iexact Hi'
  isplitl [Hs]; · iexact Hs
  iexact Hf'

theorem swap {P P' R : sProp 𝕄} : iprop(P ∗ P' ∗ R) ⊢ iprop(P' ∗ P ∗ R) := by
  iintro ⟨HP, HP', HR⟩
  isplitl [HP']; · iexact HP'
  isplitl [HP]; · iexact HP
  iexact HR

theorem part1 (Q : _ → sProp 𝕄) (h : ∀ (v2 : BitVec 32) (w1 : k0_chk1 (W (nx c false))) (w2 : k0_chk2 (W (nx c true))),
      SA A K c 0 (outE (F := F) c) (NA (F := F) c 0) 0 0 0 0 0 0 0 ⊢ Q ⟨c, v2, W (nx c false), w1, W (nx c true), w2⟩) :
    Pre A K c ⊢ WP c (k0_part1 m0 h0 m1 h1 m2 h2 m3 h3 m4 h4 m5 h5 m6 h6 m7 h7 m8 h8 m9 h9 m10 h10 m11 h11 m12 h12 m13 h13 m14 h14
      cc0_scratch6 cc0_scratch7 cc0_scratch8 cc0_scratch9 cc0_scratch10 cc0_scratch11 cc0_scratch12 cc0_scratch13) Q := by
  simp only [k0_part1_eq_skeleton]; unfold k0_part1_skel
  refine in_dev (in_tab 0 (e := nx c false) rfl (in_chk (chk_left _) (in_tab 1 (e := nx c true) rfl (in_chk (chk_right _) ?_))))
  refine barrier (dev_W _ _) (dev_W _ _) (in_x (swap.trans (own_dead (offC_own c) fun v => own_store (offC_own c) rfl (fin ?_))))
  exact got_start.trans (h _ _ _)

end

end Cert.TpMlp

end
-- ==== Proof.PartA.lean ====
/-
  The parts of the body, one by one.
-/
module

public import proofs.«01_k».proof.Proof.Steps

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {A : Args F} {K : GSem nD τ sig → ℕ} {c : Dev nD}

theorem t2 {U KK : sProp 𝕄} {v2} {w1} {w2} {Q} (h : SA A K c 0 U KK 0 2 0 0 1 0 0 ⊢ Q ⟨⟩) :
    SA A K c 0 U KK 0 0 0 0 0 0 0 ⊢ WP c (k0_part2 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c false)) w1 (W (nx c true)) w2) Q := by
  rw [k0_part2_eq_skeleton]; unfold k0_part2_skel
  exact gsR (ck_zero _ _) (sem19 _ _ (offS_own _) _) (offH0_own _) (offH0_own _) <| gsR (ck_zero _ _) (sem20 _ _ (offS_own _) _) (offH1_own _) (offH1_own _) <| gsL (ck_zero _ _) (sem19 _ _ (offS_own _) _) (offH0_own _) (offH0_own _) <| fin h

theorem t3 {U KK : sProp 𝕄} {v2} {w1} {Q} (h : ∀ (w3 : k0_chk3 (W (ck c true 1))) (w4 : k0_chk4 (W (ck c false 1))), SA A K c 0 U KK 1 2 0 0 2 0 1 ⊢ Q ⟨((W (ck c true 1))), w3, ((W (ck c false 1))), w4⟩) :
    SA A K c 0 U KK 0 2 0 0 1 0 0 ⊢ WP c (k0_part3 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c false)) w1) Q := by
  rw [k0_part3_eq_skeleton]; unfold k0_part3_skel
  exact gsL (ck_zero _ _) (sem20 _ _ (offS_own _) _) (offH1_own _) (offH1_own _) <| op_xown (offC_own _) <| op_in2 <| op_in3 <| op_ydead fun _ => yO (offC_own _) rfl <| op_tab 4 rfl <| chk (chkA _) <| op_tab 20 rfl <| chk (chkA _) <| grR (sem19 _ _ (offS_W _) _) <| fin (h _ _)

theorem t4 {U KK : sProp 𝕄} {w2} {w3} {Q} (h : ∀ (b0 : BitVec 32), SA A K c 0 U KK 2 3 2 0 2 0 1 ⊢ Q b0) :
    SA A K c 0 U KK 1 2 0 0 2 0 1 ⊢ WP c (k0_part4 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) (W (nx c true)) w2 (W (ck c true 1)) w3) Q := by
  rw [k0_part4_eq_skeleton]; unfold k0_part4_skel
  exact gwR <| gsR rfl (sem19 _ _ (offS_W _) _) (offH0_W _) (offH0_W _) <| grR (sem20 _ _ (offS_W _) _) <| gwR <| fin (h _)

theorem t5 {U KK : sProp 𝕄} {w2} {w3} {w4} {v123} {Q} (h : SA A K c 0 U KK 2 4 2 1 2 1 1 ⊢ Q ⟨⟩) :
    SA A K c 0 U KK 2 3 2 0 2 0 1 ⊢ WP c (k0_part5 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) (W (nx c true)) w2 (W (ck c true 1)) w3 (W (ck c false 1)) w4 v123) Q := by
  rw [k0_part5_eq_skeleton]; unfold k0_part5_skel
  exact gsR rfl (sem20 _ _ (offS_W _) _) (offH1_W _) (offH1_W _) <| grL (sem19 _ _ (offS_W _) _) <| gwL <| fin h

theorem t6 {U KK : sProp 𝕄} {w1} {w3} {w4} {Q} (h : SA A K c 0 U KK 2 4 2 2 4 2 1 ⊢ Q (k0_pay4 (xb A 0 (ck c true 1)) (A.wi 0 c))) :
    SA A K c 0 U KK 2 4 2 1 2 1 1 ⊢ WP c (k0_part6 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) w1 (W (nx c true)) (W (ck c true 1)) w3 (W (ck c false 1)) w4) Q := by
  rw [k0_part6_eq_skeleton]; unfold k0_part6_skel
  exact gsL rfl (sem19 _ _ (offS_W _) _) (offH0_W _) (offH0_W _) <| grL (sem20 _ _ (offS_W _) _) <| gwL <| gsL rfl (sem20 _ _ (offS_W _) _) (offH1_W _) (offH1_W _) <| xC true 0 <| op_in2 <| fin h

theorem t7 {U KK : sProp 𝕄} {w3} {w4} {Q} (h : ∀ (w5 : k0_chk5 (W (ck c true 2))) (w6 : k0_chk6 (W (ck c false 2))), SA A K c 0 U KK 2 4 2 2 4 2 3 ⊢ Q ⟨((W (ck c true 2))), w5, ((W (ck c false 2))), w6⟩) :
    SA A K c 0 U KK 2 4 2 2 4 2 1 ⊢ WP c (k0_part7 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 1)) w3 (W (ck c false 1)) w4 (k0_pay4 (xb A 0 (ck c true 1)) (A.wi 0 c))) Q := by
  rw [k0_part7_eq_skeleton]; unfold k0_part7_skel
  exact op_in3 <| op_ydead fun _ => yC true 1 rfl <| xC false 0 <| op_in2 <| op_in3 <| op_ydead fun _ => yC false 1 rfl <| op_tab 5 rfl <| chk (chkA _) <| op_tab 21 rfl <| chk (chkA _) <| fin (h _ _)

theorem t8 {U KK : sProp 𝕄} {w2} {w3} {w5} {Q} (h : SA A K c 0 U KK 4 5 3 2 4 2 3 ⊢ Q ⟨⟩) :
    SA A K c 0 U KK 2 4 2 2 4 2 3 ⊢ WP c (k0_part8 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 1)) w3 (W (ck c true 2)) w5) Q := by
  rw [k0_part8_eq_skeleton]; unfold k0_part8_skel
  exact grR (sem19 _ _ (offS_W _) _) <| gwR <| gsR rfl (sem19 _ _ (offS_W _) _) (offH0_W _) (offH0_W _) <| grR (sem20 _ _ (offS_W _) _) <| fin h

theorem t9 {U KK : sProp 𝕄} {w2} {w3} {w4} {w5} {w6} {Q} (h : ∀ (b0 : BitVec 32) (b1 : BitVec 32), SA A K c 0 U KK 4 6 4 3 4 3 3 ⊢ Q ⟨b0, b1⟩) :
    SA A K c 0 U KK 4 5 3 2 4 2 3 ⊢ WP c (k0_part9 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 1)) w3 (W (ck c false 1)) w4 (W (ck c true 2)) w5 (W (ck c false 2)) w6) Q := by
  rw [k0_part9_eq_skeleton]; unfold k0_part9_skel
  exact gwR <| gsR rfl (sem20 _ _ (offS_W _) _) (offH1_W _) (offH1_W _) <| grL (sem19 _ _ (offS_W _) _) <| gwL <| fin (h _ _)

theorem t10 {U KK : sProp 𝕄} {w1} {w4} {w6} {v281} {c0_i32_205 : BitVec 32} {Q} (h : SA A K c 0 U KK 4 6 4 4 6 4 3 ⊢ Q ⟨⟩) :
    SA A K c 0 U KK 4 6 4 3 4 3 3 ⊢ WP c (k0_part10 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 1)) w4 (W (ck c true 2)) (W (ck c false 2)) w6 v281 c0_i32_205) Q := by
  rw [k0_part10_eq_skeleton]; unfold k0_part10_skel
  exact gsL rfl (sem19 _ _ (offS_W _) _) (offH0_W _) (offH0_W _) <| grL (sem20 _ _ (offS_W _) _) <| gwL <| gsL rfl (sem20 _ _ (offS_W _) _) (offH1_W _) (offH1_W _) <| fin h

theorem t11 {U KK : sProp 𝕄} {w5} {w6} {Q} (h : ∀ (w7 : k0_chk7 (W (ck c true 3))) (w8 : k0_chk8 (W (ck c false 3))), SA A K c 0 U KK 4 6 4 4 6 4 5 ⊢ Q ⟨((W (ck c true 3))), w7, ((W (ck c false 3))), w8⟩) :
    SA A K c 0 U KK 4 6 4 4 6 4 3 ⊢ WP c (k0_part11 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 2)) w5 (W (ck c false 2)) w6) Q := by
  rw [k0_part11_eq_skeleton]; unfold k0_part11_skel
  exact xC true 1 <| op_in2 <| op_in3 <| op_ydead fun _ => yC true 2 rfl <| xC false 1 <| op_in2 <| op_in3 <| op_ydead fun _ => yC false 2 rfl <| op_tab 6 rfl <| chk (chkA _) <| op_tab 22 rfl <| chk (chkA _) <| fin (h _ _)

theorem t12 {U KK : sProp 𝕄} {w2} {w5} {w7} {Q} (h : SA A K c 0 U KK 5 7 5 4 6 4 5 ⊢ Q ⟨⟩) :
    SA A K c 0 U KK 4 6 4 4 6 4 5 ⊢ WP c (k0_part12 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 2)) w5 (W (ck c true 3)) w7) Q := by
  rw [k0_part12_eq_skeleton]; unfold k0_part12_skel
  exact grR (sem19 _ _ (offS_W _) _) <| gwR <| gsR rfl (sem19 _ _ (offS_W _) _) (offH0_W _) (offH0_W _) <| fin h

theorem t13 {U KK : sProp 𝕄} {w2} {w5} {w6} {w7} {w8} {Q} (h : SA A K c 0 U KK 6 8 6 5 6 5 5 ⊢ Q ⟨⟩) :
    SA A K c 0 U KK 5 7 5 4 6 4 5 ⊢ WP c (k0_part13 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 2)) w5 (W (ck c false 2)) w6 (W (ck c true 3)) w7 (W (ck c false 3)) w8) Q := by
  rw [k0_part13_eq_skeleton]; unfold k0_part13_skel
  exact grR (sem20 _ _ (offS_W _) _) <| gwR <| gsR rfl (sem20 _ _ (offS_W _) _) (offH1_W _) (offH1_W _) <| grL (sem19 _ _ (offS_W _) _) <| gwL <| fin h

theorem t14 {U KK : sProp 𝕄} {w1} {w6} {w8} {Q} (h : SA A K c 0 U KK 6 8 6 6 7 6 5 ⊢ Q ⟨⟩) :
    SA A K c 0 U KK 6 8 6 5 6 5 5 ⊢ WP c (k0_part14 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 2)) w6 (W (ck c false 3)) w8) Q := by
  rw [k0_part14_eq_skeleton]; unfold k0_part14_skel
  exact gsL rfl (sem19 _ _ (offS_W _) _) (offH0_W _) (offH0_W _) <| grL (sem20 _ _ (offS_W _) _) <| gwL <| fin h

theorem t15 {U KK : sProp 𝕄} {w1} {w7} {w8} {Q} (h : SA A K c 0 U KK 6 8 6 6 8 6 6 ⊢ Q (k0_pay10 (xb A 0 (ck c false 3)) (A.wi 0 c) (A.wo 0 c))) :
    SA A K c 0 U KK 6 8 6 6 7 6 5 ⊢ WP c (k0_part15 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 3)) w7 (W (ck c false 3)) w8) Q := by
  rw [k0_part15_eq_skeleton]; unfold k0_part15_skel
  exact gsL rfl (sem20 _ _ (offS_W _) _) (offH1_W _) (offH1_W _) <| xC true 2 <| op_in2 <| op_in3 <| op_ydead fun _ => yC true 3 rfl <| xC false 2 <| op_in2 <| op_in3 <| op_ydead fun _ => fin h

theorem t16 {U KK : sProp 𝕄} {w2} {w7} {w8} {Q} (h : ∀ (w9 : k0_chk9 (W (ck c true 4))) (w10 : k0_chk10 (W (ck c false 4))) (b2 : BitVec 32), SA A K c 0 U KK 7 9 7 6 8 6 7 ⊢ Q ⟨((W (ck c true 4))), w9, ((W (ck c false 4))), w10, b2⟩) :
    SA A K c 0 U KK 6 8 6 6 8 6 6 ⊢ WP c (k0_part16 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 3)) w7 (W (ck c false 3)) w8 (k0_pay10 (xb A 0 (ck c false 3)) (A.wi 0 c) (A.wo 0 c))) Q := by
  rw [k0_part16_eq_skeleton]; unfold k0_part16_skel
  exact yC false 3 rfl <| op_tab 7 rfl <| chk (chkA _) <| op_tab 23 rfl <| chk (chkA _) <| grR (sem19 _ _ (offS_W _) _) <| gwR <| gsR rfl (sem19 _ _ (offS_W _) _) (offH0_W _) (offH0_W _) <| fin (h _ _ _)

theorem t17 {U KK : sProp 𝕄} {w2} {w7} {w9} {w10} {v507} {Q} (h : SA A K c 0 U KK 8 10 8 7 8 6 7 ⊢ Q ⟨⟩) :
    SA A K c 0 U KK 7 9 7 6 8 6 7 ⊢ WP c (k0_part17 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 3)) w7 (W (ck c true 4)) w9 (W (ck c false 4)) w10 v507) Q := by
  rw [k0_part17_eq_skeleton]; unfold k0_part17_skel
  exact grR (sem20 _ _ (offS_W _) _) <| gwR <| gsR rfl (sem20 _ _ (offS_W _) _) (offH1_W _) (offH1_W _) <| grL (sem19 _ _ (offS_W _) _) <| fin h

theorem t18 {U KK : sProp 𝕄} {w1} {w8} {w10} {Q} (h : ∀ (b0 : BitVec 32), SA A K c 0 U KK 8 10 8 8 9 8 7 ⊢ Q b0) :
    SA A K c 0 U KK 8 10 8 7 8 6 7 ⊢ WP c (k0_part18 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 3)) w8 (W (ck c false 4)) w10) Q := by
  rw [k0_part18_eq_skeleton]; unfold k0_part18_skel
  exact gwL <| gsL rfl (sem19 _ _ (offS_W _) _) (offH0_W _) (offH0_W _) <| grL (sem20 _ _ (offS_W _) _) <| gwL <| fin (h _)

theorem t19 {U KK : sProp 𝕄} {w1} {w9} {w10} {c1_i32_419 : BitVec 32} {Q} (h : SA A K c 0 U KK 8 10 8 8 10 8 8 ⊢ Q ⟨(k0_pay13 (xb A 0 (ck c false 4)) (A.wi 0 c)), (k0_pay14 (A.wo 0 c))⟩) :
    SA A K c 0 U KK 8 10 8 8 9 8 7 ⊢ WP c (k0_part19 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 4)) w9 (W (ck c false 4)) w10 c1_i32_419) Q := by
  rw [k0_part19_eq_skeleton]; unfold k0_part19_skel
  exact gsL rfl (sem20 _ _ (offS_W _) _) (offH1_W _) (offH1_W _) <| xC true 3 <| op_in2 <| op_in3 <| op_ydead fun _ => yC true 4 rfl <| xC false 3 <| op_in2 <| op_in3 <| fin h

theorem t20 {U KK : sProp 𝕄} {w9} {w10} {Q} (h : ∀ (w11 : k0_chk11 (W (ck c true 5))) (w12 : k0_chk12 (W (ck c false 5))), SA A K c 0 U KK 9 10 9 8 10 8 9 ⊢ Q ⟨((W (ck c true 5))), w11, ((W (ck c false 5))), w12⟩) :
    SA A K c 0 U KK 8 10 8 8 10 8 8 ⊢ WP c (k0_part20 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 4)) w9 (W (ck c false 4)) w10 (k0_pay13 (xb A 0 (ck c false 4)) (A.wi 0 c)) (k0_pay14 (A.wo 0 c))) Q := by
  rw [k0_part20_eq_skeleton]; unfold k0_part20_skel
  exact op_ydead fun _ => yC false 4 rfl <| op_tab 8 rfl <| chk (chkA _) <| op_tab 24 rfl <| chk (chkA _) <| grR (sem19 _ _ (offS_W _) _) <| gwR <| fin (h _ _)

theorem t21 {U KK : sProp 𝕄} {w2} {w9} {w11} {w12} {Q} (h : SA A K c 0 U KK 10 12 10 8 10 8 9 ⊢ Q ⟨⟩) :
    SA A K c 0 U KK 9 10 9 8 10 8 9 ⊢ WP c (k0_part21 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 4)) w9 (W (ck c true 5)) w11 (W (ck c false 5)) w12) Q := by
  rw [k0_part21_eq_skeleton]; unfold k0_part21_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t22 {U KK : sProp 𝕄} {w1} {w10} {w12} {Q} (h : ∀ (b0 : BitVec 32), SA A K c 0 U KK 10 12 10 10 11 10 9 ⊢ Q b0) :
    SA A K c 0 U KK 10 12 10 8 10 8 9 ⊢ WP c (k0_part22 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 4)) w10 (W (ck c false 5)) w12) Q := by
  rw [k0_part22_eq_skeleton]; unfold k0_part22_skel
  exact grL (sem19 _ _ (offS_W _) _) <| gwL <| gsL rfl (sem19 _ _ (offS_W _) _) (offH0_W _) (offH0_W _) <| grL (sem20 _ _ (offS_W _) _) <| gwL <| fin (h _)

theorem t23 {U KK : sProp 𝕄} {w1} {w11} {w12} {v697} {Q} (h : SA A K c 0 U KK 10 12 10 10 12 10 10 ⊢ Q ⟨(k0_pay17 (xb A 0 (ck c false 5))), (k0_pay18 (A.wi 0 c)), (((constant S256x512 .f32 0x00000000#32 : FVec F S256x512 .f32)))⟩) :
    SA A K c 0 U KK 10 12 10 10 11 10 9 ⊢ WP c (k0_part23 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 5)) w11 (W (ck c false 5)) w12 v697) Q := by
  rw [k0_part23_eq_skeleton]; unfold k0_part23_skel
  exact gsL rfl (sem20 _ _ (offS_W _) _) (offH1_W _) (offH1_W _) <| xC true 4 <| op_in2 <| op_in3 <| op_ydead fun _ => yC true 5 rfl <| xC false 4 <| op_in2 <| fin h

theorem t24 {U KK : sProp 𝕄} {w11} {w12} {Q} (h : ∀ (w13 : k0_chk13 (W (ck c true 6))) (w14 : k0_chk14 (W (ck c false 6))) (b2 : BitVec 32) (b3 : BitVec 32), SA A K c 0 U KK 11 12 11 10 12 10 11 ⊢ Q ⟨((W (ck c true 6))), w13, ((W (ck c false 6))), w14, b2, b3⟩) :
    SA A K c 0 U KK 10 12 10 10 12 10 10 ⊢ WP c (k0_part24 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 5)) w11 (W (ck c false 5)) w12 (k0_pay17 (xb A 0 (ck c false 5))) (k0_pay18 (A.wi 0 c)) ((constant S256x512 .f32 0x00000000#32 : FVec F S256x512 .f32))) Q := by
  rw [k0_part24_eq_skeleton]; unfold k0_part24_skel
  exact op_in3 <| op_ydead fun _ => yC false 5 rfl <| op_tab 9 rfl <| chk (chkA _) <| op_tab 25 rfl <| chk (chkA _) <| grR (sem19 _ _ (offS_W _) _) <| gwR <| fin (h _ _ _ _)

theorem t25 {U KK : sProp 𝕄} {w2} {w11} {w13} {v761} {c0_i32_559 : BitVec 32} {Q} (h : SA A K c 0 U KK 12 14 12 10 12 10 11 ⊢ Q ⟨⟩) :
    SA A K c 0 U KK 11 12 11 10 12 10 11 ⊢ WP c (k0_part25 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 5)) w11 (W (ck c true 6)) w13 (W (ck c false 6)) v761 c0_i32_559) Q := by
  rw [k0_part25_eq_skeleton]; unfold k0_part25_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t26 {U KK : sProp 𝕄} {w1} {w12} {w14} {Q} (h : SA A K c 0 U KK 12 14 12 12 13 11 11 ⊢ Q ⟨⟩) :
    SA A K c 0 U KK 12 14 12 10 12 10 11 ⊢ WP c (k0_part26 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 5)) w12 (W (ck c false 6)) w14) Q := by
  rw [k0_part26_eq_skeleton]; unfold k0_part26_skel
  exact grL (sem19 _ _ (offS_W _) _) <| gwL <| gsL rfl (sem19 _ _ (offS_W _) _) (offH0_W _) (offH0_W _) <| grL (sem20 _ _ (offS_W _) _) <| fin h

theorem t27 {U KK : sProp 𝕄} {w1} {w12} {w13} {w14} {Q} (h : SA A K c 0 U KK 12 14 12 12 14 12 12 ⊢ Q ⟨⟩) :
    SA A K c 0 U KK 12 14 12 12 13 11 11 ⊢ WP c (k0_part27 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 5)) w12 (W (ck c true 6)) w13 (W (ck c false 6)) w14) Q := by
  rw [k0_part27_eq_skeleton]; unfold k0_part27_skel
  exact gwL <| gsL rfl (sem20 _ _ (offS_W _) _) (offH1_W _) (offH1_W _) <| xC true 5 <| op_in2 <| op_in3 <| op_ydead fun _ => yC true 6 rfl <| fin h

theorem t28 {U KK : sProp 𝕄} {w13} {w14} {Q} (h : ∀ (w15 : k0_chk15 (W (ck c true 7))) (w16 : k0_chk16 (W (ck c false 7))), SA A K c 0 U KK 13 14 13 12 14 12 13 ⊢ Q ⟨((W (ck c true 7))), w15, ((W (ck c false 7))), w16⟩) :
    SA A K c 0 U KK 12 14 12 12 14 12 12 ⊢ WP c (k0_part28 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 6)) w13 (W (ck c false 6)) w14) Q := by
  rw [k0_part28_eq_skeleton]; unfold k0_part28_skel
  exact xC false 5 <| op_in2 <| op_in3 <| op_ydead fun _ => yC false 6 rfl <| op_tab 10 rfl <| chk (chkA _) <| op_tab 26 rfl <| chk (chkA _) <| grR (sem19 _ _ (offS_W _) _) <| gwR <| fin (h _ _)

theorem t29 {U KK : sProp 𝕄} {w2} {w13} {w15} {Q} (h : SA A K c 0 U KK 14 15 14 12 14 12 13 ⊢ Q ⟨⟩) :
    SA A K c 0 U KK 13 14 13 12 14 12 13 ⊢ WP c (k0_part29 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 6)) w13 (W (ck c true 7)) w15) Q := by
  rw [k0_part29_eq_skeleton]; unfold k0_part29_skel
  exact gsR rfl (sem19 _ _ (offS_W _) _) (offH0_W _) (offH0_W _) <| grR (sem20 _ _ (offS_W _) _) <| gwR <| fin h

theorem t30 {U KK : sProp 𝕄} {w1} {w2} {w14} {w15} {w16} {Q} (h : SA A K c 0 U KK 14 16 14 13 15 13 13 ⊢ Q ⟨⟩) :
    SA A K c 0 U KK 14 15 14 12 14 12 13 ⊢ WP c (k0_part30 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 6)) w14 (W (ck c true 7)) w15 (W (ck c false 7)) w16) Q := by
  rw [k0_part30_eq_skeleton]; unfold k0_part30_skel
  exact gsR rfl (sem20 _ _ (offS_W _) _) (offH1_W _) (offH1_W _) <| grL (sem19 _ _ (offS_W _) _) <| gwL <| gsL rfl (sem19 _ _ (offS_W _) _) (offH0_W _) (offH0_W _) <| fin h

theorem t31 {U KK : sProp 𝕄} {w1} {w14} {w15} {w16} {Q} (h : SA A K c 0 U KK 14 16 14 14 16 14 13 ⊢ Q (k0_pay22 (xb A 0 (ck c true 7)) (A.wi 0 c) (A.wo 0 c))) :
    SA A K c 0 U KK 14 16 14 13 15 13 13 ⊢ WP c (k0_part31 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 6)) w14 (W (ck c true 7)) w15 (W (ck c false 7)) w16) Q := by
  rw [k0_part31_eq_skeleton]; unfold k0_part31_skel
  exact grL (sem20 _ _ (offS_W _) _) <| gwL <| gsL rfl (sem20 _ _ (offS_W _) _) (offH1_W _) (offH1_W _) <| xC true 6 <| op_in2 <| op_in3 <| fin h

theorem t32 {U KK : sProp 𝕄} {w15} {w16} {Q} (h : ∀ (w17 : k0_chk17 (W (ck c true 8))) (w18 : k0_chk18 (W (ck c false 8))), SA A K c 0 U KK 15 16 14 14 16 14 15 ⊢ Q ⟨((W (ck c true 8))), w17, ((W (ck c false 8))), w18⟩) :
    SA A K c 0 U KK 14 16 14 14 16 14 13 ⊢ WP c (k0_part32 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 7)) w15 (W (ck c false 7)) w16 (k0_pay22 (xb A 0 (ck c true 7)) (A.wi 0 c) (A.wo 0 c))) Q := by
  rw [k0_part32_eq_skeleton]; unfold k0_part32_skel
  exact op_ydead fun _ => yC true 7 rfl <| xC false 6 <| op_in2 <| op_in3 <| op_ydead fun _ => yC false 7 rfl <| op_tab 11 rfl <| chk (chkA _) <| op_tab 27 rfl <| chk (chkA _) <| grR (sem19 _ _ (offS_W _) _) <| fin (h _ _)

theorem t33 {U KK : sProp 𝕄} {w2} {w15} {w17} {Q} (h : ∀ (b0 : BitVec 32), SA A K c 0 U KK 16 17 16 14 16 14 15 ⊢ Q b0) :
    SA A K c 0 U KK 15 16 14 14 16 14 15 ⊢ WP c (k0_part33 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 7)) w15 (W (ck c true 8)) w17) Q := by
  rw [k0_part33_eq_skeleton]; unfold k0_part33_skel
  exact gwR <| gsR rfl (sem19 _ _ (offS_W _) _) (offH0_W _) (offH0_W _) <| grR (sem20 _ _ (offS_W _) _) <| gwR <| fin (h _)

theorem t34 {U KK : sProp 𝕄} {w1} {w2} {w16} {w17} {w18} {c1_i32_773 : BitVec 32} {Q} (h : ∀ (b0 : BitVec 32), SA A K c 0 U KK 16 18 16 15 17 15 15 ⊢ Q b0) :
    SA A K c 0 U KK 16 17 16 14 16 14 15 ⊢ WP c (k0_part34 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 7)) w16 (W (ck c true 8)) w17 (W (ck c false 8)) w18 c1_i32_773) Q := by
  rw [k0_part34_eq_skeleton]; unfold k0_part34_skel
  exact gsR rfl (sem20 _ _ (offS_W _) _) (offH1_W _) (offH1_W _) <| grL (sem19 _ _ (offS_W _) _) <| gwL <| gsL rfl (sem19 _ _ (offS_W _) _) (offH0_W _) (offH0_W _) <| fin (h _)

theorem t35 {U KK : sProp 𝕄} {w1} {w16} {w17} {w18} {v1081} {Q} (h : SA A K c 0 U KK 16 18 16 16 18 16 15 ⊢ Q (k0_pay25 (xb A 0 (ck c true 8)) (A.wi 0 c))) :
    SA A K c 0 U KK 16 18 16 15 17 15 15 ⊢ WP c (k0_part35 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 7)) w16 (W (ck c true 8)) w17 (W (ck c false 8)) w18 v1081) Q := by
  rw [k0_part35_eq_skeleton]; unfold k0_part35_skel
  exact grL (sem20 _ _ (offS_W _) _) <| gwL <| gsL rfl (sem20 _ _ (offS_W _) _) (offH1_W _) (offH1_W _) <| xC true 7 <| op_in2 <| fin h

theorem t36 {U KK : sProp 𝕄} {w17} {w18} {Q} (h : ∀ (w19 : k0_chk19 (W (ck c true 9))) (w20 : k0_chk20 (W (ck c false 9))), SA A K c 0 U KK 16 18 16 16 18 16 17 ⊢ Q ⟨((W (ck c true 9))), w19, ((W (ck c false 9))), w20⟩) :
    SA A K c 0 U KK 16 18 16 16 18 16 15 ⊢ WP c (k0_part36 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 8)) w17 (W (ck c false 8)) w18 (k0_pay25 (xb A 0 (ck c true 8)) (A.wi 0 c))) Q := by
  rw [k0_part36_eq_skeleton]; unfold k0_part36_skel
  exact op_in3 <| op_ydead fun _ => yC true 8 rfl <| xC false 7 <| op_in2 <| op_in3 <| op_ydead fun _ => yC false 8 rfl <| op_tab 12 rfl <| chk (chkA _) <| op_tab 28 rfl <| chk (chkA _) <| fin (h _ _)

theorem t37 {U KK : sProp 𝕄} {w2} {w17} {w19} {Q} (h : ∀ (b0 : BitVec 32), SA A K c 0 U KK 18 19 18 16 18 16 17 ⊢ Q b0) :
    SA A K c 0 U KK 16 18 16 16 18 16 17 ⊢ WP c (k0_part37 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 8)) w17 (W (ck c true 9)) w19) Q := by
  rw [k0_part37_eq_skeleton]; unfold k0_part37_skel
  exact grR (sem19 _ _ (offS_W _) _) <| gwR <| gsR rfl (sem19 _ _ (offS_W _) _) (offH0_W _) (offH0_W _) <| grR (sem20 _ _ (offS_W _) _) <| gwR <| fin (h _)

theorem t38 {U KK : sProp 𝕄} {w2} {w18} {w19} {w20} {v1177} {Q} (h : SA A K c 0 U KK 18 20 18 17 18 17 17 ⊢ Q ⟨⟩) :
    SA A K c 0 U KK 18 19 18 16 18 16 17 ⊢ WP c (k0_part38 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c false 8)) w18 (W (ck c true 9)) w19 (W (ck c false 9)) w20 v1177) Q := by
  rw [k0_part38_eq_skeleton]; unfold k0_part38_skel
  exact gsR rfl (sem20 _ _ (offS_W _) _) (offH1_W _) (offH1_W _) <| grL (sem19 _ _ (offS_W _) _) <| gwL <| fin h

theorem t39 {U KK : sProp 𝕄} {w1} {w18} {w19} {w20} {Q} (h : SA A K c 0 U KK 18 20 18 18 20 18 17 ⊢ Q (k0_pay28 (xb A 0 (ck c true 9)))) :
    SA A K c 0 U KK 18 20 18 17 18 17 17 ⊢ WP c (k0_part39 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 8)) w18 (W (ck c true 9)) w19 (W (ck c false 9)) w20) Q := by
  rw [k0_part39_eq_skeleton]; unfold k0_part39_skel
  exact gsL rfl (sem19 _ _ (offS_W _) _) (offH0_W _) (offH0_W _) <| grL (sem20 _ _ (offS_W _) _) <| gwL <| gsL rfl (sem20 _ _ (offS_W _) _) (offH1_W _) (offH1_W _) <| xC true 8 <| fin h

theorem t40 {U KK : sProp 𝕄} {w19} {w20} {Q} (h : ∀ (w21 : k0_chk21 (W (ck c true 10))) (w22 : k0_chk22 (W (ck c false 10))), SA A K c 0 U KK 18 20 18 18 20 18 19 ⊢ Q ⟨((W (ck c true 10))), w21, ((W (ck c false 10))), w22⟩) :
    SA A K c 0 U KK 18 20 18 18 20 18 17 ⊢ WP c (k0_part40 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 9)) w19 (W (ck c false 9)) w20 (k0_pay28 (xb A 0 (ck c true 9)))) Q := by
  rw [k0_part40_eq_skeleton]; unfold k0_part40_skel
  exact op_in2 <| op_in3 <| op_ydead fun _ => yC true 9 rfl <| xC false 8 <| op_in2 <| op_in3 <| op_ydead fun _ => yC false 9 rfl <| op_tab 13 rfl <| chk (chkA _) <| op_tab 29 rfl <| chk (chkA _) <| fin (h _ _)

theorem t41 {U KK : sProp 𝕄} {w2} {w19} {w21} {Q} (h : SA A K c 0 U KK 20 21 19 18 20 18 19 ⊢ Q ⟨⟩) :
    SA A K c 0 U KK 18 20 18 18 20 18 19 ⊢ WP c (k0_part41 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 9)) w19 (W (ck c true 10)) w21) Q := by
  rw [k0_part41_eq_skeleton]; unfold k0_part41_skel
  exact grR (sem19 _ _ (offS_W _) _) <| gwR <| gsR rfl (sem19 _ _ (offS_W _) _) (offH0_W _) (offH0_W _) <| grR (sem20 _ _ (offS_W _) _) <| fin h

theorem t42 {U KK : sProp 𝕄} {w2} {w19} {w20} {w21} {w22} {Q} (h : SA A K c 0 U KK 20 22 20 19 20 19 19 ⊢ Q ⟨⟩) :
    SA A K c 0 U KK 20 21 19 18 20 18 19 ⊢ WP c (k0_part42 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 9)) w19 (W (ck c false 9)) w20 (W (ck c true 10)) w21 (W (ck c false 10)) w22) Q := by
  rw [k0_part42_eq_skeleton]; unfold k0_part42_skel
  exact gwR <| gsR rfl (sem20 _ _ (offS_W _) _) (offH1_W _) (offH1_W _) <| grL (sem19 _ _ (offS_W _) _) <| gwL <| fin h

theorem t43 {U KK : sProp 𝕄} {w1} {w20} {w22} {Q} (h : SA A K c 0 U KK 20 22 20 20 22 20 19 ⊢ Q ⟨⟩) :
    SA A K c 0 U KK 20 22 20 19 20 19 19 ⊢ WP c (k0_part43 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 9)) w20 (W (ck c false 10)) w22) Q := by
  rw [k0_part43_eq_skeleton]; unfold k0_part43_skel
  exact gsL rfl (sem19 _ _ (offS_W _) _) (offH0_W _) (offH0_W _) <| grL (sem20 _ _ (offS_W _) _) <| gwL <| gsL rfl (sem20 _ _ (offS_W _) _) (offH1_W _) (offH1_W _) <| fin h

theorem t44 {U KK : sProp 𝕄} {w21} {w22} {Q} (h : SA A K c 0 U KK 20 22 20 20 22 20 21 ⊢ Q ((W (ck c true 11)))) :
    SA A K c 0 U KK 20 22 20 20 22 20 19 ⊢ WP c (k0_part44 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 10)) w21 (W (ck c false 10)) w22) Q := by
  rw [k0_part44_eq_skeleton]; unfold k0_part44_skel
  exact xC true 9 <| op_in2 <| op_in3 <| op_ydead fun _ => yC true 10 rfl <| xC false 9 <| op_in2 <| op_in3 <| op_ydead fun _ => yC false 10 rfl <| tail <| op_tab 14 rfl <| fin h

theorem t45 {U KK : sProp 𝕄} {w2} {w21} {Q} (h : ∀ (w23 : k0_chk23 (W (ck c true 11))) (w24 : k0_chk24 (W (ck c false 11))), SA A K c 0 U KK 21 23 21 20 22 20 21 ⊢ Q ⟨w23, ((W (ck c false 11))), w24⟩) :
    SA A K c 0 U KK 20 22 20 20 22 20 21 ⊢ WP c (k0_part45 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 10)) w21 (W (ck c true 11))) Q := by
  rw [k0_part45_eq_skeleton]; unfold k0_part45_skel
  exact chk (chkA _) <| op_tab 30 rfl <| chk (chkA _) <| grR (sem19 _ _ (offS_W _) _) <| gwR <| gsR rfl (sem19 _ _ (offS_W _) _) (offH0_W _) (offH0_W _) <| fin (h _ _)

theorem t46 {U KK : sProp 𝕄} {w2} {w21} {w22} {w23} {w24} {Q} (h : SA A K c 0 U KK 22 24 22 21 22 21 21 ⊢ Q ⟨⟩) :
    SA A K c 0 U KK 21 23 21 20 22 20 21 ⊢ WP c (k0_part46 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 10)) w21 (W (ck c false 10)) w22 (W (ck c true 11)) w23 (W (ck c false 11)) w24) Q := by
  rw [k0_part46_eq_skeleton]; unfold k0_part46_skel
  exact grR (sem20 _ _ (offS_W _) _) <| gwR <| gsR rfl (sem20 _ _ (offS_W _) _) (offH1_W _) (offH1_W _) <| grL (sem19 _ _ (offS_W _) _) <| gwL <| fin h

theorem t47 {U KK : sProp 𝕄} {w1} {w22} {w24} {Q} (h : SA A K c 0 U KK 22 24 22 22 23 22 21 ⊢ Q ⟨⟩) :
    SA A K c 0 U KK 22 24 22 21 22 21 21 ⊢ WP c (k0_part47 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 10)) w22 (W (ck c false 11)) w24) Q := by
  rw [k0_part47_eq_skeleton]; unfold k0_part47_skel
  exact gsL rfl (sem19 _ _ (offS_W _) _) (offH0_W _) (offH0_W _) <| grL (sem20 _ _ (offS_W _) _) <| gwL <| fin h

theorem t48 {U KK : sProp 𝕄} {w1} {w23} {w24} {Q} (h : ∀ (b0 : BitVec 32), SA A K c 0 U KK 22 24 22 22 24 22 22 ⊢ Q ⟨(k0_pay34 (xb A 0 (ck c false 11)) (A.wi 0 c) (A.wo 0 c)), b0⟩) :
    SA A K c 0 U KK 22 24 22 22 23 22 21 ⊢ WP c (k0_part48 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 11)) w23 (W (ck c false 11)) w24) Q := by
  rw [k0_part48_eq_skeleton]; unfold k0_part48_skel
  exact gsL rfl (sem20 _ _ (offS_W _) _) (offH1_W _) (offH1_W _) <| xC true 10 <| op_in2 <| op_in3 <| op_ydead fun _ => yC true 11 rfl <| xC false 10 <| op_in2 <| op_in3 <| fin (h _)

theorem t49 {U KK : sProp 𝕄} {w2} {w23} {w24} {v1530} {Q} (h : ∀ (w25 : k0_chk25 (W (ck c true 12))) (w26 : k0_chk26 (W (ck c false 12))) (b2 : BitVec 32), SA A K c 0 U KK 23 25 23 22 24 22 23 ⊢ Q ⟨((W (ck c true 12))), w25, ((W (ck c false 12))), w26, b2⟩) :
    SA A K c 0 U KK 22 24 22 22 24 22 22 ⊢ WP c (k0_part49 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 11)) w23 (W (ck c false 11)) w24 (k0_pay34 (xb A 0 (ck c false 11)) (A.wi 0 c) (A.wo 0 c)) v1530) Q := by
  rw [k0_part49_eq_skeleton]; unfold k0_part49_skel
  exact op_ydead fun _ => yC false 11 rfl <| op_tab 15 rfl <| chk (chkA _) <| op_tab 31 rfl <| chk (chkA _) <| grR (sem19 _ _ (offS_W _) _) <| gwR <| gsR rfl (sem19 _ _ (offS_W _) _) (offH0_W _) (offH0_W _) <| fin (h _ _ _)

theorem t50 {U KK : sProp 𝕄} {w2} {w23} {w25} {w26} {v1561} {Q} (h : SA A K c 0 U KK 24 26 24 23 24 22 23 ⊢ Q ⟨⟩) :
    SA A K c 0 U KK 23 25 23 22 24 22 23 ⊢ WP c (k0_part50 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 11)) w23 (W (ck c true 12)) w25 (W (ck c false 12)) w26 v1561) Q := by
  rw [k0_part50_eq_skeleton]; unfold k0_part50_skel
  exact grR (sem20 _ _ (offS_W _) _) <| gwR <| gsR rfl (sem20 _ _ (offS_W _) _) (offH1_W _) (offH1_W _) <| grL (sem19 _ _ (offS_W _) _) <| fin h

theorem t51 {U KK : sProp 𝕄} {w1} {w24} {w26} {Q} (h : ∀ (b0 : BitVec 32), SA A K c 0 U KK 24 26 24 24 25 24 23 ⊢ Q b0) :
    SA A K c 0 U KK 24 26 24 23 24 22 23 ⊢ WP c (k0_part51 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 11)) w24 (W (ck c false 12)) w26) Q := by
  rw [k0_part51_eq_skeleton]; unfold k0_part51_skel
  exact gwL <| gsL rfl (sem19 _ _ (offS_W _) _) (offH0_W _) (offH0_W _) <| grL (sem20 _ _ (offS_W _) _) <| gwL <| fin (h _)

theorem t52 {U KK : sProp 𝕄} {w1} {w25} {w26} {v1623} {Q} (h : SA A K c 0 U KK 24 26 24 24 26 24 24 ⊢ Q (k0_pay37 (xb A 0 (ck c false 12)) (A.wi 0 c))) :
    SA A K c 0 U KK 24 26 24 24 25 24 23 ⊢ WP c (k0_part52 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 12)) w25 (W (ck c false 12)) w26 v1623) Q := by
  rw [k0_part52_eq_skeleton]; unfold k0_part52_skel
  exact gsL rfl (sem20 _ _ (offS_W _) _) (offH1_W _) (offH1_W _) <| xC true 11 <| op_in2 <| op_in3 <| op_ydead fun _ => yC true 12 rfl <| xC false 11 <| op_in2 <| fin h

theorem t53 {U KK : sProp 𝕄} {w25} {w26} {Q} (h : ∀ (w27 : k0_chk27 (W (ck c true 13))) (w28 : k0_chk28 (W (ck c false 13))), SA A K c 0 U KK 25 26 25 24 26 24 25 ⊢ Q ⟨((W (ck c true 13))), w27, ((W (ck c false 13))), w28⟩) :
    SA A K c 0 U KK 24 26 24 24 26 24 24 ⊢ WP c (k0_part53 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 12)) w25 (W (ck c false 12)) w26 (k0_pay37 (xb A 0 (ck c false 12)) (A.wi 0 c))) Q := by
  rw [k0_part53_eq_skeleton]; unfold k0_part53_skel
  exact op_in3 <| op_ydead fun _ => yC false 12 rfl <| op_tab 16 rfl <| chk (chkA _) <| op_tab 32 rfl <| chk (chkA _) <| grR (sem19 _ _ (offS_W _) _) <| gwR <| fin (h _ _)

theorem t54 {U KK : sProp 𝕄} {w2} {w25} {w27} {Q} (h : SA A K c 0 U KK 26 28 26 24 26 24 25 ⊢ Q ⟨⟩) :
    SA A K c 0 U KK 25 26 25 24 26 24 25 ⊢ WP c (k0_part54 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 12)) w25 (W (ck c true 13)) w27 (W (ck c false 13))) Q := by
  rw [k0_part54_eq_skeleton]; unfold k0_part54_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t55 {U KK : sProp 𝕄} {w1} {w26} {w28} {Q} (h : SA A K c 0 U KK 26 28 26 26 27 25 25 ⊢ Q ⟨⟩) :
    SA A K c 0 U KK 26 28 26 24 26 24 25 ⊢ WP c (k0_part55 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 12)) w26 (W (ck c false 13)) w28) Q := by
  rw [k0_part55_eq_skeleton]; unfold k0_part55_skel
  exact grL (sem19 _ _ (offS_W _) _) <| gwL <| gsL rfl (sem19 _ _ (offS_W _) _) (offH0_W _) (offH0_W _) <| grL (sem20 _ _ (offS_W _) _) <| fin h

theorem t56 {U KK : sProp 𝕄} {w1} {w26} {w27} {w28} {Q} (h : SA A K c 0 U KK 26 28 26 26 28 26 26 ⊢ Q (k0_pay40 (xb A 0 (ck c false 13)))) :
    SA A K c 0 U KK 26 28 26 26 27 25 25 ⊢ WP c (k0_part56 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 12)) w26 (W (ck c true 13)) w27 (W (ck c false 13)) w28) Q := by
  rw [k0_part56_eq_skeleton]; unfold k0_part56_skel
  exact gwL <| gsL rfl (sem20 _ _ (offS_W _) _) (offH1_W _) (offH1_W _) <| xC true 12 <| op_in2 <| op_in3 <| op_ydead fun _ => yC true 13 rfl <| xC false 12 <| fin h

theorem t57 {U KK : sProp 𝕄} {w27} {w28} {Q} (h : ∀ (w29 : k0_chk29 (W (ck c true 14))) (w30 : k0_chk30 (W (ck c false 14))), SA A K c 0 U KK 27 28 27 26 28 26 27 ⊢ Q ⟨((W (ck c true 14))), w29, ((W (ck c false 14))), w30⟩) :
    SA A K c 0 U KK 26 28 26 26 28 26 26 ⊢ WP c (k0_part57 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 13)) w27 (W (ck c false 13)) w28 (k0_pay40 (xb A 0 (ck c false 13)))) Q := by
  rw [k0_part57_eq_skeleton]; unfold k0_part57_skel
  exact op_in2 <| op_in3 <| op_ydead fun _ => yC false 13 rfl <| op_tab 17 rfl <| chk (chkA _) <| op_tab 33 rfl <| chk (chkA _) <| grR (sem19 _ _ (offS_W _) _) <| gwR <| fin (h _ _)

theorem t58 {U KK : sProp 𝕄} {w2} {w27} {w29} {Q} (h : SA A K c 0 U KK 28 30 28 26 28 26 27 ⊢ Q ⟨⟩) :
    SA A K c 0 U KK 27 28 27 26 28 26 27 ⊢ WP c (k0_part58 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 13)) w27 (W (ck c true 14)) w29) Q := by
  rw [k0_part58_eq_skeleton]; unfold k0_part58_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t59 {U KK : sProp 𝕄} {w1} {w28} {w30} {Q} (h : SA A K c 0 U KK 28 30 28 27 29 27 27 ⊢ Q ⟨⟩) :
    SA A K c 0 U KK 28 30 28 26 28 26 27 ⊢ WP c (k0_part59 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 13)) w28 (W (ck c false 14)) w30) Q := by
  rw [k0_part59_eq_skeleton]; unfold k0_part59_skel
  exact grL (sem19 _ _ (offS_W _) _) <| gwL <| gsL rfl (sem19 _ _ (offS_W _) _) (offH0_W _) (offH0_W _) <| fin h

theorem t60 {U KK : sProp 𝕄} {w1} {w28} {w29} {w30} {Q} (h : SA A K c 0 U KK 28 30 28 28 30 28 27 ⊢ Q (k0_pay42 (xb A 0 (ck c true 14)) (A.wi 0 c) (A.wo 0 c))) :
    SA A K c 0 U KK 28 30 28 27 29 27 27 ⊢ WP c (k0_part60 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 13)) w28 (W (ck c true 14)) w29 (W (ck c false 14)) w30) Q := by
  rw [k0_part60_eq_skeleton]; unfold k0_part60_skel
  exact grL (sem20 _ _ (offS_W _) _) <| gwL <| gsL rfl (sem20 _ _ (offS_W _) _) (offH1_W _) (offH1_W _) <| xC true 13 <| op_in2 <| op_in3 <| op_ydead fun _ => fin h

theorem t61 {U KK : sProp 𝕄} {w29} {w30} {Q} (h : ∀ (w31 : k0_chk31 (W (ck c true 15))) (w32 : k0_chk32 (W (ck c false 15))), SA A K c 0 U KK 29 30 29 28 30 28 29 ⊢ Q ⟨((W (ck c true 15))), w31, ((W (ck c false 15))), w32⟩) :
    SA A K c 0 U KK 28 30 28 28 30 28 27 ⊢ WP c (k0_part61 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 14)) w29 (W (ck c false 14)) w30 (k0_pay42 (xb A 0 (ck c true 14)) (A.wi 0 c) (A.wo 0 c))) Q := by
  rw [k0_part61_eq_skeleton]; unfold k0_part61_skel
  exact yC true 14 rfl <| xC false 13 <| op_in2 <| op_in3 <| op_ydead fun _ => yC false 14 rfl <| op_tab 18 rfl <| chk (chkA _) <| op_tab 34 rfl <| chk (chkZ _) <| grR (sem19 _ _ (offS_W _) _) <| gwR <| fin (h _ _)

theorem t62 {U KK : sProp 𝕄} {w2} {w29} {w31} {Q} (h : SA A K c 0 U KK 30 31 30 28 30 28 29 ⊢ Q ⟨⟩) :
    SA A K c 0 U KK 29 30 29 28 30 28 29 ⊢ WP c (k0_part62 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 14)) w29 (W (ck c true 15)) w31) Q := by
  rw [k0_part62_eq_skeleton]; unfold k0_part62_skel
  exact gsR rfl (sem19 _ _ (offS_W _) _) (offH0_W _) (offH0_W _) <| grR (sem20 _ _ (offS_W _) _) <| gwR <| fin h

theorem t63 {U KK : sProp 𝕄} {w2} {w31} {w32} {Q} (h : ∀ (b0 : BitVec 32), SA A K c 0 U KK 30 32 30 30 30 28 29 ⊢ Q ⟨(k0_pay44 (xb A 0 (ck c true 15)) (A.wi 0 c) (A.wo 0 c)), b0⟩) :
    SA A K c 0 U KK 30 31 30 28 30 28 29 ⊢ WP c (k0_part63 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 15)) w31 (W (ck c false 15)) w32) Q := by
  rw [k0_part63_eq_skeleton]; unfold k0_part63_skel
  exact gsR rfl (sem20 _ _ (offS_W _) _) (offH1_W _) (offH1_W _) <| grL (sem19 _ _ (offS_W _) _) <| grL (sem20 _ _ (offS_W _) _) <| xC true 14 <| op_in2 <| op_in3 <| fin (h _)

theorem t64 {U KK : sProp 𝕄} {w31} {w32} {c256_i32_1484 : BitVec 32} {Q} (h : ∀ (w33 : k0_chk33 (W (ck c true 16))) (b1 : BitVec 32), SA A K c 0 U KK 31 32 30 30 30 28 31 ⊢ Q ⟨((W (ck c true 16))), w33, b1⟩) :
    SA A K c 0 U KK 30 32 30 30 30 28 29 ⊢ WP c (k0_part64 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 15)) w31 (W (ck c false 15)) w32 (k0_pay44 (xb A 0 (ck c true 15)) (A.wi 0 c) (A.wo 0 c)) c256_i32_1484) Q := by
  rw [k0_part64_eq_skeleton]; unfold k0_part64_skel
  exact op_ydead fun _ => yC true 15 rfl <| xC false 14 <| op_in2 <| op_in3 <| op_ydead fun _ => yC false 15 rfl <| op_tab 19 rfl <| chk (chkZ _) <| grR (sem19 _ _ (offS_W _) _) <| fin (h _ _)

theorem t65 {U KK : sProp 𝕄} {w31} {w33} {v2042} {Q} (h : SA A K c 0 U KK 32 32 32 30 30 28 32 ⊢ Q ⟨⟩) :
    SA A K c 0 U KK 31 32 30 30 30 28 31 ⊢ WP c (k0_part65 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 15)) w31 (W (ck c true 16)) w33 v2042) Q := by
  rw [k0_part65_eq_skeleton]; unfold k0_part65_skel
  exact grR (sem20 _ _ (offS_W _) _) <| xC true 15 <| op_in2 <| op_in3 <| op_ydead fun _ => yC true 16 rfl <| gwR <| gwR <| fin h

theorem t66 {U KK JJ : sProp 𝕄} {w2} {w30} {Q} (tr : SA A K c 0 U KK 32 32 32 30 30 30 32 ⊢ SB A K c 0 U JJ false 0 0 0 0 0 0 0 0) (h : SB A K c 0 U JJ false 0 1 1 0 0 1 0 0 ⊢ Q ⟨⟩) :
    SA A K c 0 U KK 32 32 32 30 30 28 32 ⊢ WP c (k0_part66 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c false 14)) w30) Q := by
  rw [k0_part66_eq_skeleton]; unfold k0_part66_skel
  exact gwL <| gwL <| tr.trans <| op_tab 2 rfl <| chk (chkB _) <| op_yload (rsc c true 0) (offC_W _) <| sdR fun _ => ssR rfl <| op_tab 3 rfl <| chk (chkB _) <| op_yload (rsc c false 0) (offC_W _) <| sdL fun _ => ssL rfl <| s0R <| fin h

theorem t67 {U KK : sProp 𝕄} {w1} {Q} (h : SB A K c 0 U KK false 1 2 1 0 0 1 1 0 ⊢ Q ⟨⟩) :
    SB A K c 0 U KK false 0 1 1 0 0 1 0 0 ⊢ WP c (k0_part67 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part67_eq_skeleton]; unfold k0_part67_skel
  exact s0L <| rrR <| op_tab 35 rfl <| chk (chkB _) <| slR 0 <| op_yload (rsc c true 1) (offC_W _) <| slR 0 <| stR 0 rfl <| fin h

theorem t68 {U KK : sProp 𝕄} {w2} {Q} (h : SB A K c 0 U KK false 1 2 2 0 1 1 1 0 ⊢ Q (k0_pay51 (Sm A 0 false 0 (nx c true)) (Y A 0 c (rsc c false 1)))) :
    SB A K c 0 U KK false 1 2 1 0 0 1 1 0 ⊢ WP c (k0_part68 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part68_eq_skeleton]; unfold k0_part68_skel
  exact rsR 0 <| rrL <| op_tab 50 rfl <| chk (chkB _) <| slL 0 <| op_yload (rsc c false 1) (offC_W _) <| slL 0 <| fin h

theorem t69 {U KK : sProp 𝕄} {w1} {Q} (h : SB A K c 0 U KK false 2 2 2 0 1 2 2 0 ⊢ Q (k0_pay52 (Sm A 0 true 1 (nx c false)) (Y A 0 c (rsc c true 2)))) :
    SB A K c 0 U KK false 1 2 2 0 1 1 1 0 ⊢ WP c (k0_part69 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay51 (Sm A 0 false 0 (nx c true)) (Y A 0 c (rsc c false 1)))) Q := by
  rw [k0_part69_eq_skeleton]; unfold k0_part69_skel
  exact stL 0 rfl <| rsL 0 <| rrR <| op_tab 36 rfl <| chk (chkB _) <| slR 1 <| op_yload (rsc c true 2) (offC_W _) <| fin h

theorem t70 {U KK : sProp 𝕄} {w2} {Q} (h : ∀ (w39 : k0_chk39 (W (rsc c false 2))), SB A K c 0 U KK false 2 3 3 1 2 2 2 0 ⊢ Q ⟨((W (rsc c false 2))), w39⟩) :
    SB A K c 0 U KK false 2 2 2 0 1 2 2 0 ⊢ WP c (k0_part70 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (k0_pay52 (Sm A 0 true 1 (nx c false)) (Y A 0 c (rsc c true 2)))) Q := by
  rw [k0_part70_eq_skeleton]; unfold k0_part70_skel
  exact slR 1 <| stR 1 rfl <| rwR <| rsR 1 <| rrL <| op_tab 51 rfl <| chk (chkB _) <| fin (h _)

theorem t71 {U KK : sProp 𝕄} {w1} {w39} {Q} (h : SB A K c 0 U KK false 2 3 3 1 2 3 3 1 ⊢ Q ⟨⟩) :
    SB A K c 0 U KK false 2 3 3 1 2 2 2 0 ⊢ WP c (k0_part71 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 2)) w39) Q := by
  rw [k0_part71_eq_skeleton]; unfold k0_part71_skel
  exact slL 1 <| op_yload (rsc c false 2) (offC_W _) <| slL 1 <| stL 1 rfl <| rwL <| rsL 1 <| fin h

theorem t72 {U KK : sProp 𝕄}  {Q} (h : SB A K c 0 U KK false 3 4 3 2 2 3 3 1 ⊢ Q ⟨⟩) :
    SB A K c 0 U KK false 2 3 3 1 2 3 3 1 ⊢ WP c (k0_part72 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part72_eq_skeleton]; unfold k0_part72_skel
  exact rrR <| op_tab 37 rfl <| chk (chkB _) <| slR 2 <| op_yload (rsc c true 3) (offC_W _) <| slR 2 <| stR 2 rfl <| rwR <| fin h

theorem t73 {U KK : sProp 𝕄} {w2} {Q} (h : SB A K c 0 U KK false 3 4 4 2 3 4 3 1 ⊢ Q ⟨⟩) :
    SB A K c 0 U KK false 3 4 3 2 2 3 3 1 ⊢ WP c (k0_part73 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part73_eq_skeleton]; unfold k0_part73_skel
  exact rsR 2 <| rrL <| op_tab 52 rfl <| chk (chkB _) <| slL 2 <| op_yload (rsc c false 3) (offC_W _) <| slL 2 <| stL 2 rfl <| fin h

theorem t74 {U KK : sProp 𝕄} {w1} {Q} (h : ∀ (w42 : k0_chk42 (W (rsc c true 4))), SB A K c 0 U KK false 4 4 4 2 3 4 4 2 ⊢ Q ⟨((W (rsc c true 4))), w42, (k0_pay57 (Sm A 0 true 3 (nx c false)))⟩) :
    SB A K c 0 U KK false 3 4 4 2 3 4 3 1 ⊢ WP c (k0_part74 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part74_eq_skeleton]; unfold k0_part74_skel
  exact rwL <| rsL 2 <| rrR <| op_tab 38 rfl <| chk (chkB _) <| slR 3 <| fin (h _)

theorem t75 {U KK : sProp 𝕄} {w2} {w42} {Q} (h : SB A K c 0 U KK false 4 5 5 3 3 4 4 2 ⊢ Q ⟨⟩) :
    SB A K c 0 U KK false 4 4 4 2 3 4 4 2 ⊢ WP c (k0_part75 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 4)) w42 (k0_pay57 (Sm A 0 true 3 (nx c false)))) Q := by
  rw [k0_part75_eq_skeleton]; unfold k0_part75_skel
  exact op_yload (rsc c true 4) (offC_W _) <| slR 3 <| stR 3 rfl <| rwR <| rsR 3 <| fin h

theorem t76 {U KK : sProp 𝕄}  {Q} (h : SB A K c 0 U KK false 4 5 5 3 4 5 4 3 ⊢ Q ⟨⟩) :
    SB A K c 0 U KK false 4 5 5 3 3 4 4 2 ⊢ WP c (k0_part76 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part76_eq_skeleton]; unfold k0_part76_skel
  exact rrL <| op_tab 53 rfl <| chk (chkB _) <| slL 3 <| op_yload (rsc c false 4) (offC_W _) <| slL 3 <| stL 3 rfl <| rwL <| fin h

theorem t77 {U KK : sProp 𝕄} {w1} {Q} (h : SB A K c 0 U KK false 5 6 5 3 4 5 5 3 ⊢ Q ⟨⟩) :
    SB A K c 0 U KK false 4 5 5 3 4 5 4 3 ⊢ WP c (k0_part77 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part77_eq_skeleton]; unfold k0_part77_skel
  exact rsL 3 <| rrR <| op_tab 39 rfl <| chk (chkB _) <| slR 4 <| op_yload (rsc c true 5) (offC_W _) <| slR 4 <| stR 4 rfl <| fin h

theorem t78 {U KK : sProp 𝕄} {w2} {Q} (h : SB A K c 0 U KK false 5 6 6 4 5 5 5 3 ⊢ Q (k0_pay61 (Sm A 0 false 4 (nx c true)) (Y A 0 c (rsc c false 5)))) :
    SB A K c 0 U KK false 5 6 5 3 4 5 5 3 ⊢ WP c (k0_part78 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part78_eq_skeleton]; unfold k0_part78_skel
  exact rwR <| rsR 4 <| rrL <| op_tab 54 rfl <| chk (chkB _) <| slL 4 <| op_yload (rsc c false 5) (offC_W _) <| fin h

theorem t79 {U KK : sProp 𝕄} {w1} {Q} (h : SB A K c 0 U KK false 5 6 6 4 5 6 6 4 ⊢ Q ⟨⟩) :
    SB A K c 0 U KK false 5 6 6 4 5 5 5 3 ⊢ WP c (k0_part79 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay61 (Sm A 0 false 4 (nx c true)) (Y A 0 c (rsc c false 5)))) Q := by
  rw [k0_part79_eq_skeleton]; unfold k0_part79_skel
  exact slL 4 <| stL 4 rfl <| rwL <| rsL 4 <| fin h

theorem t80 {U KK : sProp 𝕄}  {Q} (h : SB A K c 0 U KK false 6 7 6 5 5 6 6 4 ⊢ Q ⟨⟩) :
    SB A K c 0 U KK false 5 6 6 4 5 6 6 4 ⊢ WP c (k0_part80 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part80_eq_skeleton]; unfold k0_part80_skel
  exact rrR <| op_tab 40 rfl <| chk (chkB _) <| slR 5 <| op_yload (rsc c true 6) (offC_W _) <| slR 5 <| stR 5 rfl <| rwR <| fin h

theorem t81 {U KK : sProp 𝕄} {w2} {Q} (h : SB A K c 0 U KK false 6 7 7 5 6 7 6 4 ⊢ Q ⟨⟩) :
    SB A K c 0 U KK false 6 7 6 5 5 6 6 4 ⊢ WP c (k0_part81 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part81_eq_skeleton]; unfold k0_part81_skel
  exact rsR 5 <| rrL <| op_tab 55 rfl <| chk (chkB _) <| slL 5 <| op_yload (rsc c false 6) (offC_W _) <| slL 5 <| stL 5 rfl <| fin h

theorem t82 {U KK : sProp 𝕄} {w1} {Q} (h : SB A K c 0 U KK false 7 7 7 5 6 7 7 5 ⊢ Q (k0_pay65 (Sm A 0 true 6 (nx c false)) (Y A 0 c (rsc c true 7)))) :
    SB A K c 0 U KK false 6 7 7 5 6 7 6 4 ⊢ WP c (k0_part82 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part82_eq_skeleton]; unfold k0_part82_skel
  exact rwL <| rsL 5 <| rrR <| op_tab 41 rfl <| chk (chkB _) <| slR 6 <| op_yload (rsc c true 7) (offC_W _) <| fin h

theorem t83 {U KK : sProp 𝕄} {w2} {Q} (h : SB A K c 0 U KK false 7 8 8 6 7 7 7 5 ⊢ Q ⟨⟩) :
    SB A K c 0 U KK false 7 7 7 5 6 7 7 5 ⊢ WP c (k0_part83 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (k0_pay65 (Sm A 0 true 6 (nx c false)) (Y A 0 c (rsc c true 7)))) Q := by
  rw [k0_part83_eq_skeleton]; unfold k0_part83_skel
  exact slR 6 <| stR 6 rfl <| rwR <| rsR 6 <| rrL <| fin h

theorem t84 {U KK : sProp 𝕄} {w1} {Q} (h : SB A K c 0 U KK false 7 8 8 6 7 8 8 6 ⊢ Q ⟨⟩) :
    SB A K c 0 U KK false 7 8 8 6 7 7 7 5 ⊢ WP c (k0_part84 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part84_eq_skeleton]; unfold k0_part84_skel
  exact op_tab 56 rfl <| chk (chkB _) <| slL 6 <| op_yload (rsc c false 7) (offC_W _) <| slL 6 <| stL 6 rfl <| rwL <| rsL 6 <| fin h

theorem t85 {U KK : sProp 𝕄}  {Q} (h : SB A K c 0 U KK false 8 9 8 7 7 8 8 6 ⊢ Q ⟨⟩) :
    SB A K c 0 U KK false 7 8 8 6 7 8 8 6 ⊢ WP c (k0_part85 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part85_eq_skeleton]; unfold k0_part85_skel
  exact rrR <| op_tab 42 rfl <| chk (chkB _) <| slR 7 <| op_yload (rsc c true 8) (offC_W _) <| slR 7 <| stR 7 rfl <| rwR <| fin h

end

end Cert.TpMlp

end
-- ==== Proof.PartB.lean ====
/-
  The parts of the body, one by one.
-/
module

public import proofs.«01_k».proof.Proof.Steps

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {A : Args F} {K : GSem nD τ sig → ℕ} {c : Dev nD}

theorem t86 {U KK : sProp 𝕄} {w2} {Q} (h : SB A K c 0 U KK false 8 9 9 7 8 8 8 6 ⊢ Q (k0_pay69 (Sm A 0 false 7 (nx c true)) (Y A 0 c (rsc c false 8)))) :
    SB A K c 0 U KK false 8 9 8 7 7 8 8 6 ⊢ WP c (k0_part86 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part86_eq_skeleton]; unfold k0_part86_skel
  exact rsR 7 <| rrL <| op_tab 57 rfl <| chk (chkB _) <| slL 7 <| op_yload (rsc c false 8) (offC_W _) <| slL 7 <| fin h

theorem t87 {U KK : sProp 𝕄} {w1} {Q} (h : ∀ (w52 : k0_chk52 (W (rsc c true 9))), SB A K c 0 U KK false 9 9 9 7 8 9 9 7 ⊢ Q ⟨((W (rsc c true 9))), w52⟩) :
    SB A K c 0 U KK false 8 9 9 7 8 8 8 6 ⊢ WP c (k0_part87 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay69 (Sm A 0 false 7 (nx c true)) (Y A 0 c (rsc c false 8)))) Q := by
  rw [k0_part87_eq_skeleton]; unfold k0_part87_skel
  exact stL 7 rfl <| rwL <| rsL 7 <| rrR <| op_tab 43 rfl <| chk (chkB _) <| fin (h _)

theorem t88 {U KK : sProp 𝕄} {w2} {w52} {Q} (h : SB A K c 0 U KK false 9 10 10 8 8 9 9 7 ⊢ Q ⟨⟩) :
    SB A K c 0 U KK false 9 9 9 7 8 9 9 7 ⊢ WP c (k0_part88 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 9)) w52) Q := by
  rw [k0_part88_eq_skeleton]; unfold k0_part88_skel
  exact slR 8 <| op_yload (rsc c true 9) (offC_W _) <| slR 8 <| stR 8 rfl <| rwR <| rsR 8 <| fin h

theorem t89 {U KK : sProp 𝕄}  {Q} (h : ∀ (b0 : BitVec 32), SB A K c 0 U KK false 9 10 10 8 9 10 9 8 ⊢ Q b0) :
    SB A K c 0 U KK false 9 10 10 8 8 9 9 7 ⊢ WP c (k0_part89 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part89_eq_skeleton]; unfold k0_part89_skel
  exact rrL <| op_tab 58 rfl <| chk (chkB _) <| slL 8 <| op_yload (rsc c false 9) (offC_W _) <| slL 8 <| stL 8 rfl <| rwL <| fin (h _)

theorem t90 {U KK : sProp 𝕄} {w1} {c1_i32_2187 : BitVec 32} {Q} (h : SB A K c 0 U KK false 10 11 10 8 9 10 10 8 ⊢ Q ⟨⟩) :
    SB A K c 0 U KK false 9 10 10 8 9 10 9 8 ⊢ WP c (k0_part90 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 c1_i32_2187) Q := by
  rw [k0_part90_eq_skeleton]; unfold k0_part90_skel
  exact rsL 8 <| rrR <| op_tab 44 rfl <| chk (chkB _) <| slR 9 <| op_yload (rsc c true 10) (offC_W _) <| slR 9 <| stR 9 rfl <| fin h

theorem t91 {U KK : sProp 𝕄} {w2} {Q} (h : ∀ (w55 : k0_chk55 (W (rsc c false 10))), SB A K c 0 U KK false 10 11 11 9 10 10 10 8 ⊢ Q ⟨((W (rsc c false 10))), w55⟩) :
    SB A K c 0 U KK false 10 11 10 8 9 10 10 8 ⊢ WP c (k0_part91 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part91_eq_skeleton]; unfold k0_part91_skel
  exact rwR <| rsR 9 <| rrL <| op_tab 59 rfl <| chk (chkB _) <| fin (h _)

theorem t92 {U KK : sProp 𝕄} {w1} {w55} {Q} (h : ∀ (b0 : BitVec 32), SB A K c 0 U KK false 10 11 11 9 10 11 11 9 ⊢ Q b0) :
    SB A K c 0 U KK false 10 11 11 9 10 10 10 8 ⊢ WP c (k0_part92 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 10)) w55) Q := by
  rw [k0_part92_eq_skeleton]; unfold k0_part92_skel
  exact slL 9 <| op_yload (rsc c false 10) (offC_W _) <| slL 9 <| stL 9 rfl <| rwL <| rsL 9 <| fin (h _)

theorem t93 {U KK : sProp 𝕄} {v2817} {Q} (h : SB A K c 0 U KK false 11 12 11 10 10 11 11 9 ⊢ Q ⟨⟩) :
    SB A K c 0 U KK false 10 11 11 9 10 11 11 9 ⊢ WP c (k0_part93 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) v2817) Q := by
  rw [k0_part93_eq_skeleton]; unfold k0_part93_skel
  exact rrR <| op_tab 45 rfl <| chk (chkB _) <| slR 10 <| op_yload (rsc c true 11) (offC_W _) <| slR 10 <| stR 10 rfl <| rwR <| fin h

theorem t94 {U KK : sProp 𝕄} {w2} {Q} (h : SB A K c 0 U KK false 11 12 12 10 11 12 11 9 ⊢ Q ⟨⟩) :
    SB A K c 0 U KK false 11 12 11 10 10 11 11 9 ⊢ WP c (k0_part94 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part94_eq_skeleton]; unfold k0_part94_skel
  exact rsR 10 <| rrL <| op_tab 60 rfl <| chk (chkB _) <| slL 10 <| op_yload (rsc c false 11) (offC_W _) <| slL 10 <| stL 10 rfl <| fin h

theorem t95 {U KK : sProp 𝕄} {w1} {Q} (h : ∀ (w58 : k0_chk58 (W (rsc c true 12))), SB A K c 0 U KK false 12 12 12 10 11 12 12 10 ⊢ Q ⟨((W (rsc c true 12))), w58, (k0_pay76 (Sm A 0 true 11 (nx c false)))⟩) :
    SB A K c 0 U KK false 11 12 12 10 11 12 11 9 ⊢ WP c (k0_part95 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part95_eq_skeleton]; unfold k0_part95_skel
  exact rwL <| rsL 10 <| rrR <| op_tab 46 rfl <| chk (chkB _) <| slR 11 <| fin (h _)

theorem t96 {U KK : sProp 𝕄} {w2} {w58} {Q} (h : SB A K c 0 U KK false 12 13 13 11 11 12 12 10 ⊢ Q ⟨⟩) :
    SB A K c 0 U KK false 12 12 12 10 11 12 12 10 ⊢ WP c (k0_part96 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 12)) w58 (k0_pay76 (Sm A 0 true 11 (nx c false)))) Q := by
  rw [k0_part96_eq_skeleton]; unfold k0_part96_skel
  exact op_yload (rsc c true 12) (offC_W _) <| slR 11 <| stR 11 rfl <| rwR <| rsR 11 <| fin h

theorem t97 {U KK : sProp 𝕄}  {Q} (h : SB A K c 0 U KK false 12 13 13 11 12 13 12 11 ⊢ Q ⟨⟩) :
    SB A K c 0 U KK false 12 13 13 11 11 12 12 10 ⊢ WP c (k0_part97 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part97_eq_skeleton]; unfold k0_part97_skel
  exact rrL <| op_tab 61 rfl <| chk (chkB _) <| slL 11 <| op_yload (rsc c false 12) (offC_W _) <| slL 11 <| stL 11 rfl <| rwL <| fin h

theorem t98 {U KK : sProp 𝕄} {w1} {Q} (h : SB A K c 0 U KK false 13 14 13 11 12 13 13 11 ⊢ Q ⟨⟩) :
    SB A K c 0 U KK false 12 13 13 11 12 13 12 11 ⊢ WP c (k0_part98 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part98_eq_skeleton]; unfold k0_part98_skel
  exact rsL 11 <| rrR <| op_tab 47 rfl <| chk (chkB _) <| slR 12 <| op_yload (rsc c true 13) (offC_W _) <| slR 12 <| stR 12 rfl <| fin h

theorem t99 {U KK : sProp 𝕄} {w2} {Q} (h : ∀ (w61 : k0_chk61 (W (rsc c false 13))), SB A K c 0 U KK false 13 14 14 12 13 13 13 11 ⊢ Q ⟨((W (rsc c false 13))), w61, (k0_pay80 (Sm A 0 false 12 (nx c true)))⟩) :
    SB A K c 0 U KK false 13 14 13 11 12 13 13 11 ⊢ WP c (k0_part99 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part99_eq_skeleton]; unfold k0_part99_skel
  exact rwR <| rsR 12 <| rrL <| op_tab 62 rfl <| chk (chkB _) <| slL 12 <| fin (h _)

theorem t100 {U KK : sProp 𝕄} {w1} {w61} {Q} (h : SB A K c 0 U KK false 13 14 14 12 13 14 14 12 ⊢ Q ⟨⟩) :
    SB A K c 0 U KK false 13 14 14 12 13 13 13 11 ⊢ WP c (k0_part100 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 13)) w61 (k0_pay80 (Sm A 0 false 12 (nx c true)))) Q := by
  rw [k0_part100_eq_skeleton]; unfold k0_part100_skel
  exact op_yload (rsc c false 13) (offC_W _) <| slL 12 <| stL 12 rfl <| rwL <| rsL 12 <| fin h

theorem t101 {U KK : sProp 𝕄}  {Q} (h : SB A K c 0 U KK false 14 15 14 13 13 14 14 12 ⊢ Q ⟨⟩) :
    SB A K c 0 U KK false 13 14 14 12 13 14 14 12 ⊢ WP c (k0_part101 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part101_eq_skeleton]; unfold k0_part101_skel
  exact rrR <| op_tab 48 rfl <| chk (chkB _) <| slR 13 <| op_yload (rsc c true 14) (offC_W _) <| slR 13 <| stR 13 rfl <| rwR <| fin h

theorem t102 {U KK : sProp 𝕄} {w2} {Q} (h : SB A K c 0 U KK false 14 15 15 13 14 15 14 12 ⊢ Q ⟨⟩) :
    SB A K c 0 U KK false 14 15 14 13 13 14 14 12 ⊢ WP c (k0_part102 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part102_eq_skeleton]; unfold k0_part102_skel
  exact rsR 13 <| rrL <| op_tab 63 rfl <| chk (chkB _) <| slL 13 <| op_yload (rsc c false 14) (offC_W _) <| slL 13 <| stL 13 rfl <| fin h

theorem t103 {U KK : sProp 𝕄} {w1} {Q} (h : SB A K c 0 U KK false 15 15 15 13 14 15 15 13 ⊢ Q (k0_pay84 (Sm A 0 true 14 (nx c false)) (Y A 0 c (rsc c true 15)))) :
    SB A K c 0 U KK false 14 15 15 13 14 15 14 12 ⊢ WP c (k0_part103 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part103_eq_skeleton]; unfold k0_part103_skel
  exact rwL <| rsL 13 <| rrR <| op_tab 49 rfl <| chk (chkB _) <| slR 14 <| op_yload (rsc c true 15) (offC_W _) <| fin h

theorem t104 {U KK : sProp 𝕄} {w2} {Q} (h : SB A K c 0 U KK false 15 16 16 14 14 15 15 13 ⊢ Q ⟨⟩) :
    SB A K c 0 U KK false 15 15 15 13 14 15 15 13 ⊢ WP c (k0_part104 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (k0_pay84 (Sm A 0 true 14 (nx c false)) (Y A 0 c (rsc c true 15)))) Q := by
  rw [k0_part104_eq_skeleton]; unfold k0_part104_skel
  exact slR 14 <| stR 14 rfl <| rwR <| rsR 14 <| fin h

theorem t105 {U KK : sProp 𝕄}  {Q} (h : SB A K c 0 U KK false 16 16 16 16 15 15 15 13 ⊢ Q ⟨⟩) :
    SB A K c 0 U KK false 15 16 16 14 14 15 15 13 ⊢ WP c (k0_part105 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part105_eq_skeleton]; unfold k0_part105_skel
  exact rrL <| rrR <| rwR <| rwR <| fin h

theorem t106 {U KK JJ : sProp 𝕄} {v2} {Q} (tr : SB A K c 0 U KK true 16 16 16 16 15 15 15 15 ⊢ SA A K c 1 U JJ 0 0 0 0 0 0 0) (h : ∀ (b0 : BitVec 32), SA A K c 1 U JJ 0 0 0 0 0 0 0 ⊢ Q b0) :
    SB A K c 0 U KK false 16 16 16 16 15 15 15 13 ⊢ WP c (k0_part106 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2) Q := by
  rw [k0_part106_eq_skeleton]; unfold k0_part106_skel
  exact rwL <| rwL <| slR 15 <| slL 14 <| op_yload c (offC_own _) <| op_xdead (offC_own _) fun _ => op_xstore (offC_own _) rfl <| tr.trans <| fin (h _)

theorem t107 {U KK : sProp 𝕄} {v2} {w2} {c256_i32_2662 : BitVec 32} {Q} (h : SA A K c 1 U KK 0 2 0 0 0 0 0 ⊢ Q ⟨⟩) :
    SA A K c 1 U KK 0 0 0 0 0 0 0 ⊢ WP c (k0_part107 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c false)) (W (nx c true)) w2 c256_i32_2662) Q := by
  rw [k0_part107_eq_skeleton]; unfold k0_part107_skel
  exact gsR (ck_zero _ _) (sem19 _ _ (offS_own _) _) (offH0_own _) (offH0_own _) <| gsR (ck_zero _ _) (sem20 _ _ (offS_own _) _) (offH1_own _) (offH1_own _) <| fin h

theorem t108 {U KK : sProp 𝕄} {v2} {w1} {Q} (h : ∀ (w65 : k0_chk65 (W (ck c true 1))) (w66 : k0_chk66 (W (ck c false 1))) (b2 : BitVec 32), SA A K c 1 U KK 0 2 0 0 2 0 1 ⊢ Q ⟨((W (ck c true 1))), w65, ((W (ck c false 1))), w66, b2⟩) :
    SA A K c 1 U KK 0 2 0 0 0 0 0 ⊢ WP c (k0_part108 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c false)) w1) Q := by
  rw [k0_part108_eq_skeleton]; unfold k0_part108_skel
  exact gsL (ck_zero _ _) (sem19 _ _ (offS_own _) _) (offH0_own _) (offH0_own _) <| gsL (ck_zero _ _) (sem20 _ _ (offS_own _) _) (offH1_own _) (offH1_own _) <| op_xown (offC_own _) <| op_in4 <| op_in5 <| op_ydead fun _ => yO (offC_own _) rfl <| op_tab 4 rfl <| chk (chkA _) <| op_tab 20 rfl <| chk (chkA _) <| fin (h _ _ _)

theorem t109 {U KK : sProp 𝕄} {w2} {w65} {v3265} {Q} (h : SA A K c 1 U KK 2 3 1 0 2 0 1 ⊢ Q ⟨⟩) :
    SA A K c 1 U KK 0 2 0 0 2 0 1 ⊢ WP c (k0_part109 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) (W (nx c true)) w2 (W (ck c true 1)) w65 v3265) Q := by
  rw [k0_part109_eq_skeleton]; unfold k0_part109_skel
  exact grR (sem19 _ _ (offS_W _) _) <| gwR <| gsR rfl (sem19 _ _ (offS_W _) _) (offH0_W _) (offH0_W _) <| grR (sem20 _ _ (offS_W _) _) <| fin h

theorem t110 {U KK : sProp 𝕄} {w2} {w65} {w66} {Q} (h : ∀ (b0 : BitVec 32), SA A K c 1 U KK 2 4 2 1 2 1 1 ⊢ Q b0) :
    SA A K c 1 U KK 2 3 1 0 2 0 1 ⊢ WP c (k0_part110 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c true)) w2 (W (ck c true 1)) w65 (W (ck c false 1)) w66) Q := by
  rw [k0_part110_eq_skeleton]; unfold k0_part110_skel
  exact gwR <| gsR rfl (sem20 _ _ (offS_W _) _) (offH1_W _) (offH1_W _) <| grL (sem19 _ _ (offS_W _) _) <| gwL <| fin (h _)

theorem t111 {U KK : sProp 𝕄} {w1} {w66} {v3327} {Q} (h : SA A K c 1 U KK 2 4 2 2 3 2 1 ⊢ Q ⟨⟩) :
    SA A K c 1 U KK 2 4 2 1 2 1 1 ⊢ WP c (k0_part111 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) w1 (W (nx c true)) (W (ck c false 1)) w66 v3327) Q := by
  rw [k0_part111_eq_skeleton]; unfold k0_part111_skel
  exact gsL rfl (sem19 _ _ (offS_W _) _) (offH0_W _) (offH0_W _) <| grL (sem20 _ _ (offS_W _) _) <| gwL <| fin h

theorem t112 {U KK : sProp 𝕄} {w1} {w65} {w66} {Q} (h : SA A K c 1 U KK 2 4 2 2 4 2 3 ⊢ Q ⟨⟩) :
    SA A K c 1 U KK 2 4 2 2 3 2 1 ⊢ WP c (k0_part112 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 1)) w65 (W (ck c false 1)) w66) Q := by
  rw [k0_part112_eq_skeleton]; unfold k0_part112_skel
  exact gsL rfl (sem20 _ _ (offS_W _) _) (offH1_W _) (offH1_W _) <| xC true 0 <| op_in4 <| op_in5 <| op_ydead fun _ => yC true 1 rfl <| xC false 0 <| op_in4 <| op_in5 <| op_ydead fun _ => yC false 1 rfl <| fin h

theorem t113 {U KK : sProp 𝕄} {w2} {w65} {Q} (h : ∀ (w67 : k0_chk67 (W (ck c true 2))) (w68 : k0_chk68 (W (ck c false 2))), SA A K c 1 U KK 3 5 3 2 4 2 3 ⊢ Q ⟨((W (ck c true 2))), w67, ((W (ck c false 2))), w68⟩) :
    SA A K c 1 U KK 2 4 2 2 4 2 3 ⊢ WP c (k0_part113 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 1)) w65) Q := by
  rw [k0_part113_eq_skeleton]; unfold k0_part113_skel
  exact op_tab 5 rfl <| chk (chkA _) <| op_tab 21 rfl <| chk (chkA _) <| grR (sem19 _ _ (offS_W _) _) <| gwR <| gsR rfl (sem19 _ _ (offS_W _) _) (offH0_W _) (offH0_W _) <| fin (h _ _)

theorem t114 {U KK : sProp 𝕄} {w2} {w65} {w66} {w67} {w68} {Q} (h : SA A K c 1 U KK 4 6 4 3 4 2 3 ⊢ Q ⟨⟩) :
    SA A K c 1 U KK 3 5 3 2 4 2 3 ⊢ WP c (k0_part114 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 1)) w65 (W (ck c false 1)) w66 (W (ck c true 2)) w67 (W (ck c false 2)) w68) Q := by
  rw [k0_part114_eq_skeleton]; unfold k0_part114_skel
  exact grR (sem20 _ _ (offS_W _) _) <| gwR <| gsR rfl (sem20 _ _ (offS_W _) _) (offH1_W _) (offH1_W _) <| grL (sem19 _ _ (offS_W _) _) <| fin h

theorem t115 {U KK : sProp 𝕄} {w1} {w66} {w68} {Q} (h : ∀ (b0 : BitVec 32) (b1 : BitVec 32), SA A K c 1 U KK 4 6 4 4 5 4 3 ⊢ Q ⟨b0, b1⟩) :
    SA A K c 1 U KK 4 6 4 3 4 2 3 ⊢ WP c (k0_part115 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 1)) w66 (W (ck c false 2)) w68) Q := by
  rw [k0_part115_eq_skeleton]; unfold k0_part115_skel
  exact gwL <| gsL rfl (sem19 _ _ (offS_W _) _) (offH0_W _) (offH0_W _) <| grL (sem20 _ _ (offS_W _) _) <| gwL <| fin (h _ _)

theorem t116 {U KK : sProp 𝕄} {w1} {w67} {w68} {v3485} {c0_i32_2882 : BitVec 32} {Q} (h : SA A K c 1 U KK 4 6 4 4 6 4 4 ⊢ Q (k0_pay91 (xb A 1 (ck c false 2)) (A.wi 1 c) (A.wo 1 c))) :
    SA A K c 1 U KK 4 6 4 4 5 4 3 ⊢ WP c (k0_part116 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 2)) w67 (W (ck c false 2)) w68 v3485 c0_i32_2882) Q := by
  rw [k0_part116_eq_skeleton]; unfold k0_part116_skel
  exact gsL rfl (sem20 _ _ (offS_W _) _) (offH1_W _) (offH1_W _) <| xC true 1 <| op_in4 <| op_in5 <| op_ydead fun _ => yC true 2 rfl <| xC false 1 <| op_in4 <| op_in5 <| fin h

theorem t117 {U KK : sProp 𝕄} {w2} {w67} {w68} {Q} (h : ∀ (w69 : k0_chk69 (W (ck c true 3))) (w70 : k0_chk70 (W (ck c false 3))), SA A K c 1 U KK 5 7 5 4 6 4 5 ⊢ Q ⟨((W (ck c true 3))), w69, ((W (ck c false 3))), w70⟩) :
    SA A K c 1 U KK 4 6 4 4 6 4 4 ⊢ WP c (k0_part117 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 2)) w67 (W (ck c false 2)) w68 (k0_pay91 (xb A 1 (ck c false 2)) (A.wi 1 c) (A.wo 1 c))) Q := by
  rw [k0_part117_eq_skeleton]; unfold k0_part117_skel
  exact op_ydead fun _ => yC false 2 rfl <| op_tab 6 rfl <| chk (chkA _) <| op_tab 22 rfl <| chk (chkA _) <| grR (sem19 _ _ (offS_W _) _) <| gwR <| gsR rfl (sem19 _ _ (offS_W _) _) (offH0_W _) (offH0_W _) <| fin (h _ _)

theorem t118 {U KK : sProp 𝕄} {w2} {w67} {w69} {w70} {Q} (h : SA A K c 1 U KK 6 8 6 4 6 4 5 ⊢ Q ⟨⟩) :
    SA A K c 1 U KK 5 7 5 4 6 4 5 ⊢ WP c (k0_part118 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 2)) w67 (W (ck c true 3)) w69 (W (ck c false 3)) w70) Q := by
  rw [k0_part118_eq_skeleton]; unfold k0_part118_skel
  exact grR (sem20 _ _ (offS_W _) _) <| gwR <| gsR rfl (sem20 _ _ (offS_W _) _) (offH1_W _) (offH1_W _) <| fin h

theorem t119 {U KK : sProp 𝕄} {w1} {w68} {w70} {Q} (h : SA A K c 1 U KK 6 8 6 6 7 6 5 ⊢ Q ⟨⟩) :
    SA A K c 1 U KK 6 8 6 4 6 4 5 ⊢ WP c (k0_part119 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 2)) w68 (W (ck c false 3)) w70) Q := by
  rw [k0_part119_eq_skeleton]; unfold k0_part119_skel
  exact grL (sem19 _ _ (offS_W _) _) <| gwL <| gsL rfl (sem19 _ _ (offS_W _) _) (offH0_W _) (offH0_W _) <| grL (sem20 _ _ (offS_W _) _) <| gwL <| fin h

theorem t120 {U KK : sProp 𝕄} {w1} {w69} {w70} {Q} (h : SA A K c 1 U KK 6 8 6 6 8 6 6 ⊢ Q ⟨(k0_pay94 (xb A 1 (ck c false 3)) (A.wi 1 c)), (((Scalar.ofBits .f32 0x00000000#32 : F .f32)))⟩) :
    SA A K c 1 U KK 6 8 6 6 7 6 5 ⊢ WP c (k0_part120 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 3)) w69 (W (ck c false 3)) w70) Q := by
  rw [k0_part120_eq_skeleton]; unfold k0_part120_skel
  exact gsL rfl (sem20 _ _ (offS_W _) _) (offH1_W _) (offH1_W _) <| xC true 2 <| op_in4 <| op_in5 <| op_ydead fun _ => yC true 3 rfl <| xC false 2 <| op_in4 <| fin h

theorem t121 {U KK : sProp 𝕄} {w69} {w70} {Q} (h : ∀ (w71 : k0_chk71 (W (ck c true 4))) (w72 : k0_chk72 (W (ck c false 4))), SA A K c 1 U KK 7 8 7 6 8 6 7 ⊢ Q ⟨((W (ck c true 4))), w71, ((W (ck c false 4))), w72⟩) :
    SA A K c 1 U KK 6 8 6 6 8 6 6 ⊢ WP c (k0_part121 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 3)) w69 (W (ck c false 3)) w70 (k0_pay94 (xb A 1 (ck c false 3)) (A.wi 1 c)) ((Scalar.ofBits .f32 0x00000000#32 : F .f32))) Q := by
  rw [k0_part121_eq_skeleton]; unfold k0_part121_skel
  exact op_in5 <| op_ydead fun _ => yC false 3 rfl <| op_tab 7 rfl <| chk (chkA _) <| op_tab 23 rfl <| chk (chkA _) <| grR (sem19 _ _ (offS_W _) _) <| gwR <| fin (h _ _)

theorem t122 {U KK : sProp 𝕄} {w2} {w69} {w71} {Q} (h : ∀ (b0 : BitVec 32), SA A K c 1 U KK 8 10 8 6 8 6 7 ⊢ Q b0) :
    SA A K c 1 U KK 7 8 7 6 8 6 7 ⊢ WP c (k0_part122 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 3)) w69 (W (ck c true 4)) w71 (W (ck c false 4))) Q := by
  rw [k0_part122_eq_skeleton]; unfold k0_part122_skel
  exact gsR rfl (sem19 _ _ (offS_W _) _) (offH0_W _) (offH0_W _) <| grR (sem20 _ _ (offS_W _) _) <| gwR <| gsR rfl (sem20 _ _ (offS_W _) _) (offH1_W _) (offH1_W _) <| fin (h _)

theorem t123 {U KK : sProp 𝕄} {w1} {w70} {w72} {v3711} {Q} (h : SA A K c 1 U KK 8 10 8 8 9 7 7 ⊢ Q ⟨⟩) :
    SA A K c 1 U KK 8 10 8 6 8 6 7 ⊢ WP c (k0_part123 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 3)) w70 (W (ck c false 4)) w72 v3711) Q := by
  rw [k0_part123_eq_skeleton]; unfold k0_part123_skel
  exact grL (sem19 _ _ (offS_W _) _) <| gwL <| gsL rfl (sem19 _ _ (offS_W _) _) (offH0_W _) (offH0_W _) <| grL (sem20 _ _ (offS_W _) _) <| fin h

theorem t124 {U KK : sProp 𝕄} {w1} {w70} {w71} {w72} {Q} (h : SA A K c 1 U KK 8 10 8 8 10 8 8 ⊢ Q ((xb A 1 (ck c false 4)))) :
    SA A K c 1 U KK 8 10 8 8 9 7 7 ⊢ WP c (k0_part124 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 3)) w70 (W (ck c true 4)) w71 (W (ck c false 4)) w72) Q := by
  rw [k0_part124_eq_skeleton]; unfold k0_part124_skel
  exact gwL <| gsL rfl (sem20 _ _ (offS_W _) _) (offH1_W _) (offH1_W _) <| xC true 3 <| op_in4 <| op_in5 <| op_ydead fun _ => yC true 4 rfl <| tail <| xC false 3 <| fin h

theorem t125 {U KK : sProp 𝕄} {w71} {w72} {Q} (h : ∀ (w73 : k0_chk73 (W (ck c true 5))) (w74 : k0_chk74 (W (ck c false 5))) (b2 : BitVec 32), SA A K c 1 U KK 9 10 9 8 10 8 9 ⊢ Q ⟨((W (ck c true 5))), w73, ((W (ck c false 5))), w74, b2⟩) :
    SA A K c 1 U KK 8 10 8 8 10 8 8 ⊢ WP c (k0_part125 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 4)) w71 (W (ck c false 4)) w72 (xb A 1 (ck c false 4))) Q := by
  rw [k0_part125_eq_skeleton]; unfold k0_part125_skel
  exact op_in4 <| op_in5 <| op_ydead fun _ => yC false 4 rfl <| op_tab 8 rfl <| chk (chkA _) <| op_tab 24 rfl <| chk (chkA _) <| grR (sem19 _ _ (offS_W _) _) <| gwR <| fin (h _ _ _)

theorem t126 {U KK : sProp 𝕄} {w2} {w71} {w73} {v3807} {Q} (h : SA A K c 1 U KK 10 11 10 8 10 8 9 ⊢ Q ⟨⟩) :
    SA A K c 1 U KK 9 10 9 8 10 8 9 ⊢ WP c (k0_part126 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 4)) w71 (W (ck c true 5)) w73 v3807) Q := by
  rw [k0_part126_eq_skeleton]; unfold k0_part126_skel
  exact gsR rfl (sem19 _ _ (offS_W _) _) (offH0_W _) (offH0_W _) <| grR (sem20 _ _ (offS_W _) _) <| gwR <| fin h

theorem t127 {U KK : sProp 𝕄} {w1} {w2} {w72} {w73} {w74} {Q} (h : SA A K c 1 U KK 10 12 10 9 11 9 9 ⊢ Q ⟨⟩) :
    SA A K c 1 U KK 10 11 10 8 10 8 9 ⊢ WP c (k0_part127 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 4)) w72 (W (ck c true 5)) w73 (W (ck c false 5)) w74) Q := by
  rw [k0_part127_eq_skeleton]; unfold k0_part127_skel
  exact gsR rfl (sem20 _ _ (offS_W _) _) (offH1_W _) (offH1_W _) <| grL (sem19 _ _ (offS_W _) _) <| gwL <| gsL rfl (sem19 _ _ (offS_W _) _) (offH0_W _) (offH0_W _) <| fin h

theorem t128 {U KK : sProp 𝕄} {w1} {w72} {w73} {w74} {Q} (h : ∀ (b0 : Vec F S256x256 .f32), SA A K c 1 U KK 10 12 10 10 12 10 9 ⊢ Q ⟨(k0_pay98 (xb A 1 (ck c true 5)) (A.wi 1 c) (A.wo 1 c)), b0⟩) :
    SA A K c 1 U KK 10 12 10 9 11 9 9 ⊢ WP c (k0_part128 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 4)) w72 (W (ck c true 5)) w73 (W (ck c false 5)) w74) Q := by
  rw [k0_part128_eq_skeleton]; unfold k0_part128_skel
  exact grL (sem20 _ _ (offS_W _) _) <| gwL <| gsL rfl (sem20 _ _ (offS_W _) _) (offH1_W _) (offH1_W _) <| xC true 4 <| op_in4 <| op_in5 <| op_ydead fun _ => fin (h _)

theorem t129 {U KK : sProp 𝕄} {w73} {w74} {v3903 : Vec F S256x256 .f32} {Q} (h : ∀ (w75 : k0_chk75 (W (ck c true 6))) (w76 : k0_chk76 (W (ck c false 6))), SA A K c 1 U KK 11 12 10 10 12 10 11 ⊢ Q ⟨((W (ck c true 6))), w75, ((W (ck c false 6))), w76⟩) :
    SA A K c 1 U KK 10 12 10 10 12 10 9 ⊢ WP c (k0_part129 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 5)) w73 (W (ck c false 5)) w74 (k0_pay98 (xb A 1 (ck c true 5)) (A.wi 1 c) (A.wo 1 c)) v3903) Q := by
  rw [k0_part129_eq_skeleton]; unfold k0_part129_skel
  exact yC true 5 rfl <| xC false 4 <| op_in4 <| op_in5 <| op_ydead fun _ => yC false 5 rfl <| op_tab 9 rfl <| chk (chkA _) <| op_tab 25 rfl <| chk (chkA _) <| grR (sem19 _ _ (offS_W _) _) <| fin (h _ _)

theorem t130 {U KK : sProp 𝕄} {w2} {w73} {w75} {Q} (h : ∀ (b0 : BitVec 32) (b1 : BitVec 32), SA A K c 1 U KK 12 13 12 10 12 10 11 ⊢ Q ⟨b0, b1⟩) :
    SA A K c 1 U KK 11 12 10 10 12 10 11 ⊢ WP c (k0_part130 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 5)) w73 (W (ck c true 6)) w75) Q := by
  rw [k0_part130_eq_skeleton]; unfold k0_part130_skel
  exact gwR <| gsR rfl (sem19 _ _ (offS_W _) _) (offH0_W _) (offH0_W _) <| grR (sem20 _ _ (offS_W _) _) <| gwR <| fin (h _ _)

theorem t131 {U KK : sProp 𝕄} {w1} {w2} {w74} {w75} {w76} {v3965} {c0_i32_3244 : BitVec 32} {Q} (h : SA A K c 1 U KK 12 14 12 11 13 11 11 ⊢ Q ⟨⟩) :
    SA A K c 1 U KK 12 13 12 10 12 10 11 ⊢ WP c (k0_part131 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 5)) w74 (W (ck c true 6)) w75 (W (ck c false 6)) w76 v3965 c0_i32_3244) Q := by
  rw [k0_part131_eq_skeleton]; unfold k0_part131_skel
  exact gsR rfl (sem20 _ _ (offS_W _) _) (offH1_W _) (offH1_W _) <| grL (sem19 _ _ (offS_W _) _) <| gwL <| gsL rfl (sem19 _ _ (offS_W _) _) (offH0_W _) (offH0_W _) <| fin h

theorem t132 {U KK : sProp 𝕄} {w1} {w74} {w75} {w76} {Q} (h : SA A K c 1 U KK 12 14 12 12 14 12 11 ⊢ Q ⟨(k0_pay101 (xb A 1 (ck c true 6)) (A.wi 1 c)), ((A.wo 1 c))⟩) :
    SA A K c 1 U KK 12 14 12 11 13 11 11 ⊢ WP c (k0_part132 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 5)) w74 (W (ck c true 6)) w75 (W (ck c false 6)) w76) Q := by
  rw [k0_part132_eq_skeleton]; unfold k0_part132_skel
  exact grL (sem20 _ _ (offS_W _) _) <| gwL <| gsL rfl (sem20 _ _ (offS_W _) _) (offH1_W _) (offH1_W _) <| xC true 5 <| op_in4 <| op_in5 <| fin h

theorem t133 {U KK : sProp 𝕄} {w75} {w76} {Q} (h : ∀ (w77 : k0_chk77 (W (ck c true 7))) (w78 : k0_chk78 (W (ck c false 7))), SA A K c 1 U KK 12 14 12 12 14 12 13 ⊢ Q ⟨((W (ck c true 7))), w77, ((W (ck c false 7))), w78⟩) :
    SA A K c 1 U KK 12 14 12 12 14 12 11 ⊢ WP c (k0_part133 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 6)) w75 (W (ck c false 6)) w76 (k0_pay101 (xb A 1 (ck c true 6)) (A.wi 1 c)) (A.wo 1 c)) Q := by
  rw [k0_part133_eq_skeleton]; unfold k0_part133_skel
  exact op_ydead fun _ => yC true 6 rfl <| xC false 5 <| op_in4 <| op_in5 <| op_ydead fun _ => yC false 6 rfl <| op_tab 10 rfl <| chk (chkA _) <| op_tab 26 rfl <| chk (chkA _) <| fin (h _ _)

theorem t134 {U KK : sProp 𝕄} {w2} {w75} {w77} {Q} (h : SA A K c 1 U KK 14 15 14 12 14 12 13 ⊢ Q ⟨⟩) :
    SA A K c 1 U KK 12 14 12 12 14 12 13 ⊢ WP c (k0_part134 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 6)) w75 (W (ck c true 7)) w77) Q := by
  rw [k0_part134_eq_skeleton]; unfold k0_part134_skel
  exact grR (sem19 _ _ (offS_W _) _) <| gwR <| gsR rfl (sem19 _ _ (offS_W _) _) (offH0_W _) (offH0_W _) <| grR (sem20 _ _ (offS_W _) _) <| gwR <| fin h

theorem t135 {U KK : sProp 𝕄} {w2} {w76} {w77} {w78} {Q} (h : SA A K c 1 U KK 14 16 14 13 14 13 13 ⊢ Q ⟨⟩) :
    SA A K c 1 U KK 14 15 14 12 14 12 13 ⊢ WP c (k0_part135 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c false 6)) w76 (W (ck c true 7)) w77 (W (ck c false 7)) w78) Q := by
  rw [k0_part135_eq_skeleton]; unfold k0_part135_skel
  exact gsR rfl (sem20 _ _ (offS_W _) _) (offH1_W _) (offH1_W _) <| grL (sem19 _ _ (offS_W _) _) <| gwL <| fin h

theorem t136 {U KK : sProp 𝕄} {w1} {w76} {w77} {w78} {Q} (h : SA A K c 1 U KK 14 16 14 14 16 14 13 ⊢ Q ⟨(k0_pay104 (xb A 1 (ck c true 7))), (k0_pay105 (A.wi 1 c))⟩) :
    SA A K c 1 U KK 14 16 14 13 14 13 13 ⊢ WP c (k0_part136 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 6)) w76 (W (ck c true 7)) w77 (W (ck c false 7)) w78) Q := by
  rw [k0_part136_eq_skeleton]; unfold k0_part136_skel
  exact gsL rfl (sem19 _ _ (offS_W _) _) (offH0_W _) (offH0_W _) <| grL (sem20 _ _ (offS_W _) _) <| gwL <| gsL rfl (sem20 _ _ (offS_W _) _) (offH1_W _) (offH1_W _) <| xC true 6 <| op_in4 <| fin h

theorem t137 {U KK : sProp 𝕄} {w77} {w78} {Q} (h : ∀ (w79 : k0_chk79 (W (ck c true 8))) (w80 : k0_chk80 (W (ck c false 8))) (b2 : BitVec 32), SA A K c 1 U KK 14 16 14 14 16 14 15 ⊢ Q ⟨((W (ck c true 8))), w79, ((W (ck c false 8))), w80, b2⟩) :
    SA A K c 1 U KK 14 16 14 14 16 14 13 ⊢ WP c (k0_part137 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 7)) w77 (W (ck c false 7)) w78 (k0_pay104 (xb A 1 (ck c true 7))) (k0_pay105 (A.wi 1 c))) Q := by
  rw [k0_part137_eq_skeleton]; unfold k0_part137_skel
  exact op_in5 <| op_ydead fun _ => yC true 7 rfl <| xC false 6 <| op_in4 <| op_in5 <| op_ydead fun _ => yC false 7 rfl <| op_tab 11 rfl <| chk (chkA _) <| op_tab 27 rfl <| chk (chkA _) <| fin (h _ _ _)

theorem t138 {U KK : sProp 𝕄} {w2} {w77} {w79} {v4191} {Q} (h : SA A K c 1 U KK 16 17 15 14 16 14 15 ⊢ Q ⟨⟩) :
    SA A K c 1 U KK 14 16 14 14 16 14 15 ⊢ WP c (k0_part138 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 7)) w77 (W (ck c true 8)) w79 v4191) Q := by
  rw [k0_part138_eq_skeleton]; unfold k0_part138_skel
  exact grR (sem19 _ _ (offS_W _) _) <| gwR <| gsR rfl (sem19 _ _ (offS_W _) _) (offH0_W _) (offH0_W _) <| grR (sem20 _ _ (offS_W _) _) <| fin h

theorem t139 {U KK : sProp 𝕄} {w2} {w77} {w78} {w79} {w80} {Q} (h : ∀ (b0 : BitVec 32), SA A K c 1 U KK 16 18 16 15 16 15 15 ⊢ Q b0) :
    SA A K c 1 U KK 16 17 15 14 16 14 15 ⊢ WP c (k0_part139 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 7)) w77 (W (ck c false 7)) w78 (W (ck c true 8)) w79 (W (ck c false 8)) w80) Q := by
  rw [k0_part139_eq_skeleton]; unfold k0_part139_skel
  exact gwR <| gsR rfl (sem20 _ _ (offS_W _) _) (offH1_W _) (offH1_W _) <| grL (sem19 _ _ (offS_W _) _) <| gwL <| fin (h _)

theorem t140 {U KK : sProp 𝕄} {w1} {w78} {w80} {c1_i32_3462 : BitVec 32} {Q} (h : ∀ (b0 : BitVec 32), SA A K c 1 U KK 16 18 16 16 18 16 15 ⊢ Q b0) :
    SA A K c 1 U KK 16 18 16 15 16 15 15 ⊢ WP c (k0_part140 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 7)) w78 (W (ck c true 8)) (W (ck c false 8)) w80 c1_i32_3462) Q := by
  rw [k0_part140_eq_skeleton]; unfold k0_part140_skel
  exact gsL rfl (sem19 _ _ (offS_W _) _) (offH0_W _) (offH0_W _) <| grL (sem20 _ _ (offS_W _) _) <| gwL <| gsL rfl (sem20 _ _ (offS_W _) _) (offH1_W _) (offH1_W _) <| fin (h _)

theorem t141 {U KK : sProp 𝕄} {w79} {w80} {v4285} {Q} (h : ∀ (w81 : k0_chk81 (W (ck c true 9))), SA A K c 1 U KK 16 18 16 16 18 16 17 ⊢ Q ⟨((W (ck c true 9))), w81⟩) :
    SA A K c 1 U KK 16 18 16 16 18 16 15 ⊢ WP c (k0_part141 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 8)) w79 (W (ck c false 8)) w80 v4285) Q := by
  rw [k0_part141_eq_skeleton]; unfold k0_part141_skel
  exact xC true 7 <| op_in4 <| op_in5 <| op_ydead fun _ => yC true 8 rfl <| xC false 7 <| op_in4 <| op_in5 <| op_ydead fun _ => yC false 8 rfl <| op_tab 12 rfl <| chk (chkA _) <| fin (h _)

theorem t142 {U KK : sProp 𝕄} {w2} {w79} {w81} {Q} (h : ∀ (w82 : k0_chk82 (W (ck c false 9))), SA A K c 1 U KK 17 19 17 16 18 16 17 ⊢ Q ⟨((W (ck c false 9))), w82⟩) :
    SA A K c 1 U KK 16 18 16 16 18 16 17 ⊢ WP c (k0_part142 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 8)) w79 (W (ck c true 9)) w81) Q := by
  rw [k0_part142_eq_skeleton]; unfold k0_part142_skel
  exact op_tab 28 rfl <| chk (chkA _) <| grR (sem19 _ _ (offS_W _) _) <| gwR <| gsR rfl (sem19 _ _ (offS_W _) _) (offH0_W _) (offH0_W _) <| fin (h _)

theorem t143 {U KK : sProp 𝕄} {w2} {w79} {w80} {w81} {w82} {Q} (h : ∀ (b0 : BitVec 32), SA A K c 1 U KK 18 20 18 17 18 17 17 ⊢ Q b0) :
    SA A K c 1 U KK 17 19 17 16 18 16 17 ⊢ WP c (k0_part143 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 8)) w79 (W (ck c false 8)) w80 (W (ck c true 9)) w81 (W (ck c false 9)) w82) Q := by
  rw [k0_part143_eq_skeleton]; unfold k0_part143_skel
  exact grR (sem20 _ _ (offS_W _) _) <| gwR <| gsR rfl (sem20 _ _ (offS_W _) _) (offH1_W _) (offH1_W _) <| grL (sem19 _ _ (offS_W _) _) <| gwL <| fin (h _)

theorem t144 {U KK : sProp 𝕄} {w1} {w80} {w82} {v4381} {Q} (h : SA A K c 1 U KK 18 20 18 18 19 18 17 ⊢ Q ⟨⟩) :
    SA A K c 1 U KK 18 20 18 17 18 17 17 ⊢ WP c (k0_part144 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 8)) w80 (W (ck c false 9)) w82 v4381) Q := by
  rw [k0_part144_eq_skeleton]; unfold k0_part144_skel
  exact gsL rfl (sem19 _ _ (offS_W _) _) (offH0_W _) (offH0_W _) <| grL (sem20 _ _ (offS_W _) _) <| gwL <| fin h

theorem t145 {U KK : sProp 𝕄} {w1} {w81} {w82} {Q} (h : SA A K c 1 U KK 18 20 18 18 20 18 18 ⊢ Q (k0_pay111 (xb A 1 (ck c false 9)) (A.wi 1 c) (A.wo 1 c))) :
    SA A K c 1 U KK 18 20 18 18 19 18 17 ⊢ WP c (k0_part145 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 9)) w81 (W (ck c false 9)) w82) Q := by
  rw [k0_part145_eq_skeleton]; unfold k0_part145_skel
  exact gsL rfl (sem20 _ _ (offS_W _) _) (offH1_W _) (offH1_W _) <| xC true 8 <| op_in4 <| op_in5 <| op_ydead fun _ => yC true 9 rfl <| xC false 8 <| op_in4 <| op_in5 <| fin h

theorem t146 {U KK : sProp 𝕄} {w2} {w81} {w82} {Q} (h : ∀ (w83 : k0_chk83 (W (ck c true 10))) (w84 : k0_chk84 (W (ck c false 10))), SA A K c 1 U KK 19 21 19 18 20 18 19 ⊢ Q ⟨((W (ck c true 10))), w83, ((W (ck c false 10))), w84⟩) :
    SA A K c 1 U KK 18 20 18 18 20 18 18 ⊢ WP c (k0_part146 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 9)) w81 (W (ck c false 9)) w82 (k0_pay111 (xb A 1 (ck c false 9)) (A.wi 1 c) (A.wo 1 c))) Q := by
  rw [k0_part146_eq_skeleton]; unfold k0_part146_skel
  exact op_ydead fun _ => yC false 9 rfl <| op_tab 13 rfl <| chk (chkA _) <| op_tab 29 rfl <| chk (chkA _) <| grR (sem19 _ _ (offS_W _) _) <| gwR <| gsR rfl (sem19 _ _ (offS_W _) _) (offH0_W _) (offH0_W _) <| fin (h _ _)

theorem t147 {U KK : sProp 𝕄} {w2} {w81} {w83} {w84} {Q} (h : SA A K c 1 U KK 20 22 20 19 20 18 19 ⊢ Q ⟨⟩) :
    SA A K c 1 U KK 19 21 19 18 20 18 19 ⊢ WP c (k0_part147 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 9)) w81 (W (ck c true 10)) w83 (W (ck c false 10)) w84) Q := by
  rw [k0_part147_eq_skeleton]; unfold k0_part147_skel
  exact grR (sem20 _ _ (offS_W _) _) <| gwR <| gsR rfl (sem20 _ _ (offS_W _) _) (offH1_W _) (offH1_W _) <| grL (sem19 _ _ (offS_W _) _) <| fin h

theorem t148 {U KK : sProp 𝕄} {w1} {w82} {w84} {Q} (h : SA A K c 1 U KK 20 22 20 20 21 20 19 ⊢ Q ⟨⟩) :
    SA A K c 1 U KK 20 22 20 19 20 18 19 ⊢ WP c (k0_part148 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 9)) w82 (W (ck c false 10)) w84) Q := by
  rw [k0_part148_eq_skeleton]; unfold k0_part148_skel
  exact gwL <| gsL rfl (sem19 _ _ (offS_W _) _) (offH0_W _) (offH0_W _) <| grL (sem20 _ _ (offS_W _) _) <| gwL <| fin h

theorem t149 {U KK : sProp 𝕄} {w1} {w83} {w84} {Q} (h : SA A K c 1 U KK 20 22 20 20 22 20 20 ⊢ Q (k0_pay114 (xb A 1 (ck c false 10)) (A.wi 1 c))) :
    SA A K c 1 U KK 20 22 20 20 21 20 19 ⊢ WP c (k0_part149 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 10)) w83 (W (ck c false 10)) w84) Q := by
  rw [k0_part149_eq_skeleton]; unfold k0_part149_skel
  exact gsL rfl (sem20 _ _ (offS_W _) _) (offH1_W _) (offH1_W _) <| xC true 9 <| op_in4 <| op_in5 <| op_ydead fun _ => yC true 10 rfl <| xC false 9 <| op_in4 <| fin h

theorem t150 {U KK : sProp 𝕄} {w83} {w84} {Q} (h : ∀ (w85 : k0_chk85 (W (ck c true 11))) (w86 : k0_chk86 (W (ck c false 11))), SA A K c 1 U KK 21 22 21 20 22 20 21 ⊢ Q ⟨((W (ck c true 11))), w85, ((W (ck c false 11))), w86⟩) :
    SA A K c 1 U KK 20 22 20 20 22 20 20 ⊢ WP c (k0_part150 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 10)) w83 (W (ck c false 10)) w84 (k0_pay114 (xb A 1 (ck c false 10)) (A.wi 1 c))) Q := by
  rw [k0_part150_eq_skeleton]; unfold k0_part150_skel
  exact op_in5 <| op_ydead fun _ => yC false 10 rfl <| op_tab 14 rfl <| chk (chkA _) <| op_tab 30 rfl <| chk (chkA _) <| grR (sem19 _ _ (offS_W _) _) <| gwR <| fin (h _ _)

theorem t151 {U KK : sProp 𝕄} {w2} {w83} {w85} {w86} {Q} (h : SA A K c 1 U KK 22 24 22 20 22 20 21 ⊢ Q ⟨⟩) :
    SA A K c 1 U KK 21 22 21 20 22 20 21 ⊢ WP c (k0_part151 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 10)) w83 (W (ck c true 11)) w85 (W (ck c false 11)) w86) Q := by
  rw [k0_part151_eq_skeleton]; unfold k0_part151_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t152 {U KK : sProp 𝕄} {w1} {w84} {w86} {Q} (h : SA A K c 1 U KK 22 24 22 22 23 22 21 ⊢ Q ⟨⟩) :
    SA A K c 1 U KK 22 24 22 20 22 20 21 ⊢ WP c (k0_part152 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 10)) w84 (W (ck c false 11)) w86) Q := by
  rw [k0_part152_eq_skeleton]; unfold k0_part152_skel
  exact grL (sem19 _ _ (offS_W _) _) <| gwL <| gsL rfl (sem19 _ _ (offS_W _) _) (offH0_W _) (offH0_W _) <| grL (sem20 _ _ (offS_W _) _) <| gwL <| fin h

theorem t153 {U KK : sProp 𝕄} {w1} {w85} {w86} {Q} (h : SA A K c 1 U KK 22 24 22 22 24 22 22 ⊢ Q ⟨(k0_pay117 (xb A 1 (ck c false 11))), ((A.wi 1 c))⟩) :
    SA A K c 1 U KK 22 24 22 22 23 22 21 ⊢ WP c (k0_part153 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 11)) w85 (W (ck c false 11)) w86) Q := by
  rw [k0_part153_eq_skeleton]; unfold k0_part153_skel
  exact gsL rfl (sem20 _ _ (offS_W _) _) (offH1_W _) (offH1_W _) <| xC true 10 <| op_in4 <| op_in5 <| op_ydead fun _ => yC true 11 rfl <| xC false 10 <| op_in4 <| fin h

theorem t154 {U KK : sProp 𝕄} {w85} {w86} {Q} (h : ∀ (w87 : k0_chk87 (W (ck c true 12))) (w88 : k0_chk88 (W (ck c false 12))) (b2 : BitVec 32), SA A K c 1 U KK 23 24 23 22 24 22 23 ⊢ Q ⟨((W (ck c true 12))), w87, ((W (ck c false 12))), w88, b2⟩) :
    SA A K c 1 U KK 22 24 22 22 24 22 22 ⊢ WP c (k0_part154 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 11)) w85 (W (ck c false 11)) w86 (k0_pay117 (xb A 1 (ck c false 11))) (A.wi 1 c)) Q := by
  rw [k0_part154_eq_skeleton]; unfold k0_part154_skel
  exact op_in5 <| op_ydead fun _ => yC false 11 rfl <| op_tab 15 rfl <| chk (chkA _) <| op_tab 31 rfl <| chk (chkA _) <| grR (sem19 _ _ (offS_W _) _) <| gwR <| fin (h _ _ _)

theorem t155 {U KK : sProp 𝕄} {w2} {w85} {w87} {c1_i32_3824 : BitVec 32} {Q} (h : ∀ (b0 : BitVec 32), SA A K c 1 U KK 24 26 24 22 24 22 23 ⊢ Q b0) :
    SA A K c 1 U KK 23 24 23 22 24 22 23 ⊢ WP c (k0_part155 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 11)) w85 (W (ck c true 12)) w87 (W (ck c false 12)) c1_i32_3824) Q := by
  rw [k0_part155_eq_skeleton]; unfold k0_part155_skel
  exact gsR rfl (sem19 _ _ (offS_W _) _) (offH0_W _) (offH0_W _) <| grR (sem20 _ _ (offS_W _) _) <| gwR <| gsR rfl (sem20 _ _ (offS_W _) _) (offH1_W _) (offH1_W _) <| fin (h _)

theorem t156 {U KK : sProp 𝕄} {w1} {w86} {w88} {v4765} {Q} (h : SA A K c 1 U KK 24 26 24 24 25 23 23 ⊢ Q ⟨⟩) :
    SA A K c 1 U KK 24 26 24 22 24 22 23 ⊢ WP c (k0_part156 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 11)) w86 (W (ck c false 12)) w88 v4765) Q := by
  rw [k0_part156_eq_skeleton]; unfold k0_part156_skel
  exact grL (sem19 _ _ (offS_W _) _) <| gwL <| gsL rfl (sem19 _ _ (offS_W _) _) (offH0_W _) (offH0_W _) <| grL (sem20 _ _ (offS_W _) _) <| fin h

theorem t157 {U KK : sProp 𝕄} {w1} {w86} {w87} {w88} {Q} (h : ∀ (b0 : BitVec 32), SA A K c 1 U KK 24 26 24 24 26 24 24 ⊢ Q b0) :
    SA A K c 1 U KK 24 26 24 24 25 23 23 ⊢ WP c (k0_part157 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 11)) w86 (W (ck c true 12)) w87 (W (ck c false 12)) w88) Q := by
  rw [k0_part157_eq_skeleton]; unfold k0_part157_skel
  exact gwL <| gsL rfl (sem20 _ _ (offS_W _) _) (offH1_W _) (offH1_W _) <| xC true 11 <| op_in4 <| op_in5 <| op_ydead fun _ => yC true 12 rfl <| fin (h _)

theorem t158 {U KK : sProp 𝕄} {w87} {w88} {c256_i32_3896 : BitVec 32} {Q} (h : ∀ (w89 : k0_chk89 (W (ck c true 13))) (w90 : k0_chk90 (W (ck c false 13))) (b2 : BitVec 32), SA A K c 1 U KK 25 26 25 24 26 24 25 ⊢ Q ⟨((W (ck c true 13))), w89, ((W (ck c false 13))), w90, b2⟩) :
    SA A K c 1 U KK 24 26 24 24 26 24 24 ⊢ WP c (k0_part158 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 12)) w87 (W (ck c false 12)) w88 c256_i32_3896) Q := by
  rw [k0_part158_eq_skeleton]; unfold k0_part158_skel
  exact xC false 11 <| op_in4 <| op_in5 <| op_ydead fun _ => yC false 12 rfl <| op_tab 16 rfl <| chk (chkA _) <| op_tab 32 rfl <| chk (chkA _) <| grR (sem19 _ _ (offS_W _) _) <| gwR <| fin (h _ _ _)

theorem t159 {U KK : sProp 𝕄} {w2} {w87} {w89} {v4861} {Q} (h : SA A K c 1 U KK 26 27 26 24 26 24 25 ⊢ Q ⟨⟩) :
    SA A K c 1 U KK 25 26 25 24 26 24 25 ⊢ WP c (k0_part159 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 12)) w87 (W (ck c true 13)) w89 v4861) Q := by
  rw [k0_part159_eq_skeleton]; unfold k0_part159_skel
  exact gsR rfl (sem19 _ _ (offS_W _) _) (offH0_W _) (offH0_W _) <| grR (sem20 _ _ (offS_W _) _) <| gwR <| fin h

theorem t160 {U KK : sProp 𝕄} {w1} {w2} {w88} {w89} {w90} {Q} (h : SA A K c 1 U KK 26 28 26 25 27 25 25 ⊢ Q ⟨⟩) :
    SA A K c 1 U KK 26 27 26 24 26 24 25 ⊢ WP c (k0_part160 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 12)) w88 (W (ck c true 13)) w89 (W (ck c false 13)) w90) Q := by
  rw [k0_part160_eq_skeleton]; unfold k0_part160_skel
  exact gsR rfl (sem20 _ _ (offS_W _) _) (offH1_W _) (offH1_W _) <| grL (sem19 _ _ (offS_W _) _) <| gwL <| gsL rfl (sem19 _ _ (offS_W _) _) (offH0_W _) (offH0_W _) <| fin h

theorem t161 {U KK : sProp 𝕄} {w1} {w88} {w89} {w90} {Q} (h : ∀ (b0 : BitVec 32), SA A K c 1 U KK 26 28 26 26 28 26 25 ⊢ Q ⟨(k0_pay121 (xb A 1 (ck c true 13)) (A.wi 1 c) (A.wo 1 c)), b0⟩) :
    SA A K c 1 U KK 26 28 26 25 27 25 25 ⊢ WP c (k0_part161 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 12)) w88 (W (ck c true 13)) w89 (W (ck c false 13)) w90) Q := by
  rw [k0_part161_eq_skeleton]; unfold k0_part161_skel
  exact grL (sem20 _ _ (offS_W _) _) <| gwL <| gsL rfl (sem20 _ _ (offS_W _) _) (offH1_W _) (offH1_W _) <| xC true 12 <| op_in4 <| op_in5 <| fin (h _)

theorem t162 {U KK : sProp 𝕄} {w89} {w90} {c256_i32_3994 : BitVec 32} {Q} (h : ∀ (w91 : k0_chk91 (W (ck c true 14))) (w92 : k0_chk92 (W (ck c false 14))), SA A K c 1 U KK 27 28 26 26 28 26 27 ⊢ Q ⟨((W (ck c true 14))), w91, ((W (ck c false 14))), w92⟩) :
    SA A K c 1 U KK 26 28 26 26 28 26 25 ⊢ WP c (k0_part162 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 13)) w89 (W (ck c false 13)) w90 (k0_pay121 (xb A 1 (ck c true 13)) (A.wi 1 c) (A.wo 1 c)) c256_i32_3994) Q := by
  rw [k0_part162_eq_skeleton]; unfold k0_part162_skel
  exact op_ydead fun _ => yC true 13 rfl <| xC false 12 <| op_in4 <| op_in5 <| op_ydead fun _ => yC false 13 rfl <| op_tab 17 rfl <| chk (chkA _) <| op_tab 33 rfl <| chk (chkA _) <| grR (sem19 _ _ (offS_W _) _) <| fin (h _ _)

theorem t163 {U KK : sProp 𝕄} {w2} {w89} {w91} {Q} (h : SA A K c 1 U KK 28 29 28 26 28 26 27 ⊢ Q ⟨⟩) :
    SA A K c 1 U KK 27 28 26 26 28 26 27 ⊢ WP c (k0_part163 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 13)) w89 (W (ck c true 14)) w91) Q := by
  rw [k0_part163_eq_skeleton]; unfold k0_part163_skel
  exact gwR <| gsR rfl (sem19 _ _ (offS_W _) _) (offH0_W _) (offH0_W _) <| grR (sem20 _ _ (offS_W _) _) <| gwR <| fin h

theorem t164 {U KK : sProp 𝕄} {w1} {w2} {w90} {w91} {w92} {Q} (h : SA A K c 1 U KK 28 30 28 27 29 27 27 ⊢ Q ⟨⟩) :
    SA A K c 1 U KK 28 29 28 26 28 26 27 ⊢ WP c (k0_part164 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 13)) w90 (W (ck c true 14)) w91 (W (ck c false 14)) w92) Q := by
  rw [k0_part164_eq_skeleton]; unfold k0_part164_skel
  exact gsR rfl (sem20 _ _ (offS_W _) _) (offH1_W _) (offH1_W _) <| grL (sem19 _ _ (offS_W _) _) <| gwL <| gsL rfl (sem19 _ _ (offS_W _) _) (offH0_W _) (offH0_W _) <| fin h

theorem t165 {U KK : sProp 𝕄} {w1} {w90} {w91} {w92} {Q} (h : SA A K c 1 U KK 28 30 28 28 30 28 27 ⊢ Q ⟨(k0_pay124 (xb A 1 (ck c true 14)) (A.wi 1 c)), (k0_pay125 (F := F))⟩) :
    SA A K c 1 U KK 28 30 28 27 29 27 27 ⊢ WP c (k0_part165 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 13)) w90 (W (ck c true 14)) w91 (W (ck c false 14)) w92) Q := by
  rw [k0_part165_eq_skeleton]; unfold k0_part165_skel
  exact grL (sem20 _ _ (offS_W _) _) <| gwL <| gsL rfl (sem20 _ _ (offS_W _) _) (offH1_W _) (offH1_W _) <| xC true 13 <| op_in4 <| fin h

end

end Cert.TpMlp

end
-- ==== Proof.PartC.lean ====
/-
  The parts of the body, one by one.
-/
module

public import proofs.«01_k».proof.Proof.Steps

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {A : Args F} {K : GSem nD τ sig → ℕ} {c : Dev nD}

theorem t166 {U KK : sProp 𝕄} {w91} {w92} {Q} (h : ∀ (w93 : k0_chk93 (W (ck c true 15))) (w94 : k0_chk94 (W (ck c false 15))), SA A K c 1 U KK 28 30 28 28 30 28 29 ⊢ Q ⟨((W (ck c true 15))), w93, ((W (ck c false 15))), w94⟩) :
    SA A K c 1 U KK 28 30 28 28 30 28 27 ⊢ WP c (k0_part166 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 14)) w91 (W (ck c false 14)) w92 (k0_pay124 (xb A 1 (ck c true 14)) (A.wi 1 c)) (k0_pay125 (F := F))) Q := by
  rw [k0_part166_eq_skeleton]; unfold k0_part166_skel
  exact op_in5 <| op_ydead fun _ => yC true 14 rfl <| xC false 13 <| op_in4 <| op_in5 <| op_ydead fun _ => yC false 14 rfl <| op_tab 18 rfl <| chk (chkA _) <| op_tab 34 rfl <| chk (chkZ _) <| fin (h _ _)

theorem t167 {U KK : sProp 𝕄} {w2} {w91} {w93} {Q} (h : SA A K c 1 U KK 30 31 30 28 30 28 29 ⊢ Q ⟨⟩) :
    SA A K c 1 U KK 28 30 28 28 30 28 29 ⊢ WP c (k0_part167 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 14)) w91 (W (ck c true 15)) w93) Q := by
  rw [k0_part167_eq_skeleton]; unfold k0_part167_skel
  exact grR (sem19 _ _ (offS_W _) _) <| gwR <| gsR rfl (sem19 _ _ (offS_W _) _) (offH0_W _) (offH0_W _) <| grR (sem20 _ _ (offS_W _) _) <| gwR <| fin h

theorem t168 {U KK : sProp 𝕄} {w2} {w93} {w94} {Q} (h : SA A K c 1 U KK 30 32 30 30 30 28 29 ⊢ Q (k0_pay128 (xb A 1 (ck c true 15)))) :
    SA A K c 1 U KK 30 31 30 28 30 28 29 ⊢ WP c (k0_part168 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 15)) w93 (W (ck c false 15)) w94) Q := by
  rw [k0_part168_eq_skeleton]; unfold k0_part168_skel
  exact gsR rfl (sem20 _ _ (offS_W _) _) (offH1_W _) (offH1_W _) <| grL (sem19 _ _ (offS_W _) _) <| grL (sem20 _ _ (offS_W _) _) <| xC true 14 <| fin h

theorem t169 {U KK : sProp 𝕄} {w93} {w94} {Q} (h : ∀ (w95 : k0_chk95 (W (ck c true 16))) (b1 : BitVec 32) (b2 : BitVec 32), SA A K c 1 U KK 30 32 30 30 30 28 31 ⊢ Q ⟨((W (ck c true 16))), w95, b1, b2⟩) :
    SA A K c 1 U KK 30 32 30 30 30 28 29 ⊢ WP c (k0_part169 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 15)) w93 (W (ck c false 15)) w94 (k0_pay128 (xb A 1 (ck c true 15)))) Q := by
  rw [k0_part169_eq_skeleton]; unfold k0_part169_skel
  exact op_in4 <| op_in5 <| op_ydead fun _ => yC true 15 rfl <| xC false 14 <| op_in4 <| op_in5 <| op_ydead fun _ => yC false 15 rfl <| op_tab 19 rfl <| chk (chkZ _) <| fin (h _ _ _)

theorem t170 {U KK : sProp 𝕄} {w93} {w95} {v5214} {c0_i32_4185 : BitVec 32} {Q} (h : SA A K c 1 U KK 32 32 30 30 30 28 32 ⊢ Q ⟨⟩) :
    SA A K c 1 U KK 30 32 30 30 30 28 31 ⊢ WP c (k0_part170 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 15)) w93 (W (ck c true 16)) w95 v5214 c0_i32_4185) Q := by
  rw [k0_part170_eq_skeleton]; unfold k0_part170_skel
  exact grR (sem19 _ _ (offS_W _) _) <| grR (sem20 _ _ (offS_W _) _) <| xC true 15 <| op_in4 <| op_in5 <| op_ydead fun _ => yC true 16 rfl <| fin h

theorem t171 {U KK JJ : sProp 𝕄} {w92} {w93} {Q} (tr : SA A K c 1 U KK 32 32 32 30 30 30 32 ⊢ SB A K c 1 U JJ false 0 0 0 0 0 0 0 0) (h : SB A K c 1 U JJ false 0 1 0 0 0 1 0 0 ⊢ Q ⟨⟩) :
    SA A K c 1 U KK 32 32 30 30 30 28 32 ⊢ WP c (k0_part171 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c false 14)) w92 (W (ck c true 15)) w93) Q := by
  rw [k0_part171_eq_skeleton]; unfold k0_part171_skel
  exact gwR <| gwR <| gwL <| gwL <| tr.trans <| op_tab 2 rfl <| chk (chkB _) <| op_yload (rsc c true 0) (offC_W _) <| sdR fun _ => ssR rfl <| op_tab 3 rfl <| chk (chkB _) <| op_yload (rsc c false 0) (offC_W _) <| sdL fun _ => ssL rfl <| fin h

theorem t172 {U KK : sProp 𝕄} {w1} {w2} {Q} (h : ∀ (w98 : k0_chk98 (W (rsc c true 1))) (b1 : BitVec 32), SB A K c 1 U KK false 1 1 1 0 0 1 1 0 ⊢ Q ⟨((W (rsc c true 1))), w98, (k0_pay134 (Sm A 1 true 0 (nx c false))), b1⟩) :
    SB A K c 1 U KK false 0 1 0 0 0 1 0 0 ⊢ WP c (k0_part172 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2) Q := by
  rw [k0_part172_eq_skeleton]; unfold k0_part172_skel
  exact s0R <| s0L <| rrR <| op_tab 35 rfl <| chk (chkB _) <| slR 0 <| fin (h _ _)

theorem t173 {U KK : sProp 𝕄} {w2} {w98} {v5305} {Q} (h : ∀ (w99 : k0_chk99 (W (rsc c false 1))), SB A K c 1 U KK false 1 2 2 0 1 1 1 0 ⊢ Q ⟨((W (rsc c false 1))), w99, (k0_pay136 (Sm A 1 false 0 (nx c true)))⟩) :
    SB A K c 1 U KK false 1 1 1 0 0 1 1 0 ⊢ WP c (k0_part173 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 1)) w98 (k0_pay134 (Sm A 1 true 0 (nx c false))) v5305) Q := by
  rw [k0_part173_eq_skeleton]; unfold k0_part173_skel
  exact op_yload (rsc c true 1) (offC_W _) <| slR 0 <| stR 0 rfl <| rsR 0 <| rrL <| op_tab 50 rfl <| chk (chkB _) <| slL 0 <| fin (h _)

theorem t174 {U KK : sProp 𝕄} {w1} {w99} {Q} (h : ∀ (w100 : k0_chk100 (W (rsc c true 2))), SB A K c 1 U KK false 2 2 2 0 1 2 2 0 ⊢ Q ⟨((W (rsc c true 2))), w100⟩) :
    SB A K c 1 U KK false 1 2 2 0 1 1 1 0 ⊢ WP c (k0_part174 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 1)) w99 (k0_pay136 (Sm A 1 false 0 (nx c true)))) Q := by
  rw [k0_part174_eq_skeleton]; unfold k0_part174_skel
  exact op_yload (rsc c false 1) (offC_W _) <| slL 0 <| stL 0 rfl <| rsL 0 <| rrR <| op_tab 36 rfl <| chk (chkB _) <| fin (h _)

theorem t175 {U KK : sProp 𝕄} {w2} {w100} {Q} (h : SB A K c 1 U KK false 2 3 3 1 1 2 2 0 ⊢ Q ⟨⟩) :
    SB A K c 1 U KK false 2 2 2 0 1 2 2 0 ⊢ WP c (k0_part175 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 2)) w100) Q := by
  rw [k0_part175_eq_skeleton]; unfold k0_part175_skel
  exact slR 1 <| op_yload (rsc c true 2) (offC_W _) <| slR 1 <| stR 1 rfl <| rwR <| rsR 1 <| fin h

theorem t176 {U KK : sProp 𝕄}  {Q} (h : SB A K c 1 U KK false 2 3 3 1 2 3 2 1 ⊢ Q ⟨⟩) :
    SB A K c 1 U KK false 2 3 3 1 1 2 2 0 ⊢ WP c (k0_part176 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part176_eq_skeleton]; unfold k0_part176_skel
  exact rrL <| op_tab 51 rfl <| chk (chkB _) <| slL 1 <| op_yload (rsc c false 2) (offC_W _) <| slL 1 <| stL 1 rfl <| rwL <| fin h

theorem t177 {U KK : sProp 𝕄} {w1} {Q} (h : SB A K c 1 U KK false 3 4 3 1 2 3 3 1 ⊢ Q ⟨⟩) :
    SB A K c 1 U KK false 2 3 3 1 2 3 2 1 ⊢ WP c (k0_part177 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part177_eq_skeleton]; unfold k0_part177_skel
  exact rsL 1 <| rrR <| op_tab 37 rfl <| chk (chkB _) <| slR 2 <| op_yload (rsc c true 3) (offC_W _) <| slR 2 <| stR 2 rfl <| fin h

theorem t178 {U KK : sProp 𝕄} {w2} {Q} (h : SB A K c 1 U KK false 3 4 4 2 3 3 3 1 ⊢ Q (k0_pay141 (Sm A 1 false 2 (nx c true)) (Y A 1 c (rsc c false 3)))) :
    SB A K c 1 U KK false 3 4 3 1 2 3 3 1 ⊢ WP c (k0_part178 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part178_eq_skeleton]; unfold k0_part178_skel
  exact rwR <| rsR 2 <| rrL <| op_tab 52 rfl <| chk (chkB _) <| slL 2 <| op_yload (rsc c false 3) (offC_W _) <| fin h

theorem t179 {U KK : sProp 𝕄} {w1} {Q} (h : SB A K c 1 U KK false 3 4 4 2 3 4 4 2 ⊢ Q ⟨⟩) :
    SB A K c 1 U KK false 3 4 4 2 3 3 3 1 ⊢ WP c (k0_part179 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay141 (Sm A 1 false 2 (nx c true)) (Y A 1 c (rsc c false 3)))) Q := by
  rw [k0_part179_eq_skeleton]; unfold k0_part179_skel
  exact slL 2 <| stL 2 rfl <| rwL <| rsL 2 <| fin h

theorem t180 {U KK : sProp 𝕄}  {Q} (h : SB A K c 1 U KK false 4 5 4 3 3 4 4 2 ⊢ Q ⟨⟩) :
    SB A K c 1 U KK false 3 4 4 2 3 4 4 2 ⊢ WP c (k0_part180 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part180_eq_skeleton]; unfold k0_part180_skel
  exact rrR <| op_tab 38 rfl <| chk (chkB _) <| slR 3 <| op_yload (rsc c true 4) (offC_W _) <| slR 3 <| stR 3 rfl <| rwR <| fin h

theorem t181 {U KK : sProp 𝕄} {w2} {Q} (h : SB A K c 1 U KK false 4 5 5 3 4 5 4 3 ⊢ Q ⟨⟩) :
    SB A K c 1 U KK false 4 5 4 3 3 4 4 2 ⊢ WP c (k0_part181 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part181_eq_skeleton]; unfold k0_part181_skel
  exact rsR 3 <| rrL <| op_tab 53 rfl <| chk (chkB _) <| slL 3 <| op_yload (rsc c false 4) (offC_W _) <| slL 3 <| stL 3 rfl <| rwL <| fin h

theorem t182 {U KK : sProp 𝕄} {w1} {Q} (h : SB A K c 1 U KK false 5 5 5 3 4 5 5 3 ⊢ Q (k0_pay145 (Sm A 1 true 4 (nx c false)) (Y A 1 c (rsc c true 5)))) :
    SB A K c 1 U KK false 4 5 5 3 4 5 4 3 ⊢ WP c (k0_part182 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part182_eq_skeleton]; unfold k0_part182_skel
  exact rsL 3 <| rrR <| op_tab 39 rfl <| chk (chkB _) <| slR 4 <| op_yload (rsc c true 5) (offC_W _) <| slR 4 <| fin h

theorem t183 {U KK : sProp 𝕄} {w2} {Q} (h : SB A K c 1 U KK false 5 6 6 4 5 5 5 3 ⊢ Q ((W (rsc c false 5)))) :
    SB A K c 1 U KK false 5 5 5 3 4 5 5 3 ⊢ WP c (k0_part183 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (k0_pay145 (Sm A 1 true 4 (nx c false)) (Y A 1 c (rsc c true 5)))) Q := by
  rw [k0_part183_eq_skeleton]; unfold k0_part183_skel
  exact stR 4 rfl <| rwR <| rsR 4 <| rrL <| tail <| op_tab 54 rfl <| fin h

theorem t184 {U KK : sProp 𝕄} {w1} {Q} (h : SB A K c 1 U KK false 5 6 6 4 5 6 6 4 ⊢ Q ⟨⟩) :
    SB A K c 1 U KK false 5 6 6 4 5 5 5 3 ⊢ WP c (k0_part184 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 5))) Q := by
  rw [k0_part184_eq_skeleton]; unfold k0_part184_skel
  exact chk (chkB _) <| slL 4 <| op_yload (rsc c false 5) (offC_W _) <| slL 4 <| stL 4 rfl <| rwL <| rsL 4 <| fin h

theorem t185 {U KK : sProp 𝕄}  {Q} (h : SB A K c 1 U KK false 6 7 6 5 5 6 6 4 ⊢ Q ⟨⟩) :
    SB A K c 1 U KK false 5 6 6 4 5 6 6 4 ⊢ WP c (k0_part185 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part185_eq_skeleton]; unfold k0_part185_skel
  exact rrR <| op_tab 40 rfl <| chk (chkB _) <| slR 5 <| op_yload (rsc c true 6) (offC_W _) <| slR 5 <| stR 5 rfl <| rwR <| fin h

theorem t186 {U KK : sProp 𝕄} {w2} {Q} (h : SB A K c 1 U KK false 6 7 7 5 6 7 6 4 ⊢ Q ⟨⟩) :
    SB A K c 1 U KK false 6 7 6 5 5 6 6 4 ⊢ WP c (k0_part186 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part186_eq_skeleton]; unfold k0_part186_skel
  exact rsR 5 <| rrL <| op_tab 55 rfl <| chk (chkB _) <| slL 5 <| op_yload (rsc c false 6) (offC_W _) <| slL 5 <| stL 5 rfl <| fin h

theorem t187 {U KK : sProp 𝕄} {w1} {Q} (h : ∀ (w110 : k0_chk110 (W (rsc c true 7))), SB A K c 1 U KK false 7 7 7 5 6 7 7 5 ⊢ Q ⟨((W (rsc c true 7))), w110⟩) :
    SB A K c 1 U KK false 6 7 7 5 6 7 6 4 ⊢ WP c (k0_part187 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part187_eq_skeleton]; unfold k0_part187_skel
  exact rwL <| rsL 5 <| rrR <| op_tab 41 rfl <| chk (chkB _) <| fin (h _)

theorem t188 {U KK : sProp 𝕄} {w2} {w110} {Q} (h : ∀ (b0 : BitVec 32), SB A K c 1 U KK false 7 8 8 6 6 7 7 5 ⊢ Q b0) :
    SB A K c 1 U KK false 7 7 7 5 6 7 7 5 ⊢ WP c (k0_part188 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 7)) w110) Q := by
  rw [k0_part188_eq_skeleton]; unfold k0_part188_skel
  exact slR 6 <| op_yload (rsc c true 7) (offC_W _) <| slR 6 <| stR 6 rfl <| rwR <| rsR 6 <| fin (h _)

theorem t189 {U KK : sProp 𝕄} {c1_i32_4719 : BitVec 32} {Q} (h : ∀ (b0 : BitVec 32) (b1 : BitVec 32), SB A K c 1 U KK false 7 8 8 6 7 8 7 6 ⊢ Q ⟨b0, b1⟩) :
    SB A K c 1 U KK false 7 8 8 6 6 7 7 5 ⊢ WP c (k0_part189 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) c1_i32_4719) Q := by
  rw [k0_part189_eq_skeleton]; unfold k0_part189_skel
  exact rrL <| op_tab 56 rfl <| chk (chkB _) <| slL 6 <| op_yload (rsc c false 7) (offC_W _) <| slL 6 <| stL 6 rfl <| rwL <| fin (h _ _)

theorem t190 {U KK : sProp 𝕄} {w1} {v5771} {c0_i32_4748 : BitVec 32} {Q} (h : SB A K c 1 U KK false 8 9 8 6 7 8 8 6 ⊢ Q ⟨⟩) :
    SB A K c 1 U KK false 7 8 8 6 7 8 7 6 ⊢ WP c (k0_part190 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 v5771 c0_i32_4748) Q := by
  rw [k0_part190_eq_skeleton]; unfold k0_part190_skel
  exact rsL 6 <| rrR <| op_tab 42 rfl <| chk (chkB _) <| slR 7 <| op_yload (rsc c true 8) (offC_W _) <| slR 7 <| stR 7 rfl <| fin h

theorem t191 {U KK : sProp 𝕄} {w2} {Q} (h : ∀ (w113 : k0_chk113 (W (rsc c false 8))), SB A K c 1 U KK false 8 9 9 7 8 8 8 6 ⊢ Q ⟨((W (rsc c false 8))), w113, (k0_pay153 (Sm A 1 false 7 (nx c true)))⟩) :
    SB A K c 1 U KK false 8 9 8 6 7 8 8 6 ⊢ WP c (k0_part191 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part191_eq_skeleton]; unfold k0_part191_skel
  exact rwR <| rsR 7 <| rrL <| op_tab 57 rfl <| chk (chkB _) <| slL 7 <| fin (h _)

theorem t192 {U KK : sProp 𝕄} {w1} {w113} {Q} (h : SB A K c 1 U KK false 8 9 9 7 8 9 9 7 ⊢ Q ⟨⟩) :
    SB A K c 1 U KK false 8 9 9 7 8 8 8 6 ⊢ WP c (k0_part192 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 8)) w113 (k0_pay153 (Sm A 1 false 7 (nx c true)))) Q := by
  rw [k0_part192_eq_skeleton]; unfold k0_part192_skel
  exact op_yload (rsc c false 8) (offC_W _) <| slL 7 <| stL 7 rfl <| rwL <| rsL 7 <| fin h

theorem t193 {U KK : sProp 𝕄}  {Q} (h : SB A K c 1 U KK false 9 10 9 8 8 9 9 7 ⊢ Q ⟨⟩) :
    SB A K c 1 U KK false 8 9 9 7 8 9 9 7 ⊢ WP c (k0_part193 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part193_eq_skeleton]; unfold k0_part193_skel
  exact rrR <| op_tab 43 rfl <| chk (chkB _) <| slR 8 <| op_yload (rsc c true 9) (offC_W _) <| slR 8 <| stR 8 rfl <| rwR <| fin h

theorem t194 {U KK : sProp 𝕄} {w2} {Q} (h : SB A K c 1 U KK false 9 10 10 8 9 10 9 7 ⊢ Q ⟨⟩) :
    SB A K c 1 U KK false 9 10 9 8 8 9 9 7 ⊢ WP c (k0_part194 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part194_eq_skeleton]; unfold k0_part194_skel
  exact rsR 8 <| rrL <| op_tab 58 rfl <| chk (chkB _) <| slL 8 <| op_yload (rsc c false 9) (offC_W _) <| slL 8 <| stL 8 rfl <| fin h

theorem t195 {U KK : sProp 𝕄} {w1} {Q} (h : ∀ (w116 : k0_chk116 (W (rsc c true 10))) (b1 : BitVec 32), SB A K c 1 U KK false 10 10 10 8 9 10 10 8 ⊢ Q ⟨((W (rsc c true 10))), w116, (k0_pay157 (Sm A 1 true 9 (nx c false))), b1⟩) :
    SB A K c 1 U KK false 9 10 10 8 9 10 9 7 ⊢ WP c (k0_part195 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part195_eq_skeleton]; unfold k0_part195_skel
  exact rwL <| rsL 8 <| rrR <| op_tab 44 rfl <| chk (chkB _) <| slR 9 <| fin (h _ _)

theorem t196 {U KK : sProp 𝕄} {w2} {w116} {v5937} {Q} (h : SB A K c 1 U KK false 10 11 11 9 9 10 10 8 ⊢ Q ⟨⟩) :
    SB A K c 1 U KK false 10 10 10 8 9 10 10 8 ⊢ WP c (k0_part196 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 10)) w116 (k0_pay157 (Sm A 1 true 9 (nx c false))) v5937) Q := by
  rw [k0_part196_eq_skeleton]; unfold k0_part196_skel
  exact op_yload (rsc c true 10) (offC_W _) <| slR 9 <| stR 9 rfl <| rwR <| rsR 9 <| fin h

theorem t197 {U KK : sProp 𝕄}  {Q} (h : SB A K c 1 U KK false 10 11 11 9 10 11 10 9 ⊢ Q ⟨⟩) :
    SB A K c 1 U KK false 10 11 11 9 9 10 10 8 ⊢ WP c (k0_part197 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part197_eq_skeleton]; unfold k0_part197_skel
  exact rrL <| op_tab 59 rfl <| chk (chkB _) <| slL 9 <| op_yload (rsc c false 10) (offC_W _) <| slL 9 <| stL 9 rfl <| rwL <| fin h

theorem t198 {U KK : sProp 𝕄} {w1} {Q} (h : SB A K c 1 U KK false 11 12 11 9 10 11 11 9 ⊢ Q ⟨⟩) :
    SB A K c 1 U KK false 10 11 11 9 10 11 10 9 ⊢ WP c (k0_part198 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part198_eq_skeleton]; unfold k0_part198_skel
  exact rsL 9 <| rrR <| op_tab 45 rfl <| chk (chkB _) <| slR 10 <| op_yload (rsc c true 11) (offC_W _) <| slR 10 <| stR 10 rfl <| fin h

theorem t199 {U KK : sProp 𝕄} {w2} {Q} (h : SB A K c 1 U KK false 11 12 12 10 11 11 11 9 ⊢ Q ⟨(k0_pay161 (Sm A 1 false 10 (nx c true))), ((Y A 1 c (rsc c false 11)))⟩) :
    SB A K c 1 U KK false 11 12 11 9 10 11 11 9 ⊢ WP c (k0_part199 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part199_eq_skeleton]; unfold k0_part199_skel
  exact rwR <| rsR 10 <| rrL <| op_tab 60 rfl <| chk (chkB _) <| slL 10 <| op_yload (rsc c false 11) (offC_W _) <| fin h

theorem t200 {U KK : sProp 𝕄} {w1} {Q} (h : SB A K c 1 U KK false 11 12 12 10 11 12 12 10 ⊢ Q ⟨⟩) :
    SB A K c 1 U KK false 11 12 12 10 11 11 11 9 ⊢ WP c (k0_part200 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay161 (Sm A 1 false 10 (nx c true))) (Y A 1 c (rsc c false 11))) Q := by
  rw [k0_part200_eq_skeleton]; unfold k0_part200_skel
  exact slL 10 <| stL 10 rfl <| rwL <| rsL 10 <| fin h

theorem t201 {U KK : sProp 𝕄}  {Q} (h : SB A K c 1 U KK false 12 13 12 11 11 12 12 10 ⊢ Q ⟨⟩) :
    SB A K c 1 U KK false 11 12 12 10 11 12 12 10 ⊢ WP c (k0_part201 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part201_eq_skeleton]; unfold k0_part201_skel
  exact rrR <| op_tab 46 rfl <| chk (chkB _) <| slR 11 <| op_yload (rsc c true 12) (offC_W _) <| slR 11 <| stR 11 rfl <| rwR <| fin h

theorem t202 {U KK : sProp 𝕄} {w2} {Q} (h : SB A K c 1 U KK false 12 13 13 11 12 13 12 10 ⊢ Q ⟨⟩) :
    SB A K c 1 U KK false 12 13 12 11 11 12 12 10 ⊢ WP c (k0_part202 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part202_eq_skeleton]; unfold k0_part202_skel
  exact rsR 11 <| rrL <| op_tab 61 rfl <| chk (chkB _) <| slL 11 <| op_yload (rsc c false 12) (offC_W _) <| slL 11 <| stL 11 rfl <| fin h

theorem t203 {U KK : sProp 𝕄} {w1} {Q} (h : SB A K c 1 U KK false 13 13 13 11 12 13 13 11 ⊢ Q (k0_pay165 (Sm A 1 true 12 (nx c false)) (Y A 1 c (rsc c true 13)))) :
    SB A K c 1 U KK false 12 13 13 11 12 13 12 10 ⊢ WP c (k0_part203 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part203_eq_skeleton]; unfold k0_part203_skel
  exact rwL <| rsL 11 <| rrR <| op_tab 47 rfl <| chk (chkB _) <| slR 12 <| op_yload (rsc c true 13) (offC_W _) <| fin h

theorem t204 {U KK : sProp 𝕄} {w2} {Q} (h : SB A K c 1 U KK false 13 14 14 12 12 13 13 11 ⊢ Q ⟨⟩) :
    SB A K c 1 U KK false 13 13 13 11 12 13 13 11 ⊢ WP c (k0_part204 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (k0_pay165 (Sm A 1 true 12 (nx c false)) (Y A 1 c (rsc c true 13)))) Q := by
  rw [k0_part204_eq_skeleton]; unfold k0_part204_skel
  exact slR 12 <| stR 12 rfl <| rwR <| rsR 12 <| fin h

theorem t205 {U KK : sProp 𝕄}  {Q} (h : SB A K c 1 U KK false 13 14 14 12 13 14 13 12 ⊢ Q ⟨⟩) :
    SB A K c 1 U KK false 13 14 14 12 12 13 13 11 ⊢ WP c (k0_part205 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part205_eq_skeleton]; unfold k0_part205_skel
  exact rrL <| op_tab 62 rfl <| chk (chkB _) <| slL 12 <| op_yload (rsc c false 13) (offC_W _) <| slL 12 <| stL 12 rfl <| rwL <| fin h

theorem t206 {U KK : sProp 𝕄} {w1} {Q} (h : SB A K c 1 U KK false 14 15 14 13 13 14 14 12 ⊢ Q ⟨⟩) :
    SB A K c 1 U KK false 13 14 14 12 13 14 13 12 ⊢ WP c (k0_part206 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part206_eq_skeleton]; unfold k0_part206_skel
  exact rsL 12 <| rrR <| op_tab 48 rfl <| chk (chkB _) <| slR 13 <| op_yload (rsc c true 14) (offC_W _) <| slR 13 <| stR 13 rfl <| rwR <| fin h

theorem t207 {U KK : sProp 𝕄} {w2} {Q} (h : SB A K c 1 U KK false 14 15 15 13 14 14 14 12 ⊢ Q ⟨(k0_pay169 (Sm A 1 false 13 (nx c true)) (Y A 1 c (rsc c false 14))), ((Sm A 1 false 13 (nx c true)))⟩) :
    SB A K c 1 U KK false 14 15 14 13 13 14 14 12 ⊢ WP c (k0_part207 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part207_eq_skeleton]; unfold k0_part207_skel
  exact rsR 13 <| rrL <| op_tab 63 rfl <| chk (chkB _) <| slL 13 <| op_yload (rsc c false 14) (offC_W _) <| slL 13 <| fin h

theorem t208 {U KK : sProp 𝕄} {w1} {Q} (h : SB A K c 1 U KK false 15 15 15 13 14 15 15 13 ⊢ Q ⟨⟩) :
    SB A K c 1 U KK false 14 15 15 13 14 14 14 12 ⊢ WP c (k0_part208 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay169 (Sm A 1 false 13 (nx c true)) (Y A 1 c (rsc c false 14))) (Sm A 1 false 13 (nx c true))) Q := by
  rw [k0_part208_eq_skeleton]; unfold k0_part208_skel
  exact stL 13 rfl <| rwL <| rsL 13 <| rrR <| fin h

theorem t209 {U KK : sProp 𝕄} {w2} {Q} (h : SB A K c 1 U KK false 15 16 16 14 14 15 15 13 ⊢ Q ⟨⟩) :
    SB A K c 1 U KK false 15 15 15 13 14 15 15 13 ⊢ WP c (k0_part209 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part209_eq_skeleton]; unfold k0_part209_skel
  exact op_tab 49 rfl <| chk (chkB _) <| slR 14 <| op_yload (rsc c true 15) (offC_W _) <| slR 14 <| stR 14 rfl <| rwR <| rsR 14 <| fin h

theorem t210 {U KK : sProp 𝕄}  {Q} (h : SB A K c 1 U KK false 16 16 16 15 15 15 15 13 ⊢ Q ⟨⟩) :
    SB A K c 1 U KK false 15 16 16 14 14 15 15 13 ⊢ WP c (k0_part210 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true))) Q := by
  rw [k0_part210_eq_skeleton]; unfold k0_part210_skel
  exact rrL <| rrR <| rwR <| fin h

theorem t211 {U KK : sProp 𝕄} {v2} {Q} (h : SB A K c 1 U KK false 16 16 16 16 15 15 15 15 ⊢ Q (k0_pay172 (Sm A 1 true 15 (nx c false)) (Sm A 1 false 14 (nx c true)) (Y A 1 c c))) :
    SB A K c 1 U KK false 16 16 16 15 15 15 15 13 ⊢ WP c (k0_part211 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2) Q := by
  rw [k0_part211_eq_skeleton]; unfold k0_part211_skel
  exact rwR <| rwL <| rwL <| slR 15 <| slL 14 <| op_yload c (offC_own _) <| fin h

theorem t212 {U KK JJ : sProp 𝕄} {v2} {w2} {Q} (tr : SB A K c 1 U KK true 16 16 16 16 15 15 15 15 ⊢ SA A K c 2 U JJ 0 0 0 0 0 0 0) (h : ∀ (b0 : BitVec 32) (b1 : BitVec 32), SA A K c 2 U JJ 0 2 0 0 0 0 0 ⊢ Q ⟨b0, b1⟩) :
    SB A K c 1 U KK false 16 16 16 16 15 15 15 15 ⊢ WP c (k0_part212 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c true)) w2 (k0_pay172 (Sm A 1 true 15 (nx c false)) (Sm A 1 false 14 (nx c true)) (Y A 1 c c))) Q := by
  rw [k0_part212_eq_skeleton]; unfold k0_part212_skel
  exact op_xdead (offC_own _) fun _ => op_xstore (offC_own _) rfl <| tr.trans <| gsR (ck_zero _ _) (sem19 _ _ (offS_own _) _) (offH0_own _) (offH0_own _) <| gsR (ck_zero _ _) (sem20 _ _ (offS_own _) _) (offH1_own _) (offH1_own _) <| fin (h _ _)

theorem t213 {U KK : sProp 𝕄} {v2} {w1} {v6404} {c0_i32_5410 : BitVec 32} {Q} (h : ∀ (b0 : BitVec 32), SA A K c 2 U KK 0 2 0 0 2 0 0 ⊢ Q ⟨(k0_pay174 (xb A 2 c) (A.wi 2 c) (A.wo 2 c)), b0⟩) :
    SA A K c 2 U KK 0 2 0 0 0 0 0 ⊢ WP c (k0_part213 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c false)) w1 v6404 c0_i32_5410) Q := by
  rw [k0_part213_eq_skeleton]; unfold k0_part213_skel
  exact gsL (ck_zero _ _) (sem19 _ _ (offS_own _) _) (offH0_own _) (offH0_own _) <| gsL (ck_zero _ _) (sem20 _ _ (offS_own _) _) (offH1_own _) (offH1_own _) <| op_xown (offC_own _) <| op_in6 <| op_in7 <| fin (h _)

theorem t214 {U KK : sProp 𝕄} {w2} {v6438} {Q} (h : ∀ (w127 : k0_chk127 (W (ck c true 1))) (w128 : k0_chk128 (W (ck c false 1))) (b2 : BitVec 32), SA A K c 2 U KK 1 3 1 0 2 0 1 ⊢ Q ⟨((W (ck c true 1))), w127, ((W (ck c false 1))), w128, b2⟩) :
    SA A K c 2 U KK 0 2 0 0 2 0 0 ⊢ WP c (k0_part214 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) (W (nx c true)) w2 (k0_pay174 (xb A 2 c) (A.wi 2 c) (A.wo 2 c)) v6438) Q := by
  rw [k0_part214_eq_skeleton]; unfold k0_part214_skel
  exact op_ydead fun _ => yO (offC_own _) rfl <| op_tab 4 rfl <| chk (chkA _) <| op_tab 20 rfl <| chk (chkA _) <| grR (sem19 _ _ (offS_W _) _) <| gwR <| gsR rfl (sem19 _ _ (offS_W _) _) (offH0_W _) (offH0_W _) <| fin (h _ _ _)

theorem t215 {U KK : sProp 𝕄} {w2} {w127} {w128} {v6469} {Q} (h : SA A K c 2 U KK 2 4 2 1 2 0 1 ⊢ Q ⟨⟩) :
    SA A K c 2 U KK 1 3 1 0 2 0 1 ⊢ WP c (k0_part215 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) (W (nx c true)) w2 (W (ck c true 1)) w127 (W (ck c false 1)) w128 v6469) Q := by
  rw [k0_part215_eq_skeleton]; unfold k0_part215_skel
  exact grR (sem20 _ _ (offS_W _) _) <| gwR <| gsR rfl (sem20 _ _ (offS_W _) _) (offH1_W _) (offH1_W _) <| grL (sem19 _ _ (offS_W _) _) <| fin h

theorem t216 {U KK : sProp 𝕄} {w1} {w128} {Q} (h : ∀ (b0 : BitVec 32), SA A K c 2 U KK 2 4 2 2 3 2 1 ⊢ Q b0) :
    SA A K c 2 U KK 2 4 2 1 2 0 1 ⊢ WP c (k0_part216 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c (W (nx c false)) w1 (W (nx c true)) (W (ck c false 1)) w128) Q := by
  rw [k0_part216_eq_skeleton]; unfold k0_part216_skel
  exact gwL <| gsL rfl (sem19 _ _ (offS_W _) _) (offH0_W _) (offH0_W _) <| grL (sem20 _ _ (offS_W _) _) <| gwL <| fin (h _)

theorem t217 {U KK : sProp 𝕄} {w1} {w127} {w128} {v6531} {Q} (h : SA A K c 2 U KK 2 4 2 2 4 2 2 ⊢ Q (k0_pay177 (xb A 2 (ck c false 1)) (A.wi 2 c))) :
    SA A K c 2 U KK 2 4 2 2 3 2 1 ⊢ WP c (k0_part217 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 1)) w127 (W (ck c false 1)) w128 v6531) Q := by
  rw [k0_part217_eq_skeleton]; unfold k0_part217_skel
  exact gsL rfl (sem20 _ _ (offS_W _) _) (offH1_W _) (offH1_W _) <| xC true 0 <| op_in6 <| op_in7 <| op_ydead fun _ => yC true 1 rfl <| xC false 0 <| op_in6 <| fin h

theorem t218 {U KK : sProp 𝕄} {w127} {w128} {Q} (h : ∀ (w129 : k0_chk129 (W (ck c true 2))) (w130 : k0_chk130 (W (ck c false 2))), SA A K c 2 U KK 3 4 3 2 4 2 3 ⊢ Q ⟨((W (ck c true 2))), w129, ((W (ck c false 2))), w130⟩) :
    SA A K c 2 U KK 2 4 2 2 4 2 2 ⊢ WP c (k0_part218 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 1)) w127 (W (ck c false 1)) w128 (k0_pay177 (xb A 2 (ck c false 1)) (A.wi 2 c))) Q := by
  rw [k0_part218_eq_skeleton]; unfold k0_part218_skel
  exact op_in7 <| op_ydead fun _ => yC false 1 rfl <| op_tab 5 rfl <| chk (chkA _) <| op_tab 21 rfl <| chk (chkA _) <| grR (sem19 _ _ (offS_W _) _) <| gwR <| fin (h _ _)

theorem t219 {U KK : sProp 𝕄} {w2} {w127} {w129} {Q} (h : SA A K c 2 U KK 4 6 4 2 4 2 3 ⊢ Q ⟨⟩) :
    SA A K c 2 U KK 3 4 3 2 4 2 3 ⊢ WP c (k0_part219 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 1)) w127 (W (ck c true 2)) w129 (W (ck c false 2))) Q := by
  rw [k0_part219_eq_skeleton]; unfold k0_part219_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t220 {U KK : sProp 𝕄} {w1} {w128} {w130} {Q} (h : SA A K c 2 U KK 4 6 4 4 5 3 3 ⊢ Q ⟨⟩) :
    SA A K c 2 U KK 4 6 4 2 4 2 3 ⊢ WP c (k0_part220 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 1)) w128 (W (ck c false 2)) w130) Q := by
  rw [k0_part220_eq_skeleton]; unfold k0_part220_skel
  exact grL (sem19 _ _ (offS_W _) _) <| gwL <| gsL rfl (sem19 _ _ (offS_W _) _) (offH0_W _) (offH0_W _) <| grL (sem20 _ _ (offS_W _) _) <| fin h

theorem t221 {U KK : sProp 𝕄} {w1} {w128} {w129} {w130} {Q} (h : SA A K c 2 U KK 4 6 4 4 6 4 4 ⊢ Q (k0_pay180 (xb A 2 (ck c false 2)))) :
    SA A K c 2 U KK 4 6 4 4 5 3 3 ⊢ WP c (k0_part221 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 1)) w128 (W (ck c true 2)) w129 (W (ck c false 2)) w130) Q := by
  rw [k0_part221_eq_skeleton]; unfold k0_part221_skel
  exact gwL <| gsL rfl (sem20 _ _ (offS_W _) _) (offH1_W _) (offH1_W _) <| xC true 1 <| op_in6 <| op_in7 <| op_ydead fun _ => yC true 2 rfl <| xC false 1 <| fin h

theorem t222 {U KK : sProp 𝕄} {w129} {w130} {Q} (h : ∀ (w131 : k0_chk131 (W (ck c true 3))) (w132 : k0_chk132 (W (ck c false 3))), SA A K c 2 U KK 5 6 5 4 6 4 5 ⊢ Q ⟨((W (ck c true 3))), w131, ((W (ck c false 3))), w132⟩) :
    SA A K c 2 U KK 4 6 4 4 6 4 4 ⊢ WP c (k0_part222 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 2)) w129 (W (ck c false 2)) w130 (k0_pay180 (xb A 2 (ck c false 2)))) Q := by
  rw [k0_part222_eq_skeleton]; unfold k0_part222_skel
  exact op_in6 <| op_in7 <| op_ydead fun _ => yC false 2 rfl <| op_tab 6 rfl <| chk (chkA _) <| op_tab 22 rfl <| chk (chkA _) <| grR (sem19 _ _ (offS_W _) _) <| gwR <| fin (h _ _)

theorem t223 {U KK : sProp 𝕄} {w2} {w129} {w131} {Q} (h : SA A K c 2 U KK 6 8 6 4 6 4 5 ⊢ Q ⟨⟩) :
    SA A K c 2 U KK 5 6 5 4 6 4 5 ⊢ WP c (k0_part223 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 2)) w129 (W (ck c true 3)) w131) Q := by
  rw [k0_part223_eq_skeleton]; unfold k0_part223_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t224 {U KK : sProp 𝕄} {w1} {w130} {w132} {Q} (h : SA A K c 2 U KK 6 8 6 5 7 5 5 ⊢ Q ⟨⟩) :
    SA A K c 2 U KK 6 8 6 4 6 4 5 ⊢ WP c (k0_part224 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 2)) w130 (W (ck c false 3)) w132) Q := by
  rw [k0_part224_eq_skeleton]; unfold k0_part224_skel
  exact grL (sem19 _ _ (offS_W _) _) <| gwL <| gsL rfl (sem19 _ _ (offS_W _) _) (offH0_W _) (offH0_W _) <| fin h

theorem t225 {U KK : sProp 𝕄} {w1} {w130} {w131} {w132} {Q} (h : SA A K c 2 U KK 6 8 6 6 8 6 5 ⊢ Q (k0_pay182 (xb A 2 (ck c true 3)) (A.wi 2 c) (A.wo 2 c))) :
    SA A K c 2 U KK 6 8 6 5 7 5 5 ⊢ WP c (k0_part225 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 2)) w130 (W (ck c true 3)) w131 (W (ck c false 3)) w132) Q := by
  rw [k0_part225_eq_skeleton]; unfold k0_part225_skel
  exact grL (sem20 _ _ (offS_W _) _) <| gwL <| gsL rfl (sem20 _ _ (offS_W _) _) (offH1_W _) (offH1_W _) <| xC true 2 <| op_in6 <| op_in7 <| op_ydead fun _ => fin h

theorem t226 {U KK : sProp 𝕄} {w131} {w132} {Q} (h : ∀ (w133 : k0_chk133 (W (ck c true 4))) (w134 : k0_chk134 (W (ck c false 4))), SA A K c 2 U KK 7 8 7 6 8 6 7 ⊢ Q ⟨((W (ck c true 4))), w133, ((W (ck c false 4))), w134⟩) :
    SA A K c 2 U KK 6 8 6 6 8 6 5 ⊢ WP c (k0_part226 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 3)) w131 (W (ck c false 3)) w132 (k0_pay182 (xb A 2 (ck c true 3)) (A.wi 2 c) (A.wo 2 c))) Q := by
  rw [k0_part226_eq_skeleton]; unfold k0_part226_skel
  exact yC true 3 rfl <| xC false 2 <| op_in6 <| op_in7 <| op_ydead fun _ => yC false 3 rfl <| op_tab 7 rfl <| chk (chkA _) <| op_tab 23 rfl <| chk (chkA _) <| grR (sem19 _ _ (offS_W _) _) <| gwR <| fin (h _ _)

theorem t227 {U KK : sProp 𝕄} {w2} {w131} {w133} {Q} (h : SA A K c 2 U KK 8 9 8 6 8 6 7 ⊢ Q ⟨⟩) :
    SA A K c 2 U KK 7 8 7 6 8 6 7 ⊢ WP c (k0_part227 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 3)) w131 (W (ck c true 4)) w133) Q := by
  rw [k0_part227_eq_skeleton]; unfold k0_part227_skel
  exact gsR rfl (sem19 _ _ (offS_W _) _) (offH0_W _) (offH0_W _) <| grR (sem20 _ _ (offS_W _) _) <| gwR <| fin h

theorem t228 {U KK : sProp 𝕄} {w1} {w2} {w132} {w133} {w134} {Q} (h : ∀ (b0 : BitVec 32), SA A K c 2 U KK 8 10 8 7 9 7 7 ⊢ Q b0) :
    SA A K c 2 U KK 8 9 8 6 8 6 7 ⊢ WP c (k0_part228 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 3)) w132 (W (ck c true 4)) w133 (W (ck c false 4)) w134) Q := by
  rw [k0_part228_eq_skeleton]; unfold k0_part228_skel
  exact gsR rfl (sem20 _ _ (offS_W _) _) (offH1_W _) (offH1_W _) <| grL (sem19 _ _ (offS_W _) _) <| gwL <| gsL rfl (sem19 _ _ (offS_W _) _) (offH0_W _) (offH0_W _) <| fin (h _)

theorem t229 {U KK : sProp 𝕄} {w1} {w132} {w133} {w134} {v6915} {Q} (h : SA A K c 2 U KK 8 10 8 8 10 8 7 ⊢ Q ⟨(k0_pay184 (xb A 2 (ck c true 4)) (A.wi 2 c)), (k0_pay185 (A.wo 2 c)), (((constant S256x256 .f32 0x00000000#32 : FVec F S256x256 .f32)))⟩) :
    SA A K c 2 U KK 8 10 8 7 9 7 7 ⊢ WP c (k0_part229 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 3)) w132 (W (ck c true 4)) w133 (W (ck c false 4)) w134 v6915) Q := by
  rw [k0_part229_eq_skeleton]; unfold k0_part229_skel
  exact grL (sem20 _ _ (offS_W _) _) <| gwL <| gsL rfl (sem20 _ _ (offS_W _) _) (offH1_W _) (offH1_W _) <| xC true 3 <| op_in6 <| op_in7 <| fin h

theorem t230 {U KK : sProp 𝕄} {w133} {w134} {Q} (h : ∀ (w135 : k0_chk135 (W (ck c true 5))) (w136 : k0_chk136 (W (ck c false 5))), SA A K c 2 U KK 9 10 8 8 10 8 9 ⊢ Q ⟨((W (ck c true 5))), w135, ((W (ck c false 5))), w136⟩) :
    SA A K c 2 U KK 8 10 8 8 10 8 7 ⊢ WP c (k0_part230 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 4)) w133 (W (ck c false 4)) w134 (k0_pay184 (xb A 2 (ck c true 4)) (A.wi 2 c)) (k0_pay185 (A.wo 2 c)) ((constant S256x256 .f32 0x00000000#32 : FVec F S256x256 .f32))) Q := by
  rw [k0_part230_eq_skeleton]; unfold k0_part230_skel
  exact op_ydead fun _ => yC true 4 rfl <| xC false 3 <| op_in6 <| op_in7 <| op_ydead fun _ => yC false 4 rfl <| op_tab 8 rfl <| chk (chkA _) <| op_tab 24 rfl <| chk (chkA _) <| grR (sem19 _ _ (offS_W _) _) <| fin (h _ _)

theorem t231 {U KK : sProp 𝕄} {w2} {w133} {w135} {Q} (h : ∀ (b0 : BitVec 32), SA A K c 2 U KK 10 11 10 8 10 8 9 ⊢ Q b0) :
    SA A K c 2 U KK 9 10 8 8 10 8 9 ⊢ WP c (k0_part231 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 4)) w133 (W (ck c true 5)) w135) Q := by
  rw [k0_part231_eq_skeleton]; unfold k0_part231_skel
  exact gwR <| gsR rfl (sem19 _ _ (offS_W _) _) (offH0_W _) (offH0_W _) <| grR (sem20 _ _ (offS_W _) _) <| gwR <| fin (h _)

theorem t232 {U KK : sProp 𝕄} {w2} {w134} {w135} {w136} {v7011} {Q} (h : SA A K c 2 U KK 10 12 10 9 10 9 9 ⊢ Q ⟨⟩) :
    SA A K c 2 U KK 10 11 10 8 10 8 9 ⊢ WP c (k0_part232 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c false 4)) w134 (W (ck c true 5)) w135 (W (ck c false 5)) w136 v7011) Q := by
  rw [k0_part232_eq_skeleton]; unfold k0_part232_skel
  exact gsR rfl (sem20 _ _ (offS_W _) _) (offH1_W _) (offH1_W _) <| grL (sem19 _ _ (offS_W _) _) <| gwL <| fin h

theorem t233 {U KK : sProp 𝕄} {w1} {w134} {w135} {w136} {Q} (h : SA A K c 2 U KK 10 12 10 10 12 10 9 ⊢ Q (k0_pay188 (xb A 2 (ck c true 5)) (A.wi 2 c))) :
    SA A K c 2 U KK 10 12 10 9 10 9 9 ⊢ WP c (k0_part233 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 4)) w134 (W (ck c true 5)) w135 (W (ck c false 5)) w136) Q := by
  rw [k0_part233_eq_skeleton]; unfold k0_part233_skel
  exact gsL rfl (sem19 _ _ (offS_W _) _) (offH0_W _) (offH0_W _) <| grL (sem20 _ _ (offS_W _) _) <| gwL <| gsL rfl (sem20 _ _ (offS_W _) _) (offH1_W _) (offH1_W _) <| xC true 4 <| op_in6 <| fin h

theorem t234 {U KK : sProp 𝕄} {w135} {w136} {Q} (h : ∀ (w137 : k0_chk137 (W (ck c true 6))) (w138 : k0_chk138 (W (ck c false 6))), SA A K c 2 U KK 10 12 10 10 12 10 11 ⊢ Q ⟨((W (ck c true 6))), w137, ((W (ck c false 6))), w138⟩) :
    SA A K c 2 U KK 10 12 10 10 12 10 9 ⊢ WP c (k0_part234 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 5)) w135 (W (ck c false 5)) w136 (k0_pay188 (xb A 2 (ck c true 5)) (A.wi 2 c))) Q := by
  rw [k0_part234_eq_skeleton]; unfold k0_part234_skel
  exact op_in7 <| op_ydead fun _ => yC true 5 rfl <| xC false 4 <| op_in6 <| op_in7 <| op_ydead fun _ => yC false 5 rfl <| op_tab 9 rfl <| chk (chkA _) <| op_tab 25 rfl <| chk (chkA _) <| fin (h _ _)

theorem t235 {U KK : sProp 𝕄} {w2} {w135} {w137} {Q} (h : SA A K c 2 U KK 12 13 11 10 12 10 11 ⊢ Q ⟨⟩) :
    SA A K c 2 U KK 10 12 10 10 12 10 11 ⊢ WP c (k0_part235 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 5)) w135 (W (ck c true 6)) w137) Q := by
  rw [k0_part235_eq_skeleton]; unfold k0_part235_skel
  exact grR (sem19 _ _ (offS_W _) _) <| gwR <| gsR rfl (sem19 _ _ (offS_W _) _) (offH0_W _) (offH0_W _) <| grR (sem20 _ _ (offS_W _) _) <| fin h

theorem t236 {U KK : sProp 𝕄} {w2} {w135} {w136} {w137} {w138} {Q} (h : ∀ (b0 : BitVec 32) (b1 : BitVec 32), SA A K c 2 U KK 12 14 12 11 12 11 11 ⊢ Q ⟨b0, b1⟩) :
    SA A K c 2 U KK 12 13 11 10 12 10 11 ⊢ WP c (k0_part236 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 5)) w135 (W (ck c false 5)) w136 (W (ck c true 6)) w137 (W (ck c false 6)) w138) Q := by
  rw [k0_part236_eq_skeleton]; unfold k0_part236_skel
  exact gwR <| gsR rfl (sem20 _ _ (offS_W _) _) (offH1_W _) (offH1_W _) <| grL (sem19 _ _ (offS_W _) _) <| gwL <| fin (h _ _)

theorem t237 {U KK : sProp 𝕄} {w1} {w136} {w138} {v7169} {c0_i32_5992 : BitVec 32} {Q} (h : SA A K c 2 U KK 12 14 12 12 14 12 11 ⊢ Q ⟨⟩) :
    SA A K c 2 U KK 12 14 12 11 12 11 11 ⊢ WP c (k0_part237 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 5)) w136 (W (ck c true 6)) (W (ck c false 6)) w138 v7169 c0_i32_5992) Q := by
  rw [k0_part237_eq_skeleton]; unfold k0_part237_skel
  exact gsL rfl (sem19 _ _ (offS_W _) _) (offH0_W _) (offH0_W _) <| grL (sem20 _ _ (offS_W _) _) <| gwL <| gsL rfl (sem20 _ _ (offS_W _) _) (offH1_W _) (offH1_W _) <| fin h

theorem t238 {U KK : sProp 𝕄} {w137} {w138} {Q} (h : ∀ (w139 : k0_chk139 (W (ck c true 7))) (w140 : k0_chk140 (W (ck c false 7))), SA A K c 2 U KK 12 14 12 12 14 12 13 ⊢ Q ⟨((W (ck c true 7))), w139, ((W (ck c false 7))), w140⟩) :
    SA A K c 2 U KK 12 14 12 12 14 12 11 ⊢ WP c (k0_part238 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 6)) w137 (W (ck c false 6)) w138) Q := by
  rw [k0_part238_eq_skeleton]; unfold k0_part238_skel
  exact xC true 5 <| op_in6 <| op_in7 <| op_ydead fun _ => yC true 6 rfl <| xC false 5 <| op_in6 <| op_in7 <| op_ydead fun _ => yC false 6 rfl <| op_tab 10 rfl <| chk (chkA _) <| op_tab 26 rfl <| chk (chkA _) <| fin (h _ _)

theorem t239 {U KK : sProp 𝕄} {w2} {w137} {w139} {Q} (h : SA A K c 2 U KK 13 15 13 12 14 12 13 ⊢ Q ⟨⟩) :
    SA A K c 2 U KK 12 14 12 12 14 12 13 ⊢ WP c (k0_part239 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 6)) w137 (W (ck c true 7)) w139) Q := by
  rw [k0_part239_eq_skeleton]; unfold k0_part239_skel
  exact grR (sem19 _ _ (offS_W _) _) <| gwR <| gsR rfl (sem19 _ _ (offS_W _) _) (offH0_W _) (offH0_W _) <| fin h

theorem t240 {U KK : sProp 𝕄} {w2} {w137} {w138} {w139} {w140} {Q} (h : SA A K c 2 U KK 14 16 14 13 14 13 13 ⊢ Q ⟨⟩) :
    SA A K c 2 U KK 13 15 13 12 14 12 13 ⊢ WP c (k0_part240 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 6)) w137 (W (ck c false 6)) w138 (W (ck c true 7)) w139 (W (ck c false 7)) w140) Q := by
  rw [k0_part240_eq_skeleton]; unfold k0_part240_skel
  exact grR (sem20 _ _ (offS_W _) _) <| gwR <| gsR rfl (sem20 _ _ (offS_W _) _) (offH1_W _) (offH1_W _) <| grL (sem19 _ _ (offS_W _) _) <| gwL <| fin h

end

end Cert.TpMlp

end
-- ==== Proof.PartD.lean ====
/-
  The parts of the body, one by one.
-/
module

public import proofs.«01_k».proof.Proof.Steps

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {A : Args F} {K : GSem nD τ sig → ℕ} {c : Dev nD}

theorem t241 {U KK : sProp 𝕄} {w1} {w138} {w140} {Q} (h : SA A K c 2 U KK 14 16 14 14 15 14 13 ⊢ Q ⟨⟩) :
    SA A K c 2 U KK 14 16 14 13 14 13 13 ⊢ WP c (k0_part241 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 6)) w138 (W (ck c false 7)) w140) Q := by
  rw [k0_part241_eq_skeleton]; unfold k0_part241_skel
  exact gsL rfl (sem19 _ _ (offS_W _) _) (offH0_W _) (offH0_W _) <| grL (sem20 _ _ (offS_W _) _) <| gwL <| fin h

theorem t242 {U KK : sProp 𝕄} {w1} {w139} {w140} {Q} (h : SA A K c 2 U KK 14 16 14 14 16 14 14 ⊢ Q (k0_pay194 (xb A 2 (ck c false 7)) (A.wi 2 c) (A.wo 2 c))) :
    SA A K c 2 U KK 14 16 14 14 15 14 13 ⊢ WP c (k0_part242 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 7)) w139 (W (ck c false 7)) w140) Q := by
  rw [k0_part242_eq_skeleton]; unfold k0_part242_skel
  exact gsL rfl (sem20 _ _ (offS_W _) _) (offH1_W _) (offH1_W _) <| xC true 6 <| op_in6 <| op_in7 <| op_ydead fun _ => yC true 7 rfl <| xC false 6 <| op_in6 <| op_in7 <| op_ydead fun _ => fin h

theorem t243 {U KK : sProp 𝕄} {w2} {w139} {w140} {Q} (h : ∀ (w141 : k0_chk141 (W (ck c true 8))) (w142 : k0_chk142 (W (ck c false 8))) (b2 : BitVec 32), SA A K c 2 U KK 15 17 15 14 16 14 15 ⊢ Q ⟨((W (ck c true 8))), w141, ((W (ck c false 8))), w142, b2⟩) :
    SA A K c 2 U KK 14 16 14 14 16 14 14 ⊢ WP c (k0_part243 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 7)) w139 (W (ck c false 7)) w140 (k0_pay194 (xb A 2 (ck c false 7)) (A.wi 2 c) (A.wo 2 c))) Q := by
  rw [k0_part243_eq_skeleton]; unfold k0_part243_skel
  exact yC false 7 rfl <| op_tab 11 rfl <| chk (chkA _) <| op_tab 27 rfl <| chk (chkA _) <| grR (sem19 _ _ (offS_W _) _) <| gwR <| gsR rfl (sem19 _ _ (offS_W _) _) (offH0_W _) (offH0_W _) <| fin (h _ _ _)

theorem t244 {U KK : sProp 𝕄} {w2} {w139} {w141} {w142} {v7395} {Q} (h : SA A K c 2 U KK 16 18 16 15 16 14 15 ⊢ Q ⟨⟩) :
    SA A K c 2 U KK 15 17 15 14 16 14 15 ⊢ WP c (k0_part244 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 7)) w139 (W (ck c true 8)) w141 (W (ck c false 8)) w142 v7395) Q := by
  rw [k0_part244_eq_skeleton]; unfold k0_part244_skel
  exact grR (sem20 _ _ (offS_W _) _) <| gwR <| gsR rfl (sem20 _ _ (offS_W _) _) (offH1_W _) (offH1_W _) <| grL (sem19 _ _ (offS_W _) _) <| fin h

theorem t245 {U KK : sProp 𝕄} {w1} {w140} {w142} {Q} (h : ∀ (b0 : BitVec 32), SA A K c 2 U KK 16 18 16 16 17 16 15 ⊢ Q b0) :
    SA A K c 2 U KK 16 18 16 15 16 14 15 ⊢ WP c (k0_part245 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 7)) w140 (W (ck c false 8)) w142) Q := by
  rw [k0_part245_eq_skeleton]; unfold k0_part245_skel
  exact gwL <| gsL rfl (sem19 _ _ (offS_W _) _) (offH0_W _) (offH0_W _) <| grL (sem20 _ _ (offS_W _) _) <| gwL <| fin (h _)

theorem t246 {U KK : sProp 𝕄} {w1} {w141} {w142} {c1_i32_6210 : BitVec 32} {Q} (h : SA A K c 2 U KK 16 18 16 16 18 16 16 ⊢ Q ⟨(k0_pay197 (xb A 2 (ck c false 8)) (A.wi 2 c)), (k0_pay198 (A.wo 2 c))⟩) :
    SA A K c 2 U KK 16 18 16 16 17 16 15 ⊢ WP c (k0_part246 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 8)) w141 (W (ck c false 8)) w142 c1_i32_6210) Q := by
  rw [k0_part246_eq_skeleton]; unfold k0_part246_skel
  exact gsL rfl (sem20 _ _ (offS_W _) _) (offH1_W _) (offH1_W _) <| xC true 7 <| op_in6 <| op_in7 <| op_ydead fun _ => yC true 8 rfl <| xC false 7 <| op_in6 <| op_in7 <| fin h

theorem t247 {U KK : sProp 𝕄} {w141} {w142} {Q} (h : ∀ (w143 : k0_chk143 (W (ck c true 9))) (w144 : k0_chk144 (W (ck c false 9))), SA A K c 2 U KK 17 18 17 16 18 16 17 ⊢ Q ⟨((W (ck c true 9))), w143, ((W (ck c false 9))), w144⟩) :
    SA A K c 2 U KK 16 18 16 16 18 16 16 ⊢ WP c (k0_part247 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 8)) w141 (W (ck c false 8)) w142 (k0_pay197 (xb A 2 (ck c false 8)) (A.wi 2 c)) (k0_pay198 (A.wo 2 c))) Q := by
  rw [k0_part247_eq_skeleton]; unfold k0_part247_skel
  exact op_ydead fun _ => yC false 8 rfl <| op_tab 12 rfl <| chk (chkA _) <| op_tab 28 rfl <| chk (chkA _) <| grR (sem19 _ _ (offS_W _) _) <| gwR <| fin (h _ _)

theorem t248 {U KK : sProp 𝕄} {w2} {w141} {w143} {w144} {Q} (h : SA A K c 2 U KK 18 20 18 16 18 16 17 ⊢ Q ⟨⟩) :
    SA A K c 2 U KK 17 18 17 16 18 16 17 ⊢ WP c (k0_part248 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 8)) w141 (W (ck c true 9)) w143 (W (ck c false 9)) w144) Q := by
  rw [k0_part248_eq_skeleton]; unfold k0_part248_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t249 {U KK : sProp 𝕄} {w1} {w142} {w144} {Q} (h : ∀ (b0 : BitVec 32), SA A K c 2 U KK 18 20 18 18 19 18 17 ⊢ Q b0) :
    SA A K c 2 U KK 18 20 18 16 18 16 17 ⊢ WP c (k0_part249 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 8)) w142 (W (ck c false 9)) w144) Q := by
  rw [k0_part249_eq_skeleton]; unfold k0_part249_skel
  exact grL (sem19 _ _ (offS_W _) _) <| gwL <| gsL rfl (sem19 _ _ (offS_W _) _) (offH0_W _) (offH0_W _) <| grL (sem20 _ _ (offS_W _) _) <| gwL <| fin (h _)

theorem t250 {U KK : sProp 𝕄} {w1} {w143} {w144} {v7585} {Q} (h : SA A K c 2 U KK 18 20 18 18 20 18 18 ⊢ Q ⟨(k0_pay201 (xb A 2 (ck c false 9))), (k0_pay202 (A.wi 2 c)), (((constant S256x512 .f32 0x00000000#32 : FVec F S256x512 .f32)))⟩) :
    SA A K c 2 U KK 18 20 18 18 19 18 17 ⊢ WP c (k0_part250 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c true 9)) w143 (W (ck c false 9)) w144 v7585) Q := by
  rw [k0_part250_eq_skeleton]; unfold k0_part250_skel
  exact gsL rfl (sem20 _ _ (offS_W _) _) (offH1_W _) (offH1_W _) <| xC true 8 <| op_in6 <| op_in7 <| op_ydead fun _ => yC true 9 rfl <| xC false 8 <| op_in6 <| fin h

theorem t251 {U KK : sProp 𝕄} {w143} {w144} {Q} (h : ∀ (w145 : k0_chk145 (W (ck c true 10))) (w146 : k0_chk146 (W (ck c false 10))) (b2 : BitVec 32) (b3 : BitVec 32), SA A K c 2 U KK 19 20 19 18 20 18 19 ⊢ Q ⟨((W (ck c true 10))), w145, ((W (ck c false 10))), w146, b2, b3⟩) :
    SA A K c 2 U KK 18 20 18 18 20 18 18 ⊢ WP c (k0_part251 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) (W (ck c true 9)) w143 (W (ck c false 9)) w144 (k0_pay201 (xb A 2 (ck c false 9))) (k0_pay202 (A.wi 2 c)) ((constant S256x512 .f32 0x00000000#32 : FVec F S256x512 .f32))) Q := by
  rw [k0_part251_eq_skeleton]; unfold k0_part251_skel
  exact op_in7 <| op_ydead fun _ => yC false 9 rfl <| op_tab 13 rfl <| chk (chkA _) <| op_tab 29 rfl <| chk (chkA _) <| grR (sem19 _ _ (offS_W _) _) <| gwR <| fin (h _ _ _ _)

theorem t252 {U KK : sProp 𝕄} {w2} {w143} {w145} {v7649} {c0_i32_6354 : BitVec 32} {Q} (h : SA A K c 2 U KK 20 22 20 18 20 18 19 ⊢ Q ⟨⟩) :
    SA A K c 2 U KK 19 20 19 18 20 18 19 ⊢ WP c (k0_part252 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 9)) w143 (W (ck c true 10)) w145 (W (ck c false 10)) v7649 c0_i32_6354) Q := by
  rw [k0_part252_eq_skeleton]; unfold k0_part252_skel
  exact gsR rfl (sem19 _ _ (offS_W _) _) (offH0_W _) (offH0_W _) <| grR (sem20 _ _ (offS_W _) _) <| gwR <| gsR rfl (sem20 _ _ (offS_W _) _) (offH1_W _) (offH1_W _) <| fin h

theorem t253 {U KK : sProp 𝕄} {w1} {w144} {w146} {Q} (h : SA A K c 2 U KK 20 22 20 20 21 19 19 ⊢ Q ⟨⟩) :
    SA A K c 2 U KK 20 22 20 18 20 18 19 ⊢ WP c (k0_part253 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 9)) w144 (W (ck c false 10)) w146) Q := by
  rw [k0_part253_eq_skeleton]; unfold k0_part253_skel
  exact grL (sem19 _ _ (offS_W _) _) <| gwL <| gsL rfl (sem19 _ _ (offS_W _) _) (offH0_W _) (offH0_W _) <| grL (sem20 _ _ (offS_W _) _) <| fin h

theorem t254 {U KK : sProp 𝕄} {w1} {w144} {w145} {w146} {Q} (h : SA A K c 2 U KK 20 22 20 20 22 20 20 ⊢ Q ⟨⟩) :
    SA A K c 2 U KK 20 22 20 20 21 19 19 ⊢ WP c (k0_part254 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 9)) w144 (W (ck c true 10)) w145 (W (ck c false 10)) w146) Q := by
  rw [k0_part254_eq_skeleton]; unfold k0_part254_skel
  exact gwL <| gsL rfl (sem20 _ _ (offS_W _) _) (offH1_W _) (offH1_W _) <| xC true 9 <| op_in6 <| op_in7 <| op_ydead fun _ => yC true 10 rfl <| fin h

theorem t255 {U KK : sProp 𝕄} {w145} {w146} {Q} (h : ∀ (w147 : k0_chk147 (W (ck c true 11))) (w148 : k0_chk148 (W (ck c false 11))), SA A K c 2 U KK 21 22 21 20 22 20 21 ⊢ Q ⟨((W (ck c true 11))), w147, ((W (ck c false 11))), w148⟩) :
    SA A K c 2 U KK 20 22 20 20 22 20 20 ⊢ WP c (k0_part255 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 10)) w145 (W (ck c false 10)) w146) Q := by
  rw [k0_part255_eq_skeleton]; unfold k0_part255_skel
  exact xC false 9 <| op_in6 <| op_in7 <| op_ydead fun _ => yC false 10 rfl <| op_tab 14 rfl <| chk (chkA _) <| op_tab 30 rfl <| chk (chkA _) <| grR (sem19 _ _ (offS_W _) _) <| gwR <| fin (h _ _)

theorem t256 {U KK : sProp 𝕄} {w2} {w145} {w147} {Q} (h : SA A K c 2 U KK 22 23 22 20 22 20 21 ⊢ Q ⟨⟩) :
    SA A K c 2 U KK 21 22 21 20 22 20 21 ⊢ WP c (k0_part256 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 10)) w145 (W (ck c true 11)) w147) Q := by
  rw [k0_part256_eq_skeleton]; unfold k0_part256_skel
  exact gsR rfl (sem19 _ _ (offS_W _) _) (offH0_W _) (offH0_W _) <| grR (sem20 _ _ (offS_W _) _) <| gwR <| fin h

theorem t257 {U KK : sProp 𝕄} {w1} {w2} {w146} {w147} {w148} {Q} (h : SA A K c 2 U KK 22 24 22 21 23 21 21 ⊢ Q ⟨⟩) :
    SA A K c 2 U KK 22 23 22 20 22 20 21 ⊢ WP c (k0_part257 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 10)) w146 (W (ck c true 11)) w147 (W (ck c false 11)) w148) Q := by
  rw [k0_part257_eq_skeleton]; unfold k0_part257_skel
  exact gsR rfl (sem20 _ _ (offS_W _) _) (offH1_W _) (offH1_W _) <| grL (sem19 _ _ (offS_W _) _) <| gwL <| gsL rfl (sem19 _ _ (offS_W _) _) (offH0_W _) (offH0_W _) <| fin h

theorem t258 {U KK : sProp 𝕄} {w1} {w146} {w147} {w148} {Q} (h : SA A K c 2 U KK 22 24 22 22 24 22 21 ⊢ Q (k0_pay206 (xb A 2 (ck c true 11)) (A.wi 2 c) (A.wo 2 c))) :
    SA A K c 2 U KK 22 24 22 21 23 21 21 ⊢ WP c (k0_part258 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (ck c false 10)) w146 (W (ck c true 11)) w147 (W (ck c false 11)) w148) Q := by
  rw [k0_part258_eq_skeleton]; unfold k0_part258_skel
  exact grL (sem20 _ _ (offS_W _) _) <| gwL <| gsL rfl (sem20 _ _ (offS_W _) _) (offH1_W _) (offH1_W _) <| xC true 10 <| op_in6 <| op_in7 <| fin h

theorem t259 {U KK : sProp 𝕄} {w147} {w148} {Q} (h : ∀ (w149 : k0_chk149 (W (ck c true 12))) (w150 : k0_chk150 (W (ck c false 12))), SA A K c 2 U KK 23 24 22 22 24 22 23 ⊢ Q ⟨((W (ck c true 12))), w149, ((W (ck c false 12))), w150⟩) :
    SA A K c 2 U KK 22 24 22 22 24 22 21 ⊢ WP c (k0_part259 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 11)) w147 (W (ck c false 11)) w148 (k0_pay206 (xb A 2 (ck c true 11)) (A.wi 2 c) (A.wo 2 c))) Q := by
  rw [k0_part259_eq_skeleton]; unfold k0_part259_skel
  exact op_ydead fun _ => yC true 11 rfl <| xC false 10 <| op_in6 <| op_in7 <| op_ydead fun _ => yC false 11 rfl <| op_tab 15 rfl <| chk (chkA _) <| op_tab 31 rfl <| chk (chkA _) <| grR (sem19 _ _ (offS_W _) _) <| fin (h _ _)

theorem t260 {U KK : sProp 𝕄} {w2} {w147} {w149} {Q} (h : ∀ (b0 : BitVec 32), SA A K c 2 U KK 24 25 24 22 24 22 23 ⊢ Q b0) :
    SA A K c 2 U KK 23 24 22 22 24 22 23 ⊢ WP c (k0_part260 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 11)) w147 (W (ck c true 12)) w149) Q := by
  rw [k0_part260_eq_skeleton]; unfold k0_part260_skel
  exact gwR <| gsR rfl (sem19 _ _ (offS_W _) _) (offH0_W _) (offH0_W _) <| grR (sem20 _ _ (offS_W _) _) <| gwR <| fin (h _)

theorem t261 {U KK : sProp 𝕄} {w1} {w2} {w148} {w149} {w150} {c1_i32_6572 : BitVec 32} {Q} (h : ∀ (b0 : BitVec 32), SA A K c 2 U KK 24 26 24 23 25 23 23 ⊢ Q b0) :
    SA A K c 2 U KK 24 25 24 22 24 22 23 ⊢ WP c (k0_part261 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 11)) w148 (W (ck c true 12)) w149 (W (ck c false 12)) w150 c1_i32_6572) Q := by
  rw [k0_part261_eq_skeleton]; unfold k0_part261_skel
  exact gsR rfl (sem20 _ _ (offS_W _) _) (offH1_W _) (offH1_W _) <| grL (sem19 _ _ (offS_W _) _) <| gwL <| gsL rfl (sem19 _ _ (offS_W _) _) (offH0_W _) (offH0_W _) <| fin (h _)

theorem t262 {U KK : sProp 𝕄} {w1} {w148} {w149} {w150} {v7969} {Q} (h : SA A K c 2 U KK 24 26 24 24 26 24 23 ⊢ Q (k0_pay209 (xb A 2 (ck c true 12)) (A.wi 2 c))) :
    SA A K c 2 U KK 24 26 24 23 25 23 23 ⊢ WP c (k0_part262 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 11)) w148 (W (ck c true 12)) w149 (W (ck c false 12)) w150 v7969) Q := by
  rw [k0_part262_eq_skeleton]; unfold k0_part262_skel
  exact grL (sem20 _ _ (offS_W _) _) <| gwL <| gsL rfl (sem20 _ _ (offS_W _) _) (offH1_W _) (offH1_W _) <| xC true 11 <| op_in6 <| fin h

theorem t263 {U KK : sProp 𝕄} {w149} {w150} {Q} (h : ∀ (w151 : k0_chk151 (W (ck c true 13))) (w152 : k0_chk152 (W (ck c false 13))), SA A K c 2 U KK 24 26 24 24 26 24 25 ⊢ Q ⟨((W (ck c true 13))), w151, ((W (ck c false 13))), w152⟩) :
    SA A K c 2 U KK 24 26 24 24 26 24 23 ⊢ WP c (k0_part263 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c true 12)) w149 (W (ck c false 12)) w150 (k0_pay209 (xb A 2 (ck c true 12)) (A.wi 2 c))) Q := by
  rw [k0_part263_eq_skeleton]; unfold k0_part263_skel
  exact op_in7 <| op_ydead fun _ => yC true 12 rfl <| xC false 11 <| op_in6 <| op_in7 <| op_ydead fun _ => yC false 12 rfl <| op_tab 16 rfl <| chk (chkA _) <| op_tab 32 rfl <| chk (chkA _) <| fin (h _ _)

theorem t264 {U KK : sProp 𝕄} {w2} {w149} {w151} {Q} (h : ∀ (b0 : BitVec 32), SA A K c 2 U KK 26 27 26 24 26 24 25 ⊢ Q b0) :
    SA A K c 2 U KK 24 26 24 24 26 24 25 ⊢ WP c (k0_part264 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 12)) w149 (W (ck c true 13)) w151) Q := by
  rw [k0_part264_eq_skeleton]; unfold k0_part264_skel
  exact grR (sem19 _ _ (offS_W _) _) <| gwR <| gsR rfl (sem19 _ _ (offS_W _) _) (offH0_W _) (offH0_W _) <| grR (sem20 _ _ (offS_W _) _) <| gwR <| fin (h _)

theorem t265 {U KK : sProp 𝕄} {w2} {w150} {w151} {w152} {v8065} {Q} (h : SA A K c 2 U KK 26 28 26 25 26 25 25 ⊢ Q ⟨⟩) :
    SA A K c 2 U KK 26 27 26 24 26 24 25 ⊢ WP c (k0_part265 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c false 12)) w150 (W (ck c true 13)) w151 (W (ck c false 13)) w152 v8065) Q := by
  rw [k0_part265_eq_skeleton]; unfold k0_part265_skel
  exact gsR rfl (sem20 _ _ (offS_W _) _) (offH1_W _) (offH1_W _) <| grL (sem19 _ _ (offS_W _) _) <| gwL <| fin h

theorem t266 {U KK : sProp 𝕄} {w1} {w150} {w151} {w152} {Q} (h : SA A K c 2 U KK 26 28 26 26 28 26 25 ⊢ Q (k0_pay212 (xb A 2 (ck c true 13)))) :
    SA A K c 2 U KK 26 28 26 25 26 25 25 ⊢ WP c (k0_part266 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 12)) w150 (W (ck c true 13)) w151 (W (ck c false 13)) w152) Q := by
  rw [k0_part266_eq_skeleton]; unfold k0_part266_skel
  exact gsL rfl (sem19 _ _ (offS_W _) _) (offH0_W _) (offH0_W _) <| grL (sem20 _ _ (offS_W _) _) <| gwL <| gsL rfl (sem20 _ _ (offS_W _) _) (offH1_W _) (offH1_W _) <| xC true 12 <| fin h

theorem t267 {U KK : sProp 𝕄} {w151} {w152} {Q} (h : ∀ (w153 : k0_chk153 (W (ck c true 14))) (w154 : k0_chk154 (W (ck c false 14))), SA A K c 2 U KK 26 28 26 26 28 26 27 ⊢ Q ⟨((W (ck c true 14))), w153, ((W (ck c false 14))), w154⟩) :
    SA A K c 2 U KK 26 28 26 26 28 26 25 ⊢ WP c (k0_part267 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 13)) w151 (W (ck c false 13)) w152 (k0_pay212 (xb A 2 (ck c true 13)))) Q := by
  rw [k0_part267_eq_skeleton]; unfold k0_part267_skel
  exact op_in6 <| op_in7 <| op_ydead fun _ => yC true 13 rfl <| xC false 12 <| op_in6 <| op_in7 <| op_ydead fun _ => yC false 13 rfl <| op_tab 17 rfl <| chk (chkA _) <| op_tab 33 rfl <| chk (chkA _) <| fin (h _ _)

theorem t268 {U KK : sProp 𝕄} {w2} {w151} {w153} {Q} (h : SA A K c 2 U KK 28 29 27 26 28 26 27 ⊢ Q ⟨⟩) :
    SA A K c 2 U KK 26 28 26 26 28 26 27 ⊢ WP c (k0_part268 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 13)) w151 (W (ck c true 14)) w153) Q := by
  rw [k0_part268_eq_skeleton]; unfold k0_part268_skel
  exact grR (sem19 _ _ (offS_W _) _) <| gwR <| gsR rfl (sem19 _ _ (offS_W _) _) (offH0_W _) (offH0_W _) <| grR (sem20 _ _ (offS_W _) _) <| fin h

theorem t269 {U KK : sProp 𝕄} {w2} {w151} {w152} {w153} {w154} {Q} (h : SA A K c 2 U KK 28 30 28 27 28 27 27 ⊢ Q ⟨⟩) :
    SA A K c 2 U KK 28 29 27 26 28 26 27 ⊢ WP c (k0_part269 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 13)) w151 (W (ck c false 13)) w152 (W (ck c true 14)) w153 (W (ck c false 14)) w154) Q := by
  rw [k0_part269_eq_skeleton]; unfold k0_part269_skel
  exact gwR <| gsR rfl (sem20 _ _ (offS_W _) _) (offH1_W _) (offH1_W _) <| grL (sem19 _ _ (offS_W _) _) <| gwL <| fin h

theorem t270 {U KK : sProp 𝕄} {w1} {w152} {w154} {Q} (h : SA A K c 2 U KK 28 30 28 28 30 28 27 ⊢ Q ⟨⟩) :
    SA A K c 2 U KK 28 30 28 27 28 27 27 ⊢ WP c (k0_part270 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) (W (ck c false 13)) w152 (W (ck c false 14)) w154) Q := by
  rw [k0_part270_eq_skeleton]; unfold k0_part270_skel
  exact gsL rfl (sem19 _ _ (offS_W _) _) (offH0_W _) (offH0_W _) <| grL (sem20 _ _ (offS_W _) _) <| gwL <| gsL rfl (sem20 _ _ (offS_W _) _) (offH1_W _) (offH1_W _) <| fin h

theorem t271 {U KK : sProp 𝕄} {w153} {w154} {Q} (h : SA A K c 2 U KK 28 30 28 28 30 28 29 ⊢ Q ((W (ck c true 15)))) :
    SA A K c 2 U KK 28 30 28 28 30 28 27 ⊢ WP c (k0_part271 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 14)) w153 (W (ck c false 14)) w154) Q := by
  rw [k0_part271_eq_skeleton]; unfold k0_part271_skel
  exact xC true 13 <| op_in6 <| op_in7 <| op_ydead fun _ => yC true 14 rfl <| xC false 13 <| op_in6 <| op_in7 <| op_ydead fun _ => yC false 14 rfl <| tail <| op_tab 18 rfl <| fin h

theorem t272 {U KK : sProp 𝕄} {w2} {w153} {Q} (h : ∀ (w155 : k0_chk155 (W (ck c true 15))) (w156 : k0_chk156 (W (ck c false 15))), SA A K c 2 U KK 29 31 29 28 30 28 29 ⊢ Q ⟨w155, ((W (ck c false 15))), w156⟩) :
    SA A K c 2 U KK 28 30 28 28 30 28 29 ⊢ WP c (k0_part272 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2 (W (ck c true 14)) w153 (W (ck c true 15))) Q := by
  rw [k0_part272_eq_skeleton]; unfold k0_part272_skel
  exact chk (chkA _) <| op_tab 34 rfl <| chk (chkZ _) <| grR (sem19 _ _ (offS_W _) _) <| gwR <| gsR rfl (sem19 _ _ (offS_W _) _) (offH0_W _) (offH0_W _) <| fin (h _ _)

theorem t273 {U KK : sProp 𝕄} {w2} {w153} {w155} {w156} {Q} (h : SA A K c 2 U KK 30 32 30 29 30 28 29 ⊢ Q ⟨⟩) :
    SA A K c 2 U KK 29 31 29 28 30 28 29 ⊢ WP c (k0_part273 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (ck c true 14)) w153 (W (ck c true 15)) w155 (W (ck c false 15)) w156) Q := by
  rw [k0_part273_eq_skeleton]; unfold k0_part273_skel
  exact grR (sem20 _ _ (offS_W _) _) <| gwR <| gsR rfl (sem20 _ _ (offS_W _) _) (offH1_W _) (offH1_W _) <| grL (sem19 _ _ (offS_W _) _) <| fin h

theorem t274 {U KK : sProp 𝕄} {w155} {w156} {Q} (h : SA A K c 2 U KK 30 32 30 30 30 28 30 ⊢ Q (k0_pay218 (xb A 2 (ck c false 15)) (A.wi 2 c) (A.wo 2 c))) :
    SA A K c 2 U KK 30 32 30 29 30 28 29 ⊢ WP c (k0_part274 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c true 15)) w155 (W (ck c false 15)) w156) Q := by
  rw [k0_part274_eq_skeleton]; unfold k0_part274_skel
  exact grL (sem20 _ _ (offS_W _) _) <| xC true 14 <| op_in6 <| op_in7 <| op_ydead fun _ => yC true 15 rfl <| xC false 14 <| op_in6 <| op_in7 <| fin h

theorem t275 {U KK : sProp 𝕄} {w156} {Q} (h : ∀ (w157 : k0_chk157 (W (ck c true 16))) (b1 : BitVec 32), SA A K c 2 U KK 32 32 30 30 30 28 31 ⊢ Q ⟨((W (ck c true 16))), w157, (k0_pay220 (xb A 2 (ck c true 16)) (A.wi 2 c) (A.wo 2 c)), b1⟩) :
    SA A K c 2 U KK 30 32 30 30 30 28 30 ⊢ WP c (k0_part275 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (ck c false 15)) w156 (k0_pay218 (xb A 2 (ck c false 15)) (A.wi 2 c) (A.wo 2 c))) Q := by
  rw [k0_part275_eq_skeleton]; unfold k0_part275_skel
  exact op_ydead fun _ => yC false 15 rfl <| op_tab 19 rfl <| chk (chkZ _) <| grR (sem19 _ _ (offS_W _) _) <| grR (sem20 _ _ (offS_W _) _) <| xC true 15 <| op_in6 <| op_in7 <| fin (h _ _)

theorem t276 {U KK JJ : sProp 𝕄} {w154} {w155} {w157} {v8420} {Q} (tr : SA A K c 2 U KK 32 32 32 30 30 30 32 ⊢ SB A K c 2 U JJ false 0 0 0 0 0 0 0 0) (h : ∀ (w159 : k0_chk159 (W (rsc c false 0))), SB A K c 2 U JJ false 0 1 0 0 0 0 0 0 ⊢ Q ⟨((W (rsc c false 0))), w159⟩) :
    SA A K c 2 U KK 32 32 30 30 30 28 31 ⊢ WP c (k0_part276 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (ck c false 14)) w154 (W (ck c true 15)) w155 (W (ck c true 16)) w157 (k0_pay220 (xb A 2 (ck c true 16)) (A.wi 2 c) (A.wo 2 c)) v8420) Q := by
  rw [k0_part276_eq_skeleton]; unfold k0_part276_skel
  exact op_ydead fun _ => yC true 16 rfl <| gwR <| gwR <| gwL <| gwL <| tr.trans <| op_tab 2 rfl <| chk (chkB _) <| op_yload (rsc c true 0) (offC_W _) <| sdR fun _ => ssR rfl <| op_tab 3 rfl <| chk (chkB _) <| fin (h _)

theorem t277 {U KK : sProp 𝕄} {w1} {w2} {w159} {Q} (h : SB A K c 2 U KK false 0 1 1 0 0 1 1 0 ⊢ Q ⟨⟩) :
    SB A K c 2 U KK false 0 1 0 0 0 0 0 0 ⊢ WP c (k0_part277 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (rsc c false 0)) w159) Q := by
  rw [k0_part277_eq_skeleton]; unfold k0_part277_skel
  exact op_yload (rsc c false 0) (offC_W _) <| sdL fun _ => ssL rfl <| s0R <| s0L <| fin h

theorem t278 {U KK : sProp 𝕄} {w2} {Q} (h : SB A K c 2 U KK false 1 2 2 0 0 1 1 0 ⊢ Q ⟨⟩) :
    SB A K c 2 U KK false 0 1 1 0 0 1 1 0 ⊢ WP c (k0_part278 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part278_eq_skeleton]; unfold k0_part278_skel
  exact rrR <| op_tab 35 rfl <| chk (chkB _) <| slR 0 <| op_yload (rsc c true 1) (offC_W _) <| slR 0 <| stR 0 rfl <| rsR 0 <| fin h

theorem t279 {U KK : sProp 𝕄} {w1} {Q} (h : SB A K c 2 U KK false 1 2 2 0 1 2 2 0 ⊢ Q ⟨⟩) :
    SB A K c 2 U KK false 1 2 2 0 0 1 1 0 ⊢ WP c (k0_part279 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part279_eq_skeleton]; unfold k0_part279_skel
  exact rrL <| op_tab 50 rfl <| chk (chkB _) <| slL 0 <| op_yload (rsc c false 1) (offC_W _) <| slL 0 <| stL 0 rfl <| rsL 0 <| fin h

theorem t280 {U KK : sProp 𝕄}  {Q} (h : SB A K c 2 U KK false 2 3 2 1 1 2 2 0 ⊢ Q ⟨⟩) :
    SB A K c 2 U KK false 1 2 2 0 1 2 2 0 ⊢ WP c (k0_part280 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part280_eq_skeleton]; unfold k0_part280_skel
  exact rrR <| op_tab 36 rfl <| chk (chkB _) <| slR 1 <| op_yload (rsc c true 2) (offC_W _) <| slR 1 <| stR 1 rfl <| rwR <| fin h

theorem t281 {U KK : sProp 𝕄} {w2} {Q} (h : SB A K c 2 U KK false 2 3 3 1 2 3 2 1 ⊢ Q ⟨⟩) :
    SB A K c 2 U KK false 2 3 2 1 1 2 2 0 ⊢ WP c (k0_part281 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part281_eq_skeleton]; unfold k0_part281_skel
  exact rsR 1 <| rrL <| op_tab 51 rfl <| chk (chkB _) <| slL 1 <| op_yload (rsc c false 2) (offC_W _) <| slL 1 <| stL 1 rfl <| rwL <| fin h

theorem t282 {U KK : sProp 𝕄} {w1} {Q} (h : SB A K c 2 U KK false 3 4 3 1 2 3 3 1 ⊢ Q ⟨⟩) :
    SB A K c 2 U KK false 2 3 3 1 2 3 2 1 ⊢ WP c (k0_part282 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part282_eq_skeleton]; unfold k0_part282_skel
  exact rsL 1 <| rrR <| op_tab 37 rfl <| chk (chkB _) <| slR 2 <| op_yload (rsc c true 3) (offC_W _) <| slR 2 <| stR 2 rfl <| fin h

theorem t283 {U KK : sProp 𝕄} {w2} {Q} (h : ∀ (w165 : k0_chk165 (W (rsc c false 3))), SB A K c 2 U KK false 3 4 4 2 3 3 3 1 ⊢ Q ⟨((W (rsc c false 3))), w165⟩) :
    SB A K c 2 U KK false 3 4 3 1 2 3 3 1 ⊢ WP c (k0_part283 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part283_eq_skeleton]; unfold k0_part283_skel
  exact rwR <| rsR 2 <| rrL <| op_tab 52 rfl <| chk (chkB _) <| fin (h _)

theorem t284 {U KK : sProp 𝕄} {w1} {w165} {Q} (h : SB A K c 2 U KK false 3 4 4 2 3 4 4 2 ⊢ Q ⟨⟩) :
    SB A K c 2 U KK false 3 4 4 2 3 3 3 1 ⊢ WP c (k0_part284 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 3)) w165) Q := by
  rw [k0_part284_eq_skeleton]; unfold k0_part284_skel
  exact slL 2 <| op_yload (rsc c false 3) (offC_W _) <| slL 2 <| stL 2 rfl <| rwL <| rsL 2 <| fin h

theorem t285 {U KK : sProp 𝕄}  {Q} (h : ∀ (b0 : BitVec 32), SB A K c 2 U KK false 4 5 4 3 3 4 4 2 ⊢ Q b0) :
    SB A K c 2 U KK false 3 4 4 2 3 4 4 2 ⊢ WP c (k0_part285 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true))) Q := by
  rw [k0_part285_eq_skeleton]; unfold k0_part285_skel
  exact rrR <| op_tab 38 rfl <| chk (chkB _) <| slR 3 <| op_yload (rsc c true 4) (offC_W _) <| slR 3 <| stR 3 rfl <| rwR <| fin (h _)

theorem t286 {U KK : sProp 𝕄} {w2} {v8699} {Q} (h : SB A K c 2 U KK false 4 5 5 3 4 5 4 2 ⊢ Q ⟨⟩) :
    SB A K c 2 U KK false 4 5 4 3 3 4 4 2 ⊢ WP c (k0_part286 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 v8699) Q := by
  rw [k0_part286_eq_skeleton]; unfold k0_part286_skel
  exact rsR 3 <| rrL <| op_tab 53 rfl <| chk (chkB _) <| slL 3 <| op_yload (rsc c false 4) (offC_W _) <| slL 3 <| stL 3 rfl <| fin h

theorem t287 {U KK : sProp 𝕄} {w1} {Q} (h : ∀ (w168 : k0_chk168 (W (rsc c true 5))), SB A K c 2 U KK false 5 5 5 3 4 5 5 3 ⊢ Q ⟨((W (rsc c true 5))), w168, ((Sm A 2 true 4 (nx c false)))⟩) :
    SB A K c 2 U KK false 4 5 5 3 4 5 4 2 ⊢ WP c (k0_part287 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part287_eq_skeleton]; unfold k0_part287_skel
  exact rwL <| rsL 3 <| rrR <| op_tab 39 rfl <| chk (chkB _) <| slR 4 <| fin (h _)

theorem t288 {U KK : sProp 𝕄} {w2} {w168} {Q} (h : ∀ (b0 : BitVec 32) (b1 : BitVec 32), SB A K c 2 U KK false 5 6 6 4 4 5 5 3 ⊢ Q ⟨b0, b1⟩) :
    SB A K c 2 U KK false 5 5 5 3 4 5 5 3 ⊢ WP c (k0_part288 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 5)) w168 (Sm A 2 true 4 (nx c false))) Q := by
  rw [k0_part288_eq_skeleton]; unfold k0_part288_skel
  exact op_yload (rsc c true 5) (offC_W _) <| slR 4 <| stR 4 rfl <| rwR <| rsR 4 <| fin (h _ _)

theorem t289 {U KK : sProp 𝕄} {v8781} {c0_i32_7297 : BitVec 32} {Q} (h : SB A K c 2 U KK false 5 6 6 4 5 6 5 4 ⊢ Q ⟨⟩) :
    SB A K c 2 U KK false 5 6 6 4 4 5 5 3 ⊢ WP c (k0_part289 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) v8781 c0_i32_7297) Q := by
  rw [k0_part289_eq_skeleton]; unfold k0_part289_skel
  exact rrL <| op_tab 54 rfl <| chk (chkB _) <| slL 4 <| op_yload (rsc c false 5) (offC_W _) <| slL 4 <| stL 4 rfl <| rwL <| fin h

theorem t290 {U KK : sProp 𝕄} {w1} {Q} (h : SB A K c 2 U KK false 6 7 6 4 5 6 6 4 ⊢ Q ⟨⟩) :
    SB A K c 2 U KK false 5 6 6 4 5 6 5 4 ⊢ WP c (k0_part290 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part290_eq_skeleton]; unfold k0_part290_skel
  exact rsL 4 <| rrR <| op_tab 40 rfl <| chk (chkB _) <| slR 5 <| op_yload (rsc c true 6) (offC_W _) <| slR 5 <| stR 5 rfl <| fin h

theorem t291 {U KK : sProp 𝕄} {w2} {Q} (h : ∀ (w171 : k0_chk171 (W (rsc c false 6))) (b1 : BitVec 32), SB A K c 2 U KK false 6 7 7 5 6 6 6 4 ⊢ Q ⟨((W (rsc c false 6))), w171, (k0_pay235 (Sm A 2 false 5 (nx c true))), b1⟩) :
    SB A K c 2 U KK false 6 7 6 4 5 6 6 4 ⊢ WP c (k0_part291 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part291_eq_skeleton]; unfold k0_part291_skel
  exact rwR <| rsR 5 <| rrL <| op_tab 55 rfl <| chk (chkB _) <| slL 5 <| fin (h _ _)

theorem t292 {U KK : sProp 𝕄} {w1} {w171} {c256_i32_7382 : BitVec 32} {Q} (h : SB A K c 2 U KK false 6 7 7 5 6 7 7 5 ⊢ Q ⟨⟩) :
    SB A K c 2 U KK false 6 7 7 5 6 6 6 4 ⊢ WP c (k0_part292 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 6)) w171 (k0_pay235 (Sm A 2 false 5 (nx c true))) c256_i32_7382) Q := by
  rw [k0_part292_eq_skeleton]; unfold k0_part292_skel
  exact op_yload (rsc c false 6) (offC_W _) <| slL 5 <| stL 5 rfl <| rwL <| rsL 5 <| fin h

theorem t293 {U KK : sProp 𝕄}  {Q} (h : SB A K c 2 U KK false 7 8 7 6 6 7 7 5 ⊢ Q ⟨⟩) :
    SB A K c 2 U KK false 6 7 7 5 6 7 7 5 ⊢ WP c (k0_part293 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part293_eq_skeleton]; unfold k0_part293_skel
  exact rrR <| op_tab 41 rfl <| chk (chkB _) <| slR 6 <| op_yload (rsc c true 7) (offC_W _) <| slR 6 <| stR 6 rfl <| rwR <| fin h

theorem t294 {U KK : sProp 𝕄} {w2} {Q} (h : SB A K c 2 U KK false 7 8 8 6 7 8 7 5 ⊢ Q ⟨⟩) :
    SB A K c 2 U KK false 7 8 7 6 6 7 7 5 ⊢ WP c (k0_part294 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part294_eq_skeleton]; unfold k0_part294_skel
  exact rsR 6 <| rrL <| op_tab 56 rfl <| chk (chkB _) <| slL 6 <| op_yload (rsc c false 7) (offC_W _) <| slL 6 <| stL 6 rfl <| fin h

theorem t295 {U KK : sProp 𝕄} {w1} {Q} (h : ∀ (w174 : k0_chk174 (W (rsc c true 8))), SB A K c 2 U KK false 8 8 8 6 7 8 8 6 ⊢ Q ⟨((W (rsc c true 8))), w174, (k0_pay239 (Sm A 2 true 7 (nx c false)))⟩) :
    SB A K c 2 U KK false 7 8 8 6 7 8 7 5 ⊢ WP c (k0_part295 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part295_eq_skeleton]; unfold k0_part295_skel
  exact rwL <| rsL 6 <| rrR <| op_tab 42 rfl <| chk (chkB _) <| slR 7 <| fin (h _)

theorem t296 {U KK : sProp 𝕄} {w2} {w174} {Q} (h : SB A K c 2 U KK false 8 9 9 7 7 8 8 6 ⊢ Q ⟨⟩) :
    SB A K c 2 U KK false 8 8 8 6 7 8 8 6 ⊢ WP c (k0_part296 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 8)) w174 (k0_pay239 (Sm A 2 true 7 (nx c false)))) Q := by
  rw [k0_part296_eq_skeleton]; unfold k0_part296_skel
  exact op_yload (rsc c true 8) (offC_W _) <| slR 7 <| stR 7 rfl <| rwR <| rsR 7 <| fin h

theorem t297 {U KK : sProp 𝕄}  {Q} (h : SB A K c 2 U KK false 8 9 9 7 8 9 8 7 ⊢ Q ⟨⟩) :
    SB A K c 2 U KK false 8 9 9 7 7 8 8 6 ⊢ WP c (k0_part297 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part297_eq_skeleton]; unfold k0_part297_skel
  exact rrL <| op_tab 57 rfl <| chk (chkB _) <| slL 7 <| op_yload (rsc c false 8) (offC_W _) <| slL 7 <| stL 7 rfl <| rwL <| fin h

theorem t298 {U KK : sProp 𝕄} {w1} {Q} (h : SB A K c 2 U KK false 9 10 9 7 8 9 9 7 ⊢ Q ⟨⟩) :
    SB A K c 2 U KK false 8 9 9 7 8 9 8 7 ⊢ WP c (k0_part298 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part298_eq_skeleton]; unfold k0_part298_skel
  exact rsL 7 <| rrR <| op_tab 43 rfl <| chk (chkB _) <| slR 8 <| op_yload (rsc c true 9) (offC_W _) <| slR 8 <| stR 8 rfl <| fin h

theorem t299 {U KK : sProp 𝕄} {w2} {Q} (h : SB A K c 2 U KK false 9 10 10 8 9 9 9 7 ⊢ Q (k0_pay243 (Sm A 2 false 8 (nx c true)) (Y A 2 c (rsc c false 9)))) :
    SB A K c 2 U KK false 9 10 9 7 8 9 9 7 ⊢ WP c (k0_part299 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part299_eq_skeleton]; unfold k0_part299_skel
  exact rwR <| rsR 8 <| rrL <| op_tab 58 rfl <| chk (chkB _) <| slL 8 <| op_yload (rsc c false 9) (offC_W _) <| fin h

theorem t300 {U KK : sProp 𝕄} {w1} {Q} (h : SB A K c 2 U KK false 9 10 10 8 9 10 10 8 ⊢ Q ⟨⟩) :
    SB A K c 2 U KK false 9 10 10 8 9 9 9 7 ⊢ WP c (k0_part300 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay243 (Sm A 2 false 8 (nx c true)) (Y A 2 c (rsc c false 9)))) Q := by
  rw [k0_part300_eq_skeleton]; unfold k0_part300_skel
  exact slL 8 <| stL 8 rfl <| rwL <| rsL 8 <| fin h

theorem t301 {U KK : sProp 𝕄}  {Q} (h : SB A K c 2 U KK false 10 11 10 9 9 10 10 8 ⊢ Q ⟨⟩) :
    SB A K c 2 U KK false 9 10 10 8 9 10 10 8 ⊢ WP c (k0_part301 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part301_eq_skeleton]; unfold k0_part301_skel
  exact rrR <| op_tab 44 rfl <| chk (chkB _) <| slR 9 <| op_yload (rsc c true 10) (offC_W _) <| slR 9 <| stR 9 rfl <| rwR <| fin h

theorem t302 {U KK : sProp 𝕄} {w2} {Q} (h : SB A K c 2 U KK false 10 11 11 9 10 11 10 8 ⊢ Q ⟨⟩) :
    SB A K c 2 U KK false 10 11 10 9 9 10 10 8 ⊢ WP c (k0_part302 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part302_eq_skeleton]; unfold k0_part302_skel
  exact rsR 9 <| rrL <| op_tab 59 rfl <| chk (chkB _) <| slL 9 <| op_yload (rsc c false 10) (offC_W _) <| slL 9 <| stL 9 rfl <| fin h

theorem t303 {U KK : sProp 𝕄} {w1} {Q} (h : SB A K c 2 U KK false 11 11 11 9 10 11 11 9 ⊢ Q (k0_pay247 (Sm A 2 true 10 (nx c false)) (Y A 2 c (rsc c true 11)))) :
    SB A K c 2 U KK false 10 11 11 9 10 11 10 8 ⊢ WP c (k0_part303 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part303_eq_skeleton]; unfold k0_part303_skel
  exact rwL <| rsL 9 <| rrR <| op_tab 45 rfl <| chk (chkB _) <| slR 10 <| op_yload (rsc c true 11) (offC_W _) <| fin h

theorem t304 {U KK : sProp 𝕄} {w2} {Q} (h : SB A K c 2 U KK false 11 12 12 10 11 11 11 9 ⊢ Q ⟨⟩) :
    SB A K c 2 U KK false 11 11 11 9 10 11 11 9 ⊢ WP c (k0_part304 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (k0_pay247 (Sm A 2 true 10 (nx c false)) (Y A 2 c (rsc c true 11)))) Q := by
  rw [k0_part304_eq_skeleton]; unfold k0_part304_skel
  exact slR 10 <| stR 10 rfl <| rwR <| rsR 10 <| rrL <| fin h

theorem t305 {U KK : sProp 𝕄} {w1} {Q} (h : SB A K c 2 U KK false 11 12 12 10 11 12 12 10 ⊢ Q ⟨⟩) :
    SB A K c 2 U KK false 11 12 12 10 11 11 11 9 ⊢ WP c (k0_part305 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1) Q := by
  rw [k0_part305_eq_skeleton]; unfold k0_part305_skel
  exact op_tab 60 rfl <| chk (chkB _) <| slL 10 <| op_yload (rsc c false 11) (offC_W _) <| slL 10 <| stL 10 rfl <| rwL <| rsL 10 <| fin h

theorem t306 {U KK : sProp 𝕄}  {Q} (h : SB A K c 2 U KK false 12 13 12 11 11 12 12 10 ⊢ Q ⟨⟩) :
    SB A K c 2 U KK false 11 12 12 10 11 12 12 10 ⊢ WP c (k0_part306 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false))) Q := by
  rw [k0_part306_eq_skeleton]; unfold k0_part306_skel
  exact rrR <| op_tab 46 rfl <| chk (chkB _) <| slR 11 <| op_yload (rsc c true 12) (offC_W _) <| slR 11 <| stR 11 rfl <| rwR <| fin h

theorem t307 {U KK : sProp 𝕄} {w2} {Q} (h : SB A K c 2 U KK false 12 13 13 11 12 12 12 10 ⊢ Q (k0_pay251 (Sm A 2 false 11 (nx c true)) (Y A 2 c (rsc c false 12)))) :
    SB A K c 2 U KK false 12 13 12 11 11 12 12 10 ⊢ WP c (k0_part307 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part307_eq_skeleton]; unfold k0_part307_skel
  exact rsR 11 <| rrL <| op_tab 61 rfl <| chk (chkB _) <| slL 11 <| op_yload (rsc c false 12) (offC_W _) <| slL 11 <| fin h

theorem t308 {U KK : sProp 𝕄} {w1} {Q} (h : ∀ (w184 : k0_chk184 (W (rsc c true 13))), SB A K c 2 U KK false 13 13 13 11 12 13 13 11 ⊢ Q ⟨((W (rsc c true 13))), w184⟩) :
    SB A K c 2 U KK false 12 13 13 11 12 12 12 10 ⊢ WP c (k0_part308 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (k0_pay251 (Sm A 2 false 11 (nx c true)) (Y A 2 c (rsc c false 12)))) Q := by
  rw [k0_part308_eq_skeleton]; unfold k0_part308_skel
  exact stL 11 rfl <| rwL <| rsL 11 <| rrR <| op_tab 47 rfl <| chk (chkB _) <| fin (h _)

theorem t309 {U KK : sProp 𝕄} {w2} {w184} {Q} (h : SB A K c 2 U KK false 13 14 14 12 12 13 13 11 ⊢ Q ⟨⟩) :
    SB A K c 2 U KK false 13 13 13 11 12 13 13 11 ⊢ WP c (k0_part309 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2 (W (rsc c true 13)) w184) Q := by
  rw [k0_part309_eq_skeleton]; unfold k0_part309_skel
  exact slR 12 <| op_yload (rsc c true 13) (offC_W _) <| slR 12 <| stR 12 rfl <| rwR <| rsR 12 <| fin h

theorem t310 {U KK : sProp 𝕄}  {Q} (h : ∀ (b0 : BitVec 32), SB A K c 2 U KK false 13 14 14 12 13 14 13 12 ⊢ Q b0) :
    SB A K c 2 U KK false 13 14 14 12 12 13 13 11 ⊢ WP c (k0_part310 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true))) Q := by
  rw [k0_part310_eq_skeleton]; unfold k0_part310_skel
  exact rrL <| op_tab 62 rfl <| chk (chkB _) <| slL 12 <| op_yload (rsc c false 13) (offC_W _) <| slL 12 <| stL 12 rfl <| rwL <| fin (h _)

theorem t311 {U KK : sProp 𝕄} {w1} {c1_i32_7932 : BitVec 32} {Q} (h : SB A K c 2 U KK false 14 15 14 12 13 14 14 12 ⊢ Q ⟨⟩) :
    SB A K c 2 U KK false 13 14 14 12 13 14 13 12 ⊢ WP c (k0_part311 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 c1_i32_7932) Q := by
  rw [k0_part311_eq_skeleton]; unfold k0_part311_skel
  exact rsL 12 <| rrR <| op_tab 48 rfl <| chk (chkB _) <| slR 13 <| op_yload (rsc c true 14) (offC_W _) <| slR 13 <| stR 13 rfl <| fin h

theorem t312 {U KK : sProp 𝕄} {w2} {Q} (h : ∀ (w187 : k0_chk187 (W (rsc c false 14))), SB A K c 2 U KK false 14 15 15 13 14 14 14 12 ⊢ Q ⟨((W (rsc c false 14))), w187⟩) :
    SB A K c 2 U KK false 14 15 14 12 13 14 14 12 ⊢ WP c (k0_part312 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) w2) Q := by
  rw [k0_part312_eq_skeleton]; unfold k0_part312_skel
  exact rwR <| rsR 13 <| rrL <| op_tab 63 rfl <| chk (chkB _) <| fin (h _)

theorem t313 {U KK : sProp 𝕄} {w1} {w187} {Q} (h : ∀ (b0 : BitVec 32), SB A K c 2 U KK false 14 15 15 13 14 15 15 13 ⊢ Q b0) :
    SB A K c 2 U KK false 14 15 15 13 14 14 14 12 ⊢ WP c (k0_part313 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (rsc c false 14)) w187) Q := by
  rw [k0_part313_eq_skeleton]; unfold k0_part313_skel
  exact slL 13 <| op_yload (rsc c false 14) (offC_W _) <| slL 13 <| stL 13 rfl <| rwL <| rsL 13 <| fin (h _)

theorem t314 {U KK : sProp 𝕄} {v9465} {Q} (h : SB A K c 2 U KK false 15 16 15 14 14 15 15 13 ⊢ Q ⟨⟩) :
    SB A K c 2 U KK false 14 15 15 13 14 15 15 13 ⊢ WP c (k0_part314 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c true)) v9465) Q := by
  rw [k0_part314_eq_skeleton]; unfold k0_part314_skel
  exact rrR <| op_tab 49 rfl <| chk (chkB _) <| slR 14 <| op_yload (rsc c true 15) (offC_W _) <| slR 14 <| stR 14 rfl <| rwR <| fin h

theorem t315 {U KK : sProp 𝕄} {w2} {Q} (h : SB A K c 2 U KK false 16 16 16 14 15 15 15 13 ⊢ Q ⟨⟩) :
    SB A K c 2 U KK false 15 16 15 14 14 15 15 13 ⊢ WP c (k0_part315 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) (W (nx c true)) w2) Q := by
  rw [k0_part315_eq_skeleton]; unfold k0_part315_skel
  exact rsR 14 <| rrL <| rrR <| fin h

theorem t316 {U KK : sProp 𝕄}  {Q} (h : SB A K c 2 U KK false 16 16 16 16 15 15 15 15 ⊢ Q (k0_pay257 (Sm A 2 true 15 (nx c false)))) :
    SB A K c 2 U KK false 16 16 16 14 15 15 15 13 ⊢ WP c (k0_part316 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 ) Q := by
  rw [k0_part316_eq_skeleton]; unfold k0_part316_skel
  exact rwR <| rwR <| rwL <| rwL <| slR 15 <| fin h

end

end Cert.TpMlp

end
-- ==== Proof.Chain.lean ====
/-
  The body put together from its parts.
-/
module

public import proofs.«01_k».proof.Proof.PartA
public import proofs.«01_k».proof.Proof.PartB
public import proofs.«01_k».proof.Proof.PartC
public import proofs.«01_k».proof.Proof.PartD

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The result's block -/

section
variable {A : Args F} {K : GSem nD τ sig → ℕ} {c : Dev nD} {l y : ℕ} {p : Bool} {q : Bool → ℕ × ℕ × ℕ × ℕ} {α : Type}

/-- Looking at the result's block before it is written. -/
theorem op_odead {O KK : sProp 𝕄} {Q : α → sProp 𝕄} {r} {hl} {k : _ → Prog (TpuEff nD τ sig (Elt F) Λ₀ .tc) α}
    (h : ∀ v, St A K c l p q (RX A c l y O (outE c) KK) ⊢ WP c (k v) Q) :
    St A K c l p q (RX A c l y O (outE c) KK) ⊢ WP c (Prog.lift (.load m8 r hl) >>= k) Q := by
  refine st_load_any (S := Finset.univ) (sh := fullShare) (drop_pure (φ := fun _ => True) (carry_left ?_)) (Finset.subset_univ _) h
  unfold RX outE out
  iintro ⟨Hy, HO, HI, ⟨%f, HU⟩, HK⟩
  iexists f
  isplitr; · ipureintro; trivial
  isplitl [HU]; · iexact HU
  iintro HU
  isplitl [Hy]; · iexact Hy
  isplitl [HO]; · iexact HO
  isplitl [HI]; · iexact HI
  isplitl [HU]; · iexists f; iexact HU
  iexact HK
/-- Writing it. -/
theorem op_ostore {O KK : sProp 𝕄} {Q : α → sProp 𝕄} {h₀} {w} (hw : w = res A c) {hx} {hm} {k : _ → Prog (TpuEff nD τ sig (Elt F) Λ₀ .tc) α}
    (h : St A K c l p q (RX A c l y O (out c (res A c)) KK) ⊢ WP c (k ⟨⟩) Q) :
    St A K c l p q (RX A c l y O (outE c) KK) ⊢ WP c (Prog.lift (.store m8 (Rect.unit (s := S256x256) ![0, 0] S256x256.size h₀) w Finset.univ hx hm) >>= k) Q := by
  subst hw
  refine st_store (S := Finset.univ) rfl rfl (drop_pure (φ := fun _ => True) (carry_left ?_)) (Finset.subset_univ _) h
  unfold RX outE out
  iintro ⟨Hy, HO, HI, ⟨%f, HU⟩, HK⟩
  iexists f
  isplitr; · ipureintro; trivial
  isplitl [HU]; · iexact HU
  have e : ((m8.access (Rect.unit (s := S256x256) ![0, 0] S256x256.size h₀)).write (Elt F) f (res A c) Finset.univ) = res A c :=
    Memref.write_access_unit_zero_univ (Elt F) cc0_stg8_0 (by funext a; fin_cases a <;> rfl) _ f (res A c)
  rw [e]
  iintro HU
  isplitl [Hy]; · iexact Hy
  isplitl [HO]; · iexact HO
  isplitl [HI]; · iexact HI
  isplitl [HU]; · iexact HU
  iexact HK
end

section
variable {A : Args F} {K : GSem nD τ sig → ℕ} {c : Dev nD}

theorem t317 {U N0 : sProp 𝕄} {P : sProp 𝕄}  {Q} (hp : ∀ (Q : _ → sProp 𝕄), (∀ (v2 : BitVec 32) (w1 : k0_chk1 (W (nx c false))) (w2 : k0_chk2 (W (nx c true))), SA A K c 0 U N0 0 0 0 0 0 0 0 ⊢ Q ⟨c, v2, W (nx c false), w1, W (nx c true), w2⟩) → P ⊢ WP c (k0_part1 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13) Q)  (h : ∀ (b0 : BitVec 32) (w1 : k0_chk1 (W (nx c false))) (w2 : k0_chk2 (W (nx c true))) (w29 : k0_chk29 (W (ck c true 14))) (w30 : k0_chk30 (W (ck c false 14))), SA A K c 0 U N0 28 30 28 28 30 28 27 ⊢ Q ⟨c, b0, (W (nx c false)), w1, (W (nx c true)), w2, (W (ck c true 14)), w29, (W (ck c false 14)), w30, (k0_pay42 (xb A 0 (ck c true 14)) (A.wi 0 c) (A.wo 0 c))⟩) :
    P ⊢ WP c (k0_part317 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 ) Q := by
  rw [k0_part317_eq_skeleton]; unfold k0_part317_skel
  exact wp_seq <| hp _ <| fun v2 w1 w2 =>
    wp_seq <| t2 <|
    wp_seq <| t3 <| fun w3 w4 =>
    wp_seq <| t4 <| fun _ =>
    wp_seq <| t5 <|
    wp_seq <| t6 <|
    wp_seq <| t7 <| fun w5 w6 =>
    wp_seq <| t8 <|
    wp_seq <| t9 <| fun _ _ =>
    wp_seq <| t10 <|
    wp_seq <| t11 <| fun w7 w8 =>
    wp_seq <| t12 <|
    wp_seq <| t13 <|
    wp_seq <| t14 <|
    wp_seq <| t15 <|
    wp_seq <| t16 <| fun w9 w10 _ =>
    wp_seq <| t17 <|
    wp_seq <| t18 <| fun _ =>
    wp_seq <| t19 <|
    wp_seq <| t20 <| fun w11 w12 =>
    wp_seq <| t21 <|
    wp_seq <| t22 <| fun _ =>
    wp_seq <| t23 <|
    wp_seq <| t24 <| fun w13 w14 _ _ =>
    wp_seq <| t25 <|
    wp_seq <| t26 <|
    wp_seq <| t27 <|
    wp_seq <| t28 <| fun w15 w16 =>
    wp_seq <| t29 <|
    wp_seq <| t30 <|
    wp_seq <| t31 <|
    wp_seq <| t32 <| fun w17 w18 =>
    wp_seq <| t33 <| fun _ =>
    wp_seq <| t34 <| fun _ =>
    wp_seq <| t35 <|
    wp_seq <| t36 <| fun w19 w20 =>
    wp_seq <| t37 <| fun _ =>
    wp_seq <| t38 <|
    wp_seq <| t39 <|
    wp_seq <| t40 <| fun w21 w22 =>
    wp_seq <| t41 <|
    wp_seq <| t42 <|
    wp_seq <| t43 <|
    wp_seq <| t44 <|
    wp_seq <| t45 <| fun w23 w24 =>
    wp_seq <| t46 <|
    wp_seq <| t47 <|
    wp_seq <| t48 <| fun _ =>
    wp_seq <| t49 <| fun w25 w26 _ =>
    wp_seq <| t50 <|
    wp_seq <| t51 <| fun _ =>
    wp_seq <| t52 <|
    wp_seq <| t53 <| fun w27 w28 =>
    wp_seq <| t54 <|
    wp_seq <| t55 <|
    wp_seq <| t56 <|
    wp_seq <| t57 <| fun w29 w30 =>
    wp_seq <| t58 <|
    wp_seq <| t59 <|
    wp_seq <| t60 <|
    fin (h _ _ _ _ _)

theorem t318 {U N0 N1 N2 : sProp 𝕄} {v2 : BitVec 32} {w1 : k0_chk1 (W (nx c false))} {w2 : k0_chk2 (W (nx c true))} {w29 : k0_chk29 (W (ck c true 14))} {w30 : k0_chk30 (W (ck c false 14))} {Q}  (tr1 : SA A K c 0 U N0 32 32 32 30 30 30 32 ⊢ SB A K c 0 U N1 false 0 0 0 0 0 0 0 0) (tr2 : SB A K c 0 U N1 true 16 16 16 16 15 15 15 15 ⊢ SA A K c 1 U N2 0 0 0 0 0 0 0) (h : ∀ (w69 : k0_chk69 (W (ck c true 3))) (w70 : k0_chk70 (W (ck c false 3))), SA A K c 1 U N2 6 8 6 6 8 6 6 ⊢ Q ⟨(W (ck c true 3)), w69, (W (ck c false 3)), w70, (k0_pay94 (xb A 1 (ck c false 3)) (A.wi 1 c)), ((Scalar.ofBits .f32 0x00000000#32 : F .f32))⟩) :
    SA A K c 0 U N0 28 30 28 28 30 28 27 ⊢ WP c (k0_part318 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c false)) w1 (W (nx c true)) w2 (W (ck c true 14)) w29 (W (ck c false 14)) w30 (k0_pay42 (xb A 0 (ck c true 14)) (A.wi 0 c) (A.wo 0 c))) Q := by
  rw [k0_part318_eq_skeleton]; unfold k0_part318_skel
  exact wp_seq <| t61 <| fun w31 w32 =>
    wp_seq <| t62 <|
    wp_seq <| t63 <| fun _ =>
    wp_seq <| t64 <| fun w33 _ =>
    wp_seq <| t65 <|
    wp_seq <| t66 tr1 <|
    wp_seq <| t67 <|
    wp_seq <| t68 <|
    wp_seq <| t69 <|
    wp_seq <| t70 <| fun w39 =>
    wp_seq <| t71 <|
    wp_seq <| t72 <|
    wp_seq <| t73 <|
    wp_seq <| t74 <| fun w42 =>
    wp_seq <| t75 <|
    wp_seq <| t76 <|
    wp_seq <| t77 <|
    wp_seq <| t78 <|
    wp_seq <| t79 <|
    wp_seq <| t80 <|
    wp_seq <| t81 <|
    wp_seq <| t82 <|
    wp_seq <| t83 <|
    wp_seq <| t84 <|
    wp_seq <| t85 <|
    wp_seq <| t86 <|
    wp_seq <| t87 <| fun w52 =>
    wp_seq <| t88 <|
    wp_seq <| t89 <| fun _ =>
    wp_seq <| t90 <|
    wp_seq <| t91 <| fun w55 =>
    wp_seq <| t92 <| fun _ =>
    wp_seq <| t93 <|
    wp_seq <| t94 <|
    wp_seq <| t95 <| fun w58 =>
    wp_seq <| t96 <|
    wp_seq <| t97 <|
    wp_seq <| t98 <|
    wp_seq <| t99 <| fun w61 =>
    wp_seq <| t100 <|
    wp_seq <| t101 <|
    wp_seq <| t102 <|
    wp_seq <| t103 <|
    wp_seq <| t104 <|
    wp_seq <| t105 <|
    wp_seq <| t106 tr2 <| fun _ =>
    wp_seq <| t107 <|
    wp_seq <| t108 <| fun w65 w66 _ =>
    wp_seq <| t109 <|
    wp_seq <| t110 <| fun _ =>
    wp_seq <| t111 <|
    wp_seq <| t112 <|
    wp_seq <| t113 <| fun w67 w68 =>
    wp_seq <| t114 <|
    wp_seq <| t115 <| fun _ _ =>
    wp_seq <| t116 <|
    wp_seq <| t117 <| fun w69 w70 =>
    wp_seq <| t118 <|
    wp_seq <| t119 <|
    wp_seq <| t120 <|
    fin (h _ _)

theorem t319 {U N2 N3 : sProp 𝕄} {w1 : k0_chk1 (W (nx c false))} {w2 : k0_chk2 (W (nx c true))} {w69 : k0_chk69 (W (ck c true 3))} {w70 : k0_chk70 (W (ck c false 3))} {Q}  (tr3 : SA A K c 1 U N2 32 32 32 30 30 30 32 ⊢ SB A K c 1 U N3 false 0 0 0 0 0 0 0 0) (h : SB A K c 1 U N3 false 4 5 4 3 3 4 4 2 ⊢ Q ⟨⟩) :
    SA A K c 1 U N2 6 8 6 6 8 6 6 ⊢ WP c (k0_part319 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c true 3)) w69 (W (ck c false 3)) w70 (k0_pay94 (xb A 1 (ck c false 3)) (A.wi 1 c)) ((Scalar.ofBits .f32 0x00000000#32 : F .f32))) Q := by
  rw [k0_part319_eq_skeleton]; unfold k0_part319_skel
  exact wp_seq <| t121 <| fun w71 w72 =>
    wp_seq <| t122 <| fun _ =>
    wp_seq <| t123 <|
    wp_seq <| t124 <|
    wp_seq <| t125 <| fun w73 w74 _ =>
    wp_seq <| t126 <|
    wp_seq <| t127 <|
    wp_seq <| t128 <| fun _ =>
    wp_seq <| t129 <| fun w75 w76 =>
    wp_seq <| t130 <| fun _ _ =>
    wp_seq <| t131 <|
    wp_seq <| t132 <|
    wp_seq <| t133 <| fun w77 w78 =>
    wp_seq <| t134 <|
    wp_seq <| t135 <|
    wp_seq <| t136 <|
    wp_seq <| t137 <| fun w79 w80 _ =>
    wp_seq <| t138 <|
    wp_seq <| t139 <| fun _ =>
    wp_seq <| t140 <| fun _ =>
    wp_seq <| t141 <| fun w81 =>
    wp_seq <| t142 <| fun w82 =>
    wp_seq <| t143 <| fun _ =>
    wp_seq <| t144 <|
    wp_seq <| t145 <|
    wp_seq <| t146 <| fun w83 w84 =>
    wp_seq <| t147 <|
    wp_seq <| t148 <|
    wp_seq <| t149 <|
    wp_seq <| t150 <| fun w85 w86 =>
    wp_seq <| t151 <|
    wp_seq <| t152 <|
    wp_seq <| t153 <|
    wp_seq <| t154 <| fun w87 w88 _ =>
    wp_seq <| t155 <| fun _ =>
    wp_seq <| t156 <|
    wp_seq <| t157 <| fun _ =>
    wp_seq <| t158 <| fun w89 w90 _ =>
    wp_seq <| t159 <|
    wp_seq <| t160 <|
    wp_seq <| t161 <| fun _ =>
    wp_seq <| t162 <| fun w91 w92 =>
    wp_seq <| t163 <|
    wp_seq <| t164 <|
    wp_seq <| t165 <|
    wp_seq <| t166 <| fun w93 w94 =>
    wp_seq <| t167 <|
    wp_seq <| t168 <|
    wp_seq <| t169 <| fun w95 _ _ =>
    wp_seq <| t170 <|
    wp_seq <| t171 tr3 <|
    wp_seq <| t172 <| fun w98 _ =>
    wp_seq <| t173 <| fun w99 =>
    wp_seq <| t174 <| fun w100 =>
    wp_seq <| t175 <|
    wp_seq <| t176 <|
    wp_seq <| t177 <|
    wp_seq <| t178 <|
    wp_seq <| t179 <|
    wp_seq <| t180 <|
    fin (h)

theorem t320 {U N3 N4 : sProp 𝕄} {v2 : BitVec 32} {w1 : k0_chk1 (W (nx c false))} {w2 : k0_chk2 (W (nx c true))} {Q}  (tr4 : SB A K c 1 U N3 true 16 16 16 16 15 15 15 15 ⊢ SA A K c 2 U N4 0 0 0 0 0 0 0) (h : ∀ (w138 : k0_chk138 (W (ck c false 6))) (w139 : k0_chk139 (W (ck c true 7))) (w140 : k0_chk140 (W (ck c false 7))), SA A K c 2 U N4 14 16 14 13 14 13 13 ⊢ Q ⟨(W (ck c false 6)), w138, (W (ck c true 7)), w139, (W (ck c false 7)), w140⟩) :
    SB A K c 1 U N3 false 4 5 4 3 3 4 4 2 ⊢ WP c (k0_part320 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 c v2 (W (nx c false)) w1 (W (nx c true)) w2) Q := by
  rw [k0_part320_eq_skeleton]; unfold k0_part320_skel
  exact wp_seq <| t181 <|
    wp_seq <| t182 <|
    wp_seq <| t183 <|
    wp_seq <| t184 <|
    wp_seq <| t185 <|
    wp_seq <| t186 <|
    wp_seq <| t187 <| fun w110 =>
    wp_seq <| t188 <| fun _ =>
    wp_seq <| t189 <| fun _ _ =>
    wp_seq <| t190 <|
    wp_seq <| t191 <| fun w113 =>
    wp_seq <| t192 <|
    wp_seq <| t193 <|
    wp_seq <| t194 <|
    wp_seq <| t195 <| fun w116 _ =>
    wp_seq <| t196 <|
    wp_seq <| t197 <|
    wp_seq <| t198 <|
    wp_seq <| t199 <|
    wp_seq <| t200 <|
    wp_seq <| t201 <|
    wp_seq <| t202 <|
    wp_seq <| t203 <|
    wp_seq <| t204 <|
    wp_seq <| t205 <|
    wp_seq <| t206 <|
    wp_seq <| t207 <|
    wp_seq <| t208 <|
    wp_seq <| t209 <|
    wp_seq <| t210 <|
    wp_seq <| t211 <|
    wp_seq <| t212 tr4 <| fun _ _ =>
    wp_seq <| t213 <| fun _ =>
    wp_seq <| t214 <| fun w127 w128 _ =>
    wp_seq <| t215 <|
    wp_seq <| t216 <| fun _ =>
    wp_seq <| t217 <|
    wp_seq <| t218 <| fun w129 w130 =>
    wp_seq <| t219 <|
    wp_seq <| t220 <|
    wp_seq <| t221 <|
    wp_seq <| t222 <| fun w131 w132 =>
    wp_seq <| t223 <|
    wp_seq <| t224 <|
    wp_seq <| t225 <|
    wp_seq <| t226 <| fun w133 w134 =>
    wp_seq <| t227 <|
    wp_seq <| t228 <| fun _ =>
    wp_seq <| t229 <|
    wp_seq <| t230 <| fun w135 w136 =>
    wp_seq <| t231 <| fun _ =>
    wp_seq <| t232 <|
    wp_seq <| t233 <|
    wp_seq <| t234 <| fun w137 w138 =>
    wp_seq <| t235 <|
    wp_seq <| t236 <| fun _ _ =>
    wp_seq <| t237 <|
    wp_seq <| t238 <| fun w139 w140 =>
    wp_seq <| t239 <|
    wp_seq <| t240 <|
    fin (h _ _ _)

theorem t321 {U N4 N5 : sProp 𝕄} {w1 : k0_chk1 (W (nx c false))} {w2 : k0_chk2 (W (nx c true))} {w138 : k0_chk138 (W (ck c false 6))} {w139 : k0_chk139 (W (ck c true 7))} {w140 : k0_chk140 (W (ck c false 7))} {Q}  (tr5 : SA A K c 2 U N4 32 32 32 30 30 30 32 ⊢ SB A K c 2 U N5 false 0 0 0 0 0 0 0 0) (h : SB A K c 2 U N5 false 9 10 10 8 9 10 10 8 ⊢ Q ⟨⟩) :
    SA A K c 2 U N4 14 16 14 13 14 13 13 ⊢ WP c (k0_part321 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13 (W (nx c false)) w1 (W (nx c true)) w2 (W (ck c false 6)) w138 (W (ck c true 7)) w139 (W (ck c false 7)) w140) Q := by
  rw [k0_part321_eq_skeleton]; unfold k0_part321_skel
  exact wp_seq <| t241 <|
    wp_seq <| t242 <|
    wp_seq <| t243 <| fun w141 w142 _ =>
    wp_seq <| t244 <|
    wp_seq <| t245 <| fun _ =>
    wp_seq <| t246 <|
    wp_seq <| t247 <| fun w143 w144 =>
    wp_seq <| t248 <|
    wp_seq <| t249 <| fun _ =>
    wp_seq <| t250 <|
    wp_seq <| t251 <| fun w145 w146 _ _ =>
    wp_seq <| t252 <|
    wp_seq <| t253 <|
    wp_seq <| t254 <|
    wp_seq <| t255 <| fun w147 w148 =>
    wp_seq <| t256 <|
    wp_seq <| t257 <|
    wp_seq <| t258 <|
    wp_seq <| t259 <| fun w149 w150 =>
    wp_seq <| t260 <| fun _ =>
    wp_seq <| t261 <| fun _ =>
    wp_seq <| t262 <|
    wp_seq <| t263 <| fun w151 w152 =>
    wp_seq <| t264 <| fun _ =>
    wp_seq <| t265 <|
    wp_seq <| t266 <|
    wp_seq <| t267 <| fun w153 w154 =>
    wp_seq <| t268 <|
    wp_seq <| t269 <|
    wp_seq <| t270 <|
    wp_seq <| t271 <|
    wp_seq <| t272 <| fun w155 w156 =>
    wp_seq <| t273 <|
    wp_seq <| t274 <|
    wp_seq <| t275 <| fun w157 _ =>
    wp_seq <| t276 tr5 <| fun w159 =>
    wp_seq <| t277 <|
    wp_seq <| t278 <|
    wp_seq <| t279 <|
    wp_seq <| t280 <|
    wp_seq <| t281 <|
    wp_seq <| t282 <|
    wp_seq <| t283 <| fun w165 =>
    wp_seq <| t284 <|
    wp_seq <| t285 <| fun _ =>
    wp_seq <| t286 <|
    wp_seq <| t287 <| fun w168 =>
    wp_seq <| t288 <| fun _ _ =>
    wp_seq <| t289 <|
    wp_seq <| t290 <|
    wp_seq <| t291 <| fun w171 _ =>
    wp_seq <| t292 <|
    wp_seq <| t293 <|
    wp_seq <| t294 <|
    wp_seq <| t295 <| fun w174 =>
    wp_seq <| t296 <|
    wp_seq <| t297 <|
    wp_seq <| t298 <|
    wp_seq <| t299 <|
    wp_seq <| t300 <|
    fin (h)

set_option maxRecDepth 65536 in
/-- The body, from the end of its first part on given what holds there, and what changes the phases. -/
theorem body_run {N0 N1 N2 N3 N4 N5 P : sProp 𝕄} {Q}
    (hp : ∀ (Q : _ → sProp 𝕄), (∀ (v2 : BitVec 32) (w1 : k0_chk1 (W (nx c false))) (w2 : k0_chk2 (W (nx c true))), SA A K c 0 (outE c) N0 0 0 0 0 0 0 0 ⊢ Q ⟨c, v2, W (nx c false), w1, W (nx c true), w2⟩) → P ⊢ WP c (k0_part1 m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13) Q)
    (tr1 : SA A K c 0 (outE c) N0 32 32 32 30 30 30 32 ⊢ SB A K c 0 (outE c) N1 false 0 0 0 0 0 0 0 0)
    (tr2 : SB A K c 0 (outE c) N1 true 16 16 16 16 15 15 15 15 ⊢ SA A K c 1 (outE c) N2 0 0 0 0 0 0 0)
    (tr3 : SA A K c 1 (outE c) N2 32 32 32 30 30 30 32 ⊢ SB A K c 1 (outE c) N3 false 0 0 0 0 0 0 0 0)
    (tr4 : SB A K c 1 (outE c) N3 true 16 16 16 16 15 15 15 15 ⊢ SA A K c 2 (outE c) N4 0 0 0 0 0 0 0)
    (tr5 : SA A K c 2 (outE c) N4 32 32 32 30 30 30 32 ⊢ SB A K c 2 (outE c) N5 false 0 0 0 0 0 0 0 0)
    (h : SB A K c 2 (out c (res A c)) N5 false 16 16 16 16 15 15 15 15 ⊢ Q ⟨⟩) :
    P ⊢ WP c (cc0_body m0 h0 m1 h1 m2 h2 m3 h3 m4 h4 m5 h5 m6 h6 m7 h7 m8 h8 m9 h9 m10 h10 m11 h11 m12 h12 m13 h13 m14 h14 cc0_scratch6 cc0_scratch7 cc0_scratch8 cc0_scratch9 cc0_scratch10 cc0_scratch11 cc0_scratch12 cc0_scratch13) Q := by
  rw [cc0_body_eq_skeleton]; unfold cc0_body_skel
  exact wp_seq <| t317 hp <| fun _ w1 w2 w29 w30 =>
    wp_seq <| t318 tr1 tr2 <| fun w69 w70 =>
    wp_seq <| t319 tr3 <|
    wp_seq <| t320 tr4 <| fun w138 w139 w140 =>
    wp_seq <| t321 tr5 <|
    wp_seq <| t301 <|
    wp_seq <| t302 <|
    wp_seq <| t303 <|
    wp_seq <| t304 <|
    wp_seq <| t305 <|
    wp_seq <| t306 <|
    wp_seq <| t307 <|
    wp_seq <| t308 <| fun w184 =>
    wp_seq <| t309 <|
    wp_seq <| t310 <| fun _ =>
    wp_seq <| t311 <|
    wp_seq <| t312 <| fun w187 =>
    wp_seq <| t313 <| fun _ =>
    wp_seq <| t314 <|
    wp_seq <| t315 <|
    wp_seq <| t316 <|
    slL 14 <| op_yload c (offC_own _) <| op_odead fun _ => op_ostore rfl <| fin h

end

end Cert.TpMlp

end
-- ==== Proof.Whole.lean ====
/-
  The whole kernel on one device: from what the launch gives it to what it leaves.
-/
module

public import proofs.«01_k».proof.Proof.Ends
public import proofs.«01_k».proof.Proof.Start
public import proofs.«01_k».proof.Proof.Chain

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The kernel's own buffers, at any contents. -/
def scr (c : Dev nD) : sProp 𝕄 :=
  iprop((∃ f : Vec F S8192x256 .bf16, ((c : Thread nD τ).loc cc0_scratch0) ↦{fullShare} f) ∗ (∃ f : Vec F S8192x256 .f32, ((c : Thread nD τ).loc cc0_scratch1) ↦{fullShare} f)
    ∗ (∃ f : Vec F S16x256x256 .bf16, ((c : Thread nD τ).loc cc0_scratch2) ↦{fullShare} f) ∗ (∃ f : Vec F S15x256x256 .bf16, ((c : Thread nD τ).loc cc0_scratch3) ↦{fullShare} f)
    ∗ (∃ f : Vec F S256x256 .bf16, ((c : Thread nD τ).loc cc0_scratch4) ↦{fullShare} f) ∗ (∃ f : Vec F S256x256 .bf16, ((c : Thread nD τ).loc cc0_scratch5) ↦{fullShare} f))

section
variable (A : Args F) (K : GSem nD τ sig → ℕ) (c : Dev nD)

/-- The tokens of the two signals a device sends, its barrier cell, and its credits and duties of the whole run. -/
def gift : sProp 𝕄 :=
  iprop((dutyTok ER (bcell (nx c false)) 0 true ∗ reached (ER (F := F)) (bcell (nx c false)) 0)
    ∗ (dutyTok ER (bcell (nx c true)) 0 false ∗ reached (ER (F := F)) (bcell (nx c true)) 0)
    ∗ cred (tallyAt (bcell c) 5 2) ∗ atPos (ER (F := F)) (bcell c) 0 ∅ 0 ∗ fut (F := F) c 0)

/-- What a device has of the protocol as its kernel starts. -/
def Xo : sProp 𝕄 := iprop(IN A K ∗ gift (F := F) c ∗ opened (F := F) c)

/-- From what the launch gives to what the kernel starts from. -/
theorem pre_intro : iprop(IB A c ∗ outE (F := F) c ∗ scr (F := F) c ∗ (∃ W, owes (c : Thread nD τ) (O₀ c) W) ∗ Xo A K c)
    ⊢ iprop(IN A K ∗ Pre A K c ∗ unused (F := F) c) := by
  have hx (f) := x_split (F := F) c f
  have hr (f) := rr_split (F := F) c f
  have hl (f) := rl_split (F := F) c f
  unfold Xo gift opened Pre scr
  simp only [XS_eq, RSS_eq]
  iintro ⟨HB, Hu, ⟨⟨%f0, H0⟩, ⟨%f1, H1⟩, ⟨%f2, H2⟩, ⟨%f3, H3⟩, ⟨%f4, H4⟩, ⟨%f5, H5⟩⟩, HO, #HI, ⟨Hb1, Hb2, Hc, Ha, Hf⟩, ⟨Hi1, Hi2⟩, ⟨⟨M1, M2⟩, M3, M4⟩, Hun⟩
  ihave H0 := (hx f0) $$ H0
  ihave H2 := (hr f2) $$ H2
  ihave H3 := (hl f3) $$ H3
  icases H0 with ⟨Ho, P1, P2⟩
  isplitr; · iexact HI
  isplitr [Hun]
  · isplitl [HB]; · iexact HB
    isplitr; · iexact HI
    isplitl [HO]; · iexact HO
    isplitl [Hb1]; · iexact Hb1
    isplitl [Hb2]; · iexact Hb2
    isplitl [Hc]; · iexact Hc
    isplitl [Ha]; · iexact Ha
    isplitl [P1 P2 M3 M4]
    · isplitl [P1 M3]
      · isplitl [P1]; · iexact P1
        iexact M3
      isplitl [P2]; · iexact P2
      iexact M4
    isplitl [Ho]; · iexists f0; iexact Ho
    isplitl [H2 H3 M1 M2]
    · isplitl [H2 M1]
      · isplitl [H2]; · iexact H2
        iexact M1
      isplitl [H3]; · iexact H3
      iexact M2
    isplitl [H1]
    · unfold ybuf; iexists f1
      isplitr; · ipureintro; exact fun e h => absurd h (Nat.not_lt_zero _)
      iexact H1
    isplitl [Hu]; · iexact Hu
    isplitl [Hi2]; · iexact Hi2
    isplitl [Hi1]; · iexact Hi1
    isplitl [H4 H5]
    · unfold stgs stgE stg
      isplitl [H4]
      · iexists f4; iexact H4
      iexists f5; iexact H5
    iexact Hf
  iexact Hun

/-- Some value of the wire's type. -/
def zb : Elt F .bf16 := xb A 0 c (Shape.Idx.first (s := S256x256) (by decide))

/-- What a device's kernel leaves. -/
def Post : sProp 𝕄 :=
  iprop(IB A c ∗ out (F := F) c (res A c) ∗ scr (F := F) c ∗ (∃ W, owes (c : Thread nD τ) (0 : CellTallies nD τ sig ℕ) W) ∗ zeros (F := F) c ∗ semVal (bcell c) 0)

omit [FloatOps F] in
theorem rest_end : rest c 6 = 0 := by unfold rest; rw [Finset.Ico_self, Finset.sum_empty]

/-- The last reduction over, every cell is closed and every buffer is whole again. -/
theorem post_intro : iprop(IN A K ∗ SB A K c 2 (out (F := F) c (res A c)) (NB (F := F) c 2) false 16 16 16 16 15 15 15 15 ∗ unused (F := F) c)
    ⊢ |={Set.univ}=> Post A c := by
  show iprop(IN A K ∗ (IN A K ∗ (DirS A c 2 true true (16, 16, 16, 16) ∗ DirS A c 2 true false (15, 15, 15, 15))
    ∗ (∃ W, owes (c : Thread nD τ) (OO c 2 true 16 15) W) ∗ (ybuf A c 2 32 ∗ (∃ f, cpt (F := F) c c fullShare f) ∗ IB A c ∗ out (F := F) c (res A c) ∗ NB (F := F) c 2))
      ∗ unused (F := F) c) ⊢ _
  rw [OO_reduce_end, show 2 * 2 + 2 = 6 from rfl, rest_end]
  have hR : DirS A c 2 true true (16, 16, 16, 16) ⊢ iprop(posn (F := F) c 3 true true ∗ sp (F := F) c 3 true true 0 ∗ RSS (F := F) 3 c true
      ∗ gvs (F := F) (nx c false) 2 true true ∗ stgE (F := F) c true) := end_reduce A c 2 true
  have hL : DirS A c 2 true false (15, 15, 15, 15) ⊢ iprop(posn (F := F) c 3 true false ∗ sp (F := F) c 3 true false 0 ∗ RSS (F := F) 3 c false
      ∗ gvs (F := F) (nx c true) 2 true false ∗ stgE (F := F) c false) := end_reduce A c 2 false
  rw [RSS_eq] at hR hL
  have hN : NB (F := F) c 2 ⊢ iprop(BP (F := F) c ∗ idle (F := F) c 3 false ∗ (XS (F := F) 3 c true ∗ XS (F := F) 3 c false)) := by
    unfold NB; rw [if_neg (show ¬ 2 < 2 by decide)]
    iintro ⟨H1, H2, H3, -⟩
    isplitl [H1]; · iexact H1
    isplitl [H2]; · iexact H2
    iexact H3
  rw [XS_eq, XS_eq] at hN
  have hc := close_cells A K c
  have hx := x_join (F := F) c
  have hr := rr_join (F := F) c (fun _ => zb A c)
  have hl := rl_join (F := F) c (fun _ => zb A c)
  unfold Post scr
  unfold stgE stg at hR hL
  unfold ybuf
  iintro ⟨-, ⟨#HI, ⟨HR, HL⟩, HO, ⟨%f1, -, H1⟩, Ho, HB, HU, HN⟩, Hun⟩
  ihave HR := hR $$ HR
  ihave HL := hL $$ HL
  ihave HN := hN $$ HN
  icases HR with ⟨HpR, HsR, ⟨HrR, -⟩, -, H4⟩
  icases HL with ⟨HpL, HsL, ⟨HrL, -⟩, -, H5⟩
  icases HN with ⟨HBP, Hid, ⟨P1, -⟩, P2, -⟩
  imod hc $$ [HpR HsR HpL HsL Hid Hun HBP] with ⟨Hz, Hb⟩
  · isplitr; · iexact HI
    isplitl [HpR HsR HpL HsL Hid]
    · isplitr [Hid]
      · unfold idle
        isplitl [HpR HsR]
        · isplitl [HpR]; · iexact HpR
          iexact HsR
        isplitl [HpL]; · iexact HpL
        iexact HsL
      iexact Hid
    isplitl [Hun]; · iexact Hun
    iexact HBP
  imodintro
  isplitl [HB]; · iexact HB
  isplitl [HU]; · iexact HU
  isplitl [Ho P1 P2 H1 HrR HrL H4 H5]
  · isplitl [Ho P1 P2]
    · iapply hx
      isplitl [Ho]; · iexact Ho
      isplitl [P1]; · iexact P1
      iexact P2
    isplitl [H1]; · iexists f1; iexact H1
    isplitl [HrR]; · iapply hr $$ HrR
    isplitl [HrL]; · iapply hl $$ HrL
    isplitl [H4]; · iexact H4
    iexact H5
  isplitl [HO]; · iexact HO
  isplitl [Hz]; · iexact Hz
  iexact Hb

/-- A run between an invariant, a frame and a last update. -/
theorem wp_around {c : Dev nD} {p : Prog (TpuEff nD τ sig (Elt F) Λ₀ .tc) PUnit} {I P U M T : sProp 𝕄}
    (h1 : P ⊢ WP c p fun _ => M) (h2 : iprop(I ∗ M ∗ U) ⊢ |={Set.univ}=> T) : iprop(I ∗ P ∗ U) ⊢ WP c p fun _ => T := by
  have a : iprop(P ∗ U) ⊢ WP c p fun _ => iprop(M ∗ U) := (sep_mono h1 BIBase.Entails.rfl).trans (wp_frame_r frame _ Set.univ)
  have b : iprop(I ∗ P ∗ U) ⊢ WP c p fun _ => iprop(I ∗ M ∗ U) := (sep_mono BIBase.Entails.rfl a).trans (wp_frame_l frame _ Set.univ)
  exact (b.trans (wp_mono frame _ Set.univ fun _ => h2)).trans (wp_fupd frame _ Set.univ _ _)

/-- The whole kernel on one device. -/
theorem kernel_run : iprop(IB A c ∗ outE (F := F) c ∗ scr (F := F) c ∗ (∃ W, owes (c : Thread nD τ) (O₀ c) W) ∗ Xo A K c)
    ⊢ WP c (cc0_body m0 h0 m1 h1 m2 h2 m3 h3 m4 h4 m5 h5 m6 h6 m7 h7 m8 h8 m9 h9 m10 h10 m11 h11 m12 h12 m13 h13 m14 h14
      cc0_scratch6 cc0_scratch7 cc0_scratch8 cc0_scratch9 cc0_scratch10 cc0_scratch11 cc0_scratch12 cc0_scratch13) fun _ => Post A c := by
  have hb : Pre A K c ⊢ WP c (cc0_body m0 h0 m1 h1 m2 h2 m3 h3 m4 h4 m5 h5 m6 h6 m7 h7 m8 h8 m9 h9 m10 h10 m11 h11 m12 h12 m13 h13 m14 h14
      cc0_scratch6 cc0_scratch7 cc0_scratch8 cc0_scratch9 cc0_scratch10 cc0_scratch11 cc0_scratch12 cc0_scratch13)
        fun _ => SB A K c 2 (out (F := F) c (res A c)) (NB (F := F) c 2) false 16 16 16 16 15 15 15 15 :=
    body_run (N0 := NA (F := F) c 0) (N1 := NB (F := F) c 0) (N2 := NA (F := F) c 1) (N3 := NB (F := F) c 1) (N4 := NA (F := F) c 2) (N5 := NB (F := F) c 2)
      part1 (gather_reduce A K c 0 (by decide)) (reduce_gather A K c 0 (by decide)) (gather_reduce A K c 1 (by decide))
      (reduce_gather A K c 1 (by decide)) (gather_reduce A K c 2 (by decide)) BIBase.Entails.rfl
  refine (pre_intro A K c).trans ?_
  exact wp_around hb (post_intro A K c)

end

end Cert.TpMlp

end
-- ==== Proof.Deal.lean ====
/-
  The launch: tokens, credits and cells, dealt to the devices.
-/
module

public import proofs.«01_k».proof.Proof.Whole
public import Idealize.ShloMosaic.Lib.Pipeline.Launch

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over pairs -/

/-- The pairs of an `a` in `s` with a `b` in `t a`. -/
def dp {α β : Type} [DecidableEq α] [DecidableEq β] (s : Finset α) (t : α → Finset β) : Finset (α × β) :=
  s.biUnion fun a => (t a).image (Prod.mk a)
theorem mem_dp {α β : Type} [DecidableEq α] [DecidableEq β] {s : Finset α} {t : α → Finset β} {a : α} {b : β} :
    (a, b) ∈ dp s t ↔ a ∈ s ∧ b ∈ t a := by
  unfold dp
  simp only [Finset.mem_biUnion, Finset.mem_image, Prod.mk.injEq]
  constructor
  · rintro ⟨x, hx, y, hy, rfl, rfl⟩; exact ⟨hx, hy⟩
  · rintro ⟨hx, hy⟩; exact ⟨a, hx, b, hy, rfl, rfl⟩
theorem fam_dp {α β : Type} [DecidableEq α] [DecidableEq β] (s : Finset α) (t : α → Finset β) (Φ : α × β → sProp 𝕄) :
    bigSep (dp s t) Φ = bigSep s fun a => bigSep (t a) fun b => Φ (a, b) := by
  unfold dp
  rw [bigSep_biUnion_eq]
  · exact bigSep_congr fun a _ => bigSep_image_of_injOn (M := 𝕄) (fun x _ y _ h => (Prod.mk.inj h).2) Φ
  · intro a _ a' _ hne
    rw [Finset.disjoint_left]
    intro x hx hx'
    obtain ⟨_, _, rfl⟩ := Finset.mem_image.mp hx
    obtain ⟨_, _, h⟩ := Finset.mem_image.mp hx'
    exact hne (Prod.mk.inj h).1.symm
theorem fam_bool (Φ : Bool → sProp 𝕄) : bigSep (Finset.univ : Finset Bool) Φ = iprop(Φ true ∗ Φ false) := by
  have h : bigSep ({true, false} : Finset Bool) Φ = iprop(Φ true ∗ bigSep ({false} : Finset Bool) Φ) := bigSep_insert (by decide)
  have h' : bigSep ({false} : Finset Bool) Φ = Φ false := bigSep_singleton
  rw [h'] at h
  exact h
theorem fam_fin (Φ : ℕ → sProp 𝕄) : bigSep (Finset.Ico 9 112) Φ = bigSep Finset.univ fun k : Fin 103 => Φ (9 + k.val) := by
  rw [show Finset.Ico 9 112 = (Finset.univ : Finset (Fin 103)).image fun k => 9 + k.val from by
    ext x; simp only [Finset.mem_Ico, Finset.mem_image, Finset.mem_univ, true_and]
    constructor
    · rintro ⟨h, h'⟩; exact ⟨⟨x - 9, by omega⟩, by show 9 + (x - 9) = x; omega⟩
    · rintro ⟨k, rfl⟩; have := k.isLt; omega]
  exact bigSep_image_of_injOn (M := 𝕄) (fun a _ b _ h => Fin.ext (by simpa using h)) Φ

/-! ## The tokens -/

/-- Phase `h` of the six reduces when it is odd, gathers when it is even. -/
abbrev pp (h : ℕ) : Bool := decide (h % 2 = 1)
theorem pp_inj {h h' : ℕ} (e : pp h = pp h') (e2 : h / 2 = h' / 2) : h = h' := by
  have : (h % 2 = 1) = (h' % 2 = 1) := by simpa [pp] using e
  have h1 : h % 2 = 1 ↔ h' % 2 = 1 := by rw [this]
  omega

/-- Every message: who sends it, in which phase, which way, the how-manieth. -/
def msgs : Finset (Dev nD × ℕ × Bool × ℕ) :=
  dp Finset.univ fun _ => dp (Finset.Ico 0 6) fun h => dp Finset.univ fun s => Finset.range (nm (pp h) s)
/-- The token of its arrival, and that of its departure. -/
def tokR (x : Dev nD × ℕ × Bool × ℕ) : GSem nD τ sig × ℕ × Bool := (rcell (nx x.1 x.2.2.1) (pp x.2.1) x.2.2.1 x.2.2.2, x.2.1 / 2, true)
def tokS (x : Dev nD × ℕ × Bool × ℕ) : GSem nD τ sig × ℕ × Bool :=
  (scell x.1 (pp x.2.1) x.2.2.1 (x.2.2.2 % 2), x.2.1 / 2 * cnt (pp x.2.1) x.2.2.1 (x.2.2.2 % 2) + x.2.2.2 / 2, true)
/-- The token of a signal. -/
def tokB (x : Dev nD × Bool) : GSem nD τ sig × ℕ × Bool := (bcell (nx x.1 x.2), 0, !x.2)

theorem mem_msgs {c : Dev nD} {h j : ℕ} {s : Bool} (H : (c, h, s, j) ∈ msgs) : h < 6 ∧ j < nm (pp h) s := by
  unfold msgs at H
  have h1 := (mem_dp.mp H).2
  have h2 := mem_dp.mp h1
  have h3 := (mem_dp.mp h2.2).2
  exact ⟨(Finset.mem_Ico.mp h2.1).2, Finset.mem_range.mp h3⟩

theorem dcell_inj {d d' : Dev nD} {q q' : ℕ} (h : q < 112) (h' : q' < 112) (e : dcell d q = dcell d' q') : d = d' ∧ q = q' :=
  ⟨congrArg (fun g : GSem nD τ sig => g.1.1) e, qs_inj h h' (SemLoc.dma.inj (congrArg Prod.snd e))⟩

theorem tokR_inj : Set.InjOn tokR (msgs : Set (Dev nD × ℕ × Bool × ℕ)) := by
  rintro ⟨c, h, s, j⟩ hx ⟨c', h', s', j'⟩ hy e
  obtain ⟨_, hj⟩ := mem_msgs hx
  obtain ⟨_, hj'⟩ := mem_msgs hy
  have e1 : rcell (nx c s) (pp h) s j = rcell (nx c' s') (pp h') s' j' := congrArg Prod.fst e
  have e2 : h / 2 = h' / 2 := congrArg (fun x : GSem nD τ sig × ℕ × Bool => x.2.1) e
  obtain ⟨ed, eq⟩ := dcell_inj (rq_hi _ hj) (rq_hi _ hj') e1
  have ek : Kd.recv (pp h) s j = Kd.recv (pp h') s' j' := by rw [← dec_recv (nx c s) hj, ← dec_recv (nx c' s') hj', eq, ed]
  obtain ⟨ep, rfl, rfl⟩ := Kd.recv.inj ek
  obtain rfl := pp_inj ep e2
  have : c = c' := by rw [← nx_nx c s, ed, nx_nx]
  rw [this]

theorem tokS_inj : Set.InjOn tokS (msgs : Set (Dev nD × ℕ × Bool × ℕ)) := by
  rintro ⟨c, h, s, j⟩ hx ⟨c', h', s', j'⟩ hy e
  obtain ⟨h6, hj⟩ := mem_msgs hx
  obtain ⟨h6', hj'⟩ := mem_msgs hy
  have hk : j % 2 < 2 := Nat.mod_lt _ (by decide)
  have hk' : j' % 2 < 2 := Nat.mod_lt _ (by decide)
  have e1 : scell c (pp h) s (j % 2) = scell c' (pp h') s' (j' % 2) := congrArg Prod.fst e
  have e2 : h / 2 * cnt (pp h) s (j % 2) + j / 2 = h' / 2 * cnt (pp h') s' (j' % 2) + j' / 2 :=
    congrArg (fun x : GSem nD τ sig × ℕ × Bool => x.2.1) e
  obtain ⟨rfl, eq⟩ := dcell_inj ((sq_hi _ _ hk).trans (by decide)) ((sq_hi _ _ hk').trans (by decide)) e1
  have ek : Kd.send (pp h) s (j % 2) = Kd.send (pp h') s' (j' % 2) := by rw [← dec_send c (pp h) s hk, ← dec_send c (pp h') s' hk', eq]
  obtain ⟨ep, rfl, em⟩ := Kd.send.inj ek
  rw [← ep, ← em] at e2
  rw [← ep] at hj'
  have hc : j / 2 < cnt (pp h) s (j % 2) := by unfold cnt; omega
  have hc' : j' / 2 < cnt (pp h) s (j % 2) := by unfold cnt; omega
  generalize cnt (pp h) s (j % 2) = n at *
  have el : h / 2 = h' / 2 := by
    have a1 := Nat.add_mul_div_right (j / 2) (h / 2) (show 0 < n by omega)
    have a2 := Nat.add_mul_div_right (j' / 2) (h' / 2) (show 0 < n by omega)
    rw [Nat.div_eq_of_lt hc, Nat.zero_add] at a1
    rw [Nat.div_eq_of_lt hc', Nat.zero_add] at a2
    rw [← a1, ← a2, Nat.add_comm, e2, Nat.add_comm]
  have ej : j / 2 = j' / 2 := by rw [el] at e2; exact Nat.add_left_cancel e2
  have : j = j' := by omega
  obtain rfl := pp_inj ep el
  rw [this]

theorem tokB_inj : Set.InjOn tokB ((Finset.univ : Finset (Dev nD × Bool)) : Set (Dev nD × Bool)) := by
  rintro ⟨c, s⟩ _ ⟨c', s'⟩ _ e
  have e1 : nx c s = nx c' s' := congrArg (fun x : GSem nD τ sig × ℕ × Bool => x.1.1.1) e
  have e2 : (!s) = !s' := congrArg (fun x : GSem nD τ sig × ℕ × Bool => x.2.2) e
  have e3 : s = s' := by cases s <;> cases s' <;> simp_all
  subst e3
  have : c = c' := by rw [← nx_nx c s, e1, nx_nx]
  rw [this]

/-- All the tokens there are. -/
@[irreducible] def toks : Finset (GSem nD τ sig × ℕ × Bool) := Finset.univ.image tokB ∪ (msgs.image tokR ∪ msgs.image tokS)

theorem disj_RS : Disjoint (msgs.image tokR) (msgs.image tokS) := by
  rw [Finset.disjoint_left]
  intro x hx hx'
  obtain ⟨⟨c, h, s, j⟩, hm, rfl⟩ := Finset.mem_image.mp hx
  obtain ⟨⟨c', h', s', j'⟩, hm', e⟩ := Finset.mem_image.mp hx'
  have hj := (mem_msgs hm).2
  have hk' : j' % 2 < 2 := Nat.mod_lt _ (by decide)
  have e1 : scell c' (pp h') s' (j' % 2) = rcell (nx c s) (pp h) s j := congrArg Prod.fst e
  obtain ⟨ed, eq⟩ := dcell_inj ((sq_hi _ _ hk').trans (by decide)) (rq_hi _ hj) e1
  have := rq_lo (nx c s) hj
  have := sq_hi (pp h') s' hk'
  omega
theorem disj_B : Disjoint (Finset.univ.image tokB) (msgs.image tokR ∪ msgs.image tokS) := by
  rw [Finset.disjoint_left]
  intro x hx hx'
  obtain ⟨_, _, rfl⟩ := Finset.mem_image.mp hx
  rcases Finset.mem_union.mp hx' with h | h <;> obtain ⟨_, _, e⟩ := Finset.mem_image.mp h
  · have e' : (SemLoc.dma _ : SemLoc sig) = SemLoc.reg _ := congrArg (fun x : GSem nD τ sig × ℕ × Bool => x.1.2) e
    exact nomatch e'
  · have e' : (SemLoc.dma _ : SemLoc sig) = SemLoc.reg _ := congrArg (fun x : GSem nD τ sig × ℕ × Bool => x.1.2) e
    exact nomatch e'

/-- What of the tokens device `c` is dealt. -/
def dealt (c : Dev nD) : sProp 𝕄 :=
  iprop((dutyTok ER (bcell (nx c true)) 0 false ∗ dutyTok ER (bcell (nx c false)) 0 true)
    ∗ bigSep (Finset.Ico 0 6) fun h => iprop(dtys (F := F) c (h / 2) (pp h) true ∗ dtys (F := F) c (h / 2) (pp h) false))

/-- The tokens, dealt to the devices. -/
theorem toks_deal : (bigSep toks fun x => (dutyTok ER x.1 x.2.1 x.2.2 : sProp 𝕄)) = bigSep Finset.univ fun c => dealt (F := F) c := by
  unfold toks
  rw [fam_union disj_B, fam_union disj_RS, bigSep_image_of_injOn tokB_inj, bigSep_image_of_injOn tokR_inj, bigSep_image_of_injOn tokS_inj,
    ← fam_sep]
  unfold msgs
  rw [fam_dp, bigSep_univ_prod, ← fam_sep]
  refine bigSep_congr fun c _ => ?_
  rw [fam_bool, fam_dp]
  unfold dealt
  refine congrArg (fun X : sProp 𝕄 => iprop((dutyTok ER (bcell (nx c true)) 0 false ∗ dutyTok ER (bcell (nx c false)) 0 true) ∗ X)) ?_
  refine bigSep_congr fun h _ => ?_
  rw [fam_dp, fam_bool]
  rfl

/-! ## The credits -/

/-- What device `c` waits for of a stream, in layer `l`. -/
def own1 (c : Dev nD) (l : ℕ) (p s : Bool) : CellTallies nD τ sig ℕ := ∑ j ∈ Finset.Ico 0 (nm p s), tallyAt (rcell c p s j) (ix p l j) (NN p)
/-- All that device `c` waits for of others. -/
def waits (c : Dev nD) : CellTallies nD τ sig ℕ :=
  (tallyAt (bcell c) 5 1 + tallyAt (bcell c) 5 1) + ∑ h ∈ Finset.Ico 0 6, (own1 c (h / 2) (pp h) true + own1 c (h / 2) (pp h) false)

/-- A step round the ring, as a bijection. -/
def step (s : Bool) : Dev nD ≃ Dev nD where
  toFun c := nx c s
  invFun c := nx c (!s)
  left_inv c := nx_nx c s
  right_inv c := nx_nx' c s

theorem due_sum (l : ℕ) (p s : Bool) : (∑ d, due d l p s 0) = ∑ d, own1 d l p s :=
  Equiv.sum_comp (step s) fun d => own1 d l p s
theorem bar_sum (s : Bool) : (∑ d, tallyAt (bcell (nx d s)) 5 1 : CellTallies nD τ sig ℕ) = ∑ d, tallyAt (bcell d) 5 1 :=
  Equiv.sum_comp (step s) fun d => (tallyAt (bcell d) 5 1 : CellTallies nD τ sig ℕ)

/-- What the devices owe is what they wait for. -/
theorem owe_sum : (∑ d, O₀ d) = ∑ d, waits d := by
  have h1 : (∑ d, rest d 0) = ∑ d, ∑ h ∈ Finset.Ico 0 6, (own1 d (h / 2) (pp h) true + own1 d (h / 2) (pp h) false) := by
    unfold rest
    rw [Finset.sum_comm, Finset.sum_comm (s := (Finset.univ : Finset (Dev nD)))]
    refine Finset.sum_congr rfl fun h _ => ?_
    rw [Finset.sum_add_distrib, Finset.sum_add_distrib, due_sum, due_sum]
  unfold O₀ OB waits
  rw [Finset.sum_add_distrib, Finset.sum_add_distrib, Finset.sum_add_distrib, Finset.sum_add_distrib, bar_sum, bar_sum, h1, add_assoc]

theorem tally_off {g g' : GSem nD τ sig} (i n : ℕ) (h : g'.1 ≠ g.1) : (tallyAt g i n : CellTallies nD τ sig ℕ) g' = 0 := by
  unfold tallyAt tallyOn
  exact Pi.single_eq_of_ne (fun e => h (congrArg Prod.fst e)) _
theorem own1_off (c : Dev nD) (l : ℕ) (p s : Bool) {g : GSem nD τ sig} (h : g.1 ≠ (c : Thread nD τ)) : own1 c l p s g = 0 := by
  unfold own1
  rw [Finset.sum_apply]
  exact Finset.sum_eq_zero fun j _ => tally_off _ _ h
theorem waits_on (c : Dev nD) (g : GSem nD τ sig) (hne : waits c g ≠ 0) : g.1 = (c : Thread nD τ) := by
  by_contra h
  refine hne ?_
  unfold waits
  rw [Pi.add_apply, Pi.add_apply, Finset.sum_apply, tally_off _ _ h, zero_add, zero_add]
  exact Finset.sum_eq_zero fun j _ => by rw [Pi.add_apply, own1_off c _ _ _ h, own1_off c _ _ _ h, zero_add]

theorem cred_own1 (c : Dev nD) (l : ℕ) (p s : Bool) : (cred (own1 c l p s) : sProp 𝕄) = crd (F := F) c l p s := by
  unfold own1 crd
  rw [Pipeline.cred_finsetSum, Finset.range_eq_Ico]

/-- The credits a device starts with. -/
theorem cred_deal (c : Dev nD) : (Pipeline.launchCred O₀ c : sProp 𝕄)
    = iprop(cred (tallyAt (bcell c) 5 2) ∗ bigSep (Finset.Ico 0 6) fun h => iprop(crd (F := F) c (h / 2) (pp h) true ∗ crd (F := F) c (h / 2) (pp h) false)) := by
  have ha (a b : CellTallies nD τ sig ℕ) : (cred (a + b) : sProp 𝕄) = iprop(cred a ∗ cred b) := BI.Entails.antisymm (cred_add _ _).1 (cred_add _ _).2
  rw [Pipeline.launchCred_of_sum O₀ waits owe_sum waits_on c]
  unfold waits
  rw [ha, show (tallyAt (bcell c) 5 1 + tallyAt (bcell c) 5 1 : CellTallies nD τ sig ℕ) = tallyAt (bcell c) 5 2 from tallyAt_add _ _ 1 1, Pipeline.cred_finsetSum]
  refine congrArg (fun X : sProp 𝕄 => iprop(cred (tallyAt (bcell c) 5 2) ∗ X)) ?_
  exact bigSep_congr fun h _ => by rw [ha, cred_own1, cred_own1]

/-- Credits and duties, phase by phase. -/
theorem fut_intro (c : Dev nD) : iprop((bigSep (Finset.Ico 0 6) fun h => iprop(crd (F := F) c (h / 2) (pp h) true ∗ crd (F := F) c (h / 2) (pp h) false))
    ∗ bigSep (Finset.Ico 0 6) fun h => iprop(dtys (F := F) c (h / 2) (pp h) true ∗ dtys (F := F) c (h / 2) (pp h) false)) ⊢ fut (F := F) c 0 := by
  unfold fut
  rw [← fam_sep]
  refine fam_mono fun h _ => ?_
  unfold futp
  iintro ⟨⟨H1, H2⟩, H3, H4⟩
  isplitl [H1 H3]; · isplitl [H1] <;> iassumption
  isplitl [H2] <;> iassumption

/-! ## What the launch gives each device -/

theorem bar_cells (Φ : GSem nD τ sig → sProp 𝕄) : bigSep barCells Φ = bigSep Finset.univ fun c : Dev nD => Φ (bcell c) := by
  unfold barCells
  exact bigSep_image_of_injOn (M := 𝕄) (fun a _ b _ (h : bcell a = bcell b) => show a = b from congrArg (fun g : GSem nD τ sig => g.1.1) h) Φ
theorem dma_cells (Φ : GSem nD τ sig → sProp 𝕄) : bigSep dmaCells Φ = bigSep Finset.univ fun c : Dev nD => bigSep (Finset.Ico 9 112) fun q => Φ (dcell c q) := by
  unfold dmaCells
  refine (bigSep_image_of_injOn (M := 𝕄) (fun a _ b _ h => ?_) Φ).trans ?_
  · obtain ⟨h1, h2⟩ := dcell_inj (by have := a.2.isLt; omega) (by have := b.2.isLt; omega) h
    exact Prod.ext h1 (Fin.ext (by omega))
  · rw [bigSep_univ_prod]
    exact bigSep_congr fun c _ => (fam_fin fun q => Φ (dcell c q)).symm
theorem cells_disj : Disjoint barCells dmaCells := by
  rw [Finset.disjoint_left]
  intro x hx hx'
  obtain ⟨_, _, rfl⟩ := Finset.mem_image.mp hx
  obtain ⟨_, _, e⟩ := Finset.mem_image.mp hx'
  have e' : (SemLoc.dma _ : SemLoc sig) = SemLoc.reg _ := congrArg Prod.snd e
  exact nomatch e'

/-- The protocol's share of a device at launch, its cells' invariants over `S`. -/
def TkS (A : Args F) (S : Finset (GSem nD τ sig)) (c : Dev nD) : sProp 𝕄 :=
  iprop(∃ K : GSem nD τ sig → ℕ, (bigSep S fun g => cellInv ER (Rd A) (K g) g) ∗ gift (F := F) c ∗ opens (F := F) c)

theorem TkS_intro (A : Args F) {S B : Finset (GSem nD τ sig)} (hB : ∀ d, bcell d ∈ B) (K : GSem nD τ sig → ℕ) (c : Dev nD) :
    iprop(((bigSep S fun g => cellInv ER (Rd A) (K g) g) ∗ bigSep B fun g => reached (ER (F := F)) g 0)
      ∗ (Pipeline.launchCred O₀ c ∗ atPos (ER (F := F)) (bcell c) 0 ∅ 0 ∗ (bigSep (Finset.Ico 9 112) fun q => openTok (ER (F := F)) (dcell c q)) ∗ dealt (F := F) c))
    ⊢ TkS A S c := by
  have hr (d : Dev nD) : (bigSep B fun g => reached (ER (F := F)) g 0) ⊢ reached (ER (F := F)) (bcell d) 0 :=
    bigSep_elim (hB d)
  have h1 := hr (nx c false)
  have h2 := hr (nx c true)
  rw [cred_deal]
  unfold TkS gift opens dealt
  iintro ⟨⟨#HI, #HR⟩, ⟨Hc, HC⟩, Ha, Ho, ⟨Ht, Hf⟩, HD⟩
  iexists K
  isplitr; · iexact HI
  isplitr [Ho]
  · isplitl [Hf]
    · isplitl [Hf]; · iexact Hf
      iapply h1; iexact HR
    isplitl [Ht]
    · isplitl [Ht]; · iexact Ht
      iapply h2; iexact HR
    isplitl [Hc]; · iexact Hc
    isplitl [Ha]; · iexact Ha
    iapply (fut_intro c)
    isplitl [HC] <;> iassumption
  · iexact Ho

theorem deal_over (A : Args F) {B D : Finset (GSem nD τ sig)} {T : Finset (GSem nD τ sig × ℕ × Bool)} (hd : Disjoint B D) (hB : ∀ d, bcell d ∈ B)
    (eB : ∀ Φ : GSem nD τ sig → sProp 𝕄, bigSep B Φ = bigSep Finset.univ fun c : Dev nD => Φ (bcell c))
    (eD : ∀ Φ : GSem nD τ sig → sProp 𝕄, bigSep D Φ = bigSep Finset.univ fun c : Dev nD => bigSep (Finset.Ico 9 112) fun q => Φ (dcell c q))
    (eT : (bigSep T fun x => (dutyTok ER x.1 x.2.1 x.2.2 : sProp 𝕄)) = bigSep Finset.univ fun c => dealt (F := F) c) :
    iprop((bigSep Finset.univ fun c : Dev nD => iprop(semVal (bcell c) 0 ∗ Pipeline.launchCred O₀ c)) ∗ BI.own (ER (F := F) (launchOf B D T)))
    ⊢ |={Set.univ}=> bigSep Finset.univ fun c : Dev nD => TkS A (B ∪ D) c := by
  have hs : (bigSep Finset.univ fun c : Dev nD => iprop(semVal (bcell c) 0 ∗ Pipeline.launchCred O₀ c) : sProp 𝕄)
      = iprop(bigSep B (fun g => semVal g 0) ∗ bigSep Finset.univ fun c : Dev nD => Pipeline.launchCred O₀ c) := by
    rw [fam_sep, eB fun g => semVal g 0]
  have hf : iprop(bigSep B (fun g => (semVal g 0 : sProp 𝕄)) ∗ BI.own (ER (F := F) (launchOf B D T))) ⊢ _ :=
    fund_launch ER (Rd A) (Es := Set.univ) hd (fun g _ h => h) T
  rw [eB fun g => atPos (ER (F := F)) g 0 ∅ 0, eD fun g => openTok (ER (F := F)) g, eT] at hf
  have hw (K : GSem nD τ sig → ℕ) := bigSep_with_persistent (S := (Finset.univ : Finset (Dev nD)))
    (R := iprop((bigSep (B ∪ D) fun g => cellInv ER (Rd A) (K g) g) ∗ bigSep B fun g => reached (ER (F := F)) g 0)) (fun c _ => TkS_intro A hB K c)
  rw [fam_sep, fam_sep, fam_sep] at hw
  rw [hs]
  iintro ⟨⟨Hv, Hc⟩, Hu⟩
  imod hf $$ [Hv Hu] with ⟨%K, -, #HI, #HR, Ha, Ho, Ht⟩
  · isplitl [Hv] <;> iassumption
  imodintro
  iapply (hw K)
  isplitr
  · isplitr; · iexact HI
    iexact HR
  isplitl [Hc]; · iexact Hc
  isplitl [Ha]; · iexact Ha
  isplitl [Ho]; · iexact Ho
  iexact Ht

/-- The protocol's share of a device at launch. -/
def Tk (A : Args F) (c : Dev nD) : sProp 𝕄 := TkS A (barCells ∪ dmaCells) c
theorem bar_mem (d : Dev nD) : bcell d ∈ barCells := Finset.mem_image_of_mem bcell (Finset.mem_univ d)

/-- The launch gives every device its share. -/
theorem deal (A : Args F) : iprop((bigSep Finset.univ fun c : Dev nD => iprop(semVal (bcell c) 0 ∗ Pipeline.launchCred O₀ c))
      ∗ BI.own (ER (F := F) (launchOf barCells dmaCells toks)))
    ⊢ |={Set.univ}=> bigSep Finset.univ fun c : Dev nD => Tk A c :=
  deal_over A cells_disj bar_mem bar_cells dma_cells toks_deal

end Cert.TpMlp

end
-- ==== Proof.Table.lean ====
/-
  The table of neighbours and chunks the host computes.
-/
module

public import proofs.«01_k».proof.Proof.Ring
public import proofs.«01_k».proof.Proof.Gen.KernelIdeal.Regions
public import Idealize.ShloMosaic.Lib.StableHlo.ReadAt

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

open StableHlo

/-- An operation indexed by one word: what it leaves. -/
theorem indexed_one {a b y : Ref sig .tc} (T : BufTy) (f : a.ty.Contents (Elt F) → (Fin 1 → T.Contents (Elt F)) → y.ty.Contents (Elt F)) (hT ha hix hy)
    (V : Valuation τ sig (Elt F)) :
    (unaryIndexed (τ := τ) a ![b] T y f hT ha hix hy).result V (no_index (Proc.devRef .tc y))
      = f (V (Proc.devRef .tc a)) (fun _ => cast (congrArg (fun U : BufTy => U.Contents (Elt F)) (hT 0)) (V (Proc.devRef .tc b))) := by
  rw [unaryIndexed_result']
  congr 1; funext k; fin_cases k; rfl

/-- The word `n`. -/
def wd (n : ℕ) : BitVec 32 := BitVec.ofNat 32 n

/-- The table of the ring's devices, twice over, and the table of their places. -/
def litv : IVec S64 32 := fun i => lit0 (S64.rowMajor i)
def posv : IVec S32 32 := fun i => lit1 (S32.rowMajor i)

/-- The word at index `w` of either table, an index below zero counted from the end. -/
def look1 (w : IVec S_ 32) : IVec S_ 32 :=
  shapeCast S_ (Host.dynamicSlice S1 posv (fun _ => (select (cmpi .slt w (constantI S_ 32 0#32)) (addi w (constantI S_ 32 32#32)) w (Shape.Idx.first h_S_)).toInt) sliceFits_S32_S1) shapeCasts_S1_S_
def look0 (w : IVec S_ 32) : IVec S_ 32 :=
  shapeCast S_ (Host.dynamicSlice S1 litv (fun _ => (select (cmpi .slt w (constantI S_ 32 0#32)) (addi w (constantI S_ 32 64#32)) w (Shape.Idx.first h_S_)).toInt) sliceFits_S64_S1) shapeCasts_S1_S_

/-- The remainder by 64 as the host takes it. -/
def remS (x d : IVec S_ 32) : IVec S_ 32 :=
  let e := select (cmpi .eq d (constantI S_ 32 0#32)) (constantI S_ 32 1#32) d
  select (andi (cmpi .ne (cmpi .slt (Host.remsi x e) (constantI S_ 32 0#32)) (cmpi .slt e (constantI S_ 32 0#32))) (cmpi .ne (Host.remsi x e) (constantI S_ 32 0#32)))
    (addi (Host.remsi x e) e) (Host.remsi x e)

theorem look1_at : ∀ (c : Dev nD) (i : S_.Idx), look1 (Host.remui (Host.divui (constantI S_ 32 c.word) (constantI S_ 32 1#32)) (constantI S_ 32 32#32)) i = wd (pos c.val) := by
  decide +kernel
theorem look0_at : ∀ (k : Fin 64) (i : S_.Idx), look0 (fun _ => wd k.val) i = W (dev k.val) := by decide +kernel
theorem remS_at : ∀ (k : Fin 128) (i : S_.Idx), remS (fun _ => wd k.val) (fun _ => wd 64) i = wd (k.val % 64) := by decide +kernel

/-- Words counted on from the ring place of device `c`, as the host reckons them. -/
theorem sub_1 : ∀ (c : Dev nD) (i : S_.Idx), addi (subi (fun _ => wd (pos c.val)) (constantI S_ 32 1#32)) (constantI S_ 32 64#32) i = wd (pos c.val + 63) := by decide +kernel
theorem add_1 : ∀ (c : Dev nD) (i : S_.Idx), addi (addi (fun _ => wd (pos c.val)) (constantI S_ 32 1#32)) (constantI S_ 32 64#32) i = wd (pos c.val + 65) := by decide +kernel
theorem add_16 : ∀ (c : Dev nD) (i : S_.Idx), addi (addi (fun _ => wd (pos c.val)) (constantI S_ 32 16#32)) (constantI S_ 32 64#32) i = wd (pos c.val + 80) := by decide +kernel
theorem sub_15 : ∀ (c : Dev nD) (i : S_.Idx), addi (subi (fun _ => wd (pos c.val)) (constantI S_ 32 15#32)) (constantI S_ 32 64#32) i = wd (pos c.val + 49) := by decide +kernel
theorem look_c0 : ∀ (c : Dev nD) (i : S_.Idx), look0 (fun _ => wd ((pos c.val + 63) % 64)) i = W (nx c false) := by decide +kernel
theorem look_c1 : ∀ (c : Dev nD) (i : S_.Idx), look0 (fun _ => wd ((pos c.val + 65) % 64)) i = W (nx c true) := by decide +kernel
theorem look_c2 : ∀ (c : Dev nD) (i : S_.Idx), look0 (fun _ => wd ((pos c.val + 80) % 64)) i = W (rsc c true 0) := by decide +kernel
theorem look_c3 : ∀ (c : Dev nD) (i : S_.Idx), look0 (fun _ => wd ((pos c.val + 49) % 64)) i = W (rsc c false 0) := by decide +kernel

/-- The table's first four entries. -/
def four (a b d e : IVec S_ 32) : IVec S4 32 :=
  concatenate S4 0 [⟨S1, broadcastInDim S1 ![] bcast_S_S1 a⟩, ⟨S1, broadcastInDim S1 ![] bcast_S_S1 b⟩, ⟨S1, broadcastInDim S1 ![] bcast_S_S1 d⟩, ⟨S1, broadcastInDim S1 ![] bcast_S_S1 e⟩] concatenates_S1_S1_S1_S1_S4_d0
theorem four_at : ∀ (c : Dev nD) (i : S4.Idx), four (fun _ => W (nx c false)) (fun _ => W (nx c true)) (fun _ => W (rsc c true 0)) (fun _ => W (rsc c false 0)) i = W (tabD c (i 0).val) := by decide +kernel
theorem whole_at : ∀ (c : Dev nD) (i : S64.Idx), concatenate S64 0 [⟨S4, (fun i => W (tabD c (i 0).val) : IVec S4 32)⟩, ⟨S16, (fun i => W (tabD c (4 + (i 0).val)) : IVec S16 32)⟩, ⟨S15, (fun i => W (tabD c (20 + (i 0).val)) : IVec S15 32)⟩, ⟨S15, (fun i => W (tabD c (35 + (i 0).val)) : IVec S15 32)⟩, ⟨S14, (fun i => W (tabD c (50 + (i 0).val)) : IVec S14 32)⟩] concatenates_S4_S16_S15_S15_S14_S64_d0 i = W (tabD c (i 0).val) := by decide +kernel

/-- The remainder by 64 of 16 words, and the ring's devices at 16 indices. -/
def rem16 (x : IVec S16 32) (d : IVec S_ 32) : IVec S16 32 :=
  let e := select (cmpi .eq d (constantI S_ 32 0#32)) (constantI S_ 32 1#32) d
  let z : IVec S16 32 := broadcastInDim S16 ![] bcast_S_S16 (constantI S_ 32 0#32)
  let r := Host.remsi x (broadcastInDim S16 ![] bcast_S_S16 e)
  select (andi (cmpi .ne (cmpi .slt r z) (broadcastInDim S16 ![] bcast_S_S16 (cmpi .slt e (constantI S_ 32 0#32)))) (cmpi .ne r z))
    (addi r (broadcastInDim S16 ![] bcast_S_S16 e)) r
def at16 (w : IVec S16 32) : IVec S16 32 :=
  Host.gather gather_S64_S16x1_S16_n_0_n_n_0_1_1 litv (broadcastInDim S16x1 ![0] bcast_S16_S16x1_0
    (select (cmpi .slt w (broadcastInDim S16 ![] bcast_S_S16 (constantI S_ 32 0#32))) (addi w (broadcastInDim S16 ![] bcast_S_S16 (constantI S_ 32 64#32))) w))

/-- The remainder by 64 of 15 words, and the ring's devices at 15 indices. -/
def rem15 (x : IVec S15 32) (d : IVec S_ 32) : IVec S15 32 :=
  let e := select (cmpi .eq d (constantI S_ 32 0#32)) (constantI S_ 32 1#32) d
  let z : IVec S15 32 := broadcastInDim S15 ![] bcast_S_S15 (constantI S_ 32 0#32)
  let r := Host.remsi x (broadcastInDim S15 ![] bcast_S_S15 e)
  select (andi (cmpi .ne (cmpi .slt r z) (broadcastInDim S15 ![] bcast_S_S15 (cmpi .slt e (constantI S_ 32 0#32)))) (cmpi .ne r z))
    (addi r (broadcastInDim S15 ![] bcast_S_S15 e)) r
def at15 (w : IVec S15 32) : IVec S15 32 :=
  Host.gather gather_S64_S15x1_S15_n_0_n_n_0_1_1 litv (broadcastInDim S15x1 ![0] bcast_S15_S15x1_0
    (select (cmpi .slt w (broadcastInDim S15 ![] bcast_S_S15 (constantI S_ 32 0#32))) (addi w (broadcastInDim S15 ![] bcast_S_S15 (constantI S_ 32 64#32))) w))

/-- The remainder by 64 of 14 words, and the ring's devices at 14 indices. -/
def rem14 (x : IVec S14 32) (d : IVec S_ 32) : IVec S14 32 :=
  let e := select (cmpi .eq d (constantI S_ 32 0#32)) (constantI S_ 32 1#32) d
  let z : IVec S14 32 := broadcastInDim S14 ![] bcast_S_S14 (constantI S_ 32 0#32)
  let r := Host.remsi x (broadcastInDim S14 ![] bcast_S_S14 e)
  select (andi (cmpi .ne (cmpi .slt r z) (broadcastInDim S14 ![] bcast_S_S14 (cmpi .slt e (constantI S_ 32 0#32)))) (cmpi .ne r z))
    (addi r (broadcastInDim S14 ![] bcast_S_S14 e)) r
def at14 (w : IVec S14 32) : IVec S14 32 :=
  Host.gather gather_S64_S14x1_S14_n_0_n_n_0_1_1 litv (broadcastInDim S14x1 ![0] bcast_S14_S14x1_0
    (select (cmpi .slt w (broadcastInDim S14 ![] bcast_S_S14 (constantI S_ 32 0#32))) (addi w (broadcastInDim S14 ![] bcast_S_S14 (constantI S_ 32 64#32))) w))

theorem prep_a : ∀ (c : Dev nD) (i : S16.Idx), addi (subi (broadcastInDim S16 ![] bcast_S_S16 (subi (fun _ => wd (pos c.val)) (constantI S_ 32 1#32))) (iotaInDim S16 32 0)) (broadcastInDim S16 ![] bcast_S_S16 (constantI S_ 32 64#32)) i = wd (pos c.val + 63 - (i 0).val) := by decide +kernel
theorem rem_a : ∀ (c : Dev nD) (i : S16.Idx), rem16 (fun i => wd (pos c.val + 63 - (i 0).val)) (fun _ => wd 64) i = wd ((pos c.val + 63 - (i 0).val) % 64) := by decide +kernel
theorem at_a : ∀ (c : Dev nD) (i : S16.Idx), at16 (fun i => wd ((pos c.val + 63 - (i 0).val) % 64)) i = W (tabD c (4 + (i 0).val)) := by decide +kernel

theorem prep_b : ∀ (c : Dev nD) (i : S15.Idx), addi (addi (broadcastInDim S15 ![] bcast_S_S15 (addi (fun _ => wd (pos c.val)) (constantI S_ 32 1#32))) (iotaInDim S15 32 0)) (broadcastInDim S15 ![] bcast_S_S15 (constantI S_ 32 64#32)) i = wd (pos c.val + 65 + (i 0).val) := by decide +kernel
theorem rem_b : ∀ (c : Dev nD) (i : S15.Idx), rem15 (fun i => wd (pos c.val + 65 + (i 0).val)) (fun _ => wd 64) i = wd ((pos c.val + 65 + (i 0).val) % 64) := by decide +kernel
theorem at_b : ∀ (c : Dev nD) (i : S15.Idx), at15 (fun i => wd ((pos c.val + 65 + (i 0).val) % 64)) i = W (tabD c (20 + (i 0).val)) := by decide +kernel

theorem prep_d : ∀ (c : Dev nD) (i : S15.Idx), addi (subi (broadcastInDim S15 ![] bcast_S_S15 (subi (addi (fun _ => wd (pos c.val)) (constantI S_ 32 16#32)) (constantI S_ 32 1#32))) (iotaInDim S15 32 0)) (broadcastInDim S15 ![] bcast_S_S15 (constantI S_ 32 64#32)) i = wd (pos c.val + 79 - (i 0).val) := by decide +kernel
theorem rem_d : ∀ (c : Dev nD) (i : S15.Idx), rem15 (fun i => wd (pos c.val + 79 - (i 0).val)) (fun _ => wd 64) i = wd ((pos c.val + 79 - (i 0).val) % 64) := by decide +kernel
theorem at_d : ∀ (c : Dev nD) (i : S15.Idx), at15 (fun i => wd ((pos c.val + 79 - (i 0).val) % 64)) i = W (tabD c (35 + (i 0).val)) := by decide +kernel

theorem prep_e : ∀ (c : Dev nD) (i : S14.Idx), addi (addi (broadcastInDim S14 ![] bcast_S_S14 (addi (subi (fun _ => wd (pos c.val)) (constantI S_ 32 15#32)) (constantI S_ 32 1#32))) (iotaInDim S14 32 0)) (broadcastInDim S14 ![] bcast_S_S14 (constantI S_ 32 64#32)) i = wd (pos c.val + 50 + (i 0).val) := by decide +kernel
theorem rem_e : ∀ (c : Dev nD) (i : S14.Idx), rem14 (fun i => wd (pos c.val + 50 + (i 0).val)) (fun _ => wd 64) i = wd ((pos c.val + 50 + (i 0).val) % 64) := by decide +kernel
theorem at_e : ∀ (c : Dev nD) (i : S14.Idx), at14 (fun i => wd ((pos c.val + 50 + (i 0).val) % 64)) i = W (tabD c (50 + (i 0).val)) := by decide +kernel

section
variable (m : (ℓ : Loc nD τ sig) → Buf (Elt F) ℓ) (c : Dev nD)

theorem v1_v9 : V1 m c main_v9 = (fun i => wd (pos c.val) : IVec S_ 32) := by
  unfold V1
  after_reads_simp [indexed_one]
  funext i; exact look1_at c i

theorem v1_c : V1 m c main_c = litv := by
  unfold V1
  after_reads_simp [indexed_one]
  rfl

theorem v1_v11 : V1 m c main_v11 = (fun i => wd (pos c.val + 63) : IVec S_ 32) := by
  unfold V1
  after_reads_simp [indexed_one]
  have h := look1_at c; funext i; exact (congrFun (congrArg (fun v => addi (subi v (constantI S_ 32 1#32)) (constantI S_ 32 64#32)) (funext h)) i).trans (sub_1 c i)

theorem v1_c_7 : V1 m c main_c_7 = (fun _ => wd 64 : IVec S_ 32) := by
  unfold V1
  after_reads_simp [indexed_one]
  rfl

theorem v2_v12 : V2 m c main_v12 = (fun i => wd ((pos c.val + 63) % 64) : IVec S_ 32) := by
  have h0 := v1_v11 m c
  have h1 := v1_c_7 m c
  unfold V2
  revert h0 h1
  generalize V1 m c = V
  intro h0 h1
  after_reads_simp [indexed_one]
  simp -implicitDefEqProofs only [StableHlo.TRef.toBuf, StableHlo.TRef.ofBuf, cast_cast, cast_eq]
  simp only [h0, h1]
  have := pos_lt c; funext i; exact remS_at ⟨pos c.val + 63, by omega⟩ i

theorem v2_v9 : V2 m c main_v9 = (fun i => wd (pos c.val) : IVec S_ 32) := (V2_of m c main_v9 (by decide)).trans (v1_v9 m c)

theorem v2_c : V2 m c main_c = litv := (V2_of m c main_c (by decide)).trans (v1_c m c)

theorem v3_v17 : V3 m c main_v17 = (fun i => W (nx c false) : IVec S_ 32) := by
  have h0 := v2_v12 m c
  have h1 := v2_c m c
  unfold V3
  revert h0 h1
  generalize V2 m c = V
  intro h0 h1
  after_reads_simp [indexed_one]
  simp only [h0, h1]
  funext i; exact look_c0 c i

theorem v3_v19 : V3 m c main_v19 = (fun i => wd (pos c.val + 65) : IVec S_ 32) := by
  have h0 := v2_v9 m c
  unfold V3
  revert h0
  generalize V2 m c = V
  intro h0
  after_reads_simp [indexed_one]
  simp only [h0]
  funext i; exact add_1 c i

theorem v3_c_12 : V3 m c main_c_12 = (fun _ => wd 64 : IVec S_ 32) := by
  unfold V3
  after_reads_simp [indexed_one]
  rfl

theorem v3_v9 : V3 m c main_v9 = (fun i => wd (pos c.val) : IVec S_ 32) := (V3_of m c main_v9 (by decide)).trans (v2_v9 m c)

theorem v3_c : V3 m c main_c = litv := (V3_of m c main_c (by decide)).trans (v2_c m c)

theorem v4_v20 : V4 m c main_v20 = (fun i => wd ((pos c.val + 65) % 64) : IVec S_ 32) := by
  have h0 := v3_v19 m c
  have h1 := v3_c_12 m c
  unfold V4
  revert h0 h1
  generalize V3 m c = V
  intro h0 h1
  after_reads_simp [indexed_one]
  simp -implicitDefEqProofs only [StableHlo.TRef.toBuf, StableHlo.TRef.ofBuf, cast_cast, cast_eq]
  simp only [h0, h1]
  have := pos_lt c; funext i; exact remS_at ⟨pos c.val + 65, by omega⟩ i

theorem v4_v9 : V4 m c main_v9 = (fun i => wd (pos c.val) : IVec S_ 32) := (V4_of m c main_v9 (by decide)).trans (v3_v9 m c)

theorem v4_c : V4 m c main_c = litv := (V4_of m c main_c (by decide)).trans (v3_c m c)

theorem v4_v17 : V4 m c main_v17 = (fun i => W (nx c false) : IVec S_ 32) := (V4_of m c main_v17 (by decide)).trans (v3_v17 m c)

theorem v5_v25 : V5 m c main_v25 = (fun i => W (nx c true) : IVec S_ 32) := by
  have h0 := v4_v20 m c
  have h1 := v4_c m c
  unfold V5
  revert h0 h1
  generalize V4 m c = V
  intro h0 h1
  after_reads_simp [indexed_one]
  simp only [h0, h1]
  funext i; exact look_c1 c i

theorem v5_v27 : V5 m c main_v27 = (fun i => wd (pos c.val + 80) : IVec S_ 32) := by
  have h0 := v4_v9 m c
  unfold V5
  revert h0
  generalize V4 m c = V
  intro h0
  after_reads_simp [indexed_one]
  simp only [h0]
  funext i; exact add_16 c i

theorem v5_c_17 : V5 m c main_c_17 = (fun _ => wd 64 : IVec S_ 32) := by
  unfold V5
  after_reads_simp [indexed_one]
  rfl

theorem v5_v9 : V5 m c main_v9 = (fun i => wd (pos c.val) : IVec S_ 32) := (V5_of m c main_v9 (by decide)).trans (v4_v9 m c)

theorem v5_c : V5 m c main_c = litv := (V5_of m c main_c (by decide)).trans (v4_c m c)

theorem v5_v17 : V5 m c main_v17 = (fun i => W (nx c false) : IVec S_ 32) := (V5_of m c main_v17 (by decide)).trans (v4_v17 m c)

theorem v6_v28 : V6 m c main_v28 = (fun i => wd ((pos c.val + 80) % 64) : IVec S_ 32) := by
  have h0 := v5_v27 m c
  have h1 := v5_c_17 m c
  unfold V6
  revert h0 h1
  generalize V5 m c = V
  intro h0 h1
  after_reads_simp [indexed_one]
  simp -implicitDefEqProofs only [StableHlo.TRef.toBuf, StableHlo.TRef.ofBuf, cast_cast, cast_eq]
  simp only [h0, h1]
  have := pos_lt c; funext i; exact remS_at ⟨pos c.val + 80, by omega⟩ i

theorem v6_v9 : V6 m c main_v9 = (fun i => wd (pos c.val) : IVec S_ 32) := (V6_of m c main_v9 (by decide)).trans (v5_v9 m c)

theorem v6_c : V6 m c main_c = litv := (V6_of m c main_c (by decide)).trans (v5_c m c)

theorem v6_v17 : V6 m c main_v17 = (fun i => W (nx c false) : IVec S_ 32) := (V6_of m c main_v17 (by decide)).trans (v5_v17 m c)

theorem v6_v25 : V6 m c main_v25 = (fun i => W (nx c true) : IVec S_ 32) := (V6_of m c main_v25 (by decide)).trans (v5_v25 m c)

theorem v7_v33 : V7 m c main_v33 = (fun i => W (rsc c true 0) : IVec S_ 32) := by
  have h0 := v6_v28 m c
  have h1 := v6_c m c
  unfold V7
  revert h0 h1
  generalize V6 m c = V
  intro h0 h1
  after_reads_simp [indexed_one]
  simp only [h0, h1]
  funext i; exact look_c2 c i

theorem v7_v35 : V7 m c main_v35 = (fun i => wd (pos c.val + 49) : IVec S_ 32) := by
  have h0 := v6_v9 m c
  unfold V7
  revert h0
  generalize V6 m c = V
  intro h0
  after_reads_simp [indexed_one]
  simp only [h0]
  funext i; exact sub_15 c i

theorem v7_c_22 : V7 m c main_c_22 = (fun _ => wd 64 : IVec S_ 32) := by
  unfold V7
  after_reads_simp [indexed_one]
  rfl

theorem v7_v9 : V7 m c main_v9 = (fun i => wd (pos c.val) : IVec S_ 32) := (V7_of m c main_v9 (by decide)).trans (v6_v9 m c)

theorem v7_c : V7 m c main_c = litv := (V7_of m c main_c (by decide)).trans (v6_c m c)

theorem v7_v17 : V7 m c main_v17 = (fun i => W (nx c false) : IVec S_ 32) := (V7_of m c main_v17 (by decide)).trans (v6_v17 m c)

theorem v7_v25 : V7 m c main_v25 = (fun i => W (nx c true) : IVec S_ 32) := (V7_of m c main_v25 (by decide)).trans (v6_v25 m c)

theorem v8_v36 : V8 m c main_v36 = (fun i => wd ((pos c.val + 49) % 64) : IVec S_ 32) := by
  have h0 := v7_v35 m c
  have h1 := v7_c_22 m c
  unfold V8
  revert h0 h1
  generalize V7 m c = V
  intro h0 h1
  after_reads_simp [indexed_one]
  simp -implicitDefEqProofs only [StableHlo.TRef.toBuf, StableHlo.TRef.ofBuf, cast_cast, cast_eq]
  simp only [h0, h1]
  have := pos_lt c; funext i; exact remS_at ⟨pos c.val + 49, by omega⟩ i

theorem v8_v9 : V8 m c main_v9 = (fun i => wd (pos c.val) : IVec S_ 32) := (V8_of m c main_v9 (by decide)).trans (v7_v9 m c)

theorem v8_c : V8 m c main_c = litv := (V8_of m c main_c (by decide)).trans (v7_c m c)

theorem v8_v17 : V8 m c main_v17 = (fun i => W (nx c false) : IVec S_ 32) := (V8_of m c main_v17 (by decide)).trans (v7_v17 m c)

theorem v8_v25 : V8 m c main_v25 = (fun i => W (nx c true) : IVec S_ 32) := (V8_of m c main_v25 (by decide)).trans (v7_v25 m c)

theorem v8_v33 : V8 m c main_v33 = (fun i => W (rsc c true 0) : IVec S_ 32) := (V8_of m c main_v33 (by decide)).trans (v7_v33 m c)

theorem v9_v41 : V9 m c main_v41 = (fun i => W (rsc c false 0) : IVec S_ 32) := by
  have h0 := v8_v36 m c
  have h1 := v8_c m c
  unfold V9
  revert h0 h1
  generalize V8 m c = V
  intro h0 h1
  after_reads_simp [indexed_one]
  simp only [h0, h1]
  funext i; exact look_c3 c i

theorem v9_v46 : V9 m c main_v46 = (fun i => W (tabD c (i 0).val) : IVec S4 32) := by
  have h0 := v8_v36 m c
  have h1 := v8_c m c
  have h2 := v8_v17 m c
  have h3 := v8_v25 m c
  have h4 := v8_v33 m c
  unfold V9
  revert h0 h1 h2 h3 h4
  generalize V8 m c = V
  intro h0 h1 h2 h3 h4
  after_reads_simp [indexed_one]
  have e0 : (upto hostOps0_8 V 11 (Proc.devRef .tc main_v42) : IVec S1 32) = broadcastInDim S1 ![] bcast_S_S1 (fun _ => W (nx c false) : IVec S_ 32) := by
    after_reads_simp [indexed_one]
    simp only [h0, h1, h2, h3, h4]
    try rfl
  have e1 : (upto hostOps0_8 V 11 (Proc.devRef .tc main_v43) : IVec S1 32) = broadcastInDim S1 ![] bcast_S_S1 (fun _ => W (nx c true) : IVec S_ 32) := by
    after_reads_simp [indexed_one]
    simp only [h0, h1, h2, h3, h4]
    try rfl
  have e2 : (upto hostOps0_8 V 11 (Proc.devRef .tc main_v44) : IVec S1 32) = broadcastInDim S1 ![] bcast_S_S1 (fun _ => W (rsc c true 0) : IVec S_ 32) := by
    after_reads_simp [indexed_one]
    simp only [h0, h1, h2, h3, h4]
    try rfl
  have e3 : (upto hostOps0_8 V 11 (Proc.devRef .tc main_v45) : IVec S1 32) = broadcastInDim S1 ![] bcast_S_S1 (look0 (fun _ => wd ((pos c.val + 49) % 64))) := by
    after_reads_simp [indexed_one]
    simp only [h0, h1, h2, h3, h4]
    try rfl
  show concatenate S4 0 [⟨S1, (upto hostOps0_8 V 11 (Proc.devRef .tc main_v42) : IVec S1 32)⟩, ⟨S1, (upto hostOps0_8 V 11 (Proc.devRef .tc main_v43) : IVec S1 32)⟩, ⟨S1, (upto hostOps0_8 V 11 (Proc.devRef .tc main_v44) : IVec S1 32)⟩, ⟨S1, (upto hostOps0_8 V 11 (Proc.devRef .tc main_v45) : IVec S1 32)⟩] concatenates_S1_S1_S1_S1_S4_d0 = _
  rw [e0, e1, e2, e3]
  rw [show look0 (fun _ => wd ((pos c.val + 49) % 64)) = (fun _ => W (rsc c false 0) : IVec S_ 32) from funext (look_c3 c)]
  funext i; exact four_at c i

theorem v9_v52 : V9 m c main_v52 = (fun i => wd (pos c.val + 63 - (i 0).val) : IVec S16 32) := by
  have h0 := v8_v9 m c
  unfold V9
  revert h0
  generalize V8 m c = V
  intro h0
  after_reads_simp [indexed_one]
  simp only [h0]
  funext i; exact prep_a c i

theorem v9_c_27 : V9 m c main_c_27 = (fun _ => wd 64 : IVec S_ 32) := by
  unfold V9
  after_reads_simp [indexed_one]
  rfl

theorem v9_v9 : V9 m c main_v9 = (fun i => wd (pos c.val) : IVec S_ 32) := (V9_of m c main_v9 (by decide)).trans (v8_v9 m c)

theorem v9_c : V9 m c main_c = litv := (V9_of m c main_c (by decide)).trans (v8_c m c)

theorem v9_v17 : V9 m c main_v17 = (fun i => W (nx c false) : IVec S_ 32) := (V9_of m c main_v17 (by decide)).trans (v8_v17 m c)

theorem v9_v25 : V9 m c main_v25 = (fun i => W (nx c true) : IVec S_ 32) := (V9_of m c main_v25 (by decide)).trans (v8_v25 m c)

theorem v9_v33 : V9 m c main_v33 = (fun i => W (rsc c true 0) : IVec S_ 32) := (V9_of m c main_v33 (by decide)).trans (v8_v33 m c)

theorem v10_v53 : V10 m c main_v53 = (fun i => wd ((pos c.val + 63 - (i 0).val) % 64) : IVec S16 32) := by
  have h0 := v9_v52 m c
  have h1 := v9_c_27 m c
  unfold V10
  revert h0 h1
  generalize V9 m c = V
  intro h0 h1
  after_reads_simp [indexed_one]
  simp -implicitDefEqProofs only [StableHlo.TRef.toBuf, StableHlo.TRef.ofBuf, cast_cast, cast_eq]
  simp only [h0, h1]
  funext i; exact rem_a c i

theorem v10_v9 : V10 m c main_v9 = (fun i => wd (pos c.val) : IVec S_ 32) := (V10_of m c main_v9 (by decide)).trans (v9_v9 m c)

theorem v10_c : V10 m c main_c = litv := (V10_of m c main_c (by decide)).trans (v9_c m c)

theorem v10_v46 : V10 m c main_v46 = (fun i => W (tabD c (i 0).val) : IVec S4 32) := (V10_of m c main_v46 (by decide)).trans (v9_v46 m c)

theorem v11_v60 : V11 m c main_v60 = (fun i => W (tabD c (4 + (i 0).val)) : IVec S16 32) := by
  have h0 := v10_v53 m c
  have h1 := v10_c m c
  unfold V11
  revert h0 h1
  generalize V10 m c = V
  intro h0 h1
  after_reads_simp [indexed_one]
  simp only [h0, h1]
  funext i; exact at_a c i

theorem v11_v66 : V11 m c main_v66 = (fun i => wd (pos c.val + 65 + (i 0).val) : IVec S15 32) := by
  have h0 := v10_v9 m c
  unfold V11
  revert h0
  generalize V10 m c = V
  intro h0
  after_reads_simp [indexed_one]
  simp only [h0]
  funext i; exact prep_b c i

theorem v11_c_32 : V11 m c main_c_32 = (fun _ => wd 64 : IVec S_ 32) := by
  unfold V11
  after_reads_simp [indexed_one]
  rfl

theorem v11_v9 : V11 m c main_v9 = (fun i => wd (pos c.val) : IVec S_ 32) := (V11_of m c main_v9 (by decide)).trans (v10_v9 m c)

theorem v11_c : V11 m c main_c = litv := (V11_of m c main_c (by decide)).trans (v10_c m c)

theorem v11_v46 : V11 m c main_v46 = (fun i => W (tabD c (i 0).val) : IVec S4 32) := (V11_of m c main_v46 (by decide)).trans (v10_v46 m c)

theorem v12_v67 : V12 m c main_v67 = (fun i => wd ((pos c.val + 65 + (i 0).val) % 64) : IVec S15 32) := by
  have h0 := v11_v66 m c
  have h1 := v11_c_32 m c
  unfold V12
  revert h0 h1
  generalize V11 m c = V
  intro h0 h1
  after_reads_simp [indexed_one]
  simp -implicitDefEqProofs only [StableHlo.TRef.toBuf, StableHlo.TRef.ofBuf, cast_cast, cast_eq]
  simp only [h0, h1]
  funext i; exact rem_b c i

theorem v12_v9 : V12 m c main_v9 = (fun i => wd (pos c.val) : IVec S_ 32) := (V12_of m c main_v9 (by decide)).trans (v11_v9 m c)

theorem v12_c : V12 m c main_c = litv := (V12_of m c main_c (by decide)).trans (v11_c m c)

theorem v12_v46 : V12 m c main_v46 = (fun i => W (tabD c (i 0).val) : IVec S4 32) := (V12_of m c main_v46 (by decide)).trans (v11_v46 m c)

theorem v12_v60 : V12 m c main_v60 = (fun i => W (tabD c (4 + (i 0).val)) : IVec S16 32) := (V12_of m c main_v60 (by decide)).trans (v11_v60 m c)

theorem v13_v74 : V13 m c main_v74 = (fun i => W (tabD c (20 + (i 0).val)) : IVec S15 32) := by
  have h0 := v12_v67 m c
  have h1 := v12_c m c
  unfold V13
  revert h0 h1
  generalize V12 m c = V
  intro h0 h1
  after_reads_simp [indexed_one]
  simp only [h0, h1]
  funext i; exact at_b c i

theorem v13_v81 : V13 m c main_v81 = (fun i => wd (pos c.val + 79 - (i 0).val) : IVec S15 32) := by
  have h0 := v12_v9 m c
  unfold V13
  revert h0
  generalize V12 m c = V
  intro h0
  after_reads_simp [indexed_one]
  simp only [h0]
  funext i; exact prep_d c i

theorem v13_c_38 : V13 m c main_c_38 = (fun _ => wd 64 : IVec S_ 32) := by
  unfold V13
  after_reads_simp [indexed_one]
  rfl

theorem v13_v9 : V13 m c main_v9 = (fun i => wd (pos c.val) : IVec S_ 32) := (V13_of m c main_v9 (by decide)).trans (v12_v9 m c)

theorem v13_c : V13 m c main_c = litv := (V13_of m c main_c (by decide)).trans (v12_c m c)

theorem v13_v46 : V13 m c main_v46 = (fun i => W (tabD c (i 0).val) : IVec S4 32) := (V13_of m c main_v46 (by decide)).trans (v12_v46 m c)

theorem v13_v60 : V13 m c main_v60 = (fun i => W (tabD c (4 + (i 0).val)) : IVec S16 32) := (V13_of m c main_v60 (by decide)).trans (v12_v60 m c)

theorem v14_v82 : V14 m c main_v82 = (fun i => wd ((pos c.val + 79 - (i 0).val) % 64) : IVec S15 32) := by
  have h0 := v13_v81 m c
  have h1 := v13_c_38 m c
  unfold V14
  revert h0 h1
  generalize V13 m c = V
  intro h0 h1
  after_reads_simp [indexed_one]
  simp -implicitDefEqProofs only [StableHlo.TRef.toBuf, StableHlo.TRef.ofBuf, cast_cast, cast_eq]
  simp only [h0, h1]
  funext i; exact rem_d c i

theorem v14_v9 : V14 m c main_v9 = (fun i => wd (pos c.val) : IVec S_ 32) := (V14_of m c main_v9 (by decide)).trans (v13_v9 m c)

theorem v14_c : V14 m c main_c = litv := (V14_of m c main_c (by decide)).trans (v13_c m c)

theorem v14_v46 : V14 m c main_v46 = (fun i => W (tabD c (i 0).val) : IVec S4 32) := (V14_of m c main_v46 (by decide)).trans (v13_v46 m c)

theorem v14_v60 : V14 m c main_v60 = (fun i => W (tabD c (4 + (i 0).val)) : IVec S16 32) := (V14_of m c main_v60 (by decide)).trans (v13_v60 m c)

theorem v14_v74 : V14 m c main_v74 = (fun i => W (tabD c (20 + (i 0).val)) : IVec S15 32) := (V14_of m c main_v74 (by decide)).trans (v13_v74 m c)

theorem v15_v89 : V15 m c main_v89 = (fun i => W (tabD c (35 + (i 0).val)) : IVec S15 32) := by
  have h0 := v14_v82 m c
  have h1 := v14_c m c
  unfold V15
  revert h0 h1
  generalize V14 m c = V
  intro h0 h1
  after_reads_simp [indexed_one]
  simp only [h0, h1]
  funext i; exact at_d c i

theorem v15_v96 : V15 m c main_v96 = (fun i => wd (pos c.val + 50 + (i 0).val) : IVec S14 32) := by
  have h0 := v14_v9 m c
  unfold V15
  revert h0
  generalize V14 m c = V
  intro h0
  after_reads_simp [indexed_one]
  simp only [h0]
  funext i; exact prep_e c i

theorem v15_c_44 : V15 m c main_c_44 = (fun _ => wd 64 : IVec S_ 32) := by
  unfold V15
  after_reads_simp [indexed_one]
  rfl

theorem v15_v9 : V15 m c main_v9 = (fun i => wd (pos c.val) : IVec S_ 32) := (V15_of m c main_v9 (by decide)).trans (v14_v9 m c)

theorem v15_c : V15 m c main_c = litv := (V15_of m c main_c (by decide)).trans (v14_c m c)

theorem v15_v46 : V15 m c main_v46 = (fun i => W (tabD c (i 0).val) : IVec S4 32) := (V15_of m c main_v46 (by decide)).trans (v14_v46 m c)

theorem v15_v60 : V15 m c main_v60 = (fun i => W (tabD c (4 + (i 0).val)) : IVec S16 32) := (V15_of m c main_v60 (by decide)).trans (v14_v60 m c)

theorem v15_v74 : V15 m c main_v74 = (fun i => W (tabD c (20 + (i 0).val)) : IVec S15 32) := (V15_of m c main_v74 (by decide)).trans (v14_v74 m c)

theorem v16_v97 : V16 m c main_v97 = (fun i => wd ((pos c.val + 50 + (i 0).val) % 64) : IVec S14 32) := by
  have h0 := v15_v96 m c
  have h1 := v15_c_44 m c
  unfold V16
  revert h0 h1
  generalize V15 m c = V
  intro h0 h1
  after_reads_simp [indexed_one]
  simp -implicitDefEqProofs only [StableHlo.TRef.toBuf, StableHlo.TRef.ofBuf, cast_cast, cast_eq]
  simp only [h0, h1]
  funext i; exact rem_e c i

theorem v16_v9 : V16 m c main_v9 = (fun i => wd (pos c.val) : IVec S_ 32) := (V16_of m c main_v9 (by decide)).trans (v15_v9 m c)

theorem v16_c : V16 m c main_c = litv := (V16_of m c main_c (by decide)).trans (v15_c m c)

theorem v16_v46 : V16 m c main_v46 = (fun i => W (tabD c (i 0).val) : IVec S4 32) := (V16_of m c main_v46 (by decide)).trans (v15_v46 m c)

theorem v16_v60 : V16 m c main_v60 = (fun i => W (tabD c (4 + (i 0).val)) : IVec S16 32) := (V16_of m c main_v60 (by decide)).trans (v15_v60 m c)

theorem v16_v74 : V16 m c main_v74 = (fun i => W (tabD c (20 + (i 0).val)) : IVec S15 32) := (V16_of m c main_v74 (by decide)).trans (v15_v74 m c)

theorem v16_v89 : V16 m c main_v89 = (fun i => W (tabD c (35 + (i 0).val)) : IVec S15 32) := (V16_of m c main_v89 (by decide)).trans (v15_v89 m c)

theorem v17_v105 : V17 m c main_v105 = (fun i => W (tabD c (i 0).val) : IVec S64 32) := by
  have h0 := v16_v97 m c
  have h1 := v16_c m c
  have h2 := v16_v46 m c
  have h3 := v16_v60 m c
  have h4 := v16_v74 m c
  have h5 := v16_v89 m c
  unfold V17
  revert h0 h1 h2 h3 h4 h5
  generalize V16 m c = V
  intro h0 h1 h2 h3 h4 h5
  after_reads_simp [indexed_one]
  have e0 : (upto hostOps0_16 V 9 (Proc.devRef .tc main_v46) : IVec S4 32) = (fun i => W (tabD c ((i 0).val))) := by
    after_reads_simp [indexed_one]
    simp only [h0, h1, h2, h3, h4, h5]
    try rfl
  have e1 : (upto hostOps0_16 V 9 (Proc.devRef .tc main_v60) : IVec S16 32) = (fun i => W (tabD c (4 + (i 0).val))) := by
    after_reads_simp [indexed_one]
    simp only [h0, h1, h2, h3, h4, h5]
    try rfl
  have e2 : (upto hostOps0_16 V 9 (Proc.devRef .tc main_v74) : IVec S15 32) = (fun i => W (tabD c (20 + (i 0).val))) := by
    after_reads_simp [indexed_one]
    simp only [h0, h1, h2, h3, h4, h5]
    try rfl
  have e3 : (upto hostOps0_16 V 9 (Proc.devRef .tc main_v89) : IVec S15 32) = (fun i => W (tabD c (35 + (i 0).val))) := by
    after_reads_simp [indexed_one]
    simp only [h0, h1, h2, h3, h4, h5]
    try rfl
  have e4 : (upto hostOps0_16 V 9 (Proc.devRef .tc main_v104) : IVec S14 32) = at14 (fun i => wd ((pos c.val + 50 + (i 0).val) % 64)) := by
    after_reads_simp [indexed_one]
    simp only [h0, h1, h2, h3, h4, h5]
    try rfl
  show concatenate S64 0 [⟨S4, (upto hostOps0_16 V 9 (Proc.devRef .tc main_v46) : IVec S4 32)⟩, ⟨S16, (upto hostOps0_16 V 9 (Proc.devRef .tc main_v60) : IVec S16 32)⟩, ⟨S15, (upto hostOps0_16 V 9 (Proc.devRef .tc main_v74) : IVec S15 32)⟩, ⟨S15, (upto hostOps0_16 V 9 (Proc.devRef .tc main_v89) : IVec S15 32)⟩, ⟨S14, (upto hostOps0_16 V 9 (Proc.devRef .tc main_v104) : IVec S14 32)⟩] concatenates_S4_S16_S15_S15_S14_S64_d0 = _
  rw [e0, e1, e2, e3, e4]
  rw [show at14 (fun i => wd ((pos c.val + 50 + (i 0).val) % 64)) = (fun i => W (tabD c (50 + (i 0).val)) : IVec S14 32) from funext (at_e c)]
  funext i; exact whole_at c i

end

end Cert.TpMlp

end
-- ==== Proof.Region.lean ====
/-
  The kernel's call: its arrays, its body's obligation, its record.
-/
module

public import proofs.«01_k».proof.Proof.Whole
public import proofs.«01_k».proof.Proof.Deal
public import proofs.«01_k».proof.Proof.Table
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The kernel's arguments and results in the launch memory -/

/-- A device's blocks of the program's arguments. -/
def args : Args F where
  x c := m ((c : Thread nD τ).loc main_arg0)
  wi l c := match l with
    | 0 => m ((c : Thread nD τ).loc main_arg1) | 1 => m ((c : Thread nD τ).loc main_arg2) | _ => m ((c : Thread nD τ).loc main_arg3)
  wo l c := match l with
    | 0 => m ((c : Thread nD τ).loc main_arg4) | 1 => m ((c : Thread nD τ).loc main_arg5) | _ => m ((c : Thread nD τ).loc main_arg6)

/-- What the kernel leaves in its result buffer. -/
def outs : Outs (F := F) := fun _ r c => if h : r = main_v106 then h ▸ (res (args m) c : Vec F S256x256 .f32) else m ((c : Thread nD τ).loc r)
theorem outs_at (c : Dev nD) : outs m 18 main_v106 c = res (args m) c := dif_pos rfl

theorem v17_arg0 (c : Dev nD) : V17 m c main_arg0 = m ((c : Thread nD τ).loc main_arg0) := (V18_of m (outs m) c main_arg0 (by decide)).symm.trans (V18_main_arg0 m (outs m) c)
theorem v17_arg1 (c : Dev nD) : V17 m c main_arg1 = m ((c : Thread nD τ).loc main_arg1) := (V18_of m (outs m) c main_arg1 (by decide)).symm.trans (V18_main_arg1 m (outs m) c)
theorem v17_arg2 (c : Dev nD) : V17 m c main_arg2 = m ((c : Thread nD τ).loc main_arg2) := (V18_of m (outs m) c main_arg2 (by decide)).symm.trans (V18_main_arg2 m (outs m) c)
theorem v17_arg3 (c : Dev nD) : V17 m c main_arg3 = m ((c : Thread nD τ).loc main_arg3) := (V18_of m (outs m) c main_arg3 (by decide)).symm.trans (V18_main_arg3 m (outs m) c)
theorem v17_arg4 (c : Dev nD) : V17 m c main_arg4 = m ((c : Thread nD τ).loc main_arg4) := (V18_of m (outs m) c main_arg4 (by decide)).symm.trans (V18_main_arg4 m (outs m) c)
theorem v17_arg5 (c : Dev nD) : V17 m c main_arg5 = m ((c : Thread nD τ).loc main_arg5) := (V18_of m (outs m) c main_arg5 (by decide)).symm.trans (V18_main_arg5 m (outs m) c)
theorem v17_arg6 (c : Dev nD) : V17 m c main_arg6 = m ((c : Thread nD τ).loc main_arg6) := (V18_of m (outs m) c main_arg6 (by decide)).symm.trans (V18_main_arg6 m (outs m) c)
theorem v18_out (c : Dev nD) : V18 m (outs m) c main_v106 = res (args m) c := (Function.update_self _ _ _).trans (outs_at m c)

/-- Owed at the kernel's start, and at its end. -/
def owedAt (c : Dev nD) (n : ℕ) : CellTallies nD τ sig ℕ := if n = 0 then O₀ c else 0

theorem owedAt_first (c : Dev nD) : owedAt c 0 = O₀ c := if_pos rfl
theorem owedAt_last (c : Dev nD) : owedAt c 1 = 0 := if_neg Nat.one_ne_zero

/-- The kernel's invariant: before its one point, and after it. -/
def inv (c : Dev nD) (n : ℕ) : sProp 𝕄 := if n = 0 then iprop((∃ K, Xo (args m) K c) ∗ scr (F := F) c ∗ ∃ r, prngReg c r)
  else iprop((zeros (F := F) c ∗ semVal (bcell c) 0) ∗ scr (F := F) c ∗ ∃ r, prngReg c r)

/-- The call's arrays and what each holds after it. -/
def dat (c : Dev nD) : Dat τ (Elt F) ℕ ℕ UU ℕ cfg0 c where
  A w := V17 m c (Proc.devRef .tc (Pipeline.arrRef spec0 w))
  after w _ := match w with
    | ⟨0, _⟩ => tabV c | ⟨1, _⟩ => (args m).x c | ⟨2, _⟩ => (args m).wi 0 c | ⟨3, _⟩ => (args m).wo 0 c | ⟨4, _⟩ => (args m).wi 1 c
    | ⟨5, _⟩ => (args m).wo 1 c | ⟨6, _⟩ => (args m).wi 2 c | ⟨7, _⟩ => (args m).wo 2 c | ⟨8, _⟩ => res (args m) c
  Φ t := inv m c t.val
  q _ := fullShare
  owed t := owedAt c t.val

/-- Reading the whole of a buffer through the one block of it, and writing it. -/
theorem read_all (b : Ref sig .tc) (f : b.ty.Contents (Elt F)) : ((Memref.whole b).access (Rect.unit (fun a => 0 * b.ty.shape.size a) b.ty.shape.size
    fun _ => Nat.le_of_eq (by rw [Nat.zero_mul, Nat.zero_add])) : View sig .tc _ _ _).read (Elt F) f = f :=
  Memref.read_access_unit_zero (Elt F) b (funext fun _ => Nat.zero_mul _) _ f
theorem write_all (b : Ref sig .tc) (f w : b.ty.Contents (Elt F)) : ((Memref.whole b).access (Rect.unit (fun a => 0 * b.ty.shape.size a) b.ty.shape.size
    fun _ => Nat.le_of_eq (by rw [Nat.zero_mul, Nat.zero_add])) : View sig .tc _ _ _).write (Elt F) f w Finset.univ = w :=
  Memref.write_access_unit_zero_univ (Elt F) b (funext fun _ => Nat.zero_mul _) _ f w

theorem before0 (c : Dev nD) (d) : (dat m c).before (0 : Fin 9) t0_0 d = tabV c := by
  unfold Dat.before; rw [if_pos (fetch0_0 t0_0)]; exact (read_all main_v105 (V17 m c main_v105)).trans (v17_v105 m c)
theorem before1 (c : Dev nD) (d) : (dat m c).before (1 : Fin 9) t0_0 d = (args m).x c := by
  unfold Dat.before; rw [if_pos (fetch0_1 t0_0)]; exact (read_all main_arg0 (V17 m c main_arg0)).trans (v17_arg0 m c)
theorem before2 (c : Dev nD) (d) : (dat m c).before (2 : Fin 9) t0_0 d = (args m).wi 0 c := by
  unfold Dat.before; rw [if_pos (fetch0_2 t0_0)]; exact (read_all main_arg1 (V17 m c main_arg1)).trans (v17_arg1 m c)
theorem before3 (c : Dev nD) (d) : (dat m c).before (3 : Fin 9) t0_0 d = (args m).wo 0 c := by
  unfold Dat.before; rw [if_pos (fetch0_3 t0_0)]; exact (read_all main_arg4 (V17 m c main_arg4)).trans (v17_arg4 m c)
theorem before4 (c : Dev nD) (d) : (dat m c).before (4 : Fin 9) t0_0 d = (args m).wi 1 c := by
  unfold Dat.before; rw [if_pos (fetch0_4 t0_0)]; exact (read_all main_arg2 (V17 m c main_arg2)).trans (v17_arg2 m c)
theorem before5 (c : Dev nD) (d) : (dat m c).before (5 : Fin 9) t0_0 d = (args m).wo 1 c := by
  unfold Dat.before; rw [if_pos (fetch0_5 t0_0)]; exact (read_all main_arg5 (V17 m c main_arg5)).trans (v17_arg5 m c)
theorem before6 (c : Dev nD) (d) : (dat m c).before (6 : Fin 9) t0_0 d = (args m).wi 2 c := by
  unfold Dat.before; rw [if_pos (fetch0_6 t0_0)]; exact (read_all main_arg3 (V17 m c main_arg3)).trans (v17_arg3 m c)
theorem before7 (c : Dev nD) (d) : (dat m c).before (7 : Fin 9) t0_0 d = (args m).wo 2 c := by
  unfold Dat.before; rw [if_pos (fetch0_7 t0_0)]; exact (read_all main_arg6 (V17 m c main_arg6)).trans (v17_arg6 m c)

/-- The result array after the call. -/
theorem arr_out (c : Dev nD) : (dat m c).arrAt (8 : Fin 9) 1 = res (args m) c := by
  show (dat m c).arrAt (8 : Fin 9) (0 + 1) = _
  unfold Dat.arrAt
  rw [dif_pos (show 0 < cfg0.N by rw [show cfg0.N = 1 from N_0]; decide), if_pos (flush0_8 _)]
  exact write_all main_v106 _ (res (args m) c)

/-! ## The body's obligation -/

theorem inv_first (c : Dev nD) : inv m c 0 = iprop((∃ K, Xo (args m) K c) ∗ scr (F := F) c ∗ ∃ r, prngReg c r) := if_pos rfl
theorem inv_last (c : Dev nD) : inv m c 1 = iprop((zeros (F := F) c ∗ semVal (bcell c) 0) ∗ scr (F := F) c ∗ ∃ r, prngReg c r) := if_neg Nat.one_ne_zero

/-- A buffer owned whole. -/
theorem owns_all (c : Dev nD) (b : Ref sig .tc) (X : b.ty.Contents (Elt F)) :
    (owns (Ix := ℕ) (Name := ℕ) (U := UU) (Lvl := ℕ) (c : Thread nD τ) (Memref.whole b) fullShare X)
      = (((c : Thread nD τ).loc b) ↦{fullShare} X : sProp 𝕄) := by
  have h : (owns (Ix := ℕ) (Name := ℕ) (U := UU) (Lvl := ℕ) (c : Thread nD τ) (Memref.whole b) fullShare X)
      = iprop(∃ f : Buf (Elt F) ((c : Thread nD τ).loc b), ⌜f = X⌝ ∗ (((c : Thread nD τ).loc b) ↦{fullShare} f)) := by
    unfold owns; simp only [Memref.view_whole, View.read_whole, View.set_whole]
  rw [h]
  refine BI.Entails.antisymm (show _ ⊢ (_ : sProp 𝕄) from ?_) (show _ ⊢ (_ : sProp 𝕄) from ?_)
  · iintro ⟨%f, %e, H⟩; subst e; iexact H
  · iintro H; iexists X; isplitr; · ipureintro; rfl
    iexact H

theorem owes_first (c : Dev nD) : (dat m c).owesAt 0 t0_0.castSucc ⊢ (iprop(∃ W, owes (c : Thread nD τ) (O₀ c) W) : sProp 𝕄) := by
  unfold Dat.owesAt Pipeline.owesWithin
  rw [show (dat m c).owed t0_0.castSucc = O₀ c from owedAt_first c]
  iintro ⟨%W, -, HO⟩; iexists W; iexact HO
theorem owes_last (c : Dev nD) : (iprop(∃ W, owes (c : Thread nD τ) 0 W) : sProp 𝕄) ⊢ (dat m c).owesAt 0 t0_0.succ := by
  unfold Dat.owesAt Pipeline.owesWithin Dat.bound
  rw [show (dat m c).owed t0_0.succ = 0 from owedAt_last c, show (dat m c).recorded t0_0.succ = Set.univ from rfl]
  iintro ⟨%W, HO⟩; iexists W; isplitr; · ipureintro; exact fun _ _ => Or.inl trivial
  iexact HO

/-- What the call hands the body, -/
def bodyPre (c : Dev nD) : sProp 𝕄 :=
  iprop(inv m c 0 ∗ (dat m c).owesAt 0 t0_0.castSucc
    ∗ (∃ d, ((c : Thread nD τ).loc cc0_stg0_0) ↦{fullShare} (dat m c).before (0 : Fin 9) t0_0 d)
    ∗ (∃ d, ((c : Thread nD τ).loc cc0_stg1_0) ↦{fullShare} (dat m c).before (1 : Fin 9) t0_0 d)
    ∗ (∃ d, ((c : Thread nD τ).loc cc0_stg2_0) ↦{fullShare} (dat m c).before (2 : Fin 9) t0_0 d)
    ∗ (∃ d, ((c : Thread nD τ).loc cc0_stg3_0) ↦{fullShare} (dat m c).before (3 : Fin 9) t0_0 d)
    ∗ (∃ d, ((c : Thread nD τ).loc cc0_stg4_0) ↦{fullShare} (dat m c).before (4 : Fin 9) t0_0 d)
    ∗ (∃ d, ((c : Thread nD τ).loc cc0_stg5_0) ↦{fullShare} (dat m c).before (5 : Fin 9) t0_0 d)
    ∗ (∃ d, ((c : Thread nD τ).loc cc0_stg6_0) ↦{fullShare} (dat m c).before (6 : Fin 9) t0_0 d)
    ∗ (∃ d, ((c : Thread nD τ).loc cc0_stg7_0) ↦{fullShare} (dat m c).before (7 : Fin 9) t0_0 d)
    ∗ (∃ d, ((c : Thread nD τ).loc cc0_stg8_0) ↦{fullShare} (dat m c).before (8 : Fin 9) t0_0 d))
/-- and what it takes back. -/
def bodyPost (c : Dev nD) : sProp 𝕄 :=
  iprop(inv m c 1 ∗ (dat m c).owesAt 0 t0_0.succ
    ∗ (((c : Thread nD τ).loc cc0_stg0_0) ↦{fullShare} tabV c)
    ∗ (((c : Thread nD τ).loc cc0_stg1_0) ↦{fullShare} (args m).x c)
    ∗ (((c : Thread nD τ).loc cc0_stg2_0) ↦{fullShare} (args m).wi 0 c)
    ∗ (((c : Thread nD τ).loc cc0_stg3_0) ↦{fullShare} (args m).wo 0 c)
    ∗ (((c : Thread nD τ).loc cc0_stg4_0) ↦{fullShare} (args m).wi 1 c)
    ∗ (((c : Thread nD τ).loc cc0_stg5_0) ↦{fullShare} (args m).wo 1 c)
    ∗ (((c : Thread nD τ).loc cc0_stg6_0) ↦{fullShare} (args m).wi 2 c)
    ∗ (((c : Thread nD τ).loc cc0_stg7_0) ↦{fullShare} (args m).wo 2 c)
    ∗ (((c : Thread nD τ).loc cc0_stg8_0) ↦{fullShare} res (args m) c))

/-- What a device's kernel starts from, beside the register the call carries. -/
def ready (c : Dev nD) (K : GSem nD τ sig → ℕ) : sProp 𝕄 :=
  iprop(IB (args m) c ∗ outE (F := F) c ∗ scr (F := F) c ∗ (∃ W, owes (c : Thread nD τ) (O₀ c) W) ∗ Xo (args m) K c)

theorem body_pre (c : Dev nD) : bodyPre m c ⊢ iprop((∃ K, ready m c K) ∗ ∃ r, prngReg c r) := by
  have ho := owes_first m c
  unfold bodyPre ready IB outE out
  rw [inv_first]
  simp only [before0, before1, before2, before3, before4, before5, before6, before7]
  iintro ⟨⟨⟨%K, HX⟩, Hs, Hp⟩, HO, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩⟩
  isplitr [Hp]
  · iexists K
    isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [B8]; · iexists (dat m c).before (8 : Fin 9) t0_0 d8; iexact B8
    isplitl [Hs]; · iexact Hs
    isplitl [HO]; · iapply ho; iexact HO
    iexact HX
  · iexact Hp

theorem body_post (c : Dev nD) : iprop(Post (args m) c ∗ ∃ r, prngReg c r) ⊢ bodyPost m c := by
  have ho := owes_last m c
  unfold bodyPost Post IB out
  rw [inv_last]
  iintro ⟨⟨⟨B0, B1, B2, B3, B4, B5, B6, B7⟩, B8, Hs, HO, Hz, Hb⟩, Hp⟩
  isplitl [Hz Hb Hs Hp]
  · isplitl [Hz Hb]; · isplitl [Hz] <;> iassumption
    isplitl [Hs] <;> iassumption
  isplitl [HO]; · iapply ho; iexact HO
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

theorem wp_wrap {c : Dev nD} {p : Prog (TpuEff nD τ sig (Elt F) Λ₀ .tc) PUnit} {Q : (GSem nD τ sig → ℕ) → sProp 𝕄} {P U M T : sProp 𝕄}
    (h0 : P ⊢ iprop((∃ K, Q K) ∗ U)) (h1 : ∀ K, Q K ⊢ WP c p fun _ => M) (h2 : iprop(M ∗ U) ⊢ T) : P ⊢ WP c p fun _ => T := by
  have a : iprop(∃ K, Q K) ⊢ WP c p fun _ => M := by
    iintro ⟨%K, H⟩; iapply (h1 K); iexact H
  exact ((h0.trans (sep_mono a BIBase.Entails.rfl)).trans (wp_frame_r frame _ Set.univ)).trans (wp_mono frame _ Set.univ fun _ => h2)

theorem body_is : defs₀ (F := F) Proc.tc 0 (t0_0, cfg0.slots t0_0) = cc0_body m0 h0 m1 h1 m2 h2 m3 h3 m4 h4 m5 h5 m6 h6 m7 h7 m8 h8 m9 h9 m10 h10 m11 h11 m12 h12 m13 h13 m14 h14
    cc0_scratch6 cc0_scratch7 cc0_scratch8 cc0_scratch9 cc0_scratch10 cc0_scratch11 cc0_scratch12 cc0_scratch13 := rfl
theorem inv_at0 (c : Dev nD) : (dat m c).Φ t0_0.castSucc = inv m c 0 := rfl
theorem inv_at1 (c : Dev nD) : (dat m c).Φ t0_0.succ = inv m c 1 := rfl
theorem after0 (c : Dev nD) : (dat m c).after (0 : Fin 9) t0_0 = tabV c := rfl
theorem after1 (c : Dev nD) : (dat m c).after (1 : Fin 9) t0_0 = (args m).x c := rfl
theorem after2 (c : Dev nD) : (dat m c).after (2 : Fin 9) t0_0 = (args m).wi 0 c := rfl
theorem after3 (c : Dev nD) : (dat m c).after (3 : Fin 9) t0_0 = (args m).wo 0 c := rfl
theorem after4 (c : Dev nD) : (dat m c).after (4 : Fin 9) t0_0 = (args m).wi 1 c := rfl
theorem after5 (c : Dev nD) : (dat m c).after (5 : Fin 9) t0_0 = (args m).wo 1 c := rfl
theorem after6 (c : Dev nD) : (dat m c).after (6 : Fin 9) t0_0 = (args m).wi 2 c := rfl
theorem after7 (c : Dev nD) : (dat m c).after (7 : Fin 9) t0_0 = (args m).wo 2 c := rfl
theorem after8 (c : Dev nD) : (dat m c).after (8 : Fin 9) t0_0 = res (args m) c := rfl

theorem body_wp (c : Dev nD) {p : Prog (TpuEff nD τ sig (Elt F) Λ₀ .tc) PUnit} (e : p = cc0_body m0 h0 m1 h1 m2 h2 m3 h3 m4 h4 m5 h5 m6 h6 m7 h7 m8 h8 m9 h9 m10 h10 m11 h11 m12 h12 m13 h13 m14 h14
    cc0_scratch6 cc0_scratch7 cc0_scratch8 cc0_scratch9 cc0_scratch10 cc0_scratch11 cc0_scratch12 cc0_scratch13) :
    bodyPre m c ⊢ WP c p fun _ => bodyPost m c := by
  subst e
  exact wp_wrap (body_pre m c) (kernel_run (args m) · c) (body_post m c)

set_option maxRecDepth 4000 in
theorem body (c : Dev nD) : BodyObligation (dat m c) (defs₀ (F := F)) 𝒱₀ 0 Set.univ := fun t => by
  rw [fin_N0 t, bigSep_W0, bigSep_W0]
  simp only [owns_all]
  rw [inv_at0, inv_at1, after0, after1, after2, after3, after4, after5, after6, after7, after8]
  have h := body_wp m c (body_is (F := F))
  unfold bodyPre bodyPost WP at h
  refine BIBase.Entails.trans h ?_
  have e : ∀ {A B : sProp 𝕄}, A = B → A ⊢ B := fun h => by rw [h]
  refine e ?_
  congr 1

/-! ## The call's record -/

/-- The kernel's own semaphores. -/
def osem : Fin 103 → SemLoc sig := fun k => .dma (qs (9 + k.val))
theorem osem_ok : Pipeline.OwnSemFacts spec0 osem := by decide

theorem osem_zeros (c : Dev nD) : (Pipeline.ownSems0 osem c : sProp 𝕄) = zeros (F := F) c := by
  unfold zeros
  rw [fam_fin]
  rfl

/-- The call's data, indexed by the one call there is. -/
def dats : (p : Fin 1) → (c : Dev nD) → Dat τ (Elt F) ℕ ℕ UU ℕ (cfgs p) c := fun | 0 => dat m | ⟨_ + 1, h⟩ => absurd h (by omega)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Opening the kernel's semaphores. -/
theorem open_sems (c : Dev nD) : iprop(Tk (args m) c ∗ Pipeline.ownSems0 osem c ∗ levAts L lv) ⊢ (|={Set.univ}=> iprop(∃ K, Xo (args m) K c) : sProp 𝕄) := by
  have ho (K) := open_cells (args m) K c
  rw [osem_zeros]
  unfold Tk TkS Xo
  unfold IN at ho ⊢
  iintro ⟨⟨%K, #HI, Hg, Hop⟩, Hz, #HL⟩
  imod (ho K) $$ [Hop Hz] with H
  · isplitr
    · isplitr; · iexact HI
      iexact HL
    isplitl [Hop] <;> iassumption
  imodintro
  iexists K
  isplitr
  · isplitr; · iexact HI
    iexact HL
  isplitl [Hg] <;> iassumption

theorem enter (c : Dev nD) : iprop(Pipeline.scopedRest (Pipeline.pin (pcfgs (F := F)) adm 0).spec c ∗ (∃ r, prngReg c r)
    ∗ StableHlo.held (c.tc : Thread nD τ) ∅ (V17 m c) ∗ iprop(∃ K, Xo (args m) K c)) ⊢ (dats m 0 c).Φ 0 := by
  have e : (Pipeline.scopedRest (Pipeline.pin (pcfgs (F := F)) adm 0).spec c : sProp 𝕄) = scr (F := F) c := scopedRest0_eq c
  rw [e, show (dats m 0 c).Φ 0 = inv m c 0 from rfl, inv_first]
  iintro ⟨Hs, Hp, -, HX⟩
  isplitl [HX]; · iexact HX
  isplitl [Hs] <;> iassumption

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V18 m (outs m) c) ∗ Pipeline.ownSems0 osem c ∗ semVal (bcell c) 0) := by
  have e : (Pipeline.scopedRest (Pipeline.pin (pcfgs (F := F)) adm 0).spec c : sProp 𝕄) = scr (F := F) c := scopedRest0_eq c
  have h0 : (StableHlo.held (c.tc : Thread nD τ) ∅ (V18 m (outs m) c) : sProp 𝕄) = iprop(emp) := by unfold StableHlo.held; exact bigSep_empty
  rw [e, show (dats m 0 c).Φ (Fin.last (Pipeline.pin (pcfgs (F := F)) adm 0).N) = inv m c 1 from rfl, inv_last, osem_zeros, h0]
  iintro ⟨⟨Hz, Hb⟩, Hs, Hp⟩
  isplitl [Hs]; · iexact Hs
  isplitl [Hp]; · iexact Hp
  isplitr; · iempintro
  isplitl [Hz] <;> iassumption

theorem owe_pos {c : Dev nD} {g : GSem nD τ sig} {i : ℕ} (h : 0 < O₀ c g i) : i ∈ L g ∧ 0 < lv g i := by
  have hb (d : Dev nD) (h : 0 < (tallyAt (bcell d) 5 1 : CellTallies nD τ sig ℕ) g i) : i ∈ L g ∧ 0 < lv g i := by
    obtain ⟨rfl, rfl⟩ := Pipeline.tallyAt_pos h
    exact ⟨by show 5 ∈ (if _ then _ else _ : Finset ℕ); rw [if_pos rfl]; exact Finset.mem_range.mpr (by decide), by show 0 < 5; decide⟩
  unfold O₀ OB at h
  rw [Pi.add_apply, Finsupp.add_apply, Pi.add_apply, Finsupp.add_apply] at h
  rcases Nat.add_pos_iff_pos_or_pos.mp h with h | h
  · exact hb _ h
  rcases Nat.add_pos_iff_pos_or_pos.mp h with h | h
  · exact hb _ h
  obtain ⟨ht, h1, h2⟩ := rest_pos h
  exact ⟨by unfold L; rw [if_pos ht]; exact Finset.mem_range.mpr h2, by show 0 < i; omega⟩

theorem cut (c : Dev nD) (t) (g : GSem nD τ sig) (i : ℕ) (h : 0 < (dats m 0 c).owed t g i) : i ∈ L g ∧ (0 : ℕ) < lv g i := by
  have h' : 0 < owedAt c t.val g i := h
  unfold owedAt at h'
  split at h'
  · exact owe_pos h'
  · exact absurd h' (Nat.lt_irrefl 0)

theorem arrays_in (c : Dev nD) (w : Fin 9) : (dat m c).arrAt w 0 = V17 m c (Proc.devRef .tc (Pipeline.arrRef spec0 w)) := rfl
theorem arrays_kept (c : Dev nD) (w : Fin 9) (h : (cfg0.win w).isOut = false) (hr : Pipeline.arrRef spec0 w ∉ [main_v106]) :
    (dat m c).arrAt w 1 = V18 m (outs m) c (Proc.devRef .tc (Pipeline.arrRef spec0 w)) :=
  ((dat m c).arrAt_in w h 1).trans (V18_of m (outs m) c _ hr).symm
theorem arrays_out (c : Dev nD) (w : Fin 9) : (dat m c).arrAt w 1 = V18 m (outs m) c (Proc.devRef .tc (Pipeline.arrRef spec0 w)) := by
  match w with
  | ⟨0, _⟩ => exact arrays_kept m c 0 rfl (by decide)
  | ⟨1, _⟩ => exact arrays_kept m c 1 rfl (by decide)
  | ⟨2, _⟩ => exact arrays_kept m c 2 rfl (by decide)
  | ⟨3, _⟩ => exact arrays_kept m c 3 rfl (by decide)
  | ⟨4, _⟩ => exact arrays_kept m c 4 rfl (by decide)
  | ⟨5, _⟩ => exact arrays_kept m c 5 rfl (by decide)
  | ⟨6, _⟩ => exact arrays_kept m c 6 rfl (by decide)
  | ⟨7, _⟩ => exact arrays_kept m c 7 rfl (by decide)
  | ⟨8, _⟩ => exact (arr_out m c).trans (v18_out m c).symm

/-- The buffers the call does not touch. -/
def others : Finset (DevRef τ sig) := Pipeline.ucRefs τ sig \ Pipeline.arrRefs spec0
theorem others_kept (c : Dev nD) (b : DevRef τ sig) (hb : b ∈ others \ ∅) : V18 m (outs m) c b = V17 m c b := by
  have h1 := (Finset.mem_sdiff.mp (Finset.mem_sdiff.mp hb).1).2
  refine Function.update_of_ne (fun e => h1 ?_) _ _
  rw [e]
  decide

set_option backward.isDefEq.respectTransparency.types false in
/-- The call's record. -/
def reg : Pipeline.RegionSeg (pcfgs (F := F)) adm (dats m) 0 (defs₀ (F := F)) 𝒱₀ L lv 0 :=
  Pipeline.RegionSeg.ofTalk (pcfgs (F := F)) adm (dats m) 0 (defs₀ (F := F)) 𝒱₀ L lv 0 osem osem_ok
    ∅ others (Finset.empty_subset _) kit rfl (fun c => (body m c).loose)
    (fun _ => 0) O₀ (fun c => (owedAt_first c).trans (zero_add _).symm) (fun c => owedAt_last c) (fun _ => rfl)
    (fun _ w => by unfold Dat.share; split <;> rfl)
    (V17 m) (V18 m (outs m)) (others_kept m)
    (Tk (args m)) (fun c => semVal (bcell c) 0) (fun c => iprop(∃ K, Xo (args m) K c)) (fun c => semVal (bcell c) 0) (open_sems m) (enter m) (leave m)
    (fun c => by iintro H; imodintro; iexact H)
    (fun _ => 0)
    ⟨fun _ _ _ => Finset.mem_range.mpr (by decide), fun _ _ _ => Nat.le_refl 0, fun c t g i h => cut m c t g i h⟩
    (fun _ => iprop(emp))
    (fun c w => arrays_in m c w) (fun c w => arrays_out m c w)

end Cert.TpMlp

end
-- ==== Proof.Run.lean ====
/-
  The program on all devices: what it leaves in memory.
-/
module

public import proofs.«01_k».proof.Proof.Region
public import Idealize.ShloMosaic.Lib.Quiescent

@[expose] public section

noncomputable section

namespace Cert.TpMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig ℕ (Elt F) ℕ UU ℕ

variable (m : (ℓ : Loc nD τ sig) → Buf (Elt F) ℓ)

/-! ## Before the call and after it -/

/-- What a device carries beside its buffers: into the call, -/
def bring (c : Dev nD) : sProp 𝕄 := iprop((∃ r, prngReg c r) ∗ Tk (args m) c ∗ ∃ W, owes (c : Thread nD τ) (O₀ c) W)
/-- and out of it. -/
def take (c : Dev nD) : sProp 𝕄 := iprop((∃ r, prngReg c r) ∗ semVal (bcell c) 0 ∗ ∃ W, owes (c : Thread nD τ) 0 W)
/-- The two, by position. -/
def beside : Fin 2 → Dev nD → sProp 𝕄 := fun k => if k.val = 0 then bring m else take (F := F)

theorem arr_sub : Pipeline.arrRefs spec0 ⊆ Pipeline.ucRefs τ sig := by decide
theorem held_parts (c : Dev nD) (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) others V) :=
  StableHlo.held_sub_split (c : Thread nD τ) arr_sub V

theorem call_pre (c : Dev nD) : iprop(StableHlo.held (c : Thread nD τ) (Pipeline.ucRefs τ sig) (V17 m c) ∗ bring m c) ⊢ (reg m).pre c := by
  show _ ⊢ iprop(StableHlo.held (c : Thread nD τ) (Pipeline.arrRefs spec0) (V17 m c) ∗ (∃ r, prngReg c r)
    ∗ (StableHlo.held (c : Thread nD τ) others (V17 m c) ∗ emp) ∗ Tk (args m) c ∗ ∃ Wd, owes (c : Thread nD τ) (0 + O₀ c) Wd)
  rw [held_parts, zero_add]
  unfold bring
  iintro ⟨⟨Ha, Ho⟩, Hp, Ht, HO⟩
  isplitl [Ha]; · iexact Ha
  isplitl [Hp]; · iexact Hp
  isplitl [Ho]
  · isplitl [Ho]; · iexact Ho
    iempintro
  isplitl [Ht]; · iexact Ht
  iexact HO

theorem call_post (c : Dev nD) : (reg m).post c ⊢ iprop(StableHlo.held (c : Thread nD τ) (Pipeline.ucRefs τ sig) (V18 m (outs m) c) ∗ take (F := F) c) := by
  show iprop(StableHlo.held (c : Thread nD τ) (Pipeline.arrRefs spec0) (V18 m (outs m) c) ∗ (∃ r, prngReg c r)
    ∗ (StableHlo.held (c : Thread nD τ) others (V18 m (outs m) c) ∗ emp) ∗ semVal (bcell c) 0 ∗ ∃ Wd, owes (c : Thread nD τ) 0 Wd) ⊢ _
  rw [held_parts]
  unfold take
  iintro ⟨Ha, Hp, ⟨Ho, -⟩, Hb, HO⟩
  isplitl [Ha Ho]; · isplitl [Ha] <;> iassumption
  isplitl [Hp]; · iexact Hp
  isplitl [Hb]; · iexact Hb
  iexact HO

/-! ## The launch -/

/-- The launch's resources: the call's and the protocol's. -/
def launchRes : UU := (initOf (Pipeline.cells cfgs cellOf_inj) (Pipeline.launchToks cfgs cellOf_inj), launchOf barCells dmaCells toks)

/-- A resource held on one device. -/
def only (d : Dev nD) (X : sProp 𝕄) (c : Dev nD) : sProp 𝕄 := if c = d then X else iprop(emp)
theorem fam_one (d : Dev nD) (X : sProp 𝕄) : bigSep Finset.univ (only d X) = X := by
  have he : bigSep (Finset.univ.erase d) (fun _ : Dev nD => iprop(emp)) = (iprop(emp) : sProp 𝕄) := bigSep_emp_const _
  rw [bigSep_univ_at _ d, bigSep_congr (s := Finset.univ.erase d) (Φ := only d X) (Ψ := fun _ => iprop(emp)) fun c hc => if_neg (Finset.ne_of_mem_erase hc), he]
  unfold only
  rw [if_pos rfl]
  refine BI.Entails.antisymm (show _ ⊢ (_ : sProp 𝕄) from ?_) (show _ ⊢ (_ : sProp 𝕄) from ?_)
  · iintro ⟨H, -⟩; iexact H
  · iintro H; isplitl [H]; · iexact H
    iempintro

/-- The protocol's element, all of it with device 0. -/
def lot : Dev nD → sProp 𝕄 := only 0 (BI.own (ER (F := F) (launchOf barCells dmaCells toks)))

theorem fund_start : (ownU launchRes : sProp 𝕄)
    ⊢ |={Set.univ}=> iprop(BI.own (EP (F := F) (initOf (Pipeline.cells cfgs cellOf_inj) (Pipeline.launchToks cfgs cellOf_inj))) ∗ bigSep Finset.univ (lot (F := F))) := by
  unfold launchRes lot
  rw [fam_one]
  iintro Hu
  ihave H := (ownU_pair _ _) $$ Hu
  icases H with ⟨HP, HX⟩
  imodintro
  isplitl [HP]; · iexact HP
  iexact HX

theorem unscoped_one : ∀ sm : SemLoc sig, sm.isScoped .tc = false → sm = .reg barS := by decide
theorem sems0_eq (c : Dev nD) : (unscopedSems0 c : sProp 𝕄) = semVal (bcell c) 0 := by
  unfold unscopedSems0
  rw [show (Finset.univ.filter fun sm : SemLoc sig => ¬ sm.isScoped .tc) = {SemLoc.reg barS} from by decide, bigSep_singleton]

/-- What the launch gives a device beside its buffers. -/
def given (ρ : Dev nD → PrngReg) (c : Dev nD) : sProp 𝕄 :=
  iprop(unscopedSems0 c ∗ owes (c : Thread nD τ) (O₀ c) ∅ ∗ Pipeline.launchCred O₀ c ∗ prngReg c (ρ c) ∗ lot (F := F) c)
theorem given_split (ρ : Dev nD → PrngReg) : bigSep Finset.univ (given (F := F) ρ)
    ⊢ iprop(((bigSep Finset.univ fun c : Dev nD => iprop(semVal (bcell c) 0 ∗ Pipeline.launchCred O₀ c)) ∗ BI.own (ER (F := F) (launchOf barCells dmaCells toks)))
      ∗ bigSep Finset.univ fun c : Dev nD => iprop((∃ r, prngReg c r) ∗ ∃ W, owes (c : Thread nD τ) (O₀ c) W)) := by
  have h : bigSep Finset.univ (given (F := F) ρ) ⊢ bigSep Finset.univ fun c : Dev nD =>
      iprop(((semVal (bcell c) 0 ∗ Pipeline.launchCred O₀ c) ∗ lot (F := F) c) ∗ (∃ r, prngReg c r) ∗ ∃ W, owes (c : Thread nD τ) (O₀ c) W) :=
    fam_mono fun c _ => by
      unfold given
      rw [sems0_eq]
      iintro ⟨Hv, HO, Hc, Hp, Hl⟩
      isplitl [Hv Hc Hl]
      · isplitl [Hv Hc]
        · isplitl [Hv] <;> iassumption
        · iexact Hl
      isplitl [Hp]; · iexists ρ c; iexact Hp
      iexists ∅; iexact HO
  rw [fam_sep, fam_sep] at h
  refine h.trans ?_
  unfold lot
  rw [fam_one]

theorem start_all (ρ : Dev nD → PrngReg) : bigSep Finset.univ (given (F := F) ρ) ⊢ |={Set.univ}=> bigSep Finset.univ (bring m) := by
  refine (given_split ρ).trans ?_
  have hd := deal (args m)
  have hj : iprop((bigSep Finset.univ fun c : Dev nD => Tk (args m) c) ∗ bigSep Finset.univ fun c : Dev nD => iprop((∃ r, prngReg c r) ∗ ∃ W, owes (c : Thread nD τ) (O₀ c) W))
      ⊢ bigSep Finset.univ (bring m) := by
    rw [← fam_sep]
    refine fam_mono fun c _ => ?_
    unfold bring
    iintro ⟨Ht, Hp, HO⟩
    isplitl [Hp]; · iexact Hp
    isplitl [Ht] <;> iassumption
  iintro ⟨H, Hr⟩
  imod hd $$ H with H
  imodintro
  iapply hj
  isplitl [H] <;> iassumption

/-! ## The program -/

/-- What a device's memory holds at the end. -/
def Ends (c : Dev nD) (s : MemSt nD τ sig (Elt F)) : Prop :=
  ((s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6))
    ∧ s.mem ((c.tc : Thread nD τ).loc main_v106) = res (args m) c) ∧ s.sem (bcell c) = 0

theorem read_end (c : Dev nD) (s' : Phys nD τ sig (Elt F)) :
    iprop((StableHlo.held (c : Thread nD τ) (Pipeline.ucRefs τ sig) (V18 m (outs m) c) ∗ semVal (bcell c) 0) ∗ SI s')
      ⊢ (|={Set.univ}=> iprop(⌜Ends m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V18 m (outs m) c) s') $$ [Hh HSI]
  · isplitl [Hh] <;> iassumption
  icases Hr with ⟨%h, HSI⟩
  imodintro
  isplitr
  · ipureintro
    have hr (r : Ref sig .tc) (hs : ¬ r.isScoped = true) := h (Proc.devRef .tc r) (Finset.mem_filter.mpr ⟨StableHlo.devRef_mem_tcRefs r, hs⟩)
    exact ⟨⟨⟨(hr main_arg0 (by decide)).trans (V18_main_arg0 m (outs m) c), (hr main_arg1 (by decide)).trans (V18_main_arg1 m (outs m) c),
      (hr main_arg2 (by decide)).trans (V18_main_arg2 m (outs m) c), (hr main_arg3 (by decide)).trans (V18_main_arg3 m (outs m) c),
      (hr main_arg4 (by decide)).trans (V18_main_arg4 m (outs m) c), (hr main_arg5 (by decide)).trans (V18_main_arg5 m (outs m) c),
      (hr main_arg6 (by decide)).trans (V18_main_arg6 m (outs m) c)⟩, (hr main_v106 (by decide)).trans (v18_out m c)⟩, by simpa using hb⟩
  · iexact HSI

set_option backward.isDefEq.respectTransparency.types false in
/-- The whole program, on all devices: it runs; arguments stay, results are the kernel's, and every counter is back at zero. -/
theorem run_main (ρ : Dev nD → PrngReg) : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (dats m) 0 cellOf_inj EP (defs₀ (F := F)) 𝒱₀ L lv m ρ main
    (segs m 𝒱₀ L lv (beside m) 0 (dats m) (reg m))
    (fun c Q => by
      rewrite [main_chain c, Seg.run_eq_chain,
        show (segs m 𝒱₀ L lv (beside m) 0 (dats m) (reg m) c).map Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          StableHlo.seq hostOps0_16, Prog.lift (.customCall (Pipeline.entry 0) ())] from rfl]
      dsimp (config := { failIfUnchanged := false }) only
      exact .rfl)
    (fun c => by simp only [segs, Seg.pipes_host, Seg.pipes_region, Seg.pipes_nil]; decide) O₀ (fun g h => if_neg h) (lot (F := F)) launchRes fund_start
    (T₀ := fun c => iprop(StableHlo.held (c : Thread nD τ) (Pipeline.ucRefs τ sig) (V0 m c) ∗ bring m c))
    (Tₙ := fun c => iprop(StableHlo.held (c : Thread nD τ) (Pipeline.ucRefs τ sig) (V18 m (outs m) c) ∗ semVal (bcell c) 0))
    (hch := fun c => ⟨.rfl, .rfl, .rfl, .rfl, .rfl, .rfl, .rfl, .rfl, .rfl, .rfl, .rfl, .rfl, .rfl, .rfl, .rfl, .rfl, .rfl, call_pre m c, (call_post m c).trans (by
      unfold take
      iintro ⟨Hh, -, Hb, HO⟩
      isplitr [HO]; · isplitl [Hh] <;> iassumption
      iexact HO)⟩)
    (hinit := ?_) (QY := Ends m)
    (hfin := fun c s' => read_end m c s')
    (hQ := fun s h hs => ⟨h, sem_eq_zero hs fun c sm hsm => by obtain rfl := unscoped_one sm hsm; exact (h c).2⟩)
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ lot (F := F) c))
      ⊢ (iprop((bigSep Finset.univ fun c : Dev nD => StableHlo.held (c : Thread nD τ) (Pipeline.ucRefs τ sig) (V0 m c)) ∗ bigSep Finset.univ (given (F := F) ρ)) : sProp 𝕄) := by
    rw [← fam_sep]
    exact fam_mono fun c _ => by
      rw [← Pipeline.unscopedBufs_held (Ix := ℕ) (Name := ℕ) (U := UU) (Lvl := ℕ) c (V0 m c)]; exact BI.Entails.refl _
  have hs := start_all m ρ
  iintro ⟨H, -⟩
  ihave H' := hsplit $$ H
  icases H' with ⟨Hh, Hr⟩
  imod hs $$ Hr with HE
  imodintro
  rw [bigSep_sep']
  isplitl [Hh]; · iexact Hh
  iexact HE

end Cert.TpMlp

end
-- ==== Proof.Same.lean ====
/-
  The kernel and the idealized kernel are one program.
-/
module

public import proofs.«01_k».proof.Defs
public import proofs.«01_k».proof.Proof.Gen.Kernel
public import proofs.«01_k».proof.Proof.Gen.KernelIdeal
@[expose] public section
noncomputable section
namespace Cert.TpMlp
open Idealize.ShloMosaic Idealize.SL.Sem

variable {F : FTy → Type} [FloatOps F] [Cert.Kernel.Facts] [Cert.KernelIdeal.Facts]
set_option backward.isDefEq.respectTransparency false
set_option maxHeartbeats 1000000

/-- Three parts in order, from equal parts. -/
theorem lines_congr {E : Type → Type} {p p' q q' r r' : Prog E PUnit} (hp : p = p') (hq : q = q') (hr : r = r') :
    (do p; q; r) = (do p'; q'; r') := by subst hp hq hr; rfl

/-- The host code, part by part, -/
theorem same_part0 (d : Dev 32) : (Cert.Kernel.main_part0 (F := F) d) = Cert.KernelIdeal.main_part0 (F := F) d := by
  rfl
theorem same_part1 (d : Dev 32) : (Cert.Kernel.main_part1 (F := F) d) = Cert.KernelIdeal.main_part1 (F := F) d := by
  rfl
theorem same_part2 (d : Dev 32) : (Cert.Kernel.main_part2 (F := F) d) = Cert.KernelIdeal.main_part2 (F := F) d := by
  rfl

/-- and whole; -/
theorem same_main : Cert.Kernel.main (F := F) = Cert.KernelIdeal.main (F := F) := by
  funext d
  unfold Cert.Kernel.main Cert.KernelIdeal.main
  exact lines_congr (same_part0 d) (same_part1 d) (same_part2 d)

/-- the kernel; -/
theorem same_calls : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- the program's definitions. -/
theorem same_defs : Cert.Kernel.defs (F := F) = Cert.KernelIdeal.defs (F := F) := by
  unfold Cert.Kernel.defs Cert.KernelIdeal.defs
  rw [same_calls]
  rfl

end Cert.TpMlp

end
-- ==== Proof.Value.lean ====
/-
  The kernel's result over the reals: each layer's ring sum is the sum over all devices of their terms, and that is the
  device's block of the layer over whole arrays.
-/
module

public import proofs.«01_k».proof.Proof.Sched
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pointwise.Reshape

@[expose] public section

noncomputable section

namespace Cert.TpMlp

open Cert.KernelIdeal Cert.KernelIdeal.Gen
open Idealize.ShloMosaic hiding ix2 eq_ix2
open Idealize.ShloMosaic.ValueIdx
open scoped BigOperators

/-- A square block of reals. -/
abbrev Blk : Type := S256x256.Idx → EReal

/-! ## One device's term -/

/-- An entry of `max(X·W, 0)·V`. -/
def term (X : Blk) (W : S256x512.Idx → EReal) (V : S512x256.Idx → EReal) (i j : Fin 256) : EReal :=
  ∑ k : Fin 512, max (∑ q : Fin 256, X (ix2 i q) * W (ix2 q k)) 0 * V (ix2 k j)

theorem pay3_apply (X : Vec Ideal S256x256 .bf16) (W : Vec Ideal S256x512 .f32) (V : Vec Ideal S512x256 .f32) (i j : Fin 256) :
    k0_pay3 X W V (ix2 i j) = term X W V i j := by
  unfold k0_pay3
  simp only [shapeCast_id]
  refine (Ideal.matmul_plain_apply (M := 256) (K := 512) (N := 256) none _ _ _ i j).trans ?_
  rw [show (constant S256x256 .f32 0x00000000#32 : FVec Ideal S256x256 .f32) (ix2 i j) = 0 from Ideal.ofBits_zero_f32, zero_add]
  refine Finset.sum_congr rfl fun k _ => ?_
  refine congrArg (· * V (ix2 k j)) ?_
  refine congrArg₂ max ?_ Ideal.ofBits_zero_f32
  refine (Ideal.matmul_plain_apply (M := 256) (K := 256) (N := 512) none _ _ _ i k).trans ?_
  rw [show (constant S256x512 .f32 0x00000000#32 : FVec Ideal S256x512 .f32) (ix2 i k) = 0 from Ideal.ofBits_zero_f32, zero_add]
  rfl

/-! ## The ring sum -/

/-- What a message of the reduction holds: the sum of the terms of the devices it has passed. -/
theorem msg_sum (Y : Dev nD → Dev nD → Vec Ideal S256x256 .f32) (s : Bool) (t : ℕ) (ht : t ≤ 15) : ∀ (c : Dev nD) (i : S256x256.Idx),
    shapeCast S256x256 (Smof Y s t c) shapeCasts_S1x256x256_S256x256 i = ∑ u ∈ Finset.range (t + 1), Y (ck c s u) (rsc c s t) i := by
  induction t with
  | zero =>
    intro c i
    rw [Finset.sum_range_one, ck_zero]
    show shapeCast S256x256 (shapeCast S1x256x256 (k0_pay48 (Y c (rsc c s 0))) shapeCasts_S256x256_S1x256x256) shapeCasts_S1x256x256_S256x256 i = _
    rw [shapeCast_comp, shapeCast_id]
    unfold k0_pay48
    rw [shapeCast_id]
    rfl
  | succ t ih =>
    intro c i
    rw [Finset.sum_range_succ', ck_zero]
    show shapeCast S256x256 (k0_pay50 (Smof Y s t (nx c (!s))) (Y c (rsc c s (t + 1)))) shapeCasts_S1x256x256_S256x256 i = _
    unfold k0_pay50
    rw [shapeCast_comp, shapeCast_id]
    have hc : nx (nx c (!s)) s = c := by have := nx_nx c (!s); rwa [Bool.not_not] at this
    have h1 : rsc c s (t + 1) = rsc (nx c (!s)) s t := by have := rsc_nx (nx c (!s)) s t (by omega); rwa [hc] at this
    refine congrArg₂ (· + ·) ((ih (by omega) (nx c (!s)) i).trans (Finset.sum_congr rfl fun u hu => ?_)) rfl
    have h2 : ck c s (u + 1) = ck (nx c (!s)) s u := by
      have := ck_nx (nx c (!s)) s u (by have := Finset.mem_range.mp hu; omega); rwa [hc] at this
    rw [h1, h2]

/-- The three parts of a ring sum are the sum over all devices. -/
theorem ring_sum (c : Dev nD) (f : Dev nD → EReal) :
    ∑ u ∈ Finset.range 16, f (ck (nx c false) true u) + ∑ u ∈ Finset.range 15, f (ck (nx c true) false u) + f c = ∑ d, f d := by
  have hp := pos_lt c
  have hb : Function.Bijective fun p : Fin 32 => dev (pos c.val + p.val) := by
    refine (Fintype.bijective_iff_injective_and_card _).mpr ⟨fun p q h => Fin.ext ?_, rfl⟩
    have := dev_eq_iff.mp h
    have := p.isLt; have := q.isLt; omega
  rw [← hb.sum_comp f, Fin.sum_univ_eq_sum_range (fun p => f (dev (pos c.val + p))) 32,
    show (32 : ℕ) = 16 + 16 from rfl, Finset.sum_range_add,
    ← Finset.sum_range_reflect (fun p => f (dev (pos c.val + (16 + p)))) 16]
  have e0 : f (dev (pos c.val + 0)) = f c := by rw [add_zero, dev_pos]
  have e1 : ∀ u ∈ Finset.range 16, f (ck (nx c false) true u) = f (dev (pos c.val + (16 + (16 - 1 - u)))) := fun u hu => by
    have := Finset.mem_range.mp hu
    refine congrArg f (dev_congr ?_)
    have h := pos_nx c false
    simp only at h
    simp only [h]; omega
  have e2 : ∀ u ∈ Finset.range 15, f (ck (nx c true) false u) = f (dev (pos c.val + (u + 1))) := fun u hu => by
    refine congrArg f (dev_congr ?_)
    have h := pos_nx c true
    simp only at h
    simp only [h]; omega
  rw [Finset.sum_congr rfl e1, Finset.sum_congr rfl e2, Finset.sum_range_succ' (fun p => f (dev (pos c.val + p))) 15, e0]
  abel

/-- A layer's reduction on device `c`: the sum of all devices' terms for its chunk. -/
theorem reduce_sum (Y : Dev nD → Dev nD → Vec Ideal S256x256 .f32) (c : Dev nD) (i : S256x256.Idx) :
    shapeCast S256x256 (Smof Y true 15 (nx c false)) shapeCasts_S1x256x256_S256x256 i
      + shapeCast S256x256 (Smof Y false 14 (nx c true)) shapeCasts_S1x256x256_S256x256 i + Y c c i = ∑ d, Y d c i := by
  have hp := pos_lt c
  have h1 : rsc (nx c false) true 15 = c := by
    apply pos_inj
    have h := pos_nx c false
    simp only [rsc, pos_dev] at h ⊢
    omega
  have h2 : rsc (nx c true) false 14 = c := by
    apply pos_inj
    have h := pos_nx c true
    simp only [rsc, pos_dev] at h ⊢
    omega
  rw [msg_sum Y true 15 le_rfl, msg_sum Y false 14 (by decide), h1, h2]
  exact ring_sum c fun d => Y d c i

theorem xb_succ (A : Args Ideal) (l : ℕ) (c : Dev nD) (i j : Fin 256) :
    xb A (l + 1) c (ix2 i j) = ∑ d, term (xb A l c) (A.wi l d) (A.wo l d) i j := by
  refine Eq.trans ?_ ((reduce_sum (Yof A l (xb A l)) c (ix2 i j)).trans (Finset.sum_congr rfl fun d _ => pay3_apply _ _ _ i j))
  show k0_pay86 _ _ _ _ = _
  unfold k0_pay86
  rw [shapeCast_id]
  rfl
theorem res_sum (A : Args Ideal) (c : Dev nD) (i j : Fin 256) :
    res A c (ix2 i j) = ∑ d, term (xb A 2 c) (A.wi 2 d) (A.wo 2 d) i j :=
  Eq.trans rfl ((reduce_sum (Yof A 2 (xb A 2)) c (ix2 i j)).trans (Finset.sum_congr rfl fun d _ => pay3_apply _ _ _ i j))

/-! ## A layer over whole arrays -/

open Cert.ReferenceIdeal (S256x16384 S16384x256 S8192x16384 dot_S8192x256_S256x16384_S8192x16384_1_0_0_1_n_n
  dot_S8192x16384_S16384x256_S8192x256_1_0_0_1_n_n)

/-- The reference's layer. -/
def layer (X : FVec Ideal S8192x256 .f32) (W : FVec Ideal S256x16384 .f32) (V : FVec Ideal S16384x256 .f32) : FVec Ideal S8192x256 .f32 :=
  Host.dotGeneral dot_S8192x16384_S16384x256_S8192x256_1_0_0_1_n_n none (maximumf (Host.dotGeneral dot_S8192x256_S256x16384_S8192x16384_1_0_0_1_n_n none X W)
    (broadcastInDim S8192x16384 ![] Cert.ReferenceIdeal.Facts₀.bcast_S_S8192x16384 (constant Cert.ReferenceIdeal.S_ .f32 0x00000000#32))) V

theorem layer_apply (X : FVec Ideal S8192x256 .f32) (W : FVec Ideal S256x16384 .f32) (V : FVec Ideal S16384x256 .f32) (r : Fin 8192) (j : Fin 256) :
    layer X W V (ix2 r j) = ∑ k : Fin 16384, max (∑ q : Fin 256, X (ix2 r q) * W (ix2 q k)) 0 * V (ix2 k j) := by
  have h1 : dot_S8192x16384_S16384x256_S8192x256_1_0_0_1_n_n = DotDims.plain 8192 16384 256 := rfl
  have h2 : dot_S8192x256_S256x16384_S8192x16384_1_0_0_1_n_n = DotDims.plain 8192 256 16384 := rfl
  unfold layer
  rw [h1, h2]
  refine (StackMember.dotGeneral_plain_apply (m := 8192) (k := 16384) (n := 256) none _ _ r j).trans ?_
  refine Finset.sum_congr rfl fun k _ => congrArg (· * V (ix2 k j)) (congrArg₂ max ?_ Ideal.ofBits_zero_f32)
  exact StackMember.dotGeneral_plain_apply (m := 8192) (k := 256) (n := 16384) none X W r k

/-- Device `c`'s block of a layer, from its block of the input and all devices' blocks of the weights. -/
theorem layer_block (X : FVec Ideal S8192x256 .f32) (W : FVec Ideal S256x16384 .f32) (V : FVec Ideal S16384x256 .f32) (c : Dev 32) (i j : Fin 256) :
    Layout.block S256x256 S8192x256 0 32 c (layer X W V) (by decide) (ix2 i j)
      = ∑ d : Dev 32, term (Layout.block S256x256 S8192x256 0 32 c X (by decide)) (Layout.block S256x512 S256x16384 1 32 d W (by decide))
          (Layout.block S512x256 S16384x256 0 32 d V (by decide)) i j := by
  have hx (q : Fin 256) : (show Layout.Tiles S256x256 S8192x256 0 32 by decide).idx c (ix2 i q)
      = ix2 (⟨c.val * 256 + i.val, by have := c.isLt; have := i.isLt; omega⟩ : Fin 8192) q := by
    funext b; apply Fin.ext
    match b with
    | ⟨0, _⟩ => rfl
    | ⟨1, _⟩ => rfl
  rw [Layout.block_apply, hx, layer_apply, ← (finProdFinEquiv (m := 32) (n := 512)).sum_comp, Fintype.sum_prod_type]
  refine Finset.sum_congr rfl fun d _ => Finset.sum_congr rfl fun k _ => ?_
  have hw (q : Fin 256) : (show Layout.Tiles S256x512 S256x16384 1 32 by decide).idx d (ix2 q k) = ix2 q (finProdFinEquiv (m := 32) (n := 512) (d, k)) := by
    funext b; apply Fin.ext
    match b with
    | ⟨0, _⟩ => rfl
    | ⟨1, _⟩ => show d.val * 512 + k.val = k.val + 512 * d.val; omega
  have hv : (show Layout.Tiles S512x256 S16384x256 0 32 by decide).idx d (ix2 k j) = ix2 (finProdFinEquiv (m := 32) (n := 512) (d, k)) j := by
    funext b; apply Fin.ext
    match b with
    | ⟨0, _⟩ => show d.val * 512 + k.val = k.val + 512 * d.val; omega
    | ⟨1, _⟩ => rfl
  simp only [Layout.block_apply]
  rw [hv]
  refine congrArg (· * _) (congrArg (max · 0) (Finset.sum_congr rfl fun q _ => ?_))
  rw [hw, hx]

/-! ## The three layers -/

/-- The kernel's results are the blocks of the three layers over whole arrays. -/
theorem res_block (A : Args Ideal) (X : FVec Ideal S8192x256 .f32) (W : ℕ → FVec Ideal S256x16384 .f32) (V : ℕ → FVec Ideal S16384x256 .f32)
    (hx : ∀ c, A.x c = Layout.block S256x256 S8192x256 0 32 c X (by decide))
    (hw : ∀ l c, A.wi l c = Layout.block S256x512 S256x16384 1 32 c (W l) (by decide))
    (hv : ∀ l c, A.wo l c = Layout.block S512x256 S16384x256 0 32 c (V l) (by decide)) (c : Dev nD) :
    res A c = Layout.block S256x256 S8192x256 0 32 c (layer (layer (layer X (W 0) (V 0)) (W 1) (V 1)) (W 2) (V 2)) (by decide) := by
  have step (l : ℕ) (Z : FVec Ideal S8192x256 .f32) (c : Dev nD) (h : xb A l c = Layout.block S256x256 S8192x256 0 32 c Z (by decide)) (i j : Fin 256) :
      ∑ d, term (xb A l c) (A.wi l d) (A.wo l d) i j = Layout.block S256x256 S8192x256 0 32 c (layer Z (W l) (V l)) (by decide) (ix2 i j) := by
    rw [layer_block, h]
    exact Finset.sum_congr rfl fun d _ => by rw [hw, hv]
  have h0 : xb A 0 c = Layout.block S256x256 S8192x256 0 32 c X (by decide) := by
    rw [← hx]
    show k0_pay2 (A.x c) = _
    unfold k0_pay2
    simp only [shapeCast_id]
    rfl
  have h1 : xb A 1 c = Layout.block S256x256 S8192x256 0 32 c (layer X (W 0) (V 0)) (by decide) := by
    funext i; rw [eq_ix2 i]; exact (xb_succ A 0 c _ _).trans (step 0 X c h0 _ _)
  have h2 : xb A 2 c = Layout.block S256x256 S8192x256 0 32 c (layer (layer X (W 0) (V 0)) (W 1) (V 1)) (by decide) := by
    funext i; rw [eq_ix2 i]; exact (xb_succ A 1 c _ _).trans (step 1 _ c h1 _ _)
  funext i; rw [eq_ix2 i]; exact (res_sum A c _ _).trans (step 2 _ c h2 _ _)

end Cert.TpMlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel, at the machine's own floats: the idealized kernel is the same program, and its run is over any floats. -/
theorem frame_kernel : Cert.quiescent_Kernel := by
  intro m ρ _
  rw [Cert.TpMlp.same_defs, Cert.TpMlp.same_main]
  exact (θ_run Cert.KernelIdeal.defs _ _).mono (fun _ h => ⟨fun c => (h.1 c).1.1, h.2⟩) (Cert.TpMlp.run_main (F := Bits) m ρ)

/-- The idealized kernel, over the reals. -/
theorem frame_ideal : Cert.quiescent_KernelIdeal := fun m ρ _ =>
  (θ_run Cert.KernelIdeal.defs _ _).mono (fun _ h => ⟨fun c => (h.1 c).1.1, h.2⟩) (Cert.TpMlp.run_main (F := Ideal) m ρ)

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's. -/
theorem value : Cert.algebraic_KernelIdeal_ReferenceIdeal := by
  intro m ρ m' ρ' _ hin
  have hr (c : Dev Cert.KernelIdeal.nD) := Cert.TpMlp.res_block (Cert.TpMlp.args m)
    (m' (((0 : Dev Cert.ReferenceIdeal.nD).tc : Thread Cert.ReferenceIdeal.nD Cert.ReferenceIdeal.τ).loc Cert.ReferenceIdeal.main_arg0))
    (fun l => match l with
      | 0 => m' (((0 : Dev Cert.ReferenceIdeal.nD).tc : Thread Cert.ReferenceIdeal.nD Cert.ReferenceIdeal.τ).loc Cert.ReferenceIdeal.main_arg1)
      | 1 => m' (((0 : Dev Cert.ReferenceIdeal.nD).tc : Thread Cert.ReferenceIdeal.nD Cert.ReferenceIdeal.τ).loc Cert.ReferenceIdeal.main_arg2)
      | _ => m' (((0 : Dev Cert.ReferenceIdeal.nD).tc : Thread Cert.ReferenceIdeal.nD Cert.ReferenceIdeal.τ).loc Cert.ReferenceIdeal.main_arg3))
    (fun l => match l with
      | 0 => m' (((0 : Dev Cert.ReferenceIdeal.nD).tc : Thread Cert.ReferenceIdeal.nD Cert.ReferenceIdeal.τ).loc Cert.ReferenceIdeal.main_arg4)
      | 1 => m' (((0 : Dev Cert.ReferenceIdeal.nD).tc : Thread Cert.ReferenceIdeal.nD Cert.ReferenceIdeal.τ).loc Cert.ReferenceIdeal.main_arg5)
      | _ => m' (((0 : Dev Cert.ReferenceIdeal.nD).tc : Thread Cert.ReferenceIdeal.nD Cert.ReferenceIdeal.τ).loc Cert.ReferenceIdeal.main_arg6))
    (fun c => (hin c).1)
    (fun l c => match l with
      | 0 => (hin c).2.1 | 1 => (hin c).2.2.1 | _ + 2 => (hin c).2.2.2.1)
    (fun l c => match l with
      | 0 => (hin c).2.2.2.2.1 | 1 => (hin c).2.2.2.2.2.1 | _ + 2 => (hin c).2.2.2.2.2.2) c
  refine ⟨_, (θ_run Cert.KernelIdeal.defs _ _).mono (fun _ h c => ⟨(h.1 c).1.2.trans (hr c), (h.1 c).1.1⟩) (Cert.TpMlp.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
